-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_ln [hPre_finite_ln : Cert.Pre_finite_ln.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_ln.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).1 = (fun _ => 1#1)
    ∧ (Cert.Pre_finite_ln.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_ln [hPre_finite_ln : Cert.Pre_finite_ln.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_ln.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).1 = (fun _ => 1#1)
    ∧ (Cert.Pre_finite_ln.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_conv [hPre_finite_conv : Cert.Pre_finite_conv.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_conv.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).1 = (fun _ => 1#1)
    ∧ (Cert.Pre_finite_conv.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_conv [hPre_finite_conv : Cert.Pre_finite_conv.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_conv.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).1 = (fun _ => 1#1)
    ∧ (Cert.Pre_finite_conv.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite_shift [hPre_finite_shift : Cert.Pre_finite_shift.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite_shift.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).1 = (fun _ => 1#1)
    ∧ (Cert.Pre_finite_shift.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.1 = (fun _ => 1#1)
    ∧ (Cert.Pre_finite_shift.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite_shift [hPre_finite_shift : Cert.Pre_finite_shift.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite_shift.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).1 = (fun _ => 1#1)
    ∧ (Cert.Pre_finite_shift.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.1 = (fun _ => 1#1)
    ∧ (Cert.Pre_finite_shift.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite_loss [hPre_finite_loss : Cert.Pre_finite_loss.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite_loss.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5))).1 = (fun _ => 1#1)
    ∧ (Cert.Pre_finite_loss.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5))).2.1 = (fun _ => 1#1)
    ∧ (Cert.Pre_finite_loss.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5))).2.2 = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite_loss [hPre_finite_loss : Cert.Pre_finite_loss.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite_loss.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5))).1 = (fun _ => 1#1)
    ∧ (Cert.Pre_finite_loss.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5))).2.1 = (fun _ => 1#1)
    ∧ (Cert.Pre_finite_loss.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5))).2.2 = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite_post [hPre_finite_post : Cert.Pre_finite_post.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite_post.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6)) (m ((c.tc : Thread Cert.Kernel17Ideal.nD Cert.Kernel17Ideal.τ).loc Cert.Kernel17Ideal.main_arg7))).1 = (fun _ => 1#1)
    ∧ (Cert.Pre_finite_post.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6)) (m ((c.tc : Thread Cert.Kernel17Ideal.nD Cert.Kernel17Ideal.τ).loc Cert.Kernel17Ideal.main_arg7))).2.1 = (fun _ => 1#1)
    ∧ (Cert.Pre_finite_post.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6)) (m ((c.tc : Thread Cert.Kernel17Ideal.nD Cert.Kernel17Ideal.τ).loc Cert.Kernel17Ideal.main_arg7))).2.2.1 = (fun _ => 1#1)
    ∧ (Cert.Pre_finite_post.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6)) (m ((c.tc : Thread Cert.Kernel17Ideal.nD Cert.Kernel17Ideal.τ).loc Cert.Kernel17Ideal.main_arg7))).2.2.2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite_post [hPre_finite_post : Cert.Pre_finite_post.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite_post.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6)) (m ((c.tc : Thread Cert.Reference17Ideal.nD Cert.Reference17Ideal.τ).loc Cert.Reference17Ideal.main_arg7))).1 = (fun _ => 1#1)
    ∧ (Cert.Pre_finite_post.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6)) (m ((c.tc : Thread Cert.Reference17Ideal.nD Cert.Reference17Ideal.τ).loc Cert.Reference17Ideal.main_arg7))).2.1 = (fun _ => 1#1)
    ∧ (Cert.Pre_finite_post.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6)) (m ((c.tc : Thread Cert.Reference17Ideal.nD Cert.Reference17Ideal.τ).loc Cert.Reference17Ideal.main_arg7))).2.2.1 = (fun _ => 1#1)
    ∧ (Cert.Pre_finite_post.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6)) (m ((c.tc : Thread Cert.Reference17Ideal.nD Cert.Reference17Ideal.τ).loc Cert.Reference17Ideal.main_arg7))).2.2.2 = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Kernel25Ideal_finite_postb [hPre_finite_postb : Cert.Pre_finite_postb.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_finite_postb.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6)) (m ((c.tc : Thread Cert.Kernel25Ideal.nD Cert.Kernel25Ideal.τ).loc Cert.Kernel25Ideal.main_arg7)) (m ((c.tc : Thread Cert.Kernel25Ideal.nD Cert.Kernel25Ideal.τ).loc Cert.Kernel25Ideal.main_arg8))).1 = (fun _ => 1#1)
    ∧ (Cert.Pre_finite_postb.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6)) (m ((c.tc : Thread Cert.Kernel25Ideal.nD Cert.Kernel25Ideal.τ).loc Cert.Kernel25Ideal.main_arg7)) (m ((c.tc : Thread Cert.Kernel25Ideal.nD Cert.Kernel25Ideal.τ).loc Cert.Kernel25Ideal.main_arg8))).2.1 = (fun _ => 1#1)
    ∧ (Cert.Pre_finite_postb.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6)) (m ((c.tc : Thread Cert.Kernel25Ideal.nD Cert.Kernel25Ideal.τ).loc Cert.Kernel25Ideal.main_arg7)) (m ((c.tc : Thread Cert.Kernel25Ideal.nD Cert.Kernel25Ideal.τ).loc Cert.Kernel25Ideal.main_arg8))).2.2.1 = (fun _ => 1#1)
    ∧ (Cert.Pre_finite_postb.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6)) (m ((c.tc : Thread Cert.Kernel25Ideal.nD Cert.Kernel25Ideal.τ).loc Cert.Kernel25Ideal.main_arg7)) (m ((c.tc : Thread Cert.Kernel25Ideal.nD Cert.Kernel25Ideal.τ).loc Cert.Kernel25Ideal.main_arg8))).2.2.2.1 = (fun _ => 1#1)
    ∧ (Cert.Pre_finite_postb.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6)) (m ((c.tc : Thread Cert.Kernel25Ideal.nD Cert.Kernel25Ideal.τ).loc Cert.Kernel25Ideal.main_arg7)) (m ((c.tc : Thread Cert.Kernel25Ideal.nD Cert.Kernel25Ideal.τ).loc Cert.Kernel25Ideal.main_arg8))).2.2.2.2.1 = (fun _ => 1#1)
    ∧ (Cert.Pre_finite_postb.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6)) (m ((c.tc : Thread Cert.Kernel25Ideal.nD Cert.Kernel25Ideal.τ).loc Cert.Kernel25Ideal.main_arg7)) (m ((c.tc : Thread Cert.Kernel25Ideal.nD Cert.Kernel25Ideal.τ).loc Cert.Kernel25Ideal.main_arg8))).2.2.2.2.2.1 = (fun _ => 1#1)
    ∧ (Cert.Pre_finite_postb.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6)) (m ((c.tc : Thread Cert.Kernel25Ideal.nD Cert.Kernel25Ideal.τ).loc Cert.Kernel25Ideal.main_arg7)) (m ((c.tc : Thread Cert.Kernel25Ideal.nD Cert.Kernel25Ideal.τ).loc Cert.Kernel25Ideal.main_arg8))).2.2.2.2.2.2.1 = (fun _ => 1#1)
    ∧ (Cert.Pre_finite_postb.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6)) (m ((c.tc : Thread Cert.Kernel25Ideal.nD Cert.Kernel25Ideal.τ).loc Cert.Kernel25Ideal.main_arg7)) (m ((c.tc : Thread Cert.Kernel25Ideal.nD Cert.Kernel25Ideal.τ).loc Cert.Kernel25Ideal.main_arg8))).2.2.2.2.2.2.2 = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_finite_postb [hPre_finite_postb : Cert.Pre_finite_postb.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_finite_postb.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6)) (m ((c.tc : Thread Cert.Reference25Ideal.nD Cert.Reference25Ideal.τ).loc Cert.Reference25Ideal.main_arg7)) (m ((c.tc : Thread Cert.Reference25Ideal.nD Cert.Reference25Ideal.τ).loc Cert.Reference25Ideal.main_arg8))).1 = (fun _ => 1#1)
    ∧ (Cert.Pre_finite_postb.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6)) (m ((c.tc : Thread Cert.Reference25Ideal.nD Cert.Reference25Ideal.τ).loc Cert.Reference25Ideal.main_arg7)) (m ((c.tc : Thread Cert.Reference25Ideal.nD Cert.Reference25Ideal.τ).loc Cert.Reference25Ideal.main_arg8))).2.1 = (fun _ => 1#1)
    ∧ (Cert.Pre_finite_postb.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6)) (m ((c.tc : Thread Cert.Reference25Ideal.nD Cert.Reference25Ideal.τ).loc Cert.Reference25Ideal.main_arg7)) (m ((c.tc : Thread Cert.Reference25Ideal.nD Cert.Reference25Ideal.τ).loc Cert.Reference25Ideal.main_arg8))).2.2.1 = (fun _ => 1#1)
    ∧ (Cert.Pre_finite_postb.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6)) (m ((c.tc : Thread Cert.Reference25Ideal.nD Cert.Reference25Ideal.τ).loc Cert.Reference25Ideal.main_arg7)) (m ((c.tc : Thread Cert.Reference25Ideal.nD Cert.Reference25Ideal.τ).loc Cert.Reference25Ideal.main_arg8))).2.2.2.1 = (fun _ => 1#1)
    ∧ (Cert.Pre_finite_postb.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6)) (m ((c.tc : Thread Cert.Reference25Ideal.nD Cert.Reference25Ideal.τ).loc Cert.Reference25Ideal.main_arg7)) (m ((c.tc : Thread Cert.Reference25Ideal.nD Cert.Reference25Ideal.τ).loc Cert.Reference25Ideal.main_arg8))).2.2.2.2.1 = (fun _ => 1#1)
    ∧ (Cert.Pre_finite_postb.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6)) (m ((c.tc : Thread Cert.Reference25Ideal.nD Cert.Reference25Ideal.τ).loc Cert.Reference25Ideal.main_arg7)) (m ((c.tc : Thread Cert.Reference25Ideal.nD Cert.Reference25Ideal.τ).loc Cert.Reference25Ideal.main_arg8))).2.2.2.2.2.1 = (fun _ => 1#1)
    ∧ (Cert.Pre_finite_postb.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6)) (m ((c.tc : Thread Cert.Reference25Ideal.nD Cert.Reference25Ideal.τ).loc Cert.Reference25Ideal.main_arg7)) (m ((c.tc : Thread Cert.Reference25Ideal.nD Cert.Reference25Ideal.τ).loc Cert.Reference25Ideal.main_arg8))).2.2.2.2.2.2.1 = (fun _ => 1#1)
    ∧ (Cert.Pre_finite_postb.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6)) (m ((c.tc : Thread Cert.Reference25Ideal.nD Cert.Reference25Ideal.τ).loc Cert.Reference25Ideal.main_arg7)) (m ((c.tc : Thread Cert.Reference25Ideal.nD Cert.Reference25Ideal.τ).loc Cert.Reference25Ideal.main_arg8))).2.2.2.2.2.2.2 = (fun _ => 1#1)

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_finite_ln [hKernel10Ideal : Cert.Kernel10Ideal.Facts] [hPre_finite_ln : Cert.Pre_finite_ln.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_ln m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_finite_ln [hReference10Ideal : Cert.Reference10Ideal.Facts] [hPre_finite_ln : Cert.Pre_finite_ln.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_ln m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel13Ideal_pre_finite_conv [hKernel13Ideal : Cert.Kernel13Ideal.Facts] [hPre_finite_conv : Cert.Pre_finite_conv.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_conv m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_finite_conv [hReference13Ideal : Cert.Reference13Ideal.Facts] [hPre_finite_conv : Cert.Pre_finite_conv.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_conv m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel15Ideal_pre_finite_shift [hKernel15Ideal : Cert.Kernel15Ideal.Facts] [hPre_finite_shift : Cert.Pre_finite_shift.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite_shift m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_finite_shift [hReference15Ideal : Cert.Reference15Ideal.Facts] [hPre_finite_shift : Cert.Pre_finite_shift.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite_shift m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Kernel18Ideal_pre_finite_loss [hKernel18Ideal : Cert.Kernel18Ideal.Facts] [hPre_finite_loss : Cert.Pre_finite_loss.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite_loss m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Reference18Ideal_pre_finite_loss [hReference18Ideal : Cert.Reference18Ideal.Facts] [hPre_finite_loss : Cert.Pre_finite_loss.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite_loss m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Kernel17Ideal_pre_finite_post [hKernel17Ideal : Cert.Kernel17Ideal.Facts] [hPre_finite_post : Cert.Pre_finite_post.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite_post m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def quiescent_Reference17Ideal_pre_finite_post [hReference17Ideal : Cert.Reference17Ideal.Facts] [hPre_finite_post : Cert.Pre_finite_post.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite_post m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7)
      ∧ r.2.mem ((c.tc : Thread Cert.Kernel25.nD Cert.Kernel25.τ).loc Cert.Kernel25.main_arg8) = m ((c.tc : Thread Cert.Kernel25.nD Cert.Kernel25.τ).loc Cert.Kernel25.main_arg8))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
      ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8))
      ∧ r.2.sem = fun _ => 0)

def quiescent_Kernel25Ideal_pre_finite_postb [hKernel25Ideal : Cert.Kernel25Ideal.Facts] [hPre_finite_postb : Cert.Pre_finite_postb.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal_finite_postb m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
      ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8))
      ∧ r.2.sem = fun _ => 0)

def quiescent_Reference25Ideal_pre_finite_postb [hReference25Ideal : Cert.Reference25Ideal.Facts] [hPre_finite_postb : Cert.Pre_finite_postb.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_finite_postb m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_v13) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_v10) = v1 c
          ∧ r.2.mem ((c.tc : Thread Cert.Reference8Ideal.nD Cert.Reference8Ideal.τ).loc Cert.Reference8Ideal.main_v13) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal_pre_finite_ln [hKernel10Ideal : Cert.Kernel10Ideal.Facts] [hReference10Ideal : Cert.Reference10Ideal.Facts] [hPre_finite_ln : Cert.Pre_finite_ln.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_ln m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)) (v3 : (c : Dev Cert.Kernel10Ideal.nD) → Buf (Elt Ideal) ((c.tc : Thread Cert.Kernel10Ideal.nD Cert.Kernel10Ideal.τ).loc Cert.Kernel10Ideal.main_v1_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_v1_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v62) = v0 c
          ∧ r.2.mem ((c.tc : Thread Cert.Reference10Ideal.nD Cert.Reference10Ideal.τ).loc Cert.Reference10Ideal.main_v63) = v1 c
          ∧ r.2.mem ((c.tc : Thread Cert.Reference10Ideal.nD Cert.Reference10Ideal.τ).loc Cert.Reference10Ideal.main_v64) = v2 c
          ∧ r.2.mem ((c.tc : Thread Cert.Reference10Ideal.nD Cert.Reference10Ideal.τ).loc Cert.Reference10Ideal.main_v65) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v350) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v441) = v0 c
          ∧ r.2.mem ((c.tc : Thread Cert.Reference11Ideal.nD Cert.Reference11Ideal.τ).loc Cert.Reference11Ideal.main_v442) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel13_Kernel13Ideal : Prop :=
  True

def algebraic_Kernel13Ideal_Reference13Ideal_pre_finite_conv [hKernel13Ideal : Cert.Kernel13Ideal.Facts] [hReference13Ideal : Cert.Reference13Ideal.Facts] [hPre_finite_conv : Cert.Pre_finite_conv.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_conv m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)) (v2 : (c : Dev Cert.Kernel13Ideal.nD) → Buf (Elt Ideal) ((c.tc : Thread Cert.Kernel13Ideal.nD Cert.Kernel13Ideal.τ).loc Cert.Kernel13Ideal.main_v2_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_v2_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v64) = v0 c
          ∧ r.2.mem ((c.tc : Thread Cert.Reference13Ideal.nD Cert.Reference13Ideal.τ).loc Cert.Reference13Ideal.main_v65) = v1 c
          ∧ r.2.mem ((c.tc : Thread Cert.Reference13Ideal.nD Cert.Reference13Ideal.τ).loc Cert.Reference13Ideal.main_v66) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v19) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal_pre_finite_shift [hKernel15Ideal : Cert.Kernel15Ideal.Facts] [hReference15Ideal : Cert.Reference15Ideal.Facts] [hPre_finite_shift : Cert.Pre_finite_shift.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite_shift m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v2_0)) (v1 : (c : Dev Cert.Kernel15Ideal.nD) → Buf (Elt Ideal) ((c.tc : Thread Cert.Kernel15Ideal.nD Cert.Kernel15Ideal.τ).loc Cert.Kernel15Ideal.main_v2_1)) (v2 : (c : Dev Cert.Kernel15Ideal.nD) → Buf (Elt Ideal) ((c.tc : Thread Cert.Kernel15Ideal.nD Cert.Kernel15Ideal.τ).loc Cert.Kernel15Ideal.main_v2_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2_0) = v0 c
          ∧ r.2.mem ((c.tc : Thread Cert.Kernel15Ideal.nD Cert.Kernel15Ideal.τ).loc Cert.Kernel15Ideal.main_v2_1) = v1 c
          ∧ r.2.mem ((c.tc : Thread Cert.Kernel15Ideal.nD Cert.Kernel15Ideal.τ).loc Cert.Kernel15Ideal.main_v2_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v45) = v0 c
          ∧ r.2.mem ((c.tc : Thread Cert.Reference15Ideal.nD Cert.Reference15Ideal.τ).loc Cert.Reference15Ideal.main_v46) = v1 c
          ∧ r.2.mem ((c.tc : Thread Cert.Reference15Ideal.nD Cert.Reference15Ideal.τ).loc Cert.Reference15Ideal.main_v47) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel18_Kernel18Ideal : Prop :=
  True

def algebraic_Kernel18Ideal_Reference18Ideal_pre_finite_loss [hKernel18Ideal : Cert.Kernel18Ideal.Facts] [hReference18Ideal : Cert.Reference18Ideal.Facts] [hPre_finite_loss : Cert.Pre_finite_loss.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite_loss m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v6_0)) (v1 : (c : Dev Cert.Kernel18Ideal.nD) → Buf (Elt Ideal) ((c.tc : Thread Cert.Kernel18Ideal.nD Cert.Kernel18Ideal.τ).loc Cert.Kernel18Ideal.main_v6_1)) (v2 : (c : Dev Cert.Kernel18Ideal.nD) → Buf (Elt Ideal) ((c.tc : Thread Cert.Kernel18Ideal.nD Cert.Kernel18Ideal.τ).loc Cert.Kernel18Ideal.main_v6_2)) (v3 : (c : Dev Cert.Kernel18Ideal.nD) → Buf (Elt Ideal) ((c.tc : Thread Cert.Kernel18Ideal.nD Cert.Kernel18Ideal.τ).loc Cert.Kernel18Ideal.main_v6_3)) (v4 : (c : Dev Cert.Kernel18Ideal.nD) → Buf (Elt Ideal) ((c.tc : Thread Cert.Kernel18Ideal.nD Cert.Kernel18Ideal.τ).loc Cert.Kernel18Ideal.main_v6_4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v6_0) = v0 c
          ∧ r.2.mem ((c.tc : Thread Cert.Kernel18Ideal.nD Cert.Kernel18Ideal.τ).loc Cert.Kernel18Ideal.main_v6_1) = v1 c
          ∧ r.2.mem ((c.tc : Thread Cert.Kernel18Ideal.nD Cert.Kernel18Ideal.τ).loc Cert.Kernel18Ideal.main_v6_2) = v2 c
          ∧ r.2.mem ((c.tc : Thread Cert.Kernel18Ideal.nD Cert.Kernel18Ideal.τ).loc Cert.Kernel18Ideal.main_v6_3) = v3 c
          ∧ r.2.mem ((c.tc : Thread Cert.Kernel18Ideal.nD Cert.Kernel18Ideal.τ).loc Cert.Kernel18Ideal.main_v6_4) = v4 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v82) = v0 c
          ∧ r.2.mem ((c.tc : Thread Cert.Reference18Ideal.nD Cert.Reference18Ideal.τ).loc Cert.Reference18Ideal.main_v83) = v1 c
          ∧ r.2.mem ((c.tc : Thread Cert.Reference18Ideal.nD Cert.Reference18Ideal.τ).loc Cert.Reference18Ideal.main_v84) = v2 c
          ∧ r.2.mem ((c.tc : Thread Cert.Reference18Ideal.nD Cert.Reference18Ideal.τ).loc Cert.Reference18Ideal.main_v85) = v3 c
          ∧ r.2.mem ((c.tc : Thread Cert.Reference18Ideal.nD Cert.Reference18Ideal.τ).loc Cert.Reference18Ideal.main_v86) = v4 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v6_0)) (v1 : (c : Dev Cert.Kernel19Ideal.nD) → Buf (Elt Ideal) ((c.tc : Thread Cert.Kernel19Ideal.nD Cert.Kernel19Ideal.τ).loc Cert.Kernel19Ideal.main_v6_1)) (v2 : (c : Dev Cert.Kernel19Ideal.nD) → Buf (Elt Ideal) ((c.tc : Thread Cert.Kernel19Ideal.nD Cert.Kernel19Ideal.τ).loc Cert.Kernel19Ideal.main_v6_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v6_0) = v0 c
          ∧ r.2.mem ((c.tc : Thread Cert.Kernel19Ideal.nD Cert.Kernel19Ideal.τ).loc Cert.Kernel19Ideal.main_v6_1) = v1 c
          ∧ r.2.mem ((c.tc : Thread Cert.Kernel19Ideal.nD Cert.Kernel19Ideal.τ).loc Cert.Kernel19Ideal.main_v6_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v29) = v0 c
          ∧ r.2.mem ((c.tc : Thread Cert.Reference19Ideal.nD Cert.Reference19Ideal.τ).loc Cert.Reference19Ideal.main_v30) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v6_0)) (v1 : (c : Dev Cert.Kernel20Ideal.nD) → Buf (Elt Ideal) ((c.tc : Thread Cert.Kernel20Ideal.nD Cert.Kernel20Ideal.τ).loc Cert.Kernel20Ideal.main_v6_1)) (v2 : (c : Dev Cert.Kernel20Ideal.nD) → Buf (Elt Ideal) ((c.tc : Thread Cert.Kernel20Ideal.nD Cert.Kernel20Ideal.τ).loc Cert.Kernel20Ideal.main_v6_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v6_0) = v0 c
          ∧ r.2.mem ((c.tc : Thread Cert.Kernel20Ideal.nD Cert.Kernel20Ideal.τ).loc Cert.Kernel20Ideal.main_v6_1) = v1 c
          ∧ r.2.mem ((c.tc : Thread Cert.Kernel20Ideal.nD Cert.Kernel20Ideal.τ).loc Cert.Kernel20Ideal.main_v6_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v28) = v0 c
          ∧ r.2.mem ((c.tc : Thread Cert.Reference20Ideal.nD Cert.Reference20Ideal.τ).loc Cert.Reference20Ideal.main_v29) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v221) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v9) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v25) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v16) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel17_Kernel17Ideal : Prop :=
  True

def algebraic_Kernel17Ideal_Reference17Ideal_pre_finite_post [hKernel17Ideal : Cert.Kernel17Ideal.Facts] [hReference17Ideal : Cert.Reference17Ideal.Facts] [hPre_finite_post : Cert.Pre_finite_post.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite_post m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)) →
    ∃ (v0 : (c : Dev Cert.Kernel17Ideal.nD) → Buf (Elt Ideal) ((c.tc : Thread Cert.Kernel17Ideal.nD Cert.Kernel17Ideal.τ).loc Cert.Kernel17Ideal.main_v14)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v14) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v50) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7))

def preserves_Kernel25_Kernel25Ideal : Prop :=
  True

def algebraic_Kernel25Ideal_Reference25Ideal_pre_finite_postb [hKernel25Ideal : Cert.Kernel25Ideal.Facts] [hReference25Ideal : Cert.Reference25Ideal.Facts] [hPre_finite_postb : Cert.Pre_finite_postb.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal_finite_postb m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)
      ∧ m' ((c.tc : Thread Cert.Reference25Ideal.nD Cert.Reference25Ideal.τ).loc Cert.Reference25Ideal.main_arg8) = m ((c.tc : Thread Cert.Kernel25Ideal.nD Cert.Kernel25Ideal.τ).loc Cert.Kernel25Ideal.main_arg8)) →
    ∃ (v0 : (c : Dev Cert.Kernel25Ideal.nD) → Buf (Elt Ideal) ((c.tc : Thread Cert.Kernel25Ideal.nD Cert.Kernel25Ideal.τ).loc Cert.Kernel25Ideal.main_v14_0)) (v1 : (c : Dev Cert.Kernel25Ideal.nD) → Buf (Elt Ideal) ((c.tc : Thread Cert.Kernel25Ideal.nD Cert.Kernel25Ideal.τ).loc Cert.Kernel25Ideal.main_v14_1)) (v2 : (c : Dev Cert.Kernel25Ideal.nD) → Buf (Elt Ideal) ((c.tc : Thread Cert.Kernel25Ideal.nD Cert.Kernel25Ideal.τ).loc Cert.Kernel25Ideal.main_v14_2)) (v3 : (c : Dev Cert.Kernel25Ideal.nD) → Buf (Elt Ideal) ((c.tc : Thread Cert.Kernel25Ideal.nD Cert.Kernel25Ideal.τ).loc Cert.Kernel25Ideal.main_v14_3)) (v4 : (c : Dev Cert.Kernel25Ideal.nD) → Buf (Elt Ideal) ((c.tc : Thread Cert.Kernel25Ideal.nD Cert.Kernel25Ideal.τ).loc Cert.Kernel25Ideal.main_v14_4)) (v5 : (c : Dev Cert.Kernel25Ideal.nD) → Buf (Elt Ideal) ((c.tc : Thread Cert.Kernel25Ideal.nD Cert.Kernel25Ideal.τ).loc Cert.Kernel25Ideal.main_v14_5)) (v6 : (c : Dev Cert.Kernel25Ideal.nD) → Buf (Elt Ideal) ((c.tc : Thread Cert.Kernel25Ideal.nD Cert.Kernel25Ideal.τ).loc Cert.Kernel25Ideal.main_v14_6)) (v7 : (c : Dev Cert.Kernel25Ideal.nD) → Buf (Elt Ideal) ((c.tc : Thread Cert.Kernel25Ideal.nD Cert.Kernel25Ideal.τ).loc Cert.Kernel25Ideal.main_v14_7)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v14_0) = v0 c
          ∧ r.2.mem ((c.tc : Thread Cert.Kernel25Ideal.nD Cert.Kernel25Ideal.τ).loc Cert.Kernel25Ideal.main_v14_1) = v1 c
          ∧ r.2.mem ((c.tc : Thread Cert.Kernel25Ideal.nD Cert.Kernel25Ideal.τ).loc Cert.Kernel25Ideal.main_v14_2) = v2 c
          ∧ r.2.mem ((c.tc : Thread Cert.Kernel25Ideal.nD Cert.Kernel25Ideal.τ).loc Cert.Kernel25Ideal.main_v14_3) = v3 c
          ∧ r.2.mem ((c.tc : Thread Cert.Kernel25Ideal.nD Cert.Kernel25Ideal.τ).loc Cert.Kernel25Ideal.main_v14_4) = v4 c
          ∧ r.2.mem ((c.tc : Thread Cert.Kernel25Ideal.nD Cert.Kernel25Ideal.τ).loc Cert.Kernel25Ideal.main_v14_5) = v5 c
          ∧ r.2.mem ((c.tc : Thread Cert.Kernel25Ideal.nD Cert.Kernel25Ideal.τ).loc Cert.Kernel25Ideal.main_v14_6) = v6 c
          ∧ r.2.mem ((c.tc : Thread Cert.Kernel25Ideal.nD Cert.Kernel25Ideal.τ).loc Cert.Kernel25Ideal.main_v14_7) = v7 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
          ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v115) = v0 c
          ∧ r.2.mem ((c.tc : Thread Cert.Reference25Ideal.nD Cert.Reference25Ideal.τ).loc Cert.Reference25Ideal.main_v125) = v1 c
          ∧ r.2.mem ((c.tc : Thread Cert.Reference25Ideal.nD Cert.Reference25Ideal.τ).loc Cert.Reference25Ideal.main_v124) = v2 c
          ∧ r.2.mem ((c.tc : Thread Cert.Reference25Ideal.nD Cert.Reference25Ideal.τ).loc Cert.Reference25Ideal.main_v123) = v3 c
          ∧ r.2.mem ((c.tc : Thread Cert.Reference25Ideal.nD Cert.Reference25Ideal.τ).loc Cert.Reference25Ideal.main_v56) = v4 c
          ∧ r.2.mem ((c.tc : Thread Cert.Reference25Ideal.nD Cert.Reference25Ideal.τ).loc Cert.Reference25Ideal.main_v126) = v5 c
          ∧ r.2.mem ((c.tc : Thread Cert.Reference25Ideal.nD Cert.Reference25Ideal.τ).loc Cert.Reference25Ideal.main_v127) = v6 c
          ∧ r.2.mem ((c.tc : Thread Cert.Reference25Ideal.nD Cert.Reference25Ideal.τ).loc Cert.Reference25Ideal.main_v128) = v7 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7)
          ∧ r.2.mem ((c.tc : Thread Cert.Reference25Ideal.nD Cert.Reference25Ideal.τ).loc Cert.Reference25Ideal.main_arg8) = m' ((c.tc : Thread Cert.Reference25Ideal.nD Cert.Reference25Ideal.τ).loc Cert.Reference25Ideal.main_arg8))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v6) = v2 c
          ∧ r.2.mem ((c.tc : Thread Cert.Reference26Ideal.nD Cert.Reference26Ideal.τ).loc Cert.Reference26Ideal.main_v12) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v6) = v2 c
          ∧ r.2.mem ((c.tc : Thread Cert.Reference27Ideal.nD Cert.Reference27Ideal.τ).loc Cert.Reference27Ideal.main_v12) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v6) = v2 c
          ∧ r.2.mem ((c.tc : Thread Cert.Reference28Ideal.nD Cert.Reference28Ideal.τ).loc Cert.Reference28Ideal.main_v12) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v6) = v2 c
          ∧ r.2.mem ((c.tc : Thread Cert.Reference29Ideal.nD Cert.Reference29Ideal.τ).loc Cert.Reference29Ideal.main_v12) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel12 : Cert.Kernel12.Facts) (hKernel12Ideal : Cert.Kernel12Ideal.Facts) (hReference12Ideal : Cert.Reference12Ideal.Facts) (hKernel11 : Cert.Kernel11.Facts) (hKernel11Ideal : Cert.Kernel11Ideal.Facts) (hReference11Ideal : Cert.Reference11Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel17 : Cert.Kernel17.Facts) (hKernel17Ideal : Cert.Kernel17Ideal.Facts) (hReference17Ideal : Cert.Reference17Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite : Cert.Pre_finite.Facts) (hPre_finite_ln : Cert.Pre_finite_ln.Facts) (hPre_finite_conv : Cert.Pre_finite_conv.Facts) (hPre_finite_shift : Cert.Pre_finite_shift.Facts) (hPre_finite_loss : Cert.Pre_finite_loss.Facts) (hPre_finite_post : Cert.Pre_finite_post.Facts) (hPre_finite_postb : Cert.Pre_finite_postb.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_ln (hKernel10Ideal := hKernel10Ideal) (hPre_finite_ln := hPre_finite_ln)
    ∧ quiescent_Reference10Ideal (hReference10Ideal := hReference10Ideal)
    ∧ quiescent_Reference10Ideal_pre_finite_ln (hReference10Ideal := hReference10Ideal) (hPre_finite_ln := hPre_finite_ln)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel13 (hKernel13 := hKernel13)
    ∧ quiescent_Kernel13Ideal (hKernel13Ideal := hKernel13Ideal)
    ∧ quiescent_Kernel13Ideal_pre_finite_conv (hKernel13Ideal := hKernel13Ideal) (hPre_finite_conv := hPre_finite_conv)
    ∧ quiescent_Reference13Ideal (hReference13Ideal := hReference13Ideal)
    ∧ quiescent_Reference13Ideal_pre_finite_conv (hReference13Ideal := hReference13Ideal) (hPre_finite_conv := hPre_finite_conv)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite_shift (hKernel15Ideal := hKernel15Ideal) (hPre_finite_shift := hPre_finite_shift)
    ∧ quiescent_Reference15Ideal (hReference15Ideal := hReference15Ideal)
    ∧ quiescent_Reference15Ideal_pre_finite_shift (hReference15Ideal := hReference15Ideal) (hPre_finite_shift := hPre_finite_shift)
    ∧ quiescent_Kernel18 (hKernel18 := hKernel18)
    ∧ quiescent_Kernel18Ideal (hKernel18Ideal := hKernel18Ideal)
    ∧ quiescent_Kernel18Ideal_pre_finite_loss (hKernel18Ideal := hKernel18Ideal) (hPre_finite_loss := hPre_finite_loss)
    ∧ quiescent_Reference18Ideal (hReference18Ideal := hReference18Ideal)
    ∧ quiescent_Reference18Ideal_pre_finite_loss (hReference18Ideal := hReference18Ideal) (hPre_finite_loss := hPre_finite_loss)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel17 (hKernel17 := hKernel17)
    ∧ quiescent_Kernel17Ideal (hKernel17Ideal := hKernel17Ideal)
    ∧ quiescent_Kernel17Ideal_pre_finite_post (hKernel17Ideal := hKernel17Ideal) (hPre_finite_post := hPre_finite_post)
    ∧ quiescent_Reference17Ideal (hReference17Ideal := hReference17Ideal)
    ∧ quiescent_Reference17Ideal_pre_finite_post (hReference17Ideal := hReference17Ideal) (hPre_finite_post := hPre_finite_post)
    ∧ quiescent_Kernel25 (hKernel25 := hKernel25)
    ∧ quiescent_Kernel25Ideal (hKernel25Ideal := hKernel25Ideal)
    ∧ quiescent_Kernel25Ideal_pre_finite_postb (hKernel25Ideal := hKernel25Ideal) (hPre_finite_postb := hPre_finite_postb)
    ∧ quiescent_Reference25Ideal (hReference25Ideal := hReference25Ideal)
    ∧ quiescent_Reference25Ideal_pre_finite_postb (hReference25Ideal := hReference25Ideal) (hPre_finite_postb := hPre_finite_postb)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_ln (hKernel10Ideal := hKernel10Ideal) (hReference10Ideal := hReference10Ideal) (hPre_finite_ln := hPre_finite_ln)
    ∧ preserves_Kernel12_Kernel12Ideal
    ∧ algebraic_Kernel12Ideal_Reference12Ideal (hKernel12Ideal := hKernel12Ideal) (hReference12Ideal := hReference12Ideal)
    ∧ preserves_Kernel11_Kernel11Ideal
    ∧ algebraic_Kernel11Ideal_Reference11Ideal (hKernel11Ideal := hKernel11Ideal) (hReference11Ideal := hReference11Ideal)
    ∧ preserves_Kernel13_Kernel13Ideal
    ∧ algebraic_Kernel13Ideal_Reference13Ideal_pre_finite_conv (hKernel13Ideal := hKernel13Ideal) (hReference13Ideal := hReference13Ideal) (hPre_finite_conv := hPre_finite_conv)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite_shift (hKernel15Ideal := hKernel15Ideal) (hReference15Ideal := hReference15Ideal) (hPre_finite_shift := hPre_finite_shift)
    ∧ preserves_Kernel18_Kernel18Ideal
    ∧ algebraic_Kernel18Ideal_Reference18Ideal_pre_finite_loss (hKernel18Ideal := hKernel18Ideal) (hReference18Ideal := hReference18Ideal) (hPre_finite_loss := hPre_finite_loss)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel17_Kernel17Ideal
    ∧ algebraic_Kernel17Ideal_Reference17Ideal_pre_finite_post (hKernel17Ideal := hKernel17Ideal) (hReference17Ideal := hReference17Ideal) (hPre_finite_post := hPre_finite_post)
    ∧ preserves_Kernel25_Kernel25Ideal
    ∧ algebraic_Kernel25Ideal_Reference25Ideal_pre_finite_postb (hKernel25Ideal := hKernel25Ideal) (hReference25Ideal := hReference25Ideal) (hPre_finite_postb := hPre_finite_postb)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_finite.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x2816 .f32) (main_arg1 : FVec F S8192x2816 .f32) (main_arg2 : FVec F S2816x1024 .f32) (main_arg3 : FVec F S8192x1024 .f32) : IVec S8192x2816 1 × IVec S2816x1024 1 × IVec S8192x1024 1 :=
  let main_v0 : FVec F S8192x2816 .f32 := Host.absf main_arg1
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : FVec F S2816x1024 .f32 := Host.absf main_arg2
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_finite_conv.lean ====
abbrev S8192x512 : Shape := ⟨2, ![8192, 512]⟩
abbrev S512 : Shape := ⟨1, ![512]⟩
abbrev S8192x1024 : Shape := ⟨2, ![8192, 1024]⟩
abbrev S_ : Shape := ⟨0, ![]⟩

class Facts : Prop where
  bcast_S_S512 : S_.BroadcastsInDim S512 (![] : Fin 0 → Fin S512.rank)
  slices_S8192x1024_S8192x512_0_512 : S8192x1024.Slices ![0, 512] S8192x512
  bcast_S_S8192x512 : S_.BroadcastsInDim S8192x512 (![] : Fin 0 → Fin S8192x512.rank)

variable [Facts]

def fn {F : FTy → Type} [FloatOps F] (main_arg0 : FVec F S8192x512 .f32) (main_arg1 : FVec F S512 .f32) (main_arg2 : FVec F S512 .f32) (main_arg3 : FVec F S8192x1024 .f32) : IVec S512 1 × IVec S8192x512 1 :=
  let main_v0 : FVec F S512 .f32 := Host.absf main_arg1
  let main_cst : FVec F S_ .f32 := constant S_ .f32 0x7F800000#32
  let main_v1 : FVec F S512 .f32 := broadcastInDim S512 ![] bcast_S_S512 main_cst
  let main_v2 : IVec S512 1 := cmpf .olt main_v0 main_v1
  let main_v3 : FVec F S8192x512 .f32 := (extractStridedSlice S8192x512 ![0, 512] · slices_S8192x1024_S8192x512_0_512) main_arg3
  let main_v4 : FVec F S8192x512 .f32 := Host.absf main_v3
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  (main_v2, main_v6)
-- ==== Pre_finite_ln.lean ====
abbrev S8192x1024 : Shape := ⟨2, ![8192, 1024]⟩
abbrev S1024 : Shape := ⟨1, ![1024]⟩
abbrev S_ : Shape := ⟨0, ![]⟩

class Facts : Prop where
  bcast_S_S1024 : S_.BroadcastsInDim S1024 (![] : Fin 0 → Fin S1024.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S1024 .f32) (main_arg2 : FVec F S1024 .f32) (main_arg3 : FVec F S8192x1024 .f32) : IVec S1024 1 × IVec S8192x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S8192x1024 .f32 := Host.absf main_arg3
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  (main_v2, main_v5)
-- ==== Pre_finite_loss.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S_ : Shape := ⟨0, ![]⟩

class Facts : Prop where
  bcast_S_S1024 : S_.BroadcastsInDim S1024 (![] : Fin 0 → Fin S1024.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x2816 .f32) (main_arg2 : FVec F S2816x1024 .f32) (main_arg3 : FVec F S1024 .f32) (main_arg4 : FVec F S1024 .f32) (main_arg5 : FVec F S8192x1024 .f32) : IVec S1024 1 × IVec S1024 1 × IVec S8192x1024 1 :=
  let main_v0 : FVec F S1024 .f32 := Host.absf main_arg3
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024 .f32 := Host.absf main_arg4
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8192x1024 .f32 := Host.absf main_arg5
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_finite_post.lean ====
abbrev S8192x1024 : Shape := ⟨2, ![8192, 1024]⟩
abbrev S8192x512 : Shape := ⟨2, ![8192, 512]⟩
abbrev S512 : Shape := ⟨1, ![512]⟩
abbrev S8x64 : Shape := ⟨2, ![8, 64]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S8x64 : S_.BroadcastsInDim S8x64 (![] : Fin 0 → Fin S8x64.rank)

variable [Facts]

def fn {F : FTy → Type} [FloatOps F] (main_arg0 : FVec F S8192x1024 .f32) (main_arg1 : FVec F S8192x512 .f32) (main_arg2 : FVec F S8192x512 .f32) (main_arg3 : FVec F S8192x1024 .f32) (main_arg4 : FVec F S8192x512 .f32) (main_arg5 : FVec F S512 .f32) (main_arg6 : FVec F S512 .f32) (main_arg7 : FVec F S8x64 .f32) : IVec S8192x1024 1 × IVec S8192x512 1 × IVec S8192x1024 1 × IVec S8x64 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8x64 .f32 := Host.absf main_arg7
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  (main_v2, main_v5, main_v8, main_v11)
-- ==== Pre_finite_postb.lean ====
abbrev S8192x1024 : Shape := ⟨2, ![8192, 1024]⟩
abbrev S8192x512 : Shape := ⟨2, ![8192, 512]⟩
abbrev S512 : Shape := ⟨1, ![512]⟩
abbrev S8x64 : Shape := ⟨2, ![8, 64]⟩
abbrev S_ : Shape := ⟨0, ![]⟩

class Facts : Prop where
  slices_S8192x1024_S8192x512_0_0 : S8192x1024.Slices ![0, 0] S8192x512
  bcast_S_S8192x1024 : S_.BroadcastsInDim S8192x1024 (![] : Fin 0 → Fin S8192x1024.rank)
  bcast_S_S8192x512 : S_.BroadcastsInDim S8192x512 (![] : Fin 0 → Fin S8192x512.rank)
  bcast_S_S512 : S_.BroadcastsInDim S512 (![] : Fin 0 → Fin S512.rank)
  bcast_S_S8x64 : S_.BroadcastsInDim S8x64 (![] : Fin 0 → Fin S8x64.rank)

variable [Facts]

def fn_part1 {F : FTy → Type} [FloatOps F] (main_arg6 : FVec F S512 .f32) (main_arg8 : FVec F S8x64 .f32) (main_v3 : IVec S8192x1024 1) (main_v6 : IVec S8192x512 1) (main_v9 : IVec S8192x512 1) (main_v12 : IVec S8192x1024 1) (main_v15 : IVec S8192x512 1) (main_v16 : FVec F S8192x512 .f32) (main_v17 : FVec F S8192x512 .f32) : IVec S8192x1024 1 × IVec S8192x512 1 × IVec S8192x512 1 × IVec S8192x1024 1 × IVec S8192x512 1 × IVec S8192x512 1 × IVec S512 1 × IVec S8x64 1 :=
  let main_v18 : IVec S8192x512 1 := cmpf .olt main_v16 main_v17
  let main_v19 : FVec F S512 .f32 := Host.absf main_arg6
  let main_cst_5 : FVec F S_ .f32 := constant S_ .f32 0x7F800000#32
  let main_v20 : FVec F S512 .f32 := broadcastInDim S512 ![] bcast_S_S512 main_cst_5
  let main_v21 : IVec S512 1 := cmpf .olt main_v19 main_v20
  let main_v22 : FVec F S8x64 .f32 := Host.absf main_arg8
  let main_cst_6 : FVec F S_ .f32 := constant S_ .f32 0x7F800000#32
  let main_v23 : FVec F S8x64 .f32 := broadcastInDim S8x64 ![] bcast_S_S8x64 main_cst_6
  let main_v24 : IVec S8x64 1 := cmpf .olt main_v22 main_v23
  (main_v3, main_v6, main_v9, main_v12, main_v15, main_v18, main_v21, main_v24)

def fn {F : FTy → Type} [FloatOps F] (main_arg0 : FVec F S8192x1024 .f32) (main_arg1 : FVec F S8192x512 .f32) (main_arg2 : FVec F S8192x512 .f32) (main_arg3 : FVec F S8192x1024 .f32) (main_arg4 : FVec F S8192x512 .f32) (main_arg5 : FVec F S8192x1024 .f32) (main_arg6 : FVec F S512 .f32) (main_arg7 : FVec F S512 .f32) (main_arg8 : FVec F S8x64 .f32) : IVec S8192x1024 1 × IVec S8192x512 1 × IVec S8192x512 1 × IVec S8192x1024 1 × IVec S8192x512 1 × IVec S8192x512 1 × IVec S512 1 × IVec S8x64 1 :=
  let main_v0 : FVec F S8192x512 .f32 := (extractStridedSlice S8192x512 ![0, 0] · slices_S8192x1024_S8192x512_0_0) main_arg5
  let main_v1 : FVec F S8192x1024 .f32 := Host.absf main_arg0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_v7 : FVec F S8192x512 .f32 := Host.absf main_arg2
  let main_cst_1 : FVec F S_ .f32 := constant S_ .f32 0x7F800000#32
  let main_v8 : FVec F S8192x512 .f32 := broadcastInDim S8192x512 ![] bcast_S_S8192x512 main_cst_1
  let main_v9 : IVec S8192x512 1 := cmpf .olt main_v7 main_v8
  let main_v10 : FVec F S8192x1024 .f32 := Host.absf main_arg3
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_v13 : FVec F S8192x512 .f32 := Host.absf main_arg4
  let main_cst_3 : FVec F S_ .f32 := constant S_ .f32 0x7F800000#32
  let main_v14 : FVec F S8192x512 .f32 := broadcastInDim S8192x512 ![] bcast_S_S8192x512 main_cst_3
  let main_v15 : IVec S8192x512 1 := cmpf .olt main_v13 main_v14
  let main_v16 : FVec F S8192x512 .f32 := Host.absf main_v0
  let main_cst_4 : FVec F S_ .f32 := constant S_ .f32 0x7F800000#32
  let main_v17 : FVec F S8192x512 .f32 := broadcastInDim S8192x512 ![] bcast_S_S8192x512 main_cst_4
  fn_part1 (F := F) main_arg6 main_arg8 main_v3 main_v6 main_v9 main_v12 main_v15 main_v16 main_v17
-- ==== Pre_finite_shift.lean ====
abbrev S4x2048x3072 : Shape := ⟨3, ![4, 2048, 3072]⟩
abbrev S2048 : Shape := ⟨1, ![2048]⟩
abbrev S4x2048x2048 : Shape := ⟨3, ![4, 2048, 2048]⟩
abbrev S_ : Shape := ⟨0, ![]⟩

class Facts : Prop where
  bcast_S_S2048 : S_.BroadcastsInDim S2048 (![] : Fin 0 → Fin S2048.rank)
  bcast_S_S4x2048x2048 : S_.BroadcastsInDim S4x2048x2048 (![] : Fin 0 → Fin S4x2048x2048.rank)

variable [Facts]

def fn {F : FTy → Type} [FloatOps F] (main_arg0 : FVec F S4x2048x3072 .f32) (main_arg1 : FVec F S2048 .f32) (main_arg2 : FVec F S2048 .f32) (main_arg3 : FVec F S4x2048x2048 .f32) : IVec S2048 1 × IVec S2048 1 × IVec S4x2048x2048 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_v3 : FVec F S2048 .f32 := Host.absf main_arg2
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S4x2048x2048 .f32 := Host.absf main_arg3
  let main_cst_1 : FVec F S_ .f32 := constant S_ .f32 0x7F800000#32
  let main_v7 : FVec F S4x2048x2048 .f32 := broadcastInDim S4x2048x2048 ![] bcast_S_S4x2048x2048 main_cst_1
  let main_v8 : IVec S4x2048x2048 1 := cmpf .olt main_v6 main_v7
  (main_v2, main_v5, main_v8)
-- ==== Kernel.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S8192x4x704 : Shape := ⟨3, ![8192, 4, 704]⟩
abbrev S4x8192x704 : Shape := ⟨3, ![4, 8192, 704]⟩
abbrev S1024x1024 : Shape := ⟨2, ![1024, 1024]⟩
abbrev S704x1024 : Shape := ⟨2, ![704, 1024]⟩
abbrev S1x1024x704 : Shape := ⟨3, ![1, 1024, 704]⟩
abbrev S1024x704 : Shape := ⟨2, ![1024, 704]⟩

abbrev nBuf : Space → Nat
  | .hbm => 28
  | .vmem => 17
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x1024, .bf16⟩
  | .hbm, ⟨15, _⟩ => ⟨S2816x1024, .bf16⟩
  | .hbm, ⟨16, _⟩ => ⟨S8192x4x704, .f32⟩
  | .hbm, ⟨17, _⟩ => ⟨S4x8192x704, .f32⟩
  | .hbm, ⟨18, _⟩ => ⟨S4x8192x704, .bf16⟩
  | .hbm, ⟨19, _⟩ => ⟨S8192x4x704, .f32⟩
  | .hbm, ⟨20, _⟩ => ⟨S4x8192x704, .f32⟩
  | .hbm, ⟨21, _⟩ => ⟨S4x8192x704, .bf16⟩
  | .hbm, ⟨22, _⟩ => ⟨S8192x4x704, .f32⟩
  | .hbm, ⟨23, _⟩ => ⟨S4x8192x704, .f32⟩
  | .hbm, ⟨24, _⟩ => ⟨S4x8192x704, .bf16⟩
  | .hbm, ⟨25, _⟩ => ⟨S4x8192x704, .bf16⟩
  | .hbm, ⟨26, _⟩ => ⟨S4x8192x704, .bf16⟩
  | .hbm, ⟨27, _⟩ => ⟨S2816x1024, .bf16⟩
  | .local _ .vmem, ⟨0, _⟩ => ⟨S1024x1024, .bf16⟩
  | .local _ .vmem, ⟨1, _⟩ => ⟨S1024x1024, .bf16⟩
  | .local _ .vmem, ⟨2, _⟩ => ⟨S704x1024, .bf16⟩
  | .local _ .vmem, ⟨3, _⟩ => ⟨S704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S704x1024, .bf16⟩
  | .local _ .vmem, ⟨15, _⟩ => ⟨S704x1024, .bf16⟩
  | .local _ .vmem, ⟨16, _⟩ => ⟨S704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_30 : BitVec 32 := 0#32
  let v51 : BitVec 1 := Scalar.cmpi .ne v50 c0_i32_30
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S1024x2816 : Shape := ⟨2, ![1024, 2816]⟩
abbrev S8192x4x704 : Shape := ⟨3, ![8192, 4, 704]⟩
abbrev S4x8192x704 : Shape := ⟨3, ![4, 8192, 704]⟩

abbrev nBuf : Space → Nat
  | .hbm => 41
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S1024x2816, .f32⟩
  | .hbm, ⟨26, _⟩ => ⟨S2816x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x4x704, .f32⟩
  | .hbm, ⟨35, _⟩ => ⟨S4x8192x704, .f32⟩
  | .hbm, ⟨36, _⟩ => ⟨S4x8192x704, .bf16⟩
  | .hbm, ⟨37, _⟩ => ⟨S8192x4x704, .f32⟩
  | .hbm, ⟨38, _⟩ => ⟨S4x8192x704, .f32⟩
  | .hbm, ⟨39, _⟩ => ⟨S4x8192x704, .bf16⟩
  | .hbm, ⟨40, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩

abbrev nD : Nat := 1
abbrev τ : Topo := Topo.v7x

variable {F : FTy → Type} [FloatOps F]
-- ==== Kernel2.lean ====
abbrev S8192x1024 : Shape := ⟨2, ![8192, 1024]⟩
abbrev S1024x5632 : Shape := ⟨2, ![1024, 5632]⟩
abbrev S8192x2816 : Shape := ⟨2, ![8192, 2816]⟩
abbrev S8192x4x704 : Shape := ⟨3, ![8192, 4, 704]⟩
abbrev S4x8192x704 : Shape := ⟨3, ![4, 8192, 704]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 13
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x2816, .f32⟩
  | .hbm, ⟨3, _⟩ => ⟨S8192x2816, .f32⟩
  | .hbm, ⟨4, _⟩ => ⟨S8192x1024, .bf16⟩
  | .hbm, ⟨5, _⟩ => ⟨S8192x4x704, .f32⟩
  | .hbm, ⟨6, _⟩ => ⟨S4x8192x704, .f32⟩
  | .hbm, ⟨7, _⟩ => ⟨S4x8192x704, .bf16⟩
  | .hbm, ⟨8, _⟩ => ⟨S8192x4x704, .f32⟩
  | .hbm, ⟨9, _⟩ => ⟨S4x8192x704, .f32⟩
  | .hbm, ⟨10, _⟩ => ⟨S4x8192x704, .bf16⟩
  | .hbm, ⟨11, _⟩ => ⟨S4x1024x704, .bf16⟩
  | .hbm, ⟨12, _⟩ => ⟨S4x1024x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1024x704, .f32⟩
  | .local _ .vmem, ⟨11, _⟩ => ⟨S1024x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x1024 : Shape := ⟨2, ![8192, 1024]⟩
abbrev S1024x5632 : Shape := ⟨2, ![1024, 5632]⟩
abbrev S8192x2816 : Shape := ⟨2, ![8192, 2816]⟩
abbrev S8192x5632 : Shape := ⟨2, ![8192, 5632]⟩
abbrev S5632x1024 : Shape := ⟨2, ![5632, 1024]⟩
abbrev S1024x2x4x704 : Shape := ⟨4, ![1024, 2, 4, 704]⟩
abbrev S1024x1x4x704 : Shape := ⟨4, ![1024, 1, 4, 704]⟩
abbrev S1024x4x704 : Shape := ⟨3, ![1024, 4, 704]⟩
abbrev S4x1024x704 : Shape := ⟨3, ![4, 1024, 704]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x2816, .f32⟩
  | .hbm, ⟨3, _⟩ => ⟨S8192x2816, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x5632, .f32⟩
  | .hbm, ⟨8, _⟩ => ⟨S5632x1024, .f32⟩
  | .hbm, ⟨9, _⟩ => ⟨S1024x5632, .f32⟩
  | .hbm, ⟨10, _⟩ => ⟨S1024x2x4x704, .f32⟩
  | .hbm, ⟨11, _⟩ => ⟨S1024x2x4x704, .bf16⟩
  | .hbm, ⟨12, _⟩ => ⟨S1024x1x4x704, .bf16⟩
  | .hbm, ⟨13, _⟩ => ⟨S1024x4x704, .bf16⟩
  | .hbm, ⟨14, _⟩ => ⟨S4x1024x704, .bf16⟩
  | .hbm, ⟨15, _⟩ => ⟨S1024x1x4x704, .bf16⟩
  | .hbm, ⟨16, _⟩ => ⟨S1024x4x704, .bf16⟩
  | .hbm, ⟨17, _⟩ => ⟨S4x1024x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel3.lean ====
abbrev S8192x1024 : Shape := ⟨2, ![8192, 1024]⟩
abbrev S1024x5632 : Shape := ⟨2, ![1024, 5632]⟩
abbrev S8192x2816 : Shape := ⟨2, ![8192, 2816]⟩
abbrev S1024x8x704 : Shape := ⟨3, ![1024, 8, 704]⟩
abbrev S8x1024x704 : Shape := ⟨3, ![8, 1024, 704]⟩
abbrev S8192x4x704 : Shape := ⟨3, ![8192, 4, 704]⟩
abbrev S4x8192x704 : Shape := ⟨3, ![4, 8192, 704]⟩
abbrev S1x1024x704 : Shape := ⟨3, ![1, 1024, 704]⟩
abbrev S1024x1024 : Shape := ⟨2, ![1024, 1024]⟩
abbrev S1024x704 : Shape := ⟨2, ![1024, 704]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x2816, .f32⟩
  | .hbm, ⟨3, _⟩ => ⟨S8192x2816, .f32⟩
  | .hbm, ⟨4, _⟩ => ⟨S8192x1024, .f32⟩
  | .hbm, ⟨5, _⟩ => ⟨S1024x8x704, .f32⟩
  | .hbm, ⟨6, _⟩ => ⟨S8x1024x704, .f32⟩
  | .hbm, ⟨7, _⟩ => ⟨S8x1024x704, .bf16⟩
  | .hbm, ⟨8, _⟩ => ⟨S8192x4x704, .f32⟩
  | .hbm, ⟨9, _⟩ => ⟨S4x8192x704, .f32⟩
  | .hbm, ⟨10, _⟩ => ⟨S4x8192x704, .bf16⟩
  | .hbm, ⟨11, _⟩ => ⟨S8192x4x704, .f32⟩
  | .hbm, ⟨12, _⟩ => ⟨S4x8192x704, .f32⟩
  | .hbm, ⟨13, _⟩ => ⟨S4x8192x704, .bf16⟩
  | .hbm, ⟨14, _⟩ => ⟨S8192x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_17 : BitVec 32 := 0#32
  let v21 : BitVec 1 := Scalar.cmpi .ne v20 c0_i32_17
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S8192x1024 : Shape := ⟨2, ![8192, 1024]⟩
abbrev S1024x5632 : Shape := ⟨2, ![1024, 5632]⟩
abbrev S8192x2816 : Shape := ⟨2, ![8192, 2816]⟩
abbrev S8192x5632 : Shape := ⟨2, ![8192, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x2816, .f32⟩
  | .hbm, ⟨3, _⟩ => ⟨S8192x2816, .f32⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x5632, .f32⟩
  | .hbm, ⟨15, _⟩ => ⟨S8192x1024, .f32⟩
  | .hbm, ⟨16, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel4.lean ====
abbrev S8192x1024 : Shape := ⟨2, ![8192, 1024]⟩
abbrev S1024x3072 : Shape := ⟨2, ![1024, 3072]⟩
abbrev S8192x3072 : Shape := ⟨2, ![8192, 3072]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .bf16⟩
  | .hbm, ⟨4, _⟩ => ⟨S8192x3072, .bf16⟩
  | .hbm, ⟨5, _⟩ => ⟨S1024x3072, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1024x3072 : Shape := ⟨2, ![1024, 3072]⟩
abbrev S8192x3072 : Shape := ⟨2, ![8192, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .f32⟩
  | .hbm, ⟨4, _⟩ => ⟨S3072x1024, .f32⟩
  | .hbm, ⟨5, _⟩ => ⟨S1024x3072, .f32⟩
  | .hbm, ⟨6, _⟩ => ⟨S1024x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .f32⟩
  | .hbm, ⟨4, _⟩ => ⟨S8192x3072, .bf16⟩
  | .hbm, ⟨5, _⟩ => ⟨S1024x3072, .bf16⟩
  | .hbm, ⟨6, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x1024 : Shape := ⟨2, ![8192, 1024]⟩
abbrev S1024x3072 : Shape := ⟨2, ![1024, 3072]⟩
abbrev S8192x3072 : Shape := ⟨2, ![8192, 3072]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x3072, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S8192x1024 : Shape := ⟨2, ![8192, 1024]⟩
abbrev S1024x5632 : Shape := ⟨2, ![1024, 5632]⟩
abbrev S1024x8x704 : Shape := ⟨3, ![1024, 8, 704]⟩
abbrev S8x1024x704 : Shape := ⟨3, ![8, 1024, 704]⟩
abbrev S4x8192x704 : Shape := ⟨3, ![4, 8192, 704]⟩
abbrev S512x1024 : Shape := ⟨2, ![512, 1024]⟩
abbrev S1x1024x704 : Shape := ⟨3, ![1, 1024, 704]⟩
abbrev S1x512x704 : Shape := ⟨3, ![1, 512, 704]⟩
abbrev S1024x704 : Shape := ⟨2, ![1024, 704]⟩
abbrev S512x704 : Shape := ⟨2, ![512, 704]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x8x704, .f32⟩
  | .hbm, ⟨4, _⟩ => ⟨S8x1024x704, .f32⟩
  | .hbm, ⟨5, _⟩ => ⟨S8x1024x704, .bf16⟩
  | .hbm, ⟨6, _⟩ => ⟨S4x8192x704, .bf16⟩
  | .hbm, ⟨7, _⟩ => ⟨S4x8192x704, .bf16⟩
  | .hbm, ⟨8, _⟩ => ⟨S4x8192x704, .bf16⟩
  | .local _ .vmem, ⟨0, _⟩ => ⟨S512x1024, .bf16⟩
  | .local _ .vmem, ⟨1, _⟩ => ⟨S512x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩
abbrev S8192x4x704 : Shape := ⟨3, ![8192, 4, 704]⟩
abbrev S4x8192x704 : Shape := ⟨3, ![4, 8192, 704]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x4x704, .f32⟩
  | .hbm, ⟨16, _⟩ => ⟨S4x8192x704, .f32⟩
  | .hbm, ⟨17, _⟩ => ⟨S4x8192x704, .bf16⟩
  | .hbm, ⟨18, _⟩ => ⟨S8192x4x704, .f32⟩
  | .hbm, ⟨19, _⟩ => ⟨S4x8192x704, .f32⟩
  | .hbm, ⟨20, _⟩ => ⟨S4x8192x704, .bf16⟩
  | .hbm, ⟨21, _⟩ => ⟨S8192x4x704, .f32⟩
  | .hbm, ⟨22, _⟩ => ⟨S4x8192x704, .f32⟩
  | .hbm, ⟨23, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel9.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x1024, .bf16⟩
  | .hbm, ⟨3, _⟩ => ⟨S1024x3072, .bf16⟩
  | .hbm, ⟨4, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S8192x1024 : Shape := ⟨2, ![8192, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .bf16⟩
  | .hbm, ⟨86, _⟩ => ⟨S1x1024, .f32⟩
  | .hbm, ⟨87, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Kernel12.lean ====
abbrev S4x2048x512 : Shape := ⟨3, ![4, 2048, 512]⟩
abbrev S32x512 : Shape := ⟨2, ![32, 512]⟩
abbrev S512 : Shape := ⟨1, ![512]⟩
abbrev S_ : Shape := ⟨0, ![]⟩
abbrev S1x512 : Shape := ⟨2, ![1, 512]⟩
abbrev S1x512x512 : Shape := ⟨3, ![1, 512, 512]⟩
abbrev S1x16x512 : Shape := ⟨3, ![1, 16, 512]⟩
abbrev S544x512 : Shape := ⟨2, ![544, 512]⟩
abbrev S16x512 : Shape := ⟨2, ![16, 512]⟩
abbrev S512x512 : Shape := ⟨2, ![512, 512]⟩
abbrev S1x128 : Shape := ⟨2, ![1, 128]⟩
abbrev S128x128 : Shape := ⟨2, ![128, 128]⟩
abbrev S1x128x128 : Shape := ⟨3, ![1, 128, 128]⟩

abbrev nBuf : Space → Nat
  | .hbm => 7
  | .vmem => 11
  | .smem => 0
  | _ => 0

abbrev bufTy : (tb : Table) → Fin (tcTables nBuf tb) → BufTy
  | .hbm, ⟨0, _⟩ => ⟨S4x2048x512, .f32⟩
  | .hbm, ⟨1, _⟩ => ⟨S32x512, .f32⟩
  | .hbm, ⟨2, _⟩ => ⟨S512, .f32⟩
  | .hbm, ⟨3, _⟩ => ⟨S4x2048x512, .f32⟩
  | .hbm, ⟨4, _⟩ => ⟨S_, .f32⟩
  | .hbm, ⟨5, _⟩ => ⟨S1x512, .f32⟩
  | .hbm, ⟨6, _⟩ => ⟨S4x2048x512, .f32⟩
  | .local _ .vmem, ⟨0, _⟩ => ⟨S1x512x512, .f32⟩
  | .local _ .vmem, ⟨1, _⟩ => ⟨S1x512x512, .f32⟩
  | .local _ .vmem, ⟨2, _⟩ => ⟨S1x16x512, .f32⟩
  | .local _ .vmem, ⟨3, _⟩ => ⟨S1x16x512, .f32⟩
  | .local _ .vmem, ⟨4, _⟩ => ⟨S1x16x512, .f32⟩
  | .local _ .vmem, ⟨5, _⟩ => ⟨S1x16x512, .f32⟩
  | .local _ .vmem, ⟨6, _⟩ => ⟨S32x512, .f32⟩
  | .local _ .vmem, ⟨7, _⟩ => ⟨S1x512, .f32⟩
  | .local _ .vmem, ⟨8, _⟩ => ⟨S1x512x512, .f32⟩
  | .local _ .vmem, ⟨9, _⟩ => ⟨S1x512x512, .f32⟩
  | .local _ .vmem, ⟨10, _⟩ => ⟨S544x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference12Ideal.lean ====
abbrev S4x2048x512 : Shape := ⟨3, ![4, 2048, 512]⟩
abbrev S32x512 : Shape := ⟨2, ![32, 512]⟩
abbrev S512 : Shape := ⟨1, ![512]⟩
abbrev S4x15x512 : Shape := ⟨3, ![4, 15, 512]⟩
abbrev S_ : Shape := ⟨0, ![]⟩
abbrev S4x2078x512 : Shape := ⟨3, ![4, 2078, 512]⟩
abbrev S1x512 : Shape := ⟨2, ![1, 512]⟩
abbrev S1x1x512 : Shape := ⟨3, ![1, 1, 512]⟩

abbrev nBuf : Space → Nat
  | .hbm => 390
  | .vmem => 0
  | .smem => 0
  | _ => 0

abbrev hbmTy0_0 (i : Nat) : BufTy := match i % 128 with
  | 0 => ⟨S4x2048x512, .f32⟩
  | 1 => ⟨S32x512, .f32⟩
  | 2 => ⟨S512, .f32⟩
  | 3 => ⟨S4x2048x512, .f32⟩
  | 4 => ⟨S4x15x512, .f32⟩
  | 5 => ⟨S_, .f32⟩
  | 6 => ⟨S4x15x512, .f32⟩
  | 7 => ⟨S4x2078x512, .f32⟩
  | 8 => ⟨S_, .f32⟩
  | 9 => ⟨S4x15x512, .f32⟩
  | 10 => ⟨S_, .f32⟩
  | 11 => ⟨S4x15x512, .f32⟩
  | 12 => ⟨S4x2048x512, .f32⟩
  | 13 => ⟨S1x512, .f32⟩
  | 14 => ⟨S512, .f32⟩
  | 15 => ⟨S1x1x512, .f32⟩
  | 16 => ⟨S4x2048x512, .f32⟩
  | 17 => ⟨S4x2048x512, .f32⟩
  | 18 => ⟨S4x2048x512, .f32⟩
  | 19 => ⟨S1x512, .f32⟩
  | 20 => ⟨S512, .f32⟩
  | 21 => ⟨S1x1x512, .f32⟩
  | 22 => ⟨S4x2048x512, .f32⟩
  | 23 => ⟨S4x2048x512, .f32⟩
  | 24 => ⟨S4x2048x512, .f32⟩
  | 25 => ⟨S4x2048x512, .f32⟩
  | 26 => ⟨S1x512, .f32⟩
  | 27 => ⟨S512, .f32⟩
  | 28 => ⟨S1x1x512, .f32⟩
  | 29 => ⟨S4x2048x512, .f32⟩
  | 30 => ⟨S4x2048x512, .f32⟩
  | 31 => ⟨S4x2048x512, .f32⟩
  | 32 => ⟨S4x2048x512, .f32⟩
  | 33 => ⟨S1x512, .f32⟩
  | 34 => ⟨S512, .f32⟩
  | 35 => ⟨S1x1x512, .f32⟩
  | 36 => ⟨S4x2048x512, .f32⟩
  | 37 => ⟨S4x2048x512, .f32⟩
  | 38 => ⟨S4x2048x512, .f32⟩
  | 39 => ⟨S4x2048x512, .f32⟩
  | 40 => ⟨S1x512, .f32⟩
  | 41 => ⟨S512, .f32⟩
  | 42 => ⟨S1x1x512, .f32⟩
  | 43 => ⟨S4x2048x512, .f32⟩
  | 44 => ⟨S4x2048x512, .f32⟩
  | 45 => ⟨S4x2048x512, .f32⟩
  | 46 => ⟨S4x2048x512, .f32⟩
  | 47 => ⟨S1x512, .f32⟩
  | 48 => ⟨S512, .f32⟩
  | 49 => ⟨S1x1x512, .f32⟩
  | 50 => ⟨S4x2048x512, .f32⟩
  | 51 => ⟨S4x2048x512, .f32⟩
  | 52 => ⟨S4x2048x512, .f32⟩
  | 53 => ⟨S4x2048x512, .f32⟩
  | 54 => ⟨S1x512, .f32⟩
  | 55 => ⟨S512, .f32⟩
  | 56 => ⟨S1x1x512, .f32⟩
  | 57 => ⟨S4x2048x512, .f32⟩
  | 58 => ⟨S4x2048x512, .f32⟩
  | 59 => ⟨S4x2048x512, .f32⟩
  | 60 => ⟨S4x2048x512, .f32⟩
  | 61 => ⟨S1x512, .f32⟩
  | 62 => ⟨S512, .f32⟩
  | 63 => ⟨S1x1x512, .f32⟩
  | 64 => ⟨S4x2048x512, .f32⟩
  | 65 => ⟨S4x2048x512, .f32⟩
  | 66 => ⟨S4x2048x512, .f32⟩
  | 67 => ⟨S4x2048x512, .f32⟩
  | 68 => ⟨S1x512, .f32⟩
  | 69 => ⟨S512, .f32⟩
  | 70 => ⟨S1x1x512, .f32⟩
  | 71 => ⟨S4x2048x512, .f32⟩
  | 72 => ⟨S4x2048x512, .f32⟩
  | 73 => ⟨S4x2048x512, .f32⟩
  | 74 => ⟨S4x2048x512, .f32⟩
  | 75 => ⟨S1x512, .f32⟩
  | 76 => ⟨S512, .f32⟩
  | 77 => ⟨S1x1x512, .f32⟩
  | 78 => ⟨S4x2048x512, .f32⟩
  | 79 => ⟨S4x2048x512, .f32⟩
  | 80 => ⟨S4x2048x512, .f32⟩
  | 81 => ⟨S4x2048x512, .f32⟩
  | 82 => ⟨S1x512, .f32⟩
  | 83 => ⟨S512, .f32⟩
  | 84 => ⟨S1x1x512, .f32⟩
  | 85 => ⟨S4x2048x512, .f32⟩
  | 86 => ⟨S4x2048x512, .f32⟩
  | 87 => ⟨S4x2048x512, .f32⟩
  | 88 => ⟨S4x2048x512, .f32⟩
  | 89 => ⟨S1x512, .f32⟩
  | 90 => ⟨S512, .f32⟩
  | 91 => ⟨S1x1x512, .f32⟩
  | 92 => ⟨S4x2048x512, .f32⟩
  | 93 => ⟨S4x2048x512, .f32⟩
  | 94 => ⟨S4x2048x512, .f32⟩
  | 95 => ⟨S4x2048x512, .f32⟩
  | 96 => ⟨S1x512, .f32⟩
  | 97 => ⟨S512, .f32⟩
  | 98 => ⟨S1x1x512, .f32⟩
  | 99 => ⟨S4x2048x512, .f32⟩
  | 100 => ⟨S4x2048x512, .f32⟩
  | 101 => ⟨S4x2048x512, .f32⟩
  | 102 => ⟨S4x2048x512, .f32⟩
  | 103 => ⟨S1x512, .f32⟩
  | 104 => ⟨S512, .f32⟩
  | 105 => ⟨S1x1x512, .f32⟩
  | 106 => ⟨S4x2048x512, .f32⟩
  | 107 => ⟨S4x2048x512, .f32⟩
  | 108 => ⟨S4x2048x512, .f32⟩
  | 109 => ⟨S4x2048x512, .f32⟩
  | 110 => ⟨S1x512, .f32⟩
  | 111 => ⟨S512, .f32⟩
  | 112 => ⟨S1x1x512, .f32⟩
  | 113 => ⟨S4x2048x512, .f32⟩
  | 114 => ⟨S4x2048x512, .f32⟩
  | 115 => ⟨S4x2048x512, .f32⟩
  | 116 => ⟨S4x2048x512, .f32⟩
  | 117 => ⟨S1x512, .f32⟩
  | 118 => ⟨S512, .f32⟩
  | 119 => ⟨S1x1x512, .f32⟩
  | 120 => ⟨S4x2048x512, .f32⟩
  | 121 => ⟨S4x2048x512, .f32⟩
  | 122 => ⟨S4x2048x512, .f32⟩
  | 123 => ⟨S4x2048x512, .f32⟩
  | 124 => ⟨S1x512, .f32⟩
  | 125 => ⟨S512, .f32⟩
  | 126 => ⟨S1x1x512, .f32⟩
  | 127 => ⟨S4x2048x512, .f32⟩
  | _ => ⟨S4x2048x512, .f32⟩

abbrev hbmTy0_1 (i : Nat) : BufTy := match i % 128 with
  | 0 => ⟨S4x2048x512, .f32⟩
  | 1 => ⟨S4x2048x512, .f32⟩
  | 2 => ⟨S4x2048x512, .f32⟩
  | 3 => ⟨S1x512, .f32⟩
  | 4 => ⟨S512, .f32⟩
  | 5 => ⟨S1x1x512, .f32⟩
  | 6 => ⟨S4x2048x512, .f32⟩
  | 7 => ⟨S4x2048x512, .f32⟩
  | 8 => ⟨S4x2048x512, .f32⟩
  | 9 => ⟨S4x2048x512, .f32⟩
  | 10 => ⟨S1x512, .f32⟩
  | 11 => ⟨S512, .f32⟩
  | 12 => ⟨S1x1x512, .f32⟩
  | 13 => ⟨S4x2048x512, .f32⟩
  | 14 => ⟨S4x2048x512, .f32⟩
  | 15 => ⟨S4x2048x512, .f32⟩
  | 16 => ⟨S4x2048x512, .f32⟩
  | 17 => ⟨S1x512, .f32⟩
  | 18 => ⟨S512, .f32⟩
  | 19 => ⟨S1x1x512, .f32⟩
  | 20 => ⟨S4x2048x512, .f32⟩
  | 21 => ⟨S4x2048x512, .f32⟩
  | 22 => ⟨S4x2048x512, .f32⟩
  | 23 => ⟨S4x2048x512, .f32⟩
  | 24 => ⟨S1x512, .f32⟩
  | 25 => ⟨S512, .f32⟩
  | 26 => ⟨S1x1x512, .f32⟩
  | 27 => ⟨S4x2048x512, .f32⟩
  | 28 => ⟨S4x2048x512, .f32⟩
  | 29 => ⟨S4x2048x512, .f32⟩
  | 30 => ⟨S4x2048x512, .f32⟩
  | 31 => ⟨S1x512, .f32⟩
  | 32 => ⟨S512, .f32⟩
  | 33 => ⟨S1x1x512, .f32⟩
  | 34 => ⟨S4x2048x512, .f32⟩
  | 35 => ⟨S4x2048x512, .f32⟩
  | 36 => ⟨S4x2048x512, .f32⟩
  | 37 => ⟨S4x2048x512, .f32⟩
  | 38 => ⟨S1x512, .f32⟩
  | 39 => ⟨S512, .f32⟩
  | 40 => ⟨S1x1x512, .f32⟩
  | 41 => ⟨S4x2048x512, .f32⟩
  | 42 => ⟨S4x2048x512, .f32⟩
  | 43 => ⟨S4x2048x512, .f32⟩
  | 44 => ⟨S4x2048x512, .f32⟩
  | 45 => ⟨S1x512, .f32⟩
  | 46 => ⟨S512, .f32⟩
  | 47 => ⟨S1x1x512, .f32⟩
  | 48 => ⟨S4x2048x512, .f32⟩
  | 49 => ⟨S4x2048x512, .f32⟩
  | 50 => ⟨S4x2048x512, .f32⟩
  | 51 => ⟨S4x2048x512, .f32⟩
  | 52 => ⟨S1x512, .f32⟩
  | 53 => ⟨S512, .f32⟩
  | 54 => ⟨S1x1x512, .f32⟩
  | 55 => ⟨S4x2048x512, .f32⟩
  | 56 => ⟨S4x2048x512, .f32⟩
  | 57 => ⟨S4x2048x512, .f32⟩
  | 58 => ⟨S4x2048x512, .f32⟩
  | 59 => ⟨S1x512, .f32⟩
  | 60 => ⟨S512, .f32⟩
  | 61 => ⟨S1x1x512, .f32⟩
  | 62 => ⟨S4x2048x512, .f32⟩
  | 63 => ⟨S4x2048x512, .f32⟩
  | 64 => ⟨S4x2048x512, .f32⟩
  | 65 => ⟨S4x2048x512, .f32⟩
  | 66 => ⟨S1x512, .f32⟩
  | 67 => ⟨S512, .f32⟩
  | 68 => ⟨S1x1x512, .f32⟩
  | 69 => ⟨S4x2048x512, .f32⟩
  | 70 => ⟨S4x2048x512, .f32⟩
  | 71 => ⟨S4x2048x512, .f32⟩
  | 72 => ⟨S4x2048x512, .f32⟩
  | 73 => ⟨S1x512, .f32⟩
  | 74 => ⟨S512, .f32⟩
  | 75 => ⟨S1x1x512, .f32⟩
  | 76 => ⟨S4x2048x512, .f32⟩
  | 77 => ⟨S4x2048x512, .f32⟩
  | 78 => ⟨S4x2048x512, .f32⟩
  | 79 => ⟨S4x2048x512, .f32⟩
  | 80 => ⟨S1x512, .f32⟩
  | 81 => ⟨S512, .f32⟩
  | 82 => ⟨S1x1x512, .f32⟩
  | 83 => ⟨S4x2048x512, .f32⟩
  | 84 => ⟨S4x2048x512, .f32⟩
  | 85 => ⟨S4x2048x512, .f32⟩
  | 86 => ⟨S4x2048x512, .f32⟩
  | 87 => ⟨S1x512, .f32⟩
  | 88 => ⟨S512, .f32⟩
  | 89 => ⟨S1x1x512, .f32⟩
  | 90 => ⟨S4x2048x512, .f32⟩
  | 91 => ⟨S4x2048x512, .f32⟩
  | 92 => ⟨S4x2048x512, .f32⟩
  | 93 => ⟨S4x2048x512, .f32⟩
  | 94 => ⟨S1x512, .f32⟩
  | 95 => ⟨S512, .f32⟩
  | 96 => ⟨S1x1x512, .f32⟩
  | 97 => ⟨S4x2048x512, .f32⟩
  | 98 => ⟨S4x2048x512, .f32⟩
  | 99 => ⟨S4x2048x512, .f32⟩
  | 100 => ⟨S1x1x512, .f32⟩
  | 101 => ⟨S4x2048x512, .f32⟩
  | 102 => ⟨S4x2048x512, .f32⟩
  | 103 => ⟨S4x2048x512, .f32⟩
  | 104 => ⟨S4x2048x512, .f32⟩
  | 105 => ⟨S4x2048x512, .f32⟩
  | 106 => ⟨S4x2048x512, .f32⟩
  | 107 => ⟨S_, .f32⟩
  | 108 => ⟨S4x2078x512, .f32⟩
  | 109 => ⟨S4x2048x512, .f32⟩
  | 110 => ⟨S4x2048x512, .f32⟩
  | 111 => ⟨S_, .f32⟩
  | 112 => ⟨S4x2078x512, .f32⟩
  | 113 => ⟨S4x2078x512, .f32⟩
  | 114 => ⟨S4x2048x512, .f32⟩
  | 115 => ⟨S4x2048x512, .f32⟩
  | 116 => ⟨S_, .f32⟩
  | 117 => ⟨S4x2078x512, .f32⟩
  | 118 => ⟨S4x2078x512, .f32⟩
  | 119 => ⟨S4x2048x512, .f32⟩
  | 120 => ⟨S4x2048x512, .f32⟩
  | 121 => ⟨S_, .f32⟩
  | 122 => ⟨S4x2078x512, .f32⟩
  | 123 => ⟨S4x2078x512, .f32⟩
  | 124 => ⟨S4x2048x512, .f32⟩
  | 125 => ⟨S4x2048x512, .f32⟩
  | 126 => ⟨S_, .f32⟩
  | 127 => ⟨S4x2078x512, .f32⟩
  | _ => ⟨S4x2048x512, .f32⟩

abbrev hbmTy0_2 (i : Nat) : BufTy := match i % 128 with
  | 0 => ⟨S4x2078x512, .f32⟩
  | 1 => ⟨S4x2048x512, .f32⟩
  | 2 => ⟨S4x2048x512, .f32⟩
  | 3 => ⟨S_, .f32⟩
  | 4 => ⟨S4x2078x512, .f32⟩
  | 5 => ⟨S4x2078x512, .f32⟩
  | 6 => ⟨S4x2048x512, .f32⟩
  | 7 => ⟨S4x2048x512, .f32⟩
  | 8 => ⟨S_, .f32⟩
  | 9 => ⟨S4x2078x512, .f32⟩
  | 10 => ⟨S4x2078x512, .f32⟩
  | 11 => ⟨S4x2048x512, .f32⟩
  | 12 => ⟨S4x2048x512, .f32⟩
  | 13 => ⟨S_, .f32⟩
  | 14 => ⟨S4x2078x512, .f32⟩
  | 15 => ⟨S4x2078x512, .f32⟩
  | 16 => ⟨S4x2048x512, .f32⟩
  | 17 => ⟨S4x2048x512, .f32⟩
  | 18 => ⟨S_, .f32⟩
  | 19 => ⟨S4x2078x512, .f32⟩
  | 20 => ⟨S4x2078x512, .f32⟩
  | 21 => ⟨S4x2048x512, .f32⟩
  | 22 => ⟨S4x2048x512, .f32⟩
  | 23 => ⟨S_, .f32⟩
  | 24 => ⟨S4x2078x512, .f32⟩
  | 25 => ⟨S4x2078x512, .f32⟩
  | 26 => ⟨S4x2048x512, .f32⟩
  | 27 => ⟨S4x2048x512, .f32⟩
  | 28 => ⟨S_, .f32⟩
  | 29 => ⟨S4x2078x512, .f32⟩
  | 30 => ⟨S4x2078x512, .f32⟩
  | 31 => ⟨S4x2048x512, .f32⟩
  | 32 => ⟨S4x2048x512, .f32⟩
  | 33 => ⟨S_, .f32⟩
  | 34 => ⟨S4x2078x512, .f32⟩
  | 35 => ⟨S4x2078x512, .f32⟩
  | 36 => ⟨S4x2048x512, .f32⟩
  | 37 => ⟨S4x2048x512, .f32⟩
  | 38 => ⟨S_, .f32⟩
  | 39 => ⟨S4x2078x512, .f32⟩
  | 40 => ⟨S4x2078x512, .f32⟩
  | 41 => ⟨S4x2048x512, .f32⟩
  | 42 => ⟨S4x2048x512, .f32⟩
  | 43 => ⟨S_, .f32⟩
  | 44 => ⟨S4x2078x512, .f32⟩
  | 45 => ⟨S4x2078x512, .f32⟩
  | 46 => ⟨S4x2048x512, .f32⟩
  | 47 => ⟨S4x2048x512, .f32⟩
  | 48 => ⟨S_, .f32⟩
  | 49 => ⟨S4x2078x512, .f32⟩
  | 50 => ⟨S4x2078x512, .f32⟩
  | 51 => ⟨S4x2048x512, .f32⟩
  | 52 => ⟨S4x2048x512, .f32⟩
  | 53 => ⟨S_, .f32⟩
  | 54 => ⟨S4x2078x512, .f32⟩
  | 55 => ⟨S4x2078x512, .f32⟩
  | 56 => ⟨S4x2048x512, .f32⟩
  | 57 => ⟨S4x2048x512, .f32⟩
  | 58 => ⟨S_, .f32⟩
  | 59 => ⟨S4x2078x512, .f32⟩
  | 60 => ⟨S4x2078x512, .f32⟩
  | 61 => ⟨S4x2048x512, .f32⟩
  | 62 => ⟨S4x2048x512, .f32⟩
  | 63 => ⟨S_, .f32⟩
  | 64 => ⟨S4x2078x512, .f32⟩
  | 65 => ⟨S4x2078x512, .f32⟩
  | 66 => ⟨S4x2048x512, .f32⟩
  | 67 => ⟨S4x2048x512, .f32⟩
  | 68 => ⟨S_, .f32⟩
  | 69 => ⟨S4x2078x512, .f32⟩
  | 70 => ⟨S4x2078x512, .f32⟩
  | 71 => ⟨S4x2048x512, .f32⟩
  | 72 => ⟨S4x2048x512, .f32⟩
  | 73 => ⟨S_, .f32⟩
  | 74 => ⟨S4x2078x512, .f32⟩
  | 75 => ⟨S4x2078x512, .f32⟩
  | 76 => ⟨S4x2048x512, .f32⟩
  | 77 => ⟨S4x2048x512, .f32⟩
  | 78 => ⟨S_, .f32⟩
  | 79 => ⟨S4x2078x512, .f32⟩
  | 80 => ⟨S4x2078x512, .f32⟩
  | 81 => ⟨S4x2048x512, .f32⟩
  | 82 => ⟨S4x2048x512, .f32⟩
  | 83 => ⟨S_, .f32⟩
  | 84 => ⟨S4x2078x512, .f32⟩
  | 85 => ⟨S4x2078x512, .f32⟩
  | 86 => ⟨S4x2048x512, .f32⟩
  | 87 => ⟨S4x2048x512, .f32⟩
  | 88 => ⟨S_, .f32⟩
  | 89 => ⟨S4x2078x512, .f32⟩
  | 90 => ⟨S4x2078x512, .f32⟩
  | 91 => ⟨S4x2048x512, .f32⟩
  | 92 => ⟨S4x2048x512, .f32⟩
  | 93 => ⟨S_, .f32⟩
  | 94 => ⟨S4x2078x512, .f32⟩
  | 95 => ⟨S4x2078x512, .f32⟩
  | 96 => ⟨S4x2048x512, .f32⟩
  | 97 => ⟨S4x2048x512, .f32⟩
  | 98 => ⟨S_, .f32⟩
  | 99 => ⟨S4x2078x512, .f32⟩
  | 100 => ⟨S4x2078x512, .f32⟩
  | 101 => ⟨S4x2048x512, .f32⟩
  | 102 => ⟨S4x2048x512, .f32⟩
  | 103 => ⟨S_, .f32⟩
  | 104 => ⟨S4x2078x512, .f32⟩
  | 105 => ⟨S4x2078x512, .f32⟩
  | 106 => ⟨S4x2048x512, .f32⟩
  | 107 => ⟨S4x2048x512, .f32⟩
  | 108 => ⟨S_, .f32⟩
  | 109 => ⟨S4x2078x512, .f32⟩
  | 110 => ⟨S4x2078x512, .f32⟩
  | 111 => ⟨S4x2048x512, .f32⟩
  | 112 => ⟨S4x2048x512, .f32⟩
  | 113 => ⟨S_, .f32⟩
  | 114 => ⟨S4x2078x512, .f32⟩
  | 115 => ⟨S4x2078x512, .f32⟩
  | 116 => ⟨S4x2048x512, .f32⟩
  | 117 => ⟨S4x2048x512, .f32⟩
  | 118 => ⟨S_, .f32⟩
  | 119 => ⟨S4x2078x512, .f32⟩
  | 120 => ⟨S4x2078x512, .f32⟩
  | 121 => ⟨S4x2048x512, .f32⟩
  | 122 => ⟨S4x2048x512, .f32⟩
  | 123 => ⟨S_, .f32⟩
  | 124 => ⟨S4x2078x512, .f32⟩
  | 125 => ⟨S4x2078x512, .f32⟩
  | 126 => ⟨S4x2048x512, .f32⟩
  | 127 => ⟨S4x2048x512, .f32⟩
  | _ => ⟨S4x2048x512, .f32⟩

abbrev hbmTy0_3 (i : Nat) : BufTy := match i % 128 with
  | 0 => ⟨S_, .f32⟩
  | 1 => ⟨S4x2078x512, .f32⟩
  | 2 => ⟨S4x2078x512, .f32⟩
  | 3 => ⟨S4x15x512, .f32⟩
  | 4 => ⟨S4x2048x512, .f32⟩
  | 5 => ⟨S4x15x512, .f32⟩
  | _ => ⟨S4x2048x512, .f32⟩

abbrev hbmTy (i : Nat) : BufTy := match i / 128 with
  | 0 => hbmTy0_0 i
  | 1 => hbmTy0_1 i
  | 2 => hbmTy0_2 i
  | 3 => hbmTy0_3 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_cst_2 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_cst_3 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_cst_4 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_cst_5 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_cst_6 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_cst_7 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_cst_8 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_cst_9 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_cst_10 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_cst_11 : Ref sig .tc := ⟨.hbm, 279, rfl⟩
abbrev main_v263 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_cst_12 : Ref sig .tc := ⟨.hbm, 284, rfl⟩
abbrev main_v267 : Ref sig .tc := ⟨.hbm, 285, rfl⟩
abbrev main_v268 : Ref sig .tc := ⟨.hbm, 286, rfl⟩
abbrev main_v269 : Ref sig .tc := ⟨.hbm, 287, rfl⟩
abbrev main_v270 : Ref sig .tc := ⟨.hbm, 288, rfl⟩
abbrev main_cst_13 : Ref sig .tc := ⟨.hbm, 289, rfl⟩
abbrev main_v271 : Ref sig .tc := ⟨.hbm, 290, rfl⟩
abbrev main_v272 : Ref sig .tc := ⟨.hbm, 291, rfl⟩
abbrev main_v273 : Ref sig .tc := ⟨.hbm, 292, rfl⟩
abbrev main_v274 : Ref sig .tc := ⟨.hbm, 293, rfl⟩
abbrev main_cst_14 : Ref sig .tc := ⟨.hbm, 294, rfl⟩
abbrev main_v275 : Ref sig .tc := ⟨.hbm, 295, rfl⟩
abbrev main_v276 : Ref sig .tc := ⟨.hbm, 296, rfl⟩
abbrev main_v277 : Ref sig .tc := ⟨.hbm, 297, rfl⟩
abbrev main_v278 : Ref sig .tc := ⟨.hbm, 298, rfl⟩
abbrev main_cst_15 : Ref sig .tc := ⟨.hbm, 299, rfl⟩
abbrev main_v279 : Ref sig .tc := ⟨.hbm, 300, rfl⟩
abbrev main_v280 : Ref sig .tc := ⟨.hbm, 301, rfl⟩
abbrev main_v281 : Ref sig .tc := ⟨.hbm, 302, rfl⟩
abbrev main_v282 : Ref sig .tc := ⟨.hbm, 303, rfl⟩
abbrev main_cst_16 : Ref sig .tc := ⟨.hbm, 304, rfl⟩
abbrev main_v283 : Ref sig .tc := ⟨.hbm, 305, rfl⟩
abbrev main_v284 : Ref sig .tc := ⟨.hbm, 306, rfl⟩
abbrev main_v285 : Ref sig .tc := ⟨.hbm, 307, rfl⟩
abbrev main_v286 : Ref sig .tc := ⟨.hbm, 308, rfl⟩
abbrev main_cst_17 : Ref sig .tc := ⟨.hbm, 309, rfl⟩
abbrev main_v287 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_cst_18 : Ref sig .tc := ⟨.hbm, 314, rfl⟩
abbrev main_v291 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_cst_19 : Ref sig .tc := ⟨.hbm, 319, rfl⟩
abbrev main_v295 : Ref sig .tc := ⟨.hbm, 320, rfl⟩
abbrev main_v296 : Ref sig .tc := ⟨.hbm, 321, rfl⟩
abbrev main_v297 : Ref sig .tc := ⟨.hbm, 322, rfl⟩
abbrev main_v298 : Ref sig .tc := ⟨.hbm, 323, rfl⟩
abbrev main_cst_20 : Ref sig .tc := ⟨.hbm, 324, rfl⟩
abbrev main_v299 : Ref sig .tc := ⟨.hbm, 325, rfl⟩
abbrev main_v300 : Ref sig .tc := ⟨.hbm, 326, rfl⟩
abbrev main_v301 : Ref sig .tc := ⟨.hbm, 327, rfl⟩
abbrev main_v302 : Ref sig .tc := ⟨.hbm, 328, rfl⟩
abbrev main_cst_21 : Ref sig .tc := ⟨.hbm, 329, rfl⟩
abbrev main_v303 : Ref sig .tc := ⟨.hbm, 330, rfl⟩
abbrev main_v304 : Ref sig .tc := ⟨.hbm, 331, rfl⟩
abbrev main_v305 : Ref sig .tc := ⟨.hbm, 332, rfl⟩
abbrev main_v306 : Ref sig .tc := ⟨.hbm, 333, rfl⟩
abbrev main_cst_22 : Ref sig .tc := ⟨.hbm, 334, rfl⟩
abbrev main_v307 : Ref sig .tc := ⟨.hbm, 335, rfl⟩
abbrev main_v308 : Ref sig .tc := ⟨.hbm, 336, rfl⟩
abbrev main_v309 : Ref sig .tc := ⟨.hbm, 337, rfl⟩
abbrev main_v310 : Ref sig .tc := ⟨.hbm, 338, rfl⟩
abbrev main_cst_23 : Ref sig .tc := ⟨.hbm, 339, rfl⟩
abbrev main_v311 : Ref sig .tc := ⟨.hbm, 340, rfl⟩
abbrev main_v312 : Ref sig .tc := ⟨.hbm, 341, rfl⟩
abbrev main_v313 : Ref sig .tc := ⟨.hbm, 342, rfl⟩
abbrev main_v314 : Ref sig .tc := ⟨.hbm, 343, rfl⟩
abbrev main_cst_24 : Ref sig .tc := ⟨.hbm, 344, rfl⟩
abbrev main_v315 : Ref sig .tc := ⟨.hbm, 345, rfl⟩
abbrev main_v316 : Ref sig .tc := ⟨.hbm, 346, rfl⟩
abbrev main_v317 : Ref sig .tc := ⟨.hbm, 347, rfl⟩
abbrev main_v318 : Ref sig .tc := ⟨.hbm, 348, rfl⟩
abbrev main_cst_25 : Ref sig .tc := ⟨.hbm, 349, rfl⟩
abbrev main_v319 : Ref sig .tc := ⟨.hbm, 350, rfl⟩
abbrev main_v320 : Ref sig .tc := ⟨.hbm, 351, rfl⟩
abbrev main_v321 : Ref sig .tc := ⟨.hbm, 352, rfl⟩
abbrev main_v322 : Ref sig .tc := ⟨.hbm, 353, rfl⟩
abbrev main_cst_26 : Ref sig .tc := ⟨.hbm, 354, rfl⟩
abbrev main_v323 : Ref sig .tc := ⟨.hbm, 355, rfl⟩
abbrev main_v324 : Ref sig .tc := ⟨.hbm, 356, rfl⟩
abbrev main_v325 : Ref sig .tc := ⟨.hbm, 357, rfl⟩
abbrev main_v326 : Ref sig .tc := ⟨.hbm, 358, rfl⟩
abbrev main_cst_27 : Ref sig .tc := ⟨.hbm, 359, rfl⟩
abbrev main_v327 : Ref sig .tc := ⟨.hbm, 360, rfl⟩
abbrev main_v328 : Ref sig .tc := ⟨.hbm, 361, rfl⟩
abbrev main_v329 : Ref sig .tc := ⟨.hbm, 362, rfl⟩
abbrev main_v330 : Ref sig .tc := ⟨.hbm, 363, rfl⟩
abbrev main_cst_28 : Ref sig .tc := ⟨.hbm, 364, rfl⟩
abbrev main_v331 : Ref sig .tc := ⟨.hbm, 365, rfl⟩
abbrev main_v332 : Ref sig .tc := ⟨.hbm, 366, rfl⟩
abbrev main_v333 : Ref sig .tc := ⟨.hbm, 367, rfl⟩
abbrev main_v334 : Ref sig .tc := ⟨.hbm, 368, rfl⟩
abbrev main_cst_29 : Ref sig .tc := ⟨.hbm, 369, rfl⟩
abbrev main_v335 : Ref sig .tc := ⟨.hbm, 370, rfl⟩
abbrev main_v336 : Ref sig .tc := ⟨.hbm, 371, rfl⟩
abbrev main_v337 : Ref sig .tc := ⟨.hbm, 372, rfl⟩
abbrev main_v338 : Ref sig .tc := ⟨.hbm, 373, rfl⟩
abbrev main_cst_30 : Ref sig .tc := ⟨.hbm, 374, rfl⟩
abbrev main_v339 : Ref sig .tc := ⟨.hbm, 375, rfl⟩
abbrev main_v340 : Ref sig .tc := ⟨.hbm, 376, rfl⟩
abbrev main_v341 : Ref sig .tc := ⟨.hbm, 377, rfl⟩
abbrev main_v342 : Ref sig .tc := ⟨.hbm, 378, rfl⟩
abbrev main_cst_31 : Ref sig .tc := ⟨.hbm, 379, rfl⟩
abbrev main_v343 : Ref sig .tc := ⟨.hbm, 380, rfl⟩
abbrev main_v344 : Ref sig .tc := ⟨.hbm, 381, rfl⟩
abbrev main_v345 : Ref sig .tc := ⟨.hbm, 382, rfl⟩
abbrev main_v346 : Ref sig .tc := ⟨.hbm, 383, rfl⟩
abbrev main_cst_32 : Ref sig .tc := ⟨.hbm, 384, rfl⟩
abbrev main_v347 : Ref sig .tc := ⟨.hbm, 385, rfl⟩
abbrev main_v348 : Ref sig .tc := ⟨.hbm, 386, rfl⟩
abbrev main_v349 : Ref sig .tc := ⟨.hbm, 387, rfl⟩
abbrev main_v350 : Ref sig .tc := ⟨.hbm, 388, rfl⟩
abbrev main_v351 : Ref sig .tc := ⟨.hbm, 389, rfl⟩

abbrev nD : Nat := 1
abbrev τ : Topo := Topo.v7x

variable {F : FTy → Type} [FloatOps F]
-- ==== Kernel11.lean ====
abbrev S4x2048x512 : Shape := ⟨3, ![4, 2048, 512]⟩
abbrev S32x512 : Shape := ⟨2, ![32, 512]⟩
abbrev S512 : Shape := ⟨1, ![512]⟩
abbrev S1x512 : Shape := ⟨2, ![1, 512]⟩
abbrev S1x512x512 : Shape := ⟨3, ![1, 512, 512]⟩
abbrev S1x16x512 : Shape := ⟨3, ![1, 16, 512]⟩
abbrev S544x512 : Shape := ⟨2, ![544, 512]⟩
abbrev S16x512 : Shape := ⟨2, ![16, 512]⟩
abbrev S512x512 : Shape := ⟨2, ![512, 512]⟩

abbrev nBuf : Space → Nat
  | .hbm => 6
  | .vmem => 11
  | .smem => 0
  | _ => 0

abbrev bufTy : (tb : Table) → Fin (tcTables nBuf tb) → BufTy
  | .hbm, ⟨0, _⟩ => ⟨S4x2048x512, .f32⟩
  | .hbm, ⟨1, _⟩ => ⟨S32x512, .f32⟩
  | .hbm, ⟨2, _⟩ => ⟨S512, .f32⟩
  | .hbm, ⟨3, _⟩ => ⟨S4x2048x512, .f32⟩
  | .hbm, ⟨4, _⟩ => ⟨S32x512, .f32⟩
  | .hbm, ⟨5, _⟩ => ⟨S1x512, .f32⟩
  | .local _ .vmem, ⟨0, _⟩ => ⟨S1x512x512, .f32⟩
  | .local _ .vmem, ⟨1, _⟩ => ⟨S1x512x512, .f32⟩
  | .local _ .vmem, ⟨2, _⟩ => ⟨S1x16x512, .f32⟩
  | .local _ .vmem, ⟨3, _⟩ => ⟨S1x16x512, .f32⟩
  | .local _ .vmem, ⟨4, _⟩ => ⟨S1x16x512, .f32⟩
  | .local _ .vmem, ⟨5, _⟩ => ⟨S1x16x512, .f32⟩
  | .local _ .vmem, ⟨6, _⟩ => ⟨S1x512x512, .f32⟩
  | .local _ .vmem, ⟨7, _⟩ => ⟨S1x512x512, .f32⟩
  | .local _ .vmem, ⟨8, _⟩ => ⟨S32x512, .f32⟩
  | .local _ .vmem, ⟨9, _⟩ => ⟨S1x512, .f32⟩
  | .local _ .vmem, ⟨10, _⟩ => ⟨S544x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference11Ideal.lean ====
abbrev S4x2048x512 : Shape := ⟨3, ![4, 2048, 512]⟩
abbrev S32x512 : Shape := ⟨2, ![32, 512]⟩
abbrev S512 : Shape := ⟨1, ![512]⟩
abbrev S4x15x512 : Shape := ⟨3, ![4, 15, 512]⟩
abbrev S_ : Shape := ⟨0, ![]⟩
abbrev S4x2078x512 : Shape := ⟨3, ![4, 2078, 512]⟩
abbrev S1x512 : Shape := ⟨2, ![1, 512]⟩
abbrev S1x1x512 : Shape := ⟨3, ![1, 1, 512]⟩

abbrev nBuf : Space → Nat
  | .hbm => 543
  | .vmem => 0
  | .smem => 0
  | _ => 0

abbrev hbmTy0_0 (i : Nat) : BufTy := match i % 128 with
  | 0 => ⟨S4x2048x512, .f32⟩
  | 1 => ⟨S32x512, .f32⟩
  | 2 => ⟨S512, .f32⟩
  | 3 => ⟨S4x2048x512, .f32⟩
  | 4 => ⟨S4x15x512, .f32⟩
  | 5 => ⟨S_, .f32⟩
  | 6 => ⟨S4x15x512, .f32⟩
  | 7 => ⟨S4x2078x512, .f32⟩
  | 8 => ⟨S4x2048x512, .f32⟩
  | 9 => ⟨S1x512, .f32⟩
  | 10 => ⟨S512, .f32⟩
  | 11 => ⟨S1x1x512, .f32⟩
  | 12 => ⟨S4x2048x512, .f32⟩
  | 13 => ⟨S4x2048x512, .f32⟩
  | 14 => ⟨S4x2048x512, .f32⟩
  | 15 => ⟨S1x512, .f32⟩
  | 16 => ⟨S512, .f32⟩
  | 17 => ⟨S1x1x512, .f32⟩
  | 18 => ⟨S4x2048x512, .f32⟩
  | 19 => ⟨S4x2048x512, .f32⟩
  | 20 => ⟨S4x2048x512, .f32⟩
  | 21 => ⟨S4x2048x512, .f32⟩
  | 22 => ⟨S1x512, .f32⟩
  | 23 => ⟨S512, .f32⟩
  | 24 => ⟨S1x1x512, .f32⟩
  | 25 => ⟨S4x2048x512, .f32⟩
  | 26 => ⟨S4x2048x512, .f32⟩
  | 27 => ⟨S4x2048x512, .f32⟩
  | 28 => ⟨S4x2048x512, .f32⟩
  | 29 => ⟨S1x512, .f32⟩
  | 30 => ⟨S512, .f32⟩
  | 31 => ⟨S1x1x512, .f32⟩
  | 32 => ⟨S4x2048x512, .f32⟩
  | 33 => ⟨S4x2048x512, .f32⟩
  | 34 => ⟨S4x2048x512, .f32⟩
  | 35 => ⟨S4x2048x512, .f32⟩
  | 36 => ⟨S1x512, .f32⟩
  | 37 => ⟨S512, .f32⟩
  | 38 => ⟨S1x1x512, .f32⟩
  | 39 => ⟨S4x2048x512, .f32⟩
  | 40 => ⟨S4x2048x512, .f32⟩
  | 41 => ⟨S4x2048x512, .f32⟩
  | 42 => ⟨S4x2048x512, .f32⟩
  | 43 => ⟨S1x512, .f32⟩
  | 44 => ⟨S512, .f32⟩
  | 45 => ⟨S1x1x512, .f32⟩
  | 46 => ⟨S4x2048x512, .f32⟩
  | 47 => ⟨S4x2048x512, .f32⟩
  | 48 => ⟨S4x2048x512, .f32⟩
  | 49 => ⟨S4x2048x512, .f32⟩
  | 50 => ⟨S1x512, .f32⟩
  | 51 => ⟨S512, .f32⟩
  | 52 => ⟨S1x1x512, .f32⟩
  | 53 => ⟨S4x2048x512, .f32⟩
  | 54 => ⟨S4x2048x512, .f32⟩
  | 55 => ⟨S4x2048x512, .f32⟩
  | 56 => ⟨S4x2048x512, .f32⟩
  | 57 => ⟨S1x512, .f32⟩
  | 58 => ⟨S512, .f32⟩
  | 59 => ⟨S1x1x512, .f32⟩
  | 60 => ⟨S4x2048x512, .f32⟩
  | 61 => ⟨S4x2048x512, .f32⟩
  | 62 => ⟨S4x2048x512, .f32⟩
  | 63 => ⟨S4x2048x512, .f32⟩
  | 64 => ⟨S1x512, .f32⟩
  | 65 => ⟨S512, .f32⟩
  | 66 => ⟨S1x1x512, .f32⟩
  | 67 => ⟨S4x2048x512, .f32⟩
  | 68 => ⟨S4x2048x512, .f32⟩
  | 69 => ⟨S4x2048x512, .f32⟩
  | 70 => ⟨S4x2048x512, .f32⟩
  | 71 => ⟨S1x512, .f32⟩
  | 72 => ⟨S512, .f32⟩
  | 73 => ⟨S1x1x512, .f32⟩
  | 74 => ⟨S4x2048x512, .f32⟩
  | 75 => ⟨S4x2048x512, .f32⟩
  | 76 => ⟨S4x2048x512, .f32⟩
  | 77 => ⟨S4x2048x512, .f32⟩
  | 78 => ⟨S1x512, .f32⟩
  | 79 => ⟨S512, .f32⟩
  | 80 => ⟨S1x1x512, .f32⟩
  | 81 => ⟨S4x2048x512, .f32⟩
  | 82 => ⟨S4x2048x512, .f32⟩
  | 83 => ⟨S4x2048x512, .f32⟩
  | 84 => ⟨S4x2048x512, .f32⟩
  | 85 => ⟨S1x512, .f32⟩
  | 86 => ⟨S512, .f32⟩
  | 87 => ⟨S1x1x512, .f32⟩
  | 88 => ⟨S4x2048x512, .f32⟩
  | 89 => ⟨S4x2048x512, .f32⟩
  | 90 => ⟨S4x2048x512, .f32⟩
  | 91 => ⟨S4x2048x512, .f32⟩
  | 92 => ⟨S1x512, .f32⟩
  | 93 => ⟨S512, .f32⟩
  | 94 => ⟨S1x1x512, .f32⟩
  | 95 => ⟨S4x2048x512, .f32⟩
  | 96 => ⟨S4x2048x512, .f32⟩
  | 97 => ⟨S4x2048x512, .f32⟩
  | 98 => ⟨S4x2048x512, .f32⟩
  | 99 => ⟨S1x512, .f32⟩
  | 100 => ⟨S512, .f32⟩
  | 101 => ⟨S1x1x512, .f32⟩
  | 102 => ⟨S4x2048x512, .f32⟩
  | 103 => ⟨S4x2048x512, .f32⟩
  | 104 => ⟨S4x2048x512, .f32⟩
  | 105 => ⟨S4x2048x512, .f32⟩
  | 106 => ⟨S1x512, .f32⟩
  | 107 => ⟨S512, .f32⟩
  | 108 => ⟨S1x1x512, .f32⟩
  | 109 => ⟨S4x2048x512, .f32⟩
  | 110 => ⟨S4x2048x512, .f32⟩
  | 111 => ⟨S4x2048x512, .f32⟩
  | 112 => ⟨S4x2048x512, .f32⟩
  | 113 => ⟨S1x512, .f32⟩
  | 114 => ⟨S512, .f32⟩
  | 115 => ⟨S1x1x512, .f32⟩
  | 116 => ⟨S4x2048x512, .f32⟩
  | 117 => ⟨S4x2048x512, .f32⟩
  | 118 => ⟨S4x2048x512, .f32⟩
  | 119 => ⟨S4x2048x512, .f32⟩
  | 120 => ⟨S1x512, .f32⟩
  | 121 => ⟨S512, .f32⟩
  | 122 => ⟨S1x1x512, .f32⟩
  | 123 => ⟨S4x2048x512, .f32⟩
  | 124 => ⟨S4x2048x512, .f32⟩
  | 125 => ⟨S4x2048x512, .f32⟩
  | 126 => ⟨S4x2048x512, .f32⟩
  | 127 => ⟨S1x512, .f32⟩
  | _ => ⟨S4x2048x512, .f32⟩

abbrev hbmTy0_1 (i : Nat) : BufTy := match i % 128 with
  | 0 => ⟨S512, .f32⟩
  | 1 => ⟨S1x1x512, .f32⟩
  | 2 => ⟨S4x2048x512, .f32⟩
  | 3 => ⟨S4x2048x512, .f32⟩
  | 4 => ⟨S4x2048x512, .f32⟩
  | 5 => ⟨S4x2048x512, .f32⟩
  | 6 => ⟨S1x512, .f32⟩
  | 7 => ⟨S512, .f32⟩
  | 8 => ⟨S1x1x512, .f32⟩
  | 9 => ⟨S4x2048x512, .f32⟩
  | 10 => ⟨S4x2048x512, .f32⟩
  | 11 => ⟨S4x2048x512, .f32⟩
  | 12 => ⟨S4x2048x512, .f32⟩
  | 13 => ⟨S1x512, .f32⟩
  | 14 => ⟨S512, .f32⟩
  | 15 => ⟨S1x1x512, .f32⟩
  | 16 => ⟨S4x2048x512, .f32⟩
  | 17 => ⟨S4x2048x512, .f32⟩
  | 18 => ⟨S4x2048x512, .f32⟩
  | 19 => ⟨S4x2048x512, .f32⟩
  | 20 => ⟨S1x512, .f32⟩
  | 21 => ⟨S512, .f32⟩
  | 22 => ⟨S1x1x512, .f32⟩
  | 23 => ⟨S4x2048x512, .f32⟩
  | 24 => ⟨S4x2048x512, .f32⟩
  | 25 => ⟨S4x2048x512, .f32⟩
  | 26 => ⟨S4x2048x512, .f32⟩
  | 27 => ⟨S1x512, .f32⟩
  | 28 => ⟨S512, .f32⟩
  | 29 => ⟨S1x1x512, .f32⟩
  | 30 => ⟨S4x2048x512, .f32⟩
  | 31 => ⟨S4x2048x512, .f32⟩
  | 32 => ⟨S4x2048x512, .f32⟩
  | 33 => ⟨S4x2048x512, .f32⟩
  | 34 => ⟨S1x512, .f32⟩
  | 35 => ⟨S512, .f32⟩
  | 36 => ⟨S1x1x512, .f32⟩
  | 37 => ⟨S4x2048x512, .f32⟩
  | 38 => ⟨S4x2048x512, .f32⟩
  | 39 => ⟨S4x2048x512, .f32⟩
  | 40 => ⟨S4x2048x512, .f32⟩
  | 41 => ⟨S1x512, .f32⟩
  | 42 => ⟨S512, .f32⟩
  | 43 => ⟨S1x1x512, .f32⟩
  | 44 => ⟨S4x2048x512, .f32⟩
  | 45 => ⟨S4x2048x512, .f32⟩
  | 46 => ⟨S4x2048x512, .f32⟩
  | 47 => ⟨S4x2048x512, .f32⟩
  | 48 => ⟨S1x512, .f32⟩
  | 49 => ⟨S512, .f32⟩
  | 50 => ⟨S1x1x512, .f32⟩
  | 51 => ⟨S4x2048x512, .f32⟩
  | 52 => ⟨S4x2048x512, .f32⟩
  | 53 => ⟨S4x2048x512, .f32⟩
  | 54 => ⟨S4x2048x512, .f32⟩
  | 55 => ⟨S1x512, .f32⟩
  | 56 => ⟨S512, .f32⟩
  | 57 => ⟨S1x1x512, .f32⟩
  | 58 => ⟨S4x2048x512, .f32⟩
  | 59 => ⟨S4x2048x512, .f32⟩
  | 60 => ⟨S4x2048x512, .f32⟩
  | 61 => ⟨S4x2048x512, .f32⟩
  | 62 => ⟨S1x512, .f32⟩
  | 63 => ⟨S512, .f32⟩
  | 64 => ⟨S1x1x512, .f32⟩
  | 65 => ⟨S4x2048x512, .f32⟩
  | 66 => ⟨S4x2048x512, .f32⟩
  | 67 => ⟨S4x2048x512, .f32⟩
  | 68 => ⟨S4x2048x512, .f32⟩
  | 69 => ⟨S1x512, .f32⟩
  | 70 => ⟨S512, .f32⟩
  | 71 => ⟨S1x1x512, .f32⟩
  | 72 => ⟨S4x2048x512, .f32⟩
  | 73 => ⟨S4x2048x512, .f32⟩
  | 74 => ⟨S4x2048x512, .f32⟩
  | 75 => ⟨S4x2048x512, .f32⟩
  | 76 => ⟨S1x512, .f32⟩
  | 77 => ⟨S512, .f32⟩
  | 78 => ⟨S1x1x512, .f32⟩
  | 79 => ⟨S4x2048x512, .f32⟩
  | 80 => ⟨S4x2048x512, .f32⟩
  | 81 => ⟨S4x2048x512, .f32⟩
  | 82 => ⟨S4x2048x512, .f32⟩
  | 83 => ⟨S1x512, .f32⟩
  | 84 => ⟨S512, .f32⟩
  | 85 => ⟨S1x1x512, .f32⟩
  | 86 => ⟨S4x2048x512, .f32⟩
  | 87 => ⟨S4x2048x512, .f32⟩
  | 88 => ⟨S4x2048x512, .f32⟩
  | 89 => ⟨S4x2048x512, .f32⟩
  | 90 => ⟨S1x512, .f32⟩
  | 91 => ⟨S512, .f32⟩
  | 92 => ⟨S1x1x512, .f32⟩
  | 93 => ⟨S4x2048x512, .f32⟩
  | 94 => ⟨S4x2048x512, .f32⟩
  | 95 => ⟨S4x2048x512, .f32⟩
  | 96 => ⟨S1x1x512, .f32⟩
  | 97 => ⟨S4x2048x512, .f32⟩
  | 98 => ⟨S4x2048x512, .f32⟩
  | 99 => ⟨S4x2048x512, .f32⟩
  | 100 => ⟨S_, .f32⟩
  | 101 => ⟨S512, .f32⟩
  | 102 => ⟨S1x1x512, .f32⟩
  | 103 => ⟨S_, .f32⟩
  | 104 => ⟨S512, .f32⟩
  | 105 => ⟨S4x2048x512, .f32⟩
  | 106 => ⟨S_, .f32⟩
  | 107 => ⟨S512, .f32⟩
  | 108 => ⟨S1x1x512, .f32⟩
  | 109 => ⟨S_, .f32⟩
  | 110 => ⟨S512, .f32⟩
  | 111 => ⟨S1x512, .f32⟩
  | 112 => ⟨S_, .f32⟩
  | 113 => ⟨S32x512, .f32⟩
  | 114 => ⟨S4x2048x512, .f32⟩
  | 115 => ⟨S_, .f32⟩
  | 116 => ⟨S512, .f32⟩
  | 117 => ⟨S1x1x512, .f32⟩
  | 118 => ⟨S_, .f32⟩
  | 119 => ⟨S512, .f32⟩
  | 120 => ⟨S1x512, .f32⟩
  | 121 => ⟨S_, .f32⟩
  | 122 => ⟨S32x512, .f32⟩
  | 123 => ⟨S32x512, .f32⟩
  | 124 => ⟨S4x2048x512, .f32⟩
  | 125 => ⟨S_, .f32⟩
  | 126 => ⟨S512, .f32⟩
  | 127 => ⟨S1x1x512, .f32⟩
  | _ => ⟨S4x2048x512, .f32⟩

abbrev hbmTy0_2 (i : Nat) : BufTy := match i % 128 with
  | 0 => ⟨S_, .f32⟩
  | 1 => ⟨S512, .f32⟩
  | 2 => ⟨S1x512, .f32⟩
  | 3 => ⟨S_, .f32⟩
  | 4 => ⟨S32x512, .f32⟩
  | 5 => ⟨S32x512, .f32⟩
  | 6 => ⟨S4x2048x512, .f32⟩
  | 7 => ⟨S_, .f32⟩
  | 8 => ⟨S512, .f32⟩
  | 9 => ⟨S1x1x512, .f32⟩
  | 10 => ⟨S_, .f32⟩
  | 11 => ⟨S512, .f32⟩
  | 12 => ⟨S1x512, .f32⟩
  | 13 => ⟨S_, .f32⟩
  | 14 => ⟨S32x512, .f32⟩
  | 15 => ⟨S32x512, .f32⟩
  | 16 => ⟨S4x2048x512, .f32⟩
  | 17 => ⟨S_, .f32⟩
  | 18 => ⟨S512, .f32⟩
  | 19 => ⟨S1x1x512, .f32⟩
  | 20 => ⟨S_, .f32⟩
  | 21 => ⟨S512, .f32⟩
  | 22 => ⟨S1x512, .f32⟩
  | 23 => ⟨S_, .f32⟩
  | 24 => ⟨S32x512, .f32⟩
  | 25 => ⟨S32x512, .f32⟩
  | 26 => ⟨S4x2048x512, .f32⟩
  | 27 => ⟨S_, .f32⟩
  | 28 => ⟨S512, .f32⟩
  | 29 => ⟨S1x1x512, .f32⟩
  | 30 => ⟨S_, .f32⟩
  | 31 => ⟨S512, .f32⟩
  | 32 => ⟨S1x512, .f32⟩
  | 33 => ⟨S_, .f32⟩
  | 34 => ⟨S32x512, .f32⟩
  | 35 => ⟨S32x512, .f32⟩
  | 36 => ⟨S4x2048x512, .f32⟩
  | 37 => ⟨S_, .f32⟩
  | 38 => ⟨S512, .f32⟩
  | 39 => ⟨S1x1x512, .f32⟩
  | 40 => ⟨S_, .f32⟩
  | 41 => ⟨S512, .f32⟩
  | 42 => ⟨S1x512, .f32⟩
  | 43 => ⟨S_, .f32⟩
  | 44 => ⟨S32x512, .f32⟩
  | 45 => ⟨S32x512, .f32⟩
  | 46 => ⟨S4x2048x512, .f32⟩
  | 47 => ⟨S_, .f32⟩
  | 48 => ⟨S512, .f32⟩
  | 49 => ⟨S1x1x512, .f32⟩
  | 50 => ⟨S_, .f32⟩
  | 51 => ⟨S512, .f32⟩
  | 52 => ⟨S1x512, .f32⟩
  | 53 => ⟨S_, .f32⟩
  | 54 => ⟨S32x512, .f32⟩
  | 55 => ⟨S32x512, .f32⟩
  | 56 => ⟨S4x2048x512, .f32⟩
  | 57 => ⟨S_, .f32⟩
  | 58 => ⟨S512, .f32⟩
  | 59 => ⟨S1x1x512, .f32⟩
  | 60 => ⟨S_, .f32⟩
  | 61 => ⟨S512, .f32⟩
  | 62 => ⟨S1x512, .f32⟩
  | 63 => ⟨S_, .f32⟩
  | 64 => ⟨S32x512, .f32⟩
  | 65 => ⟨S32x512, .f32⟩
  | 66 => ⟨S4x2048x512, .f32⟩
  | 67 => ⟨S_, .f32⟩
  | 68 => ⟨S512, .f32⟩
  | 69 => ⟨S1x1x512, .f32⟩
  | 70 => ⟨S_, .f32⟩
  | 71 => ⟨S512, .f32⟩
  | 72 => ⟨S1x512, .f32⟩
  | 73 => ⟨S_, .f32⟩
  | 74 => ⟨S32x512, .f32⟩
  | 75 => ⟨S32x512, .f32⟩
  | 76 => ⟨S4x2048x512, .f32⟩
  | 77 => ⟨S_, .f32⟩
  | 78 => ⟨S512, .f32⟩
  | 79 => ⟨S1x1x512, .f32⟩
  | 80 => ⟨S_, .f32⟩
  | 81 => ⟨S512, .f32⟩
  | 82 => ⟨S1x512, .f32⟩
  | 83 => ⟨S_, .f32⟩
  | 84 => ⟨S32x512, .f32⟩
  | 85 => ⟨S32x512, .f32⟩
  | 86 => ⟨S4x2048x512, .f32⟩
  | 87 => ⟨S_, .f32⟩
  | 88 => ⟨S512, .f32⟩
  | 89 => ⟨S1x1x512, .f32⟩
  | 90 => ⟨S_, .f32⟩
  | 91 => ⟨S512, .f32⟩
  | 92 => ⟨S1x512, .f32⟩
  | 93 => ⟨S_, .f32⟩
  | 94 => ⟨S32x512, .f32⟩
  | 95 => ⟨S32x512, .f32⟩
  | 96 => ⟨S4x2048x512, .f32⟩
  | 97 => ⟨S_, .f32⟩
  | 98 => ⟨S512, .f32⟩
  | 99 => ⟨S1x1x512, .f32⟩
  | 100 => ⟨S_, .f32⟩
  | 101 => ⟨S512, .f32⟩
  | 102 => ⟨S1x512, .f32⟩
  | 103 => ⟨S_, .f32⟩
  | 104 => ⟨S32x512, .f32⟩
  | 105 => ⟨S32x512, .f32⟩
  | 106 => ⟨S4x2048x512, .f32⟩
  | 107 => ⟨S_, .f32⟩
  | 108 => ⟨S512, .f32⟩
  | 109 => ⟨S1x1x512, .f32⟩
  | 110 => ⟨S_, .f32⟩
  | 111 => ⟨S512, .f32⟩
  | 112 => ⟨S1x512, .f32⟩
  | 113 => ⟨S_, .f32⟩
  | 114 => ⟨S32x512, .f32⟩
  | 115 => ⟨S32x512, .f32⟩
  | 116 => ⟨S4x2048x512, .f32⟩
  | 117 => ⟨S_, .f32⟩
  | 118 => ⟨S512, .f32⟩
  | 119 => ⟨S1x1x512, .f32⟩
  | 120 => ⟨S_, .f32⟩
  | 121 => ⟨S512, .f32⟩
  | 122 => ⟨S1x512, .f32⟩
  | 123 => ⟨S_, .f32⟩
  | 124 => ⟨S32x512, .f32⟩
  | 125 => ⟨S32x512, .f32⟩
  | 126 => ⟨S4x2048x512, .f32⟩
  | 127 => ⟨S_, .f32⟩
  | _ => ⟨S4x2048x512, .f32⟩

abbrev hbmTy0_3 (i : Nat) : BufTy := match i % 128 with
  | 0 => ⟨S512, .f32⟩
  | 1 => ⟨S1x1x512, .f32⟩
  | 2 => ⟨S_, .f32⟩
  | 3 => ⟨S512, .f32⟩
  | 4 => ⟨S1x512, .f32⟩
  | 5 => ⟨S_, .f32⟩
  | 6 => ⟨S32x512, .f32⟩
  | 7 => ⟨S32x512, .f32⟩
  | 8 => ⟨S4x2048x512, .f32⟩
  | 9 => ⟨S_, .f32⟩
  | 10 => ⟨S512, .f32⟩
  | 11 => ⟨S1x1x512, .f32⟩
  | 12 => ⟨S_, .f32⟩
  | 13 => ⟨S512, .f32⟩
  | 14 => ⟨S1x512, .f32⟩
  | 15 => ⟨S_, .f32⟩
  | 16 => ⟨S32x512, .f32⟩
  | 17 => ⟨S32x512, .f32⟩
  | 18 => ⟨S4x2048x512, .f32⟩
  | 19 => ⟨S_, .f32⟩
  | 20 => ⟨S512, .f32⟩
  | 21 => ⟨S1x1x512, .f32⟩
  | 22 => ⟨S_, .f32⟩
  | 23 => ⟨S512, .f32⟩
  | 24 => ⟨S1x512, .f32⟩
  | 25 => ⟨S_, .f32⟩
  | 26 => ⟨S32x512, .f32⟩
  | 27 => ⟨S32x512, .f32⟩
  | 28 => ⟨S4x2048x512, .f32⟩
  | 29 => ⟨S_, .f32⟩
  | 30 => ⟨S512, .f32⟩
  | 31 => ⟨S1x1x512, .f32⟩
  | 32 => ⟨S_, .f32⟩
  | 33 => ⟨S512, .f32⟩
  | 34 => ⟨S1x512, .f32⟩
  | 35 => ⟨S_, .f32⟩
  | 36 => ⟨S32x512, .f32⟩
  | 37 => ⟨S32x512, .f32⟩
  | 38 => ⟨S4x2048x512, .f32⟩
  | 39 => ⟨S_, .f32⟩
  | 40 => ⟨S512, .f32⟩
  | 41 => ⟨S1x1x512, .f32⟩
  | 42 => ⟨S_, .f32⟩
  | 43 => ⟨S512, .f32⟩
  | 44 => ⟨S1x512, .f32⟩
  | 45 => ⟨S_, .f32⟩
  | 46 => ⟨S32x512, .f32⟩
  | 47 => ⟨S32x512, .f32⟩
  | 48 => ⟨S4x2048x512, .f32⟩
  | 49 => ⟨S_, .f32⟩
  | 50 => ⟨S512, .f32⟩
  | 51 => ⟨S1x1x512, .f32⟩
  | 52 => ⟨S_, .f32⟩
  | 53 => ⟨S512, .f32⟩
  | 54 => ⟨S1x512, .f32⟩
  | 55 => ⟨S_, .f32⟩
  | 56 => ⟨S32x512, .f32⟩
  | 57 => ⟨S32x512, .f32⟩
  | 58 => ⟨S4x2048x512, .f32⟩
  | 59 => ⟨S_, .f32⟩
  | 60 => ⟨S512, .f32⟩
  | 61 => ⟨S1x1x512, .f32⟩
  | 62 => ⟨S_, .f32⟩
  | 63 => ⟨S512, .f32⟩
  | 64 => ⟨S1x512, .f32⟩
  | 65 => ⟨S_, .f32⟩
  | 66 => ⟨S32x512, .f32⟩
  | 67 => ⟨S32x512, .f32⟩
  | 68 => ⟨S4x2048x512, .f32⟩
  | 69 => ⟨S_, .f32⟩
  | 70 => ⟨S512, .f32⟩
  | 71 => ⟨S1x1x512, .f32⟩
  | 72 => ⟨S_, .f32⟩
  | 73 => ⟨S512, .f32⟩
  | 74 => ⟨S1x512, .f32⟩
  | 75 => ⟨S_, .f32⟩
  | 76 => ⟨S32x512, .f32⟩
  | 77 => ⟨S32x512, .f32⟩
  | 78 => ⟨S4x2048x512, .f32⟩
  | 79 => ⟨S_, .f32⟩
  | 80 => ⟨S512, .f32⟩
  | 81 => ⟨S1x1x512, .f32⟩
  | 82 => ⟨S_, .f32⟩
  | 83 => ⟨S512, .f32⟩
  | 84 => ⟨S1x512, .f32⟩
  | 85 => ⟨S_, .f32⟩
  | 86 => ⟨S32x512, .f32⟩
  | 87 => ⟨S32x512, .f32⟩
  | 88 => ⟨S4x2048x512, .f32⟩
  | 89 => ⟨S_, .f32⟩
  | 90 => ⟨S512, .f32⟩
  | 91 => ⟨S1x1x512, .f32⟩
  | 92 => ⟨S_, .f32⟩
  | 93 => ⟨S512, .f32⟩
  | 94 => ⟨S1x512, .f32⟩
  | 95 => ⟨S_, .f32⟩
  | 96 => ⟨S32x512, .f32⟩
  | 97 => ⟨S32x512, .f32⟩
  | 98 => ⟨S4x2048x512, .f32⟩
  | 99 => ⟨S_, .f32⟩
  | 100 => ⟨S512, .f32⟩
  | 101 => ⟨S1x1x512, .f32⟩
  | 102 => ⟨S_, .f32⟩
  | 103 => ⟨S512, .f32⟩
  | 104 => ⟨S1x512, .f32⟩
  | 105 => ⟨S_, .f32⟩
  | 106 => ⟨S32x512, .f32⟩
  | 107 => ⟨S32x512, .f32⟩
  | 108 => ⟨S4x2048x512, .f32⟩
  | 109 => ⟨S_, .f32⟩
  | 110 => ⟨S512, .f32⟩
  | 111 => ⟨S1x1x512, .f32⟩
  | 112 => ⟨S_, .f32⟩
  | 113 => ⟨S512, .f32⟩
  | 114 => ⟨S1x512, .f32⟩
  | 115 => ⟨S_, .f32⟩
  | 116 => ⟨S32x512, .f32⟩
  | 117 => ⟨S32x512, .f32⟩
  | 118 => ⟨S4x2048x512, .f32⟩
  | 119 => ⟨S_, .f32⟩
  | 120 => ⟨S512, .f32⟩
  | 121 => ⟨S1x1x512, .f32⟩
  | 122 => ⟨S_, .f32⟩
  | 123 => ⟨S512, .f32⟩
  | 124 => ⟨S1x512, .f32⟩
  | 125 => ⟨S_, .f32⟩
  | 126 => ⟨S32x512, .f32⟩
  | 127 => ⟨S32x512, .f32⟩
  | _ => ⟨S4x2048x512, .f32⟩

abbrev hbmTy0_4 (i : Nat) : BufTy := match i % 128 with
  | 0 => ⟨S4x2048x512, .f32⟩
  | 1 => ⟨S_, .f32⟩
  | 2 => ⟨S512, .f32⟩
  | 3 => ⟨S1x1x512, .f32⟩
  | 4 => ⟨S_, .f32⟩
  | 5 => ⟨S512, .f32⟩
  | 6 => ⟨S1x512, .f32⟩
  | 7 => ⟨S_, .f32⟩
  | 8 => ⟨S32x512, .f32⟩
  | 9 => ⟨S32x512, .f32⟩
  | 10 => ⟨S4x2048x512, .f32⟩
  | 11 => ⟨S_, .f32⟩
  | 12 => ⟨S512, .f32⟩
  | 13 => ⟨S1x1x512, .f32⟩
  | 14 => ⟨S_, .f32⟩
  | 15 => ⟨S512, .f32⟩
  | 16 => ⟨S1x512, .f32⟩
  | 17 => ⟨S_, .f32⟩
  | 18 => ⟨S32x512, .f32⟩
  | 19 => ⟨S32x512, .f32⟩
  | 20 => ⟨S4x2048x512, .f32⟩
  | 21 => ⟨S_, .f32⟩
  | 22 => ⟨S512, .f32⟩
  | 23 => ⟨S1x1x512, .f32⟩
  | 24 => ⟨S_, .f32⟩
  | 25 => ⟨S512, .f32⟩
  | 26 => ⟨S1x512, .f32⟩
  | 27 => ⟨S_, .f32⟩
  | 28 => ⟨S32x512, .f32⟩
  | 29 => ⟨S32x512, .f32⟩
  | 30 => ⟨S1x512, .f32⟩
  | _ => ⟨S4x2048x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_v179 : Ref sig .tc := ⟨.hbm, 184, rfl⟩
abbrev main_v180 : Ref sig .tc := ⟨.hbm, 185, rfl⟩
abbrev main_v181 : Ref sig .tc := ⟨.hbm, 186, rfl⟩
abbrev main_v182 : Ref sig .tc := ⟨.hbm, 187, rfl⟩
abbrev main_v183 : Ref sig .tc := ⟨.hbm, 188, rfl⟩
abbrev main_v184 : Ref sig .tc := ⟨.hbm, 189, rfl⟩
abbrev main_v185 : Ref sig .tc := ⟨.hbm, 190, rfl⟩
abbrev main_v186 : Ref sig .tc := ⟨.hbm, 191, rfl⟩
abbrev main_v187 : Ref sig .tc := ⟨.hbm, 192, rfl⟩
abbrev main_v188 : Ref sig .tc := ⟨.hbm, 193, rfl⟩
abbrev main_v189 : Ref sig .tc := ⟨.hbm, 194, rfl⟩
abbrev main_v190 : Ref sig .tc := ⟨.hbm, 195, rfl⟩
abbrev main_v191 : Ref sig .tc := ⟨.hbm, 196, rfl⟩
abbrev main_v192 : Ref sig .tc := ⟨.hbm, 197, rfl⟩
abbrev main_v193 : Ref sig .tc := ⟨.hbm, 198, rfl⟩
abbrev main_v194 : Ref sig .tc := ⟨.hbm, 199, rfl⟩
abbrev main_v195 : Ref sig .tc := ⟨.hbm, 200, rfl⟩
abbrev main_v196 : Ref sig .tc := ⟨.hbm, 201, rfl⟩
abbrev main_v197 : Ref sig .tc := ⟨.hbm, 202, rfl⟩
abbrev main_v198 : Ref sig .tc := ⟨.hbm, 203, rfl⟩
abbrev main_v199 : Ref sig .tc := ⟨.hbm, 204, rfl⟩
abbrev main_v200 : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩
abbrev main_v205 : Ref sig .tc := ⟨.hbm, 210, rfl⟩
abbrev main_v206 : Ref sig .tc := ⟨.hbm, 211, rfl⟩
abbrev main_v207 : Ref sig .tc := ⟨.hbm, 212, rfl⟩
abbrev main_v208 : Ref sig .tc := ⟨.hbm, 213, rfl⟩
abbrev main_v209 : Ref sig .tc := ⟨.hbm, 214, rfl⟩
abbrev main_v210 : Ref sig .tc := ⟨.hbm, 215, rfl⟩
abbrev main_v211 : Ref sig .tc := ⟨.hbm, 216, rfl⟩
abbrev main_v212 : Ref sig .tc := ⟨.hbm, 217, rfl⟩
abbrev main_v213 : Ref sig .tc := ⟨.hbm, 218, rfl⟩
abbrev main_v214 : Ref sig .tc := ⟨.hbm, 219, rfl⟩
abbrev main_v215 : Ref sig .tc := ⟨.hbm, 220, rfl⟩
abbrev main_v216 : Ref sig .tc := ⟨.hbm, 221, rfl⟩
abbrev main_v217 : Ref sig .tc := ⟨.hbm, 222, rfl⟩
abbrev main_v218 : Ref sig .tc := ⟨.hbm, 223, rfl⟩
abbrev main_v219 : Ref sig .tc := ⟨.hbm, 224, rfl⟩
abbrev main_v220 : Ref sig .tc := ⟨.hbm, 225, rfl⟩
abbrev main_v221 : Ref sig .tc := ⟨.hbm, 226, rfl⟩
abbrev main_v222 : Ref sig .tc := ⟨.hbm, 227, rfl⟩
abbrev main_cst_0 : Ref sig .tc := ⟨.hbm, 228, rfl⟩
abbrev main_v223 : Ref sig .tc := ⟨.hbm, 229, rfl⟩
abbrev main_v224 : Ref sig .tc := ⟨.hbm, 230, rfl⟩
abbrev main_cst_1 : Ref sig .tc := ⟨.hbm, 231, rfl⟩
abbrev main_v225 : Ref sig .tc := ⟨.hbm, 232, rfl⟩
abbrev main_v226 : Ref sig .tc := ⟨.hbm, 233, rfl⟩
abbrev main_cst_2 : Ref sig .tc := ⟨.hbm, 234, rfl⟩
abbrev main_v227 : Ref sig .tc := ⟨.hbm, 235, rfl⟩
abbrev main_v228 : Ref sig .tc := ⟨.hbm, 236, rfl⟩
abbrev main_cst_3 : Ref sig .tc := ⟨.hbm, 237, rfl⟩
abbrev main_v229 : Ref sig .tc := ⟨.hbm, 238, rfl⟩
abbrev main_v230 : Ref sig .tc := ⟨.hbm, 239, rfl⟩
abbrev main_cst_4 : Ref sig .tc := ⟨.hbm, 240, rfl⟩
abbrev main_v231 : Ref sig .tc := ⟨.hbm, 241, rfl⟩
abbrev main_v232 : Ref sig .tc := ⟨.hbm, 242, rfl⟩
abbrev main_cst_5 : Ref sig .tc := ⟨.hbm, 243, rfl⟩
abbrev main_v233 : Ref sig .tc := ⟨.hbm, 244, rfl⟩
abbrev main_v234 : Ref sig .tc := ⟨.hbm, 245, rfl⟩
abbrev main_cst_6 : Ref sig .tc := ⟨.hbm, 246, rfl⟩
abbrev main_v235 : Ref sig .tc := ⟨.hbm, 247, rfl⟩
abbrev main_v236 : Ref sig .tc := ⟨.hbm, 248, rfl⟩
abbrev main_cst_7 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_cst_8 : Ref sig .tc := ⟨.hbm, 253, rfl⟩
abbrev main_v240 : Ref sig .tc := ⟨.hbm, 254, rfl⟩
abbrev main_v241 : Ref sig .tc := ⟨.hbm, 255, rfl⟩
abbrev main_cst_9 : Ref sig .tc := ⟨.hbm, 256, rfl⟩
abbrev main_v242 : Ref sig .tc := ⟨.hbm, 257, rfl⟩
abbrev main_v243 : Ref sig .tc := ⟨.hbm, 258, rfl⟩
abbrev main_cst_10 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_cst_11 : Ref sig .tc := ⟨.hbm, 263, rfl⟩
abbrev main_v247 : Ref sig .tc := ⟨.hbm, 264, rfl⟩
abbrev main_v248 : Ref sig .tc := ⟨.hbm, 265, rfl⟩
abbrev main_cst_12 : Ref sig .tc := ⟨.hbm, 266, rfl⟩
abbrev main_v249 : Ref sig .tc := ⟨.hbm, 267, rfl⟩
abbrev main_v250 : Ref sig .tc := ⟨.hbm, 268, rfl⟩
abbrev main_cst_13 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_cst_14 : Ref sig .tc := ⟨.hbm, 273, rfl⟩
abbrev main_v254 : Ref sig .tc := ⟨.hbm, 274, rfl⟩
abbrev main_v255 : Ref sig .tc := ⟨.hbm, 275, rfl⟩
abbrev main_cst_15 : Ref sig .tc := ⟨.hbm, 276, rfl⟩
abbrev main_v256 : Ref sig .tc := ⟨.hbm, 277, rfl⟩
abbrev main_v257 : Ref sig .tc := ⟨.hbm, 278, rfl⟩
abbrev main_cst_16 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_cst_17 : Ref sig .tc := ⟨.hbm, 283, rfl⟩
abbrev main_v261 : Ref sig .tc := ⟨.hbm, 284, rfl⟩
abbrev main_v262 : Ref sig .tc := ⟨.hbm, 285, rfl⟩
abbrev main_cst_18 : Ref sig .tc := ⟨.hbm, 286, rfl⟩
abbrev main_v263 : Ref sig .tc := ⟨.hbm, 287, rfl⟩
abbrev main_v264 : Ref sig .tc := ⟨.hbm, 288, rfl⟩
abbrev main_cst_19 : Ref sig .tc := ⟨.hbm, 289, rfl⟩
abbrev main_v265 : Ref sig .tc := ⟨.hbm, 290, rfl⟩
abbrev main_v266 : Ref sig .tc := ⟨.hbm, 291, rfl⟩
abbrev main_v267 : Ref sig .tc := ⟨.hbm, 292, rfl⟩
abbrev main_cst_20 : Ref sig .tc := ⟨.hbm, 293, rfl⟩
abbrev main_v268 : Ref sig .tc := ⟨.hbm, 294, rfl⟩
abbrev main_v269 : Ref sig .tc := ⟨.hbm, 295, rfl⟩
abbrev main_cst_21 : Ref sig .tc := ⟨.hbm, 296, rfl⟩
abbrev main_v270 : Ref sig .tc := ⟨.hbm, 297, rfl⟩
abbrev main_v271 : Ref sig .tc := ⟨.hbm, 298, rfl⟩
abbrev main_cst_22 : Ref sig .tc := ⟨.hbm, 299, rfl⟩
abbrev main_v272 : Ref sig .tc := ⟨.hbm, 300, rfl⟩
abbrev main_v273 : Ref sig .tc := ⟨.hbm, 301, rfl⟩
abbrev main_v274 : Ref sig .tc := ⟨.hbm, 302, rfl⟩
abbrev main_cst_23 : Ref sig .tc := ⟨.hbm, 303, rfl⟩
abbrev main_v275 : Ref sig .tc := ⟨.hbm, 304, rfl⟩
abbrev main_v276 : Ref sig .tc := ⟨.hbm, 305, rfl⟩
abbrev main_cst_24 : Ref sig .tc := ⟨.hbm, 306, rfl⟩
abbrev main_v277 : Ref sig .tc := ⟨.hbm, 307, rfl⟩
abbrev main_v278 : Ref sig .tc := ⟨.hbm, 308, rfl⟩
abbrev main_cst_25 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩
abbrev main_cst_26 : Ref sig .tc := ⟨.hbm, 313, rfl⟩
abbrev main_v282 : Ref sig .tc := ⟨.hbm, 314, rfl⟩
abbrev main_v283 : Ref sig .tc := ⟨.hbm, 315, rfl⟩
abbrev main_cst_27 : Ref sig .tc := ⟨.hbm, 316, rfl⟩
abbrev main_v284 : Ref sig .tc := ⟨.hbm, 317, rfl⟩
abbrev main_v285 : Ref sig .tc := ⟨.hbm, 318, rfl⟩
abbrev main_cst_28 : Ref sig .tc := ⟨.hbm, 319, rfl⟩
abbrev main_v286 : Ref sig .tc := ⟨.hbm, 320, rfl⟩
abbrev main_v287 : Ref sig .tc := ⟨.hbm, 321, rfl⟩
abbrev main_v288 : Ref sig .tc := ⟨.hbm, 322, rfl⟩
abbrev main_cst_29 : Ref sig .tc := ⟨.hbm, 323, rfl⟩
abbrev main_v289 : Ref sig .tc := ⟨.hbm, 324, rfl⟩
abbrev main_v290 : Ref sig .tc := ⟨.hbm, 325, rfl⟩
abbrev main_cst_30 : Ref sig .tc := ⟨.hbm, 326, rfl⟩
abbrev main_v291 : Ref sig .tc := ⟨.hbm, 327, rfl⟩
abbrev main_v292 : Ref sig .tc := ⟨.hbm, 328, rfl⟩
abbrev main_cst_31 : Ref sig .tc := ⟨.hbm, 329, rfl⟩
abbrev main_v293 : Ref sig .tc := ⟨.hbm, 330, rfl⟩
abbrev main_v294 : Ref sig .tc := ⟨.hbm, 331, rfl⟩
abbrev main_v295 : Ref sig .tc := ⟨.hbm, 332, rfl⟩
abbrev main_cst_32 : Ref sig .tc := ⟨.hbm, 333, rfl⟩
abbrev main_v296 : Ref sig .tc := ⟨.hbm, 334, rfl⟩
abbrev main_v297 : Ref sig .tc := ⟨.hbm, 335, rfl⟩
abbrev main_cst_33 : Ref sig .tc := ⟨.hbm, 336, rfl⟩
abbrev main_v298 : Ref sig .tc := ⟨.hbm, 337, rfl⟩
abbrev main_v299 : Ref sig .tc := ⟨.hbm, 338, rfl⟩
abbrev main_cst_34 : Ref sig .tc := ⟨.hbm, 339, rfl⟩
abbrev main_v300 : Ref sig .tc := ⟨.hbm, 340, rfl⟩
abbrev main_v301 : Ref sig .tc := ⟨.hbm, 341, rfl⟩
abbrev main_v302 : Ref sig .tc := ⟨.hbm, 342, rfl⟩
abbrev main_cst_35 : Ref sig .tc := ⟨.hbm, 343, rfl⟩
abbrev main_v303 : Ref sig .tc := ⟨.hbm, 344, rfl⟩
abbrev main_v304 : Ref sig .tc := ⟨.hbm, 345, rfl⟩
abbrev main_cst_36 : Ref sig .tc := ⟨.hbm, 346, rfl⟩
abbrev main_v305 : Ref sig .tc := ⟨.hbm, 347, rfl⟩
abbrev main_v306 : Ref sig .tc := ⟨.hbm, 348, rfl⟩
abbrev main_cst_37 : Ref sig .tc := ⟨.hbm, 349, rfl⟩
abbrev main_v307 : Ref sig .tc := ⟨.hbm, 350, rfl⟩
abbrev main_v308 : Ref sig .tc := ⟨.hbm, 351, rfl⟩
abbrev main_v309 : Ref sig .tc := ⟨.hbm, 352, rfl⟩
abbrev main_cst_38 : Ref sig .tc := ⟨.hbm, 353, rfl⟩
abbrev main_v310 : Ref sig .tc := ⟨.hbm, 354, rfl⟩
abbrev main_v311 : Ref sig .tc := ⟨.hbm, 355, rfl⟩
abbrev main_cst_39 : Ref sig .tc := ⟨.hbm, 356, rfl⟩
abbrev main_v312 : Ref sig .tc := ⟨.hbm, 357, rfl⟩
abbrev main_v313 : Ref sig .tc := ⟨.hbm, 358, rfl⟩
abbrev main_cst_40 : Ref sig .tc := ⟨.hbm, 359, rfl⟩
abbrev main_v314 : Ref sig .tc := ⟨.hbm, 360, rfl⟩
abbrev main_v315 : Ref sig .tc := ⟨.hbm, 361, rfl⟩
abbrev main_v316 : Ref sig .tc := ⟨.hbm, 362, rfl⟩
abbrev main_cst_41 : Ref sig .tc := ⟨.hbm, 363, rfl⟩
abbrev main_v317 : Ref sig .tc := ⟨.hbm, 364, rfl⟩
abbrev main_v318 : Ref sig .tc := ⟨.hbm, 365, rfl⟩
abbrev main_cst_42 : Ref sig .tc := ⟨.hbm, 366, rfl⟩
abbrev main_v319 : Ref sig .tc := ⟨.hbm, 367, rfl⟩
abbrev main_v320 : Ref sig .tc := ⟨.hbm, 368, rfl⟩
abbrev main_cst_43 : Ref sig .tc := ⟨.hbm, 369, rfl⟩
abbrev main_v321 : Ref sig .tc := ⟨.hbm, 370, rfl⟩
abbrev main_v322 : Ref sig .tc := ⟨.hbm, 371, rfl⟩
abbrev main_v323 : Ref sig .tc := ⟨.hbm, 372, rfl⟩
abbrev main_cst_44 : Ref sig .tc := ⟨.hbm, 373, rfl⟩
abbrev main_v324 : Ref sig .tc := ⟨.hbm, 374, rfl⟩
abbrev main_v325 : Ref sig .tc := ⟨.hbm, 375, rfl⟩
abbrev main_cst_45 : Ref sig .tc := ⟨.hbm, 376, rfl⟩
abbrev main_v326 : Ref sig .tc := ⟨.hbm, 377, rfl⟩
abbrev main_v327 : Ref sig .tc := ⟨.hbm, 378, rfl⟩
abbrev main_cst_46 : Ref sig .tc := ⟨.hbm, 379, rfl⟩
abbrev main_v328 : Ref sig .tc := ⟨.hbm, 380, rfl⟩
abbrev main_v329 : Ref sig .tc := ⟨.hbm, 381, rfl⟩
abbrev main_v330 : Ref sig .tc := ⟨.hbm, 382, rfl⟩
abbrev main_cst_47 : Ref sig .tc := ⟨.hbm, 383, rfl⟩
abbrev main_v331 : Ref sig .tc := ⟨.hbm, 384, rfl⟩
abbrev main_v332 : Ref sig .tc := ⟨.hbm, 385, rfl⟩
abbrev main_cst_48 : Ref sig .tc := ⟨.hbm, 386, rfl⟩
abbrev main_v333 : Ref sig .tc := ⟨.hbm, 387, rfl⟩
abbrev main_v334 : Ref sig .tc := ⟨.hbm, 388, rfl⟩
abbrev main_cst_49 : Ref sig .tc := ⟨.hbm, 389, rfl⟩
abbrev main_v335 : Ref sig .tc := ⟨.hbm, 390, rfl⟩
abbrev main_v336 : Ref sig .tc := ⟨.hbm, 391, rfl⟩
abbrev main_v337 : Ref sig .tc := ⟨.hbm, 392, rfl⟩
abbrev main_cst_50 : Ref sig .tc := ⟨.hbm, 393, rfl⟩
abbrev main_v338 : Ref sig .tc := ⟨.hbm, 394, rfl⟩
abbrev main_v339 : Ref sig .tc := ⟨.hbm, 395, rfl⟩
abbrev main_cst_51 : Ref sig .tc := ⟨.hbm, 396, rfl⟩
abbrev main_v340 : Ref sig .tc := ⟨.hbm, 397, rfl⟩
abbrev main_v341 : Ref sig .tc := ⟨.hbm, 398, rfl⟩
abbrev main_cst_52 : Ref sig .tc := ⟨.hbm, 399, rfl⟩
abbrev main_v342 : Ref sig .tc := ⟨.hbm, 400, rfl⟩
abbrev main_v343 : Ref sig .tc := ⟨.hbm, 401, rfl⟩
abbrev main_v344 : Ref sig .tc := ⟨.hbm, 402, rfl⟩
abbrev main_cst_53 : Ref sig .tc := ⟨.hbm, 403, rfl⟩
abbrev main_v345 : Ref sig .tc := ⟨.hbm, 404, rfl⟩
abbrev main_v346 : Ref sig .tc := ⟨.hbm, 405, rfl⟩
abbrev main_cst_54 : Ref sig .tc := ⟨.hbm, 406, rfl⟩
abbrev main_v347 : Ref sig .tc := ⟨.hbm, 407, rfl⟩
abbrev main_v348 : Ref sig .tc := ⟨.hbm, 408, rfl⟩
abbrev main_cst_55 : Ref sig .tc := ⟨.hbm, 409, rfl⟩
abbrev main_v349 : Ref sig .tc := ⟨.hbm, 410, rfl⟩
abbrev main_v350 : Ref sig .tc := ⟨.hbm, 411, rfl⟩
abbrev main_v351 : Ref sig .tc := ⟨.hbm, 412, rfl⟩
abbrev main_cst_56 : Ref sig .tc := ⟨.hbm, 413, rfl⟩
abbrev main_v352 : Ref sig .tc := ⟨.hbm, 414, rfl⟩
abbrev main_v353 : Ref sig .tc := ⟨.hbm, 415, rfl⟩
abbrev main_cst_57 : Ref sig .tc := ⟨.hbm, 416, rfl⟩
abbrev main_v354 : Ref sig .tc := ⟨.hbm, 417, rfl⟩
abbrev main_v355 : Ref sig .tc := ⟨.hbm, 418, rfl⟩
abbrev main_cst_58 : Ref sig .tc := ⟨.hbm, 419, rfl⟩
abbrev main_v356 : Ref sig .tc := ⟨.hbm, 420, rfl⟩
abbrev main_v357 : Ref sig .tc := ⟨.hbm, 421, rfl⟩
abbrev main_v358 : Ref sig .tc := ⟨.hbm, 422, rfl⟩
abbrev main_cst_59 : Ref sig .tc := ⟨.hbm, 423, rfl⟩
abbrev main_v359 : Ref sig .tc := ⟨.hbm, 424, rfl⟩
abbrev main_v360 : Ref sig .tc := ⟨.hbm, 425, rfl⟩
abbrev main_cst_60 : Ref sig .tc := ⟨.hbm, 426, rfl⟩
abbrev main_v361 : Ref sig .tc := ⟨.hbm, 427, rfl⟩
abbrev main_v362 : Ref sig .tc := ⟨.hbm, 428, rfl⟩
abbrev main_cst_61 : Ref sig .tc := ⟨.hbm, 429, rfl⟩
abbrev main_v363 : Ref sig .tc := ⟨.hbm, 430, rfl⟩
abbrev main_v364 : Ref sig .tc := ⟨.hbm, 431, rfl⟩
abbrev main_v365 : Ref sig .tc := ⟨.hbm, 432, rfl⟩
abbrev main_cst_62 : Ref sig .tc := ⟨.hbm, 433, rfl⟩
abbrev main_v366 : Ref sig .tc := ⟨.hbm, 434, rfl⟩
abbrev main_v367 : Ref sig .tc := ⟨.hbm, 435, rfl⟩
abbrev main_cst_63 : Ref sig .tc := ⟨.hbm, 436, rfl⟩
abbrev main_v368 : Ref sig .tc := ⟨.hbm, 437, rfl⟩
abbrev main_v369 : Ref sig .tc := ⟨.hbm, 438, rfl⟩
abbrev main_cst_64 : Ref sig .tc := ⟨.hbm, 439, rfl⟩
abbrev main_v370 : Ref sig .tc := ⟨.hbm, 440, rfl⟩
abbrev main_v371 : Ref sig .tc := ⟨.hbm, 441, rfl⟩
abbrev main_v372 : Ref sig .tc := ⟨.hbm, 442, rfl⟩
abbrev main_cst_65 : Ref sig .tc := ⟨.hbm, 443, rfl⟩
abbrev main_v373 : Ref sig .tc := ⟨.hbm, 444, rfl⟩
abbrev main_v374 : Ref sig .tc := ⟨.hbm, 445, rfl⟩
abbrev main_cst_66 : Ref sig .tc := ⟨.hbm, 446, rfl⟩
abbrev main_v375 : Ref sig .tc := ⟨.hbm, 447, rfl⟩
abbrev main_v376 : Ref sig .tc := ⟨.hbm, 448, rfl⟩
abbrev main_cst_67 : Ref sig .tc := ⟨.hbm, 449, rfl⟩
abbrev main_v377 : Ref sig .tc := ⟨.hbm, 450, rfl⟩
abbrev main_v378 : Ref sig .tc := ⟨.hbm, 451, rfl⟩
abbrev main_v379 : Ref sig .tc := ⟨.hbm, 452, rfl⟩
abbrev main_cst_68 : Ref sig .tc := ⟨.hbm, 453, rfl⟩
abbrev main_v380 : Ref sig .tc := ⟨.hbm, 454, rfl⟩
abbrev main_v381 : Ref sig .tc := ⟨.hbm, 455, rfl⟩
abbrev main_cst_69 : Ref sig .tc := ⟨.hbm, 456, rfl⟩
abbrev main_v382 : Ref sig .tc := ⟨.hbm, 457, rfl⟩
abbrev main_v383 : Ref sig .tc := ⟨.hbm, 458, rfl⟩
abbrev main_cst_70 : Ref sig .tc := ⟨.hbm, 459, rfl⟩
abbrev main_v384 : Ref sig .tc := ⟨.hbm, 460, rfl⟩
abbrev main_v385 : Ref sig .tc := ⟨.hbm, 461, rfl⟩
abbrev main_v386 : Ref sig .tc := ⟨.hbm, 462, rfl⟩
abbrev main_cst_71 : Ref sig .tc := ⟨.hbm, 463, rfl⟩
abbrev main_v387 : Ref sig .tc := ⟨.hbm, 464, rfl⟩
abbrev main_v388 : Ref sig .tc := ⟨.hbm, 465, rfl⟩
abbrev main_cst_72 : Ref sig .tc := ⟨.hbm, 466, rfl⟩
abbrev main_v389 : Ref sig .tc := ⟨.hbm, 467, rfl⟩
abbrev main_v390 : Ref sig .tc := ⟨.hbm, 468, rfl⟩
abbrev main_cst_73 : Ref sig .tc := ⟨.hbm, 469, rfl⟩
abbrev main_v391 : Ref sig .tc := ⟨.hbm, 470, rfl⟩
abbrev main_v392 : Ref sig .tc := ⟨.hbm, 471, rfl⟩
abbrev main_v393 : Ref sig .tc := ⟨.hbm, 472, rfl⟩
abbrev main_cst_74 : Ref sig .tc := ⟨.hbm, 473, rfl⟩
abbrev main_v394 : Ref sig .tc := ⟨.hbm, 474, rfl⟩
abbrev main_v395 : Ref sig .tc := ⟨.hbm, 475, rfl⟩
abbrev main_cst_75 : Ref sig .tc := ⟨.hbm, 476, rfl⟩
abbrev main_v396 : Ref sig .tc := ⟨.hbm, 477, rfl⟩
abbrev main_v397 : Ref sig .tc := ⟨.hbm, 478, rfl⟩
abbrev main_cst_76 : Ref sig .tc := ⟨.hbm, 479, rfl⟩
abbrev main_v398 : Ref sig .tc := ⟨.hbm, 480, rfl⟩
abbrev main_v399 : Ref sig .tc := ⟨.hbm, 481, rfl⟩
abbrev main_v400 : Ref sig .tc := ⟨.hbm, 482, rfl⟩
abbrev main_cst_77 : Ref sig .tc := ⟨.hbm, 483, rfl⟩
abbrev main_v401 : Ref sig .tc := ⟨.hbm, 484, rfl⟩
abbrev main_v402 : Ref sig .tc := ⟨.hbm, 485, rfl⟩
abbrev main_cst_78 : Ref sig .tc := ⟨.hbm, 486, rfl⟩
abbrev main_v403 : Ref sig .tc := ⟨.hbm, 487, rfl⟩
abbrev main_v404 : Ref sig .tc := ⟨.hbm, 488, rfl⟩
abbrev main_cst_79 : Ref sig .tc := ⟨.hbm, 489, rfl⟩
abbrev main_v405 : Ref sig .tc := ⟨.hbm, 490, rfl⟩
abbrev main_v406 : Ref sig .tc := ⟨.hbm, 491, rfl⟩
abbrev main_v407 : Ref sig .tc := ⟨.hbm, 492, rfl⟩
abbrev main_cst_80 : Ref sig .tc := ⟨.hbm, 493, rfl⟩
abbrev main_v408 : Ref sig .tc := ⟨.hbm, 494, rfl⟩
abbrev main_v409 : Ref sig .tc := ⟨.hbm, 495, rfl⟩
abbrev main_cst_81 : Ref sig .tc := ⟨.hbm, 496, rfl⟩
abbrev main_v410 : Ref sig .tc := ⟨.hbm, 497, rfl⟩
abbrev main_v411 : Ref sig .tc := ⟨.hbm, 498, rfl⟩
abbrev main_cst_82 : Ref sig .tc := ⟨.hbm, 499, rfl⟩
abbrev main_v412 : Ref sig .tc := ⟨.hbm, 500, rfl⟩
abbrev main_v413 : Ref sig .tc := ⟨.hbm, 501, rfl⟩
abbrev main_v414 : Ref sig .tc := ⟨.hbm, 502, rfl⟩
abbrev main_cst_83 : Ref sig .tc := ⟨.hbm, 503, rfl⟩
abbrev main_v415 : Ref sig .tc := ⟨.hbm, 504, rfl⟩
abbrev main_v416 : Ref sig .tc := ⟨.hbm, 505, rfl⟩
abbrev main_cst_84 : Ref sig .tc := ⟨.hbm, 506, rfl⟩
abbrev main_v417 : Ref sig .tc := ⟨.hbm, 507, rfl⟩
abbrev main_v418 : Ref sig .tc := ⟨.hbm, 508, rfl⟩
abbrev main_cst_85 : Ref sig .tc := ⟨.hbm, 509, rfl⟩
abbrev main_v419 : Ref sig .tc := ⟨.hbm, 510, rfl⟩
abbrev main_v420 : Ref sig .tc := ⟨.hbm, 511, rfl⟩
abbrev main_v421 : Ref sig .tc := ⟨.hbm, 512, rfl⟩
abbrev main_cst_86 : Ref sig .tc := ⟨.hbm, 513, rfl⟩
abbrev main_v422 : Ref sig .tc := ⟨.hbm, 514, rfl⟩
abbrev main_v423 : Ref sig .tc := ⟨.hbm, 515, rfl⟩
abbrev main_cst_87 : Ref sig .tc := ⟨.hbm, 516, rfl⟩
abbrev main_v424 : Ref sig .tc := ⟨.hbm, 517, rfl⟩
abbrev main_v425 : Ref sig .tc := ⟨.hbm, 518, rfl⟩
abbrev main_cst_88 : Ref sig .tc := ⟨.hbm, 519, rfl⟩
abbrev main_v426 : Ref sig .tc := ⟨.hbm, 520, rfl⟩
abbrev main_v427 : Ref sig .tc := ⟨.hbm, 521, rfl⟩
abbrev main_v428 : Ref sig .tc := ⟨.hbm, 522, rfl⟩
abbrev main_cst_89 : Ref sig .tc := ⟨.hbm, 523, rfl⟩
abbrev main_v429 : Ref sig .tc := ⟨.hbm, 524, rfl⟩
abbrev main_v430 : Ref sig .tc := ⟨.hbm, 525, rfl⟩
abbrev main_cst_90 : Ref sig .tc := ⟨.hbm, 526, rfl⟩
abbrev main_v431 : Ref sig .tc := ⟨.hbm, 527, rfl⟩
abbrev main_v432 : Ref sig .tc := ⟨.hbm, 528, rfl⟩
abbrev main_cst_91 : Ref sig .tc := ⟨.hbm, 529, rfl⟩
abbrev main_v433 : Ref sig .tc := ⟨.hbm, 530, rfl⟩
abbrev main_v434 : Ref sig .tc := ⟨.hbm, 531, rfl⟩
abbrev main_v435 : Ref sig .tc := ⟨.hbm, 532, rfl⟩
abbrev main_cst_92 : Ref sig .tc := ⟨.hbm, 533, rfl⟩
abbrev main_v436 : Ref sig .tc := ⟨.hbm, 534, rfl⟩
abbrev main_v437 : Ref sig .tc := ⟨.hbm, 535, rfl⟩
abbrev main_cst_93 : Ref sig .tc := ⟨.hbm, 536, rfl⟩
abbrev main_v438 : Ref sig .tc := ⟨.hbm, 537, rfl⟩
abbrev main_v439 : Ref sig .tc := ⟨.hbm, 538, rfl⟩
abbrev main_cst_94 : Ref sig .tc := ⟨.hbm, 539, rfl⟩
abbrev main_v440 : Ref sig .tc := ⟨.hbm, 540, rfl⟩
abbrev main_v441 : Ref sig .tc := ⟨.hbm, 541, rfl⟩
abbrev main_v442 : Ref sig .tc := ⟨.hbm, 542, rfl⟩

abbrev nD : Nat := 1
abbrev τ : Topo := Topo.v7x

variable {F : FTy → Type} [FloatOps F]
-- ==== Kernel13.lean ====
abbrev S8192x512 : Shape := ⟨2, ![8192, 512]⟩
abbrev S512 : Shape := ⟨1, ![512]⟩
abbrev S8192x1024 : Shape := ⟨2, ![8192, 1024]⟩
abbrev S1x512 : Shape := ⟨2, ![1, 512]⟩
abbrev S256x512 : Shape := ⟨2, ![256, 512]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S512, .f32⟩
  | .hbm, ⟨2, _⟩ => ⟨S512, .f32⟩
  | .hbm, ⟨3, _⟩ => ⟨S8192x1024, .f32⟩
  | .hbm, ⟨4, _⟩ => ⟨S1x512, .f32⟩
  | .hbm, ⟨5, _⟩ => ⟨S1x512, .f32⟩
  | .hbm, ⟨6, _⟩ => ⟨S8192x512, .f32⟩
  | .hbm, ⟨7, _⟩ => ⟨S1x512, .f32⟩
  | .hbm, ⟨8, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S8192x512 : Shape := ⟨2, ![8192, 512]⟩
abbrev S512 : Shape := ⟨1, ![512]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 104
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512, .f32⟩
  | .hbm, ⟨2, _⟩ => ⟨S512, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x512, .f32⟩
  | .hbm, ⟨33, _⟩ => ⟨S8192x512, .f32⟩
  | .hbm, ⟨34, _⟩ => ⟨S1x512, .f32⟩
  | .hbm, ⟨35, _⟩ => ⟨S8192x512, .f32⟩
  | .hbm, ⟨36, _⟩ => ⟨S8192x512, .f32⟩
  | .hbm, ⟨37, _⟩ => ⟨S1x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S_, .f32⟩
  | .hbm, ⟨62, _⟩ => ⟨S512, .f32⟩
  | .hbm, ⟨63, _⟩ => ⟨S8192x512, .f32⟩
  | .hbm, ⟨64, _⟩ => ⟨S_, .f32⟩
  | .hbm, ⟨65, _⟩ => ⟨S512, .f32⟩
  | .hbm, ⟨66, _⟩ => ⟨S1x512, .f32⟩
  | .hbm, ⟨67, _⟩ => ⟨S8192x512, .f32⟩
  | .hbm, ⟨68, _⟩ => ⟨S8192x512, .f32⟩
  | .hbm, ⟨69, _⟩ => ⟨S_, .f32⟩
  | .hbm, ⟨70, _⟩ => ⟨S512, .f32⟩
  | .hbm, ⟨71, _⟩ => ⟨S8192x512, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x512, .f32⟩
  | .hbm, ⟨76, _⟩ => ⟨S8192x512, .f32⟩
  | .hbm, ⟨77, _⟩ => ⟨S8192x1, .f32⟩
  | .hbm, ⟨78, _⟩ => ⟨S8192x512, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S8192x512, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x512, .f32⟩
  | .hbm, ⟨101, _⟩ => ⟨S8192x512, .f32⟩
  | .hbm, ⟨102, _⟩ => ⟨S1x512, .f32⟩
  | .hbm, ⟨103, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v29_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v29_1 : Ref sig .tc := ⟨.hbm, 51, rfl⟩
abbrev main_v29_0 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_v50 : Ref sig .tc := ⟨.hbm, 83, rfl⟩
abbrev main_v51 : Ref sig .tc := ⟨.hbm, 84, rfl⟩
abbrev main_cst_13 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_14 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_15 : Ref sig .tc := ⟨.hbm, 95, rfl⟩
abbrev main_v60 : Ref sig .tc := ⟨.hbm, 96, rfl⟩
abbrev main_v61 : Ref sig .tc := ⟨.hbm, 97, rfl⟩
abbrev main_cst_16 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]
-- ==== Kernel14.lean ====
abbrev S8192x3072 : Shape := ⟨2, ![8192, 3072]⟩
abbrev S8192x512 : Shape := ⟨2, ![8192, 512]⟩
abbrev S8192x1024 : Shape := ⟨2, ![8192, 1024]⟩
abbrev S256x512 : Shape := ⟨2, ![256, 512]⟩
abbrev S256x1024 : Shape := ⟨2, ![256, 1024]⟩

abbrev nBuf : Space → Nat
  | .hbm => 3
  | .vmem => 8
  | .smem => 0
  | _ => 0

abbrev bufTy : (tb : Table) → Fin (tcTables nBuf tb) → BufTy
  | .hbm, ⟨0, _⟩ => ⟨S8192x3072, .f32⟩
  | .hbm, ⟨1, _⟩ => ⟨S8192x512, .f32⟩
  | .hbm, ⟨2, _⟩ => ⟨S8192x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .bf16⟩
  | .local _ .vmem, ⟨7, _⟩ => ⟨S256x1024, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S8192x3072 : Shape := ⟨2, ![8192, 3072]⟩
abbrev S8192x512 : Shape := ⟨2, ![8192, 512]⟩
abbrev S8192x1024 : Shape := ⟨2, ![8192, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x512, .f32⟩
  | .hbm, ⟨2, _⟩ => ⟨S8192x1024, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel15.lean ====
abbrev S4x2048x3072 : Shape := ⟨3, ![4, 2048, 3072]⟩
abbrev S2048 : Shape := ⟨1, ![2048]⟩
abbrev S4x2048x2048 : Shape := ⟨3, ![4, 2048, 2048]⟩
abbrev S1x2048 : Shape := ⟨2, ![1, 2048]⟩
abbrev S1x256x2048 : Shape := ⟨3, ![1, 256, 2048]⟩
abbrev S1x8x2048 : Shape := ⟨3, ![1, 8, 2048]⟩
abbrev S256x2048 : Shape := ⟨2, ![256, 2048]⟩
abbrev S1x1x2048 : Shape := ⟨3, ![1, 1, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4x2048x3072, .f32⟩
  | .hbm, ⟨1, _⟩ => ⟨S2048, .f32⟩
  | .hbm, ⟨2, _⟩ => ⟨S2048, .f32⟩
  | .hbm, ⟨3, _⟩ => ⟨S4x2048x2048, .f32⟩
  | .hbm, ⟨4, _⟩ => ⟨S1x2048, .f32⟩
  | .hbm, ⟨5, _⟩ => ⟨S1x2048, .f32⟩
  | .hbm, ⟨6, _⟩ => ⟨S4x2048x2048, .bf16⟩
  | .hbm, ⟨7, _⟩ => ⟨S1x2048, .f32⟩
  | .hbm, ⟨8, _⟩ => ⟨S1x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x8x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x8x2048, .f32⟩
  | .local _ .vmem, ⟨9, _⟩ => ⟨S1x8x2048, .f32⟩
  | .local _ .vmem, ⟨10, _⟩ => ⟨S1x8x2048, .f32⟩
  | .local _ .vmem, ⟨11, _⟩ => ⟨S1x8x2048, .f32⟩
  | .local _ .vmem, ⟨12, _⟩ => ⟨S1x2048, .f32⟩
  | .local _ .vmem, ⟨13, _⟩ => ⟨S1x2048, .f32⟩
  | .local _ .vmem, ⟨14, _⟩ => ⟨S1x256x2048, .bf16⟩
  | .local _ .vmem, ⟨15, _⟩ => ⟨S1x256x2048, .bf16⟩
  | .local _ .vmem, ⟨16, _⟩ => ⟨S1x2048, .f32⟩
  | .local _ .vmem, ⟨17, _⟩ => ⟨S1x2048, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference15Ideal.lean ====
abbrev S4x2048x3072 : Shape := ⟨3, ![4, 2048, 3072]⟩
abbrev S2048 : Shape := ⟨1, ![2048]⟩
abbrev S4x2048x2048 : Shape := ⟨3, ![4, 2048, 2048]⟩
abbrev S4x1x2048 : Shape := ⟨3, ![4, 1, 2048]⟩
abbrev S_ : Shape := ⟨0, ![]⟩
abbrev S4x2047x2048 : Shape := ⟨3, ![4, 2047, 2048]⟩
abbrev S1x1x2048 : Shape := ⟨3, ![1, 1, 2048]⟩
abbrev S1x2048 : Shape := ⟨2, ![1, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S2048, .f32⟩
  | .hbm, ⟨2, _⟩ => ⟨S2048, .f32⟩
  | .hbm, ⟨3, _⟩ => ⟨S4x2048x2048, .f32⟩
  | .hbm, ⟨4, _⟩ => ⟨S4x2048x2048, .f32⟩
  | .hbm, ⟨5, _⟩ => ⟨S4x1x2048, .f32⟩
  | .hbm, ⟨6, _⟩ => ⟨S_, .f32⟩
  | .hbm, ⟨7, _⟩ => ⟨S4x1x2048, .f32⟩
  | .hbm, ⟨8, _⟩ => ⟨S4x2047x2048, .f32⟩
  | .hbm, ⟨9, _⟩ => ⟨S4x2048x2048, .f32⟩
  | .hbm, ⟨10, _⟩ => ⟨S_, .f32⟩
  | .hbm, ⟨11, _⟩ => ⟨S4x1x2048, .f32⟩
  | .hbm, ⟨12, _⟩ => ⟨S4x2047x2048, .f32⟩
  | .hbm, ⟨13, _⟩ => ⟨S4x2048x2048, .f32⟩
  | .hbm, ⟨14, _⟩ => ⟨S_, .f32⟩
  | .hbm, ⟨15, _⟩ => ⟨S4x1x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S1x1x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S2048, .f32⟩
  | .hbm, ⟨33, _⟩ => ⟨S1x1x2048, .f32⟩
  | .hbm, ⟨34, _⟩ => ⟨S_, .f32⟩
  | .hbm, ⟨35, _⟩ => ⟨S2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S_, .f32⟩
  | .hbm, ⟨42, _⟩ => ⟨S2048, .f32⟩
  | .hbm, ⟨43, _⟩ => ⟨S1x1x2048, .f32⟩
  | .hbm, ⟨44, _⟩ => ⟨S_, .f32⟩
  | .hbm, ⟨45, _⟩ => ⟨S2048, .f32⟩
  | .hbm, ⟨46, _⟩ => ⟨S4x2048x2048, .f32⟩
  | .hbm, ⟨47, _⟩ => ⟨S4x2048x2048, .f32⟩
  | .hbm, ⟨48, _⟩ => ⟨S4x2047x2048, .f32⟩
  | .hbm, ⟨49, _⟩ => ⟨S4x1x2048, .f32⟩
  | .hbm, ⟨50, _⟩ => ⟨S_, .f32⟩
  | .hbm, ⟨51, _⟩ => ⟨S4x2048x2048, .f32⟩
  | .hbm, ⟨52, _⟩ => ⟨S4x2048x2048, .f32⟩
  | .hbm, ⟨53, _⟩ => ⟨S4x1x2048, .f32⟩
  | .hbm, ⟨54, _⟩ => ⟨S4x2047x2048, .f32⟩
  | .hbm, ⟨55, _⟩ => ⟨S_, .f32⟩
  | .hbm, ⟨56, _⟩ => ⟨S4x2048x2048, .f32⟩
  | .hbm, ⟨57, _⟩ => ⟨S4x2048x2048, .f32⟩
  | .hbm, ⟨58, _⟩ => ⟨S4x2048x2048, .bf16⟩
  | .hbm, ⟨59, _⟩ => ⟨S1x2048, .f32⟩
  | .hbm, ⟨60, _⟩ => ⟨S1x2048, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Kernel18.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S8192x4x704 : Shape := ⟨3, ![8192, 4, 704]⟩
abbrev S4x8192x704 : Shape := ⟨3, ![4, 8192, 704]⟩
abbrev S1x1024 : Shape := ⟨2, ![1, 1024]⟩
abbrev S1x128 : Shape := ⟨2, ![1, 128]⟩
abbrev S2x512x704 : Shape := ⟨3, ![2, 512, 704]⟩
abbrev S1408x1024 : Shape := ⟨2, ![1408, 1024]⟩
abbrev S512x1024 : Shape := ⟨2, ![512, 1024]⟩
abbrev S1x512x704 : Shape := ⟨3, ![1, 512, 704]⟩
abbrev S512x704 : Shape := ⟨2, ![512, 704]⟩
abbrev S704x1024 : Shape := ⟨2, ![704, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 17
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S8192x4x704, .f32⟩
  | .hbm, ⟨7, _⟩ => ⟨S4x8192x704, .f32⟩
  | .hbm, ⟨8, _⟩ => ⟨S4x8192x704, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8192x1024, .bf16⟩
  | .hbm, ⟨14, _⟩ => ⟨S1x128, .f32⟩
  | .hbm, ⟨15, _⟩ => ⟨S1x1024, .f32⟩
  | .hbm, ⟨16, _⟩ => ⟨S1x1024, .f32⟩
  | .local _ .vmem, ⟨0, _⟩ => ⟨S2x512x704, .bf16⟩
  | .local _ .vmem, ⟨1, _⟩ => ⟨S2x512x704, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x128, .f32⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_13 : BitVec 32 := 0#32
  let v21 : BitVec 1 := Scalar.cmpi .ne v20 c0_i32_13
  v21

def k0_cond3 (i : grid0.Coords) : BitVec 1 :=
  let arg0 : BitVec 32 := BitVec.ofNat 32 (i 0).val
  let c0_i32_46 : BitVec 32 := 0#32
  let v89 : BitVec 1 := Scalar.cmpi .eq arg0 c0_i32_46
  let v90 : BitVec 32 := Scalar.extui v89
  let c0_i32_47 : BitVec 32 := 0#32
  let v91 : BitVec 1 := Scalar.cmpi .ne v90 c0_i32_47
  v91

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference18Ideal.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 121
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S_, .f32⟩
  | .hbm, ⟨77, _⟩ => ⟨S1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1024, .f32⟩
  | .hbm, ⟨91, _⟩ => ⟨S8192x1024, .f32⟩
  | .hbm, ⟨92, _⟩ => ⟨S8192x1, .f32⟩
  | .hbm, ⟨93, _⟩ => ⟨S8192x1024, .f32⟩
  | .hbm, ⟨94, _⟩ => ⟨S_, .f32⟩
  | .hbm, ⟨95, _⟩ => ⟨S8192, .f32⟩
  | .hbm, ⟨96, _⟩ => ⟨S8192x1, .f32⟩
  | .hbm, ⟨97, _⟩ => ⟨S_, .f32⟩
  | .hbm, ⟨98, _⟩ => ⟨S8192x1, .f32⟩
  | .hbm, ⟨99, _⟩ => ⟨S8192x1, .f32⟩
  | .hbm, ⟨100, _⟩ => ⟨S_, .f32⟩
  | .hbm, ⟨101, _⟩ => ⟨S8192, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S_, .f32⟩
  | .hbm, ⟨106, _⟩ => ⟨S8192, .f32⟩
  | .hbm, ⟨107, _⟩ => ⟨S8192x1, .f32⟩
  | .hbm, ⟨108, _⟩ => ⟨S8192x1024, .f32⟩
  | .hbm, ⟨109, _⟩ => ⟨S8192x1, .f32⟩
  | .hbm, ⟨110, _⟩ => ⟨S_, .f32⟩
  | .hbm, ⟨111, _⟩ => ⟨S8192x1, .f32⟩
  | .hbm, ⟨112, _⟩ => ⟨S8192x1, .f32⟩
  | .hbm, ⟨113, _⟩ => ⟨S_, .f32⟩
  | .hbm, ⟨114, _⟩ => ⟨S8192, .f32⟩
  | .hbm, ⟨115, _⟩ => ⟨S8192x1024, .f32⟩
  | .hbm, ⟨116, _⟩ => ⟨S8192x1024, .f32⟩
  | .hbm, ⟨117, _⟩ => ⟨S8192x1024, .bf16⟩
  | .hbm, ⟨118, _⟩ => ⟨S1x128, .f32⟩
  | .hbm, ⟨119, _⟩ => ⟨S1x1024, .f32⟩
  | .hbm, ⟨120, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_cst_13 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_cst_15 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_cst_17 : Ref sig .tc := ⟨.hbm, 76, rfl⟩
abbrev main_v52 : Ref sig .tc := ⟨.hbm, 77, rfl⟩
abbrev main_v53 : Ref sig .tc := ⟨.hbm, 78, rfl⟩
abbrev main_cst_18 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_19 : Ref sig .tc := ⟨.hbm, 84, rfl⟩
abbrev main_v58 : Ref sig .tc := ⟨.hbm, 85, rfl⟩
abbrev main_v59 : Ref sig .tc := ⟨.hbm, 86, rfl⟩
abbrev main_cst_20 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_21 : Ref sig .tc := ⟨.hbm, 94, rfl⟩
abbrev main_v66 : Ref sig .tc := ⟨.hbm, 95, rfl⟩
abbrev main_v67 : Ref sig .tc := ⟨.hbm, 96, rfl⟩
abbrev main_cst_22 : Ref sig .tc := ⟨.hbm, 97, rfl⟩
abbrev main_v68 : Ref sig .tc := ⟨.hbm, 98, rfl⟩
abbrev main_v69 : Ref sig .tc := ⟨.hbm, 99, rfl⟩
abbrev main_cst_23 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_24 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_25 : Ref sig .tc := ⟨.hbm, 110, rfl⟩
abbrev main_v78 : Ref sig .tc := ⟨.hbm, 111, rfl⟩
abbrev main_v79 : Ref sig .tc := ⟨.hbm, 112, rfl⟩
abbrev main_cst_26 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩

abbrev nD : Nat := 1
abbrev τ : Topo := Topo.v7x

variable {F : FTy → Type} [FloatOps F]
-- ==== Kernel19.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S8192x4x704 : Shape := ⟨3, ![8192, 4, 704]⟩
abbrev S4x8192x704 : Shape := ⟨3, ![4, 8192, 704]⟩
abbrev S1x1024 : Shape := ⟨2, ![1, 1024]⟩
abbrev S2x512x704 : Shape := ⟨3, ![2, 512, 704]⟩
abbrev S1408x1024 : Shape := ⟨2, ![1408, 1024]⟩
abbrev S512x1024 : Shape := ⟨2, ![512, 1024]⟩
abbrev S1x512x704 : Shape := ⟨3, ![1, 512, 704]⟩
abbrev S512x704 : Shape := ⟨2, ![512, 704]⟩
abbrev S704x1024 : Shape := ⟨2, ![704, 1024]⟩
abbrev S512 : Shape := ⟨1, ![512]⟩
abbrev S512x1 : Shape := ⟨2, ![512, 1]⟩

abbrev nBuf : Space → Nat
  | .hbm => 14
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8192x4x704, .f32⟩
  | .hbm, ⟨6, _⟩ => ⟨S4x8192x704, .f32⟩
  | .hbm, ⟨7, _⟩ => ⟨S4x8192x704, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .bf16⟩
  | .hbm, ⟨13, _⟩ => ⟨S8192x1024, .f32⟩
  | .local _ .vmem, ⟨0, _⟩ => ⟨S2x512x704, .bf16⟩
  | .local _ .vmem, ⟨1, _⟩ => ⟨S2x512x704, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_13 : BitVec 32 := 0#32
  let v21 : BitVec 1 := Scalar.cmpi .ne v20 c0_i32_13
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference19Ideal.lean ====
abbrev S8192x1024 : Shape := ⟨2, ![8192, 1024]⟩
abbrev S8192x2816 : Shape := ⟨2, ![8192, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel20.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8192x512, .bf16⟩
  | .hbm, ⟨7, _⟩ => ⟨S8192x512, .bf16⟩
  | .hbm, ⟨8, _⟩ => ⟨S8192x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8192x1024, .bf16⟩
  | .hbm, ⟨14, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference20Ideal.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel21.lean ====
abbrev S4x2048x512 : Shape := ⟨3, ![4, 2048, 512]⟩
abbrev S32x512 : Shape := ⟨2, ![32, 512]⟩
abbrev S512 : Shape := ⟨1, ![512]⟩
abbrev S1x512 : Shape := ⟨2, ![1, 512]⟩
abbrev S1x512x512 : Shape := ⟨3, ![1, 512, 512]⟩
abbrev S1x16x512 : Shape := ⟨3, ![1, 16, 512]⟩
abbrev S544x512 : Shape := ⟨2, ![544, 512]⟩
abbrev S16x512 : Shape := ⟨2, ![16, 512]⟩
abbrev S512x512 : Shape := ⟨2, ![512, 512]⟩
abbrev S1x128 : Shape := ⟨2, ![1, 128]⟩
abbrev S128x128 : Shape := ⟨2, ![128, 128]⟩
abbrev S1x128x128 : Shape := ⟨3, ![1, 128, 128]⟩

abbrev nBuf : Space → Nat
  | .hbm => 5
  | .vmem => 11
  | .smem => 0
  | _ => 0

abbrev bufTy : (tb : Table) → Fin (tcTables nBuf tb) → BufTy
  | .hbm, ⟨0, _⟩ => ⟨S4x2048x512, .f32⟩
  | .hbm, ⟨1, _⟩ => ⟨S32x512, .f32⟩
  | .hbm, ⟨2, _⟩ => ⟨S512, .f32⟩
  | .hbm, ⟨3, _⟩ => ⟨S1x512, .f32⟩
  | .hbm, ⟨4, _⟩ => ⟨S4x2048x512, .f32⟩
  | .local _ .vmem, ⟨0, _⟩ => ⟨S1x512x512, .f32⟩
  | .local _ .vmem, ⟨1, _⟩ => ⟨S1x512x512, .f32⟩
  | .local _ .vmem, ⟨2, _⟩ => ⟨S1x16x512, .f32⟩
  | .local _ .vmem, ⟨3, _⟩ => ⟨S1x16x512, .f32⟩
  | .local _ .vmem, ⟨4, _⟩ => ⟨S1x16x512, .f32⟩
  | .local _ .vmem, ⟨5, _⟩ => ⟨S1x16x512, .f32⟩
  | .local _ .vmem, ⟨6, _⟩ => ⟨S32x512, .f32⟩
  | .local _ .vmem, ⟨7, _⟩ => ⟨S1x512, .f32⟩
  | .local _ .vmem, ⟨8, _⟩ => ⟨S1x512x512, .f32⟩
  | .local _ .vmem, ⟨9, _⟩ => ⟨S1x512x512, .f32⟩
  | .local _ .vmem, ⟨10, _⟩ => ⟨S544x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference21Ideal.lean ====
abbrev S4x2048x512 : Shape := ⟨3, ![4, 2048, 512]⟩
abbrev S32x512 : Shape := ⟨2, ![32, 512]⟩
abbrev S512 : Shape := ⟨1, ![512]⟩
abbrev S4x15x512 : Shape := ⟨3, ![4, 15, 512]⟩
abbrev S_ : Shape := ⟨0, ![]⟩
abbrev S4x2078x512 : Shape := ⟨3, ![4, 2078, 512]⟩
abbrev S1x512 : Shape := ⟨2, ![1, 512]⟩
abbrev S1x1x512 : Shape := ⟨3, ![1, 1, 512]⟩

abbrev nBuf : Space → Nat
  | .hbm => 226
  | .vmem => 0
  | .smem => 0
  | _ => 0

abbrev hbmTy0_0 (i : Nat) : BufTy := match i % 128 with
  | 0 => ⟨S4x2048x512, .f32⟩
  | 1 => ⟨S32x512, .f32⟩
  | 2 => ⟨S512, .f32⟩
  | 3 => ⟨S4x15x512, .f32⟩
  | 4 => ⟨S_, .f32⟩
  | 5 => ⟨S4x15x512, .f32⟩
  | 6 => ⟨S4x2078x512, .f32⟩
  | 7 => ⟨S4x2048x512, .f32⟩
  | 8 => ⟨S1x512, .f32⟩
  | 9 => ⟨S512, .f32⟩
  | 10 => ⟨S1x1x512, .f32⟩
  | 11 => ⟨S4x2048x512, .f32⟩
  | 12 => ⟨S4x2048x512, .f32⟩
  | 13 => ⟨S4x2048x512, .f32⟩
  | 14 => ⟨S1x512, .f32⟩
  | 15 => ⟨S512, .f32⟩
  | 16 => ⟨S1x1x512, .f32⟩
  | 17 => ⟨S4x2048x512, .f32⟩
  | 18 => ⟨S4x2048x512, .f32⟩
  | 19 => ⟨S4x2048x512, .f32⟩
  | 20 => ⟨S4x2048x512, .f32⟩
  | 21 => ⟨S1x512, .f32⟩
  | 22 => ⟨S512, .f32⟩
  | 23 => ⟨S1x1x512, .f32⟩
  | 24 => ⟨S4x2048x512, .f32⟩
  | 25 => ⟨S4x2048x512, .f32⟩
  | 26 => ⟨S4x2048x512, .f32⟩
  | 27 => ⟨S4x2048x512, .f32⟩
  | 28 => ⟨S1x512, .f32⟩
  | 29 => ⟨S512, .f32⟩
  | 30 => ⟨S1x1x512, .f32⟩
  | 31 => ⟨S4x2048x512, .f32⟩
  | 32 => ⟨S4x2048x512, .f32⟩
  | 33 => ⟨S4x2048x512, .f32⟩
  | 34 => ⟨S4x2048x512, .f32⟩
  | 35 => ⟨S1x512, .f32⟩
  | 36 => ⟨S512, .f32⟩
  | 37 => ⟨S1x1x512, .f32⟩
  | 38 => ⟨S4x2048x512, .f32⟩
  | 39 => ⟨S4x2048x512, .f32⟩
  | 40 => ⟨S4x2048x512, .f32⟩
  | 41 => ⟨S4x2048x512, .f32⟩
  | 42 => ⟨S1x512, .f32⟩
  | 43 => ⟨S512, .f32⟩
  | 44 => ⟨S1x1x512, .f32⟩
  | 45 => ⟨S4x2048x512, .f32⟩
  | 46 => ⟨S4x2048x512, .f32⟩
  | 47 => ⟨S4x2048x512, .f32⟩
  | 48 => ⟨S4x2048x512, .f32⟩
  | 49 => ⟨S1x512, .f32⟩
  | 50 => ⟨S512, .f32⟩
  | 51 => ⟨S1x1x512, .f32⟩
  | 52 => ⟨S4x2048x512, .f32⟩
  | 53 => ⟨S4x2048x512, .f32⟩
  | 54 => ⟨S4x2048x512, .f32⟩
  | 55 => ⟨S4x2048x512, .f32⟩
  | 56 => ⟨S1x512, .f32⟩
  | 57 => ⟨S512, .f32⟩
  | 58 => ⟨S1x1x512, .f32⟩
  | 59 => ⟨S4x2048x512, .f32⟩
  | 60 => ⟨S4x2048x512, .f32⟩
  | 61 => ⟨S4x2048x512, .f32⟩
  | 62 => ⟨S4x2048x512, .f32⟩
  | 63 => ⟨S1x512, .f32⟩
  | 64 => ⟨S512, .f32⟩
  | 65 => ⟨S1x1x512, .f32⟩
  | 66 => ⟨S4x2048x512, .f32⟩
  | 67 => ⟨S4x2048x512, .f32⟩
  | 68 => ⟨S4x2048x512, .f32⟩
  | 69 => ⟨S4x2048x512, .f32⟩
  | 70 => ⟨S1x512, .f32⟩
  | 71 => ⟨S512, .f32⟩
  | 72 => ⟨S1x1x512, .f32⟩
  | 73 => ⟨S4x2048x512, .f32⟩
  | 74 => ⟨S4x2048x512, .f32⟩
  | 75 => ⟨S4x2048x512, .f32⟩
  | 76 => ⟨S4x2048x512, .f32⟩
  | 77 => ⟨S1x512, .f32⟩
  | 78 => ⟨S512, .f32⟩
  | 79 => ⟨S1x1x512, .f32⟩
  | 80 => ⟨S4x2048x512, .f32⟩
  | 81 => ⟨S4x2048x512, .f32⟩
  | 82 => ⟨S4x2048x512, .f32⟩
  | 83 => ⟨S4x2048x512, .f32⟩
  | 84 => ⟨S1x512, .f32⟩
  | 85 => ⟨S512, .f32⟩
  | 86 => ⟨S1x1x512, .f32⟩
  | 87 => ⟨S4x2048x512, .f32⟩
  | 88 => ⟨S4x2048x512, .f32⟩
  | 89 => ⟨S4x2048x512, .f32⟩
  | 90 => ⟨S4x2048x512, .f32⟩
  | 91 => ⟨S1x512, .f32⟩
  | 92 => ⟨S512, .f32⟩
  | 93 => ⟨S1x1x512, .f32⟩
  | 94 => ⟨S4x2048x512, .f32⟩
  | 95 => ⟨S4x2048x512, .f32⟩
  | 96 => ⟨S4x2048x512, .f32⟩
  | 97 => ⟨S4x2048x512, .f32⟩
  | 98 => ⟨S1x512, .f32⟩
  | 99 => ⟨S512, .f32⟩
  | 100 => ⟨S1x1x512, .f32⟩
  | 101 => ⟨S4x2048x512, .f32⟩
  | 102 => ⟨S4x2048x512, .f32⟩
  | 103 => ⟨S4x2048x512, .f32⟩
  | 104 => ⟨S4x2048x512, .f32⟩
  | 105 => ⟨S1x512, .f32⟩
  | 106 => ⟨S512, .f32⟩
  | 107 => ⟨S1x1x512, .f32⟩
  | 108 => ⟨S4x2048x512, .f32⟩
  | 109 => ⟨S4x2048x512, .f32⟩
  | 110 => ⟨S4x2048x512, .f32⟩
  | 111 => ⟨S4x2048x512, .f32⟩
  | 112 => ⟨S1x512, .f32⟩
  | 113 => ⟨S512, .f32⟩
  | 114 => ⟨S1x1x512, .f32⟩
  | 115 => ⟨S4x2048x512, .f32⟩
  | 116 => ⟨S4x2048x512, .f32⟩
  | 117 => ⟨S4x2048x512, .f32⟩
  | 118 => ⟨S4x2048x512, .f32⟩
  | 119 => ⟨S1x512, .f32⟩
  | 120 => ⟨S512, .f32⟩
  | 121 => ⟨S1x1x512, .f32⟩
  | 122 => ⟨S4x2048x512, .f32⟩
  | 123 => ⟨S4x2048x512, .f32⟩
  | 124 => ⟨S4x2048x512, .f32⟩
  | 125 => ⟨S4x2048x512, .f32⟩
  | 126 => ⟨S1x512, .f32⟩
  | 127 => ⟨S512, .f32⟩
  | _ => ⟨S4x2048x512, .f32⟩

abbrev hbmTy0_1 (i : Nat) : BufTy := match i % 128 with
  | 0 => ⟨S1x1x512, .f32⟩
  | 1 => ⟨S4x2048x512, .f32⟩
  | 2 => ⟨S4x2048x512, .f32⟩
  | 3 => ⟨S4x2048x512, .f32⟩
  | 4 => ⟨S4x2048x512, .f32⟩
  | 5 => ⟨S1x512, .f32⟩
  | 6 => ⟨S512, .f32⟩
  | 7 => ⟨S1x1x512, .f32⟩
  | 8 => ⟨S4x2048x512, .f32⟩
  | 9 => ⟨S4x2048x512, .f32⟩
  | 10 => ⟨S4x2048x512, .f32⟩
  | 11 => ⟨S4x2048x512, .f32⟩
  | 12 => ⟨S1x512, .f32⟩
  | 13 => ⟨S512, .f32⟩
  | 14 => ⟨S1x1x512, .f32⟩
  | 15 => ⟨S4x2048x512, .f32⟩
  | 16 => ⟨S4x2048x512, .f32⟩
  | 17 => ⟨S4x2048x512, .f32⟩
  | 18 => ⟨S4x2048x512, .f32⟩
  | 19 => ⟨S1x512, .f32⟩
  | 20 => ⟨S512, .f32⟩
  | 21 => ⟨S1x1x512, .f32⟩
  | 22 => ⟨S4x2048x512, .f32⟩
  | 23 => ⟨S4x2048x512, .f32⟩
  | 24 => ⟨S4x2048x512, .f32⟩
  | 25 => ⟨S4x2048x512, .f32⟩
  | 26 => ⟨S1x512, .f32⟩
  | 27 => ⟨S512, .f32⟩
  | 28 => ⟨S1x1x512, .f32⟩
  | 29 => ⟨S4x2048x512, .f32⟩
  | 30 => ⟨S4x2048x512, .f32⟩
  | 31 => ⟨S4x2048x512, .f32⟩
  | 32 => ⟨S4x2048x512, .f32⟩
  | 33 => ⟨S1x512, .f32⟩
  | 34 => ⟨S512, .f32⟩
  | 35 => ⟨S1x1x512, .f32⟩
  | 36 => ⟨S4x2048x512, .f32⟩
  | 37 => ⟨S4x2048x512, .f32⟩
  | 38 => ⟨S4x2048x512, .f32⟩
  | 39 => ⟨S4x2048x512, .f32⟩
  | 40 => ⟨S1x512, .f32⟩
  | 41 => ⟨S512, .f32⟩
  | 42 => ⟨S1x1x512, .f32⟩
  | 43 => ⟨S4x2048x512, .f32⟩
  | 44 => ⟨S4x2048x512, .f32⟩
  | 45 => ⟨S4x2048x512, .f32⟩
  | 46 => ⟨S4x2048x512, .f32⟩
  | 47 => ⟨S1x512, .f32⟩
  | 48 => ⟨S512, .f32⟩
  | 49 => ⟨S1x1x512, .f32⟩
  | 50 => ⟨S4x2048x512, .f32⟩
  | 51 => ⟨S4x2048x512, .f32⟩
  | 52 => ⟨S4x2048x512, .f32⟩
  | 53 => ⟨S4x2048x512, .f32⟩
  | 54 => ⟨S1x512, .f32⟩
  | 55 => ⟨S512, .f32⟩
  | 56 => ⟨S1x1x512, .f32⟩
  | 57 => ⟨S4x2048x512, .f32⟩
  | 58 => ⟨S4x2048x512, .f32⟩
  | 59 => ⟨S4x2048x512, .f32⟩
  | 60 => ⟨S4x2048x512, .f32⟩
  | 61 => ⟨S1x512, .f32⟩
  | 62 => ⟨S512, .f32⟩
  | 63 => ⟨S1x1x512, .f32⟩
  | 64 => ⟨S4x2048x512, .f32⟩
  | 65 => ⟨S4x2048x512, .f32⟩
  | 66 => ⟨S4x2048x512, .f32⟩
  | 67 => ⟨S4x2048x512, .f32⟩
  | 68 => ⟨S1x512, .f32⟩
  | 69 => ⟨S512, .f32⟩
  | 70 => ⟨S1x1x512, .f32⟩
  | 71 => ⟨S4x2048x512, .f32⟩
  | 72 => ⟨S4x2048x512, .f32⟩
  | 73 => ⟨S4x2048x512, .f32⟩
  | 74 => ⟨S4x2048x512, .f32⟩
  | 75 => ⟨S1x512, .f32⟩
  | 76 => ⟨S512, .f32⟩
  | 77 => ⟨S1x1x512, .f32⟩
  | 78 => ⟨S4x2048x512, .f32⟩
  | 79 => ⟨S4x2048x512, .f32⟩
  | 80 => ⟨S4x2048x512, .f32⟩
  | 81 => ⟨S4x2048x512, .f32⟩
  | 82 => ⟨S1x512, .f32⟩
  | 83 => ⟨S512, .f32⟩
  | 84 => ⟨S1x1x512, .f32⟩
  | 85 => ⟨S4x2048x512, .f32⟩
  | 86 => ⟨S4x2048x512, .f32⟩
  | 87 => ⟨S4x2048x512, .f32⟩
  | 88 => ⟨S4x2048x512, .f32⟩
  | 89 => ⟨S1x512, .f32⟩
  | 90 => ⟨S512, .f32⟩
  | 91 => ⟨S1x1x512, .f32⟩
  | 92 => ⟨S4x2048x512, .f32⟩
  | 93 => ⟨S4x2048x512, .f32⟩
  | 94 => ⟨S4x2048x512, .f32⟩
  | 95 => ⟨S1x1x512, .f32⟩
  | 96 => ⟨S4x2048x512, .f32⟩
  | 97 => ⟨S4x2048x512, .f32⟩
  | _ => ⟨S4x2048x512, .f32⟩

abbrev hbmTy (i : Nat) : BufTy := match i / 128 with
  | 0 => hbmTy0_0 i
  | 1 => hbmTy0_1 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v107 : Ref sig .tc := ⟨.hbm, 111, rfl⟩
abbrev main_v108 : Ref sig .tc := ⟨.hbm, 112, rfl⟩
abbrev main_v109 : Ref sig .tc := ⟨.hbm, 113, rfl⟩
abbrev main_v110 : Ref sig .tc := ⟨.hbm, 114, rfl⟩
abbrev main_v111 : Ref sig .tc := ⟨.hbm, 115, rfl⟩
abbrev main_v112 : Ref sig .tc := ⟨.hbm, 116, rfl⟩
abbrev main_v113 : Ref sig .tc := ⟨.hbm, 117, rfl⟩
abbrev main_v114 : Ref sig .tc := ⟨.hbm, 118, rfl⟩
abbrev main_v115 : Ref sig .tc := ⟨.hbm, 119, rfl⟩
abbrev main_v116 : Ref sig .tc := ⟨.hbm, 120, rfl⟩
abbrev main_v117 : Ref sig .tc := ⟨.hbm, 121, rfl⟩
abbrev main_v118 : Ref sig .tc := ⟨.hbm, 122, rfl⟩
abbrev main_v119 : Ref sig .tc := ⟨.hbm, 123, rfl⟩
abbrev main_v120 : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩
abbrev main_v128 : Ref sig .tc := ⟨.hbm, 132, rfl⟩
abbrev main_v129 : Ref sig .tc := ⟨.hbm, 133, rfl⟩
abbrev main_v130 : Ref sig .tc := ⟨.hbm, 134, rfl⟩
abbrev main_v131 : Ref sig .tc := ⟨.hbm, 135, rfl⟩
abbrev main_v132 : Ref sig .tc := ⟨.hbm, 136, rfl⟩
abbrev main_v133 : Ref sig .tc := ⟨.hbm, 137, rfl⟩
abbrev main_v134 : Ref sig .tc := ⟨.hbm, 138, rfl⟩
abbrev main_v135 : Ref sig .tc := ⟨.hbm, 139, rfl⟩
abbrev main_v136 : Ref sig .tc := ⟨.hbm, 140, rfl⟩
abbrev main_v137 : Ref sig .tc := ⟨.hbm, 141, rfl⟩
abbrev main_v138 : Ref sig .tc := ⟨.hbm, 142, rfl⟩
abbrev main_v139 : Ref sig .tc := ⟨.hbm, 143, rfl⟩
abbrev main_v140 : Ref sig .tc := ⟨.hbm, 144, rfl⟩
abbrev main_v141 : Ref sig .tc := ⟨.hbm, 145, rfl⟩
abbrev main_v142 : Ref sig .tc := ⟨.hbm, 146, rfl⟩
abbrev main_v143 : Ref sig .tc := ⟨.hbm, 147, rfl⟩
abbrev main_v144 : Ref sig .tc := ⟨.hbm, 148, rfl⟩
abbrev main_v145 : Ref sig .tc := ⟨.hbm, 149, rfl⟩
abbrev main_v146 : Ref sig .tc := ⟨.hbm, 150, rfl⟩
abbrev main_v147 : Ref sig .tc := ⟨.hbm, 151, rfl⟩
abbrev main_v148 : Ref sig .tc := ⟨.hbm, 152, rfl⟩
abbrev main_v149 : Ref sig .tc := ⟨.hbm, 153, rfl⟩
abbrev main_v150 : Ref sig .tc := ⟨.hbm, 154, rfl⟩
abbrev main_v151 : Ref sig .tc := ⟨.hbm, 155, rfl⟩
abbrev main_v152 : Ref sig .tc := ⟨.hbm, 156, rfl⟩
abbrev main_v153 : Ref sig .tc := ⟨.hbm, 157, rfl⟩
abbrev main_v154 : Ref sig .tc := ⟨.hbm, 158, rfl⟩
abbrev main_v155 : Ref sig .tc := ⟨.hbm, 159, rfl⟩
abbrev main_v156 : Ref sig .tc := ⟨.hbm, 160, rfl⟩
abbrev main_v157 : Ref sig .tc := ⟨.hbm, 161, rfl⟩
abbrev main_v158 : Ref sig .tc := ⟨.hbm, 162, rfl⟩
abbrev main_v159 : Ref sig .tc := ⟨.hbm, 163, rfl⟩
abbrev main_v160 : Ref sig .tc := ⟨.hbm, 164, rfl⟩
abbrev main_v161 : Ref sig .tc := ⟨.hbm, 165, rfl⟩
abbrev main_v162 : Ref sig .tc := ⟨.hbm, 166, rfl⟩
abbrev main_v163 : Ref sig .tc := ⟨.hbm, 167, rfl⟩
abbrev main_v164 : Ref sig .tc := ⟨.hbm, 168, rfl⟩
abbrev main_v165 : Ref sig .tc := ⟨.hbm, 169, rfl⟩
abbrev main_v166 : Ref sig .tc := ⟨.hbm, 170, rfl⟩
abbrev main_v167 : Ref sig .tc := ⟨.hbm, 171, rfl⟩
abbrev main_v168 : Ref sig .tc := ⟨.hbm, 172, rfl⟩
abbrev main_v169 : Ref sig .tc := ⟨.hbm, 173, rfl⟩
abbrev main_v170 : Ref sig .tc := ⟨.hbm, 174, rfl⟩
abbrev main_v171 : Ref sig .tc := ⟨.hbm, 175, rfl⟩
abbrev main_v172 : Ref sig .tc := ⟨.hbm, 176, rfl⟩
abbrev main_v173 : Ref sig .tc := ⟨.hbm, 177, rfl⟩
abbrev main_v174 : Ref sig .tc := ⟨.hbm, 178, rfl⟩
abbrev main_v175 : Ref sig .tc := ⟨.hbm, 179, rfl⟩
abbrev main_v176 : Ref sig .tc := ⟨.hbm, 180, rfl⟩
abbrev main_v177 : Ref sig .tc := ⟨.hbm, 181, rfl⟩
abbrev main_v178 : Ref sig .tc := ⟨.hbm, 182, rfl⟩
abbrev main_v179 : Ref sig .tc := ⟨.hbm, 183, rfl⟩
abbrev main_v180 : Ref sig .tc := ⟨.hbm, 184, rfl⟩
abbrev main_v181 : Ref sig .tc := ⟨.hbm, 185, rfl⟩
abbrev main_v182 : Ref sig .tc := ⟨.hbm, 186, rfl⟩
abbrev main_v183 : Ref sig .tc := ⟨.hbm, 187, rfl⟩
abbrev main_v184 : Ref sig .tc := ⟨.hbm, 188, rfl⟩
abbrev main_v185 : Ref sig .tc := ⟨.hbm, 189, rfl⟩
abbrev main_v186 : Ref sig .tc := ⟨.hbm, 190, rfl⟩
abbrev main_v187 : Ref sig .tc := ⟨.hbm, 191, rfl⟩
abbrev main_v188 : Ref sig .tc := ⟨.hbm, 192, rfl⟩
abbrev main_v189 : Ref sig .tc := ⟨.hbm, 193, rfl⟩
abbrev main_v190 : Ref sig .tc := ⟨.hbm, 194, rfl⟩
abbrev main_v191 : Ref sig .tc := ⟨.hbm, 195, rfl⟩
abbrev main_v192 : Ref sig .tc := ⟨.hbm, 196, rfl⟩
abbrev main_v193 : Ref sig .tc := ⟨.hbm, 197, rfl⟩
abbrev main_v194 : Ref sig .tc := ⟨.hbm, 198, rfl⟩
abbrev main_v195 : Ref sig .tc := ⟨.hbm, 199, rfl⟩
abbrev main_v196 : Ref sig .tc := ⟨.hbm, 200, rfl⟩
abbrev main_v197 : Ref sig .tc := ⟨.hbm, 201, rfl⟩
abbrev main_v198 : Ref sig .tc := ⟨.hbm, 202, rfl⟩
abbrev main_v199 : Ref sig .tc := ⟨.hbm, 203, rfl⟩
abbrev main_v200 : Ref sig .tc := ⟨.hbm, 204, rfl⟩
abbrev main_v201 : Ref sig .tc := ⟨.hbm, 205, rfl⟩
abbrev main_v202 : Ref sig .tc := ⟨.hbm, 206, rfl⟩
abbrev main_v203 : Ref sig .tc := ⟨.hbm, 207, rfl⟩
abbrev main_v204 : Ref sig .tc := ⟨.hbm, 208, rfl⟩
abbrev main_v205 : Ref sig .tc := ⟨.hbm, 209, rfl⟩
abbrev main_v206 : Ref sig .tc := ⟨.hbm, 210, rfl⟩
abbrev main_v207 : Ref sig .tc := ⟨.hbm, 211, rfl⟩
abbrev main_v208 : Ref sig .tc := ⟨.hbm, 212, rfl⟩
abbrev main_v209 : Ref sig .tc := ⟨.hbm, 213, rfl⟩
abbrev main_v210 : Ref sig .tc := ⟨.hbm, 214, rfl⟩
abbrev main_v211 : Ref sig .tc := ⟨.hbm, 215, rfl⟩
abbrev main_v212 : Ref sig .tc := ⟨.hbm, 216, rfl⟩
abbrev main_v213 : Ref sig .tc := ⟨.hbm, 217, rfl⟩
abbrev main_v214 : Ref sig .tc := ⟨.hbm, 218, rfl⟩
abbrev main_v215 : Ref sig .tc := ⟨.hbm, 219, rfl⟩
abbrev main_v216 : Ref sig .tc := ⟨.hbm, 220, rfl⟩
abbrev main_v217 : Ref sig .tc := ⟨.hbm, 221, rfl⟩
abbrev main_v218 : Ref sig .tc := ⟨.hbm, 222, rfl⟩
abbrev main_v219 : Ref sig .tc := ⟨.hbm, 223, rfl⟩
abbrev main_v220 : Ref sig .tc := ⟨.hbm, 224, rfl⟩
abbrev main_v221 : Ref sig .tc := ⟨.hbm, 225, rfl⟩

abbrev nD : Nat := 1
abbrev τ : Topo := Topo.v7x

variable {F : FTy → Type} [FloatOps F]
-- ==== Kernel22.lean ====
abbrev S8192x3072 : Shape := ⟨2, ![8192, 3072]⟩
abbrev S8192x512 : Shape := ⟨2, ![8192, 512]⟩
abbrev S256x512 : Shape := ⟨2, ![256, 512]⟩

abbrev nBuf : Space → Nat
  | .hbm => 2
  | .vmem => 6
  | .smem => 0
  | _ => 0

abbrev bufTy : (tb : Table) → Fin (tcTables nBuf tb) → BufTy
  | .hbm, ⟨0, _⟩ => ⟨S8192x3072, .f32⟩
  | .hbm, ⟨1, _⟩ => ⟨S8192x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference22Ideal.lean ====
abbrev S8192x3072 : Shape := ⟨2, ![8192, 3072]⟩
abbrev S8192x1024 : Shape := ⟨2, ![8192, 1024]⟩
abbrev S8192x512 : Shape := ⟨2, ![8192, 512]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S8192x512, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel23.lean ====
abbrev S8192x512 : Shape := ⟨2, ![8192, 512]⟩
abbrev S512 : Shape := ⟨1, ![512]⟩
abbrev S1x512 : Shape := ⟨2, ![1, 512]⟩
abbrev S256x512 : Shape := ⟨2, ![256, 512]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512, .f32⟩
  | .hbm, ⟨2, _⟩ => ⟨S512, .f32⟩
  | .hbm, ⟨3, _⟩ => ⟨S1x512, .f32⟩
  | .hbm, ⟨4, _⟩ => ⟨S1x512, .f32⟩
  | .hbm, ⟨5, _⟩ => ⟨S8192x512, .bf16⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S1x512, .f32⟩
  | .local _ .vmem, ⟨4, _⟩ => ⟨S256x512, .bf16⟩
  | .local _ .vmem, ⟨5, _⟩ => ⟨S256x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference23Ideal.lean ====
abbrev S8192x512 : Shape := ⟨2, ![8192, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 42
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512, .f32⟩
  | .hbm, ⟨2, _⟩ => ⟨S512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x512, .f32⟩
  | .hbm, ⟨25, _⟩ => ⟨S8192x512, .f32⟩
  | .hbm, ⟨26, _⟩ => ⟨S1x512, .f32⟩
  | .hbm, ⟨27, _⟩ => ⟨S8192x512, .f32⟩
  | .hbm, ⟨28, _⟩ => ⟨S8192x512, .f32⟩
  | .hbm, ⟨29, _⟩ => ⟨S1x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Kernel24.lean ====
abbrev S4x2048x3072 : Shape := ⟨3, ![4, 2048, 3072]⟩
abbrev S2048 : Shape := ⟨1, ![2048]⟩
abbrev S1x2048 : Shape := ⟨2, ![1, 2048]⟩
abbrev S4x2048x2048 : Shape := ⟨3, ![4, 2048, 2048]⟩
abbrev S1x256x2048 : Shape := ⟨3, ![1, 256, 2048]⟩
abbrev S1x8x2048 : Shape := ⟨3, ![1, 8, 2048]⟩
abbrev S256x2048 : Shape := ⟨2, ![256, 2048]⟩
abbrev S1x1x2048 : Shape := ⟨3, ![1, 1, 2048]⟩

abbrev nBuf : Space → Nat
  | .hbm => 6
  | .vmem => 10
  | .smem => 0
  | _ => 0

abbrev bufTy : (tb : Table) → Fin (tcTables nBuf tb) → BufTy
  | .hbm, ⟨0, _⟩ => ⟨S4x2048x3072, .f32⟩
  | .hbm, ⟨1, _⟩ => ⟨S2048, .f32⟩
  | .hbm, ⟨2, _⟩ => ⟨S2048, .f32⟩
  | .hbm, ⟨3, _⟩ => ⟨S1x2048, .f32⟩
  | .hbm, ⟨4, _⟩ => ⟨S1x2048, .f32⟩
  | .hbm, ⟨5, _⟩ => ⟨S4x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x8x2048, .f32⟩
  | .local _ .vmem, ⟨6, _⟩ => ⟨S1x2048, .f32⟩
  | .local _ .vmem, ⟨7, _⟩ => ⟨S1x2048, .f32⟩
  | .local _ .vmem, ⟨8, _⟩ => ⟨S1x256x2048, .f32⟩
  | .local _ .vmem, ⟨9, _⟩ => ⟨S1x256x2048, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference24Ideal.lean ====
abbrev S4x2048x3072 : Shape := ⟨3, ![4, 2048, 3072]⟩
abbrev S2048 : Shape := ⟨1, ![2048]⟩
abbrev S4x2048x2048 : Shape := ⟨3, ![4, 2048, 2048]⟩
abbrev S4x1x2048 : Shape := ⟨3, ![4, 1, 2048]⟩
abbrev S_ : Shape := ⟨0, ![]⟩
abbrev S4x2047x2048 : Shape := ⟨3, ![4, 2047, 2048]⟩
abbrev S1x1x2048 : Shape := ⟨3, ![1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S2048, .f32⟩
  | .hbm, ⟨2, _⟩ => ⟨S2048, .f32⟩
  | .hbm, ⟨3, _⟩ => ⟨S4x2048x2048, .f32⟩
  | .hbm, ⟨4, _⟩ => ⟨S4x1x2048, .f32⟩
  | .hbm, ⟨5, _⟩ => ⟨S_, .f32⟩
  | .hbm, ⟨6, _⟩ => ⟨S4x1x2048, .f32⟩
  | .hbm, ⟨7, _⟩ => ⟨S4x2047x2048, .f32⟩
  | .hbm, ⟨8, _⟩ => ⟨S4x2048x2048, .f32⟩
  | .hbm, ⟨9, _⟩ => ⟨S4x2047x2048, .f32⟩
  | .hbm, ⟨10, _⟩ => ⟨S4x2048x2048, .f32⟩
  | .hbm, ⟨11, _⟩ => ⟨S4x2048x2048, .f32⟩
  | .hbm, ⟨12, _⟩ => ⟨S1x1x2048, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel17.lean ====
abbrev S8192x1024 : Shape := ⟨2, ![8192, 1024]⟩
abbrev S8192x512 : Shape := ⟨2, ![8192, 512]⟩
abbrev S512 : Shape := ⟨1, ![512]⟩
abbrev S8x64 : Shape := ⟨2, ![8, 64]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x512x1x512 : Shape := ⟨4, ![1, 512, 1, 512]⟩
abbrev S2x512x1x512 : Shape := ⟨4, ![2, 512, 1, 512]⟩
abbrev S1024x512 : Shape := ⟨2, ![1024, 512]⟩
abbrev S1x512 : Shape := ⟨2, ![1, 512]⟩
abbrev S256x1024 : Shape := ⟨2, ![256, 1024]⟩
abbrev S256x512 : Shape := ⟨2, ![256, 512]⟩

abbrev nBuf : Space → Nat
  | .hbm => 30
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S8192x512, .f32⟩
  | .hbm, ⟨5, _⟩ => ⟨S512, .f32⟩
  | .hbm, ⟨6, _⟩ => ⟨S512, .f32⟩
  | .hbm, ⟨7, _⟩ => ⟨S8x64, .f32⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8, .bf16⟩
  | .hbm, ⟨15, _⟩ => ⟨S_, .bf16⟩
  | .hbm, ⟨16, _⟩ => ⟨S64x64, .bf16⟩
  | .hbm, ⟨17, _⟩ => ⟨S8x1x8x1, .bf16⟩
  | .hbm, ⟨18, _⟩ => ⟨S1x64x1x64, .bf16⟩
  | .hbm, ⟨19, _⟩ => ⟨S8x64x8x64, .bf16⟩
  | .hbm, ⟨20, _⟩ => ⟨S8x64x8x64, .bf16⟩
  | .hbm, ⟨21, _⟩ => ⟨S8x64x8x64, .bf16⟩
  | .hbm, ⟨22, _⟩ => ⟨S512x512, .bf16⟩
  | .hbm, ⟨23, _⟩ => ⟨S1x512x1x512, .bf16⟩
  | .hbm, ⟨24, _⟩ => ⟨S2x512x1x512, .bf16⟩
  | .hbm, ⟨25, _⟩ => ⟨S1024x512, .bf16⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S8192x512, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x512, .f32⟩
  | .local _ .vmem, ⟨9, _⟩ => ⟨S256x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1024x512, .bf16⟩
  | .local _ .vmem, ⟨14, _⟩ => ⟨S256x512, .bf16⟩
  | .local _ .vmem, ⟨15, _⟩ => ⟨S256x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference17Ideal.lean ====
abbrev S8192x1024 : Shape := ⟨2, ![8192, 1024]⟩
abbrev S8192x512 : Shape := ⟨2, ![8192, 512]⟩
abbrev S512 : Shape := ⟨1, ![512]⟩
abbrev S8x64 : Shape := ⟨2, ![8, 64]⟩
abbrev S8192x8x64 : Shape := ⟨3, ![8192, 8, 64]⟩
abbrev S1x8192x512 : Shape := ⟨3, ![1, 8192, 512]⟩
abbrev S2x8192x512 : Shape := ⟨3, ![2, 8192, 512]⟩
abbrev S2x8192x8x64 : Shape := ⟨4, ![2, 8192, 8, 64]⟩
abbrev S_ : Shape := ⟨0, ![]⟩
abbrev S8192x8 : Shape := ⟨2, ![8192, 8]⟩
abbrev S8192x8x1 : Shape := ⟨3, ![8192, 8, 1]⟩
abbrev S1x512 : Shape := ⟨2, ![1, 512]⟩
abbrev S1x8192x8x64 : Shape := ⟨4, ![1, 8192, 8, 64]⟩
abbrev S1x1x8x64 : Shape := ⟨4, ![1, 1, 8, 64]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S8192x512, .f32⟩
  | .hbm, ⟨5, _⟩ => ⟨S512, .f32⟩
  | .hbm, ⟨6, _⟩ => ⟨S512, .f32⟩
  | .hbm, ⟨7, _⟩ => ⟨S8x64, .f32⟩
  | .hbm, ⟨8, _⟩ => ⟨S8192x8x64, .f32⟩
  | .hbm, ⟨9, _⟩ => ⟨S8192x8x64, .f32⟩
  | .hbm, ⟨10, _⟩ => ⟨S8192x512, .f32⟩
  | .hbm, ⟨11, _⟩ => ⟨S8192x512, .f32⟩
  | .hbm, ⟨12, _⟩ => ⟨S1x8192x512, .f32⟩
  | .hbm, ⟨13, _⟩ => ⟨S1x8192x512, .f32⟩
  | .hbm, ⟨14, _⟩ => ⟨S2x8192x512, .f32⟩
  | .hbm, ⟨15, _⟩ => ⟨S2x8192x8x64, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x8x64, .f32⟩
  | .hbm, ⟨20, _⟩ => ⟨S_, .f32⟩
  | .hbm, ⟨21, _⟩ => ⟨S8192x8, .f32⟩
  | .hbm, ⟨22, _⟩ => ⟨S8192x8x1, .f32⟩
  | .hbm, ⟨23, _⟩ => ⟨S_, .f32⟩
  | .hbm, ⟨24, _⟩ => ⟨S8192x8x1, .f32⟩
  | .hbm, ⟨25, _⟩ => ⟨S8192x8x1, .f32⟩
  | .hbm, ⟨26, _⟩ => ⟨S8192x8x64, .f32⟩
  | .hbm, ⟨27, _⟩ => ⟨S8192x8x64, .f32⟩
  | .hbm, ⟨28, _⟩ => ⟨S8192x8x64, .f32⟩
  | .hbm, ⟨29, _⟩ => ⟨S_, .f32⟩
  | .hbm, ⟨30, _⟩ => ⟨S8192x8, .f32⟩
  | .hbm, ⟨31, _⟩ => ⟨S8192x8x1, .f32⟩
  | .hbm, ⟨32, _⟩ => ⟨S_, .f32⟩
  | .hbm, ⟨33, _⟩ => ⟨S8192x8x1, .f32⟩
  | .hbm, ⟨34, _⟩ => ⟨S8192x8x1, .f32⟩
  | .hbm, ⟨35, _⟩ => ⟨S8192x8x64, .f32⟩
  | .hbm, ⟨36, _⟩ => ⟨S8192x8x64, .f32⟩
  | .hbm, ⟨37, _⟩ => ⟨S_, .f32⟩
  | .hbm, ⟨38, _⟩ => ⟨S8192x8x1, .f32⟩
  | .hbm, ⟨39, _⟩ => ⟨S8192x8x1, .f32⟩
  | .hbm, ⟨40, _⟩ => ⟨S8192x8x1, .f32⟩
  | .hbm, ⟨41, _⟩ => ⟨S8192x8x64, .f32⟩
  | .hbm, ⟨42, _⟩ => ⟨S8192x8x64, .f32⟩
  | .hbm, ⟨43, _⟩ => ⟨S8192x512, .f32⟩
  | .hbm, ⟨44, _⟩ => ⟨S1x512, .f32⟩
  | .hbm, ⟨45, _⟩ => ⟨S8192x512, .f32⟩
  | .hbm, ⟨46, _⟩ => ⟨S8192x512, .f32⟩
  | .hbm, ⟨47, _⟩ => ⟨S1x512, .f32⟩
  | .hbm, ⟨48, _⟩ => ⟨S8192x512, .f32⟩
  | .hbm, ⟨49, _⟩ => ⟨S8192x512, .f32⟩
  | .hbm, ⟨50, _⟩ => ⟨S1x8192x8x64, .f32⟩
  | .hbm, ⟨51, _⟩ => ⟨S2x8192x8x64, .f32⟩
  | .hbm, ⟨52, _⟩ => ⟨S2x8192x8x64, .f32⟩
  | .hbm, ⟨53, _⟩ => ⟨S1x1x8x64, .f32⟩
  | .hbm, ⟨54, _⟩ => ⟨S2x8192x8x64, .f32⟩
  | .hbm, ⟨55, _⟩ => ⟨S2x8192x8x64, .f32⟩
  | .hbm, ⟨56, _⟩ => ⟨S_, .f32⟩
  | .hbm, ⟨57, _⟩ => ⟨S8192x8, .f32⟩
  | .hbm, ⟨58, _⟩ => ⟨S8192x8x1, .f32⟩
  | .hbm, ⟨59, _⟩ => ⟨S8192x8x64, .f32⟩
  | .hbm, ⟨60, _⟩ => ⟨S8192x8x64, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Kernel25.lean ====
abbrev S8192x1024 : Shape := ⟨2, ![8192, 1024]⟩
abbrev S8192x512 : Shape := ⟨2, ![8192, 512]⟩
abbrev S512 : Shape := ⟨1, ![512]⟩
abbrev S8x64 : Shape := ⟨2, ![8, 64]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x512x1x512 : Shape := ⟨4, ![1, 512, 1, 512]⟩
abbrev S2x512x1x512 : Shape := ⟨4, ![2, 512, 1, 512]⟩
abbrev S1024x512 : Shape := ⟨2, ![1024, 512]⟩
abbrev S1x512 : Shape := ⟨2, ![1, 512]⟩
abbrev S256x1024 : Shape := ⟨2, ![256, 1024]⟩
abbrev S256x512 : Shape := ⟨2, ![256, 512]⟩

abbrev nBuf : Space → Nat
  | .hbm => 38
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S8192x512, .f32⟩
  | .hbm, ⟨5, _⟩ => ⟨S8192x1024, .f32⟩
  | .hbm, ⟨6, _⟩ => ⟨S512, .f32⟩
  | .hbm, ⟨7, _⟩ => ⟨S512, .f32⟩
  | .hbm, ⟨8, _⟩ => ⟨S8x64, .f32⟩
  | .hbm, ⟨9, _⟩ => ⟨S8x8, .i32⟩
  | .hbm, ⟨10, _⟩ => ⟨S8x8, .i32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i1⟩
  | .hbm, ⟨15, _⟩ => ⟨S8x8, .bf16⟩
  | .hbm, ⟨16, _⟩ => ⟨S_, .bf16⟩
  | .hbm, ⟨17, _⟩ => ⟨S64x64, .bf16⟩
  | .hbm, ⟨18, _⟩ => ⟨S8x1x8x1, .bf16⟩
  | .hbm, ⟨19, _⟩ => ⟨S1x64x1x64, .bf16⟩
  | .hbm, ⟨20, _⟩ => ⟨S8x64x8x64, .bf16⟩
  | .hbm, ⟨21, _⟩ => ⟨S8x64x8x64, .bf16⟩
  | .hbm, ⟨22, _⟩ => ⟨S8x64x8x64, .bf16⟩
  | .hbm, ⟨23, _⟩ => ⟨S512x512, .bf16⟩
  | .hbm, ⟨24, _⟩ => ⟨S1x512x1x512, .bf16⟩
  | .hbm, ⟨25, _⟩ => ⟨S2x512x1x512, .bf16⟩
  | .hbm, ⟨26, _⟩ => ⟨S1024x512, .bf16⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S8192x1024, .f32⟩
  | .hbm, ⟨31, _⟩ => ⟨S8192x512, .f32⟩
  | .hbm, ⟨32, _⟩ => ⟨S8192x512, .f32⟩
  | .hbm, ⟨33, _⟩ => ⟨S8192x1024, .f32⟩
  | .hbm, ⟨34, _⟩ => ⟨S8192x512, .f32⟩
  | .hbm, ⟨35, _⟩ => ⟨S1x512, .f32⟩
  | .hbm, ⟨36, _⟩ => ⟨S1x512, .f32⟩
  | .hbm, ⟨37, _⟩ => ⟨S1x512, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1024x512, .bf16⟩
  | .local _ .vmem, ⟨16, _⟩ => ⟨S256x1024, .f32⟩
  | .local _ .vmem, ⟨17, _⟩ => ⟨S256x1024, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x1024, .f32⟩
  | .local _ .vmem, ⟨23, _⟩ => ⟨S256x1024, .f32⟩
  | .local _ .vmem, ⟨24, _⟩ => ⟨S256x512, .f32⟩
  | .local _ .vmem, ⟨25, _⟩ => ⟨S256x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v14_3 : Ref sig .tc := ⟨.hbm, 33, rfl⟩
abbrev main_v14_4 : Ref sig .tc := ⟨.hbm, 34, rfl⟩
abbrev main_v14_5 : Ref sig .tc := ⟨.hbm, 35, rfl⟩
abbrev main_v14_6 : Ref sig .tc := ⟨.hbm, 36, rfl⟩
abbrev main_v14_7 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference25Ideal.lean ====
abbrev S8192x1024 : Shape := ⟨2, ![8192, 1024]⟩
abbrev S8192x512 : Shape := ⟨2, ![8192, 512]⟩
abbrev S512 : Shape := ⟨1, ![512]⟩
abbrev S8x64 : Shape := ⟨2, ![8, 64]⟩
abbrev S8192x8x64 : Shape := ⟨3, ![8192, 8, 64]⟩
abbrev S1x8192x512 : Shape := ⟨3, ![1, 8192, 512]⟩
abbrev S2x8192x512 : Shape := ⟨3, ![2, 8192, 512]⟩
abbrev S2x8192x8x64 : Shape := ⟨4, ![2, 8192, 8, 64]⟩
abbrev S_ : Shape := ⟨0, ![]⟩
abbrev S8192x8 : Shape := ⟨2, ![8192, 8]⟩
abbrev S8192x8x1 : Shape := ⟨3, ![8192, 8, 1]⟩
abbrev S1x512 : Shape := ⟨2, ![1, 512]⟩
abbrev S1x8192x8x64 : Shape := ⟨4, ![1, 8192, 8, 64]⟩
abbrev S1x1x8x64 : Shape := ⟨4, ![1, 1, 8, 64]⟩

abbrev nBuf : Space → Nat
  | .hbm => 167
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S8192x1024, .f32⟩
  | 4 => ⟨S8192x512, .f32⟩
  | 5 => ⟨S8192x1024, .f32⟩
  | 6 => ⟨S512, .f32⟩
  | 7 => ⟨S512, .f32⟩
  | 8 => ⟨S8x64, .f32⟩
  | 9 => ⟨S8192x8x64, .f32⟩
  | 10 => ⟨S8192x8x64, .f32⟩
  | 11 => ⟨S8192x512, .f32⟩
  | 12 => ⟨S8192x512, .f32⟩
  | 13 => ⟨S1x8192x512, .f32⟩
  | 14 => ⟨S1x8192x512, .f32⟩
  | 15 => ⟨S2x8192x512, .f32⟩
  | 16 => ⟨S2x8192x8x64, .f32⟩
  | 17 => ⟨S8192x512, .f32⟩
  | 18 => ⟨S8192x512, .f32⟩
  | 19 => ⟨S8192x512, .f32⟩
  | 20 => ⟨S8192x8x64, .f32⟩
  | 21 => ⟨S_, .f32⟩
  | 22 => ⟨S8192x8, .f32⟩
  | 23 => ⟨S8192x8x1, .f32⟩
  | 24 => ⟨S_, .f32⟩
  | 25 => ⟨S8192x8x1, .f32⟩
  | 26 => ⟨S8192x8x1, .f32⟩
  | 27 => ⟨S8192x8x64, .f32⟩
  | 28 => ⟨S8192x8x64, .f32⟩
  | 29 => ⟨S8192x8x64, .f32⟩
  | 30 => ⟨S_, .f32⟩
  | 31 => ⟨S8192x8x64, .f32⟩
  | 32 => ⟨S8192x8x64, .f32⟩
  | 33 => ⟨S_, .f32⟩
  | 34 => ⟨S8192x8, .f32⟩
  | 35 => ⟨S8192x8x1, .f32⟩
  | 36 => ⟨S_, .f32⟩
  | 37 => ⟨S8192x8x1, .f32⟩
  | 38 => ⟨S8192x8x1, .f32⟩
  | 39 => ⟨S8192x8x64, .f32⟩
  | 40 => ⟨S8192x8x64, .f32⟩
  | 41 => ⟨S_, .f32⟩
  | 42 => ⟨S8192x8x1, .f32⟩
  | 43 => ⟨S8192x8x1, .f32⟩
  | 44 => ⟨S8192x8x1, .f32⟩
  | 45 => ⟨S8192x8x1, .f32⟩
  | 46 => ⟨S_, .f32⟩
  | 47 => ⟨S8192x8x1, .f32⟩
  | 48 => ⟨S8192x8x1, .f32⟩
  | 49 => ⟨S8192x8x64, .f32⟩
  | 50 => ⟨S8192x8x64, .f32⟩
  | 51 => ⟨S8192x512, .f32⟩
  | 52 => ⟨S1x512, .f32⟩
  | 53 => ⟨S8192x512, .f32⟩
  | 54 => ⟨S8192x512, .f32⟩
  | 55 => ⟨S1x512, .f32⟩
  | 56 => ⟨S8192x512, .f32⟩
  | 57 => ⟨S8192x512, .f32⟩
  | 58 => ⟨S1x8192x8x64, .f32⟩
  | 59 => ⟨S2x8192x8x64, .f32⟩
  | 60 => ⟨S2x8192x8x64, .f32⟩
  | 61 => ⟨S1x1x8x64, .f32⟩
  | 62 => ⟨S2x8192x8x64, .f32⟩
  | 63 => ⟨S2x8192x8x64, .f32⟩
  | 64 => ⟨S_, .f32⟩
  | 65 => ⟨S8192x8, .f32⟩
  | 66 => ⟨S8192x8x1, .f32⟩
  | 67 => ⟨S8192x8x64, .f32⟩
  | 68 => ⟨S8192x8x64, .f32⟩
  | 69 => ⟨S8192x512, .f32⟩
  | 70 => ⟨S8192x512, .f32⟩
  | 71 => ⟨S8192x512, .f32⟩
  | 72 => ⟨S8192x512, .f32⟩
  | 73 => ⟨S8192x512, .f32⟩
  | 74 => ⟨S8192x512, .f32⟩
  | 75 => ⟨S8192x8x64, .f32⟩
  | 76 => ⟨S8192x8x64, .f32⟩
  | 77 => ⟨S8192x8x64, .f32⟩
  | 78 => ⟨S8192x8x64, .f32⟩
  | 79 => ⟨S_, .f32⟩
  | 80 => ⟨S8192x8, .f32⟩
  | 81 => ⟨S8192x8x1, .f32⟩
  | 82 => ⟨S_, .f32⟩
  | 83 => ⟨S8192x8, .f32⟩
  | 84 => ⟨S2x8192x8x64, .f32⟩
  | 85 => ⟨S2x8192x8x64, .f32⟩
  | 86 => ⟨S_, .f32⟩
  | 87 => ⟨S8x64, .f32⟩
  | 88 => ⟨S1x1x8x64, .f32⟩
  | 89 => ⟨S2x8192x8x64, .f32⟩
  | 90 => ⟨S2x8192x8x64, .f32⟩
  | 91 => ⟨S_, .f32⟩
  | 92 => ⟨S8x64, .f32⟩
  | 93 => ⟨S2x8192x8x64, .f32⟩
  | 94 => ⟨S2x8192x8x64, .f32⟩
  | 95 => ⟨S2x8192x8x64, .f32⟩
  | 96 => ⟨S_, .f32⟩
  | 97 => ⟨S8192x8x64, .f32⟩
  | 98 => ⟨S1x8192x8x64, .f32⟩
  | 99 => ⟨S_, .f32⟩
  | 100 => ⟨S8192x8x64, .f32⟩
  | 101 => ⟨S_, .f32⟩
  | 102 => ⟨S512, .f32⟩
  | 103 => ⟨S1x512, .f32⟩
  | 104 => ⟨S_, .f32⟩
  | 105 => ⟨S512, .f32⟩
  | 106 => ⟨S8192x512, .f32⟩
  | 107 => ⟨S_, .f32⟩
  | 108 => ⟨S512, .f32⟩
  | 109 => ⟨S1x512, .f32⟩
  | 110 => ⟨S8192x512, .f32⟩
  | 111 => ⟨S8192x512, .f32⟩
  | 112 => ⟨S_, .f32⟩
  | 113 => ⟨S512, .f32⟩
  | 114 => ⟨S8192x8x64, .f32⟩
  | 115 => ⟨S8192x8x64, .f32⟩
  | 116 => ⟨S_, .f32⟩
  | 117 => ⟨S8192x8, .f32⟩
  | 118 => ⟨S8192x8x1, .f32⟩
  | 119 => ⟨S8192x8x64, .f32⟩
  | 120 => ⟨S8192x8x64, .f32⟩
  | 121 => ⟨S8192x8x1, .f32⟩
  | 122 => ⟨S8192x8x64, .f32⟩
  | 123 => ⟨S_, .f32⟩
  | 124 => ⟨S8192x8, .f32⟩
  | 125 => ⟨S8192x8x1, .f32⟩
  | 126 => ⟨S_, .f32⟩
  | 127 => ⟨S8192x8x1, .f32⟩
  | _ => ⟨S8192x1024, .f32⟩

abbrev hbmTy0_1 (i : Nat) : BufTy := match i % 128 with
  | 0 => ⟨S8192x8x1, .f32⟩
  | 1 => ⟨S_, .f32⟩
  | 2 => ⟨S8192x8, .f32⟩
  | 3 => ⟨S8192x8x64, .f32⟩
  | 4 => ⟨S8192x8x64, .f32⟩
  | 5 => ⟨S8192x8x64, .f32⟩
  | 6 => ⟨S_, .f32⟩
  | 7 => ⟨S8192x8, .f32⟩
  | 8 => ⟨S8192x8x1, .f32⟩
  | 9 => ⟨S8192x8x64, .f32⟩
  | 10 => ⟨S8192x8x1, .f32⟩
  | 11 => ⟨S_, .f32⟩
  | 12 => ⟨S8192x8x1, .f32⟩
  | 13 => ⟨S8192x8x1, .f32⟩
  | 14 => ⟨S_, .f32⟩
  | 15 => ⟨S8192x8, .f32⟩
  | 16 => ⟨S8192x8x64, .f32⟩
  | 17 => ⟨S8192x8x64, .f32⟩
  | 18 => ⟨S8192x512, .f32⟩
  | 19 => ⟨S_, .f32⟩
  | 20 => ⟨S8192x1024, .f32⟩
  | 21 => ⟨S_, .f32⟩
  | 22 => ⟨S8192x1024, .f32⟩
  | 23 => ⟨S8192x1024, .f32⟩
  | 24 => ⟨S2x8192x512, .f32⟩
  | 25 => ⟨S1x8192x512, .f32⟩
  | 26 => ⟨S8192x512, .f32⟩
  | 27 => ⟨S1x8192x512, .f32⟩
  | 28 => ⟨S8192x512, .f32⟩
  | 29 => ⟨S_, .f32⟩
  | 30 => ⟨S8192x1024, .f32⟩
  | 31 => ⟨S_, .f32⟩
  | 32 => ⟨S8192x1024, .f32⟩
  | 33 => ⟨S8192x1024, .f32⟩
  | 34 => ⟨S8192x512, .f32⟩
  | 35 => ⟨S8192x512, .f32⟩
  | 36 => ⟨S1x512, .f32⟩
  | 37 => ⟨S1x512, .f32⟩
  | 38 => ⟨S1x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_7 : Ref sig .tc := ⟨.hbm, 79, rfl⟩
abbrev main_v62 : Ref sig .tc := ⟨.hbm, 80, rfl⟩
abbrev main_v63 : Ref sig .tc := ⟨.hbm, 81, rfl⟩
abbrev main_cst_8 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_9 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_10 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_v76 : Ref sig .tc := ⟨.hbm, 98, rfl⟩
abbrev main_cst_12 : Ref sig .tc := ⟨.hbm, 99, rfl⟩
abbrev main_v77 : Ref sig .tc := ⟨.hbm, 100, rfl⟩
abbrev main_cst_13 : Ref sig .tc := ⟨.hbm, 101, rfl⟩
abbrev main_v78 : Ref sig .tc := ⟨.hbm, 102, rfl⟩
abbrev main_v79 : Ref sig .tc := ⟨.hbm, 103, rfl⟩
abbrev main_cst_14 : Ref sig .tc := ⟨.hbm, 104, rfl⟩
abbrev main_v80 : Ref sig .tc := ⟨.hbm, 105, rfl⟩
abbrev main_v81 : Ref sig .tc := ⟨.hbm, 106, rfl⟩
abbrev main_cst_15 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_16 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_17 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_18 : Ref sig .tc := ⟨.hbm, 123, rfl⟩
abbrev main_v95 : Ref sig .tc := ⟨.hbm, 124, rfl⟩
abbrev main_v96 : Ref sig .tc := ⟨.hbm, 125, rfl⟩
abbrev main_cst_19 : Ref sig .tc := ⟨.hbm, 126, rfl⟩
abbrev main_v97 : Ref sig .tc := ⟨.hbm, 127, rfl⟩
abbrev main_v98 : Ref sig .tc := ⟨.hbm, 128, rfl⟩
abbrev main_cst_20 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_21 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_22 : Ref sig .tc := ⟨.hbm, 139, rfl⟩
abbrev main_v107 : Ref sig .tc := ⟨.hbm, 140, rfl⟩
abbrev main_v108 : Ref sig .tc := ⟨.hbm, 141, rfl⟩
abbrev main_cst_23 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_24 : Ref sig .tc := ⟨.hbm, 147, rfl⟩
abbrev main_v113 : Ref sig .tc := ⟨.hbm, 148, rfl⟩
abbrev main_cst_25 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_26 : Ref sig .tc := ⟨.hbm, 157, rfl⟩
abbrev main_v121 : Ref sig .tc := ⟨.hbm, 158, rfl⟩
abbrev main_cst_27 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩

abbrev nD : Nat := 1
abbrev τ : Topo := Topo.v7x

variable {F : FTy → Type} [FloatOps F]
-- ==== Kernel26.lean ====
abbrev S8x352x1024 : Shape := ⟨3, ![8, 352, 1024]⟩
abbrev S352x1024 : Shape := ⟨2, ![352, 1024]⟩
abbrev S8x88x1024 : Shape := ⟨3, ![8, 88, 1024]⟩
abbrev S88x1024 : Shape := ⟨2, ![88, 1024]⟩
abbrev S1x88x1024 : Shape := ⟨3, ![1, 88, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x88x1024, .bf16⟩
  | .local _ .vmem, ⟨1, _⟩ => ⟨S8x88x1024, .bf16⟩
  | .local _ .vmem, ⟨2, _⟩ => ⟨S88x1024, .f32⟩
  | .local _ .vmem, ⟨3, _⟩ => ⟨S88x1024, .f32⟩
  | .local _ .vmem, ⟨4, _⟩ => ⟨S88x1024, .f32⟩
  | .local _ .vmem, ⟨5, _⟩ => ⟨S88x1024, .f32⟩
  | .local _ .vmem, ⟨6, _⟩ => ⟨S88x1024, .f32⟩
  | .local _ .vmem, ⟨7, _⟩ => ⟨S88x1024, .f32⟩
  | .local _ .vmem, ⟨8, _⟩ => ⟨S88x1024, .f32⟩
  | .local _ .vmem, ⟨9, _⟩ => ⟨S88x1024, .f32⟩
  | .local _ .vmem, ⟨10, _⟩ => ⟨S88x1024, .f32⟩
  | .local _ .vmem, ⟨11, _⟩ => ⟨S88x1024, .f32⟩
  | .local _ .vmem, ⟨12, _⟩ => ⟨S88x1024, .f32⟩
  | .local _ .vmem, ⟨13, _⟩ => ⟨S88x1024, .f32⟩
  | .local _ .vmem, ⟨14, _⟩ => ⟨S88x1024, .f32⟩
  | .local _ .vmem, ⟨15, _⟩ => ⟨S88x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x88x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel27.lean ====
abbrev S8x1024x704 : Shape := ⟨3, ![8, 1024, 704]⟩
abbrev S1024x704 : Shape := ⟨2, ![1024, 704]⟩
abbrev S8x128x704 : Shape := ⟨3, ![8, 128, 704]⟩
abbrev S128x704 : Shape := ⟨2, ![128, 704]⟩
abbrev S1x128x704 : Shape := ⟨3, ![1, 128, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x128x704, .bf16⟩
  | .local _ .vmem, ⟨1, _⟩ => ⟨S8x128x704, .bf16⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference27Ideal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel28.lean ====
abbrev S8x1024x372 : Shape := ⟨3, ![8, 1024, 372]⟩
abbrev S1024x372 : Shape := ⟨2, ![1024, 372]⟩
abbrev S8x128x372 : Shape := ⟨3, ![8, 128, 372]⟩
abbrev S128x372 : Shape := ⟨2, ![128, 372]⟩
abbrev S1x128x372 : Shape := ⟨3, ![1, 128, 372]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x372, .bf16⟩
  | .hbm, ⟨1, _⟩ => ⟨S1024x372, .f32⟩
  | .hbm, ⟨2, _⟩ => ⟨S1024x372, .f32⟩
  | .hbm, ⟨3, _⟩ => ⟨S1024x372, .f32⟩
  | .hbm, ⟨4, _⟩ => ⟨S1024x372, .f32⟩
  | .hbm, ⟨5, _⟩ => ⟨S1024x372, .f32⟩
  | .hbm, ⟨6, _⟩ => ⟨S1024x372, .f32⟩
  | .hbm, ⟨7, _⟩ => ⟨S1024x372, .f32⟩
  | .local _ .vmem, ⟨0, _⟩ => ⟨S8x128x372, .bf16⟩
  | .local _ .vmem, ⟨1, _⟩ => ⟨S8x128x372, .bf16⟩
  | .local _ .vmem, ⟨2, _⟩ => ⟨S128x372, .f32⟩
  | .local _ .vmem, ⟨3, _⟩ => ⟨S128x372, .f32⟩
  | .local _ .vmem, ⟨4, _⟩ => ⟨S128x372, .f32⟩
  | .local _ .vmem, ⟨5, _⟩ => ⟨S128x372, .f32⟩
  | .local _ .vmem, ⟨6, _⟩ => ⟨S128x372, .f32⟩
  | .local _ .vmem, ⟨7, _⟩ => ⟨S128x372, .f32⟩
  | .local _ .vmem, ⟨8, _⟩ => ⟨S128x372, .f32⟩
  | .local _ .vmem, ⟨9, _⟩ => ⟨S128x372, .f32⟩
  | .local _ .vmem, ⟨10, _⟩ => ⟨S128x372, .f32⟩
  | .local _ .vmem, ⟨11, _⟩ => ⟨S128x372, .f32⟩
  | .local _ .vmem, ⟨12, _⟩ => ⟨S128x372, .f32⟩
  | .local _ .vmem, ⟨13, _⟩ => ⟨S128x372, .f32⟩
  | .local _ .vmem, ⟨14, _⟩ => ⟨S128x372, .f32⟩
  | .local _ .vmem, ⟨15, _⟩ => ⟨S128x372, .f32⟩
  | _, _ => ⟨S8x1024x372, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x372 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x372 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x372 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x372 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x372 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x372 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x372 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x372 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference28Ideal.lean ====
abbrev S8x1024x372 : Shape := ⟨3, ![8, 1024, 372]⟩
abbrev S1024x372 : Shape := ⟨2, ![1024, 372]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x372, .bf16⟩
  | .hbm, ⟨1, _⟩ => ⟨S1024x372, .f32⟩
  | .hbm, ⟨2, _⟩ => ⟨S1024x372, .f32⟩
  | .hbm, ⟨3, _⟩ => ⟨S1024x372, .f32⟩
  | .hbm, ⟨4, _⟩ => ⟨S8x1024x372, .f32⟩
  | .hbm, ⟨5, _⟩ => ⟨S_, .f32⟩
  | .hbm, ⟨6, _⟩ => ⟨S1024x372, .f32⟩
  | .hbm, ⟨7, _⟩ => ⟨S_, .f32⟩
  | .hbm, ⟨8, _⟩ => ⟨S1024x372, .f32⟩
  | .hbm, ⟨9, _⟩ => ⟨S1024x372, .f32⟩
  | .hbm, ⟨10, _⟩ => ⟨S_, .f32⟩
  | .hbm, ⟨11, _⟩ => ⟨S1024x372, .f32⟩
  | .hbm, ⟨12, _⟩ => ⟨S1024x372, .f32⟩
  | .hbm, ⟨13, _⟩ => ⟨S1024x372, .f32⟩
  | .hbm, ⟨14, _⟩ => ⟨S_, .f32⟩
  | .hbm, ⟨15, _⟩ => ⟨S1024x372, .f32⟩
  | .hbm, ⟨16, _⟩ => ⟨S1024x372, .f32⟩
  | .hbm, ⟨17, _⟩ => ⟨S1024x372, .f32⟩
  | .hbm, ⟨18, _⟩ => ⟨S_, .f32⟩
  | .hbm, ⟨19, _⟩ => ⟨S1024x372, .f32⟩
  | .hbm, ⟨20, _⟩ => ⟨S1024x372, .f32⟩
  | .hbm, ⟨21, _⟩ => ⟨S1024x372, .f32⟩
  | .hbm, ⟨22, _⟩ => ⟨S_, .f32⟩
  | .hbm, ⟨23, _⟩ => ⟨S1024x372, .f32⟩
  | .hbm, ⟨24, _⟩ => ⟨S1024x372, .f32⟩
  | .hbm, ⟨25, _⟩ => ⟨S_, .f32⟩
  | .hbm, ⟨26, _⟩ => ⟨S1024x372, .f32⟩
  | .hbm, ⟨27, _⟩ => ⟨S1024x372, .f32⟩
  | .hbm, ⟨28, _⟩ => ⟨S1024x372, .f32⟩
  | .hbm, ⟨29, _⟩ => ⟨S_, .f32⟩
  | .hbm, ⟨30, _⟩ => ⟨S1024x372, .f32⟩
  | .hbm, ⟨31, _⟩ => ⟨S1024x372, .f32⟩
  | .hbm, ⟨32, _⟩ => ⟨S1024x372, .f32⟩
  | .hbm, ⟨33, _⟩ => ⟨S_, .f32⟩
  | .hbm, ⟨34, _⟩ => ⟨S1024x372, .f32⟩
  | .hbm, ⟨35, _⟩ => ⟨S1024x372, .f32⟩
  | .hbm, ⟨36, _⟩ => ⟨S1024x372, .f32⟩
  | .hbm, ⟨37, _⟩ => ⟨S_, .f32⟩
  | .hbm, ⟨38, _⟩ => ⟨S1024x372, .f32⟩
  | .hbm, ⟨39, _⟩ => ⟨S1024x372, .f32⟩
  | _, _ => ⟨S8x1024x372, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel29.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference29Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Reals.lean ====
/- Facts about extended reals that the gradient equations use: scaling a finite sum by one half, products and sums of
   finite numbers, the logistic function, and the two ways of writing the derivative of `g ↦ g * sigmoid g`. -/
module

public import Idealize.ShloMosaic.PureOps
public import Idealize.ShloMosaic.Lib.Pipeline.ValueKit

@[expose] public section

noncomputable section

open Idealize.ShloMosaic

namespace Cert.Reals

/-- The printed f32 literal 0.5. -/
abbrev half : EReal := Ideal.ofBits FTy.f32 1056964608#32

theorem half_eq : half = (((1 / 2 : ℝ)) : EReal) := by
  simp [half, Ideal.ofBits, Ideal.ieee, -EReal.coe_mul]; norm_num

/-- A nonnegative real factor moves in and out of a finite sum of extended reals, whatever the summands. -/
theorem coe_mul_sum {ι : Type*} (s : Finset ι) (r : ℝ) (hr : 0 ≤ r) (f : ι → EReal) :
    ((r : EReal)) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- The factor 0.5 moves in and out of a finite sum. -/
theorem half_mul_sum {ι : Type*} (s : Finset ι) (f : ι → EReal) :
    half * ∑ i ∈ s, f i = ∑ i ∈ s, half * f i := by
  rw [half_eq]; exact coe_mul_sum s _ (by norm_num) f

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sum {ι : Type*} (s : Finset ι) (f : ι → EReal) (h : ∀ i, IsReal (f i)) : IsReal (∑ i ∈ s, f i) := by
  classical
  induction s using Finset.induction_on with
  | empty => exact ⟨0, by simp⟩
  | insert a s ha ih =>
    rw [Finset.sum_insert ha]
    obtain ⟨p, hp⟩ := h a; obtain ⟨q, hq⟩ := ih
    exact ⟨p + q, by rw [hp, hq, EReal.coe_add]⟩

theorem IsReal.half : IsReal half := ⟨_, half_eq⟩

/-- `|x| < +∞` says that `x` is a real number. -/
theorem IsReal.of_abs {x : Ideal .f32} (h : BitVec.ofBool (decide (FloatOps.absf x < Ideal.ofBits FTy.f32 2139095040#32)) = 1#1) :
    IsReal x := by
  have hinf : Ideal.ofBits FTy.f32 2139095040#32 = ⊤ := by simp [Ideal.ofBits, Ideal.ieee]
  rw [hinf] at h
  have h' : max (x : EReal) (-x) < ⊤ := by
    by_contra hc
    rw [show FloatOps.absf x = max x (-x) from rfl, decide_eq_false hc] at h
    exact absurd h (by decide)
  change EReal at x
  induction x with
  | bot => simp at h'
  | top => simp at h'
  | coe r => exact ⟨r, rfl⟩

/-- The logistic function as both programs write it. -/
abbrev sg (x : EReal) : EReal := Ideal.div 1 (1 + Ideal.exp (-x))

theorem exp_bot : Ideal.exp ⊥ = 0 := rfl
theorem exp_top : Ideal.exp ⊤ = ⊤ := rfl
theorem exp_coe (r : ℝ) : Ideal.exp (r : EReal) = (Real.exp r : EReal) := rfl

theorem sg_top : sg ⊤ = 1 := by
  simp [sg, Ideal.div, exp_bot]

theorem sg_bot : sg ⊥ = 0 := by
  have : (1 : EReal) + ⊤ = ⊤ := rfl
  simp [sg, Ideal.div, exp_top, this]

theorem sg_coe (r : ℝ) : sg (r : EReal) = (((1 + Real.exp (-r))⁻¹ : ℝ) : EReal) := by
  have h : (0 : ℝ) < 1 + Real.exp (-r) := by positivity
  have e : (1 : EReal) + Ideal.exp (-(r : EReal)) = ((1 + Real.exp (-r) : ℝ) : EReal) := by
    rw [← EReal.coe_neg, exp_coe, EReal.coe_add, EReal.coe_one]
  rw [sg, e, Ideal.div, if_neg (by exact_mod_cast h.ne'), one_mul, EReal.coe_inv]

/-- The derivative of `g ↦ g * sg g` times a finite `v`: the kernel factors it, the reference applies the product rule. -/
theorem dsilu (v g : EReal) (hv : IsReal v) :
    v * (sg g * (1 + g * (1 - sg g))) = v * sg g + g * v * (sg g * (1 - sg g)) := by
  obtain ⟨a, rfl⟩ := hv
  induction g with
  | bot => rw [sg_bot]; simp
  | top =>
    rw [sg_top]
    have : (1 : EReal) - 1 = 0 := by rw [← EReal.coe_one, ← EReal.coe_sub, sub_self, EReal.coe_zero]
    rw [this]; simp
  | coe r =>
    rw [sg_coe]
    norm_cast
    ring

end Cert.Reals
-- ==== Proof.OutBwd.lean ====
/- The three results of the backward pass of `0.5 * ((silu gate * up) @ w_out)`: what the pipelined kernel leaves in
   its result arrays is the reference's composed term over the same argument arrays. -/
module

public import proofs.«01_k».proof.Proof.Gen.KernelIdeal.Frame
public import proofs.«01_k».proof.Proof.Gen.ReferenceIdeal.Read
public import Idealize.ShloMosaic.Lib.Pipeline.ValueKit
public import Idealize.ShloMosaic.Lib.Claim
public import Idealize.ShloMosaic.Lib.Pipeline.ReadBack
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.OutBwd

open Cert.KernelIdeal Cert.KernelIdeal.Gen Cert.Reals

variable (m : (ℓ : Loc nD τ sig) → Buf (Elt Ideal) ℓ)

/-- Grid point `t = 8·j + i` takes row block `i` of the cotangent and hidden block `j`. -/
theorem idx : ∀ t : Fin cfg0.N, win0_0.index t = ![t.val % 8, 0] ∧ win0_1.index t = ![t.val / 8, 0]
    ∧ win0_2.index t = ![t.val / 8, t.val % 8, 0] ∧ win0_3.index t = ![t.val / 8, t.val % 8, 0]
    ∧ win0_4.index t = ![t.val / 8, t.val % 8, 0] ∧ win0_5.index t = ![t.val / 8, t.val % 8, 0]
    ∧ win0_6.index t = ![t.val / 8, t.val % 8, 0] ∧ win0_7.index t = ![t.val / 8, 0] ∧ t.val / 8 < 4 :=
  (by decide +kernel : ∀ t : Fin grid0.N, _)

/-- The four argument arrays of device `c`. -/
abbrev gate (c : Dev nD) : FVec Ideal S8192x2816 .f32 := m ((c : Thread nD τ).loc main_arg0)
abbrev up (c : Dev nD) : FVec Ideal S8192x2816 .f32 := m ((c : Thread nD τ).loc main_arg1)
abbrev w (c : Dev nD) : FVec Ideal S2816x1024 .f32 := m ((c : Thread nD τ).loc main_arg2)
abbrev dz (c : Dev nD) : FVec Ideal S8192x1024 .f32 := m ((c : Thread nD τ).loc main_arg3)

/-! ## The operands the host lines prepare -/

/-- The gate, cut into four blocks of 704 hidden columns. -/
theorem gate_at (c : Dev nD) (y : S4x8192x704.Idx) : (V m c main_v6 : FVec Ideal S4x8192x704 .bf16) y
    = gate m c (ix2 (y 1) ⟨(y 0).val * 704 + (y 2).val, by idx_bounds; omega⟩) := by
  simp only [V, hostOps0, hostOps0_1, List.flatten_cons, List.flatten_nil, List.append_nil, List.cons_append, List.nil_append]
  entry_read
  pointwise

/-- The up projection, cut the same way. -/
theorem up_at (c : Dev nD) (y : S4x8192x704.Idx) : (V m c main_v9 : FVec Ideal S4x8192x704 .bf16) y
    = up m c (ix2 (y 1) ⟨(y 0).val * 704 + (y 2).val, by idx_bounds; omega⟩) := by
  simp only [V, hostOps0, hostOps0_1, List.flatten_cons, List.flatten_nil, List.append_nil, List.cons_append, List.nil_append]
  entry_read
  pointwise

/-- `silu gate * up` at row `r`, hidden column `l`. -/
def act (c : Dev nD) (r : Fin 8192) (l : Fin 2816) : EReal :=
  gate m c (ix2 r l) * sg (gate m c (ix2 r l)) * up m c (ix2 r l)

/-- The activation, cut the same way. -/
theorem act_at (c : Dev nD) (y : S4x8192x704.Idx) : (V m c main_v12 : FVec Ideal S4x8192x704 .bf16) y
    = act m c (y 1) ⟨(y 0).val * 704 + (y 2).val, by idx_bounds; omega⟩ := by
  simp only [V, hostOps0, hostOps0_1, List.flatten_cons, List.flatten_nil, List.append_nil, List.cons_append, List.nil_append]
  entry_read
  simp only [StableHlo.TRef.toBuf, StableHlo.TRef.ofBuf, cast_cast, cast_eq]
  pointwise [act]

/-- The cotangent rows. -/
theorem dz_at (c : Dev nD) (y : S8192x1024.Idx) : (V m c main_v2 : FVec Ideal S8192x1024 .bf16) y
    = dz m c y := by
  simp only [V, hostOps0, hostOps0_1, List.flatten_cons, List.flatten_nil, List.append_nil, List.cons_append, List.nil_append]
  entry_read
  pointwise

/-- The output weights. -/
theorem w_at (c : Dev nD) (y : S2816x1024.Idx) : (V m c main_v3 : FVec Ideal S2816x1024 .bf16) y
    = w m c y := by
  simp only [V, hostOps0, hostOps0_1, List.flatten_cons, List.flatten_nil, List.append_nil, List.cons_append, List.nil_append]
  entry_read
  pointwise

/-! ## The input blocks of point `t` -/

theorem blk0_at (c : Dev nD) (t : Fin cfg0.N) (y : S1024x1024.Idx) : (iblk m c 0 t : FVec Ideal S1024x1024 .bf16) y
    = dz m c (ix2 ⟨t.val % 8 * 1024 + (y 0).val, by idx_bounds; omega⟩ (y 1)) := by
  blk_simp [iblk]
  refine (dz_at m c _).trans ?_
  blk_ext [idx t]

theorem blk1_at (c : Dev nD) (t : Fin cfg0.N) (y : S704x1024.Idx) : (iblk m c 1 t : FVec Ideal S704x1024 .bf16) y
    = w m c (ix2 ⟨t.val / 8 * 704 + (y 0).val, by have := (idx t).2.2.2.2.2.2.2.2; idx_bounds; omega⟩ (y 1)) := by
  blk_simp [iblk]
  refine (w_at m c _).trans ?_
  blk_ext [idx t]

theorem blk2_at (c : Dev nD) (t : Fin cfg0.N) (y : S1x1024x704.Idx) : (iblk m c 2 t : FVec Ideal S1x1024x704 .bf16) y
    = gate m c (ix2 ⟨t.val % 8 * 1024 + (y 1).val, by idx_bounds; omega⟩
        ⟨t.val / 8 * 704 + (y 2).val, by have := (idx t).2.2.2.2.2.2.2.2; idx_bounds; omega⟩) := by
  blk_simp [iblk]
  refine (gate_at m c _).trans ?_
  blk_ext [idx t]

theorem blk3_at (c : Dev nD) (t : Fin cfg0.N) (y : S1x1024x704.Idx) : (iblk m c 3 t : FVec Ideal S1x1024x704 .bf16) y
    = up m c (ix2 ⟨t.val % 8 * 1024 + (y 1).val, by idx_bounds; omega⟩
        ⟨t.val / 8 * 704 + (y 2).val, by have := (idx t).2.2.2.2.2.2.2.2; idx_bounds; omega⟩) := by
  blk_simp [iblk]
  refine (up_at m c _).trans ?_
  blk_ext [idx t]

theorem blk4_at (c : Dev nD) (t : Fin cfg0.N) (y : S1x1024x704.Idx) : (iblk m c 4 t : FVec Ideal S1x1024x704 .bf16) y
    = act m c ⟨t.val % 8 * 1024 + (y 1).val, by idx_bounds; omega⟩
        ⟨t.val / 8 * 704 + (y 2).val, by have := (idx t).2.2.2.2.2.2.2.2; idx_bounds; omega⟩ := by
  blk_simp [iblk]
  refine (act_at m c _).trans (congrArg₂ (act m c) (Fin.ext ?_) (Fin.ext ?_))
  · blk_simp [idx t]
  · blk_simp [idx t]

/-! ## One stored block -/

theorem pay6_at (v0 : FVec Ideal S1024x1024 .bf16) (v2 : FVec Ideal S704x1024 .bf16) (y : S1024x704.Idx) :
    k0_pay6 (F := Ideal) v0 v2 y = half * ∑ k : Fin 1024, v0 (ix2 (y 0) k) * v2 (ix2 (y 1) k) := by
  pointwise [k0_pay6, k0_pay5]

theorem pay9_at (v0 : FVec Ideal S1024x1024 .bf16) (v2 : FVec Ideal S704x1024 .bf16) (v7 v10 : FVec Ideal S1x1024x704 .bf16)
    (y : S1x1024x704.Idx) : k0_pay9 (F := Ideal) v0 v2 v7 v10 y
      = (half * ∑ k : Fin 1024, v0 (ix2 (y 1) k) * v2 (ix2 (y 2) k)) * v10 y * (sg (v7 y) * (1 + v7 y * (1 - sg (v7 y)))) := by
  pointwise [k0_pay9, k0_pay8, k0_pay7, k0_pay6, k0_pay5]
  simp only [zero_sub]

theorem pay10_at (v0 : FVec Ideal S1024x1024 .bf16) (v2 : FVec Ideal S704x1024 .bf16) (v7 : FVec Ideal S1x1024x704 .bf16)
    (y : S1x1024x704.Idx) : k0_pay1 (k0_pay10 (F := Ideal) v0 v2 v7) y
      = (half * ∑ k : Fin 1024, v0 (ix2 (y 1) k) * v2 (ix2 (y 2) k)) * (v7 y * sg (v7 y)) := by
  pointwise [k0_pay1, k0_pay10, k0_pay8, k0_pay7, k0_pay6, k0_pay5]
  simp only [zero_sub]

theorem pay3_at (v0 : FVec Ideal S1024x1024 .bf16) (acc : FVec Ideal S704x1024 .f32) (a : FVec Ideal S1x1024x704 .bf16)
    (y : S704x1024.Idx) : k0_pay3 (k0_pay5 v0) acc a y = acc y + ∑ k : Fin 1024, a (ix3 0 k (y 0)) * v0 (ix2 k (y 1)) := by
  pointwise [k0_pay3, k0_pay5]

theorem pay4_at (acc : FVec Ideal S704x1024 .f32) (y : S704x1024.Idx) : k0_pay4 (F := Ideal) acc y = half * acc y := by
  pointwise [k0_pay4]

theorem pay2_at (y : S704x1024.Idx) : k0_pay2 (F := Ideal) y = 0 := by
  pointwise [k0_pay2]

/-! ## The reference at an index -/

open Cert.ReferenceIdeal.Read in
theorem ref15_at (x0 x1 : FVec Ideal S8192x2816 .f32) (x2 : FVec Ideal S2816x1024 .f32) (x3 : FVec Ideal S8192x1024 .f32)
    (h1 : ∀ i, IsReal (x1 i)) (h2 : ∀ i, IsReal (x2 i)) (h3 : ∀ i, IsReal (x3 i)) (y : S4x8192x704.Idx) :
    val_main_v15 (F := Ideal) x0 x1 x2 x3 y
      = (half * ∑ k : Fin 1024, x3 (ix2 (y 1) k) * x2 (ix2 ⟨(y 0).val * 704 + (y 2).val, by idx_bounds; omega⟩ k))
          * x1 (ix2 (y 1) ⟨(y 0).val * 704 + (y 2).val, by idx_bounds; omega⟩)
          * (sg (x0 (ix2 (y 1) ⟨(y 0).val * 704 + (y 2).val, by idx_bounds; omega⟩))
            * (1 + x0 (ix2 (y 1) ⟨(y 0).val * 704 + (y 2).val, by idx_bounds; omega⟩)
              * (1 - sg (x0 (ix2 (y 1) ⟨(y 0).val * 704 + (y 2).val, by idx_bounds; omega⟩))))) := by
  rw [dsilu _ _ ((IsReal.half.mul (IsReal.sum _ _ fun k => (h3 _).mul (h2 _))).mul (h1 _)), half_mul_sum,
    ← val_main_v15_eq]
  pointwise
  simp only [mul_assoc]

open Cert.ReferenceIdeal.Read in
theorem ref18_at (x0 x1 : FVec Ideal S8192x2816 .f32) (x2 : FVec Ideal S2816x1024 .f32) (x3 : FVec Ideal S8192x1024 .f32)
    (y : S4x8192x704.Idx) :
    val_main_v18 (F := Ideal) x0 x2 x3 y
      = (half * ∑ k : Fin 1024, x3 (ix2 (y 1) k) * x2 (ix2 ⟨(y 0).val * 704 + (y 2).val, by idx_bounds; omega⟩ k))
          * (x0 (ix2 (y 1) ⟨(y 0).val * 704 + (y 2).val, by idx_bounds; omega⟩)
            * sg (x0 (ix2 (y 1) ⟨(y 0).val * 704 + (y 2).val, by idx_bounds; omega⟩))) := by
  rw [half_mul_sum, ← val_main_v18_eq, mul_comm]
  pointwise
  simp only [mul_assoc]

open Cert.ReferenceIdeal.Read in
theorem ref19_at (x0 x1 : FVec Ideal S8192x2816 .f32) (x3 : FVec Ideal S8192x1024 .f32) (y : S2816x1024.Idx) :
    val_main_v19 (F := Ideal) x0 x1 x3 y
      = half * ∑ r : Fin 8192, (x0 (ix2 r (y 0)) * sg (x0 (ix2 r (y 0))) * x1 (ix2 r (y 0))) * x3 (ix2 r (y 1)) := by
  rw [half_mul_sum, ← val_main_v19_eq]
  pointwise
  refine Finset.sum_congr rfl fun k _ => ?_
  rw [mul_assoc, mul_comm (x3 _)]

/-! ## The result arrays -/

open Cert.ReferenceIdeal.Read in
/-- The gradient of the gate. -/
theorem final5 (c : Dev nD) (h1 : ∀ i, IsReal (up m c i)) (h2 : ∀ i, IsReal (w m c i)) (h3 : ∀ i, IsReal (dz m c i)) :
    (dats m 0 c).arrAt 5 cfg0.N = val_main_v15 (F := Ideal) (gate m c) (up m c) (w m c) (dz m c) := by
  refine (dats m 0 c).arrAt_eq_of_covers 5 _ (by decide +kernel) fun t hf y => ?_
  blk_simp
  rw [after0_5]
  have key : k0_pay9 (F := Ideal) (iblk m c 0 t) (iblk m c 1 t) (iblk m c 2 t) (iblk m c 3 t) y
      = val_main_v15 (F := Ideal) (gate m c) (up m c) (w m c) (dz m c) (((cfg0.win 5).blk t).view.emb y) := by
    refine (pay9_at _ _ _ _ _).trans (Eq.trans ?_ (ref15_at _ _ _ _ h1 h2 h3 _).symm)
    simp only [blk0_at, blk1_at, blk2_at, blk3_at]
    blk_point [idx t]
  by_cases h0 : t.val % 8 = 0
  · have h1 : ¬ t.val % 8 = 7 := by omega
    rw [outsAt0_A m c t h0 h1]; frame_out
    exact key
  · by_cases h1 : t.val % 8 = 7
    · rw [outsAt0_C m c t h0 h1]; frame_out
      exact key
    · rw [outsAt0_B m c t h0 h1]; frame_out
      exact key

open Cert.ReferenceIdeal.Read in
/-- The gradient of the up projection. -/
theorem final6 (c : Dev nD) :
    (dats m 0 c).arrAt 6 cfg0.N = val_main_v18 (F := Ideal) (gate m c) (w m c) (dz m c) := by
  refine (dats m 0 c).arrAt_eq_of_covers 6 _ (by decide +kernel) fun t hf y => ?_
  blk_simp
  rw [after0_6]
  have key : k0_pay1 (k0_pay10 (F := Ideal) (iblk m c 0 t) (iblk m c 1 t) (iblk m c 2 t)) y
      = val_main_v18 (F := Ideal) (gate m c) (w m c) (dz m c) (((cfg0.win 6).blk t).view.emb y) := by
    refine (pay10_at _ _ _ _).trans (Eq.trans ?_ (ref18_at _ (up m c) _ _ _).symm)
    simp only [blk0_at, blk1_at, blk2_at]
    blk_point [idx t]
  by_cases h0 : t.val % 8 = 0
  · have h1 : ¬ t.val % 8 = 7 := by omega
    rw [outsAt0_A m c t h0 h1]; frame_out
    exact key
  · by_cases h1 : t.val % 8 = 7
    · rw [outsAt0_C m c t h0 h1]; frame_out
      exact key
    · rw [outsAt0_B m c t h0 h1]; frame_out
      exact key

/-- The accumulator after the last row block of a hidden block: the sum over the eight row blocks. -/
theorem acc_at (c : Dev nD) (t : Fin cfg0.N) (h : t.val % 8 = 7) (y : S704x1024.Idx) :
    ((outsAt0 m c t.val t.isLt).2.2.2 : FVec Ideal S704x1024 .f32) y
      = ∑ r : Fin 8192, act m c r ⟨t.val / 8 * 704 + (y 0).val, by have := (idx t).2.2.2.2.2.2.2.2; idx_bounds; omega⟩
          * dz m c (ix2 r (y 1)) := by
  rw [Pipeline.eq_sum_fin_of_reset_step_apply_of_flush (fun n h => ((outsAt0 m c n h).2.2.2 : FVec Ideal S704x1024 .f32)) 8 (fun _ => 0)
    (fun t y => ∑ k : Fin 1024, (show FVec Ideal S1x1024x704 .bf16 from iblk m c 4 t) (ix3 0 k (y 0)) * (show FVec Ideal S1024x1024 .bf16 from iblk m c 0 t) (ix2 k (y 1)))
    (fun t h y => by
      have h1 : ¬ t.val % 8 = 7 := by omega
      rw [outsAt0_A m c t h h1]; frame_out
      refine (pay3_at _ _ _ _).trans ?_
      rw [pay2_at])
    (fun t h y => by
      by_cases h1 : t.val % 8 = 7
      · rw [outsAt0_C m c t h h1]; frame_out
        simp only [read_unread_whole]
        exact pay3_at _ _ _ _
      · rw [outsAt0_B m c t h h1]; frame_out
        simp only [read_unread_whole]
        exact pay3_at _ _ _ _)
    t h y, zero_add]
  refine Fin.sum_mul_add_congr fun s k hl => ?_
  simp only [blk0_at, blk4_at]
  blk_point [idx t]
  all_goals (refine Fin.ext ?_; dsimp only; omega)

open Cert.ReferenceIdeal.Read in
/-- The gradient of the output weights. -/
theorem final7 (c : Dev nD) :
    (dats m 0 c).arrAt 7 cfg0.N = val_main_v19 (F := Ideal) (gate m c) (up m c) (dz m c) := by
  refine (dats m 0 c).arrAt_eq_of_covers 7 _ (by decide +kernel) fun t hf y => ?_
  blk_simp
  rw [after0_7]
  have h1 : t.val % 8 = 7 := (flush0_7 t).mp hf
  have h0 : ¬ t.val % 8 = 0 := by omega
  have e : (outsAt0 m c t.val t.isLt).2.2.1 = k0_pay4 (outsAt0 m c t.val t.isLt).2.2.2 := by
    rw [outsAt0_C m c t h0 h1]; frame_out
  rw [e]
  refine (pay4_at _ _).trans (Eq.trans ?_ (ref19_at _ _ _ _).symm)
  rw [acc_at m c t h1]
  refine congrArg (half * ·) (Finset.sum_congr rfl fun r _ => ?_)
  simp only [act]
  blk_point [idx t]

end Cert.OutBwd
-- ==== Proof.FfnInWgrad.lean ====
/- The gradient of the feed-forward's input weight, gate half and up half: each accumulated product of the transposed
   rows with the incoming gradient is the reference's composed term. -/
module

public import proofs.«01_k».proof.Proof.Gen.Kernel2Ideal.Frame
public import proofs.«01_k».proof.Proof.Gen.Reference2Ideal.Read
public import Idealize.ShloMosaic.Lib.Pipeline.ValueKit
public import Idealize.ShloMosaic.Lib.Claim
public import Idealize.ShloMosaic.Lib.Pipeline.ReadBack
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.FfnInWgrad

open Cert.Kernel2Ideal Cert.Kernel2Ideal.Gen Cert.Reals

variable (m : (ℓ : Loc nD τ sig) → Buf (Elt Ideal) ℓ)

/-- Grid point `t = 8·j + i` takes row block `i` and hidden block `j`. -/
theorem idx : ∀ t : Fin cfg0.N, win0_0.index t = ![t.val % 8, 0] ∧ win0_1.index t = ![t.val / 8, t.val % 8, 0]
    ∧ win0_2.index t = ![t.val / 8, t.val % 8, 0] ∧ win0_3.index t = ![t.val / 8, 0, 0] ∧ win0_4.index t = ![t.val / 8, 0, 0]
    ∧ t.val / 8 < 4 :=
  (by decide +kernel : ∀ t : Fin grid0.N, _)

/-- The argument arrays of device `c`: the rows and the two incoming gradients. -/
abbrev x (c : Dev nD) : FVec Ideal S8192x1024 .f32 := m ((c : Thread nD τ).loc main_arg0)
abbrev dg (c : Dev nD) : FVec Ideal S8192x2816 .f32 := m ((c : Thread nD τ).loc main_arg2)
abbrev du (c : Dev nD) : FVec Ideal S8192x2816 .f32 := m ((c : Thread nD τ).loc main_arg3)

theorem x_at (c : Dev nD) (y : S8192x1024.Idx) : (V m c main_v0 : FVec Ideal S8192x1024 .bf16) y = x m c y := by
  entry_read
  pointwise

theorem dg_at (c : Dev nD) (y : S4x8192x704.Idx) : (V m c main_v3 : FVec Ideal S4x8192x704 .bf16) y
    = dg m c (ix2 (y 1) ⟨(y 0).val * 704 + (y 2).val, by idx_bounds; omega⟩) := by
  entry_read
  pointwise

theorem du_at (c : Dev nD) (y : S4x8192x704.Idx) : (V m c main_v6 : FVec Ideal S4x8192x704 .bf16) y
    = du m c (ix2 (y 1) ⟨(y 0).val * 704 + (y 2).val, by idx_bounds; omega⟩) := by
  entry_read
  pointwise

theorem blk0_at (c : Dev nD) (t : Fin cfg0.N) (y : S1024x1024.Idx) : (iblk m c 0 t : FVec Ideal S1024x1024 .bf16) y
    = x m c (ix2 ⟨t.val % 8 * 1024 + (y 0).val, by idx_bounds; omega⟩ (y 1)) := by
  blk_simp [iblk]
  refine (x_at m c _).trans ?_
  blk_ext [idx t]

theorem blk1_at (c : Dev nD) (t : Fin cfg0.N) (y : S1x1024x704.Idx) : (iblk m c 1 t : FVec Ideal S1x1024x704 .bf16) y
    = dg m c (ix2 ⟨t.val % 8 * 1024 + (y 1).val, by idx_bounds; omega⟩
        ⟨t.val / 8 * 704 + (y 2).val, by have := (idx t).2.2.2.2.2; idx_bounds; omega⟩) := by
  blk_simp [iblk]
  refine (dg_at m c _).trans ?_
  blk_ext [idx t]

theorem blk2_at (c : Dev nD) (t : Fin cfg0.N) (y : S1x1024x704.Idx) : (iblk m c 2 t : FVec Ideal S1x1024x704 .bf16) y
    = du m c (ix2 ⟨t.val % 8 * 1024 + (y 1).val, by idx_bounds; omega⟩
        ⟨t.val / 8 * 704 + (y 2).val, by have := (idx t).2.2.2.2.2; idx_bounds; omega⟩) := by
  blk_simp [iblk]
  refine (du_at m c _).trans ?_
  blk_ext [idx t]

theorem pay4_at (a : FVec Ideal S1024x1024 .bf16) (acc : FVec Ideal S1024x704 .f32) (b : FVec Ideal S1x1024x704 .bf16)
    (y : S1024x704.Idx) : k0_pay4 a acc b y = acc y + ∑ k : Fin 1024, a (ix2 k (y 0)) * b (ix3 0 k (y 1)) := by
  pointwise [k0_pay4, k0_pay3]

theorem pay5_at (a : FVec Ideal S1024x1024 .bf16) (acc : FVec Ideal S1024x704 .f32) (b : FVec Ideal S1x1024x704 .bf16)
    (y : S1024x704.Idx) : k0_pay5 a acc b y = acc y + ∑ k : Fin 1024, a (ix2 k (y 0)) * b (ix3 0 k (y 1)) := by
  pointwise [k0_pay5, k0_pay3]

theorem pay6_at (acc : FVec Ideal S1024x704 .f32) (y : S1x1024x704.Idx) : k0_pay6 (F := Ideal) acc y = acc (ix2 (y 1) (y 2)) := by
  pointwise [k0_pay6]

theorem pay7_at (acc : FVec Ideal S1024x704 .f32) (y : S1x1024x704.Idx) : k0_pay7 (F := Ideal) acc y = acc (ix2 (y 1) (y 2)) := by
  pointwise [k0_pay7]

theorem pay1_at (y : S1024x704.Idx) : k0_pay1 (F := Ideal) y = 0 := by
  pointwise [k0_pay1]

theorem pay2_at (y : S1024x704.Idx) : k0_pay2 (F := Ideal) y = 0 := by
  pointwise [k0_pay2]

open Cert.Reference2Ideal.Read in
theorem ref10_at (x0 : FVec Ideal S8192x1024 .f32) (x2 x3 : FVec Ideal S8192x2816 .f32) (y : S4x1024x704.Idx) :
    val_main_v10 (F := Ideal) x0 x2 x3 y
      = ∑ r : Fin 8192, x0 (ix2 r (y 1)) * x2 (ix2 r ⟨(y 0).val * 704 + (y 2).val, by idx_bounds; omega⟩) := by
  rw [← val_main_v10_eq]
  pointwise
  refine Finset.sum_congr rfl fun r _ => ?_
  rw [dif_pos (by idx_bounds; omega)]
  exact mul_comm _ _

open Cert.Reference2Ideal.Read in
theorem ref13_at (x0 : FVec Ideal S8192x1024 .f32) (x2 x3 : FVec Ideal S8192x2816 .f32) (y : S4x1024x704.Idx) :
    val_main_v13 (F := Ideal) x0 x2 x3 y
      = ∑ r : Fin 8192, x0 (ix2 r (y 1)) * x3 (ix2 r ⟨(y 0).val * 704 + (y 2).val, by idx_bounds; omega⟩) := by
  rw [← val_main_v13_eq]
  pointwise
  refine Finset.sum_congr rfl fun r _ => ?_
  rw [dif_neg (by omega)]
  refine (mul_comm _ _).trans (congrArg (x0 (ix2 r (y 1)) * ·) (congrArg x3 (congrArg (ix2 r) (Fin.ext ?_))))
  dsimp only
  omega

/-- The accumulator of the gate half after the last row block. -/
theorem accg_at (c : Dev nD) (t : Fin cfg0.N) (h : t.val % 8 = 7) (y : S1024x704.Idx) :
    ((outsAt0 m c t.val t.isLt).2.2.1 : FVec Ideal S1024x704 .f32) y
      = ∑ r : Fin 8192, x m c (ix2 r (y 0))
          * dg m c (ix2 r ⟨t.val / 8 * 704 + (y 1).val, by have := (idx t).2.2.2.2.2; idx_bounds; omega⟩) := by
  rw [Pipeline.eq_sum_fin_of_reset_step_apply_of_flush (fun n h => ((outsAt0 m c n h).2.2.1 : FVec Ideal S1024x704 .f32)) 8 (fun _ => 0)
    (fun t y => ∑ k : Fin 1024, (show FVec Ideal S1024x1024 .bf16 from iblk m c 0 t) (ix2 k (y 0)) * (show FVec Ideal S1x1024x704 .bf16 from iblk m c 1 t) (ix3 0 k (y 1)))
    (fun t h y => by
      have h1 : ¬ t.val % 8 = 7 := by omega
      rw [outsAt0_A m c t h h1]; frame_out
      refine (pay4_at _ _ _ _).trans ?_
      rw [pay1_at])
    (fun t h y => by
      by_cases h1 : t.val % 8 = 7
      · rw [outsAt0_C m c t h h1]; frame_out
        simp only [read_unread_whole]
        exact pay4_at _ _ _ _
      · rw [outsAt0_B m c t h h1]; frame_out
        simp only [read_unread_whole]
        exact pay4_at _ _ _ _)
    t h y, zero_add]
  refine Fin.sum_mul_add_congr fun s k hl => ?_
  simp only [blk0_at, blk1_at]
  blk_point [idx t]
  all_goals (refine Fin.ext ?_; dsimp only; omega)

open Cert.Reference2Ideal.Read in
/-- The gate half's result array is the reference's. -/
theorem final3 (c : Dev nD) :
    (dats m 0 c).arrAt 3 cfg0.N = val_main_v10 (F := Ideal) (x m c) (dg m c) (du m c) := by
  refine (dats m 0 c).arrAt_eq_of_covers 3 _ (by decide +kernel) fun t hf y => ?_
  blk_simp
  rw [after0_3]
  have h1 : t.val % 8 = 7 := (flush0_3 t).mp hf
  have h0 : ¬ t.val % 8 = 0 := by omega
  have e : (outsAt0 m c t.val t.isLt).1 = k0_pay6 (outsAt0 m c t.val t.isLt).2.2.1 := by
    rw [outsAt0_C m c t h0 h1]; frame_out
  rw [e]
  refine (pay6_at _ _).trans (Eq.trans ?_ (ref10_at _ _ _ _).symm)
  rw [accg_at m c t h1]
  blk_point [idx t]

/-- The accumulator of the up half after the last row block. -/
theorem accu_at (c : Dev nD) (t : Fin cfg0.N) (h : t.val % 8 = 7) (y : S1024x704.Idx) :
    ((outsAt0 m c t.val t.isLt).2.2.2 : FVec Ideal S1024x704 .f32) y
      = ∑ r : Fin 8192, x m c (ix2 r (y 0))
          * du m c (ix2 r ⟨t.val / 8 * 704 + (y 1).val, by have := (idx t).2.2.2.2.2; idx_bounds; omega⟩) := by
  rw [Pipeline.eq_sum_fin_of_reset_step_apply_of_flush (fun n h => ((outsAt0 m c n h).2.2.2 : FVec Ideal S1024x704 .f32)) 8 (fun _ => 0)
    (fun t y => ∑ k : Fin 1024, (show FVec Ideal S1024x1024 .bf16 from iblk m c 0 t) (ix2 k (y 0)) * (show FVec Ideal S1x1024x704 .bf16 from iblk m c 2 t) (ix3 0 k (y 1)))
    (fun t h y => by
      have h1 : ¬ t.val % 8 = 7 := by omega
      rw [outsAt0_A m c t h h1]; frame_out
      refine (pay5_at _ _ _ _).trans ?_
      rw [pay2_at])
    (fun t h y => by
      by_cases h1 : t.val % 8 = 7
      · rw [outsAt0_C m c t h h1]; frame_out
        simp only [read_unread_whole]
        exact pay5_at _ _ _ _
      · rw [outsAt0_B m c t h h1]; frame_out
        simp only [read_unread_whole]
        exact pay5_at _ _ _ _)
    t h y, zero_add]
  refine Fin.sum_mul_add_congr fun s k hl => ?_
  simp only [blk0_at, blk2_at]
  blk_point [idx t]
  all_goals (refine Fin.ext ?_; dsimp only; omega)

open Cert.Reference2Ideal.Read in
/-- The up half's result array is the reference's. -/
theorem final4 (c : Dev nD) :
    (dats m 0 c).arrAt 4 cfg0.N = val_main_v13 (F := Ideal) (x m c) (dg m c) (du m c) := by
  refine (dats m 0 c).arrAt_eq_of_covers 4 _ (by decide +kernel) fun t hf y => ?_
  blk_simp
  rw [after0_4]
  have h1 : t.val % 8 = 7 := (flush0_4 t).mp hf
  have h0 : ¬ t.val % 8 = 0 := by omega
  have e : (outsAt0 m c t.val t.isLt).2.1 = k0_pay7 (outsAt0 m c t.val t.isLt).2.2.2 := by
    rw [outsAt0_C m c t h0 h1]; frame_out
  rw [e]
  refine (pay7_at _ _).trans (Eq.trans ?_ (ref13_at _ _ _ _).symm)
  rw [accu_at m c t h1]
  blk_point [idx t]

end Cert.FfnInWgrad
-- ==== Proof.FfnInDgrad.lean ====
/- The gradient of the feed-forward's input: the two products with the transposed weight halves, accumulated over the
   hidden blocks, plus the residual branch's share, are the reference's composed term. -/
module

public import proofs.«01_k».proof.Proof.Gen.Kernel3Ideal.Frame
public import proofs.«01_k».proof.Proof.Gen.Reference3Ideal.Read
public import Idealize.ShloMosaic.Lib.Pipeline.ValueKit
public import Idealize.ShloMosaic.Lib.Claim
public import Idealize.ShloMosaic.Lib.Pipeline.ReadBack
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.FfnInDgrad

open Cert.Kernel3Ideal Cert.Kernel3Ideal.Gen Cert.Reals

variable (m : (ℓ : Loc nD τ sig) → Buf (Elt Ideal) ℓ)

/-- Grid point `t = 4·i + j` takes row block `i` and hidden block `j`. -/
theorem idx : ∀ t : Fin cfg0.N, win0_0.index t = ![t.val % 4, t.val / 4, 0] ∧ win0_1.index t = ![t.val % 4, t.val / 4, 0]
    ∧ win0_2.index t = ![t.val % 4, 0, 0] ∧ win0_3.index t = ![t.val % 4 + 4, 0, 0] ∧ win0_4.index t = ![t.val / 4, 0]
    ∧ win0_5.index t = ![t.val / 4, 0] ∧ t.val / 4 < 8 :=
  (by decide +kernel : ∀ t : Fin grid0.N, _)

/-- The argument arrays of device `c`: the weight, the two incoming gradients of the halves, and the residual's. -/
abbrev w (c : Dev nD) : FVec Ideal S1024x5632 .f32 := m ((c : Thread nD τ).loc main_arg1)
abbrev dg (c : Dev nD) : FVec Ideal S8192x2816 .f32 := m ((c : Thread nD τ).loc main_arg2)
abbrev du (c : Dev nD) : FVec Ideal S8192x2816 .f32 := m ((c : Thread nD τ).loc main_arg3)
abbrev dz (c : Dev nD) : FVec Ideal S8192x1024 .f32 := m ((c : Thread nD τ).loc main_arg4)

theorem w_at (c : Dev nD) (y : S8x1024x704.Idx) : (V m c main_v2 : FVec Ideal S8x1024x704 .bf16) y
    = w m c (ix2 (y 1) ⟨(y 0).val * 704 + (y 2).val, by idx_bounds; omega⟩) := by
  entry_read
  pointwise

theorem dg_at (c : Dev nD) (y : S4x8192x704.Idx) : (V m c main_v5 : FVec Ideal S4x8192x704 .bf16) y
    = dg m c (ix2 (y 1) ⟨(y 0).val * 704 + (y 2).val, by idx_bounds; omega⟩) := by
  entry_read
  pointwise

theorem du_at (c : Dev nD) (y : S4x8192x704.Idx) : (V m c main_v8 : FVec Ideal S4x8192x704 .bf16) y
    = du m c (ix2 (y 1) ⟨(y 0).val * 704 + (y 2).val, by idx_bounds; omega⟩) := by
  entry_read
  pointwise

theorem dz_at (c : Dev nD) (y : S8192x1024.Idx) : (V m c main_arg4 : FVec Ideal S8192x1024 .f32) y = dz m c y := by
  entry_read
  rfl

theorem blk0_at (c : Dev nD) (t : Fin cfg0.N) (y : S1x1024x704.Idx) : (iblk m c 0 t : FVec Ideal S1x1024x704 .bf16) y
    = dg m c (ix2 ⟨t.val / 4 * 1024 + (y 1).val, by have := (idx t).2.2.2.2.2.2; idx_bounds; omega⟩
        ⟨t.val % 4 * 704 + (y 2).val, by idx_bounds; omega⟩) := by
  blk_simp [iblk]
  refine (dg_at m c _).trans ?_
  blk_ext [idx t]

theorem blk1_at (c : Dev nD) (t : Fin cfg0.N) (y : S1x1024x704.Idx) : (iblk m c 1 t : FVec Ideal S1x1024x704 .bf16) y
    = du m c (ix2 ⟨t.val / 4 * 1024 + (y 1).val, by have := (idx t).2.2.2.2.2.2; idx_bounds; omega⟩
        ⟨t.val % 4 * 704 + (y 2).val, by idx_bounds; omega⟩) := by
  blk_simp [iblk]
  refine (du_at m c _).trans ?_
  blk_ext [idx t]

theorem blk2_at (c : Dev nD) (t : Fin cfg0.N) (y : S1x1024x704.Idx) : (iblk m c 2 t : FVec Ideal S1x1024x704 .bf16) y
    = w m c (ix2 (y 1) ⟨t.val % 4 * 704 + (y 2).val, by idx_bounds; omega⟩) := by
  blk_simp [iblk]
  refine (w_at m c _).trans ?_
  blk_ext [idx t]

theorem blk3_at (c : Dev nD) (t : Fin cfg0.N) (y : S1x1024x704.Idx) : (iblk m c 3 t : FVec Ideal S1x1024x704 .bf16) y
    = w m c (ix2 (y 1) ⟨2816 + (t.val % 4 * 704 + (y 2).val), by idx_bounds; omega⟩) := by
  blk_simp [iblk]
  refine (w_at m c _).trans ?_
  blk_ext [idx t]

theorem blk4_at (c : Dev nD) (t : Fin cfg0.N) (y : S1024x1024.Idx) : (iblk m c 4 t : FVec Ideal S1024x1024 .f32) y
    = dz m c (ix2 ⟨t.val / 4 * 1024 + (y 0).val, by have := (idx t).2.2.2.2.2.2; idx_bounds; omega⟩ (y 1)) := by
  blk_simp [iblk]
  refine (dz_at m c _).trans ?_
  blk_ext [idx t]

theorem pay2_at (acc : FVec Ideal S1024x1024 .f32) (a b a' b' : FVec Ideal S1x1024x704 .bf16) (y : S1024x1024.Idx) :
    k0_pay2 acc a b a' b' y = acc y + ∑ k : Fin 704, (a (ix3 0 (y 0) k) * b (ix3 0 (y 1) k) + a' (ix3 0 (y 0) k) * b' (ix3 0 (y 1) k)) := by
  rw [Finset.sum_add_distrib]
  pointwise [k0_pay2]

theorem pay3_at (acc b : FVec Ideal S1024x1024 .f32) (y : S1024x1024.Idx) :
    k0_pay3 (F := Ideal) acc b y = acc y + Ideal.ofBits FTy.f32 0x3F9837F0#32 * b y := by
  pointwise [k0_pay3]

theorem pay1_at (y : S1024x1024.Idx) : k0_pay1 (F := Ideal) y = 0 := by
  pointwise [k0_pay1]

open Cert.Reference3Ideal.Read in
theorem ref_at (x1 : FVec Ideal S1024x5632 .f32) (x2 x3 : FVec Ideal S8192x2816 .f32) (x4 : FVec Ideal S8192x1024 .f32)
    (y : S8192x1024.Idx) : val_main_v9 (F := Ideal) x1 x2 x3 x4 y
      = (∑ l : Fin 2816, (x2 (ix2 (y 0) l) * x1 (ix2 (y 1) ⟨l.val, by omega⟩)
          + x3 (ix2 (y 0) l) * x1 (ix2 (y 1) ⟨2816 + l.val, by omega⟩)))
        + Ideal.ofBits FTy.f32 0x3F9837F0#32 * x4 y := by
  rw [Finset.sum_add_distrib, ← val_main_v9_eq]
  pointwise
  exact add_comm _ _

/-- The accumulator after the last hidden block. -/
theorem acc_at (c : Dev nD) (t : Fin cfg0.N) (h : t.val % 4 = 3) (y : S1024x1024.Idx) :
    ((outsAt0 m c t.val t.isLt).2 : FVec Ideal S1024x1024 .f32) y
      = ∑ l : Fin 2816, (dg m c (ix2 ⟨t.val / 4 * 1024 + (y 0).val, by have := (idx t).2.2.2.2.2.2; idx_bounds; omega⟩ l)
            * w m c (ix2 (y 1) ⟨l.val, by omega⟩)
          + du m c (ix2 ⟨t.val / 4 * 1024 + (y 0).val, by have := (idx t).2.2.2.2.2.2; idx_bounds; omega⟩ l)
            * w m c (ix2 (y 1) ⟨2816 + l.val, by omega⟩)) := by
  rw [Pipeline.eq_sum_fin_of_reset_step_apply_of_flush (fun n h => ((outsAt0 m c n h).2 : FVec Ideal S1024x1024 .f32)) 4 (fun _ => 0)
    (fun t y => ∑ k : Fin 704, ((show FVec Ideal S1x1024x704 .bf16 from iblk m c 0 t) (ix3 0 (y 0) k) * (show FVec Ideal S1x1024x704 .bf16 from iblk m c 2 t) (ix3 0 (y 1) k)
      + (show FVec Ideal S1x1024x704 .bf16 from iblk m c 1 t) (ix3 0 (y 0) k) * (show FVec Ideal S1x1024x704 .bf16 from iblk m c 3 t) (ix3 0 (y 1) k)))
    (fun t h y => by
      have h1 : ¬ t.val % 4 = 3 := by omega
      rw [outsAt0_A m c t h h1]; frame_out
      refine (pay2_at _ _ _ _ _ _).trans ?_
      rw [pay1_at])
    (fun t h y => by
      by_cases h1 : t.val % 4 = 3
      · rw [outsAt0_C m c t h h1]; frame_out
        simp only [read_unread_whole]
        exact pay2_at _ _ _ _ _ _
      · rw [outsAt0_B m c t h h1]; frame_out
        simp only [read_unread_whole]
        exact pay2_at _ _ _ _ _ _)
    t h y, zero_add]
  refine Fin.sum_mul_add_congr fun s k hl => ?_
  simp only [blk0_at, blk1_at, blk2_at, blk3_at]
  blk_point [idx t]
  all_goals (refine Fin.ext ?_; dsimp only; omega)

open Cert.Reference3Ideal.Read in
/-- The result array is the reference's. -/
theorem final (c : Dev nD) :
    (dats m 0 c).arrAt 5 cfg0.N = val_main_v9 (F := Ideal) (w m c) (dg m c) (du m c) (dz m c) := by
  refine (dats m 0 c).arrAt_eq_of_covers 5 _ (by decide +kernel) fun t hf y => ?_
  blk_simp
  rw [after0_5]
  have h1 : t.val % 4 = 3 := (flush0_5 t).mp hf
  have h0 : ¬ t.val % 4 = 0 := by omega
  have e : (outsAt0 m c t.val t.isLt).1 = k0_pay3 (outsAt0 m c t.val t.isLt).2 (iblk m c 4 t) := by
    rw [outsAt0_C m c t h0 h1]; frame_out
  rw [e]
  refine (pay3_at _ _ _).trans (Eq.trans ?_ (ref_at _ _ _ _ _).symm)
  rw [acc_at m c t h1]
  simp only [blk4_at]
  blk_point [idx t]

end Cert.FfnInDgrad
-- ==== Proof.InWgrad.lean ====
/- The gradient of the combined input projection's weight: the accumulated product of the transposed rows with
   the incoming gradient is the reference's composed term. -/
module

public import proofs.«01_k».proof.Proof.Gen.Kernel4Ideal.Frame
public import proofs.«01_k».proof.Proof.Gen.Reference4Ideal.Read
public import Idealize.ShloMosaic.Lib.Pipeline.ValueKit
public import Idealize.ShloMosaic.Lib.Claim
public import Idealize.ShloMosaic.Lib.Pipeline.ReadBack
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.InWgrad

open Cert.Kernel4Ideal Cert.Kernel4Ideal.Gen Cert.Reals

variable (m : (ℓ : Loc nD τ sig) → Buf (Elt Ideal) ℓ)

/-- Grid point `t = 24·i + 8·j + k` takes row block `k`, output block `(i, j)`. -/
theorem idx : ∀ t : Fin cfg0.N, win0_0.index t = ![t.val % 8, t.val / 24] ∧ win0_1.index t = ![t.val % 8, t.val / 8 % 3]
    ∧ win0_2.index t = ![t.val / 24, t.val / 8 % 3] ∧ t.val / 24 < 2 :=
  (by decide +kernel : ∀ t : Fin grid0.N, _)

/-- The argument arrays of device `c`: the rows and the incoming gradient. -/
abbrev x (c : Dev nD) : FVec Ideal S8192x1024 .f32 := m ((c : Thread nD τ).loc main_arg0)
abbrev dp (c : Dev nD) : FVec Ideal S8192x3072 .f32 := m ((c : Thread nD τ).loc main_arg2)

theorem x_at (c : Dev nD) (y : S8192x1024.Idx) : (V m c main_v0 : FVec Ideal S8192x1024 .bf16) y = x m c y := by
  entry_read
  pointwise

theorem dp_at (c : Dev nD) (y : S8192x3072.Idx) : (V m c main_v1 : FVec Ideal S8192x3072 .bf16) y = dp m c y := by
  entry_read
  pointwise

theorem blk0_at (c : Dev nD) (t : Fin cfg0.N) (y : S1024x512.Idx) : (iblk m c 0 t : FVec Ideal S1024x512 .bf16) y
    = x m c (ix2 ⟨t.val % 8 * 1024 + (y 0).val, by idx_bounds; omega⟩
        ⟨t.val / 24 * 512 + (y 1).val, by have := (idx t).2.2.2; idx_bounds; omega⟩) := by
  blk_simp [iblk]
  refine (x_at m c _).trans ?_
  blk_ext [idx t]

theorem blk1_at (c : Dev nD) (t : Fin cfg0.N) (y : S1024x1024.Idx) : (iblk m c 1 t : FVec Ideal S1024x1024 .bf16) y
    = dp m c (ix2 ⟨t.val % 8 * 1024 + (y 0).val, by idx_bounds; omega⟩
        ⟨t.val / 8 % 3 * 1024 + (y 1).val, by idx_bounds; omega⟩) := by
  blk_simp [iblk]
  refine (dp_at m c _).trans ?_
  blk_ext [idx t]

theorem pay2_at (acc : FVec Ideal S512x1024 .f32) (a : FVec Ideal S1024x512 .bf16) (b : FVec Ideal S1024x1024 .bf16)
    (y : S512x1024.Idx) : k0_pay2 acc a b y = acc y + ∑ k : Fin 1024, a (ix2 k (y 0)) * b (ix2 k (y 1)) := by
  pointwise [k0_pay2]

theorem pay3_at (acc : FVec Ideal S512x1024 .f32) (y : S512x1024.Idx) : k0_pay3 (F := Ideal) acc y = acc y := by
  pointwise [k0_pay3]

theorem pay1_at (y : S512x1024.Idx) : k0_pay1 (F := Ideal) y = 0 := by
  pointwise [k0_pay1]

open Cert.Reference4Ideal.Read in
theorem ref_at (x0 : FVec Ideal S8192x1024 .f32) (x2 : FVec Ideal S8192x3072 .f32) (y : S1024x3072.Idx) :
    val_main_v3 (F := Ideal) x0 x2 y = ∑ r : Fin 8192, x0 (ix2 r (y 0)) * x2 (ix2 r (y 1)) := by
  rw [← val_main_v3_eq]
  pointwise
  all_goals exact Finset.sum_congr rfl fun _ _ => mul_comm _ _

/-- The accumulator after the last row block of an output block. -/
theorem acc_at (c : Dev nD) (t : Fin cfg0.N) (h : t.val % 8 = 7) (y : S512x1024.Idx) :
    ((outsAt0 m c t.val t.isLt).2 : FVec Ideal S512x1024 .f32) y
      = ∑ r : Fin 8192, x m c (ix2 r ⟨t.val / 24 * 512 + (y 0).val, by have := (idx t).2.2.2; idx_bounds; omega⟩)
          * dp m c (ix2 r ⟨t.val / 8 % 3 * 1024 + (y 1).val, by idx_bounds; omega⟩) := by
  rw [Pipeline.eq_sum_fin_of_reset_step_apply_of_flush (fun n h => ((outsAt0 m c n h).2 : FVec Ideal S512x1024 .f32)) 8 (fun _ => 0)
    (fun t y => ∑ k : Fin 1024, (show FVec Ideal S1024x512 .bf16 from iblk m c 0 t) (ix2 k (y 0)) * (show FVec Ideal S1024x1024 .bf16 from iblk m c 1 t) (ix2 k (y 1)))
    (fun t h y => by
      have h1 : ¬ t.val % 8 = 7 := by omega
      rw [outsAt0_A m c t h h1]; frame_out
      refine (pay2_at _ _ _ _).trans ?_
      rw [pay1_at])
    (fun t h y => by
      by_cases h1 : t.val % 8 = 7
      · rw [outsAt0_C m c t h h1]; frame_out
        simp only [read_unread_whole]
        exact pay2_at _ _ _ _
      · rw [outsAt0_B m c t h h1]; frame_out
        simp only [read_unread_whole]
        exact pay2_at _ _ _ _)
    t h y, zero_add]
  refine Fin.sum_mul_add_congr fun s k hl => ?_
  simp only [blk0_at, blk1_at]
  blk_point [idx t]
  all_goals (refine Fin.ext ?_; dsimp only; omega)

open Cert.Reference4Ideal.Read in
/-- The result array is the reference's. -/
theorem final (c : Dev nD) :
    (dats m 0 c).arrAt 2 cfg0.N = val_main_v3 (F := Ideal) (x m c) (dp m c) := by
  refine (dats m 0 c).arrAt_eq_of_covers 2 _ (by decide +kernel) fun t hf y => ?_
  blk_simp
  rw [after0_2]
  have h1 : t.val % 8 = 7 := (flush0_2 t).mp hf
  have h0 : ¬ t.val % 8 = 0 := by omega
  have e : (outsAt0 m c t.val t.isLt).1 = k0_pay3 (outsAt0 m c t.val t.isLt).2 := by
    rw [outsAt0_C m c t h0 h1]; frame_out
  rw [e]
  refine (pay3_at _ _).trans (Eq.trans ?_ (ref_at _ _ _).symm)
  rw [acc_at m c t h1]
  blk_point [idx t]

end Cert.InWgrad
-- ==== Proof.InDgrad.lean ====
/- The gradient of the combined input projection's input: the accumulated product of the incoming gradient with the
   transposed weight, plus the residual branch's share, is the reference's composed term. -/
module

public import proofs.«01_k».proof.Proof.Gen.Kernel5Ideal.Frame
public import proofs.«01_k».proof.Proof.Gen.Reference5Ideal.Read
public import Idealize.ShloMosaic.Lib.Pipeline.ValueKit
public import Idealize.ShloMosaic.Lib.Claim
public import Idealize.ShloMosaic.Lib.Pipeline.ReadBack
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.InDgrad

open Cert.Kernel5Ideal Cert.Kernel5Ideal.Gen Cert.Reals

variable (m : (ℓ : Loc nD τ sig) → Buf (Elt Ideal) ℓ)

/-- Grid point `t = 3·i + k` takes row block `i` and column block `k` of the incoming gradient. -/
theorem idx : ∀ t : Fin cfg0.N, win0_0.index t = ![t.val / 3, t.val % 3] ∧ win0_1.index t = ![0, t.val % 3]
    ∧ win0_2.index t = ![t.val / 3, 0] ∧ win0_3.index t = ![t.val / 3, 0] ∧ t.val / 3 < 8 :=
  (by decide +kernel : ∀ t : Fin grid0.N, _)

/-- The argument arrays of device `c`: the weight, the incoming gradient and the residual branch's gradient. -/
abbrev w (c : Dev nD) : FVec Ideal S1024x3072 .f32 := m ((c : Thread nD τ).loc main_arg1)
abbrev dp (c : Dev nD) : FVec Ideal S8192x3072 .f32 := m ((c : Thread nD τ).loc main_arg2)
abbrev dz (c : Dev nD) : FVec Ideal S8192x1024 .f32 := m ((c : Thread nD τ).loc main_arg3)

theorem dp_at (c : Dev nD) (y : S8192x3072.Idx) : (V m c main_v0 : FVec Ideal S8192x3072 .bf16) y = dp m c y := by
  entry_read
  pointwise

theorem w_at (c : Dev nD) (y : S1024x3072.Idx) : (V m c main_v1 : FVec Ideal S1024x3072 .bf16) y = w m c y := by
  entry_read
  pointwise

theorem dz_at (c : Dev nD) (y : S8192x1024.Idx) : (V m c main_arg3 : FVec Ideal S8192x1024 .f32) y = dz m c y := by
  entry_read
  rfl

theorem blk0_at (c : Dev nD) (t : Fin cfg0.N) (y : S1024x1024.Idx) : (iblk m c 0 t : FVec Ideal S1024x1024 .bf16) y
    = dp m c (ix2 ⟨t.val / 3 * 1024 + (y 0).val, by have := (idx t).2.2.2.2; idx_bounds; omega⟩
        ⟨t.val % 3 * 1024 + (y 1).val, by idx_bounds; omega⟩) := by
  blk_simp [iblk]
  refine (dp_at m c _).trans ?_
  blk_ext [idx t]

theorem blk1_at (c : Dev nD) (t : Fin cfg0.N) (y : S1024x1024.Idx) : (iblk m c 1 t : FVec Ideal S1024x1024 .bf16) y
    = w m c (ix2 (y 0) ⟨t.val % 3 * 1024 + (y 1).val, by idx_bounds; omega⟩) := by
  blk_simp [iblk]
  refine (w_at m c _).trans ?_
  blk_ext [idx t]

theorem blk2_at (c : Dev nD) (t : Fin cfg0.N) (y : S1024x1024.Idx) : (iblk m c 2 t : FVec Ideal S1024x1024 .f32) y
    = dz m c (ix2 ⟨t.val / 3 * 1024 + (y 0).val, by have := (idx t).2.2.2.2; idx_bounds; omega⟩ (y 1)) := by
  blk_simp [iblk]
  refine (dz_at m c _).trans ?_
  blk_ext [idx t]

theorem pay2_at (acc : FVec Ideal S1024x1024 .f32) (a b : FVec Ideal S1024x1024 .bf16)
    (y : S1024x1024.Idx) : k0_pay2 acc a b y = acc y + ∑ k : Fin 1024, a (ix2 (y 0) k) * b (ix2 (y 1) k) := by
  pointwise [k0_pay2]

theorem pay3_at (acc d : FVec Ideal S1024x1024 .f32) (y : S1024x1024.Idx) :
    k0_pay3 (F := Ideal) acc d y = acc y + Ideal.ofBits .f32 0x3F9837F0#32 * d y := by
  pointwise [k0_pay3]

theorem pay1_at (y : S1024x1024.Idx) : k0_pay1 (F := Ideal) y = 0 := by
  pointwise [k0_pay1]

open Cert.Reference5Ideal.Read in
theorem ref_at (x1 : FVec Ideal S1024x3072 .f32) (x2 : FVec Ideal S8192x3072 .f32) (x3 : FVec Ideal S8192x1024 .f32)
    (y : S8192x1024.Idx) : val_main_v6 (F := Ideal) x1 x2 x3 y
      = (∑ k : Fin 3072, x2 (ix2 (y 0) k) * x1 (ix2 (y 1) k)) + Ideal.ofBits .f32 0x3F9837F0#32 * x3 y := by
  rw [← val_main_v6_eq]
  pointwise

/-- The accumulator after the last column block of a row block. -/
theorem acc_at (c : Dev nD) (t : Fin cfg0.N) (h : t.val % 3 = 2) (y : S1024x1024.Idx) :
    ((outsAt0 m c t.val t.isLt).2 : FVec Ideal S1024x1024 .f32) y
      = ∑ k : Fin 3072, dp m c (ix2 ⟨t.val / 3 * 1024 + (y 0).val, by have := (idx t).2.2.2.2; idx_bounds; omega⟩ k)
          * w m c (ix2 (y 1) k) := by
  rw [Pipeline.eq_sum_fin_of_reset_step_apply_of_flush (fun n h => ((outsAt0 m c n h).2 : FVec Ideal S1024x1024 .f32)) 3 (fun _ => 0)
    (fun t y => ∑ k : Fin 1024, (show FVec Ideal S1024x1024 .bf16 from iblk m c 0 t) (ix2 (y 0) k) * (show FVec Ideal S1024x1024 .bf16 from iblk m c 1 t) (ix2 (y 1) k))
    (fun t h y => by
      have h1 : ¬ t.val % 3 = 2 := by omega
      rw [outsAt0_A m c t h h1]; frame_out
      refine (pay2_at _ _ _ _).trans ?_
      rw [pay1_at])
    (fun t h y => by
      by_cases h1 : t.val % 3 = 2
      · rw [outsAt0_C m c t h h1]; frame_out
        simp only [read_unread_whole]
        exact pay2_at _ _ _ _
      · rw [outsAt0_B m c t h h1]; frame_out
        simp only [read_unread_whole]
        exact pay2_at _ _ _ _)
    t h y, zero_add]
  refine Fin.sum_mul_add_congr fun s k hl => ?_
  simp only [blk0_at, blk1_at]
  blk_point [idx t]
  all_goals (refine Fin.ext ?_; dsimp only; omega)

open Cert.Reference5Ideal.Read in
/-- The result array is the reference's. -/
theorem final (c : Dev nD) :
    (dats m 0 c).arrAt 3 cfg0.N = val_main_v6 (F := Ideal) (w m c) (dp m c) (dz m c) := by
  refine (dats m 0 c).arrAt_eq_of_covers 3 _ (by decide +kernel) fun t hf y => ?_
  blk_simp
  rw [after0_3]
  have h1 : t.val % 3 = 2 := (flush0_3 t).mp hf
  have h0 : ¬ t.val % 3 = 0 := by omega
  have e : (outsAt0 m c t.val t.isLt).1 = k0_pay3 (outsAt0 m c t.val t.isLt).2 (iblk m c 2 t) := by
    rw [outsAt0_C m c t h0 h1]; frame_out
  rw [e]
  refine (pay3_at _ _ _).trans (Eq.trans ?_ (ref_at _ _ _ _).symm)
  rw [acc_at m c t h1, blk2_at]
  blk_point [idx t]

end Cert.InDgrad
-- ==== Proof.OutWgrad.lean ====
/- The gradient of the output projection's weight: the accumulated product of the transposed rows with
   the incoming gradient is the reference's composed term. -/
module

public import proofs.«01_k».proof.Proof.Gen.Kernel6Ideal.Frame
public import proofs.«01_k».proof.Proof.Gen.Reference6Ideal.Read
public import Idealize.ShloMosaic.Lib.Pipeline.ValueKit
public import Idealize.ShloMosaic.Lib.Claim
public import Idealize.ShloMosaic.Lib.Pipeline.ReadBack
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.OutWgrad

open Cert.Kernel6Ideal Cert.Kernel6Ideal.Gen Cert.Reals

variable (m : (ℓ : Loc nD τ sig) → Buf (Elt Ideal) ℓ)

/-- Grid point `t = 8·i + k` takes row block `k`, output row block `i`. -/
theorem idx : ∀ t : Fin cfg0.N, win0_0.index t = ![t.val % 8, t.val / 8] ∧ win0_1.index t = ![t.val % 8, 0]
    ∧ win0_2.index t = ![t.val / 8, 0] ∧ t.val / 8 < 2 :=
  (by decide +kernel : ∀ t : Fin grid0.N, _)

/-- The argument arrays of device `c`: the rows and the incoming gradient. -/
abbrev x (c : Dev nD) : FVec Ideal S8192x1024 .f32 := m ((c : Thread nD τ).loc main_arg0)
abbrev dz (c : Dev nD) : FVec Ideal S8192x1024 .f32 := m ((c : Thread nD τ).loc main_arg2)

theorem x_at (c : Dev nD) (y : S8192x1024.Idx) : (V m c main_v0 : FVec Ideal S8192x1024 .bf16) y = x m c y := by
  entry_read
  pointwise

theorem dz_at (c : Dev nD) (y : S8192x1024.Idx) : (V m c main_v1 : FVec Ideal S8192x1024 .bf16) y = dz m c y := by
  entry_read
  pointwise

theorem blk0_at (c : Dev nD) (t : Fin cfg0.N) (y : S1024x512.Idx) : (iblk m c 0 t : FVec Ideal S1024x512 .bf16) y
    = x m c (ix2 ⟨t.val % 8 * 1024 + (y 0).val, by idx_bounds; omega⟩
        ⟨t.val / 8 * 512 + (y 1).val, by have := (idx t).2.2.2; idx_bounds; omega⟩) := by
  blk_simp [iblk]
  refine (x_at m c _).trans ?_
  blk_ext [idx t]

theorem blk1_at (c : Dev nD) (t : Fin cfg0.N) (y : S1024x1024.Idx) : (iblk m c 1 t : FVec Ideal S1024x1024 .bf16) y
    = dz m c (ix2 ⟨t.val % 8 * 1024 + (y 0).val, by idx_bounds; omega⟩
        (y 1)) := by
  blk_simp [iblk]
  refine (dz_at m c _).trans ?_
  blk_ext [idx t]

theorem pay2_at (acc : FVec Ideal S512x1024 .f32) (a : FVec Ideal S1024x512 .bf16) (b : FVec Ideal S1024x1024 .bf16)
    (y : S512x1024.Idx) : k0_pay2 acc a b y = acc y + ∑ k : Fin 1024, a (ix2 k (y 0)) * b (ix2 k (y 1)) := by
  pointwise [k0_pay2]

theorem pay3_at (acc : FVec Ideal S512x1024 .f32) (y : S512x1024.Idx) : k0_pay3 (F := Ideal) acc y = acc y := by
  pointwise [k0_pay3]

theorem pay1_at (y : S512x1024.Idx) : k0_pay1 (F := Ideal) y = 0 := by
  pointwise [k0_pay1]

open Cert.Reference6Ideal.Read in
theorem ref_at (x0 : FVec Ideal S8192x1024 .f32) (x2 : FVec Ideal S8192x1024 .f32) (y : S1024x1024.Idx) :
    val_main_v3 (F := Ideal) x0 x2 y = ∑ r : Fin 8192, x0 (ix2 r (y 0)) * x2 (ix2 r (y 1)) := by
  rw [← val_main_v3_eq]
  pointwise
  all_goals exact Finset.sum_congr rfl fun _ _ => mul_comm _ _

/-- The accumulator after the last row block of an output block. -/
theorem acc_at (c : Dev nD) (t : Fin cfg0.N) (h : t.val % 8 = 7) (y : S512x1024.Idx) :
    ((outsAt0 m c t.val t.isLt).2 : FVec Ideal S512x1024 .f32) y
      = ∑ r : Fin 8192, x m c (ix2 r ⟨t.val / 8 * 512 + (y 0).val, by have := (idx t).2.2.2; idx_bounds; omega⟩)
          * dz m c (ix2 r (y 1)) := by
  rw [Pipeline.eq_sum_fin_of_reset_step_apply_of_flush (fun n h => ((outsAt0 m c n h).2 : FVec Ideal S512x1024 .f32)) 8 (fun _ => 0)
    (fun t y => ∑ k : Fin 1024, (show FVec Ideal S1024x512 .bf16 from iblk m c 0 t) (ix2 k (y 0)) * (show FVec Ideal S1024x1024 .bf16 from iblk m c 1 t) (ix2 k (y 1)))
    (fun t h y => by
      have h1 : ¬ t.val % 8 = 7 := by omega
      rw [outsAt0_A m c t h h1]; frame_out
      refine (pay2_at _ _ _ _).trans ?_
      rw [pay1_at])
    (fun t h y => by
      by_cases h1 : t.val % 8 = 7
      · rw [outsAt0_C m c t h h1]; frame_out
        simp only [read_unread_whole]
        exact pay2_at _ _ _ _
      · rw [outsAt0_B m c t h h1]; frame_out
        simp only [read_unread_whole]
        exact pay2_at _ _ _ _)
    t h y, zero_add]
  refine Fin.sum_mul_add_congr fun s k hl => ?_
  simp only [blk0_at, blk1_at]
  blk_point [idx t]
  all_goals (refine Fin.ext ?_; dsimp only; omega)

open Cert.Reference6Ideal.Read in
/-- The result array is the reference's. -/
theorem final (c : Dev nD) :
    (dats m 0 c).arrAt 2 cfg0.N = val_main_v3 (F := Ideal) (x m c) (dz m c) := by
  refine (dats m 0 c).arrAt_eq_of_covers 2 _ (by decide +kernel) fun t hf y => ?_
  blk_simp
  rw [after0_2]
  have h1 : t.val % 8 = 7 := (flush0_2 t).mp hf
  have h0 : ¬ t.val % 8 = 0 := by omega
  have e : (outsAt0 m c t.val t.isLt).1 = k0_pay3 (outsAt0 m c t.val t.isLt).2 := by
    rw [outsAt0_C m c t h0 h1]; frame_out
  rw [e]
  refine (pay3_at _ _).trans (Eq.trans ?_ (ref_at _ _ _).symm)
  rw [acc_at m c t h1]
  blk_point [idx t]

end Cert.OutWgrad
-- ==== Proof.OutDgrad.lean ====
/- The gradient of the output projection's input: each row block's product of the incoming gradient with the transposed
   weight is the reference's composed term. -/
module

public import proofs.«01_k».proof.Proof.Gen.Kernel7Ideal.Frame
public import proofs.«01_k».proof.Proof.Gen.Reference7Ideal.Read
public import Idealize.ShloMosaic.Lib.Pipeline.ValueKit
public import Idealize.ShloMosaic.Lib.Claim
public import Idealize.ShloMosaic.Lib.Pipeline.ReadBack
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.OutDgrad

open Cert.Kernel7Ideal Cert.Kernel7Ideal.Gen Cert.Reals

variable (m : (ℓ : Loc nD τ sig) → Buf (Elt Ideal) ℓ)

/-- Grid point `t` takes row block `t`. -/
theorem idx : ∀ t : Fin cfg0.N, win0_0.index t = ![t.val, 0] ∧ win0_1.index t = ![0, 0]
    ∧ win0_2.index t = ![t.val, 0] ∧ t.val < 16 :=
  (by decide +kernel : ∀ t : Fin grid0.N, _)

/-- The argument arrays of device `c`: the weight and the incoming gradient. -/
abbrev w (c : Dev nD) : FVec Ideal S1024x1024 .f32 := m ((c : Thread nD τ).loc main_arg1)
abbrev dz (c : Dev nD) : FVec Ideal S8192x1024 .f32 := m ((c : Thread nD τ).loc main_arg2)

theorem dz_at (c : Dev nD) (y : S8192x1024.Idx) : (V m c main_v0 : FVec Ideal S8192x1024 .bf16) y = dz m c y := by
  entry_read
  pointwise

theorem w_at (c : Dev nD) (y : S1024x1024.Idx) : (V m c main_v1 : FVec Ideal S1024x1024 .bf16) y = w m c y := by
  entry_read
  pointwise

theorem blk0_at (c : Dev nD) (t : Fin cfg0.N) (y : S512x1024.Idx) : (iblk m c 0 t : FVec Ideal S512x1024 .bf16) y
    = dz m c (ix2 ⟨t.val * 512 + (y 0).val, by have := (idx t).2.2.2; idx_bounds; omega⟩ (y 1)) := by
  blk_simp [iblk]
  refine (dz_at m c _).trans ?_
  blk_ext [idx t]

theorem blk1_at (c : Dev nD) (t : Fin cfg0.N) (y : S1024x1024.Idx) : (iblk m c 1 t : FVec Ideal S1024x1024 .bf16) y
    = w m c y := by
  blk_simp [iblk]
  refine (w_at m c _).trans ?_
  blk_ext [idx t]

theorem pay2_at (acc : FVec Ideal S512x1024 .f32) (a : FVec Ideal S512x1024 .bf16) (b : FVec Ideal S1024x1024 .bf16)
    (y : S512x1024.Idx) : k0_pay2 acc a b y = acc y + ∑ k : Fin 1024, a (ix2 (y 0) k) * b (ix2 (y 1) k) := by
  pointwise [k0_pay2]

theorem pay1_at (y : S512x1024.Idx) : k0_pay1 (F := Ideal) y = 0 := by
  pointwise [k0_pay1]

open Cert.Reference7Ideal.Read in
theorem ref_at (x1 : FVec Ideal S1024x1024 .f32) (x2 : FVec Ideal S8192x1024 .f32)
    (y : S8192x1024.Idx) : val_main_v1 (F := Ideal) x1 x2 y = ∑ k : Fin 1024, x2 (ix2 (y 0) k) * x1 (ix2 (y 1) k) := by
  rw [← val_main_v1_eq]
  pointwise

open Cert.Reference7Ideal.Read in
/-- The result array is the reference's. -/
theorem final (c : Dev nD) :
    (dats m 0 c).arrAt 2 cfg0.N = val_main_v1 (F := Ideal) (w m c) (dz m c) := by
  refine (dats m 0 c).arrAt_eq_of_covers 2 _ (by decide +kernel) fun t hf y => ?_
  blk_simp
  rw [after0_2]
  unfold outsAt0
  frame_out
  refine (pay2_at _ _ _ _).trans (Eq.trans ?_ (ref_at _ _ _).symm)
  rw [pay1_at, zero_add]
  simp only [blk0_at, blk1_at]
  blk_point [idx t]

end Cert.OutDgrad
-- ==== Proof.FfnIn.lean ====
/- The feed-forward's input projection: the gate half, the up half and `silu gate * up` are the reference's composed
   terms. -/
module

public import proofs.«01_k».proof.Proof.Gen.Kernel8Ideal.Frame
public import proofs.«01_k».proof.Proof.Gen.Reference8Ideal.Read
public import Idealize.ShloMosaic.Lib.Pipeline.ValueKit
public import Idealize.ShloMosaic.Lib.Claim
public import Idealize.ShloMosaic.Lib.Pipeline.ReadBack
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.FfnIn

open Cert.Kernel8Ideal Cert.Kernel8Ideal.Gen Cert.Reals

variable (m : (ℓ : Loc nD τ sig) → Buf (Elt Ideal) ℓ)

/-- Grid point `t = 16·j + i` takes row block `i` and hidden block `j`. -/
theorem idx : ∀ t : Fin cfg0.N, win0_0.index t = ![t.val % 16, 0] ∧ win0_1.index t = ![t.val / 16, 0, 0]
    ∧ win0_2.index t = ![t.val / 16 + 4, 0, 0] ∧ win0_3.index t = ![t.val / 16, t.val % 16, 0]
    ∧ win0_4.index t = ![t.val / 16, t.val % 16, 0] ∧ win0_5.index t = ![t.val / 16, t.val % 16, 0] ∧ t.val / 16 < 4 :=
  (by decide +kernel : ∀ t : Fin grid0.N, _)

/-- The argument arrays of device `c`: the rows and the weight. -/
abbrev x (c : Dev nD) : FVec Ideal S8192x1024 .f32 := m ((c : Thread nD τ).loc main_arg0)
abbrev w (c : Dev nD) : FVec Ideal S1024x5632 .f32 := m ((c : Thread nD τ).loc main_arg1)

theorem x_at (c : Dev nD) (y : S8192x1024.Idx) : (V m c main_v0 : FVec Ideal S8192x1024 .bf16) y = x m c y := by
  entry_read
  pointwise

theorem w_at (c : Dev nD) (y : S8x1024x704.Idx) : (V m c main_v3 : FVec Ideal S8x1024x704 .bf16) y
    = w m c (ix2 (y 1) ⟨(y 0).val * 704 + (y 2).val, by idx_bounds; omega⟩) := by
  entry_read
  pointwise

theorem blk0_at (c : Dev nD) (t : Fin cfg0.N) (y : S512x1024.Idx) : (iblk m c 0 t : FVec Ideal S512x1024 .bf16) y
    = x m c (ix2 ⟨t.val % 16 * 512 + (y 0).val, by idx_bounds; omega⟩ (y 1)) := by
  blk_simp [iblk]
  refine (x_at m c _).trans ?_
  blk_ext [idx t]

theorem blk1_at (c : Dev nD) (t : Fin cfg0.N) (y : S1x1024x704.Idx) : (iblk m c 1 t : FVec Ideal S1x1024x704 .bf16) y
    = w m c (ix2 (y 1) ⟨t.val / 16 * 704 + (y 2).val, by have := (idx t).2.2.2.2.2.2; idx_bounds; omega⟩) := by
  blk_simp [iblk]
  refine (w_at m c _).trans ?_
  blk_ext [idx t]

theorem blk2_at (c : Dev nD) (t : Fin cfg0.N) (y : S1x1024x704.Idx) : (iblk m c 2 t : FVec Ideal S1x1024x704 .bf16) y
    = w m c (ix2 (y 1) ⟨2816 + (t.val / 16 * 704 + (y 2).val), by have := (idx t).2.2.2.2.2.2; idx_bounds; omega⟩) := by
  blk_simp [iblk]
  refine (w_at m c _).trans ?_
  blk_ext [idx t]

/-- A product's element `(r, l)`, from the rows and a column of the weight. -/
abbrev prod (x : FVec Ideal S8192x1024 .f32) (w : FVec Ideal S1024x5632 .f32) (r : Fin 8192) (l : Fin 5632) : EReal :=
  ∑ k : Fin 1024, x (ix2 r k) * w (ix2 k l)

/-- The gate at row `r`, hidden column `l`. -/
def gate (x : FVec Ideal S8192x1024 .f32) (w : FVec Ideal S1024x5632 .f32) (r : Fin 8192) (l : Fin 2816) : EReal :=
  prod x w r ⟨l.val, by omega⟩

/-- The up projection at row `r`, hidden column `l`. -/
def up (x : FVec Ideal S8192x1024 .f32) (w : FVec Ideal S1024x5632 .f32) (r : Fin 8192) (l : Fin 2816) : EReal :=
  prod x w r ⟨2816 + l.val, by omega⟩

/-- `silu gate * up` at row `r`, hidden column `l`. -/
def act (x : FVec Ideal S8192x1024 .f32) (w : FVec Ideal S1024x5632 .f32) (r : Fin 8192) (l : Fin 2816) : EReal :=
  gate x w r l * sg (gate x w r l) * up x w r l

/-- The gate product of point `t`'s blocks. -/
theorem gate_blk (c : Dev nD) (t : Fin cfg0.N) (y : S1x512x704.Idx) :
    ∑ k : Fin 1024, (show FVec Ideal S512x1024 .bf16 from iblk m c 0 t) (ix2 (y 1) k) * (show FVec Ideal S1x1024x704 .bf16 from iblk m c 1 t) (ix3 0 k (y 2))
      = gate (x m c) (w m c) ⟨t.val % 16 * 512 + (y 1).val, by idx_bounds; omega⟩
          ⟨t.val / 16 * 704 + (y 2).val, by have := (idx t).2.2.2.2.2.2; idx_bounds; omega⟩ :=
  Finset.sum_congr rfl fun k _ => congrArg₂ (· * ·) (blk0_at m c t _) (blk1_at m c t _)

/-- The up product of point `t`'s blocks. -/
theorem up_blk (c : Dev nD) (t : Fin cfg0.N) (y : S1x512x704.Idx) :
    ∑ k : Fin 1024, (show FVec Ideal S512x1024 .bf16 from iblk m c 0 t) (ix2 (y 1) k) * (show FVec Ideal S1x1024x704 .bf16 from iblk m c 2 t) (ix3 0 k (y 2))
      = up (x m c) (w m c) ⟨t.val % 16 * 512 + (y 1).val, by idx_bounds; omega⟩
          ⟨t.val / 16 * 704 + (y 2).val, by have := (idx t).2.2.2.2.2.2; idx_bounds; omega⟩ :=
  Finset.sum_congr rfl fun k _ => congrArg₂ (· * ·) (blk0_at m c t _) (blk2_at m c t _)

theorem pay4_at (a : FVec Ideal S512x1024 .bf16) (b : FVec Ideal S1x1024x704 .bf16) (y : S1x512x704.Idx) :
    k0_pay4 (F := Ideal) a b y = ∑ k : Fin 1024, a (ix2 (y 1) k) * b (ix3 0 k (y 2)) := by
  pointwise [k0_pay4, k0_pay2, k0_pay1]

theorem pay5_at (a : FVec Ideal S512x1024 .bf16) (b : FVec Ideal S1x1024x704 .bf16) (y : S1x512x704.Idx) :
    k0_pay5 (F := Ideal) a b y = ∑ k : Fin 1024, a (ix2 (y 1) k) * b (ix3 0 k (y 2)) := by
  pointwise [k0_pay5, k0_pay3, k0_pay1]

theorem pay6_at (a : FVec Ideal S512x1024 .bf16) (b b' : FVec Ideal S1x1024x704 .bf16) (y : S1x512x704.Idx) :
    k0_pay6 (F := Ideal) a b b' y = (∑ k : Fin 1024, a (ix2 (y 1) k) * b (ix3 0 k (y 2)))
      * sg (∑ k : Fin 1024, a (ix2 (y 1) k) * b (ix3 0 k (y 2))) * ∑ k : Fin 1024, a (ix2 (y 1) k) * b' (ix3 0 k (y 2)) := by
  pointwise [k0_pay6, k0_pay3, k0_pay2, k0_pay1]
  simp only [zero_sub]

open Cert.Reference8Ideal.Read in
theorem ref7_at (x0 : FVec Ideal S8192x1024 .f32) (x1 : FVec Ideal S1024x5632 .f32) (y : S4x8192x704.Idx) :
    val_main_v7 (F := Ideal) x0 x1 y = gate x0 x1 (y 1) ⟨(y 0).val * 704 + (y 2).val, by idx_bounds; omega⟩ := by
  rw [← val_main_v7_eq]
  pointwise [gate]

open Cert.Reference8Ideal.Read in
theorem ref10_at (x0 : FVec Ideal S8192x1024 .f32) (x1 : FVec Ideal S1024x5632 .f32) (y : S4x8192x704.Idx) :
    val_main_v10 (F := Ideal) x0 x1 y = up x0 x1 (y 1) ⟨(y 0).val * 704 + (y 2).val, by idx_bounds; omega⟩ := by
  rw [← val_main_v10_eq]
  pointwise [up]

open Cert.Reference8Ideal.Read in
theorem ref13_at (x0 : FVec Ideal S8192x1024 .f32) (x1 : FVec Ideal S1024x5632 .f32) (y : S4x8192x704.Idx) :
    val_main_v13 (F := Ideal) x0 x1 y = act x0 x1 (y 1) ⟨(y 0).val * 704 + (y 2).val, by idx_bounds; omega⟩ := by
  rw [← val_main_v13_eq]
  pointwise [act, gate, up]

open Cert.Reference8Ideal.Read in
/-- The gate half's result array is the reference's. -/
theorem final3 (c : Dev nD) :
    (dats m 0 c).arrAt 3 cfg0.N = val_main_v7 (F := Ideal) (x m c) (w m c) := by
  refine (dats m 0 c).arrAt_eq_of_covers 3 _ (by decide +kernel) fun t hf y => ?_
  blk_simp
  rw [after0_3]
  unfold out0_3
  frame_out
  refine (pay4_at _ _ _).trans ((gate_blk m c t y).trans (Eq.trans ?_ (ref7_at _ _ _).symm))
  refine congrArg₂ (gate (x m c) (w m c)) (Fin.ext ?_) (Fin.ext ?_)
  · blk_simp [idx t]
  · blk_simp [idx t]

open Cert.Reference8Ideal.Read in
/-- The up half's result array is the reference's. -/
theorem final4 (c : Dev nD) :
    (dats m 0 c).arrAt 4 cfg0.N = val_main_v10 (F := Ideal) (x m c) (w m c) := by
  refine (dats m 0 c).arrAt_eq_of_covers 4 _ (by decide +kernel) fun t hf y => ?_
  blk_simp
  rw [after0_4]
  unfold out0_4
  frame_out
  refine (pay5_at _ _ _).trans ((up_blk m c t y).trans (Eq.trans ?_ (ref10_at _ _ _).symm))
  refine congrArg₂ (up (x m c) (w m c)) (Fin.ext ?_) (Fin.ext ?_)
  · blk_simp [idx t]
  · blk_simp [idx t]

open Cert.Reference8Ideal.Read in
/-- The activation's result array is the reference's. -/
theorem final5 (c : Dev nD) :
    (dats m 0 c).arrAt 5 cfg0.N = val_main_v13 (F := Ideal) (x m c) (w m c) := by
  refine (dats m 0 c).arrAt_eq_of_covers 5 _ (by decide +kernel) fun t hf y => ?_
  blk_simp
  rw [after0_5]
  unfold out0_5
  frame_out
  refine (pay6_at _ _ _ _).trans ((congrArg₂ (· * ·) (congrArg₂ (· * ·) (gate_blk m c t y) (congrArg sg (gate_blk m c t y))) (up_blk m c t y)).trans (Eq.trans ?_ (ref13_at _ _ _).symm))
  refine congrArg₂ (act (x m c) (w m c)) (Fin.ext ?_) (Fin.ext ?_)
  · blk_simp [idx t]
  · blk_simp [idx t]

end Cert.FfnIn
-- ==== Proof.InProj.lean ====
/- The combined input projection: each block's product is the reference's composed term. -/
module

public import proofs.«01_k».proof.Proof.Gen.Kernel9Ideal.Frame
public import proofs.«01_k».proof.Proof.Gen.Reference9Ideal.Read
public import Idealize.ShloMosaic.Lib.Pipeline.ValueKit
public import Idealize.ShloMosaic.Lib.Claim
public import Idealize.ShloMosaic.Lib.Pipeline.ReadBack
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.InProj

open Cert.Kernel9Ideal Cert.Kernel9Ideal.Gen Cert.Reals

variable (m : (ℓ : Loc nD τ sig) → Buf (Elt Ideal) ℓ)

/-- Grid point `t = 3·i + j` takes row block `i` and column block `j`. -/
theorem idx : ∀ t : Fin cfg0.N, win0_0.index t = ![t.val / 3, 0] ∧ win0_1.index t = ![0, t.val % 3]
    ∧ win0_2.index t = ![t.val / 3, t.val % 3] ∧ t.val / 3 < 8 :=
  (by decide +kernel : ∀ t : Fin grid0.N, _)

/-- The argument arrays of device `c`: the rows and the weight. -/
abbrev x (c : Dev nD) : FVec Ideal S8192x1024 .f32 := m ((c : Thread nD τ).loc main_arg0)
abbrev w (c : Dev nD) : FVec Ideal S1024x3072 .f32 := m ((c : Thread nD τ).loc main_arg1)

theorem x_at (c : Dev nD) (y : S8192x1024.Idx) : (V m c main_v0 : FVec Ideal S8192x1024 .bf16) y = x m c y := by
  entry_read
  pointwise

theorem w_at (c : Dev nD) (y : S1024x3072.Idx) : (V m c main_v1 : FVec Ideal S1024x3072 .bf16) y = w m c y := by
  entry_read
  pointwise

theorem blk0_at (c : Dev nD) (t : Fin cfg0.N) (y : S1024x1024.Idx) : (iblk m c 0 t : FVec Ideal S1024x1024 .bf16) y
    = x m c (ix2 ⟨t.val / 3 * 1024 + (y 0).val, by have := (idx t).2.2.2; idx_bounds; omega⟩ (y 1)) := by
  blk_simp [iblk]
  refine (x_at m c _).trans ?_
  blk_ext [idx t]

theorem blk1_at (c : Dev nD) (t : Fin cfg0.N) (y : S1024x1024.Idx) : (iblk m c 1 t : FVec Ideal S1024x1024 .bf16) y
    = w m c (ix2 (y 0) ⟨t.val % 3 * 1024 + (y 1).val, by idx_bounds; omega⟩) := by
  blk_simp [iblk]
  refine (w_at m c _).trans ?_
  blk_ext [idx t]

theorem pay2_at (acc : FVec Ideal S1024x1024 .f32) (a b : FVec Ideal S1024x1024 .bf16)
    (y : S1024x1024.Idx) : k0_pay2 acc a b y = acc y + ∑ k : Fin 1024, a (ix2 (y 0) k) * b (ix2 k (y 1)) := by
  pointwise [k0_pay2]

theorem pay1_at (y : S1024x1024.Idx) : k0_pay1 (F := Ideal) y = 0 := by
  pointwise [k0_pay1]

open Cert.Reference9Ideal.Read in
theorem ref_at (x0 : FVec Ideal S8192x1024 .f32) (x1 : FVec Ideal S1024x3072 .f32)
    (y : S8192x3072.Idx) : val_main_v0 (F := Ideal) x0 x1 y = ∑ k : Fin 1024, x0 (ix2 (y 0) k) * x1 (ix2 k (y 1)) := by
  rw [← val_main_v0_eq]
  pointwise

open Cert.Reference9Ideal.Read in
/-- The result array is the reference's. -/
theorem final (c : Dev nD) :
    (dats m 0 c).arrAt 2 cfg0.N = val_main_v0 (F := Ideal) (x m c) (w m c) := by
  refine (dats m 0 c).arrAt_eq_of_covers 2 _ (by decide +kernel) fun t hf y => ?_
  blk_simp
  rw [after0_2]
  unfold outsAt0
  frame_out
  refine (pay2_at _ _ _ _).trans (Eq.trans ?_ (ref_at _ _ _).symm)
  rw [pay1_at, zero_add]
  simp only [blk0_at, blk1_at]
  blk_point [idx t]

end Cert.InProj
-- ==== Proof.Norm.lean ====
/- Layer norm on a row of extended reals, and its gradient in the two forms the programs use: the kernels' closed form
   and the chain rule of the reference. They agree whenever the incoming gradient is finite, for every row. -/
module

public import proofs.«01_k».proof.Proof.Reals

@[expose] public section

noncomputable section

open Idealize.ShloMosaic

namespace Cert.Norm

open Cert.Reals

variable {d : ℕ}

/-- The printed f32 literals 1e-5, 2, -0.5, 1024 and 512. -/
abbrev eps : EReal := Ideal.ofBits FTy.f32 925353388#32
abbrev two : EReal := Ideal.ofBits FTy.f32 1073741824#32
abbrev mhalf : EReal := Ideal.ofBits FTy.f32 3204448256#32
abbrev c1024 : EReal := Ideal.ofBits FTy.f32 1149239296#32
abbrev c512 : EReal := Ideal.ofBits FTy.f32 1140850688#32

theorem eps_pos : ∃ e : ℝ, 0 < e ∧ eps = (e : EReal) := by
  refine ⟨10995116 * 2 ^ (-40 : ℤ), by positivity, ?_⟩
  simp [eps, Ideal.ofBits, Ideal.ieee, -EReal.coe_mul]

theorem two_eq : two = ((2 : ℝ) : EReal) := by simp [two, Ideal.ofBits, Ideal.ieee, -EReal.coe_mul]; norm_num
theorem mhalf_eq : mhalf = ((-(1 / 2) : ℝ) : EReal) := by simp [mhalf, Ideal.ofBits, Ideal.ieee, -EReal.coe_mul]; norm_num
theorem c1024_eq : c1024 = (((1024 : ℕ) : ℝ) : EReal) := by simp [c1024, Ideal.ofBits, Ideal.ieee, -EReal.coe_mul]; norm_num
theorem c512_eq : c512 = (((512 : ℕ) : ℝ) : EReal) := by simp [c512, Ideal.ofBits, Ideal.ieee, -EReal.coe_mul]; norm_num

/-- The mean of a row, the centred row, the variance, the reciprocal deviation and the normalised row. -/
def mean (D : EReal) (z : Fin d → EReal) : EReal := Ideal.div (∑ k, z k) D
def ctr (D : EReal) (z : Fin d → EReal) (k : Fin d) : EReal := z k - mean D z
def var (D : EReal) (z : Fin d → EReal) : EReal := mean D fun k => ctr D z k * ctr D z k
def rstd (D : EReal) (z : Fin d → EReal) : EReal := Ideal.rsqrt (var D z + eps)
def xhat (D : EReal) (z : Fin d → EReal) (k : Fin d) : EReal := ctr D z k * rstd D z

/-- The gradient of the row in closed form; `h` is the incoming gradient times the gain. -/
def gradK (D : EReal) (z h : Fin d → EReal) (k : Fin d) : EReal :=
  rstd D z * (h k - mean D h - xhat D z k * mean D fun j => h j * xhat D z j)

/-- What the variance passes back to entry `k` by the chain rule. -/
def viaVar (D : EReal) (z h : Fin d → EReal) (k : Fin d) : EReal :=
  Ideal.div ((∑ j, ctr D z j * h j) * (mhalf * Ideal.div (rstd D z) (var D z + eps))) D * (two * ctr D z k)

/-- The gradient of the row by the chain rule. -/
def gradR (D : EReal) (z h : Fin d → EReal) (k : Fin d) : EReal :=
  h k * rstd D z + viaVar D z h k
    + Ideal.div ((∑ j, -(h j * rstd D z)) + ∑ j, -viaVar D z h j) D

theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe (a b : ℝ) (hb : b ≠ 0) : Ideal.div (a : EReal) (b : EReal) = ((a / b : ℝ) : EReal) := by
  rw [Ideal.div, if_neg (by exact_mod_cast hb), div_eq_mul_inv, EReal.coe_mul, EReal.coe_inv]

theorem rsqrt_coe (a : ℝ) (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg ha.not_gt, if_neg ha.ne']

section real
variable (n : ℝ) (f : Fin d → ℝ)

def rmean : ℝ := (∑ k, f k) / n
def rctr (k : Fin d) : ℝ := f k - rmean n f
def rvar : ℝ := rmean n fun k => rctr n f k * rctr n f k

theorem mean_coe (hn : n ≠ 0) : mean (n : EReal) (fun k => (f k : EReal)) = (rmean n f : EReal) := by
  rw [mean, sum_coe, div_coe _ _ hn, rmean]

theorem ctr_coe (hn : n ≠ 0) (k : Fin d) : ctr (n : EReal) (fun k => (f k : EReal)) k = (rctr n f k : EReal) := by
  rw [ctr, mean_coe n f hn, rctr, EReal.coe_sub]

theorem var_coe (hn : n ≠ 0) : var (n : EReal) (fun k => (f k : EReal)) = (rvar n f : EReal) := by
  simp only [var, ctr_coe n f hn, ← EReal.coe_mul]
  exact mean_coe n _ hn

theorem rvar_nonneg (hn : 0 < n) : 0 ≤ rvar n f :=
  div_nonneg (Finset.sum_nonneg fun k _ => mul_self_nonneg _) hn.le

theorem rstd_coe (hn : 0 < n) (e : ℝ) (he : 0 < e) (hE : eps = (e : EReal)) :
    rstd (n : EReal) (fun k => (f k : EReal)) = (((Real.sqrt (rvar n f + e))⁻¹ : ℝ) : EReal) := by
  rw [rstd, var_coe n f hn.ne', hE, ← EReal.coe_add]
  exact rsqrt_coe _ (by have := rvar_nonneg n f hn; linarith)

end real

/-- The centred entries of a row of real numbers add up to zero. -/
theorem sum_rctr (hd : 0 < d) (f : Fin d → ℝ) : ∑ k, rctr (d : ℝ) f k = 0 := by
  have : (d : ℝ) ≠ 0 := by exact_mod_cast hd.ne'
  simp only [rctr, rmean, Finset.sum_sub_distrib, Finset.sum_const, Finset.card_univ, Fintype.card_fin, nsmul_eq_mul]
  field_simp
  ring

/-- A sum of extended reals is `⊥` when a summand is. -/
theorem sum_bot {ι : Type*} [Fintype ι] (f : ι → EReal) (i : ι) (h : f i = ⊥) : ∑ j, f j = ⊥ := by
  classical
  rw [← Finset.add_sum_erase _ _ (Finset.mem_univ i), h, EReal.bot_add]

/-- A sum of extended reals is `⊤` when a summand is and none is `⊥`. -/
theorem sum_top {ι : Type*} [Fintype ι] (f : ι → EReal) (i : ι) (h : f i = ⊤) (hb : ∀ j, f j ≠ ⊥) : ∑ j, f j = ⊤ := by
  classical
  rw [← Finset.add_sum_erase _ _ (Finset.mem_univ i), h]
  refine EReal.top_add_of_ne_bot ?_
  have : ∀ s : Finset ι, ∑ j ∈ s, f j ≠ ⊥ := fun s => by
    induction s using Finset.induction_on with
    | empty => simp
    | insert a s ha ih =>
      rw [Finset.sum_insert ha]
      intro hc
      exact (EReal.add_eq_bot_iff.mp hc).elim (hb a) ih
  exact this _

/-- A row is real, or some entry is infinite. -/
theorem row_cases (z : Fin d → EReal) : (∃ f : Fin d → ℝ, z = fun k => (f k : EReal)) ∨ ∃ k, z k = ⊤ ∨ z k = ⊥ := by
  by_cases h : ∃ k, z k = ⊤ ∨ z k = ⊥
  · exact .inr h
  · push Not at h
    exact .inl ⟨fun k => (z k).toReal, funext fun k => (EReal.coe_toReal (h k).1 (h k).2).symm⟩

/-- Where a row has an infinite entry its reciprocal deviation is zero. -/
theorem rstd_infinite (hd : 0 < d) (z : Fin d → EReal) (h : ∃ k, z k = ⊤ ∨ z k = ⊥) : rstd ((d : ℝ) : EReal) z = 0
    ∧ var ((d : ℝ) : EReal) z = ⊤ := by
  have hd' : (0 : ℝ) < d := by exact_mod_cast hd
  have dne : ((d : ℝ) : EReal) ≠ 0 := by exact_mod_cast hd'.ne'
  have ip : (0 : ℝ) < (d : ℝ)⁻¹ := by positivity
  have top_div : Ideal.div ⊤ ((d : ℝ) : EReal) = ⊤ := by
    rw [Ideal.div, if_neg dne, ← EReal.coe_inv, EReal.top_mul_coe_of_pos ip]
  have bot_div : Ideal.div ⊥ ((d : ℝ) : EReal) = ⊥ := by
    rw [Ideal.div, if_neg dne, ← EReal.coe_inv, EReal.bot_mul_coe_of_pos ip]
  have hc : ∀ k, ctr ((d : ℝ) : EReal) z k * ctr ((d : ℝ) : EReal) z k = ⊤ := by
    intro k
    by_cases hb : ∃ j, z j = ⊥
    · obtain ⟨j, hj⟩ := hb
      have hm : mean ((d : ℝ) : EReal) z = ⊥ := by rw [mean, sum_bot z j hj, bot_div]
      rw [ctr, hm, sub_eq_add_neg, EReal.neg_bot]
      by_cases hk : z k = ⊥
      · rw [hk]; rfl
      · rw [EReal.add_top_of_ne_bot hk]; rfl
    · push Not at hb
      obtain ⟨j, hj⟩ := h
      have hm : mean ((d : ℝ) : EReal) z = ⊤ := by rw [mean, sum_top z j (hj.resolve_right (hb j)) hb, top_div]
      rw [ctr, hm, sub_eq_add_neg, EReal.neg_top, EReal.add_bot]; rfl
  have hv : var ((d : ℝ) : EReal) z = ⊤ := by
    rw [var, mean, sum_top _ ⟨0, hd⟩ (hc _) (fun j => by rw [hc]; exact top_ne_bot), top_div]
  obtain ⟨e, he, hE⟩ := eps_pos
  refine ⟨?_, hv⟩
  rw [rstd, hv, hE, EReal.top_add_coe]; rfl

/-- The normalised row is always finite. -/
theorem IsReal.xhat (hd : 0 < d) (z : Fin d → EReal) (k : Fin d) : IsReal (xhat ((d : ℝ) : EReal) z k) := by
  have hd' : (0 : ℝ) < d := by exact_mod_cast hd
  obtain ⟨e, he, hE⟩ := eps_pos
  rcases row_cases z with ⟨f, rfl⟩ | h
  · rw [Norm.xhat, ctr_coe _ f hd'.ne', rstd_coe _ f hd' e he hE, ← EReal.coe_mul]; exact ⟨_, rfl⟩
  · rw [Norm.xhat, (rstd_infinite hd z h).1, mul_zero]; exact ⟨0, rfl⟩

/-- The two forms of the gradient of a row agree when the incoming gradient is finite. -/
theorem grad_eq (hd : 0 < d) (z h : Fin d → EReal) (hh : ∀ k, IsReal (h k)) (k : Fin d) :
    gradK ((d : ℝ) : EReal) z h k = gradR ((d : ℝ) : EReal) z h k := by
  have hd' : (0 : ℝ) < d := by exact_mod_cast hd
  obtain ⟨e, he, hE⟩ := eps_pos
  rcases row_cases z with ⟨f, rfl⟩ | hz
  · choose g hg using hh
    obtain rfl : h = fun k => (g k : EReal) := funext hg
    have hv := rvar_nonneg (d : ℝ) f hd'
    have hs : 0 < rvar (d : ℝ) f + e := by linarith
    have hq : Real.sqrt (rvar (d : ℝ) f + e) ≠ 0 := (Real.sqrt_pos.mpr hs).ne'
    have hqq : rvar (d : ℝ) f + e = Real.sqrt (rvar (d : ℝ) f + e) * Real.sqrt (rvar (d : ℝ) f + e) :=
      (Real.mul_self_sqrt hs.le).symm
    have hsum := sum_rctr hd f
    have hvia : ∀ j, viaVar ((d : ℝ) : EReal) (fun k => (f k : EReal)) (fun k => (g k : EReal)) j
        = ((((∑ j, rctr (d : ℝ) f j * g j) * (-(1 / 2) * ((Real.sqrt (rvar (d : ℝ) f + e))⁻¹ / (rvar (d : ℝ) f + e)))) / d
            * (2 * rctr (d : ℝ) f j) : ℝ) : EReal) := fun j => by
      simp only [viaVar, ctr_coe _ f hd'.ne', rstd_coe _ f hd' e he hE, var_coe _ f hd'.ne', hE, two_eq, mhalf_eq,
        ← EReal.coe_mul, ← EReal.coe_add, sum_coe, div_coe _ _ hd'.ne', div_coe _ _ hs.ne']
    simp only [gradK, gradR, hvia, xhat, ctr_coe _ f hd'.ne', rstd_coe _ f hd' e he hE, ← EReal.coe_mul, ← EReal.coe_add,
      ← EReal.coe_sub, ← EReal.coe_neg, mean_coe _ _ hd'.ne', sum_coe, div_coe _ _ hd'.ne']
    refine congrArg _ ?_
    have e1 : ∀ a : ℝ, ∑ j, -(a * (2 * rctr (d : ℝ) f j)) = 0 := fun a => by
      rw [Finset.sum_neg_distrib, ← Finset.mul_sum, ← Finset.mul_sum, hsum]; simp
    rw [e1]
    simp only [rmean, Finset.sum_neg_distrib, ← Finset.sum_mul, ← mul_assoc]
    have e2 : ∑ j, g j * rctr (d : ℝ) f j = ∑ j, rctr (d : ℝ) f j * g j := Finset.sum_congr rfl fun _ _ => mul_comm _ _
    rw [e2]
    generalize Real.sqrt (rvar (d : ℝ) f + e) = q at hq hqq ⊢
    rw [hqq]
    field_simp
    ring
  · obtain ⟨h0, h1⟩ := rstd_infinite hd z hz
    have h2 : Ideal.div 0 ((d : ℝ) : EReal) = 0 := by
      rw [Ideal.div, if_neg (by exact_mod_cast hd'.ne'), zero_mul]
    have h3 : Ideal.div 0 (⊤ + eps) = 0 := by
      rw [hE, EReal.top_add_coe, Ideal.div, if_neg (by simp), zero_mul]
    have hvia : ∀ j, viaVar ((d : ℝ) : EReal) z h j = 0 := fun j => by
      rw [viaVar, h0, h1, h3, mul_zero, mul_zero, h2, zero_mul]
    simp only [gradK, gradR, hvia, h0, zero_mul, mul_zero, neg_zero, Finset.sum_const_zero, add_zero, h2]

end Cert.Norm
-- ==== Proof.LnBwd.lean ====
/- The gradient of the second layer norm: each row of the result is the chain rule of the reference, and the gradients
   of the gain and the shift are the sums over all rows. -/
module

public import proofs.«01_k».proof.Proof.Gen.Kernel10Ideal.Frame
public import proofs.«01_k».proof.Proof.Gen.Reference10Ideal.Read
public import Idealize.ShloMosaic.Lib.Pipeline.ValueKit
public import Idealize.ShloMosaic.Lib.Claim
public import Idealize.ShloMosaic.Lib.Pipeline.ReadBack
public import proofs.«01_k».proof.Proof.Reals
public import proofs.«01_k».proof.Proof.Norm
@[expose] public section

set_option maxRecDepth 16384

noncomputable section

open Idealize.ShloMosaic Idealize.ShloMosaic.TcCoe Idealize.SL.Sem
open Idealize.ShloMosaic.Pipeline (Dat)

namespace Cert.LnBwd

open Cert.Kernel10Ideal Cert.Kernel10Ideal.Gen Cert.Reals Cert.Norm

variable (m : (ℓ : Loc nD τ sig) → Buf (Elt Ideal) ℓ)

/-- Grid point `t` takes row block `t`; the gain and the two accumulated rows have one block. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0]
    ∧ t.val < 32 :=
  (by decide +kernel : ∀ t : Fin grid0.N, _)

/-- The argument arrays of device `c`: the rows, the gain and the incoming gradient. -/
abbrev z (c : Dev nD) : FVec Ideal S8192x1024 .f32 := m ((c : Thread nD τ).loc main_arg0)
abbrev g (c : Dev nD) : FVec Ideal S1024 .f32 := m ((c : Thread nD τ).loc main_arg1)
abbrev ct (c : Dev nD) : FVec Ideal S8192x1024 .f32 := m ((c : Thread nD τ).loc main_arg3)

theorem g_at (c : Dev nD) (y : S1x1024.Idx) : (V m c main_v0 : FVec Ideal S1x1024 .f32) y = g m c (ix1 (y 1)) := by
  entry_read
  pointwise

theorem blk0_at (c : Dev nD) (t : Fin cfg0.N) (y : S256x1024.Idx) : (iblk m c 0 t : FVec Ideal S256x1024 .f32) y
    = z m c (ix2 ⟨t.val * 256 + (y 0).val, by have := (idx t).2.2.2.2.2.2.2; idx_bounds; omega⟩ (y 1)) := by
  blk_simp [iblk]
  blk_ext [idx t]

theorem blk1_at (c : Dev nD) (t : Fin cfg0.N) (y : S256x1024.Idx) : (iblk m c 1 t : FVec Ideal S256x1024 .f32) y
    = ct m c (ix2 ⟨t.val * 256 + (y 0).val, by have := (idx t).2.2.2.2.2.2.2; idx_bounds; omega⟩ (y 1)) := by
  blk_simp [iblk]
  blk_ext [idx t]

theorem blk2_at (c : Dev nD) (t : Fin cfg0.N) (y : S1x1024.Idx) : (iblk m c 2 t : FVec Ideal S1x1024 .f32) y
    = g m c (ix1 (y 1)) := by
  blk_simp [iblk]
  refine (g_at m c _).trans ?_
  blk_ext [idx t]

/-! ## The values the kernel writes, read at an index -/

theorem pay6_at (v : FVec Ideal S256x1024 .f32) (y : S256x1024.Idx) :
    k0_pay6 (F := Ideal) v y = ctr c1024 (fun k => v (ix2 (y 0) k)) (y 1) := by
  pointwise [k0_pay6, ctr, mean]

theorem pay7_at (v : FVec Ideal S256x1024 .f32) (y : S256x1.Idx) :
    k0_pay7 (F := Ideal) v y = rstd c1024 (fun k => v (ix2 (y 0) k)) := by
  pointwise [k0_pay7, rstd, var, mean, pay6_at]

theorem pay8_at (v : FVec Ideal S256x1024 .f32) (y : S256x1024.Idx) :
    k0_pay8 (F := Ideal) v y = xhat c1024 (fun k => v (ix2 (y 0) k)) (y 1) := by
  pointwise [k0_pay8, xhat, pay6_at, pay7_at]

theorem pay9_at (v w : FVec Ideal S256x1024 .f32) (u : FVec Ideal S1x1024 .f32) (y : S256x1024.Idx) :
    k0_pay9 (F := Ideal) v w u y
      = gradK c1024 (fun k => v (ix2 (y 0) k)) (fun k => w (ix2 (y 0) k) * u (ix2 0 k)) (y 1) := by
  pointwise [k0_pay9, gradK, mean, pay7_at, pay8_at]

theorem pay10_at (v w : FVec Ideal S256x1024 .f32) (y : S1x1024.Idx) :
    k0_pay10 (F := Ideal) v w y = ∑ r : Fin 256, w (ix2 r (y 1)) * xhat c1024 (fun k => v (ix2 r k)) (y 1) := by
  pointwise [k0_pay10, pay8_at]

theorem pay11_at (w : FVec Ideal S256x1024 .f32) (y : S1024.Idx) :
    k0_pay11 (F := Ideal) w y = ∑ r : Fin 256, w (ix2 r (y 0)) := by
  pointwise [k0_pay11]

theorem pay4_at (v w : FVec Ideal S1x1024 .f32) (y : S1x1024.Idx) : k0_pay4 (F := Ideal) v w y = w y + v y := by
  pointwise [k0_pay4]

theorem pay5_at (v : FVec Ideal S1024 .f32) (w : FVec Ideal S1x1024 .f32) (y : S1x1024.Idx) :
    k0_pay5 (F := Ideal) v w y = w y + v (ix1 (y 1)) := by
  pointwise [k0_pay5]

theorem pay2_at (y : S1x1024.Idx) : k0_pay2 (F := Ideal) y = 0 := by
  pointwise [k0_pay2]

theorem pay3_at (y : S1x1024.Idx) : k0_pay3 (F := Ideal) y = 0 := by
  pointwise [k0_pay3]

/-! ## The reference's composed terms, read at an index -/

section
open Cert.Reference10Ideal.Read

variable (x0 : FVec Ideal S8192x1024 .f32) (x1 : FVec Ideal S1024 .f32) (x3 : FVec Ideal S8192x1024 .f32)

theorem ref14_at (y : S8192x1024.Idx) :
    val_main_v14 (F := Ideal) x0 y = ctr c1024 (fun k => x0 (ix2 (y 0) k)) (y 1) := by
  pointwise [val_main_v14, val_main_v13, val_main_v3, val_main_v2, val_main_cst_0, val_main_v1, val_main_v0, val_main_cst, ctr, mean]

theorem ref16_at (y : Cert.Reference10Ideal.S8192x1.Idx) :
    val_main_v16 (F := Ideal) x0 y = var c1024 (fun k => x0 (ix2 (y 0) k)) + eps := by
  have e : val_main_v5 (F := Ideal) x0 = val_main_v14 x0 := rfl
  pointwise [val_main_v16, val_main_v15, val_main_cst_4, val_main_v12, val_main_v11, val_main_cst_3, val_main_v10, val_main_v9,
    val_main_cst_2, val_main_v6, e, ref14_at, var, mean]

theorem ref17_at (y : Cert.Reference10Ideal.S8192x1.Idx) :
    val_main_v17 (F := Ideal) x0 y = rstd c1024 (fun k => x0 (ix2 (y 0) k)) := by
  pointwise [val_main_v17, ref16_at, rstd]

theorem ref37_at (y : S8192x1024.Idx) : val_main_v37 (F := Ideal) x1 x3 y = x3 y * x1 (ix1 (y 1)) := by
  pointwise [val_main_v37, val_main_v36, val_main_v29, val_main_v23]

theorem ref43_at (y : S8192x1024.Idx) :
    val_main_v43 (F := Ideal) x0 x1 x3 y = x3 y * x1 (ix1 (y 1)) * rstd c1024 (fun k => x0 (ix2 (y 0) k)) := by
  pointwise [val_main_v43, val_main_v42, ref17_at, ref37_at]

theorem ref52_at (y : S8192x1024.Idx) :
    val_main_v52 (F := Ideal) x0 x1 x3 y
      = viaVar c1024 (fun k => x0 (ix2 (y 0) k)) (fun k => x3 (ix2 (y 0) k) * x1 (ix1 k)) (y 1) := by
  have e : val_main_v5 (F := Ideal) x0 = val_main_v14 x0 := rfl
  pointwise [val_main_v52, val_main_v51, val_main_v50, val_main_cst_13, val_main_v49, val_main_v48, val_main_cst_12, val_main_v44,
    val_main_v41, val_main_v40, val_main_cst_10, val_main_v39, val_main_v20, val_main_v19, val_main_cst_5, val_main_v18,
    val_main_v8, val_main_v7, val_main_cst_1, e, ref14_at, ref16_at, ref17_at, ref37_at, viaVar]
  simp only [Finset.univ_unique, Finset.sum_singleton]

theorem ref62_at (y : S8192x1024.Idx) :
    val_main_v62 (F := Ideal) x0 x1 x3 y
      = gradR c1024 (fun k => x0 (ix2 (y 0) k)) (fun k => x3 (ix2 (y 0) k) * x1 (ix1 k)) (y 1) := by
  pointwise [val_main_v62, val_main_v61, val_main_v60, val_main_cst_15, val_main_v59, val_main_v58, val_main_cst_16, val_main_v57,
    val_main_v56, val_main_v55, val_main_v54, val_main_cst_14, val_main_v53, val_main_v47, val_main_v46, val_main_cst_11,
    val_main_v45, ref43_at, ref52_at, gradR]
  simp only [Finset.univ_unique, Finset.sum_singleton]

theorem ref64_at (y : S1x1024.Idx) :
    val_main_v64 (F := Ideal) x0 x3 y
      = ∑ r : Fin 8192, xhat c1024 (fun k => x0 (ix2 r k)) (y 1) * x3 (ix2 r (y 1)) := by
  rw [← val_main_v64_eq]
  pointwise [xhat, rstd, var, ctr, mean]
  simp only [Finset.univ_unique, Finset.sum_singleton]

theorem ref65_at (y : S1x1024.Idx) :
    val_main_v65 (F := Ideal) x3 y = ∑ r : Fin 8192, x3 (ix2 r (y 1)) := by
  rw [← val_main_v65_eq]
  pointwise
  simp only [Finset.univ_unique, Finset.sum_singleton]

end

/-! ## The result arrays -/

open Cert.Reference10Ideal.Read

theorem pays_at (c : Dev nD) (t : Fin cfg0.N) (y : S256x1024.Idx) (h1 : ∀ i, IsReal (g m c i)) (h2 : ∀ i, IsReal (ct m c i)) :
    k0_pay9 (F := Ideal) (iblk m c 0 t) (iblk m c 1 t) (iblk m c 2 t) y
      = val_main_v62 (F := Ideal) (z m c) (g m c) (ct m c)
          (ix2 ⟨t.val * 256 + (y 0).val, by have := (idx t).2.2.2.2.2.2.2; idx_bounds; omega⟩ (y 1)) := by
  refine (pay9_at _ _ _ _).trans (Eq.trans ?_ (ref62_at _ _ _ _).symm)
  simp only [blk0_at, blk1_at, blk2_at]
  rw [c1024_eq]
  exact grad_eq (by decide) _ _ (fun k => (h2 _).mul (h1 _)) _

/-- The gradient of the rows. -/
theorem final3 (c : Dev nD) (h1 : ∀ i, IsReal (g m c i)) (h2 : ∀ i, IsReal (ct m c i)) :
    (dats m 0 c).arrAt 3 cfg0.N = val_main_v62 (F := Ideal) (z m c) (g m c) (ct m c) := by
  refine (dats m 0 c).arrAt_eq_of_covers 3 _ (by decide +kernel) fun t hf y => ?_
  blk_simp
  rw [after0_3]
  have e : (outsAt0 m c t.val t.isLt).1 = k0_pay9 (F := Ideal) (iblk m c 0 t) (iblk m c 1 t) (iblk m c 2 t) := by
    by_cases h0 : t.val % 32 = 0
    · rw [outsAt0_A m c t h0]; frame_out
    · rw [outsAt0_B m c t h0]; frame_out
  rw [e]
  refine (pays_at m c t _ h1 h2).trans ?_
  blk_ext [idx t]

theorem final4 (c : Dev nD) (h1 : ∀ i, IsReal (g m c i)) (h2 : ∀ i, IsReal (ct m c i)) :
    (dats m 0 c).arrAt 4 cfg0.N = val_main_v63 (F := Ideal) (z m c) (g m c) (ct m c) := by
  refine (dats m 0 c).arrAt_eq_of_covers 4 _ (by decide +kernel) fun t hf y => ?_
  blk_simp
  rw [after0_4]
  have e : (outsAt0 m c t.val t.isLt).2.1 = k0_pay1 (F := Ideal) (k0_pay9 (F := Ideal) (iblk m c 0 t) (iblk m c 1 t) (iblk m c 2 t)) := by
    by_cases h0 : t.val % 32 = 0
    · rw [outsAt0_A m c t h0]; frame_out
    · rw [outsAt0_B m c t h0]; frame_out
  rw [e]
  refine Eq.trans (b := k0_pay9 (F := Ideal) (iblk m c 0 t) (iblk m c 1 t) (iblk m c 2 t) _) rfl ?_
  refine (pays_at m c t _ h1 h2).trans ?_
  refine Eq.trans (b := val_main_v62 (F := Ideal) (z m c) (g m c) (ct m c) _) ?_ rfl
  blk_ext [idx t]

theorem acc5_at (c : Dev nD) (t : Fin cfg0.N) (h : t.val % 32 = 31) (y : S1x1024.Idx) :
    ((outsAt0 m c t.val t.isLt).2.2.1 : FVec Ideal S1x1024 .f32) y
      = ∑ r : Fin 8192, ct m c (ix2 r (y 1)) * xhat c1024 (fun k => z m c (ix2 r k)) (y 1) := by
  rw [Pipeline.eq_sum_fin_of_reset_step_apply_of_flush (fun n h => ((outsAt0 m c n h).2.2.1 : FVec Ideal S1x1024 .f32)) 32 (fun _ => 0)
    (fun t y => ∑ r : Fin 256, (show FVec Ideal S256x1024 .f32 from iblk m c 1 t) (ix2 r (y 1)) * xhat c1024 (fun k => (show FVec Ideal S256x1024 .f32 from iblk m c 0 t) (ix2 r k)) (y 1))
    (fun t h y => by
      rw [outsAt0_A m c t h]; frame_out
      refine (pay4_at _ _ _).trans ?_
      rw [pay2_at, pay10_at])
    (fun t h y => by
      rw [outsAt0_B m c t h]; frame_out
      refine (pay4_at _ _ _).trans ?_
      rw [pay10_at])
    t h y, zero_add]
  refine Fin.sum_mul_add_congr fun s k hl => ?_
  simp only [blk0_at, blk1_at]
  have ht := (idx t).2.2.2.2.2.2.2
  refine congrArg₂ (· * ·) (congrArg (ct m c) ?_) (congrArg (fun f => xhat c1024 f (y 1)) (funext fun j => congrArg (z m c) ?_))
  all_goals
    refine congrArg₂ ix2 (Fin.ext ?_) rfl
    show (32 * (t.val / 32) + s.val) * 256 + k.val = s.val * 256 + k.val
    omega

theorem acc6_at (c : Dev nD) (t : Fin cfg0.N) (h : t.val % 32 = 31) (y : S1x1024.Idx) :
    ((outsAt0 m c t.val t.isLt).2.2.2 : FVec Ideal S1x1024 .f32) y = ∑ r : Fin 8192, ct m c (ix2 r (y 1)) := by
  rw [Pipeline.eq_sum_fin_of_reset_step_apply_of_flush (fun n h => ((outsAt0 m c n h).2.2.2 : FVec Ideal S1x1024 .f32)) 32 (fun _ => 0)
    (fun t y => ∑ r : Fin 256, (show FVec Ideal S256x1024 .f32 from iblk m c 1 t) (ix2 r (y 1)))
    (fun t h y => by
      rw [outsAt0_A m c t h]; frame_out
      refine (pay5_at _ _ _).trans ?_
      rw [pay3_at, pay11_at]; rfl)
    (fun t h y => by
      rw [outsAt0_B m c t h]; frame_out
      refine (pay5_at _ _ _).trans ?_
      rw [pay11_at]; rfl)
    t h y, zero_add]
  refine Fin.sum_mul_add_congr fun s k hl => ?_
  simp only [blk1_at]
  have ht := (idx t).2.2.2.2.2.2.2
  refine congrArg (ct m c) (congrArg₂ ix2 (Fin.ext ?_) rfl)
  show (32 * (t.val / 32) + s.val) * 256 + k.val = s.val * 256 + k.val
  omega

/-- The gradient of the gain. -/
theorem final5 (c : Dev nD) : (dats m 0 c).arrAt 5 cfg0.N = val_main_v64 (F := Ideal) (z m c) (ct m c) := by
  refine (dats m 0 c).arrAt_eq_of_covers 5 _ (by decide +kernel) fun t hf y => ?_
  blk_simp
  rw [after0_5]
  refine (acc5_at m c t ((flush0_5 t).mp hf) _).trans (Eq.trans ?_ (ref64_at _ _ _).symm)
  simp only [mul_comm (xhat _ _ _)]
  blk_point [idx t]

/-- The gradient of the shift. -/
theorem final6 (c : Dev nD) : (dats m 0 c).arrAt 6 cfg0.N = val_main_v65 (F := Ideal) (ct m c) := by
  refine (dats m 0 c).arrAt_eq_of_covers 6 _ (by decide +kernel) fun t hf y => ?_
  blk_simp
  rw [after0_6]
  refine (acc6_at m c t ((flush0_6 t).mp hf) _).trans (Eq.trans ?_ (ref65_at _ _).symm)
  blk_point [idx t]

end Cert.LnBwd
-- ==== Proof.ConvDgradBody.lean ====
/- The depthwise convolution's body with the taps reversed: what one grid point stores is, at every row and column, the sum of
   the thirty-one taps over the padded rows. -/
module

public import proofs.«01_k».proof.Proof.Gen.Kernel12Ideal.Frame
public import Idealize.ShloMosaic.Lib.Pipeline.ValueKit
public import Idealize.ShloMosaic.Lib.Claim
public import Idealize.ShloMosaic.Lib.Pipeline.ReadBack
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.ConvDgrad

open Cert.Kernel12Ideal Cert.Kernel12Ideal.Gen Cert.Reals

/-! ## The padded rows -/

/-- Row `n`, column `l` of the scratch: sixteen rows before the block, the block, sixteen rows behind it; zeros where the
    sequence has ended. -/
def pad (i : grid0.Coords) (x0 : FVec Ideal S1x512x512 .f32) (x1 x2 : FVec Ideal S1x16x512 .f32) (n l : ℕ) : EReal :=
  if n < 16 then (if 0 < (i 1).val then x1 (ix3 0 (Fin.ofNat 16 n) (Fin.ofNat 512 l)) else 0)
  else if n < 528 then x0 (ix3 0 (Fin.ofNat 512 (n - 16)) (Fin.ofNat 512 l))
  else (if (i 1).val < 3 then x2 (ix3 0 (Fin.ofNat 16 (n - 528)) (Fin.ofNat 512 l)) else 0)

theorem sel_gt (n : ℕ) (a b : EReal) (h : n < 4) :
    Scalar.select (α := EReal) (Scalar.cmpi CmpIPredicate.sgt (BitVec.ofNat 32 n) 0#32) a b = if 0 < n then a else b := by
  interval_cases n <;> rfl

theorem sel_lt (n : ℕ) (a b : EReal) (h : n < 4) :
    Scalar.select (α := EReal) (Scalar.cmpi CmpIPredicate.slt (BitVec.ofNat 32 n) 3#32) a b = if n < 3 then a else b := by
  interval_cases n <;> rfl

theorem pay2_at (i : grid0.Coords) (x : FVec Ideal S1x16x512 .f32) (y : S16x512.Idx) :
    k0_pay2 (F := Ideal) i x y = if 0 < (i 1).val then x (ix3 0 (y 0) (y 1)) else 0 := by
  have hi : (i 1).val < 4 := (i 1).isLt
  pointwise [k0_pay2]
  exact sel_gt _ _ _ hi

theorem pay3_at (x : FVec Ideal S1x512x512 .f32) (y : S512x512.Idx) :
    k0_pay3 (F := Ideal) x y = x (ix3 0 (y 0) (y 1)) := by
  pointwise [k0_pay3]

theorem pay4_at (i : grid0.Coords) (x : FVec Ideal S1x16x512 .f32) (y : S16x512.Idx) :
    k0_pay4 (F := Ideal) i x y = if (i 1).val < 3 then x (ix3 0 (y 0) (y 1)) else 0 := by
  have hi : (i 1).val < 4 := (i 1).isLt
  pointwise [k0_pay4]
  exact sel_lt _ _ _ hi

/-- The scratch after its three stores. -/
theorem scratch_at (i : grid0.Coords) (x0 : FVec Ideal S1x512x512 .f32) (x1 x2 : FVec Ideal S1x16x512 .f32) (y : S544x512.Idx) :
    View.canon (Val := Elt Ideal) (e := .f32) [⟨Rect.unit (s := S544x512) ![528, 0] S16x512.size inb_S544x512_S16x512_528_0, k0_pay4 (F := Ideal) i x2⟩,
      ⟨Rect.unit (s := S544x512) ![16, 0] S512x512.size inb_S544x512_S512x512_16_0, k0_pay3 (F := Ideal) x0⟩,
      ⟨Rect.unit (s := S544x512) ![0, 0] S16x512.size inb_S544x512_S16x512_0_0, k0_pay2 (F := Ideal) i x1⟩] y = pad i x0 x1 x2 (y 0).val (y 1).val := by
  have hy0 : (y 0).val < 544 := (y 0).isLt
  have hy1 : (y 1).val < 512 := (y 1).isLt
  have e1 : Fin.ofNat 512 (y 1).val = (y 1 : Fin 512) := Fin.ext (Nat.mod_eq_of_lt hy1)
  have n1 : (y 0).val < 528 → y ∉ (Rect.unit (s := S544x512) ![528, 0] S16x512.size inb_S544x512_S16x512_528_0).set := fun hl h =>
    absurd (((Rect.mem_set_unit (s := S544x512)).mp h) 0).1 (Nat.not_le.mpr hl)
  have n2 : (y 0).val < 16 → y ∉ (Rect.unit (s := S544x512) ![16, 0] S512x512.size inb_S544x512_S512x512_16_0).set := fun hl h =>
    absurd (((Rect.mem_set_unit (s := S544x512)).mp h) 0).1 (Nat.not_le.mpr hl)
  unfold pad
  by_cases h1 : (y 0).val < 16
  · refine (View.canon_cons_of_not_mem _ _ ?nm).trans ?_
    case nm => exact n1 (by omega)
    refine (View.canon_cons_of_not_mem _ _ ?nm).trans ?_
    case nm => exact n2 h1
    have e : y = (Rect.unit (s := S544x512) ![0, 0] S16x512.size inb_S544x512_S16x512_0_0).emb
        (ix2 ⟨(y 0).val, h1⟩ (y 1) : S16x512.Idx) := funext fun a => Fin.ext (by
      refine Eq.trans ?_ (Rect.idx_unit_val (s := S544x512) _ _ _ _ a).symm
      fin_cases a
      · exact (Nat.zero_add _).symm
      · exact (Nat.zero_add _).symm)
    rw [if_pos h1]
    refine (congrArg (View.canon _) e).trans ((View.canon_cons_emb _ _ _ _).trans ((pay2_at i x1 _).trans ?_))
    refine congrArg (fun z => if 0 < (i 1).val then x1 z else 0) (congrArg₂ (ix3 0) (Fin.ext (Nat.mod_eq_of_lt h1).symm) e1.symm)
  · rw [if_neg h1]
    by_cases h2 : (y 0).val < 528
    · rw [if_pos h2]
      refine (View.canon_cons_of_not_mem _ _ ?nm).trans ?_
      case nm => exact n1 h2
      have e : y = (Rect.unit (s := S544x512) ![16, 0] S512x512.size inb_S544x512_S512x512_16_0).emb
          (ix2 ⟨(y 0).val - 16, by omega⟩ (y 1) : S512x512.Idx) := funext fun a => Fin.ext (by
        refine Eq.trans ?_ (Rect.idx_unit_val (s := S544x512) _ _ _ _ a).symm
        fin_cases a
        · show (y 0).val = 16 + ((y 0).val - 16)
          omega
        · exact (Nat.zero_add _).symm)
      refine (congrArg (View.canon _) e).trans ((View.canon_cons_emb _ _ _ _).trans ((pay3_at x0 _).trans ?_))
      refine congrArg x0 (congrArg₂ (ix3 0) (Fin.ext (Nat.mod_eq_of_lt (show (y 0).val - 16 < 512 by omega)).symm) e1.symm)
    · rw [if_neg h2]
      have e : y = (Rect.unit (s := S544x512) ![528, 0] S16x512.size inb_S544x512_S16x512_528_0).emb
          (ix2 ⟨(y 0).val - 528, by omega⟩ (y 1) : S16x512.Idx) := funext fun a => Fin.ext (by
        refine Eq.trans ?_ (Rect.idx_unit_val (s := S544x512) _ _ _ _ a).symm
        fin_cases a
        · show (y 0).val = 528 + ((y 0).val - 528)
          omega
        · exact (Nat.zero_add _).symm)
      refine (congrArg (View.canon _) e).trans ((View.canon_cons_emb _ _ _ _).trans ((pay4_at i x2 _).trans ?_))
      refine congrArg (fun z => if (i 1).val < 3 then x2 z else 0) (congrArg₂ (ix3 0) (Fin.ext (Nat.mod_eq_of_lt (show (y 0).val - 528 < 16 by omega)).symm) e1.symm)

/-- One tap: the accumulator plus a block times one row. -/
theorem tap (acc a : FVec Ideal S128x128 .f32) (b : FVec Ideal S1x128 .f32) (h) (p q : Fin 128) :
    addf (F := Ideal) acc (mulf a (broadcastTo S128x128 b h)) (ix2 p q) = acc (ix2 p q) + a (ix2 p q) * b (ix2 0 q) := by
  pointwise

theorem start (b : FVec Ideal S1x128 .f32) (h1 h2 h3) (p q : Fin 128) :
    broadcastTo S128x128 (shapeCast (α := Elt Ideal .f32) S1x128 (shapeCast S1x128 b h1) h2) h3 (ix2 p q) = b (ix2 0 q) := by
  pointwise

theorem stored (v : FVec Ideal S128x128 .f32) (h) (y : S1x128x128.Idx) (p q : Fin 128) (hp : p = y 1) (hq : q = y 2) :
    shapeCast (α := Elt Ideal .f32) S1x128x128 v h y = v (ix2 p q) := by
  subst hp hq
  pointwise

/-- `b` plus the first `n` taps. -/
def taps (f : ℕ → EReal) (b : EReal) : ℕ → EReal
  | 0 => b
  | n + 1 => taps f b n + f n

theorem taps_eq (f : ℕ → EReal) (b : EReal) (n : ℕ) : taps f b n = b + ∑ k ∈ Finset.range n, f k := by
  induction n with
  | zero => simp [taps]
  | succ n ih => rw [taps, ih, Finset.sum_range_succ, add_assoc]

/-- What the body leaves at row `n`, column `l` of the block. -/
def res (i : grid0.Coords) (x0 : FVec Ideal S1x512x512 .f32) (x1 x2 : FVec Ideal S1x16x512 .f32) (x3 : FVec Ideal S32x512 .f32) (x4 : FVec Ideal S1x512 .f32) (n l : ℕ) : EReal :=
  taps (fun k => pad i x0 x1 x2 (n + (1 + k)) l * x3 (ix2 (Fin.ofNat 32 (30 - k)) (Fin.ofNat 512 l))) (x4 (ix2 0 (Fin.ofNat 512 l))) 31

/-- A load of 128 rows and columns of the scratch. -/
theorem load_at (i : grid0.Coords) (a2 : Memref sig .tc .vmem S1x512x512 .f32) (h2 : a2.IsWhole) (a3 : Memref sig .tc .vmem S1x16x512 .f32) (h3 : a3.IsWhole) (a4 : Memref sig .tc .vmem S1x16x512 .f32) (h4 : a4.IsWhole) (a5 : Memref sig .tc .vmem S32x512 .f32) (h5 : a5.IsWhole) (a6 : Memref sig .tc .vmem S1x512 .f32) (h6 : a6.IsWhole) (a7 : Memref sig .tc .vmem S1x512x512 .f32) (h7 : a7.IsWhole) (a8 : Memref sig .tc .vmem S544x512 .f32) (h8 : a8.IsWhole)
    (x0 : FVec Ideal S1x512x512 .f32) (x1 x2 : FVec Ideal S1x16x512 .f32) (off : Fin 2 → ℕ) (inb) (p q : Fin 128) :
    a8.view.readCov (Val := Elt Ideal) [⟨Rect.unit (s := S544x512) ![528, 0] S16x512.size inb_S544x512_S16x512_528_0,
        k0_pay4 (F := Ideal) i (View.readAt (Elt Ideal) a4.view (Rect.unit ![0, 0, 0] S1x16x512.size inb_S1x16x512_S1x16x512_0_0_0).toLoadRect (h4.unread x2))⟩,
      ⟨Rect.unit (s := S544x512) ![16, 0] S512x512.size inb_S544x512_S512x512_16_0,
        k0_pay3 (F := Ideal) (View.readAt (Elt Ideal) a2.view (Rect.unit ![0, 0, 0] S1x512x512.size inb_S1x512x512_S1x512x512_0_0_0).toLoadRect (h2.unread x0))⟩,
      ⟨Rect.unit (s := S544x512) ![0, 0] S16x512.size inb_S544x512_S16x512_0_0,
        k0_pay2 (F := Ideal) i (View.readAt (Elt Ideal) a3.view (Rect.unit ![0, 0, 0] S1x16x512.size inb_S1x16x512_S1x16x512_0_0_0).toLoadRect (h3.unread x1))⟩]
      (Rect.unit (s := S544x512) off S128x128.size inb).toLoadRect (ix2 p q) = pad i x0 x1 x2 (p.val + off 0) (q.val + off 1) := by
  rw [View.readCov_eq_canon', View.readAt_eq_ld, View.readAt_eq_ld, View.readAt_eq_ld, h2.read_unread, h3.read_unread, h4.read_unread,
    View.ld_unit_zero (by decide), View.ld_unit_zero (by decide), View.ld_unit_zero (by decide)]
  refine (scratch_at i x0 x1 x2 _).trans (congrArg₂ (pad i x0 x1 x2) ?_ ?_)
  · exact (Rect.idx_unit_val (s := S544x512) off S128x128.size inb (ix2 p q) 0).trans (Nat.add_comm _ _)
  · exact (Rect.idx_unit_val (s := S544x512) off S128x128.size inb (ix2 p q) 1).trans (Nat.add_comm _ _)

/-- One row of the taps, one block of 128 columns. -/
theorem row_at (a5 : Memref sig .tc .vmem S32x512 .f32) (h5 : a5.IsWhole) (x3 : FVec Ideal S32x512 .f32) (off : Fin 2 → ℕ) (inb) (k : Fin 128) :
    View.readAt (Elt Ideal) a5.view (Rect.unit (s := S32x512) off ![1, 128] inb).toLoadRect (h5.unread x3) (ix2 0 k : S1x128.Idx)
      = x3 (ix2 (Fin.ofNat 32 (off 0)) (Fin.ofNat 512 (k.val + off 1))) := by
  rw [View.readAt_eq_ld, h5.read_unread]
  have h0 : off 0 + 1 ≤ 32 := inb 0
  have h1 : off 1 + 128 ≤ 512 := inb 1
  refine View.ld_unit_apply_of (Val := Elt Ideal) (e := .f32) (S := S32x512) x3 off ![1, 128] inb _ _ fun a => ?_
  fin_cases a
  · exact Nat.mod_eq_of_lt (by omega)
  · exact (Nat.mod_eq_of_lt (by have := k.isLt; omega)).trans (Nat.add_comm _ _)

theorem bias_at (a6 : Memref sig .tc .vmem S1x512 .f32) (h6 : a6.IsWhole) (x4 : FVec Ideal S1x512 .f32) (off : Fin 2 → ℕ) (inb) (k : Fin 128) :
    View.readAt (Elt Ideal) a6.view (Rect.unit (s := S1x512) off ![1, 128] inb).toLoadRect (h6.unread x4) (ix2 0 k : S1x128.Idx)
      = x4 (ix2 0 (Fin.ofNat 512 (k.val + off 1))) := by
  rw [View.readAt_eq_ld, h6.read_unread]
  have h0 : off 0 + 1 ≤ 1 := inb 0
  have h1 : off 1 + 128 ≤ 512 := inb 1
  refine View.ld_unit_apply_of (Val := Elt Ideal) (e := .f32) (S := S1x512) x4 off ![1, 128] inb _ _ fun a => ?_
  fin_cases a
  · show 0 = off 0 + 0
    omega
  · exact (Nat.mod_eq_of_lt (by have := k.isLt; omega)).trans (Nat.add_comm _ _)

theorem emb_at (off : Fin 3 → ℕ) (inb) (y : S1x128x128.Idx) (a : Fin 3) :
    ((Rect.unit (s := S1x512x512) off ![1, 128, 128] inb).emb y a).val = (y a).val + off a := by
  exact (Rect.idx_unit_val (s := S1x512x512) off ![1, 128, 128] inb y a).trans (Nat.add_comm _ _)

set_option maxHeartbeats 4000000 in
theorem out_at (c : Dev nD) (i : grid0.Coords) (a2 : Memref sig .tc .vmem S1x512x512 .f32) (h2 : a2.IsWhole) (a3 : Memref sig .tc .vmem S1x16x512 .f32) (h3 : a3.IsWhole) (a4 : Memref sig .tc .vmem S1x16x512 .f32) (h4 : a4.IsWhole) (a5 : Memref sig .tc .vmem S32x512 .f32) (h5 : a5.IsWhole) (a6 : Memref sig .tc .vmem S1x512 .f32) (h6 : a6.IsWhole) (a7 : Memref sig .tc .vmem S1x512x512 .f32) (h7 : a7.IsWhole) (a8 : Memref sig .tc .vmem S544x512 .f32) (h8 : a8.IsWhole)
    (x0 : FVec Ideal S1x512x512 .f32) (x1 x2 : FVec Ideal S1x16x512 .f32) (x3 : FVec Ideal S32x512 .f32) (x4 : FVec Ideal S1x512 .f32) (y : S1x512x512.Idx) :
    (out0_A_5 (F := Ideal) c i a2 h2 a3 h3 a4 h4 a5 h5 a6 h6 a7 h7 a8 h8 x0 x1 x2 x3 x4 : FVec Ideal S1x512x512 .f32) y = res i x0 x1 x2 x3 x4 (y 1).val (y 2).val := by
  unfold out0_A_5
  rw [View.read_writes_eq_canon _ _ _ (cover0_A_5 (F := Ideal) c i a2 h2 a3 h3 a4 h4 a5 h5 a6 h6 a7 h7 a8 h8 x0 x1 x2 x3 x4)]
  refine View.canon_apply_of_pieces (fun y : S1x512x512.Idx => res i x0 x1 x2 x3 x4 (y 1).val (y 2).val) _ (fun p hp j => ?_) y
    (cover0_A_5 (F := Ideal) c i a2 h2 a3 h3 a4 h4 a5 h5 a6 h6 a7 h7 a8 h8 x0 x1 x2 x3 x4 y)
  unfold kernelRun0_A at hp
  dsimp only at hp
  simp only [List.mem_cons, List.mem_nil_iff, or_false] at hp
  rcases hp with rfl | rfl | rfl | rfl | rfl | rfl | rfl | rfl | rfl | rfl | rfl | rfl | rfl | rfl | rfl | rfl
  all_goals
    obtain ⟨j', rfl⟩ : ∃ j' : S1x128x128.Idx, j' = j := ⟨j, rfl⟩
    dsimp only
    sl_unfold_run_names
    simp only [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111]
    obtain ⟨p, hp⟩ : ∃ p : Fin 128, p = j' 1 := ⟨_, rfl⟩
    obtain ⟨q, hq⟩ : ∃ q : Fin 128, q = j' 2 := ⟨_, rfl⟩
    have hp' : (j' 1).val = p.val := congrArg Fin.val hp.symm
    have hq' : (j' 2).val = q.val := congrArg Fin.val hq.symm
    refine (stored _ _ _ p q hp hq).trans ?_
    refine (tap _ _ _ _ _ _).trans ?_
    simp only [tap, start]
    simp only [Proc.kind]
    simp only [load_at _ a2 h2 a3 h3 a4 h4 a5 h5 a6 h6 a7 h7 a8 h8, row_at, bias_at, emb_at, hp', hq']
    simp only [res, taps, Matrix.cons_val, Nat.add_assoc, Nat.reduceAdd, Nat.reduceSub, Nat.add_zero, Nat.zero_add]
    iterate 31 refine congrArg₂ (fun a b : EReal => a + b) ?_ (congrArg₂ (fun a b : EReal => a * b) ?_ ?_)
    all_goals try with_reducible rfl
    refine (start _ _ _ _ p q).trans ((bias_at a6 h6 x4 _ _ q).trans ?_)
    rfl

end Cert.ConvDgrad
-- ==== Proof.ConvDgrad.lean ====
/- The gradient of the depthwise convolution's input: what the pipelined kernel leaves in its result array is the
   reference's composed term over the same argument arrays. -/
module

public import proofs.«01_k».proof.Proof.Gen.Kernel12Ideal.Frame
public import proofs.«01_k».proof.Proof.Gen.Reference12Ideal.Read
public import Idealize.ShloMosaic.Lib.Pipeline.ValueKit
public import Idealize.ShloMosaic.Lib.Claim
public import Idealize.ShloMosaic.Lib.Pipeline.ReadBack
public import proofs.«01_k».proof.Proof.Reals
public import proofs.«01_k».proof.Proof.ConvDgradBody
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.ConvDgrad

open Cert.Kernel12Ideal Cert.Kernel12Ideal.Gen Cert.Reals

variable (m : (ℓ : Loc nD τ sig) → Buf (Elt Ideal) ℓ)

theorem addTo {a b a' b' : EReal} (h1 : a = a') (h2 : b = b') :
    FloatOps.addf (F := Ideal) (show Ideal .f32 from a) (show Ideal .f32 from b) = (show Ideal .f32 from a' + b') := by
  subst h1 h2
  rfl

theorem mulTo {a b a' b' : EReal} (h1 : a = a') (h2 : b = b') :
    FloatOps.mulf (F := Ideal) (show Ideal .f32 from a) (show Ideal .f32 from b) = (show Ideal .f32 from a' * b') := by
  subst h1 h2
  rfl

/-- Row `r` of the rows of batch entry `b` with fifteen rows of zeros before and behind. -/
def rows (u : FVec Ideal S4x2048x512 .f32) (b : Fin 4) (r : ℕ) (l : Fin 512) : EReal :=
  if h : 15 ≤ r ∧ r < 2063 then u (ix3 b ⟨r - 15, by omega⟩ l) else 0

/-- Grid point `t` is row block `t % 4` of batch entry `t / 4`; its neighbours are sixteen rows before and behind it, kept
    inside the array. -/
theorem idx : ∀ t : Fin cfg0.N, win0_0.index t = ![t.val / 4, t.val % 4, 0]
    ∧ win0_1.index t = ![t.val / 4, t.val % 4 * 32 - 1, 0] ∧ win0_2.index t = ![t.val / 4, min (t.val % 4 * 32 + 32) 127, 0]
    ∧ win0_3.index t = ![0, 0] ∧ win0_4.index t = ![0, 0] ∧ win0_5.index t = ![t.val / 4, t.val % 4, 0]
    ∧ ((grid0.coords t) 1).val = t.val % 4 ∧ t.val < 16 :=
  (by decide +kernel : ∀ t : Fin grid0.N, _)

/-- The argument arrays of device `c`: the result's gradient and the taps. -/
abbrev u (c : Dev nD) : FVec Ideal S4x2048x512 .f32 := m ((c : Thread nD τ).loc main_arg3)
abbrev dw (c : Dev nD) : FVec Ideal S32x512 .f32 := m ((c : Thread nD τ).loc main_arg1)

theorem u_at (c : Dev nD) (y : S4x2048x512.Idx) : (V m c main_arg3 : FVec Ideal S4x2048x512 .f32) y = u m c y := by
  entry_read
  pointwise

theorem dw_at (c : Dev nD) (y : S32x512.Idx) : (V m c main_arg1 : FVec Ideal S32x512 .f32) y = dw m c y := by
  entry_read
  pointwise

theorem bias_val (c : Dev nD) (y : S1x512.Idx) : (V m c main_v0 : FVec Ideal S1x512 .f32) y = (0 : EReal) := by
  entry_read
  pointwise

theorem blk0_at (c : Dev nD) (t : Fin cfg0.N) (y : S1x512x512.Idx) : (iblk m c 0 t : FVec Ideal S1x512x512 .f32) y
    = u m c (ix3 ⟨t.val / 4, by have := (idx t).2.2.2.2.2.2.2; omega⟩ ⟨t.val % 4 * 512 + (y 1).val, by idx_bounds; omega⟩ (y 2)) := by
  blk_simp [iblk]
  refine (u_at m c _).trans ?_
  blk_ext [idx t]

theorem blk1_at (c : Dev nD) (t : Fin cfg0.N) (y : S1x16x512.Idx) : (iblk m c 1 t : FVec Ideal S1x16x512 .f32) y
    = u m c (ix3 ⟨t.val / 4, by have := (idx t).2.2.2.2.2.2.2; omega⟩ ⟨(t.val % 4 * 32 - 1) * 16 + (y 1).val, by idx_bounds; omega⟩ (y 2)) := by
  blk_simp [iblk]
  refine (u_at m c _).trans ?_
  blk_ext [idx t]

theorem blk2_at (c : Dev nD) (t : Fin cfg0.N) (y : S1x16x512.Idx) : (iblk m c 2 t : FVec Ideal S1x16x512 .f32) y
    = u m c (ix3 ⟨t.val / 4, by have := (idx t).2.2.2.2.2.2.2; omega⟩ ⟨min (t.val % 4 * 32 + 32) 127 * 16 + (y 1).val, by idx_bounds; omega⟩ (y 2)) := by
  blk_simp [iblk]
  refine (u_at m c _).trans ?_
  blk_ext [idx t]

theorem blk3_at (c : Dev nD) (t : Fin cfg0.N) (y : S32x512.Idx) : (iblk m c 3 t : FVec Ideal S32x512 .f32) y = dw m c y := by
  blk_simp [iblk]
  refine (dw_at m c _).trans ?_
  blk_ext [idx t]

theorem blk4_at (c : Dev nD) (t : Fin cfg0.N) (y : S1x512.Idx) : (iblk m c 4 t : FVec Ideal S1x512 .f32) y = (0 : EReal) := by
  blk_simp [iblk]
  refine (bias_val m c _).trans ?_
  rfl

/-- The scratch's rows are the batch entry's rows, with its zeros before and behind. -/
theorem pad_rows (c : Dev nD) (t : Fin cfg0.N) (n : ℕ) (l : Fin 512) (h1 : 1 ≤ n) (h2 : n < 543) :
    pad (grid0.coords t) (iblk m c 0 t) (iblk m c 1 t) (iblk m c 2 t) n l.val
      = rows (u m c) ⟨t.val / 4, by have := (idx t).2.2.2.2.2.2.2; omega⟩ (t.val % 4 * 512 + (n - 1)) l := by
  have hg := (idx t).2.2.2.2.2.2.1
  have hl : Fin.ofNat 512 l.val = l := Fin.ext (Nat.mod_eq_of_lt l.isLt)
  unfold pad rows
  rw [hg, hl]
  by_cases a : n < 16
  · have ha : Fin.ofNat 16 n = ⟨n, a⟩ := Fin.ext (Nat.mod_eq_of_lt a)
    rw [if_pos a]
    by_cases b : 0 < t.val % 4
    · rw [if_pos b, dif_pos (by omega)]
      refine (blk1_at m c t _).trans (congrArg (fun z => u m c (ix3 _ z l)) (Fin.ext ?_))
      show (t.val % 4 * 32 - 1) * 16 + (Fin.ofNat 16 n).val = t.val % 4 * 512 + (n - 1) - 15
      rw [ha]
      show (t.val % 4 * 32 - 1) * 16 + n = _
      omega
    · rw [if_neg b, dif_neg (by omega)]
  · rw [if_neg a]
    by_cases a2 : n < 528
    · have ha : Fin.ofNat 512 (n - 16) = ⟨n - 16, by omega⟩ := Fin.ext (Nat.mod_eq_of_lt (by omega))
      rw [if_pos a2, dif_pos (by omega)]
      refine (blk0_at m c t _).trans (congrArg (fun z => u m c (ix3 _ z l)) (Fin.ext ?_))
      show t.val % 4 * 512 + (Fin.ofNat 512 (n - 16)).val = t.val % 4 * 512 + (n - 1) - 15
      rw [ha]
      show t.val % 4 * 512 + (n - 16) = _
      omega
    · have ha : Fin.ofNat 16 (n - 528) = ⟨n - 528, by omega⟩ := Fin.ext (Nat.mod_eq_of_lt (by omega))
      rw [if_neg a2]
      by_cases b : t.val % 4 < 3
      · rw [if_pos b, dif_pos (by omega)]
        refine (blk2_at m c t _).trans (congrArg (fun z => u m c (ix3 _ z l)) (Fin.ext ?_))
        show min (t.val % 4 * 32 + 32) 127 * 16 + (Fin.ofNat 16 (n - 528)).val = t.val % 4 * 512 + (n - 1) - 15
        rw [ha]
        show min (t.val % 4 * 32 + 32) 127 * 16 + (n - 528) = _
        omega
      · rw [if_neg b, dif_neg (by omega)]

/-- One shifted product of the reference: outside the shifted rows it is zero, which a tap times zero is. -/
theorem padded (k l : ℕ) (hk : k + l = 30) (w : FVec Ideal S4x2048x512 .f32) (z : FVec Ideal S_ .f32) (hz : ∀ i, z i = 0)
    (hi : Fin 3 → ℕ) (hp : S4x2048x512.Pads ![0, k, 0] hi ![0, 0, 0] Cert.Reference12Ideal.S4x2078x512) (hu) (x3 : FVec Ideal S4x2048x512 .f32)
    (y : S4x2048x512.Idx) (d : EReal) (hw : ∀ n : Fin 2048, w (ix3 (y 0) n (y 2)) = x3 (ix3 (y 0) n (y 2)) * d) :
    Idealize.ShloMosaic.pad (α := Elt Ideal .f32) Cert.Reference12Ideal.S4x2078x512 ![0, k, 0] hi ![0, 0, 0] w z hp hu (ix3 (y 0) ⟨15 + (y 1).val, by idx_bounds; omega⟩ (y 2))
      = rows x3 (y 0) ((y 1).val + l) (y 2) * d := by
  have hy : (y 1).val < 2048 := (y 1).isLt
  unfold rows
  by_cases h : 15 ≤ (y 1).val + l ∧ (y 1).val + l < 2063
  · rw [dif_pos h]
    refine (pad_apply_of_inside ![0, k, 0] hi ![0, 0, 0] w z hp hu _
      (ix3 (y 0) ⟨(y 1).val + l - 15, by omega⟩ (y 2) : S4x2048x512.Idx) (fun a => ?_)).trans (hw _)
    fin_cases a
    · show (y 0).val = 0 + (y 0).val * 1
      omega
    · show 15 + (y 1).val = k + ((y 1).val + l - 15) * 1
      omega
    · show (y 2).val = 0 + (y 2).val * 1
      omega
  · rw [dif_neg h, zero_mul]
    refine (pad_apply_of_not_inside ![0, k, 0] hi ![0, 0, 0] w z hp hu _ 1 ?_).trans (hz _)
    show ¬(k ≤ 15 + (y 1).val ∧ (15 + (y 1).val - k) % 1 = 0 ∧ (15 + (y 1).val - k) / 1 < 2048)
    omega

open Cert.Reference12Ideal.Read

theorem tap30 (x1 : FVec Ideal S32x512 .f32) (x3 : FVec Ideal S4x2048x512 .f32) (y : S4x2048x512.Idx) :
    val_main_v228 (F := Ideal) x1 x3 (ix3 (y 0) ⟨15 + (y 1).val, by idx_bounds; omega⟩ (y 2)) = rows x3 (y 0) ((y 1).val + 0) (y 2) * x1 (ix2 30 (y 2)) := by
  unfold val_main_v228
  have h : ∀ n : Fin 2048, val_main_v227 (F := Ideal) x1 x3 (ix3 (y 0) n (y 2)) = x3 (ix3 (y 0) n (y 2)) * x1 (ix2 30 (y 2)) := fun n => by
    pointwise [val_main_v227, val_main_v225, val_main_v226, val_main_v217, val_main_v216, val_main_v215]
  have hz : ∀ i, val_main_cst_2 (F := Ideal) i = (0 : EReal) := fun i => by pointwise [val_main_cst_2]
  exact padded 30 0 (by omega) (val_main_v227 (F := Ideal) x1 x3) (val_main_cst_2 (F := Ideal)) hz _ _ _ x3 y _ h

theorem tap29 (x1 : FVec Ideal S32x512 .f32) (x3 : FVec Ideal S4x2048x512 .f32) (y : S4x2048x512.Idx) :
    val_main_v231 (F := Ideal) x1 x3 (ix3 (y 0) ⟨15 + (y 1).val, by idx_bounds; omega⟩ (y 2)) = rows x3 (y 0) ((y 1).val + 1) (y 2) * x1 (ix2 29 (y 2)) := by
  unfold val_main_v231
  have h : ∀ n : Fin 2048, val_main_v230 (F := Ideal) x1 x3 (ix3 (y 0) n (y 2)) = x3 (ix3 (y 0) n (y 2)) * x1 (ix2 29 (y 2)) := fun n => by
    pointwise [val_main_v230, val_main_v224, val_main_v229, val_main_v210, val_main_v209, val_main_v208]
  have hz : ∀ i, val_main_cst_3 (F := Ideal) i = (0 : EReal) := fun i => by pointwise [val_main_cst_3]
  exact padded 29 1 (by omega) (val_main_v230 (F := Ideal) x1 x3) (val_main_cst_3 (F := Ideal)) hz _ _ _ x3 y _ h

theorem tap28 (x1 : FVec Ideal S32x512 .f32) (x3 : FVec Ideal S4x2048x512 .f32) (y : S4x2048x512.Idx) :
    val_main_v235 (F := Ideal) x1 x3 (ix3 (y 0) ⟨15 + (y 1).val, by idx_bounds; omega⟩ (y 2)) = rows x3 (y 0) ((y 1).val + 2) (y 2) * x1 (ix2 28 (y 2)) := by
  unfold val_main_v235
  have h : ∀ n : Fin 2048, val_main_v234 (F := Ideal) x1 x3 (ix3 (y 0) n (y 2)) = x3 (ix3 (y 0) n (y 2)) * x1 (ix2 28 (y 2)) := fun n => by
    pointwise [val_main_v234, val_main_v224, val_main_v233, val_main_v203, val_main_v202, val_main_v201]
  have hz : ∀ i, val_main_cst_4 (F := Ideal) i = (0 : EReal) := fun i => by pointwise [val_main_cst_4]
  exact padded 28 2 (by omega) (val_main_v234 (F := Ideal) x1 x3) (val_main_cst_4 (F := Ideal)) hz _ _ _ x3 y _ h

theorem tap27 (x1 : FVec Ideal S32x512 .f32) (x3 : FVec Ideal S4x2048x512 .f32) (y : S4x2048x512.Idx) :
    val_main_v239 (F := Ideal) x1 x3 (ix3 (y 0) ⟨15 + (y 1).val, by idx_bounds; omega⟩ (y 2)) = rows x3 (y 0) ((y 1).val + 3) (y 2) * x1 (ix2 27 (y 2)) := by
  unfold val_main_v239
  have h : ∀ n : Fin 2048, val_main_v238 (F := Ideal) x1 x3 (ix3 (y 0) n (y 2)) = x3 (ix3 (y 0) n (y 2)) * x1 (ix2 27 (y 2)) := fun n => by
    pointwise [val_main_v238, val_main_v224, val_main_v237, val_main_v196, val_main_v195, val_main_v194]
  have hz : ∀ i, val_main_cst_5 (F := Ideal) i = (0 : EReal) := fun i => by pointwise [val_main_cst_5]
  exact padded 27 3 (by omega) (val_main_v238 (F := Ideal) x1 x3) (val_main_cst_5 (F := Ideal)) hz _ _ _ x3 y _ h

theorem tap26 (x1 : FVec Ideal S32x512 .f32) (x3 : FVec Ideal S4x2048x512 .f32) (y : S4x2048x512.Idx) :
    val_main_v243 (F := Ideal) x1 x3 (ix3 (y 0) ⟨15 + (y 1).val, by idx_bounds; omega⟩ (y 2)) = rows x3 (y 0) ((y 1).val + 4) (y 2) * x1 (ix2 26 (y 2)) := by
  unfold val_main_v243
  have h : ∀ n : Fin 2048, val_main_v242 (F := Ideal) x1 x3 (ix3 (y 0) n (y 2)) = x3 (ix3 (y 0) n (y 2)) * x1 (ix2 26 (y 2)) := fun n => by
    pointwise [val_main_v242, val_main_v224, val_main_v241, val_main_v189, val_main_v188, val_main_v187]
  have hz : ∀ i, val_main_cst_6 (F := Ideal) i = (0 : EReal) := fun i => by pointwise [val_main_cst_6]
  exact padded 26 4 (by omega) (val_main_v242 (F := Ideal) x1 x3) (val_main_cst_6 (F := Ideal)) hz _ _ _ x3 y _ h

theorem tap25 (x1 : FVec Ideal S32x512 .f32) (x3 : FVec Ideal S4x2048x512 .f32) (y : S4x2048x512.Idx) :
    val_main_v247 (F := Ideal) x1 x3 (ix3 (y 0) ⟨15 + (y 1).val, by idx_bounds; omega⟩ (y 2)) = rows x3 (y 0) ((y 1).val + 5) (y 2) * x1 (ix2 25 (y 2)) := by
  unfold val_main_v247
  have h : ∀ n : Fin 2048, val_main_v246 (F := Ideal) x1 x3 (ix3 (y 0) n (y 2)) = x3 (ix3 (y 0) n (y 2)) * x1 (ix2 25 (y 2)) := fun n => by
    pointwise [val_main_v246, val_main_v224, val_main_v245, val_main_v182, val_main_v181, val_main_v180]
  have hz : ∀ i, val_main_cst_7 (F := Ideal) i = (0 : EReal) := fun i => by pointwise [val_main_cst_7]
  exact padded 25 5 (by omega) (val_main_v246 (F := Ideal) x1 x3) (val_main_cst_7 (F := Ideal)) hz _ _ _ x3 y _ h

theorem tap24 (x1 : FVec Ideal S32x512 .f32) (x3 : FVec Ideal S4x2048x512 .f32) (y : S4x2048x512.Idx) :
    val_main_v251 (F := Ideal) x1 x3 (ix3 (y 0) ⟨15 + (y 1).val, by idx_bounds; omega⟩ (y 2)) = rows x3 (y 0) ((y 1).val + 6) (y 2) * x1 (ix2 24 (y 2)) := by
  unfold val_main_v251
  have h : ∀ n : Fin 2048, val_main_v250 (F := Ideal) x1 x3 (ix3 (y 0) n (y 2)) = x3 (ix3 (y 0) n (y 2)) * x1 (ix2 24 (y 2)) := fun n => by
    pointwise [val_main_v250, val_main_v224, val_main_v249, val_main_v175, val_main_v174, val_main_v173]
  have hz : ∀ i, val_main_cst_8 (F := Ideal) i = (0 : EReal) := fun i => by pointwise [val_main_cst_8]
  exact padded 24 6 (by omega) (val_main_v250 (F := Ideal) x1 x3) (val_main_cst_8 (F := Ideal)) hz _ _ _ x3 y _ h

theorem tap23 (x1 : FVec Ideal S32x512 .f32) (x3 : FVec Ideal S4x2048x512 .f32) (y : S4x2048x512.Idx) :
    val_main_v255 (F := Ideal) x1 x3 (ix3 (y 0) ⟨15 + (y 1).val, by idx_bounds; omega⟩ (y 2)) = rows x3 (y 0) ((y 1).val + 7) (y 2) * x1 (ix2 23 (y 2)) := by
  unfold val_main_v255
  have h : ∀ n : Fin 2048, val_main_v254 (F := Ideal) x1 x3 (ix3 (y 0) n (y 2)) = x3 (ix3 (y 0) n (y 2)) * x1 (ix2 23 (y 2)) := fun n => by
    pointwise [val_main_v254, val_main_v224, val_main_v253, val_main_v168, val_main_v167, val_main_v166]
  have hz : ∀ i, val_main_cst_9 (F := Ideal) i = (0 : EReal) := fun i => by pointwise [val_main_cst_9]
  exact padded 23 7 (by omega) (val_main_v254 (F := Ideal) x1 x3) (val_main_cst_9 (F := Ideal)) hz _ _ _ x3 y _ h

theorem tap22 (x1 : FVec Ideal S32x512 .f32) (x3 : FVec Ideal S4x2048x512 .f32) (y : S4x2048x512.Idx) :
    val_main_v259 (F := Ideal) x1 x3 (ix3 (y 0) ⟨15 + (y 1).val, by idx_bounds; omega⟩ (y 2)) = rows x3 (y 0) ((y 1).val + 8) (y 2) * x1 (ix2 22 (y 2)) := by
  unfold val_main_v259
  have h : ∀ n : Fin 2048, val_main_v258 (F := Ideal) x1 x3 (ix3 (y 0) n (y 2)) = x3 (ix3 (y 0) n (y 2)) * x1 (ix2 22 (y 2)) := fun n => by
    pointwise [val_main_v258, val_main_v224, val_main_v257, val_main_v161, val_main_v160, val_main_v159]
  have hz : ∀ i, val_main_cst_10 (F := Ideal) i = (0 : EReal) := fun i => by pointwise [val_main_cst_10]
  exact padded 22 8 (by omega) (val_main_v258 (F := Ideal) x1 x3) (val_main_cst_10 (F := Ideal)) hz _ _ _ x3 y _ h

theorem tap21 (x1 : FVec Ideal S32x512 .f32) (x3 : FVec Ideal S4x2048x512 .f32) (y : S4x2048x512.Idx) :
    val_main_v263 (F := Ideal) x1 x3 (ix3 (y 0) ⟨15 + (y 1).val, by idx_bounds; omega⟩ (y 2)) = rows x3 (y 0) ((y 1).val + 9) (y 2) * x1 (ix2 21 (y 2)) := by
  unfold val_main_v263
  have h : ∀ n : Fin 2048, val_main_v262 (F := Ideal) x1 x3 (ix3 (y 0) n (y 2)) = x3 (ix3 (y 0) n (y 2)) * x1 (ix2 21 (y 2)) := fun n => by
    pointwise [val_main_v262, val_main_v224, val_main_v261, val_main_v154, val_main_v153, val_main_v152]
  have hz : ∀ i, val_main_cst_11 (F := Ideal) i = (0 : EReal) := fun i => by pointwise [val_main_cst_11]
  exact padded 21 9 (by omega) (val_main_v262 (F := Ideal) x1 x3) (val_main_cst_11 (F := Ideal)) hz _ _ _ x3 y _ h

theorem tap20 (x1 : FVec Ideal S32x512 .f32) (x3 : FVec Ideal S4x2048x512 .f32) (y : S4x2048x512.Idx) :
    val_main_v267 (F := Ideal) x1 x3 (ix3 (y 0) ⟨15 + (y 1).val, by idx_bounds; omega⟩ (y 2)) = rows x3 (y 0) ((y 1).val + 10) (y 2) * x1 (ix2 20 (y 2)) := by
  unfold val_main_v267
  have h : ∀ n : Fin 2048, val_main_v266 (F := Ideal) x1 x3 (ix3 (y 0) n (y 2)) = x3 (ix3 (y 0) n (y 2)) * x1 (ix2 20 (y 2)) := fun n => by
    pointwise [val_main_v266, val_main_v224, val_main_v265, val_main_v147, val_main_v146, val_main_v145]
  have hz : ∀ i, val_main_cst_12 (F := Ideal) i = (0 : EReal) := fun i => by pointwise [val_main_cst_12]
  exact padded 20 10 (by omega) (val_main_v266 (F := Ideal) x1 x3) (val_main_cst_12 (F := Ideal)) hz _ _ _ x3 y _ h

theorem tap19 (x1 : FVec Ideal S32x512 .f32) (x3 : FVec Ideal S4x2048x512 .f32) (y : S4x2048x512.Idx) :
    val_main_v271 (F := Ideal) x1 x3 (ix3 (y 0) ⟨15 + (y 1).val, by idx_bounds; omega⟩ (y 2)) = rows x3 (y 0) ((y 1).val + 11) (y 2) * x1 (ix2 19 (y 2)) := by
  unfold val_main_v271
  have h : ∀ n : Fin 2048, val_main_v270 (F := Ideal) x1 x3 (ix3 (y 0) n (y 2)) = x3 (ix3 (y 0) n (y 2)) * x1 (ix2 19 (y 2)) := fun n => by
    pointwise [val_main_v270, val_main_v224, val_main_v269, val_main_v140, val_main_v139, val_main_v138]
  have hz : ∀ i, val_main_cst_13 (F := Ideal) i = (0 : EReal) := fun i => by pointwise [val_main_cst_13]
  exact padded 19 11 (by omega) (val_main_v270 (F := Ideal) x1 x3) (val_main_cst_13 (F := Ideal)) hz _ _ _ x3 y _ h

theorem tap18 (x1 : FVec Ideal S32x512 .f32) (x3 : FVec Ideal S4x2048x512 .f32) (y : S4x2048x512.Idx) :
    val_main_v275 (F := Ideal) x1 x3 (ix3 (y 0) ⟨15 + (y 1).val, by idx_bounds; omega⟩ (y 2)) = rows x3 (y 0) ((y 1).val + 12) (y 2) * x1 (ix2 18 (y 2)) := by
  unfold val_main_v275
  have h : ∀ n : Fin 2048, val_main_v274 (F := Ideal) x1 x3 (ix3 (y 0) n (y 2)) = x3 (ix3 (y 0) n (y 2)) * x1 (ix2 18 (y 2)) := fun n => by
    pointwise [val_main_v274, val_main_v224, val_main_v273, val_main_v133, val_main_v132, val_main_v131]
  have hz : ∀ i, val_main_cst_14 (F := Ideal) i = (0 : EReal) := fun i => by pointwise [val_main_cst_14]
  exact padded 18 12 (by omega) (val_main_v274 (F := Ideal) x1 x3) (val_main_cst_14 (F := Ideal)) hz _ _ _ x3 y _ h

theorem tap17 (x1 : FVec Ideal S32x512 .f32) (x3 : FVec Ideal S4x2048x512 .f32) (y : S4x2048x512.Idx) :
    val_main_v279 (F := Ideal) x1 x3 (ix3 (y 0) ⟨15 + (y 1).val, by idx_bounds; omega⟩ (y 2)) = rows x3 (y 0) ((y 1).val + 13) (y 2) * x1 (ix2 17 (y 2)) := by
  unfold val_main_v279
  have h : ∀ n : Fin 2048, val_main_v278 (F := Ideal) x1 x3 (ix3 (y 0) n (y 2)) = x3 (ix3 (y 0) n (y 2)) * x1 (ix2 17 (y 2)) := fun n => by
    pointwise [val_main_v278, val_main_v224, val_main_v277, val_main_v126, val_main_v125, val_main_v124]
  have hz : ∀ i, val_main_cst_15 (F := Ideal) i = (0 : EReal) := fun i => by pointwise [val_main_cst_15]
  exact padded 17 13 (by omega) (val_main_v278 (F := Ideal) x1 x3) (val_main_cst_15 (F := Ideal)) hz _ _ _ x3 y _ h

theorem tap16 (x1 : FVec Ideal S32x512 .f32) (x3 : FVec Ideal S4x2048x512 .f32) (y : S4x2048x512.Idx) :
    val_main_v283 (F := Ideal) x1 x3 (ix3 (y 0) ⟨15 + (y 1).val, by idx_bounds; omega⟩ (y 2)) = rows x3 (y 0) ((y 1).val + 14) (y 2) * x1 (ix2 16 (y 2)) := by
  unfold val_main_v283
  have h : ∀ n : Fin 2048, val_main_v282 (F := Ideal) x1 x3 (ix3 (y 0) n (y 2)) = x3 (ix3 (y 0) n (y 2)) * x1 (ix2 16 (y 2)) := fun n => by
    pointwise [val_main_v282, val_main_v224, val_main_v281, val_main_v119, val_main_v118, val_main_v117]
  have hz : ∀ i, val_main_cst_16 (F := Ideal) i = (0 : EReal) := fun i => by pointwise [val_main_cst_16]
  exact padded 16 14 (by omega) (val_main_v282 (F := Ideal) x1 x3) (val_main_cst_16 (F := Ideal)) hz _ _ _ x3 y _ h

theorem tap15 (x1 : FVec Ideal S32x512 .f32) (x3 : FVec Ideal S4x2048x512 .f32) (y : S4x2048x512.Idx) :
    val_main_v287 (F := Ideal) x1 x3 (ix3 (y 0) ⟨15 + (y 1).val, by idx_bounds; omega⟩ (y 2)) = rows x3 (y 0) ((y 1).val + 15) (y 2) * x1 (ix2 15 (y 2)) := by
  unfold val_main_v287
  have h : ∀ n : Fin 2048, val_main_v286 (F := Ideal) x1 x3 (ix3 (y 0) n (y 2)) = x3 (ix3 (y 0) n (y 2)) * x1 (ix2 15 (y 2)) := fun n => by
    pointwise [val_main_v286, val_main_v224, val_main_v285, val_main_v112, val_main_v111, val_main_v110]
  have hz : ∀ i, val_main_cst_17 (F := Ideal) i = (0 : EReal) := fun i => by pointwise [val_main_cst_17]
  exact padded 15 15 (by omega) (val_main_v286 (F := Ideal) x1 x3) (val_main_cst_17 (F := Ideal)) hz _ _ _ x3 y _ h

theorem tap14 (x1 : FVec Ideal S32x512 .f32) (x3 : FVec Ideal S4x2048x512 .f32) (y : S4x2048x512.Idx) :
    val_main_v291 (F := Ideal) x1 x3 (ix3 (y 0) ⟨15 + (y 1).val, by idx_bounds; omega⟩ (y 2)) = rows x3 (y 0) ((y 1).val + 16) (y 2) * x1 (ix2 14 (y 2)) := by
  unfold val_main_v291
  have h : ∀ n : Fin 2048, val_main_v290 (F := Ideal) x1 x3 (ix3 (y 0) n (y 2)) = x3 (ix3 (y 0) n (y 2)) * x1 (ix2 14 (y 2)) := fun n => by
    pointwise [val_main_v290, val_main_v224, val_main_v289, val_main_v105, val_main_v104, val_main_v103]
  have hz : ∀ i, val_main_cst_18 (F := Ideal) i = (0 : EReal) := fun i => by pointwise [val_main_cst_18]
  exact padded 14 16 (by omega) (val_main_v290 (F := Ideal) x1 x3) (val_main_cst_18 (F := Ideal)) hz _ _ _ x3 y _ h

theorem tap13 (x1 : FVec Ideal S32x512 .f32) (x3 : FVec Ideal S4x2048x512 .f32) (y : S4x2048x512.Idx) :
    val_main_v295 (F := Ideal) x1 x3 (ix3 (y 0) ⟨15 + (y 1).val, by idx_bounds; omega⟩ (y 2)) = rows x3 (y 0) ((y 1).val + 17) (y 2) * x1 (ix2 13 (y 2)) := by
  unfold val_main_v295
  have h : ∀ n : Fin 2048, val_main_v294 (F := Ideal) x1 x3 (ix3 (y 0) n (y 2)) = x3 (ix3 (y 0) n (y 2)) * x1 (ix2 13 (y 2)) := fun n => by
    pointwise [val_main_v294, val_main_v224, val_main_v293, val_main_v98, val_main_v97, val_main_v96]
  have hz : ∀ i, val_main_cst_19 (F := Ideal) i = (0 : EReal) := fun i => by pointwise [val_main_cst_19]
  exact padded 13 17 (by omega) (val_main_v294 (F := Ideal) x1 x3) (val_main_cst_19 (F := Ideal)) hz _ _ _ x3 y _ h

theorem tap12 (x1 : FVec Ideal S32x512 .f32) (x3 : FVec Ideal S4x2048x512 .f32) (y : S4x2048x512.Idx) :
    val_main_v299 (F := Ideal) x1 x3 (ix3 (y 0) ⟨15 + (y 1).val, by idx_bounds; omega⟩ (y 2)) = rows x3 (y 0) ((y 1).val + 18) (y 2) * x1 (ix2 12 (y 2)) := by
  unfold val_main_v299
  have h : ∀ n : Fin 2048, val_main_v298 (F := Ideal) x1 x3 (ix3 (y 0) n (y 2)) = x3 (ix3 (y 0) n (y 2)) * x1 (ix2 12 (y 2)) := fun n => by
    pointwise [val_main_v298, val_main_v224, val_main_v297, val_main_v91, val_main_v90, val_main_v89]
  have hz : ∀ i, val_main_cst_20 (F := Ideal) i = (0 : EReal) := fun i => by pointwise [val_main_cst_20]
  exact padded 12 18 (by omega) (val_main_v298 (F := Ideal) x1 x3) (val_main_cst_20 (F := Ideal)) hz _ _ _ x3 y _ h

theorem tap11 (x1 : FVec Ideal S32x512 .f32) (x3 : FVec Ideal S4x2048x512 .f32) (y : S4x2048x512.Idx) :
    val_main_v303 (F := Ideal) x1 x3 (ix3 (y 0) ⟨15 + (y 1).val, by idx_bounds; omega⟩ (y 2)) = rows x3 (y 0) ((y 1).val + 19) (y 2) * x1 (ix2 11 (y 2)) := by
  unfold val_main_v303
  have h : ∀ n : Fin 2048, val_main_v302 (F := Ideal) x1 x3 (ix3 (y 0) n (y 2)) = x3 (ix3 (y 0) n (y 2)) * x1 (ix2 11 (y 2)) := fun n => by
    pointwise [val_main_v302, val_main_v224, val_main_v301, val_main_v84, val_main_v83, val_main_v82]
  have hz : ∀ i, val_main_cst_21 (F := Ideal) i = (0 : EReal) := fun i => by pointwise [val_main_cst_21]
  exact padded 11 19 (by omega) (val_main_v302 (F := Ideal) x1 x3) (val_main_cst_21 (F := Ideal)) hz _ _ _ x3 y _ h

theorem tap10 (x1 : FVec Ideal S32x512 .f32) (x3 : FVec Ideal S4x2048x512 .f32) (y : S4x2048x512.Idx) :
    val_main_v307 (F := Ideal) x1 x3 (ix3 (y 0) ⟨15 + (y 1).val, by idx_bounds; omega⟩ (y 2)) = rows x3 (y 0) ((y 1).val + 20) (y 2) * x1 (ix2 10 (y 2)) := by
  unfold val_main_v307
  have h : ∀ n : Fin 2048, val_main_v306 (F := Ideal) x1 x3 (ix3 (y 0) n (y 2)) = x3 (ix3 (y 0) n (y 2)) * x1 (ix2 10 (y 2)) := fun n => by
    pointwise [val_main_v306, val_main_v224, val_main_v305, val_main_v77, val_main_v76, val_main_v75]
  have hz : ∀ i, val_main_cst_22 (F := Ideal) i = (0 : EReal) := fun i => by pointwise [val_main_cst_22]
  exact padded 10 20 (by omega) (val_main_v306 (F := Ideal) x1 x3) (val_main_cst_22 (F := Ideal)) hz _ _ _ x3 y _ h

theorem tap9 (x1 : FVec Ideal S32x512 .f32) (x3 : FVec Ideal S4x2048x512 .f32) (y : S4x2048x512.Idx) :
    val_main_v311 (F := Ideal) x1 x3 (ix3 (y 0) ⟨15 + (y 1).val, by idx_bounds; omega⟩ (y 2)) = rows x3 (y 0) ((y 1).val + 21) (y 2) * x1 (ix2 9 (y 2)) := by
  unfold val_main_v311
  have h : ∀ n : Fin 2048, val_main_v310 (F := Ideal) x1 x3 (ix3 (y 0) n (y 2)) = x3 (ix3 (y 0) n (y 2)) * x1 (ix2 9 (y 2)) := fun n => by
    pointwise [val_main_v310, val_main_v224, val_main_v309, val_main_v70, val_main_v69, val_main_v68]
  have hz : ∀ i, val_main_cst_23 (F := Ideal) i = (0 : EReal) := fun i => by pointwise [val_main_cst_23]
  exact padded 9 21 (by omega) (val_main_v310 (F := Ideal) x1 x3) (val_main_cst_23 (F := Ideal)) hz _ _ _ x3 y _ h

theorem tap8 (x1 : FVec Ideal S32x512 .f32) (x3 : FVec Ideal S4x2048x512 .f32) (y : S4x2048x512.Idx) :
    val_main_v315 (F := Ideal) x1 x3 (ix3 (y 0) ⟨15 + (y 1).val, by idx_bounds; omega⟩ (y 2)) = rows x3 (y 0) ((y 1).val + 22) (y 2) * x1 (ix2 8 (y 2)) := by
  unfold val_main_v315
  have h : ∀ n : Fin 2048, val_main_v314 (F := Ideal) x1 x3 (ix3 (y 0) n (y 2)) = x3 (ix3 (y 0) n (y 2)) * x1 (ix2 8 (y 2)) := fun n => by
    pointwise [val_main_v314, val_main_v224, val_main_v313, val_main_v63, val_main_v62, val_main_v61]
  have hz : ∀ i, val_main_cst_24 (F := Ideal) i = (0 : EReal) := fun i => by pointwise [val_main_cst_24]
  exact padded 8 22 (by omega) (val_main_v314 (F := Ideal) x1 x3) (val_main_cst_24 (F := Ideal)) hz _ _ _ x3 y _ h

theorem tap7 (x1 : FVec Ideal S32x512 .f32) (x3 : FVec Ideal S4x2048x512 .f32) (y : S4x2048x512.Idx) :
    val_main_v319 (F := Ideal) x1 x3 (ix3 (y 0) ⟨15 + (y 1).val, by idx_bounds; omega⟩ (y 2)) = rows x3 (y 0) ((y 1).val + 23) (y 2) * x1 (ix2 7 (y 2)) := by
  unfold val_main_v319
  have h : ∀ n : Fin 2048, val_main_v318 (F := Ideal) x1 x3 (ix3 (y 0) n (y 2)) = x3 (ix3 (y 0) n (y 2)) * x1 (ix2 7 (y 2)) := fun n => by
    pointwise [val_main_v318, val_main_v224, val_main_v317, val_main_v56, val_main_v55, val_main_v54]
  have hz : ∀ i, val_main_cst_25 (F := Ideal) i = (0 : EReal) := fun i => by pointwise [val_main_cst_25]
  exact padded 7 23 (by omega) (val_main_v318 (F := Ideal) x1 x3) (val_main_cst_25 (F := Ideal)) hz _ _ _ x3 y _ h

theorem tap6 (x1 : FVec Ideal S32x512 .f32) (x3 : FVec Ideal S4x2048x512 .f32) (y : S4x2048x512.Idx) :
    val_main_v323 (F := Ideal) x1 x3 (ix3 (y 0) ⟨15 + (y 1).val, by idx_bounds; omega⟩ (y 2)) = rows x3 (y 0) ((y 1).val + 24) (y 2) * x1 (ix2 6 (y 2)) := by
  unfold val_main_v323
  have h : ∀ n : Fin 2048, val_main_v322 (F := Ideal) x1 x3 (ix3 (y 0) n (y 2)) = x3 (ix3 (y 0) n (y 2)) * x1 (ix2 6 (y 2)) := fun n => by
    pointwise [val_main_v322, val_main_v224, val_main_v321, val_main_v49, val_main_v48, val_main_v47]
  have hz : ∀ i, val_main_cst_26 (F := Ideal) i = (0 : EReal) := fun i => by pointwise [val_main_cst_26]
  exact padded 6 24 (by omega) (val_main_v322 (F := Ideal) x1 x3) (val_main_cst_26 (F := Ideal)) hz _ _ _ x3 y _ h

theorem tap5 (x1 : FVec Ideal S32x512 .f32) (x3 : FVec Ideal S4x2048x512 .f32) (y : S4x2048x512.Idx) :
    val_main_v327 (F := Ideal) x1 x3 (ix3 (y 0) ⟨15 + (y 1).val, by idx_bounds; omega⟩ (y 2)) = rows x3 (y 0) ((y 1).val + 25) (y 2) * x1 (ix2 5 (y 2)) := by
  unfold val_main_v327
  have h : ∀ n : Fin 2048, val_main_v326 (F := Ideal) x1 x3 (ix3 (y 0) n (y 2)) = x3 (ix3 (y 0) n (y 2)) * x1 (ix2 5 (y 2)) := fun n => by
    pointwise [val_main_v326, val_main_v224, val_main_v325, val_main_v42, val_main_v41, val_main_v40]
  have hz : ∀ i, val_main_cst_27 (F := Ideal) i = (0 : EReal) := fun i => by pointwise [val_main_cst_27]
  exact padded 5 25 (by omega) (val_main_v326 (F := Ideal) x1 x3) (val_main_cst_27 (F := Ideal)) hz _ _ _ x3 y _ h

theorem tap4 (x1 : FVec Ideal S32x512 .f32) (x3 : FVec Ideal S4x2048x512 .f32) (y : S4x2048x512.Idx) :
    val_main_v331 (F := Ideal) x1 x3 (ix3 (y 0) ⟨15 + (y 1).val, by idx_bounds; omega⟩ (y 2)) = rows x3 (y 0) ((y 1).val + 26) (y 2) * x1 (ix2 4 (y 2)) := by
  unfold val_main_v331
  have h : ∀ n : Fin 2048, val_main_v330 (F := Ideal) x1 x3 (ix3 (y 0) n (y 2)) = x3 (ix3 (y 0) n (y 2)) * x1 (ix2 4 (y 2)) := fun n => by
    pointwise [val_main_v330, val_main_v224, val_main_v329, val_main_v35, val_main_v34, val_main_v33]
  have hz : ∀ i, val_main_cst_28 (F := Ideal) i = (0 : EReal) := fun i => by pointwise [val_main_cst_28]
  exact padded 4 26 (by omega) (val_main_v330 (F := Ideal) x1 x3) (val_main_cst_28 (F := Ideal)) hz _ _ _ x3 y _ h

theorem tap3 (x1 : FVec Ideal S32x512 .f32) (x3 : FVec Ideal S4x2048x512 .f32) (y : S4x2048x512.Idx) :
    val_main_v335 (F := Ideal) x1 x3 (ix3 (y 0) ⟨15 + (y 1).val, by idx_bounds; omega⟩ (y 2)) = rows x3 (y 0) ((y 1).val + 27) (y 2) * x1 (ix2 3 (y 2)) := by
  unfold val_main_v335
  have h : ∀ n : Fin 2048, val_main_v334 (F := Ideal) x1 x3 (ix3 (y 0) n (y 2)) = x3 (ix3 (y 0) n (y 2)) * x1 (ix2 3 (y 2)) := fun n => by
    pointwise [val_main_v334, val_main_v224, val_main_v333, val_main_v28, val_main_v27, val_main_v26]
  have hz : ∀ i, val_main_cst_29 (F := Ideal) i = (0 : EReal) := fun i => by pointwise [val_main_cst_29]
  exact padded 3 27 (by omega) (val_main_v334 (F := Ideal) x1 x3) (val_main_cst_29 (F := Ideal)) hz _ _ _ x3 y _ h

theorem tap2 (x1 : FVec Ideal S32x512 .f32) (x3 : FVec Ideal S4x2048x512 .f32) (y : S4x2048x512.Idx) :
    val_main_v339 (F := Ideal) x1 x3 (ix3 (y 0) ⟨15 + (y 1).val, by idx_bounds; omega⟩ (y 2)) = rows x3 (y 0) ((y 1).val + 28) (y 2) * x1 (ix2 2 (y 2)) := by
  unfold val_main_v339
  have h : ∀ n : Fin 2048, val_main_v338 (F := Ideal) x1 x3 (ix3 (y 0) n (y 2)) = x3 (ix3 (y 0) n (y 2)) * x1 (ix2 2 (y 2)) := fun n => by
    pointwise [val_main_v338, val_main_v224, val_main_v337, val_main_v21, val_main_v20, val_main_v19]
  have hz : ∀ i, val_main_cst_30 (F := Ideal) i = (0 : EReal) := fun i => by pointwise [val_main_cst_30]
  exact padded 2 28 (by omega) (val_main_v338 (F := Ideal) x1 x3) (val_main_cst_30 (F := Ideal)) hz _ _ _ x3 y _ h

theorem tap1 (x1 : FVec Ideal S32x512 .f32) (x3 : FVec Ideal S4x2048x512 .f32) (y : S4x2048x512.Idx) :
    val_main_v343 (F := Ideal) x1 x3 (ix3 (y 0) ⟨15 + (y 1).val, by idx_bounds; omega⟩ (y 2)) = rows x3 (y 0) ((y 1).val + 29) (y 2) * x1 (ix2 1 (y 2)) := by
  unfold val_main_v343
  have h : ∀ n : Fin 2048, val_main_v342 (F := Ideal) x1 x3 (ix3 (y 0) n (y 2)) = x3 (ix3 (y 0) n (y 2)) * x1 (ix2 1 (y 2)) := fun n => by
    pointwise [val_main_v342, val_main_v224, val_main_v341, val_main_v14, val_main_v13, val_main_v12]
  have hz : ∀ i, val_main_cst_31 (F := Ideal) i = (0 : EReal) := fun i => by pointwise [val_main_cst_31]
  exact padded 1 29 (by omega) (val_main_v342 (F := Ideal) x1 x3) (val_main_cst_31 (F := Ideal)) hz _ _ _ x3 y _ h

theorem tap0 (x1 : FVec Ideal S32x512 .f32) (x3 : FVec Ideal S4x2048x512 .f32) (y : S4x2048x512.Idx) :
    val_main_v347 (F := Ideal) x1 x3 (ix3 (y 0) ⟨15 + (y 1).val, by idx_bounds; omega⟩ (y 2)) = rows x3 (y 0) ((y 1).val + 30) (y 2) * x1 (ix2 0 (y 2)) := by
  unfold val_main_v347
  have h : ∀ n : Fin 2048, val_main_v346 (F := Ideal) x1 x3 (ix3 (y 0) n (y 2)) = x3 (ix3 (y 0) n (y 2)) * x1 (ix2 0 (y 2)) := fun n => by
    pointwise [val_main_v346, val_main_v224, val_main_v345, val_main_v8, val_main_v7, val_main_v6]
  have hz : ∀ i, val_main_cst_32 (F := Ideal) i = (0 : EReal) := fun i => by pointwise [val_main_cst_32]
  exact padded 0 30 (by omega) (val_main_v346 (F := Ideal) x1 x3) (val_main_cst_32 (F := Ideal)) hz _ _ _ x3 y _ h

/-- The shifted products added up, from the last tap to the first. -/
theorem sums (x1 : FVec Ideal S32x512 .f32) (x3 : FVec Ideal S4x2048x512 .f32) (y : S4x2048x512.Idx) :
    val_main_v348 (F := Ideal) x1 x3 (ix3 (y 0) ⟨15 + (y 1).val, by idx_bounds; omega⟩ (y 2))
      = taps (fun k => rows x3 (y 0) ((y 1).val + k) (y 2) * x1 (ix2 (Fin.ofNat 32 (30 - k)) (y 2))) 0 31 := by
  have s0 : val_main_v228 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 1 := (tap30 x1 x3 y).trans (zero_add _).symm
  have s1 : val_main_v232 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 2 :=
    (val_main_v232_apply (F := Ideal) x1 x3 _).trans (addTo s0 (tap29 x1 x3 y))
  have s2 : val_main_v236 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 3 :=
    (val_main_v236_apply (F := Ideal) x1 x3 _).trans (addTo s1 (tap28 x1 x3 y))
  have s3 : val_main_v240 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 4 :=
    (val_main_v240_apply (F := Ideal) x1 x3 _).trans (addTo s2 (tap27 x1 x3 y))
  have s4 : val_main_v244 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 5 :=
    (val_main_v244_apply (F := Ideal) x1 x3 _).trans (addTo s3 (tap26 x1 x3 y))
  have s5 : val_main_v248 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 6 :=
    (val_main_v248_apply (F := Ideal) x1 x3 _).trans (addTo s4 (tap25 x1 x3 y))
  have s6 : val_main_v252 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 7 :=
    (val_main_v252_apply (F := Ideal) x1 x3 _).trans (addTo s5 (tap24 x1 x3 y))
  have s7 : val_main_v256 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 8 :=
    (val_main_v256_apply (F := Ideal) x1 x3 _).trans (addTo s6 (tap23 x1 x3 y))
  have s8 : val_main_v260 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 9 :=
    (val_main_v260_apply (F := Ideal) x1 x3 _).trans (addTo s7 (tap22 x1 x3 y))
  have s9 : val_main_v264 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 10 :=
    (val_main_v264_apply (F := Ideal) x1 x3 _).trans (addTo s8 (tap21 x1 x3 y))
  have s10 : val_main_v268 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 11 :=
    (val_main_v268_apply (F := Ideal) x1 x3 _).trans (addTo s9 (tap20 x1 x3 y))
  have s11 : val_main_v272 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 12 :=
    (val_main_v272_apply (F := Ideal) x1 x3 _).trans (addTo s10 (tap19 x1 x3 y))
  have s12 : val_main_v276 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 13 :=
    (val_main_v276_apply (F := Ideal) x1 x3 _).trans (addTo s11 (tap18 x1 x3 y))
  have s13 : val_main_v280 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 14 :=
    (val_main_v280_apply (F := Ideal) x1 x3 _).trans (addTo s12 (tap17 x1 x3 y))
  have s14 : val_main_v284 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 15 :=
    (val_main_v284_apply (F := Ideal) x1 x3 _).trans (addTo s13 (tap16 x1 x3 y))
  have s15 : val_main_v288 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 16 :=
    (val_main_v288_apply (F := Ideal) x1 x3 _).trans (addTo s14 (tap15 x1 x3 y))
  have s16 : val_main_v292 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 17 :=
    (val_main_v292_apply (F := Ideal) x1 x3 _).trans (addTo s15 (tap14 x1 x3 y))
  have s17 : val_main_v296 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 18 :=
    (val_main_v296_apply (F := Ideal) x1 x3 _).trans (addTo s16 (tap13 x1 x3 y))
  have s18 : val_main_v300 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 19 :=
    (val_main_v300_apply (F := Ideal) x1 x3 _).trans (addTo s17 (tap12 x1 x3 y))
  have s19 : val_main_v304 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 20 :=
    (val_main_v304_apply (F := Ideal) x1 x3 _).trans (addTo s18 (tap11 x1 x3 y))
  have s20 : val_main_v308 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 21 :=
    (val_main_v308_apply (F := Ideal) x1 x3 _).trans (addTo s19 (tap10 x1 x3 y))
  have s21 : val_main_v312 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 22 :=
    (val_main_v312_apply (F := Ideal) x1 x3 _).trans (addTo s20 (tap9 x1 x3 y))
  have s22 : val_main_v316 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 23 :=
    (val_main_v316_apply (F := Ideal) x1 x3 _).trans (addTo s21 (tap8 x1 x3 y))
  have s23 : val_main_v320 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 24 :=
    (val_main_v320_apply (F := Ideal) x1 x3 _).trans (addTo s22 (tap7 x1 x3 y))
  have s24 : val_main_v324 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 25 :=
    (val_main_v324_apply (F := Ideal) x1 x3 _).trans (addTo s23 (tap6 x1 x3 y))
  have s25 : val_main_v328 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 26 :=
    (val_main_v328_apply (F := Ideal) x1 x3 _).trans (addTo s24 (tap5 x1 x3 y))
  have s26 : val_main_v332 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 27 :=
    (val_main_v332_apply (F := Ideal) x1 x3 _).trans (addTo s25 (tap4 x1 x3 y))
  have s27 : val_main_v336 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 28 :=
    (val_main_v336_apply (F := Ideal) x1 x3 _).trans (addTo s26 (tap3 x1 x3 y))
  have s28 : val_main_v340 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 29 :=
    (val_main_v340_apply (F := Ideal) x1 x3 _).trans (addTo s27 (tap2 x1 x3 y))
  have s29 : val_main_v344 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 30 :=
    (val_main_v344_apply (F := Ideal) x1 x3 _).trans (addTo s28 (tap1 x1 x3 y))
  have s30 : val_main_v348 (F := Ideal) x1 x3 (ix3 (y 0) ⟨15 + (y 1).val, by idx_bounds; omega⟩ (y 2)) =
      taps (fun k => rows x3 (y 0) ((y 1).val + k) (y 2) * x1 (ix2 (Fin.ofNat 32 (30 - k)) (y 2))) 0 31 :=
    (val_main_v348_apply (F := Ideal) x1 x3 _).trans (addTo s29 (tap0 x1 x3 y))
  exact s30

/-- The reference's gradient: thirty-one shifted products, added up from the last tap. -/
theorem ref_at (x1 : FVec Ideal S32x512 .f32) (x3 : FVec Ideal S4x2048x512 .f32) (y : S4x2048x512.Idx) :
    val_main_v350 (F := Ideal) x1 x3 y
      = ∑ k ∈ Finset.range 31, rows x3 (y 0) ((y 1).val + k) (y 2) * x1 (ix2 (Fin.ofNat 32 (30 - k)) (y 2)) := by
  have e : idx_main_v350 y = ix3 (y 0) ⟨15 + (y 1).val, by idx_bounds; omega⟩ (y 2) := funext fun a => by
    fin_cases a <;> rfl
  exact ((val_main_v350_apply (F := Ideal) x1 x3 y).trans (congrArg (val_main_v348 (F := Ideal) x1 x3) e)).trans
    ((sums x1 x3 y).trans ((taps_eq _ 0 31).trans (zero_add _)))

/-- Where the block of grid point `t` lies in the result. -/
theorem emb5 (t : Fin cfg0.N) (y : S1x512x512.Idx) : ((win0_5.blk t).view.emb y : S4x2048x512.Idx)
    = ix3 ⟨t.val / 4, by have := (idx t).2.2.2.2.2.2.2; omega⟩ ⟨t.val % 4 * 512 + (y 1).val, by idx_bounds; omega⟩ (y 2) := by
  have h0 : (y 0).val < 1 := (y 0).isLt
  have e0 : ((win0_5.blk t).view.emb y 0 : Fin 4).val = t.val / 4 := by
    blk_simp [idx t]
  have e1 : ((win0_5.blk t).view.emb y 1 : Fin 2048).val = t.val % 4 * 512 + (y 1).val := by
    blk_simp [idx t]
  have e2 : ((win0_5.blk t).view.emb y 2 : Fin 512).val = (y 2).val := by
    blk_simp [idx t]
  funext a
  fin_cases a
  · exact Fin.ext e0
  · exact Fin.ext e1
  · exact Fin.ext e2

open Cert.Reference12Ideal.Read in
/-- The result array is the reference's. -/
theorem final (c : Dev nD) :
    (dats m 0 c).arrAt 5 cfg0.N = val_main_v350 (F := Ideal) (dw m c) (u m c) := by
  refine (dats m 0 c).arrAt_eq_of_covers 5 _ (by decide +kernel) fun t hf y => ?_
  refine Eq.trans ?_ (congrArg (val_main_v350 (F := Ideal) (dw m c) (u m c) : FVec Ideal S4x2048x512 .f32) (emb5 t y)).symm
  refine Eq.trans ?_ (ref_at (dw m c) (u m c) _).symm
  rw [after0_5]
  unfold outsAt0
  refine (out_at c (grid0.coords t) _ _ _ _ _ _ _ _ _ _ _ _ _ _ _ _ _ _ _ y).trans ?_
  unfold res
  rw [taps_eq]
  refine (congrArg (fun z : EReal => z + _) (blk4_at m c t _)).trans ((zero_add _).trans ?_)
  refine Finset.sum_congr rfl fun k hk => ?_
  have hk' : k < 31 := Finset.mem_range.mp hk
  have hy : (y 1).val < 512 := (y 1).isLt
  have hl : Fin.ofNat 512 (y 2).val = (y 2 : Fin 512) := Fin.ext (Nat.mod_eq_of_lt (y 2).isLt)
  refine congrArg₂ (fun a b : EReal => a * b) ((pad_rows m c t ((y 1).val + (1 + k)) (y 2) (by omega) (by omega)).trans ?_) ?_
  · refine congrArg (fun r => rows (u m c) _ r (y 2)) ?_
    show t.val % 4 * 512 + ((y 1).val + (1 + k) - 1) = t.val % 4 * 512 + (y 1).val + k
    omega
  · exact (blk3_at m c t _).trans (congrArg (fun l => dw m c (ix2 (Fin.ofNat 32 (30 - k)) l)) hl)

end Cert.ConvDgrad
-- ==== Proof.ConvWgradBody.lean ====
/- The body of the gradient of the depthwise convolution's taps and bias: what one grid point adds to row `n` of the taps'
   gradient is the sum, over the block's rows, of the result's gradient times the padded rows `1 + n` further on; the thirty-second
   row stays zero. -/
module

public import proofs.«01_k».proof.Proof.Gen.Kernel11Ideal.Frame
public import Idealize.ShloMosaic.Lib.Pipeline.ValueKit
public import Idealize.ShloMosaic.Lib.Claim
public import Idealize.ShloMosaic.Lib.Pipeline.ReadBack
public import proofs.«01_k».proof.Proof.Reals
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.ConvWgrad

open Cert.Kernel11Ideal Cert.Kernel11Ideal.Gen Cert.Reals

/-! ## The padded rows -/

/-- Row `n`, column `l` of the scratch: sixteen rows before the block, the block, sixteen rows behind it; zeros where the
    sequence has ended. -/
def pad (i : grid0.Coords) (x0 : FVec Ideal S1x512x512 .f32) (x1 x2 : FVec Ideal S1x16x512 .f32) (n l : ℕ) : EReal :=
  if n < 16 then (if 0 < (i 1).val then x1 (ix3 0 (Fin.ofNat 16 n) (Fin.ofNat 512 l)) else 0)
  else if n < 528 then x0 (ix3 0 (Fin.ofNat 512 (n - 16)) (Fin.ofNat 512 l))
  else (if (i 1).val < 3 then x2 (ix3 0 (Fin.ofNat 16 (n - 528)) (Fin.ofNat 512 l)) else 0)

theorem sel_gt (n : ℕ) (a b : EReal) (h : n < 4) :
    Scalar.select (α := EReal) (Scalar.cmpi CmpIPredicate.sgt (BitVec.ofNat 32 n) 0#32) a b = if 0 < n then a else b := by
  interval_cases n <;> rfl

theorem sel_lt (n : ℕ) (a b : EReal) (h : n < 4) :
    Scalar.select (α := EReal) (Scalar.cmpi CmpIPredicate.slt (BitVec.ofNat 32 n) 3#32) a b = if n < 3 then a else b := by
  interval_cases n <;> rfl

theorem pay3_at (i : grid0.Coords) (x : FVec Ideal S1x16x512 .f32) (y : S16x512.Idx) :
    k0_pay3 (F := Ideal) i x y = if 0 < (i 1).val then x (ix3 0 (y 0) (y 1)) else 0 := by
  have hi : (i 1).val < 4 := (i 1).isLt
  pointwise [k0_pay3]
  exact sel_gt _ _ _ hi

theorem pay4_at (x : FVec Ideal S1x512x512 .f32) (y : S512x512.Idx) :
    k0_pay4 (F := Ideal) x y = x (ix3 0 (y 0) (y 1)) := by
  pointwise [k0_pay4]

theorem pay5_at (i : grid0.Coords) (x : FVec Ideal S1x16x512 .f32) (y : S16x512.Idx) :
    k0_pay5 (F := Ideal) i x y = if (i 1).val < 3 then x (ix3 0 (y 0) (y 1)) else 0 := by
  have hi : (i 1).val < 4 := (i 1).isLt
  pointwise [k0_pay5]
  exact sel_lt _ _ _ hi

/-- The scratch after its three stores. -/
theorem scratch_at (i : grid0.Coords) (x0 : FVec Ideal S1x512x512 .f32) (x1 x2 : FVec Ideal S1x16x512 .f32) (y : S544x512.Idx) :
    View.canon (Val := Elt Ideal) (e := .f32) [⟨Rect.unit (s := S544x512) ![528, 0] S16x512.size inb_S544x512_S16x512_528_0, k0_pay5 (F := Ideal) i x2⟩,
      ⟨Rect.unit (s := S544x512) ![16, 0] S512x512.size inb_S544x512_S512x512_16_0, k0_pay4 (F := Ideal) x0⟩,
      ⟨Rect.unit (s := S544x512) ![0, 0] S16x512.size inb_S544x512_S16x512_0_0, k0_pay3 (F := Ideal) i x1⟩] y = pad i x0 x1 x2 (y 0).val (y 1).val := by
  have hy0 : (y 0).val < 544 := (y 0).isLt
  have hy1 : (y 1).val < 512 := (y 1).isLt
  have e1 : Fin.ofNat 512 (y 1).val = (y 1 : Fin 512) := Fin.ext (Nat.mod_eq_of_lt hy1)
  have n1 : (y 0).val < 528 → y ∉ (Rect.unit (s := S544x512) ![528, 0] S16x512.size inb_S544x512_S16x512_528_0).set := fun hl h =>
    absurd (((Rect.mem_set_unit (s := S544x512)).mp h) 0).1 (Nat.not_le.mpr hl)
  have n2 : (y 0).val < 16 → y ∉ (Rect.unit (s := S544x512) ![16, 0] S512x512.size inb_S544x512_S512x512_16_0).set := fun hl h =>
    absurd (((Rect.mem_set_unit (s := S544x512)).mp h) 0).1 (Nat.not_le.mpr hl)
  unfold pad
  by_cases h1 : (y 0).val < 16
  · refine (View.canon_cons_of_not_mem _ _ ?nm).trans ?_
    case nm => exact n1 (by omega)
    refine (View.canon_cons_of_not_mem _ _ ?nm).trans ?_
    case nm => exact n2 h1
    have e : y = (Rect.unit (s := S544x512) ![0, 0] S16x512.size inb_S544x512_S16x512_0_0).emb
        (ix2 ⟨(y 0).val, h1⟩ (y 1) : S16x512.Idx) := funext fun a => Fin.ext (by
      refine Eq.trans ?_ (Rect.idx_unit_val (s := S544x512) _ _ _ _ a).symm
      fin_cases a
      · exact (Nat.zero_add _).symm
      · exact (Nat.zero_add _).symm)
    rw [if_pos h1]
    refine (congrArg (View.canon _) e).trans ((View.canon_cons_emb _ _ _ _).trans ((pay3_at i x1 _).trans ?_))
    refine congrArg (fun z => if 0 < (i 1).val then x1 z else 0) (congrArg₂ (ix3 0) (Fin.ext (Nat.mod_eq_of_lt h1).symm) e1.symm)
  · rw [if_neg h1]
    by_cases h2 : (y 0).val < 528
    · rw [if_pos h2]
      refine (View.canon_cons_of_not_mem _ _ ?nm).trans ?_
      case nm => exact n1 h2
      have e : y = (Rect.unit (s := S544x512) ![16, 0] S512x512.size inb_S544x512_S512x512_16_0).emb
          (ix2 ⟨(y 0).val - 16, by omega⟩ (y 1) : S512x512.Idx) := funext fun a => Fin.ext (by
        refine Eq.trans ?_ (Rect.idx_unit_val (s := S544x512) _ _ _ _ a).symm
        fin_cases a
        · show (y 0).val = 16 + ((y 0).val - 16)
          omega
        · exact (Nat.zero_add _).symm)
      refine (congrArg (View.canon _) e).trans ((View.canon_cons_emb _ _ _ _).trans ((pay4_at x0 _).trans ?_))
      refine congrArg x0 (congrArg₂ (ix3 0) (Fin.ext (Nat.mod_eq_of_lt (show (y 0).val - 16 < 512 by omega)).symm) e1.symm)
    · rw [if_neg h2]
      have e : y = (Rect.unit (s := S544x512) ![528, 0] S16x512.size inb_S544x512_S16x512_528_0).emb
          (ix2 ⟨(y 0).val - 528, by omega⟩ (y 1) : S16x512.Idx) := funext fun a => Fin.ext (by
        refine Eq.trans ?_ (Rect.idx_unit_val (s := S544x512) _ _ _ _ a).symm
        fin_cases a
        · show (y 0).val = 528 + ((y 0).val - 528)
          omega
        · exact (Nat.zero_add _).symm)
      refine (congrArg (View.canon _) e).trans ((View.canon_cons_emb _ _ _ _).trans ((pay5_at i x2 _).trans ?_))
      refine congrArg (fun z => if (i 1).val < 3 then x2 z else 0) (congrArg₂ (ix3 0) (Fin.ext (Nat.mod_eq_of_lt (show (y 0).val - 528 < 16 by omega)).symm) e1.symm)

/-- What one grid point adds to row `n`, column `l` of the taps' gradient. -/
def tapSum (i : grid0.Coords) (x0 : FVec Ideal S1x512x512 .f32) (x1 x2 : FVec Ideal S1x16x512 .f32) (x3 : FVec Ideal S1x512x512 .f32) (n : ℕ) (l : Fin 512) : EReal :=
  ∑ r : Fin 512, x3 (ix3 0 r l) * pad i x0 x1 x2 (r.val + (1 + n)) l.val

/-- The taps' gradient after the first `n` rows of a grid point that found `x`. -/
def part (T : ℕ → Fin 512 → EReal) (x : FVec Ideal S32x512 .f32) (n : ℕ) (y : S32x512.Idx) : EReal :=
  if (y 0).val < n then x y + T (y 0).val (y 1) else x y

/-- One row of a store. -/
theorem row_emb (n : ℕ) (hn : n < 32) (inb) (l : Fin 512) :
    (Rect.unit (s := S32x512) ![n, 0] ![1, 512] inb).emb (ix2 0 l : S1x512.Idx) = (ix2 ⟨n, hn⟩ l : S32x512.Idx) := funext fun a => Fin.ext (by
  refine (Rect.idx_unit_val (s := S32x512) _ _ _ _ a).trans ?_
  fin_cases a
  · rfl
  · exact Nat.zero_add _)

theorem row_of (n : ℕ) (hn : n < 32) (y : S32x512.Idx) (h : (y 0).val = n) : ∃ l : Fin 512, y = (ix2 ⟨n, hn⟩ l : S32x512.Idx) := by
  subst h
  refine ⟨y 1, ?_⟩
  funext a
  fin_cases a <;> rfl

theorem row_not (n : ℕ) (inb) (y : S32x512.Idx) (h : (y 0).val ≠ n) : y ∉ (Rect.unit (s := S32x512) ![n, 0] ![1, 512] inb).set := fun hm => by
  have h0 := ((Rect.mem_set_unit (s := S32x512)).mp hm) 0
  have h1 : n ≤ (y 0).val := h0.1
  have h2 : (y 0).val < n + 1 := h0.2
  omega

theorem part_step (T : ℕ → Fin 512 → EReal) (x : FVec Ideal S32x512 .f32) (n : ℕ) (y : S32x512.Idx) (h : (y 0).val ≠ n) :
    part T x n y = part T x (n + 1) y := by
  unfold part
  by_cases h1 : (y 0).val < n
  · rw [if_pos h1, if_pos (by omega)]
  · rw [if_neg h1, if_neg (by omega)]

theorem part_here (T : ℕ → Fin 512 → EReal) (x : FVec Ideal S32x512 .f32) (n : ℕ) (hn : n < 32) (l : Fin 512) :
    part T x n (ix2 ⟨n, hn⟩ l) = x (ix2 ⟨n, hn⟩ l) := if_neg (Nat.lt_irrefl n)

theorem part_next (T : ℕ → Fin 512 → EReal) (x : FVec Ideal S32x512 .f32) (n : ℕ) (hn : n < 32) (l : Fin 512) :
    part T x (n + 1) (ix2 ⟨n, hn⟩ l) = x (ix2 ⟨n, hn⟩ l) + T n l := if_pos (Nat.lt_succ_self n)

/-- One more row stored, where the row it found is read back from the stores before it. -/
theorem stepA (T : ℕ → Fin 512 → EReal) (x : FVec Ideal S32x512 .f32) (n : ℕ) (hn : n < 32) (inb) (p : FVec Ideal S1x512 .f32)
    (L : List (View.Piece (Elt Ideal) S32x512 .f32)) (hp : ∀ l, p (ix2 0 l) = View.canon (Val := Elt Ideal) (e := .f32) L (ix2 ⟨n, hn⟩ l) + T n l)
    (hL : ∀ y, View.canon (Val := Elt Ideal) (e := .f32) L y = part T x n y) (y : S32x512.Idx) :
    View.canon (Val := Elt Ideal) (e := .f32) (⟨Rect.unit (s := S32x512) ![n, 0] ![1, 512] inb, p⟩ :: L) y = part T x (n + 1) y := by
  by_cases h : (y 0).val = n
  · obtain ⟨l, rfl⟩ := row_of n hn y h
    rw [part_next]
    refine (congrArg (View.canon _) (row_emb n hn inb l).symm).trans ((View.canon_cons_emb _ _ _ _).trans ((hp _).trans ?_))
    rw [hL, part_here]
  · refine (View.canon_cons_of_not_mem _ _ ?nm).trans ((hL y).trans (part_step T x n y h))
    case nm => exact row_not n inb y h

/-- One more row stored, where the row it found is read from what the point before left. -/
theorem stepB (a6 : Memref sig .tc .vmem S32x512 .f32) (f : a6.view.ty.Contents (Elt Ideal))
    (T : ℕ → Fin 512 → EReal) (x : FVec Ideal S32x512 .f32) (n : ℕ) (hn : n < 32) (inb) (p : FVec Ideal S1x512 .f32)
    (L : List (View.Piece (Elt Ideal) S32x512 .f32)) (hp : ∀ l, p (ix2 0 l) = x (ix2 ⟨n, hn⟩ l) + T n l)
    (hL : ∀ y, a6.view.read (Elt Ideal) (a6.view.writes (Elt Ideal) f L) y = part T x n y) (y : S32x512.Idx) :
    a6.view.read (Elt Ideal) (a6.view.writes (Elt Ideal) f (⟨Rect.unit (s := S32x512) ![n, 0] ![1, 512] inb, p⟩ :: L)) y = part T x (n + 1) y := by
  by_cases h : (y 0).val = n
  · obtain ⟨l, rfl⟩ := row_of n hn y h
    rw [part_next]
    refine Eq.trans ?_ (hp l)
    refine View.read_writes_cons_unit_of_mem (s := S32x512) a6.view f inb p L _ (ix2 0 l : S1x512.Idx) rfl fun a => ?_
    fin_cases a
    · rfl
    · exact (Nat.zero_add _).symm
  · refine (View.read_writes_cons_unit_of_not_mem (s := S32x512) a6.view f inb p L y rfl 0 ?_).trans ((hL y).trans (part_step T x n y h))
    show (y 0).val < n ∨ n + 1 ≤ (y 0).val
    omega

theorem oldA (a6 : Memref sig .tc .vmem S32x512 .f32) (L : List (View.Piece (Elt Ideal) S32x512 .f32)) (n : ℕ) (hn : n < 32) (inb) (l : Fin 512) :
    a6.view.readCov (Val := Elt Ideal) L (Rect.unit (s := S32x512) ![n, 0] ![1, 512] inb).toLoadRect (ix2 0 l : S1x512.Idx)
      = View.canon (Val := Elt Ideal) (e := .f32) L (ix2 ⟨n, hn⟩ l) := by
  rw [View.readCov_eq_canon']
  exact congrArg (View.canon L) (row_emb n hn inb l)

theorem oldB (a6 : Memref sig .tc .vmem S32x512 .f32) (h6 : a6.IsWhole) (x : FVec Ideal S32x512 .f32) (n : ℕ) (hn : n < 32) (inb) (l : Fin 512) :
    View.readAt (Elt Ideal) a6.view (Rect.unit (s := S32x512) ![n, 0] ![1, 512] inb).toLoadRect (h6.unread x) (ix2 0 l : S1x512.Idx)
      = x (ix2 ⟨n, hn⟩ l) := by
  rw [View.readAt_eq_ld, h6.read_unread]
  exact congrArg x (row_emb n hn inb l)

/-- The block of the result's gradient. -/
theorem pay8_at (x : FVec Ideal S1x512x512 .f32) (y : S512x512.Idx) : k0_pay8 (F := Ideal) x y = x (ix3 0 (y 0) (y 1)) := by
  pointwise [k0_pay8]

theorem dc_at (a5 : Memref sig .tc .vmem S1x512x512 .f32) (h5 : a5.IsWhole) (x3 : FVec Ideal S1x512x512 .f32) (r l : Fin 512) :
    k0_pay8 (F := Ideal) (View.readAt (Elt Ideal) a5.view (Rect.unit (s := S1x512x512) ![0, 0, 0] S1x512x512.size inb_S1x512x512_S1x512x512_0_0_0).toLoadRect (h5.unread x3)) (ix2 r l)
      = x3 (ix3 0 r l) := by
  rw [View.readAt_eq_ld, h5.read_unread, View.ld_unit_zero (by decide)]
  exact pay8_at x3 _

/-- A load of 512 rows of the scratch. -/
theorem load_at (i : grid0.Coords) (a2 : Memref sig .tc .vmem S1x512x512 .f32) (h2 : a2.IsWhole) (a3 : Memref sig .tc .vmem S1x16x512 .f32) (h3 : a3.IsWhole) (a4 : Memref sig .tc .vmem S1x16x512 .f32) (h4 : a4.IsWhole) (a8 : Memref sig .tc .vmem S544x512 .f32)
    (x0 : FVec Ideal S1x512x512 .f32) (x1 x2 : FVec Ideal S1x16x512 .f32) (k : ℕ) (inb) (p q : Fin 512) :
    a8.view.readCov (Val := Elt Ideal) [⟨Rect.unit (s := S544x512) ![528, 0] S16x512.size inb_S544x512_S16x512_528_0,
        k0_pay5 (F := Ideal) i (View.readAt (Elt Ideal) a4.view (Rect.unit ![0, 0, 0] S1x16x512.size inb_S1x16x512_S1x16x512_0_0_0).toLoadRect (h4.unread x2))⟩,
      ⟨Rect.unit (s := S544x512) ![16, 0] S512x512.size inb_S544x512_S512x512_16_0,
        k0_pay4 (F := Ideal) (View.readAt (Elt Ideal) a2.view (Rect.unit ![0, 0, 0] S1x512x512.size inb_S1x512x512_S1x512x512_0_0_0).toLoadRect (h2.unread x0))⟩,
      ⟨Rect.unit (s := S544x512) ![0, 0] S16x512.size inb_S544x512_S16x512_0_0,
        k0_pay3 (F := Ideal) i (View.readAt (Elt Ideal) a3.view (Rect.unit ![0, 0, 0] S1x16x512.size inb_S1x16x512_S1x16x512_0_0_0).toLoadRect (h3.unread x1))⟩]
      (Rect.unit (s := S544x512) ![k, 0] S512x512.size inb).toLoadRect (ix2 p q) = pad i x0 x1 x2 (p.val + k) q.val := by
  rw [View.readCov_eq_canon', View.readAt_eq_ld, View.readAt_eq_ld, View.readAt_eq_ld, h2.read_unread, h3.read_unread, h4.read_unread,
    View.ld_unit_zero (by decide), View.ld_unit_zero (by decide), View.ld_unit_zero (by decide)]
  refine (scratch_at i x0 x1 x2 _).trans (congrArg₂ (pad i x0 x1 x2) ?_ ?_)
  · exact (Rect.idx_unit_val (s := S544x512) _ S512x512.size inb (ix2 p q) 0).trans (Nat.add_comm _ _)
  · exact (Rect.idx_unit_val (s := S544x512) _ S512x512.size inb (ix2 p q) 1).trans (Nat.zero_add _)

/-- The row's sum over the block. -/
theorem sum_at (i : grid0.Coords) (a2 : Memref sig .tc .vmem S1x512x512 .f32) (h2 : a2.IsWhole) (a3 : Memref sig .tc .vmem S1x16x512 .f32) (h3 : a3.IsWhole) (a4 : Memref sig .tc .vmem S1x16x512 .f32) (h4 : a4.IsWhole) (a5 : Memref sig .tc .vmem S1x512x512 .f32) (h5 : a5.IsWhole) (a8 : Memref sig .tc .vmem S544x512 .f32)
    (x0 : FVec Ideal S1x512x512 .f32) (x1 x2 : FVec Ideal S1x16x512 .f32) (x3 : FVec Ideal S1x512x512 .f32) (k n : ℕ) (hk : k = 1 + n) (inb) (l : Fin 512) :
    ∑ r : Fin 512, k0_pay8 (F := Ideal) (View.readAt (Elt Ideal) a5.view (Rect.unit (s := S1x512x512) ![0, 0, 0] S1x512x512.size inb_S1x512x512_S1x512x512_0_0_0).toLoadRect (h5.unread x3)) (ix2 r l)
        * (a8.view.readCov (Val := Elt Ideal) [⟨Rect.unit (s := S544x512) ![528, 0] S16x512.size inb_S544x512_S16x512_528_0,
        k0_pay5 (F := Ideal) i (View.readAt (Elt Ideal) a4.view (Rect.unit ![0, 0, 0] S1x16x512.size inb_S1x16x512_S1x16x512_0_0_0).toLoadRect (h4.unread x2))⟩,
      ⟨Rect.unit (s := S544x512) ![16, 0] S512x512.size inb_S544x512_S512x512_16_0,
        k0_pay4 (F := Ideal) (View.readAt (Elt Ideal) a2.view (Rect.unit ![0, 0, 0] S1x512x512.size inb_S1x512x512_S1x512x512_0_0_0).toLoadRect (h2.unread x0))⟩,
      ⟨Rect.unit (s := S544x512) ![0, 0] S16x512.size inb_S544x512_S16x512_0_0,
        k0_pay3 (F := Ideal) i (View.readAt (Elt Ideal) a3.view (Rect.unit ![0, 0, 0] S1x16x512.size inb_S1x16x512_S1x16x512_0_0_0).toLoadRect (h3.unread x1))⟩]
      (Rect.unit (s := S544x512) ![k, 0] S512x512.size inb).toLoadRect (ix2 r l) : EReal)
      = tapSum i x0 x1 x2 x3 n l := by
  subst hk
  refine Finset.sum_congr rfl fun r _ => congrArg₂ (fun a b : EReal => a * b) (dc_at a5 h5 x3 r l) (load_at i a2 h2 a3 h3 a4 h4 a8 x0 x1 x2 _ inb r l)

theorem row0 (d : FVec Ideal S512x512 .f32) (old : FVec Ideal S1x512 .f32) (w : FVec Ideal S512x512 .f32) (l : Fin 512) :
    k0_pay10 (F := Ideal) d old w (ix2 0 l) = old (ix2 0 l) + ∑ r : Fin 512, d (ix2 r l) * w (ix2 r l) := by
  pointwise [k0_pay10]

theorem row1 (d : FVec Ideal S512x512 .f32) (old : FVec Ideal S1x512 .f32) (w : FVec Ideal S512x512 .f32) (l : Fin 512) :
    k0_pay11 (F := Ideal) d old w (ix2 0 l) = old (ix2 0 l) + ∑ r : Fin 512, d (ix2 r l) * w (ix2 r l) := by
  pointwise [k0_pay11]

theorem row2 (d : FVec Ideal S512x512 .f32) (old : FVec Ideal S1x512 .f32) (w : FVec Ideal S512x512 .f32) (l : Fin 512) :
    k0_pay12 (F := Ideal) d old w (ix2 0 l) = old (ix2 0 l) + ∑ r : Fin 512, d (ix2 r l) * w (ix2 r l) := by
  pointwise [k0_pay12]

theorem row3 (d : FVec Ideal S512x512 .f32) (old : FVec Ideal S1x512 .f32) (w : FVec Ideal S512x512 .f32) (l : Fin 512) :
    k0_pay13 (F := Ideal) d old w (ix2 0 l) = old (ix2 0 l) + ∑ r : Fin 512, d (ix2 r l) * w (ix2 r l) := by
  pointwise [k0_pay13]

theorem row4 (d : FVec Ideal S512x512 .f32) (old : FVec Ideal S1x512 .f32) (w : FVec Ideal S512x512 .f32) (l : Fin 512) :
    k0_pay14 (F := Ideal) d old w (ix2 0 l) = old (ix2 0 l) + ∑ r : Fin 512, d (ix2 r l) * w (ix2 r l) := by
  pointwise [k0_pay14]

theorem row5 (d : FVec Ideal S512x512 .f32) (old : FVec Ideal S1x512 .f32) (w : FVec Ideal S512x512 .f32) (l : Fin 512) :
    k0_pay15 (F := Ideal) d old w (ix2 0 l) = old (ix2 0 l) + ∑ r : Fin 512, d (ix2 r l) * w (ix2 r l) := by
  pointwise [k0_pay15]

theorem row6 (d : FVec Ideal S512x512 .f32) (old : FVec Ideal S1x512 .f32) (w : FVec Ideal S512x512 .f32) (l : Fin 512) :
    k0_pay16 (F := Ideal) d old w (ix2 0 l) = old (ix2 0 l) + ∑ r : Fin 512, d (ix2 r l) * w (ix2 r l) := by
  pointwise [k0_pay16]

theorem row7 (d : FVec Ideal S512x512 .f32) (old : FVec Ideal S1x512 .f32) (w : FVec Ideal S512x512 .f32) (l : Fin 512) :
    k0_pay17 (F := Ideal) d old w (ix2 0 l) = old (ix2 0 l) + ∑ r : Fin 512, d (ix2 r l) * w (ix2 r l) := by
  pointwise [k0_pay17]

theorem row8 (d : FVec Ideal S512x512 .f32) (old : FVec Ideal S1x512 .f32) (w : FVec Ideal S512x512 .f32) (l : Fin 512) :
    k0_pay18 (F := Ideal) d old w (ix2 0 l) = old (ix2 0 l) + ∑ r : Fin 512, d (ix2 r l) * w (ix2 r l) := by
  pointwise [k0_pay18]

theorem row9 (d : FVec Ideal S512x512 .f32) (old : FVec Ideal S1x512 .f32) (w : FVec Ideal S512x512 .f32) (l : Fin 512) :
    k0_pay19 (F := Ideal) d old w (ix2 0 l) = old (ix2 0 l) + ∑ r : Fin 512, d (ix2 r l) * w (ix2 r l) := by
  pointwise [k0_pay19]

theorem row10 (d : FVec Ideal S512x512 .f32) (old : FVec Ideal S1x512 .f32) (w : FVec Ideal S512x512 .f32) (l : Fin 512) :
    k0_pay22 (F := Ideal) (k0_pay20 old) (k0_pay21 d w) (ix2 0 l) = old (ix2 0 l) + ∑ r : Fin 512, d (ix2 r l) * w (ix2 r l) := by
  pointwise [k0_pay22, k0_pay20, k0_pay21]

theorem row11 (d : FVec Ideal S512x512 .f32) (old : FVec Ideal S1x512 .f32) (w : FVec Ideal S512x512 .f32) (l : Fin 512) :
    k0_pay23 (F := Ideal) d old w (ix2 0 l) = old (ix2 0 l) + ∑ r : Fin 512, d (ix2 r l) * w (ix2 r l) := by
  pointwise [k0_pay23]

theorem row12 (d : FVec Ideal S512x512 .f32) (old : FVec Ideal S1x512 .f32) (w : FVec Ideal S512x512 .f32) (l : Fin 512) :
    k0_pay24 (F := Ideal) d old w (ix2 0 l) = old (ix2 0 l) + ∑ r : Fin 512, d (ix2 r l) * w (ix2 r l) := by
  pointwise [k0_pay24]

theorem row13 (d : FVec Ideal S512x512 .f32) (old : FVec Ideal S1x512 .f32) (w : FVec Ideal S512x512 .f32) (l : Fin 512) :
    k0_pay25 (F := Ideal) d old w (ix2 0 l) = old (ix2 0 l) + ∑ r : Fin 512, d (ix2 r l) * w (ix2 r l) := by
  pointwise [k0_pay25]

theorem row14 (d : FVec Ideal S512x512 .f32) (old : FVec Ideal S1x512 .f32) (w : FVec Ideal S512x512 .f32) (l : Fin 512) :
    k0_pay27 (F := Ideal) d (k0_pay26 old) w (ix2 0 l) = old (ix2 0 l) + ∑ r : Fin 512, d (ix2 r l) * w (ix2 r l) := by
  pointwise [k0_pay27, k0_pay26]

theorem row15 (d : FVec Ideal S512x512 .f32) (old : FVec Ideal S1x512 .f32) (w : FVec Ideal S512x512 .f32) (l : Fin 512) :
    k0_pay28 (F := Ideal) d old w (ix2 0 l) = old (ix2 0 l) + ∑ r : Fin 512, d (ix2 r l) * w (ix2 r l) := by
  pointwise [k0_pay28]

theorem row16 (d : FVec Ideal S512x512 .f32) (old : FVec Ideal S1x512 .f32) (w : FVec Ideal S512x512 .f32) (l : Fin 512) :
    k0_pay29 (F := Ideal) d old w (ix2 0 l) = old (ix2 0 l) + ∑ r : Fin 512, d (ix2 r l) * w (ix2 r l) := by
  pointwise [k0_pay29]

theorem row17 (d : FVec Ideal S512x512 .f32) (old : FVec Ideal S1x512 .f32) (w : FVec Ideal S512x512 .f32) (l : Fin 512) :
    k0_pay30 (F := Ideal) d old w (ix2 0 l) = old (ix2 0 l) + ∑ r : Fin 512, d (ix2 r l) * w (ix2 r l) := by
  pointwise [k0_pay30]

theorem row18 (d : FVec Ideal S512x512 .f32) (old : FVec Ideal S1x512 .f32) (w : FVec Ideal S512x512 .f32) (l : Fin 512) :
    k0_pay31 (F := Ideal) d old w (ix2 0 l) = old (ix2 0 l) + ∑ r : Fin 512, d (ix2 r l) * w (ix2 r l) := by
  pointwise [k0_pay31]

theorem row19 (d : FVec Ideal S512x512 .f32) (old : FVec Ideal S1x512 .f32) (w : FVec Ideal S512x512 .f32) (l : Fin 512) :
    k0_pay32 (F := Ideal) d old w (ix2 0 l) = old (ix2 0 l) + ∑ r : Fin 512, d (ix2 r l) * w (ix2 r l) := by
  pointwise [k0_pay32]

theorem row20 (d : FVec Ideal S512x512 .f32) (old : FVec Ideal S1x512 .f32) (w : FVec Ideal S512x512 .f32) (l : Fin 512) :
    k0_pay33 (F := Ideal) d old w (ix2 0 l) = old (ix2 0 l) + ∑ r : Fin 512, d (ix2 r l) * w (ix2 r l) := by
  pointwise [k0_pay33]

theorem row21 (d : FVec Ideal S512x512 .f32) (old : FVec Ideal S1x512 .f32) (w : FVec Ideal S512x512 .f32) (l : Fin 512) :
    k0_pay34 (F := Ideal) d old w (ix2 0 l) = old (ix2 0 l) + ∑ r : Fin 512, d (ix2 r l) * w (ix2 r l) := by
  pointwise [k0_pay34]

theorem row22 (d : FVec Ideal S512x512 .f32) (old : FVec Ideal S1x512 .f32) (w : FVec Ideal S512x512 .f32) (l : Fin 512) :
    k0_pay35 (F := Ideal) d old w (ix2 0 l) = old (ix2 0 l) + ∑ r : Fin 512, d (ix2 r l) * w (ix2 r l) := by
  pointwise [k0_pay35]

theorem row23 (d : FVec Ideal S512x512 .f32) (old : FVec Ideal S1x512 .f32) (w : FVec Ideal S512x512 .f32) (l : Fin 512) :
    k0_pay36 (F := Ideal) d old w (ix2 0 l) = old (ix2 0 l) + ∑ r : Fin 512, d (ix2 r l) * w (ix2 r l) := by
  pointwise [k0_pay36]

theorem row24 (d : FVec Ideal S512x512 .f32) (old : FVec Ideal S1x512 .f32) (w : FVec Ideal S512x512 .f32) (l : Fin 512) :
    k0_pay37 (F := Ideal) d old w (ix2 0 l) = old (ix2 0 l) + ∑ r : Fin 512, d (ix2 r l) * w (ix2 r l) := by
  pointwise [k0_pay37]

theorem row25 (d : FVec Ideal S512x512 .f32) (old : FVec Ideal S1x512 .f32) (w : FVec Ideal S512x512 .f32) (l : Fin 512) :
    k0_pay40 (F := Ideal) (k0_pay38 old) (k0_pay39 d w) (ix2 0 l) = old (ix2 0 l) + ∑ r : Fin 512, d (ix2 r l) * w (ix2 r l) := by
  pointwise [k0_pay40, k0_pay38, k0_pay39]

theorem row26 (d : FVec Ideal S512x512 .f32) (old : FVec Ideal S1x512 .f32) (w : FVec Ideal S512x512 .f32) (l : Fin 512) :
    k0_pay41 (F := Ideal) d old w (ix2 0 l) = old (ix2 0 l) + ∑ r : Fin 512, d (ix2 r l) * w (ix2 r l) := by
  pointwise [k0_pay41]

theorem row27 (d : FVec Ideal S512x512 .f32) (old : FVec Ideal S1x512 .f32) (w : FVec Ideal S512x512 .f32) (l : Fin 512) :
    k0_pay42 (F := Ideal) d old w (ix2 0 l) = old (ix2 0 l) + ∑ r : Fin 512, d (ix2 r l) * w (ix2 r l) := by
  pointwise [k0_pay42]

theorem row28 (d : FVec Ideal S512x512 .f32) (old : FVec Ideal S1x512 .f32) (w : FVec Ideal S512x512 .f32) (l : Fin 512) :
    k0_pay43 (F := Ideal) d old w (ix2 0 l) = old (ix2 0 l) + ∑ r : Fin 512, d (ix2 r l) * w (ix2 r l) := by
  pointwise [k0_pay43]

theorem row29 (d : FVec Ideal S512x512 .f32) (old : FVec Ideal S1x512 .f32) (w : FVec Ideal S512x512 .f32) (l : Fin 512) :
    k0_pay1 (F := Ideal) d (k0_pay44 old) w (ix2 0 l) = old (ix2 0 l) + ∑ r : Fin 512, d (ix2 r l) * w (ix2 r l) := by
  pointwise [k0_pay1, k0_pay44]

theorem row30 (d : FVec Ideal S512x512 .f32) (old : FVec Ideal S1x512 .f32) (w : FVec Ideal S512x512 .f32) (l : Fin 512) :
    k0_pay2 (F := Ideal) d old w (ix2 0 l) = old (ix2 0 l) + ∑ r : Fin 512, d (ix2 r l) * w (ix2 r l) := by
  pointwise [k0_pay2]

/-- The taps' gradient at a point that starts the sum. -/
theorem outA_at (c : Dev nD) (i : grid0.Coords) (a2 : Memref sig .tc .vmem S1x512x512 .f32) (h2 : a2.IsWhole) (a3 : Memref sig .tc .vmem S1x16x512 .f32) (h3 : a3.IsWhole) (a4 : Memref sig .tc .vmem S1x16x512 .f32) (h4 : a4.IsWhole) (a5 : Memref sig .tc .vmem S1x512x512 .f32) (h5 : a5.IsWhole) (a6 : Memref sig .tc .vmem S32x512 .f32) (h6 : a6.IsWhole) (a7 : Memref sig .tc .vmem S1x512 .f32) (h7 : a7.IsWhole) (a8 : Memref sig .tc .vmem S544x512 .f32) (h8 : a8.IsWhole) (hc0 : cond0_0 i)
    (x0 : FVec Ideal S1x512x512 .f32) (x1 x2 : FVec Ideal S1x16x512 .f32) (x3 : FVec Ideal S1x512x512 .f32) (y : S32x512.Idx) :
    (out0_A_4 (F := Ideal) c i a2 h2 a3 h3 a4 h4 a5 h5 a6 h6 a7 h7 a8 h8 hc0 x0 x1 x2 x3 : FVec Ideal S32x512 .f32) y = part (tapSum i x0 x1 x2 x3) (fun _ => 0) 31 y := by
  unfold out0_A_4
  rw [View.read_writes_junk_eq_canon]
  unfold kernelRun0_A
  dsimp only
  sl_unfold_run_names
  refine stepA (tapSum i x0 x1 x2 x3) (fun _ => 0) 30 (by decide) _ _ _ (fun l => (row30 _ _ _ l).trans (congrArg₂ (fun a b : EReal => a + b) (oldA a6 _ 30 (by decide) _ l) (sum_at i a2 h2 a3 h3 a4 h4 a5 h5 a8 x0 x1 x2 x3 31 30 rfl _ l))) ?_ y
  clear y
  intro y
  refine stepA (tapSum i x0 x1 x2 x3) (fun _ => 0) 29 (by decide) _ _ _ (fun l => (row29 _ _ _ l).trans (congrArg₂ (fun a b : EReal => a + b) (oldA a6 _ 29 (by decide) _ l) (sum_at i a2 h2 a3 h3 a4 h4 a5 h5 a8 x0 x1 x2 x3 30 29 rfl _ l))) ?_ y
  clear y
  intro y
  refine stepA (tapSum i x0 x1 x2 x3) (fun _ => 0) 28 (by decide) _ _ _ (fun l => (row28 _ _ _ l).trans (congrArg₂ (fun a b : EReal => a + b) (oldA a6 _ 28 (by decide) _ l) (sum_at i a2 h2 a3 h3 a4 h4 a5 h5 a8 x0 x1 x2 x3 29 28 rfl _ l))) ?_ y
  clear y
  intro y
  refine stepA (tapSum i x0 x1 x2 x3) (fun _ => 0) 27 (by decide) _ _ _ (fun l => (row27 _ _ _ l).trans (congrArg₂ (fun a b : EReal => a + b) (oldA a6 _ 27 (by decide) _ l) (sum_at i a2 h2 a3 h3 a4 h4 a5 h5 a8 x0 x1 x2 x3 28 27 rfl _ l))) ?_ y
  clear y
  intro y
  refine stepA (tapSum i x0 x1 x2 x3) (fun _ => 0) 26 (by decide) _ _ _ (fun l => (row26 _ _ _ l).trans (congrArg₂ (fun a b : EReal => a + b) (oldA a6 _ 26 (by decide) _ l) (sum_at i a2 h2 a3 h3 a4 h4 a5 h5 a8 x0 x1 x2 x3 27 26 rfl _ l))) ?_ y
  clear y
  intro y
  refine stepA (tapSum i x0 x1 x2 x3) (fun _ => 0) 25 (by decide) _ _ _ (fun l => (row25 _ _ _ l).trans (congrArg₂ (fun a b : EReal => a + b) (oldA a6 _ 25 (by decide) _ l) (sum_at i a2 h2 a3 h3 a4 h4 a5 h5 a8 x0 x1 x2 x3 26 25 rfl _ l))) ?_ y
  clear y
  intro y
  refine stepA (tapSum i x0 x1 x2 x3) (fun _ => 0) 24 (by decide) _ _ _ (fun l => (row24 _ _ _ l).trans (congrArg₂ (fun a b : EReal => a + b) (oldA a6 _ 24 (by decide) _ l) (sum_at i a2 h2 a3 h3 a4 h4 a5 h5 a8 x0 x1 x2 x3 25 24 rfl _ l))) ?_ y
  clear y
  intro y
  refine stepA (tapSum i x0 x1 x2 x3) (fun _ => 0) 23 (by decide) _ _ _ (fun l => (row23 _ _ _ l).trans (congrArg₂ (fun a b : EReal => a + b) (oldA a6 _ 23 (by decide) _ l) (sum_at i a2 h2 a3 h3 a4 h4 a5 h5 a8 x0 x1 x2 x3 24 23 rfl _ l))) ?_ y
  clear y
  intro y
  refine stepA (tapSum i x0 x1 x2 x3) (fun _ => 0) 22 (by decide) _ _ _ (fun l => (row22 _ _ _ l).trans (congrArg₂ (fun a b : EReal => a + b) (oldA a6 _ 22 (by decide) _ l) (sum_at i a2 h2 a3 h3 a4 h4 a5 h5 a8 x0 x1 x2 x3 23 22 rfl _ l))) ?_ y
  clear y
  intro y
  refine stepA (tapSum i x0 x1 x2 x3) (fun _ => 0) 21 (by decide) _ _ _ (fun l => (row21 _ _ _ l).trans (congrArg₂ (fun a b : EReal => a + b) (oldA a6 _ 21 (by decide) _ l) (sum_at i a2 h2 a3 h3 a4 h4 a5 h5 a8 x0 x1 x2 x3 22 21 rfl _ l))) ?_ y
  clear y
  intro y
  refine stepA (tapSum i x0 x1 x2 x3) (fun _ => 0) 20 (by decide) _ _ _ (fun l => (row20 _ _ _ l).trans (congrArg₂ (fun a b : EReal => a + b) (oldA a6 _ 20 (by decide) _ l) (sum_at i a2 h2 a3 h3 a4 h4 a5 h5 a8 x0 x1 x2 x3 21 20 rfl _ l))) ?_ y
  clear y
  intro y
  refine stepA (tapSum i x0 x1 x2 x3) (fun _ => 0) 19 (by decide) _ _ _ (fun l => (row19 _ _ _ l).trans (congrArg₂ (fun a b : EReal => a + b) (oldA a6 _ 19 (by decide) _ l) (sum_at i a2 h2 a3 h3 a4 h4 a5 h5 a8 x0 x1 x2 x3 20 19 rfl _ l))) ?_ y
  clear y
  intro y
  refine stepA (tapSum i x0 x1 x2 x3) (fun _ => 0) 18 (by decide) _ _ _ (fun l => (row18 _ _ _ l).trans (congrArg₂ (fun a b : EReal => a + b) (oldA a6 _ 18 (by decide) _ l) (sum_at i a2 h2 a3 h3 a4 h4 a5 h5 a8 x0 x1 x2 x3 19 18 rfl _ l))) ?_ y
  clear y
  intro y
  refine stepA (tapSum i x0 x1 x2 x3) (fun _ => 0) 17 (by decide) _ _ _ (fun l => (row17 _ _ _ l).trans (congrArg₂ (fun a b : EReal => a + b) (oldA a6 _ 17 (by decide) _ l) (sum_at i a2 h2 a3 h3 a4 h4 a5 h5 a8 x0 x1 x2 x3 18 17 rfl _ l))) ?_ y
  clear y
  intro y
  refine stepA (tapSum i x0 x1 x2 x3) (fun _ => 0) 16 (by decide) _ _ _ (fun l => (row16 _ _ _ l).trans (congrArg₂ (fun a b : EReal => a + b) (oldA a6 _ 16 (by decide) _ l) (sum_at i a2 h2 a3 h3 a4 h4 a5 h5 a8 x0 x1 x2 x3 17 16 rfl _ l))) ?_ y
  clear y
  intro y
  refine stepA (tapSum i x0 x1 x2 x3) (fun _ => 0) 15 (by decide) _ _ _ (fun l => (row15 _ _ _ l).trans (congrArg₂ (fun a b : EReal => a + b) (oldA a6 _ 15 (by decide) _ l) (sum_at i a2 h2 a3 h3 a4 h4 a5 h5 a8 x0 x1 x2 x3 16 15 rfl _ l))) ?_ y
  clear y
  intro y
  refine stepA (tapSum i x0 x1 x2 x3) (fun _ => 0) 14 (by decide) _ _ _ (fun l => (row14 _ _ _ l).trans (congrArg₂ (fun a b : EReal => a + b) (oldA a6 _ 14 (by decide) _ l) (sum_at i a2 h2 a3 h3 a4 h4 a5 h5 a8 x0 x1 x2 x3 15 14 rfl _ l))) ?_ y
  clear y
  intro y
  refine stepA (tapSum i x0 x1 x2 x3) (fun _ => 0) 13 (by decide) _ _ _ (fun l => (row13 _ _ _ l).trans (congrArg₂ (fun a b : EReal => a + b) (oldA a6 _ 13 (by decide) _ l) (sum_at i a2 h2 a3 h3 a4 h4 a5 h5 a8 x0 x1 x2 x3 14 13 rfl _ l))) ?_ y
  clear y
  intro y
  refine stepA (tapSum i x0 x1 x2 x3) (fun _ => 0) 12 (by decide) _ _ _ (fun l => (row12 _ _ _ l).trans (congrArg₂ (fun a b : EReal => a + b) (oldA a6 _ 12 (by decide) _ l) (sum_at i a2 h2 a3 h3 a4 h4 a5 h5 a8 x0 x1 x2 x3 13 12 rfl _ l))) ?_ y
  clear y
  intro y
  refine stepA (tapSum i x0 x1 x2 x3) (fun _ => 0) 11 (by decide) _ _ _ (fun l => (row11 _ _ _ l).trans (congrArg₂ (fun a b : EReal => a + b) (oldA a6 _ 11 (by decide) _ l) (sum_at i a2 h2 a3 h3 a4 h4 a5 h5 a8 x0 x1 x2 x3 12 11 rfl _ l))) ?_ y
  clear y
  intro y
  refine stepA (tapSum i x0 x1 x2 x3) (fun _ => 0) 10 (by decide) _ _ _ (fun l => (row10 _ _ _ l).trans (congrArg₂ (fun a b : EReal => a + b) (oldA a6 _ 10 (by decide) _ l) (sum_at i a2 h2 a3 h3 a4 h4 a5 h5 a8 x0 x1 x2 x3 11 10 rfl _ l))) ?_ y
  clear y
  intro y
  refine stepA (tapSum i x0 x1 x2 x3) (fun _ => 0) 9 (by decide) _ _ _ (fun l => (row9 _ _ _ l).trans (congrArg₂ (fun a b : EReal => a + b) (oldA a6 _ 9 (by decide) _ l) (sum_at i a2 h2 a3 h3 a4 h4 a5 h5 a8 x0 x1 x2 x3 10 9 rfl _ l))) ?_ y
  clear y
  intro y
  refine stepA (tapSum i x0 x1 x2 x3) (fun _ => 0) 8 (by decide) _ _ _ (fun l => (row8 _ _ _ l).trans (congrArg₂ (fun a b : EReal => a + b) (oldA a6 _ 8 (by decide) _ l) (sum_at i a2 h2 a3 h3 a4 h4 a5 h5 a8 x0 x1 x2 x3 9 8 rfl _ l))) ?_ y
  clear y
  intro y
  refine stepA (tapSum i x0 x1 x2 x3) (fun _ => 0) 7 (by decide) _ _ _ (fun l => (row7 _ _ _ l).trans (congrArg₂ (fun a b : EReal => a + b) (oldA a6 _ 7 (by decide) _ l) (sum_at i a2 h2 a3 h3 a4 h4 a5 h5 a8 x0 x1 x2 x3 8 7 rfl _ l))) ?_ y
  clear y
  intro y
  refine stepA (tapSum i x0 x1 x2 x3) (fun _ => 0) 6 (by decide) _ _ _ (fun l => (row6 _ _ _ l).trans (congrArg₂ (fun a b : EReal => a + b) (oldA a6 _ 6 (by decide) _ l) (sum_at i a2 h2 a3 h3 a4 h4 a5 h5 a8 x0 x1 x2 x3 7 6 rfl _ l))) ?_ y
  clear y
  intro y
  refine stepA (tapSum i x0 x1 x2 x3) (fun _ => 0) 5 (by decide) _ _ _ (fun l => (row5 _ _ _ l).trans (congrArg₂ (fun a b : EReal => a + b) (oldA a6 _ 5 (by decide) _ l) (sum_at i a2 h2 a3 h3 a4 h4 a5 h5 a8 x0 x1 x2 x3 6 5 rfl _ l))) ?_ y
  clear y
  intro y
  refine stepA (tapSum i x0 x1 x2 x3) (fun _ => 0) 4 (by decide) _ _ _ (fun l => (row4 _ _ _ l).trans (congrArg₂ (fun a b : EReal => a + b) (oldA a6 _ 4 (by decide) _ l) (sum_at i a2 h2 a3 h3 a4 h4 a5 h5 a8 x0 x1 x2 x3 5 4 rfl _ l))) ?_ y
  clear y
  intro y
  refine stepA (tapSum i x0 x1 x2 x3) (fun _ => 0) 3 (by decide) _ _ _ (fun l => (row3 _ _ _ l).trans (congrArg₂ (fun a b : EReal => a + b) (oldA a6 _ 3 (by decide) _ l) (sum_at i a2 h2 a3 h3 a4 h4 a5 h5 a8 x0 x1 x2 x3 4 3 rfl _ l))) ?_ y
  clear y
  intro y
  refine stepA (tapSum i x0 x1 x2 x3) (fun _ => 0) 2 (by decide) _ _ _ (fun l => (row2 _ _ _ l).trans (congrArg₂ (fun a b : EReal => a + b) (oldA a6 _ 2 (by decide) _ l) (sum_at i a2 h2 a3 h3 a4 h4 a5 h5 a8 x0 x1 x2 x3 3 2 rfl _ l))) ?_ y
  clear y
  intro y
  refine stepA (tapSum i x0 x1 x2 x3) (fun _ => 0) 1 (by decide) _ _ _ (fun l => (row1 _ _ _ l).trans (congrArg₂ (fun a b : EReal => a + b) (oldA a6 _ 1 (by decide) _ l) (sum_at i a2 h2 a3 h3 a4 h4 a5 h5 a8 x0 x1 x2 x3 2 1 rfl _ l))) ?_ y
  clear y
  intro y
  refine stepA (tapSum i x0 x1 x2 x3) (fun _ => 0) 0 (by decide) _ _ _ (fun l => (row0 _ _ _ l).trans (congrArg₂ (fun a b : EReal => a + b) (oldA a6 _ 0 (by decide) _ l) (sum_at i a2 h2 a3 h3 a4 h4 a5 h5 a8 x0 x1 x2 x3 1 0 rfl _ l))) ?_ y
  clear y
  intro y
  refine (congrFun (View.canon_cons_unit_zero (by decide) _ _ _) y).trans ?_
  unfold part
  rw [if_neg (Nat.not_lt_zero _)]
  pointwise [k0_pay6]

/-- The taps' gradient at a point that adds to it. -/
theorem outB_at (c : Dev nD) (i : grid0.Coords) (a2 : Memref sig .tc .vmem S1x512x512 .f32) (h2 : a2.IsWhole) (a3 : Memref sig .tc .vmem S1x16x512 .f32) (h3 : a3.IsWhole) (a4 : Memref sig .tc .vmem S1x16x512 .f32) (h4 : a4.IsWhole) (a5 : Memref sig .tc .vmem S1x512x512 .f32) (h5 : a5.IsWhole) (a6 : Memref sig .tc .vmem S32x512 .f32) (h6 : a6.IsWhole) (a7 : Memref sig .tc .vmem S1x512 .f32) (h7 : a7.IsWhole) (a8 : Memref sig .tc .vmem S544x512 .f32) (h8 : a8.IsWhole) (hc0 : ¬cond0_0 i)
    (x0 : FVec Ideal S1x512x512 .f32) (x1 x2 : FVec Ideal S1x16x512 .f32) (x3 : FVec Ideal S1x512x512 .f32) (x4 : FVec Ideal S32x512 .f32) (x5 : FVec Ideal S1x512 .f32) (y : S32x512.Idx) :
    (out0_B_4 (F := Ideal) c i a2 h2 a3 h3 a4 h4 a5 h5 a6 h6 a7 h7 a8 h8 hc0 x0 x1 x2 x3 x4 x5 : FVec Ideal S32x512 .f32) y = part (tapSum i x0 x1 x2 x3) x4 31 y := by
  unfold out0_B_4
  unfold kernelRun0_B
  dsimp only
  sl_unfold_run_names
  refine stepB a6 _ (tapSum i x0 x1 x2 x3) x4 30 (by decide) _ _ _ (fun l => (row30 _ _ _ l).trans (congrArg₂ (fun a b : EReal => a + b) (oldB a6 h6 x4 30 (by decide) _ l) (sum_at i a2 h2 a3 h3 a4 h4 a5 h5 a8 x0 x1 x2 x3 31 30 rfl _ l))) ?_ y
  clear y
  intro y
  refine stepB a6 _ (tapSum i x0 x1 x2 x3) x4 29 (by decide) _ _ _ (fun l => (row29 _ _ _ l).trans (congrArg₂ (fun a b : EReal => a + b) (oldB a6 h6 x4 29 (by decide) _ l) (sum_at i a2 h2 a3 h3 a4 h4 a5 h5 a8 x0 x1 x2 x3 30 29 rfl _ l))) ?_ y
  clear y
  intro y
  refine stepB a6 _ (tapSum i x0 x1 x2 x3) x4 28 (by decide) _ _ _ (fun l => (row28 _ _ _ l).trans (congrArg₂ (fun a b : EReal => a + b) (oldB a6 h6 x4 28 (by decide) _ l) (sum_at i a2 h2 a3 h3 a4 h4 a5 h5 a8 x0 x1 x2 x3 29 28 rfl _ l))) ?_ y
  clear y
  intro y
  refine stepB a6 _ (tapSum i x0 x1 x2 x3) x4 27 (by decide) _ _ _ (fun l => (row27 _ _ _ l).trans (congrArg₂ (fun a b : EReal => a + b) (oldB a6 h6 x4 27 (by decide) _ l) (sum_at i a2 h2 a3 h3 a4 h4 a5 h5 a8 x0 x1 x2 x3 28 27 rfl _ l))) ?_ y
  clear y
  intro y
  refine stepB a6 _ (tapSum i x0 x1 x2 x3) x4 26 (by decide) _ _ _ (fun l => (row26 _ _ _ l).trans (congrArg₂ (fun a b : EReal => a + b) (oldB a6 h6 x4 26 (by decide) _ l) (sum_at i a2 h2 a3 h3 a4 h4 a5 h5 a8 x0 x1 x2 x3 27 26 rfl _ l))) ?_ y
  clear y
  intro y
  refine stepB a6 _ (tapSum i x0 x1 x2 x3) x4 25 (by decide) _ _ _ (fun l => (row25 _ _ _ l).trans (congrArg₂ (fun a b : EReal => a + b) (oldB a6 h6 x4 25 (by decide) _ l) (sum_at i a2 h2 a3 h3 a4 h4 a5 h5 a8 x0 x1 x2 x3 26 25 rfl _ l))) ?_ y
  clear y
  intro y
  refine stepB a6 _ (tapSum i x0 x1 x2 x3) x4 24 (by decide) _ _ _ (fun l => (row24 _ _ _ l).trans (congrArg₂ (fun a b : EReal => a + b) (oldB a6 h6 x4 24 (by decide) _ l) (sum_at i a2 h2 a3 h3 a4 h4 a5 h5 a8 x0 x1 x2 x3 25 24 rfl _ l))) ?_ y
  clear y
  intro y
  refine stepB a6 _ (tapSum i x0 x1 x2 x3) x4 23 (by decide) _ _ _ (fun l => (row23 _ _ _ l).trans (congrArg₂ (fun a b : EReal => a + b) (oldB a6 h6 x4 23 (by decide) _ l) (sum_at i a2 h2 a3 h3 a4 h4 a5 h5 a8 x0 x1 x2 x3 24 23 rfl _ l))) ?_ y
  clear y
  intro y
  refine stepB a6 _ (tapSum i x0 x1 x2 x3) x4 22 (by decide) _ _ _ (fun l => (row22 _ _ _ l).trans (congrArg₂ (fun a b : EReal => a + b) (oldB a6 h6 x4 22 (by decide) _ l) (sum_at i a2 h2 a3 h3 a4 h4 a5 h5 a8 x0 x1 x2 x3 23 22 rfl _ l))) ?_ y
  clear y
  intro y
  refine stepB a6 _ (tapSum i x0 x1 x2 x3) x4 21 (by decide) _ _ _ (fun l => (row21 _ _ _ l).trans (congrArg₂ (fun a b : EReal => a + b) (oldB a6 h6 x4 21 (by decide) _ l) (sum_at i a2 h2 a3 h3 a4 h4 a5 h5 a8 x0 x1 x2 x3 22 21 rfl _ l))) ?_ y
  clear y
  intro y
  refine stepB a6 _ (tapSum i x0 x1 x2 x3) x4 20 (by decide) _ _ _ (fun l => (row20 _ _ _ l).trans (congrArg₂ (fun a b : EReal => a + b) (oldB a6 h6 x4 20 (by decide) _ l) (sum_at i a2 h2 a3 h3 a4 h4 a5 h5 a8 x0 x1 x2 x3 21 20 rfl _ l))) ?_ y
  clear y
  intro y
  refine stepB a6 _ (tapSum i x0 x1 x2 x3) x4 19 (by decide) _ _ _ (fun l => (row19 _ _ _ l).trans (congrArg₂ (fun a b : EReal => a + b) (oldB a6 h6 x4 19 (by decide) _ l) (sum_at i a2 h2 a3 h3 a4 h4 a5 h5 a8 x0 x1 x2 x3 20 19 rfl _ l))) ?_ y
  clear y
  intro y
  refine stepB a6 _ (tapSum i x0 x1 x2 x3) x4 18 (by decide) _ _ _ (fun l => (row18 _ _ _ l).trans (congrArg₂ (fun a b : EReal => a + b) (oldB a6 h6 x4 18 (by decide) _ l) (sum_at i a2 h2 a3 h3 a4 h4 a5 h5 a8 x0 x1 x2 x3 19 18 rfl _ l))) ?_ y
  clear y
  intro y
  refine stepB a6 _ (tapSum i x0 x1 x2 x3) x4 17 (by decide) _ _ _ (fun l => (row17 _ _ _ l).trans (congrArg₂ (fun a b : EReal => a + b) (oldB a6 h6 x4 17 (by decide) _ l) (sum_at i a2 h2 a3 h3 a4 h4 a5 h5 a8 x0 x1 x2 x3 18 17 rfl _ l))) ?_ y
  clear y
  intro y
  refine stepB a6 _ (tapSum i x0 x1 x2 x3) x4 16 (by decide) _ _ _ (fun l => (row16 _ _ _ l).trans (congrArg₂ (fun a b : EReal => a + b) (oldB a6 h6 x4 16 (by decide) _ l) (sum_at i a2 h2 a3 h3 a4 h4 a5 h5 a8 x0 x1 x2 x3 17 16 rfl _ l))) ?_ y
  clear y
  intro y
  refine stepB a6 _ (tapSum i x0 x1 x2 x3) x4 15 (by decide) _ _ _ (fun l => (row15 _ _ _ l).trans (congrArg₂ (fun a b : EReal => a + b) (oldB a6 h6 x4 15 (by decide) _ l) (sum_at i a2 h2 a3 h3 a4 h4 a5 h5 a8 x0 x1 x2 x3 16 15 rfl _ l))) ?_ y
  clear y
  intro y
  refine stepB a6 _ (tapSum i x0 x1 x2 x3) x4 14 (by decide) _ _ _ (fun l => (row14 _ _ _ l).trans (congrArg₂ (fun a b : EReal => a + b) (oldB a6 h6 x4 14 (by decide) _ l) (sum_at i a2 h2 a3 h3 a4 h4 a5 h5 a8 x0 x1 x2 x3 15 14 rfl _ l))) ?_ y
  clear y
  intro y
  refine stepB a6 _ (tapSum i x0 x1 x2 x3) x4 13 (by decide) _ _ _ (fun l => (row13 _ _ _ l).trans (congrArg₂ (fun a b : EReal => a + b) (oldB a6 h6 x4 13 (by decide) _ l) (sum_at i a2 h2 a3 h3 a4 h4 a5 h5 a8 x0 x1 x2 x3 14 13 rfl _ l))) ?_ y
  clear y
  intro y
  refine stepB a6 _ (tapSum i x0 x1 x2 x3) x4 12 (by decide) _ _ _ (fun l => (row12 _ _ _ l).trans (congrArg₂ (fun a b : EReal => a + b) (oldB a6 h6 x4 12 (by decide) _ l) (sum_at i a2 h2 a3 h3 a4 h4 a5 h5 a8 x0 x1 x2 x3 13 12 rfl _ l))) ?_ y
  clear y
  intro y
  refine stepB a6 _ (tapSum i x0 x1 x2 x3) x4 11 (by decide) _ _ _ (fun l => (row11 _ _ _ l).trans (congrArg₂ (fun a b : EReal => a + b) (oldB a6 h6 x4 11 (by decide) _ l) (sum_at i a2 h2 a3 h3 a4 h4 a5 h5 a8 x0 x1 x2 x3 12 11 rfl _ l))) ?_ y
  clear y
  intro y
  refine stepB a6 _ (tapSum i x0 x1 x2 x3) x4 10 (by decide) _ _ _ (fun l => (row10 _ _ _ l).trans (congrArg₂ (fun a b : EReal => a + b) (oldB a6 h6 x4 10 (by decide) _ l) (sum_at i a2 h2 a3 h3 a4 h4 a5 h5 a8 x0 x1 x2 x3 11 10 rfl _ l))) ?_ y
  clear y
  intro y
  refine stepB a6 _ (tapSum i x0 x1 x2 x3) x4 9 (by decide) _ _ _ (fun l => (row9 _ _ _ l).trans (congrArg₂ (fun a b : EReal => a + b) (oldB a6 h6 x4 9 (by decide) _ l) (sum_at i a2 h2 a3 h3 a4 h4 a5 h5 a8 x0 x1 x2 x3 10 9 rfl _ l))) ?_ y
  clear y
  intro y
  refine stepB a6 _ (tapSum i x0 x1 x2 x3) x4 8 (by decide) _ _ _ (fun l => (row8 _ _ _ l).trans (congrArg₂ (fun a b : EReal => a + b) (oldB a6 h6 x4 8 (by decide) _ l) (sum_at i a2 h2 a3 h3 a4 h4 a5 h5 a8 x0 x1 x2 x3 9 8 rfl _ l))) ?_ y
  clear y
  intro y
  refine stepB a6 _ (tapSum i x0 x1 x2 x3) x4 7 (by decide) _ _ _ (fun l => (row7 _ _ _ l).trans (congrArg₂ (fun a b : EReal => a + b) (oldB a6 h6 x4 7 (by decide) _ l) (sum_at i a2 h2 a3 h3 a4 h4 a5 h5 a8 x0 x1 x2 x3 8 7 rfl _ l))) ?_ y
  clear y
  intro y
  refine stepB a6 _ (tapSum i x0 x1 x2 x3) x4 6 (by decide) _ _ _ (fun l => (row6 _ _ _ l).trans (congrArg₂ (fun a b : EReal => a + b) (oldB a6 h6 x4 6 (by decide) _ l) (sum_at i a2 h2 a3 h3 a4 h4 a5 h5 a8 x0 x1 x2 x3 7 6 rfl _ l))) ?_ y
  clear y
  intro y
  refine stepB a6 _ (tapSum i x0 x1 x2 x3) x4 5 (by decide) _ _ _ (fun l => (row5 _ _ _ l).trans (congrArg₂ (fun a b : EReal => a + b) (oldB a6 h6 x4 5 (by decide) _ l) (sum_at i a2 h2 a3 h3 a4 h4 a5 h5 a8 x0 x1 x2 x3 6 5 rfl _ l))) ?_ y
  clear y
  intro y
  refine stepB a6 _ (tapSum i x0 x1 x2 x3) x4 4 (by decide) _ _ _ (fun l => (row4 _ _ _ l).trans (congrArg₂ (fun a b : EReal => a + b) (oldB a6 h6 x4 4 (by decide) _ l) (sum_at i a2 h2 a3 h3 a4 h4 a5 h5 a8 x0 x1 x2 x3 5 4 rfl _ l))) ?_ y
  clear y
  intro y
  refine stepB a6 _ (tapSum i x0 x1 x2 x3) x4 3 (by decide) _ _ _ (fun l => (row3 _ _ _ l).trans (congrArg₂ (fun a b : EReal => a + b) (oldB a6 h6 x4 3 (by decide) _ l) (sum_at i a2 h2 a3 h3 a4 h4 a5 h5 a8 x0 x1 x2 x3 4 3 rfl _ l))) ?_ y
  clear y
  intro y
  refine stepB a6 _ (tapSum i x0 x1 x2 x3) x4 2 (by decide) _ _ _ (fun l => (row2 _ _ _ l).trans (congrArg₂ (fun a b : EReal => a + b) (oldB a6 h6 x4 2 (by decide) _ l) (sum_at i a2 h2 a3 h3 a4 h4 a5 h5 a8 x0 x1 x2 x3 3 2 rfl _ l))) ?_ y
  clear y
  intro y
  refine stepB a6 _ (tapSum i x0 x1 x2 x3) x4 1 (by decide) _ _ _ (fun l => (row1 _ _ _ l).trans (congrArg₂ (fun a b : EReal => a + b) (oldB a6 h6 x4 1 (by decide) _ l) (sum_at i a2 h2 a3 h3 a4 h4 a5 h5 a8 x0 x1 x2 x3 2 1 rfl _ l))) ?_ y
  clear y
  intro y
  refine stepB a6 _ (tapSum i x0 x1 x2 x3) x4 0 (by decide) _ _ _ (fun l => (row0 _ _ _ l).trans (congrArg₂ (fun a b : EReal => a + b) (oldB a6 h6 x4 0 (by decide) _ l) (sum_at i a2 h2 a3 h3 a4 h4 a5 h5 a8 x0 x1 x2 x3 1 0 rfl _ l))) ?_ y
  clear y
  intro y
  refine (congrFun (h6.read_unread (Val := Elt Ideal) x4) y).trans ?_
  unfold part
  rw [if_neg (Nat.not_lt_zero _)]

end Cert.ConvWgrad
-- ==== Proof.Mix.lean ====
/- The centred token shift of one entry: a row mixed with its two neighbours, and the choices of neighbour at the
   ends of a tile of 256 rows, one of the eight tiles of a sequence. -/
module

public import proofs.«01_k».proof.Proof.Reals

@[expose] public section

set_option maxRecDepth 16384

noncomputable section

namespace Cert.Mix

open Idealize.ShloMosaic Cert.Reals

/-- A row mixed with its two neighbours. -/
def mix (x l r a b : EReal) : EReal := x + a * (l - x) + b * (r - x)

theorem mix_congr {x x' l l' r r' a a' b b' : EReal} (hx : x = x') (hl : l = l') (hr : r = r') (ha : a = a') (hb : b = b') :
    mix x l r a b = mix x' l' r' a' b' := by
  subst hx hl hr ha hb
  rfl

theorem eq0 : ∀ n : Fin 256, IntOp.cmpi CmpIPredicate.eq (BitVec.ofNat 32 n.val) 0#32 = if n.val = 0 then 1#1 else 0#1 := by decide +kernel

theorem eq255 : ∀ n : Fin 256, IntOp.cmpi CmpIPredicate.eq (BitVec.ofNat 32 n.val) 255#32 = if n.val = 255 then 1#1 else 0#1 := by
  decide +kernel

theorem gt0 : ∀ n : Fin 8, Scalar.cmpi CmpIPredicate.sgt (BitVec.ofNat 32 n.val) 0#32 = if 0 < n.val then 1#1 else 0#1 := by decide +kernel

theorem lt7 : ∀ n : Fin 8, Scalar.cmpi CmpIPredicate.slt (BitVec.ofNat 32 n.val) 7#32 = if n.val < 7 then 1#1 else 0#1 := by decide +kernel

theorem sel {P : Prop} [Decidable P] (A B : EReal) : Scalar.select (if P then 1#1 else 0#1) A B = if P then A else B := by
  by_cases h : P
  · simp only [if_pos h]
    rfl
  · simp only [if_neg h]
    rfl

/-- The row before: row 0 of a tile takes the last row of the tile before it, or zero at the start of the sequence. -/
theorem before (n : Fin 256) (i : Fin 8) (A B : EReal) :
    Scalar.select (IntOp.cmpi CmpIPredicate.eq (BitVec.ofNat 32 n.val) 0#32)
        (Scalar.select (Scalar.cmpi CmpIPredicate.sgt (BitVec.ofNat 32 i.val) 0#32) A 0) B
      = if n.val = 0 then if 0 < i.val then A else 0 else B := by
  rw [eq0, gt0, sel, sel]

/-- The row after: row 255 of a tile takes the first row of the next tile, or zero at the end of the sequence. -/
theorem after (n : Fin 256) (i : Fin 8) (A B : EReal) :
    Scalar.select (IntOp.cmpi CmpIPredicate.eq (BitVec.ofNat 32 n.val) 255#32)
        (Scalar.select (Scalar.cmpi CmpIPredicate.slt (BitVec.ofNat 32 i.val) 7#32) A 0) B
      = if n.val = 255 then if i.val < 7 then A else 0 else B := by
  rw [eq255, lt7, sel, sel]

/-- The row before row `j` of a sequence, zero at its start. -/
def prv (f : Fin 2048 → EReal) (j : Fin 2048) : EReal := if h : j.val = 0 then 0 else f ⟨j.val - 1, by omega⟩

/-- The row after row `j` of a sequence, zero at its end. -/
def nxt (f : Fin 2048 → EReal) (j : Fin 2048) : EReal := if h : j.val = 2047 then 0 else f ⟨j.val + 1, by omega⟩

/-- The row before, by the row's number in the sequence. -/
theorem before_row (f : Fin 2048 → EReal) (i : Fin 8) (n : Fin 256) (A B : EReal)
    (hA : ∀ h : 0 < i.val, A = f ⟨i.val * 256 - 1, by omega⟩)
    (hB : ∀ h : n.val ≠ 0, B = f ⟨i.val * 256 + (n.val - 1), by omega⟩) (j : Fin 2048) (hj : j.val = i.val * 256 + n.val) :
    (if n.val = 0 then if 0 < i.val then A else 0 else B) = prv f j := by
  unfold prv
  split_ifs with h1 h2 h3
  · omega
  · exact (hA h2).trans (congrArg f (Fin.ext (by show i.val * 256 - 1 = j.val - 1; omega)))
  · rfl
  · omega
  · omega
  · exact (hB h1).trans (congrArg f (Fin.ext (by show i.val * 256 + (n.val - 1) = j.val - 1; omega)))

/-- The row after, by the row's number in the sequence. -/
theorem after_row (f : Fin 2048 → EReal) (i : Fin 8) (n : Fin 256) (A B : EReal)
    (hA : ∀ h : i.val < 7, A = f ⟨i.val * 256 + 256, by omega⟩)
    (hB : ∀ h : n.val ≠ 255, B = f ⟨i.val * 256 + (n.val + 1), by omega⟩) (j : Fin 2048) (hj : j.val = i.val * 256 + n.val) :
    (if n.val = 255 then if i.val < 7 then A else 0 else B) = nxt f j := by
  unfold nxt
  split_ifs with h1 h2 h3
  · omega
  · exact (hA h2).trans (congrArg f (Fin.ext (by show i.val * 256 + 256 = j.val + 1; omega)))
  · rfl
  · omega
  · omega
  · exact (hB h1).trans (congrArg f (Fin.ext (by show i.val * 256 + (n.val + 1) = j.val + 1; omega)))

theorem prv_real {f : Fin 2048 → EReal} (h : ∀ j, IsReal (f j)) (j : Fin 2048) : IsReal (prv f j) := by
  unfold prv
  split_ifs
  · exact ⟨0, rfl⟩
  · exact h _

theorem nxt_real {f : Fin 2048 → EReal} (h : ∀ j, IsReal (f j)) (j : Fin 2048) : IsReal (nxt f j) := by
  unfold nxt
  split_ifs
  · exact ⟨0, rfl⟩
  · exact h _

/-- On real numbers the mix is the sum of the three rows, each with its weight. -/
theorem mix_real {x l r a b : EReal} (hx : IsReal x) (hl : IsReal l) (hr : IsReal r) (ha : IsReal a) (hb : IsReal b) :
    mix x l r a b = -(a * x) + x + -(b * x) + a * l + b * r := by
  obtain ⟨x, rfl⟩ := hx
  obtain ⟨l, rfl⟩ := hl
  obtain ⟨r, rfl⟩ := hr
  obtain ⟨a, rfl⟩ := ha
  obtain ⟨b, rfl⟩ := hb
  unfold mix
  norm_cast
  ring

/-- A sum over the first two axes of three, entry by entry. -/
theorem sum01 {a b n : ℕ} (h : (⟨3, ![a, b, n]⟩ : Shape).ReducesTo [0, 1] ⟨1, ![n]⟩) (v : (⟨3, ![a, b, n]⟩ : Shape).Idx → EReal) (j : Fin n) :
    Ideal.hostReduceAdd h v 0 (ix1 j) = ∑ s : Fin a, ∑ k : Fin b, v (ix3 s k j) := by
  unfold Ideal.hostReduceAdd
  rw [zero_add]
  refine (Finset.sum_filter_eq_sum_of_fiber _ (fun k : Fin a × Fin b => ix3 k.1 k.2 j)
    (fun _ _ e => Prod.ext (congrFun e 0) (congrFun e 1)) (fun i => ?_) v).trans ?_
  · constructor
    · intro e
      refine ⟨(i 0, i 1), ?_⟩
      funext q
      apply Fin.ext
      match q with
      | ⟨0, _⟩ => rfl
      | ⟨1, _⟩ => rfl
      | ⟨2, _⟩ => exact (congrArg Fin.val (congrFun e 0)).symm
    · rintro ⟨k, rfl⟩
      funext q
      apply Fin.ext
      match q with
      | ⟨0, _⟩ => rfl
  · simp only [Fintype.sum_prod_type]

end Cert.Mix
-- ==== Proof.ConvWgrad.lean ====
/- The gradient of the depthwise convolution's taps and bias: row `n` of the taps' gradient is the sum over every row of every
   batch entry of the result's gradient times the padded rows `n` further on, gathered block by block; the bias's gradient is the sum of the
   result's gradient. -/
module

public import proofs.«01_k».proof.Proof.ConvWgradBody
public import proofs.«01_k».proof.Proof.Gen.Reference11Ideal.Read
public import proofs.«01_k».proof.Proof.Mix
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.ConvWgrad

open Cert.Kernel11Ideal Cert.Kernel11Ideal.Gen Cert.Reals Cert.Mix

variable (m : (ℓ : Loc nD τ sig) → Buf (Elt Ideal) ℓ)

/-- Row `r` of the rows of batch entry `b` with fifteen rows of zeros before and behind. -/
def rows (u : FVec Ideal S4x2048x512 .f32) (b : Fin 4) (r : ℕ) (l : Fin 512) : EReal :=
  if h : 15 ≤ r ∧ r < 2063 then u (ix3 b ⟨r - 15, by omega⟩ l) else 0

/-- Grid point `t` is row block `t % 4` of batch entry `t / 4`; its neighbours are sixteen rows before and behind it, kept
    inside the array. -/
theorem idx : ∀ t : Fin cfg0.N, win0_0.index t = ![t.val / 4, t.val % 4, 0]
    ∧ win0_1.index t = ![t.val / 4, t.val % 4 * 32 - 1, 0] ∧ win0_2.index t = ![t.val / 4, min (t.val % 4 * 32 + 32) 127, 0]
    ∧ win0_3.index t = ![t.val / 4, t.val % 4, 0] ∧ win0_4.index t = ![0, 0] ∧ win0_5.index t = ![0, 0]
    ∧ ((grid0.coords t) 1).val = t.val % 4 ∧ t.val < 16 :=
  (by decide +kernel : ∀ t : Fin grid0.N, _)

/-- The argument arrays of device `c`: the rows and the result's gradient. -/
abbrev u (c : Dev nD) : FVec Ideal S4x2048x512 .f32 := m ((c : Thread nD τ).loc main_arg0)
abbrev dc (c : Dev nD) : FVec Ideal S4x2048x512 .f32 := m ((c : Thread nD τ).loc main_arg3)

theorem u_at (c : Dev nD) (y : S4x2048x512.Idx) : (V m c main_arg0 : FVec Ideal S4x2048x512 .f32) y = u m c y := by
  entry_read
  try pointwise

theorem dc_at_entry (c : Dev nD) (y : S4x2048x512.Idx) : (V m c main_arg3 : FVec Ideal S4x2048x512 .f32) y = dc m c y := by
  entry_read
  try pointwise

theorem blk0_at (c : Dev nD) (t : Fin cfg0.N) (y : S1x512x512.Idx) : (iblk m c 0 t : FVec Ideal S1x512x512 .f32) y
    = u m c (ix3 ⟨t.val / 4, by have := (idx t).2.2.2.2.2.2.2; omega⟩ ⟨t.val % 4 * 512 + (y 1).val, by idx_bounds; omega⟩ (y 2)) := by
  blk_simp [iblk]
  refine (u_at m c _).trans ?_
  blk_ext [idx t]

theorem blk1_at (c : Dev nD) (t : Fin cfg0.N) (y : S1x16x512.Idx) : (iblk m c 1 t : FVec Ideal S1x16x512 .f32) y
    = u m c (ix3 ⟨t.val / 4, by have := (idx t).2.2.2.2.2.2.2; omega⟩ ⟨(t.val % 4 * 32 - 1) * 16 + (y 1).val, by idx_bounds; omega⟩ (y 2)) := by
  blk_simp [iblk]
  refine (u_at m c _).trans ?_
  blk_ext [idx t]

theorem blk2_at (c : Dev nD) (t : Fin cfg0.N) (y : S1x16x512.Idx) : (iblk m c 2 t : FVec Ideal S1x16x512 .f32) y
    = u m c (ix3 ⟨t.val / 4, by have := (idx t).2.2.2.2.2.2.2; omega⟩ ⟨min (t.val % 4 * 32 + 32) 127 * 16 + (y 1).val, by idx_bounds; omega⟩ (y 2)) := by
  blk_simp [iblk]
  refine (u_at m c _).trans ?_
  blk_ext [idx t]

theorem blk3_at (c : Dev nD) (t : Fin cfg0.N) (y : S1x512x512.Idx) : (iblk m c 3 t : FVec Ideal S1x512x512 .f32) y
    = dc m c (ix3 ⟨t.val / 4, by have := (idx t).2.2.2.2.2.2.2; omega⟩ ⟨t.val % 4 * 512 + (y 1).val, by idx_bounds; omega⟩ (y 2)) := by
  blk_simp [iblk]
  refine (dc_at_entry m c _).trans ?_
  blk_ext [idx t]

/-- The scratch's rows are the batch entry's rows, with its zeros before and behind. -/
theorem pad_rows (c : Dev nD) (t : Fin cfg0.N) (n : ℕ) (l : Fin 512) (h1 : 1 ≤ n) (h2 : n < 543) :
    pad (grid0.coords t) (iblk m c 0 t) (iblk m c 1 t) (iblk m c 2 t) n l.val
      = rows (u m c) ⟨t.val / 4, by have := (idx t).2.2.2.2.2.2.2; omega⟩ (t.val % 4 * 512 + (n - 1)) l := by
  have hg := (idx t).2.2.2.2.2.2.1
  have hl : Fin.ofNat 512 l.val = l := Fin.ext (Nat.mod_eq_of_lt l.isLt)
  unfold pad rows
  rw [hg, hl]
  by_cases a : n < 16
  · have ha : Fin.ofNat 16 n = ⟨n, a⟩ := Fin.ext (Nat.mod_eq_of_lt a)
    rw [if_pos a]
    by_cases b : 0 < t.val % 4
    · rw [if_pos b, dif_pos (by omega)]
      refine (blk1_at m c t _).trans (congrArg (fun z => u m c (ix3 _ z l)) (Fin.ext ?_))
      show (t.val % 4 * 32 - 1) * 16 + (Fin.ofNat 16 n).val = t.val % 4 * 512 + (n - 1) - 15
      rw [ha]
      show (t.val % 4 * 32 - 1) * 16 + n = _
      omega
    · rw [if_neg b, dif_neg (by omega)]
  · rw [if_neg a]
    by_cases a2 : n < 528
    · have ha : Fin.ofNat 512 (n - 16) = ⟨n - 16, by omega⟩ := Fin.ext (Nat.mod_eq_of_lt (by omega))
      rw [if_pos a2, dif_pos (by omega)]
      refine (blk0_at m c t _).trans (congrArg (fun z => u m c (ix3 _ z l)) (Fin.ext ?_))
      show t.val % 4 * 512 + (Fin.ofNat 512 (n - 16)).val = t.val % 4 * 512 + (n - 1) - 15
      rw [ha]
      show t.val % 4 * 512 + (n - 16) = _
      omega
    · have ha : Fin.ofNat 16 (n - 528) = ⟨n - 528, by omega⟩ := Fin.ext (Nat.mod_eq_of_lt (by omega))
      rw [if_neg a2]
      by_cases b : t.val % 4 < 3
      · rw [if_pos b, dif_pos (by omega)]
        refine (blk2_at m c t _).trans (congrArg (fun z => u m c (ix3 _ z l)) (Fin.ext ?_))
        show min (t.val % 4 * 32 + 32) 127 * 16 + (Fin.ofNat 16 (n - 528)).val = t.val % 4 * 512 + (n - 1) - 15
        rw [ha]
        show min (t.val % 4 * 32 + 32) 127 * 16 + (n - 528) = _
        omega
      · rw [if_neg b, dif_neg (by omega)]

/-- What row `q` of the batch's rows, counted through, adds to row `k`, column `l` of the taps' gradient. -/
def term (u dc : FVec Ideal S4x2048x512 .f32) (k : ℕ) (l : Fin 512) (q : Fin 8192) : EReal :=
  dc (ix3 ⟨q.val / 2048, by omega⟩ ⟨q.val % 2048, by omega⟩ l) * rows u ⟨q.val / 2048, by omega⟩ (q.val % 2048 + k) l

/-- What row `q` adds to column `l` of the bias's gradient. -/
def bterm (dc : FVec Ideal S4x2048x512 .f32) (l : Fin 512) (q : Fin 8192) : EReal :=
  dc (ix3 ⟨q.val / 2048, by omega⟩ ⟨q.val % 2048, by omega⟩ l)

/-- The sum over the batch entries and their rows is the sum over the rows counted through. -/
theorem through (F : Fin 8192 → EReal) (f : Fin 4 → Fin 2048 → EReal) (h : ∀ s j, f s j = F ⟨s.val * 2048 + j.val, by omega⟩) :
    ∑ s : Fin 4, ∑ j : Fin 2048, f s j = ∑ q : Fin 8192, F q :=
  Fin.sum_mul_add_congr fun s j hl => h s j

theorem tapSum_at (c : Dev nD) (t : Fin cfg0.N) (n : ℕ) (hn : n < 31) (l : Fin 512) :
    tapSum (grid0.coords t) (iblk m c 0 t) (iblk m c 1 t) (iblk m c 2 t) (iblk m c 3 t) n l
      = ∑ r : Fin 512, term (u m c) (dc m c) n l ⟨t.val * 512 + r.val, by have := (idx t).2.2.2.2.2.2.2; omega⟩ := by
  have ht := (idx t).2.2.2.2.2.2.2
  refine Finset.sum_congr rfl fun r _ => ?_
  have e1 : (t.val * 512 + r.val) / 2048 = t.val / 4 := by omega
  have e2 : (t.val * 512 + r.val) % 2048 = t.val % 4 * 512 + r.val := by omega
  refine congrArg₂ (fun a b : EReal => a * b) ((blk3_at m c t _).trans ?_) ((pad_rows m c t (r.val + (1 + n)) l (by omega) (by omega)).trans ?_)
  · exact congrArg₂ (fun a b => dc m c (ix3 a b l)) (Fin.ext e1.symm) (Fin.ext e2.symm)
  · refine congrArg₂ (fun a b => rows (u m c) a b l) (Fin.ext e1.symm) ?_
    show t.val % 4 * 512 + (r.val + (1 + n) - 1) = (t.val * 512 + r.val) % 2048 + n
    omega

/-- What the kernel leaves: the sum over the rows, and zeros in the thirty-second row. -/
def dwAt (u dc : FVec Ideal S4x2048x512 .f32) (y : S32x512.Idx) : EReal :=
  if (y 0).val < 31 then ∑ q : Fin 8192, term u dc (y 0).val (y 1) q else 0

/-- One grid point's share of it. -/
def share (c : Dev nD) (t : Fin cfg0.N) (y : S32x512.Idx) : EReal :=
  if (y 0).val < 31 then ∑ r : Fin 512, term (u m c) (dc m c) (y 0).val (y 1) ⟨t.val * 512 + r.val, by have := (idx t).2.2.2.2.2.2.2; omega⟩ else 0

theorem part_share (c : Dev nD) (t : Fin cfg0.N) (x : FVec Ideal S32x512 .f32) (y : S32x512.Idx) :
    part (tapSum (grid0.coords t) (iblk m c 0 t) (iblk m c 1 t) (iblk m c 2 t) (iblk m c 3 t)) x 31 y = x y + share m c t y := by
  unfold part share
  by_cases h : (y 0).val < 31
  · rw [if_pos h, if_pos h]
    exact congrArg (fun z : EReal => (show EReal from x y) + z) (tapSum_at m c t (y 0).val h (y 1))
  · rw [if_neg h, if_neg h, add_zero]

theorem start_at (c : Dev nD) (t : Fin cfg0.N) (h : t.val % 16 = 0) (y : S32x512.Idx) :
    (out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (iblk m c 0 t) (iblk m c 1 t) (iblk m c 2 t) (iblk m c 3 t) : FVec Ideal S32x512 .f32) y
      = (0 : EReal) + share m c t y :=
  (outA_at c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (iblk m c 0 t) (iblk m c 1 t) (iblk m c 2 t) (iblk m c 3 t) y).trans (part_share m c t (fun _ => 0) y)

theorem more_at (c : Dev nD) (t : Fin cfg0.N) (h : ¬t.val % 16 = 0) (x4 : FVec Ideal S32x512 .f32) (x5 : FVec Ideal S1x512 .f32) (y : S32x512.Idx) :
    (out0_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun e => h ((hcond0_0 t).mp e)) (iblk m c 0 t) (iblk m c 1 t) (iblk m c 2 t) (iblk m c 3 t) x4 x5 : FVec Ideal S32x512 .f32) y
      = (show EReal from x4 y) + share m c t y :=
  (outB_at c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun e => h ((hcond0_0 t).mp e)) (iblk m c 0 t) (iblk m c 1 t) (iblk m c 2 t) (iblk m c 3 t) x4 x5 y).trans (part_share m c t x4 y)

theorem acc4_at (c : Dev nD) (t : Fin cfg0.N) (h : t.val % 16 = 15) (y : S32x512.Idx) :
    ((outsAt0 m c t.val t.isLt).1 : FVec Ideal S32x512 .f32) y = dwAt (u m c) (dc m c) y := by
  rw [Pipeline.eq_sum_fin_of_reset_step_apply_of_flush (fun n h => ((outsAt0 m c n h).1 : FVec Ideal S32x512 .f32)) 16 (fun _ => 0)
    (fun t y => share m c t y)
    (fun t h y => by
      rw [outsAt0_A m c t h]
      dsimp only
      exact start_at m c t h y)
    (fun t h y => by
      rw [outsAt0_B m c t h]
      dsimp only
      exact more_at m c t h _ _ y)
    t h y, zero_add]
  unfold share dwAt
  by_cases hy : (y 0).val < 31
  · simp only [if_pos hy]
    refine Fin.sum_mul_add_congr fun s k hl => ?_
    have ht := (idx t).2.2.2.2.2.2.2
    refine congrArg (term (u m c) (dc m c) (y 0).val (y 1)) (Fin.ext ?_)
    show (16 * (t.val / 16) + s.val) * 512 + k.val = s.val * 512 + k.val
    omega
  · simp only [if_neg hy]
    exact Finset.sum_const_zero

theorem pay9_at (d : FVec Ideal S1x512x512 .f32) (old : FVec Ideal S1x512 .f32) (y : S1x512.Idx) :
    k0_pay9 (F := Ideal) (k0_pay8 d) old y = old y + ∑ r : Fin 512, d (ix3 0 r (y 1)) := by
  pointwise [k0_pay9, pay8_at]
  try rfl

theorem pay7_at (y : S1x512.Idx) : k0_pay7 (F := Ideal) y = 0 := by
  pointwise [k0_pay7]

theorem bsum_at (c : Dev nD) (t : Fin cfg0.N) (l : Fin 512) :
    (∑ r : Fin 512, ((iblk m c 3 t : FVec Ideal S1x512x512 .f32) (ix3 0 r l) : EReal) : EReal)
      = ∑ r : Fin 512, bterm (dc m c) l ⟨t.val * 512 + r.val, by have := (idx t).2.2.2.2.2.2.2; omega⟩ := by
  have ht := (idx t).2.2.2.2.2.2.2
  refine Finset.sum_congr rfl fun r _ => (blk3_at m c t _).trans ?_
  have e1 : (t.val * 512 + r.val) / 2048 = t.val / 4 := by omega
  have e2 : (t.val * 512 + r.val) % 2048 = t.val % 4 * 512 + r.val := by omega
  exact congrArg₂ (fun a b => dc m c (ix3 a b l)) (Fin.ext e1.symm) (Fin.ext e2.symm)

theorem acc5_at (c : Dev nD) (t : Fin cfg0.N) (h : t.val % 16 = 15) (y : S1x512.Idx) :
    ((outsAt0 m c t.val t.isLt).2 : FVec Ideal S1x512 .f32) y = ∑ q : Fin 8192, bterm (dc m c) (y 1) q := by
  rw [Pipeline.eq_sum_fin_of_reset_step_apply_of_flush (fun n h => ((outsAt0 m c n h).2 : FVec Ideal S1x512 .f32)) 16 (fun _ => 0)
    (fun t y => ∑ r : Fin 512, bterm (dc m c) (y 1) ⟨t.val * 512 + r.val, by have := (idx t).2.2.2.2.2.2.2; omega⟩)
    (fun t h y => by
      rw [outsAt0_A m c t h]; frame_out
      refine (pay9_at _ _ _).trans ?_
      rw [pay7_at]
      exact congrArg (fun z : EReal => 0 + z) (bsum_at m c t (y 1)))
    (fun t h y => by
      rw [outsAt0_B m c t h]; frame_out
      refine (pay9_at _ _ _).trans ?_
      exact congrArg (fun z : EReal => _ + z) (bsum_at m c t (y 1)))
    t h y, zero_add]
  refine Fin.sum_mul_add_congr fun s k hl => ?_
  have ht := (idx t).2.2.2.2.2.2.2
  refine congrArg (bterm (dc m c) (y 1)) (Fin.ext ?_)
  show (16 * (t.val / 16) + s.val) * 512 + k.val = s.val * 512 + k.val
  omega

open Cert.Reference11Ideal.Read

/-- The rows with their zeros before and behind, read at an index. -/
theorem cat_at (x0 : FVec Ideal S4x2048x512 .f32) (y : Cert.Reference11Ideal.S4x2078x512.Idx) : val_main_v2 (F := Ideal) x0 y = rows x0 (y 0) (y 1).val (y 2) := by
  pointwise [val_main_v2, val_main_v1, val_main_cst]
  unfold rows
  have hy : (y 1).val < 2078 := (y 1).isLt
  by_cases h : (y 1).val < 15
  · rw [dif_pos h, dif_neg (by omega)]
  · rw [dif_neg h]
    by_cases h2 : (y 1).val - 15 < 2048
    · rw [dif_pos h2, dif_pos (by omega)]
    · rw [dif_neg h2, dif_neg (by omega)]

/-- The sum over the rows of the batch entries, as the reference writes it. -/
def tapRef (x0 x3 : FVec Ideal S4x2048x512 .f32) (k : ℕ) (l : Fin 512) : EReal :=
  ∑ s : Fin 4, ∑ j : Fin 2048, rows x0 s (j.val + k) l * x3 (ix3 s j l)

theorem tapRef_eq (x0 x3 : FVec Ideal S4x2048x512 .f32) (k : ℕ) (l : Fin 512) : tapRef x0 x3 k l = ∑ q : Fin 8192, term x0 x3 k l q := by
  refine through _ _ fun s j => ?_
  have e1 : (s.val * 2048 + j.val) / 2048 = s.val := by omega
  have e2 : (s.val * 2048 + j.val) % 2048 = j.val := by omega
  have f1 : (⟨(s.val * 2048 + j.val) / 2048, by omega⟩ : Fin 4) = s := Fin.ext e1
  have f2 : (⟨(s.val * 2048 + j.val) % 2048, by omega⟩ : Fin 2048) = j := Fin.ext e2
  show _ = x3 (ix3 (⟨(s.val * 2048 + j.val) / 2048, by omega⟩ : Fin 4) (⟨(s.val * 2048 + j.val) % 2048, by omega⟩ : Fin 2048) l)
    * rows x0 (⟨(s.val * 2048 + j.val) / 2048, by omega⟩ : Fin 4) ((s.val * 2048 + j.val) % 2048 + k) l
  rw [f1, f2, e2]
  exact mul_comm _ _

/-- One row set among zeros. -/
theorem padRow (k : ℕ) (w : FVec Ideal S1x512 .f32) (z : FVec Ideal Cert.Reference11Ideal.S_ .f32) (hz : ∀ i, z i = 0)
    (hi : Fin 2 → ℕ) (hp : S1x512.Pads ![k, 0] hi ![0, 0] S32x512) (hu) (y : S32x512.Idx) :
    Idealize.ShloMosaic.pad (α := Elt Ideal .f32) S32x512 ![k, 0] hi ![0, 0] w z hp hu y = if (y 0).val = k then w (ix2 0 (y 1)) else 0 := by
  by_cases h : (y 0).val = k
  · rw [if_pos h]
    refine pad_apply_of_inside ![k, 0] hi ![0, 0] w z hp hu _ (ix2 0 (y 1) : S1x512.Idx) (fun a => ?_)
    fin_cases a
    · show (y 0).val = k + 0 * 1
      omega
    · show (y 1).val = 0 + (y 1).val * 1
      omega
  · rw [if_neg h]
    refine (pad_apply_of_not_inside ![k, 0] hi ![0, 0] w z hp hu _ 0 ?_).trans (hz _)
    show ¬(k ≤ (y 0).val ∧ ((y 0).val - k) % 1 = 0 ∧ ((y 0).val - k) / 1 < 1)
    omega

/-- The taps' gradient with rows `n` and on in place. -/
def down (x0 x3 : FVec Ideal S4x2048x512 .f32) (n : ℕ) (y : S32x512.Idx) : EReal :=
  if n ≤ (y 0).val ∧ (y 0).val < 31 then tapRef x0 x3 (y 0).val (y 1) else 0

theorem down_first (x0 x3 : FVec Ideal S4x2048x512 .f32) (y : S32x512.Idx) (b : EReal) (hb : b = if (y 0).val = 30 then tapRef x0 x3 30 (y 1) else 0) :
    b = down x0 x3 30 y := by
  rw [hb]
  unfold down
  by_cases h : (y 0).val = 30
  · rw [if_pos h, if_pos (by omega), h]
  · rw [if_neg h, if_neg (by omega)]

theorem down_step (x0 x3 : FVec Ideal S4x2048x512 .f32) (n : ℕ) (hn : n < 30) (y : S32x512.Idx) (a b : EReal) (ha : a = down x0 x3 (n + 1) y)
    (hb : b = if (y 0).val = n then tapRef x0 x3 n (y 1) else 0) : a + b = down x0 x3 n y := by
  rw [ha, hb]
  unfold down
  by_cases h : (y 0).val = n
  · rw [if_pos h, if_neg (by omega), if_pos (by omega), zero_add, h]
  · rw [if_neg h, add_zero]
    by_cases h2 : n + 1 ≤ (y 0).val ∧ (y 0).val < 31
    · rw [if_pos h2, if_pos (by omega)]
    · rw [if_neg h2, if_neg (by omega)]

section
variable (x0 x3 : FVec Ideal S4x2048x512 .f32)

/-- The scalar zero from which the reference starts its sums and which it sets around a row. -/
abbrev zero0 : FVec Ideal Cert.Reference11Ideal.S_ .f32 := constant Cert.Reference11Ideal.S_ .f32 0x00000000#32

theorem zero0_at (i : Cert.Reference11Ideal.S_.Idx) : zero0 i = 0 := by pointwise []

/-- A product array that holds tap `k`'s terms, summed over batch and rows: the gradient of tap `k`, as a row. -/
theorem tapRow (k : ℕ) (p : FVec Ideal S4x2048x512 .f32) (hp : ∀ s j l, p (ix3 s j l) = rows x0 s (j.val + k) l * x3 (ix3 s j l))
    (y : S1x512.Idx) :
    broadcastInDim (α := Elt Ideal .f32) S1x512 ![1] Cert.Reference11Ideal.Gen.bcast_S512_S1x512_1
      (Host.reduceAdd (F := Ideal) (shapeCast Cert.Reference11Ideal.S1x1x512 (Host.reduceAdd (F := Ideal) p zero0
        Cert.Reference11Ideal.Gen.reducesTo_S4x2048x512_S512_d0_1 Cert.Reference11Ideal.Gen.h_S_) Cert.Reference11Ideal.Gen.shapeCasts_S512_S1x1x512) zero0
        Cert.Reference11Ideal.Gen.reducesTo_S1x1x512_S512_d0_1 Cert.Reference11Ideal.Gen.h_S_) y = tapRef x0 x3 k (y 1) := by
  have e (l : Fin 512) : Host.reduceAdd (F := Ideal) p zero0 Cert.Reference11Ideal.Gen.reducesTo_S4x2048x512_S512_d0_1
      Cert.Reference11Ideal.Gen.h_S_ (ix1 l) = tapRef x0 x3 k l := by
    refine Eq.trans (b := Ideal.hostReduceAdd Cert.Reference11Ideal.Gen.reducesTo_S4x2048x512_S512_d0_1 p 0 (ix1 l)) ?_ ?_
    · exact congrArg (fun a : EReal => Ideal.hostReduceAdd Cert.Reference11Ideal.Gen.reducesTo_S4x2048x512_S512_d0_1 p a (ix1 l)) (zero0_at _)
    · exact (sum01 _ _ _).trans (Finset.sum_congr rfl fun s _ => Finset.sum_congr rfl fun j _ => hp s j l)
  generalize Host.reduceAdd (F := Ideal) p zero0 Cert.Reference11Ideal.Gen.reducesTo_S4x2048x512_S512_d0_1
    Cert.Reference11Ideal.Gen.h_S_ = w at e
  refine Eq.trans (b := Ideal.hostReduceAdd Cert.Reference11Ideal.Gen.reducesTo_S1x1x512_S512_d0_1
    (shapeCast Cert.Reference11Ideal.S1x1x512 w Cert.Reference11Ideal.Gen.shapeCasts_S512_S1x1x512) 0 (ix1 (y 1))) ?_ ?_
  · refine Eq.trans (b := Host.reduceAdd (F := Ideal) (shapeCast Cert.Reference11Ideal.S1x1x512 w
      Cert.Reference11Ideal.Gen.shapeCasts_S512_S1x1x512) zero0 Cert.Reference11Ideal.Gen.reducesTo_S1x1x512_S512_d0_1 Cert.Reference11Ideal.Gen.h_S_ (ix1 (y 1))) ?_ ?_
    · pointwise []
    · exact congrArg (fun a : EReal => Ideal.hostReduceAdd Cert.Reference11Ideal.Gen.reducesTo_S1x1x512_S512_d0_1
        (shapeCast Cert.Reference11Ideal.S1x1x512 w Cert.Reference11Ideal.Gen.shapeCasts_S512_S1x1x512) a (ix1 (y 1))) (zero0_at _)
  · refine (sum01 _ _ _).trans (Eq.trans ?_ (e (y 1)))
    simp only [Finset.univ_unique, Finset.sum_singleton]
    pointwise []

/-- The same row set among zeros. -/
theorem tapPad (k : ℕ) (p : FVec Ideal S4x2048x512 .f32) (hp : ∀ s j l, p (ix3 s j l) = rows x0 s (j.val + k) l * x3 (ix3 s j l))
    (hi : Fin 2 → ℕ) (hq : S1x512.Pads ![k, 0] hi ![0, 0] S32x512) (y : S32x512.Idx) :
    Idealize.ShloMosaic.pad (α := Elt Ideal .f32) S32x512 ![k, 0] hi ![0, 0] (broadcastInDim (α := Elt Ideal .f32) S1x512 ![1] Cert.Reference11Ideal.Gen.bcast_S512_S1x512_1
      (Host.reduceAdd (F := Ideal) (shapeCast Cert.Reference11Ideal.S1x1x512 (Host.reduceAdd (F := Ideal) p zero0
        Cert.Reference11Ideal.Gen.reducesTo_S4x2048x512_S512_d0_1 Cert.Reference11Ideal.Gen.h_S_) Cert.Reference11Ideal.Gen.shapeCasts_S512_S1x1x512) zero0
        Cert.Reference11Ideal.Gen.reducesTo_S1x1x512_S512_d0_1 Cert.Reference11Ideal.Gen.h_S_)) zero0 hq Cert.Reference11Ideal.Gen.h_S_ y
      = if (y 0).val = k then tapRef x0 x3 k (y 1) else 0 :=
  (padRow k _ _ zero0_at _ _ _ y).trans (congrArg (fun z => if (y 0).val = k then z else 0) (tapRow x0 x3 k p hp _))

theorem p30 (y : S32x512.Idx) : val_main_v231 (F := Ideal) x0 x3 y = if (y 0).val = 30 then tapRef x0 x3 30 (y 1) else 0 := by
  unfold val_main_v231 val_main_v230 val_main_v229 val_main_v228 val_main_v227 val_main_cst_2 val_main_cst_3 val_main_cst_4
  exact tapPad x0 x3 30 (val_main_v226 (F := Ideal) x0 x3) (fun s j l => by
    pointwise [val_main_v226, val_main_v212, val_main_v222, cat_at]
    try exact congrArg (fun r => rows x0 s r l * x3 (ix3 s j l)) (Nat.add_comm _ _)) _ _ y

theorem s30 (y : S32x512.Idx) : val_main_v231 (F := Ideal) x0 x3 y = down x0 x3 30 y := down_first x0 x3 y _ (p30 x0 x3 y)

theorem p29 (y : S32x512.Idx) : val_main_v237 (F := Ideal) x0 x3 y = if (y 0).val = 29 then tapRef x0 x3 29 (y 1) else 0 := by
  unfold val_main_v237 val_main_v236 val_main_v235 val_main_v234 val_main_v233 val_main_cst_5 val_main_cst_6 val_main_cst_7
  exact tapPad x0 x3 29 (val_main_v232 (F := Ideal) x0 x3) (fun s j l => by
    pointwise [val_main_v232, val_main_v205, val_main_v222, cat_at]
    try exact congrArg (fun r => rows x0 s r l * x3 (ix3 s j l)) (Nat.add_comm _ _)) _ _ y

theorem s29 (y : S32x512.Idx) : val_main_v238 (F := Ideal) x0 x3 y = down x0 x3 29 y :=
  (val_main_v238_apply (F := Ideal) x0 x3 y).trans (down_step x0 x3 29 (by decide) y _ _ (s30 x0 x3 y) (p29 x0 x3 y))

theorem p28 (y : S32x512.Idx) : val_main_v244 (F := Ideal) x0 x3 y = if (y 0).val = 28 then tapRef x0 x3 28 (y 1) else 0 := by
  unfold val_main_v244 val_main_v243 val_main_v242 val_main_v241 val_main_v240 val_main_cst_8 val_main_cst_9 val_main_cst_10
  exact tapPad x0 x3 28 (val_main_v239 (F := Ideal) x0 x3) (fun s j l => by
    pointwise [val_main_v239, val_main_v198, val_main_v222, cat_at]
    try exact congrArg (fun r => rows x0 s r l * x3 (ix3 s j l)) (Nat.add_comm _ _)) _ _ y

theorem s28 (y : S32x512.Idx) : val_main_v245 (F := Ideal) x0 x3 y = down x0 x3 28 y :=
  (val_main_v245_apply (F := Ideal) x0 x3 y).trans (down_step x0 x3 28 (by decide) y _ _ (s29 x0 x3 y) (p28 x0 x3 y))

theorem p27 (y : S32x512.Idx) : val_main_v251 (F := Ideal) x0 x3 y = if (y 0).val = 27 then tapRef x0 x3 27 (y 1) else 0 := by
  unfold val_main_v251 val_main_v250 val_main_v249 val_main_v248 val_main_v247 val_main_cst_11 val_main_cst_12 val_main_cst_13
  exact tapPad x0 x3 27 (val_main_v246 (F := Ideal) x0 x3) (fun s j l => by
    pointwise [val_main_v246, val_main_v191, val_main_v222, cat_at]
    try exact congrArg (fun r => rows x0 s r l * x3 (ix3 s j l)) (Nat.add_comm _ _)) _ _ y

theorem s27 (y : S32x512.Idx) : val_main_v252 (F := Ideal) x0 x3 y = down x0 x3 27 y :=
  (val_main_v252_apply (F := Ideal) x0 x3 y).trans (down_step x0 x3 27 (by decide) y _ _ (s28 x0 x3 y) (p27 x0 x3 y))

theorem p26 (y : S32x512.Idx) : val_main_v258 (F := Ideal) x0 x3 y = if (y 0).val = 26 then tapRef x0 x3 26 (y 1) else 0 := by
  unfold val_main_v258 val_main_v257 val_main_v256 val_main_v255 val_main_v254 val_main_cst_14 val_main_cst_15 val_main_cst_16
  exact tapPad x0 x3 26 (val_main_v253 (F := Ideal) x0 x3) (fun s j l => by
    pointwise [val_main_v253, val_main_v184, val_main_v222, cat_at]
    try exact congrArg (fun r => rows x0 s r l * x3 (ix3 s j l)) (Nat.add_comm _ _)) _ _ y

theorem s26 (y : S32x512.Idx) : val_main_v259 (F := Ideal) x0 x3 y = down x0 x3 26 y :=
  (val_main_v259_apply (F := Ideal) x0 x3 y).trans (down_step x0 x3 26 (by decide) y _ _ (s27 x0 x3 y) (p26 x0 x3 y))

theorem p25 (y : S32x512.Idx) : val_main_v265 (F := Ideal) x0 x3 y = if (y 0).val = 25 then tapRef x0 x3 25 (y 1) else 0 := by
  unfold val_main_v265 val_main_v264 val_main_v263 val_main_v262 val_main_v261 val_main_cst_17 val_main_cst_18 val_main_cst_19
  exact tapPad x0 x3 25 (val_main_v260 (F := Ideal) x0 x3) (fun s j l => by
    pointwise [val_main_v260, val_main_v177, val_main_v222, cat_at]
    try exact congrArg (fun r => rows x0 s r l * x3 (ix3 s j l)) (Nat.add_comm _ _)) _ _ y

theorem s25 (y : S32x512.Idx) : val_main_v266 (F := Ideal) x0 x3 y = down x0 x3 25 y :=
  (val_main_v266_apply (F := Ideal) x0 x3 y).trans (down_step x0 x3 25 (by decide) y _ _ (s26 x0 x3 y) (p25 x0 x3 y))

theorem p24 (y : S32x512.Idx) : val_main_v272 (F := Ideal) x0 x3 y = if (y 0).val = 24 then tapRef x0 x3 24 (y 1) else 0 := by
  unfold val_main_v272 val_main_v271 val_main_v270 val_main_v269 val_main_v268 val_main_cst_20 val_main_cst_21 val_main_cst_22
  exact tapPad x0 x3 24 (val_main_v267 (F := Ideal) x0 x3) (fun s j l => by
    pointwise [val_main_v267, val_main_v170, val_main_v222, cat_at]
    try exact congrArg (fun r => rows x0 s r l * x3 (ix3 s j l)) (Nat.add_comm _ _)) _ _ y

theorem s24 (y : S32x512.Idx) : val_main_v273 (F := Ideal) x0 x3 y = down x0 x3 24 y :=
  (val_main_v273_apply (F := Ideal) x0 x3 y).trans (down_step x0 x3 24 (by decide) y _ _ (s25 x0 x3 y) (p24 x0 x3 y))

theorem p23 (y : S32x512.Idx) : val_main_v279 (F := Ideal) x0 x3 y = if (y 0).val = 23 then tapRef x0 x3 23 (y 1) else 0 := by
  unfold val_main_v279 val_main_v278 val_main_v277 val_main_v276 val_main_v275 val_main_cst_23 val_main_cst_24 val_main_cst_25
  exact tapPad x0 x3 23 (val_main_v274 (F := Ideal) x0 x3) (fun s j l => by
    pointwise [val_main_v274, val_main_v163, val_main_v222, cat_at]
    try exact congrArg (fun r => rows x0 s r l * x3 (ix3 s j l)) (Nat.add_comm _ _)) _ _ y

theorem s23 (y : S32x512.Idx) : val_main_v280 (F := Ideal) x0 x3 y = down x0 x3 23 y :=
  (val_main_v280_apply (F := Ideal) x0 x3 y).trans (down_step x0 x3 23 (by decide) y _ _ (s24 x0 x3 y) (p23 x0 x3 y))

theorem p22 (y : S32x512.Idx) : val_main_v286 (F := Ideal) x0 x3 y = if (y 0).val = 22 then tapRef x0 x3 22 (y 1) else 0 := by
  unfold val_main_v286 val_main_v285 val_main_v284 val_main_v283 val_main_v282 val_main_cst_26 val_main_cst_27 val_main_cst_28
  exact tapPad x0 x3 22 (val_main_v281 (F := Ideal) x0 x3) (fun s j l => by
    pointwise [val_main_v281, val_main_v156, val_main_v222, cat_at]
    try exact congrArg (fun r => rows x0 s r l * x3 (ix3 s j l)) (Nat.add_comm _ _)) _ _ y

theorem s22 (y : S32x512.Idx) : val_main_v287 (F := Ideal) x0 x3 y = down x0 x3 22 y :=
  (val_main_v287_apply (F := Ideal) x0 x3 y).trans (down_step x0 x3 22 (by decide) y _ _ (s23 x0 x3 y) (p22 x0 x3 y))

theorem p21 (y : S32x512.Idx) : val_main_v293 (F := Ideal) x0 x3 y = if (y 0).val = 21 then tapRef x0 x3 21 (y 1) else 0 := by
  unfold val_main_v293 val_main_v292 val_main_v291 val_main_v290 val_main_v289 val_main_cst_29 val_main_cst_30 val_main_cst_31
  exact tapPad x0 x3 21 (val_main_v288 (F := Ideal) x0 x3) (fun s j l => by
    pointwise [val_main_v288, val_main_v149, val_main_v222, cat_at]
    try exact congrArg (fun r => rows x0 s r l * x3 (ix3 s j l)) (Nat.add_comm _ _)) _ _ y

theorem s21 (y : S32x512.Idx) : val_main_v294 (F := Ideal) x0 x3 y = down x0 x3 21 y :=
  (val_main_v294_apply (F := Ideal) x0 x3 y).trans (down_step x0 x3 21 (by decide) y _ _ (s22 x0 x3 y) (p21 x0 x3 y))

theorem p20 (y : S32x512.Idx) : val_main_v300 (F := Ideal) x0 x3 y = if (y 0).val = 20 then tapRef x0 x3 20 (y 1) else 0 := by
  unfold val_main_v300 val_main_v299 val_main_v298 val_main_v297 val_main_v296 val_main_cst_32 val_main_cst_33 val_main_cst_34
  exact tapPad x0 x3 20 (val_main_v295 (F := Ideal) x0 x3) (fun s j l => by
    pointwise [val_main_v295, val_main_v142, val_main_v222, cat_at]
    try exact congrArg (fun r => rows x0 s r l * x3 (ix3 s j l)) (Nat.add_comm _ _)) _ _ y

theorem s20 (y : S32x512.Idx) : val_main_v301 (F := Ideal) x0 x3 y = down x0 x3 20 y :=
  (val_main_v301_apply (F := Ideal) x0 x3 y).trans (down_step x0 x3 20 (by decide) y _ _ (s21 x0 x3 y) (p20 x0 x3 y))

theorem p19 (y : S32x512.Idx) : val_main_v307 (F := Ideal) x0 x3 y = if (y 0).val = 19 then tapRef x0 x3 19 (y 1) else 0 := by
  unfold val_main_v307 val_main_v306 val_main_v305 val_main_v304 val_main_v303 val_main_cst_35 val_main_cst_36 val_main_cst_37
  exact tapPad x0 x3 19 (val_main_v302 (F := Ideal) x0 x3) (fun s j l => by
    pointwise [val_main_v302, val_main_v135, val_main_v222, cat_at]
    try exact congrArg (fun r => rows x0 s r l * x3 (ix3 s j l)) (Nat.add_comm _ _)) _ _ y

theorem s19 (y : S32x512.Idx) : val_main_v308 (F := Ideal) x0 x3 y = down x0 x3 19 y :=
  (val_main_v308_apply (F := Ideal) x0 x3 y).trans (down_step x0 x3 19 (by decide) y _ _ (s20 x0 x3 y) (p19 x0 x3 y))

theorem p18 (y : S32x512.Idx) : val_main_v314 (F := Ideal) x0 x3 y = if (y 0).val = 18 then tapRef x0 x3 18 (y 1) else 0 := by
  unfold val_main_v314 val_main_v313 val_main_v312 val_main_v311 val_main_v310 val_main_cst_38 val_main_cst_39 val_main_cst_40
  exact tapPad x0 x3 18 (val_main_v309 (F := Ideal) x0 x3) (fun s j l => by
    pointwise [val_main_v309, val_main_v128, val_main_v222, cat_at]
    try exact congrArg (fun r => rows x0 s r l * x3 (ix3 s j l)) (Nat.add_comm _ _)) _ _ y

theorem s18 (y : S32x512.Idx) : val_main_v315 (F := Ideal) x0 x3 y = down x0 x3 18 y :=
  (val_main_v315_apply (F := Ideal) x0 x3 y).trans (down_step x0 x3 18 (by decide) y _ _ (s19 x0 x3 y) (p18 x0 x3 y))

theorem p17 (y : S32x512.Idx) : val_main_v321 (F := Ideal) x0 x3 y = if (y 0).val = 17 then tapRef x0 x3 17 (y 1) else 0 := by
  unfold val_main_v321 val_main_v320 val_main_v319 val_main_v318 val_main_v317 val_main_cst_41 val_main_cst_42 val_main_cst_43
  exact tapPad x0 x3 17 (val_main_v316 (F := Ideal) x0 x3) (fun s j l => by
    pointwise [val_main_v316, val_main_v121, val_main_v222, cat_at]
    try exact congrArg (fun r => rows x0 s r l * x3 (ix3 s j l)) (Nat.add_comm _ _)) _ _ y

theorem s17 (y : S32x512.Idx) : val_main_v322 (F := Ideal) x0 x3 y = down x0 x3 17 y :=
  (val_main_v322_apply (F := Ideal) x0 x3 y).trans (down_step x0 x3 17 (by decide) y _ _ (s18 x0 x3 y) (p17 x0 x3 y))

theorem p16 (y : S32x512.Idx) : val_main_v328 (F := Ideal) x0 x3 y = if (y 0).val = 16 then tapRef x0 x3 16 (y 1) else 0 := by
  unfold val_main_v328 val_main_v327 val_main_v326 val_main_v325 val_main_v324 val_main_cst_44 val_main_cst_45 val_main_cst_46
  exact tapPad x0 x3 16 (val_main_v323 (F := Ideal) x0 x3) (fun s j l => by
    pointwise [val_main_v323, val_main_v114, val_main_v222, cat_at]
    try exact congrArg (fun r => rows x0 s r l * x3 (ix3 s j l)) (Nat.add_comm _ _)) _ _ y

theorem s16 (y : S32x512.Idx) : val_main_v329 (F := Ideal) x0 x3 y = down x0 x3 16 y :=
  (val_main_v329_apply (F := Ideal) x0 x3 y).trans (down_step x0 x3 16 (by decide) y _ _ (s17 x0 x3 y) (p16 x0 x3 y))

theorem p15 (y : S32x512.Idx) : val_main_v335 (F := Ideal) x0 x3 y = if (y 0).val = 15 then tapRef x0 x3 15 (y 1) else 0 := by
  unfold val_main_v335 val_main_v334 val_main_v333 val_main_v332 val_main_v331 val_main_cst_47 val_main_cst_48 val_main_cst_49
  exact tapPad x0 x3 15 (val_main_v330 (F := Ideal) x0 x3) (fun s j l => by
    pointwise [val_main_v330, val_main_v107, val_main_v222, cat_at]
    try exact congrArg (fun r => rows x0 s r l * x3 (ix3 s j l)) (Nat.add_comm _ _)) _ _ y

theorem s15 (y : S32x512.Idx) : val_main_v336 (F := Ideal) x0 x3 y = down x0 x3 15 y :=
  (val_main_v336_apply (F := Ideal) x0 x3 y).trans (down_step x0 x3 15 (by decide) y _ _ (s16 x0 x3 y) (p15 x0 x3 y))

theorem p14 (y : S32x512.Idx) : val_main_v342 (F := Ideal) x0 x3 y = if (y 0).val = 14 then tapRef x0 x3 14 (y 1) else 0 := by
  unfold val_main_v342 val_main_v341 val_main_v340 val_main_v339 val_main_v338 val_main_cst_50 val_main_cst_51 val_main_cst_52
  exact tapPad x0 x3 14 (val_main_v337 (F := Ideal) x0 x3) (fun s j l => by
    pointwise [val_main_v337, val_main_v100, val_main_v222, cat_at]
    try exact congrArg (fun r => rows x0 s r l * x3 (ix3 s j l)) (Nat.add_comm _ _)) _ _ y

theorem s14 (y : S32x512.Idx) : val_main_v343 (F := Ideal) x0 x3 y = down x0 x3 14 y :=
  (val_main_v343_apply (F := Ideal) x0 x3 y).trans (down_step x0 x3 14 (by decide) y _ _ (s15 x0 x3 y) (p14 x0 x3 y))

theorem p13 (y : S32x512.Idx) : val_main_v349 (F := Ideal) x0 x3 y = if (y 0).val = 13 then tapRef x0 x3 13 (y 1) else 0 := by
  unfold val_main_v349 val_main_v348 val_main_v347 val_main_v346 val_main_v345 val_main_cst_53 val_main_cst_54 val_main_cst_55
  exact tapPad x0 x3 13 (val_main_v344 (F := Ideal) x0 x3) (fun s j l => by
    pointwise [val_main_v344, val_main_v93, val_main_v222, cat_at]
    try exact congrArg (fun r => rows x0 s r l * x3 (ix3 s j l)) (Nat.add_comm _ _)) _ _ y

theorem s13 (y : S32x512.Idx) : val_main_v350 (F := Ideal) x0 x3 y = down x0 x3 13 y :=
  (val_main_v350_apply (F := Ideal) x0 x3 y).trans (down_step x0 x3 13 (by decide) y _ _ (s14 x0 x3 y) (p13 x0 x3 y))

theorem p12 (y : S32x512.Idx) : val_main_v356 (F := Ideal) x0 x3 y = if (y 0).val = 12 then tapRef x0 x3 12 (y 1) else 0 := by
  unfold val_main_v356 val_main_v355 val_main_v354 val_main_v353 val_main_v352 val_main_cst_56 val_main_cst_57 val_main_cst_58
  exact tapPad x0 x3 12 (val_main_v351 (F := Ideal) x0 x3) (fun s j l => by
    pointwise [val_main_v351, val_main_v86, val_main_v222, cat_at]
    try exact congrArg (fun r => rows x0 s r l * x3 (ix3 s j l)) (Nat.add_comm _ _)) _ _ y

theorem s12 (y : S32x512.Idx) : val_main_v357 (F := Ideal) x0 x3 y = down x0 x3 12 y :=
  (val_main_v357_apply (F := Ideal) x0 x3 y).trans (down_step x0 x3 12 (by decide) y _ _ (s13 x0 x3 y) (p12 x0 x3 y))

theorem p11 (y : S32x512.Idx) : val_main_v363 (F := Ideal) x0 x3 y = if (y 0).val = 11 then tapRef x0 x3 11 (y 1) else 0 := by
  unfold val_main_v363 val_main_v362 val_main_v361 val_main_v360 val_main_v359 val_main_cst_59 val_main_cst_60 val_main_cst_61
  exact tapPad x0 x3 11 (val_main_v358 (F := Ideal) x0 x3) (fun s j l => by
    pointwise [val_main_v358, val_main_v79, val_main_v222, cat_at]
    try exact congrArg (fun r => rows x0 s r l * x3 (ix3 s j l)) (Nat.add_comm _ _)) _ _ y

theorem s11 (y : S32x512.Idx) : val_main_v364 (F := Ideal) x0 x3 y = down x0 x3 11 y :=
  (val_main_v364_apply (F := Ideal) x0 x3 y).trans (down_step x0 x3 11 (by decide) y _ _ (s12 x0 x3 y) (p11 x0 x3 y))

theorem p10 (y : S32x512.Idx) : val_main_v370 (F := Ideal) x0 x3 y = if (y 0).val = 10 then tapRef x0 x3 10 (y 1) else 0 := by
  unfold val_main_v370 val_main_v369 val_main_v368 val_main_v367 val_main_v366 val_main_cst_62 val_main_cst_63 val_main_cst_64
  exact tapPad x0 x3 10 (val_main_v365 (F := Ideal) x0 x3) (fun s j l => by
    pointwise [val_main_v365, val_main_v72, val_main_v222, cat_at]
    try exact congrArg (fun r => rows x0 s r l * x3 (ix3 s j l)) (Nat.add_comm _ _)) _ _ y

theorem s10 (y : S32x512.Idx) : val_main_v371 (F := Ideal) x0 x3 y = down x0 x3 10 y :=
  (val_main_v371_apply (F := Ideal) x0 x3 y).trans (down_step x0 x3 10 (by decide) y _ _ (s11 x0 x3 y) (p10 x0 x3 y))

theorem p9 (y : S32x512.Idx) : val_main_v377 (F := Ideal) x0 x3 y = if (y 0).val = 9 then tapRef x0 x3 9 (y 1) else 0 := by
  unfold val_main_v377 val_main_v376 val_main_v375 val_main_v374 val_main_v373 val_main_cst_65 val_main_cst_66 val_main_cst_67
  exact tapPad x0 x3 9 (val_main_v372 (F := Ideal) x0 x3) (fun s j l => by
    pointwise [val_main_v372, val_main_v65, val_main_v222, cat_at]
    try exact congrArg (fun r => rows x0 s r l * x3 (ix3 s j l)) (Nat.add_comm _ _)) _ _ y

theorem s9 (y : S32x512.Idx) : val_main_v378 (F := Ideal) x0 x3 y = down x0 x3 9 y :=
  (val_main_v378_apply (F := Ideal) x0 x3 y).trans (down_step x0 x3 9 (by decide) y _ _ (s10 x0 x3 y) (p9 x0 x3 y))

theorem p8 (y : S32x512.Idx) : val_main_v384 (F := Ideal) x0 x3 y = if (y 0).val = 8 then tapRef x0 x3 8 (y 1) else 0 := by
  unfold val_main_v384 val_main_v383 val_main_v382 val_main_v381 val_main_v380 val_main_cst_68 val_main_cst_69 val_main_cst_70
  exact tapPad x0 x3 8 (val_main_v379 (F := Ideal) x0 x3) (fun s j l => by
    pointwise [val_main_v379, val_main_v58, val_main_v222, cat_at]
    try exact congrArg (fun r => rows x0 s r l * x3 (ix3 s j l)) (Nat.add_comm _ _)) _ _ y

theorem s8 (y : S32x512.Idx) : val_main_v385 (F := Ideal) x0 x3 y = down x0 x3 8 y :=
  (val_main_v385_apply (F := Ideal) x0 x3 y).trans (down_step x0 x3 8 (by decide) y _ _ (s9 x0 x3 y) (p8 x0 x3 y))

theorem p7 (y : S32x512.Idx) : val_main_v391 (F := Ideal) x0 x3 y = if (y 0).val = 7 then tapRef x0 x3 7 (y 1) else 0 := by
  unfold val_main_v391 val_main_v390 val_main_v389 val_main_v388 val_main_v387 val_main_cst_71 val_main_cst_72 val_main_cst_73
  exact tapPad x0 x3 7 (val_main_v386 (F := Ideal) x0 x3) (fun s j l => by
    pointwise [val_main_v386, val_main_v51, val_main_v222, cat_at]
    try exact congrArg (fun r => rows x0 s r l * x3 (ix3 s j l)) (Nat.add_comm _ _)) _ _ y

theorem s7 (y : S32x512.Idx) : val_main_v392 (F := Ideal) x0 x3 y = down x0 x3 7 y :=
  (val_main_v392_apply (F := Ideal) x0 x3 y).trans (down_step x0 x3 7 (by decide) y _ _ (s8 x0 x3 y) (p7 x0 x3 y))

theorem p6 (y : S32x512.Idx) : val_main_v398 (F := Ideal) x0 x3 y = if (y 0).val = 6 then tapRef x0 x3 6 (y 1) else 0 := by
  unfold val_main_v398 val_main_v397 val_main_v396 val_main_v395 val_main_v394 val_main_cst_74 val_main_cst_75 val_main_cst_76
  exact tapPad x0 x3 6 (val_main_v393 (F := Ideal) x0 x3) (fun s j l => by
    pointwise [val_main_v393, val_main_v44, val_main_v222, cat_at]
    try exact congrArg (fun r => rows x0 s r l * x3 (ix3 s j l)) (Nat.add_comm _ _)) _ _ y

theorem s6 (y : S32x512.Idx) : val_main_v399 (F := Ideal) x0 x3 y = down x0 x3 6 y :=
  (val_main_v399_apply (F := Ideal) x0 x3 y).trans (down_step x0 x3 6 (by decide) y _ _ (s7 x0 x3 y) (p6 x0 x3 y))

theorem p5 (y : S32x512.Idx) : val_main_v405 (F := Ideal) x0 x3 y = if (y 0).val = 5 then tapRef x0 x3 5 (y 1) else 0 := by
  unfold val_main_v405 val_main_v404 val_main_v403 val_main_v402 val_main_v401 val_main_cst_77 val_main_cst_78 val_main_cst_79
  exact tapPad x0 x3 5 (val_main_v400 (F := Ideal) x0 x3) (fun s j l => by
    pointwise [val_main_v400, val_main_v37, val_main_v222, cat_at]
    try exact congrArg (fun r => rows x0 s r l * x3 (ix3 s j l)) (Nat.add_comm _ _)) _ _ y

theorem s5 (y : S32x512.Idx) : val_main_v406 (F := Ideal) x0 x3 y = down x0 x3 5 y :=
  (val_main_v406_apply (F := Ideal) x0 x3 y).trans (down_step x0 x3 5 (by decide) y _ _ (s6 x0 x3 y) (p5 x0 x3 y))

theorem p4 (y : S32x512.Idx) : val_main_v412 (F := Ideal) x0 x3 y = if (y 0).val = 4 then tapRef x0 x3 4 (y 1) else 0 := by
  unfold val_main_v412 val_main_v411 val_main_v410 val_main_v409 val_main_v408 val_main_cst_80 val_main_cst_81 val_main_cst_82
  exact tapPad x0 x3 4 (val_main_v407 (F := Ideal) x0 x3) (fun s j l => by
    pointwise [val_main_v407, val_main_v30, val_main_v222, cat_at]
    try exact congrArg (fun r => rows x0 s r l * x3 (ix3 s j l)) (Nat.add_comm _ _)) _ _ y

theorem s4 (y : S32x512.Idx) : val_main_v413 (F := Ideal) x0 x3 y = down x0 x3 4 y :=
  (val_main_v413_apply (F := Ideal) x0 x3 y).trans (down_step x0 x3 4 (by decide) y _ _ (s5 x0 x3 y) (p4 x0 x3 y))

theorem p3 (y : S32x512.Idx) : val_main_v419 (F := Ideal) x0 x3 y = if (y 0).val = 3 then tapRef x0 x3 3 (y 1) else 0 := by
  unfold val_main_v419 val_main_v418 val_main_v417 val_main_v416 val_main_v415 val_main_cst_83 val_main_cst_84 val_main_cst_85
  exact tapPad x0 x3 3 (val_main_v414 (F := Ideal) x0 x3) (fun s j l => by
    pointwise [val_main_v414, val_main_v23, val_main_v222, cat_at]
    try exact congrArg (fun r => rows x0 s r l * x3 (ix3 s j l)) (Nat.add_comm _ _)) _ _ y

theorem s3 (y : S32x512.Idx) : val_main_v420 (F := Ideal) x0 x3 y = down x0 x3 3 y :=
  (val_main_v420_apply (F := Ideal) x0 x3 y).trans (down_step x0 x3 3 (by decide) y _ _ (s4 x0 x3 y) (p3 x0 x3 y))

theorem p2 (y : S32x512.Idx) : val_main_v426 (F := Ideal) x0 x3 y = if (y 0).val = 2 then tapRef x0 x3 2 (y 1) else 0 := by
  unfold val_main_v426 val_main_v425 val_main_v424 val_main_v423 val_main_v422 val_main_cst_86 val_main_cst_87 val_main_cst_88
  exact tapPad x0 x3 2 (val_main_v421 (F := Ideal) x0 x3) (fun s j l => by
    pointwise [val_main_v421, val_main_v16, val_main_v222, cat_at]
    try exact congrArg (fun r => rows x0 s r l * x3 (ix3 s j l)) (Nat.add_comm _ _)) _ _ y

theorem s2 (y : S32x512.Idx) : val_main_v427 (F := Ideal) x0 x3 y = down x0 x3 2 y :=
  (val_main_v427_apply (F := Ideal) x0 x3 y).trans (down_step x0 x3 2 (by decide) y _ _ (s3 x0 x3 y) (p2 x0 x3 y))

theorem p1 (y : S32x512.Idx) : val_main_v433 (F := Ideal) x0 x3 y = if (y 0).val = 1 then tapRef x0 x3 1 (y 1) else 0 := by
  unfold val_main_v433 val_main_v432 val_main_v431 val_main_v430 val_main_v429 val_main_cst_89 val_main_cst_90 val_main_cst_91
  exact tapPad x0 x3 1 (val_main_v428 (F := Ideal) x0 x3) (fun s j l => by
    pointwise [val_main_v428, val_main_v9, val_main_v222, cat_at]
    try exact congrArg (fun r => rows x0 s r l * x3 (ix3 s j l)) (Nat.add_comm _ _)) _ _ y

theorem s1 (y : S32x512.Idx) : val_main_v434 (F := Ideal) x0 x3 y = down x0 x3 1 y :=
  (val_main_v434_apply (F := Ideal) x0 x3 y).trans (down_step x0 x3 1 (by decide) y _ _ (s2 x0 x3 y) (p1 x0 x3 y))

theorem p0 (y : S32x512.Idx) : val_main_v440 (F := Ideal) x0 x3 y = if (y 0).val = 0 then tapRef x0 x3 0 (y 1) else 0 := by
  unfold val_main_v440 val_main_v439 val_main_v438 val_main_v437 val_main_v436 val_main_cst_92 val_main_cst_93 val_main_cst_94
  exact tapPad x0 x3 0 (val_main_v435 (F := Ideal) x0 x3) (fun s j l => by
    pointwise [val_main_v435, val_main_v3, val_main_v222, cat_at]
    try exact congrArg (fun r => rows x0 s r l * x3 (ix3 s j l)) (Nat.add_comm _ _)) _ _ y

theorem s0 (y : S32x512.Idx) : val_main_v441 (F := Ideal) x0 x3 y = down x0 x3 0 y :=
  (val_main_v441_apply (F := Ideal) x0 x3 y).trans (down_step x0 x3 0 (by decide) y _ _ (s1 x0 x3 y) (p0 x0 x3 y))

theorem ref441_at (y : S32x512.Idx) : val_main_v441 (F := Ideal) x0 x3 y = dwAt x0 x3 y := by
  rw [s0]
  unfold down dwAt
  by_cases h : (y 0).val < 31
  · rw [if_pos h, if_pos ⟨Nat.zero_le _, h⟩]
    exact tapRef_eq x0 x3 _ _
  · rw [if_neg h, if_neg (fun a => h a.2)]

theorem ref442_at (y : S1x512.Idx) : val_main_v442 (F := Ideal) x3 y = ∑ q : Fin 8192, bterm x3 (y 1) q := by
  have e : val_main_v223 (F := Ideal) x3 (ix1 (y 1)) = ∑ q : Fin 8192, bterm x3 (y 1) q := by
    refine Eq.trans (b := Ideal.hostReduceAdd Cert.Reference11Ideal.Gen.reducesTo_S4x2048x512_S512_d0_1 x3 0 (ix1 (y 1))) ?_ ?_
    · refine (congrArg (fun a : EReal => Ideal.hostReduceAdd Cert.Reference11Ideal.Gen.reducesTo_S4x2048x512_S512_d0_1 x3 a (ix1 (y 1))) ?_)
      pointwise [val_main_cst_0]
    · refine (sum01 _ _ _).trans (through _ _ fun s j => ?_)
      have f1 : (⟨(s.val * 2048 + j.val) / 2048, by omega⟩ : Fin 4) = s := Fin.ext (by show (s.val * 2048 + j.val) / 2048 = s.val; omega)
      have f2 : (⟨(s.val * 2048 + j.val) % 2048, by omega⟩ : Fin 2048) = j := Fin.ext (by show (s.val * 2048 + j.val) % 2048 = j.val; omega)
      exact (congrArg₂ (fun a b => x3 (ix3 a b (y 1))) f1 f2).symm
  refine Eq.trans (b := Ideal.hostReduceAdd Cert.Reference11Ideal.Gen.reducesTo_S1x1x512_S512_d0_1 (val_main_v224 (F := Ideal) x3) 0 (ix1 (y 1))) ?_ ?_
  · refine Eq.trans (b := val_main_v225 (F := Ideal) x3 (ix1 (y 1))) ?_ ?_
    · pointwise [val_main_v442]
    · refine (congrArg (fun a : EReal => Ideal.hostReduceAdd Cert.Reference11Ideal.Gen.reducesTo_S1x1x512_S512_d0_1 (val_main_v224 (F := Ideal) x3) a (ix1 (y 1))) ?_)
      pointwise [val_main_cst_1]
  · refine (sum01 _ _ _).trans (Eq.trans ?_ e)
    simp only [Finset.univ_unique, Finset.sum_singleton]
    pointwise [val_main_v224]

end

/-- The gradient of the taps. -/
theorem final4 (c : Dev nD) : (dats m 0 c).arrAt 4 cfg0.N = val_main_v441 (F := Ideal) (u m c) (dc m c) := by
  refine (dats m 0 c).arrAt_eq_of_covers 4 _ (by decide +kernel) fun t hf y => ?_
  blk_simp
  rw [after0_4]
  refine (acc4_at m c t ((flush0_4 t).mp hf) y).trans (Eq.trans ?_ (ref441_at _ _ _).symm)
  have key : ∀ X : FVec Ideal S32x512 .f32, X y = X ((win0_4.blk t).view.emb y) := fun X => by blk_ext [idx t]
  exact key fun y => dwAt (u m c) (dc m c) y

/-- The gradient of the bias. -/
theorem final5 (c : Dev nD) : (dats m 0 c).arrAt 5 cfg0.N = val_main_v442 (F := Ideal) (dc m c) := by
  refine (dats m 0 c).arrAt_eq_of_covers 5 _ (by decide +kernel) fun t hf y => ?_
  blk_simp
  rw [after0_5]
  refine (acc5_at m c t ((flush0_5 t).mp hf) y).trans (Eq.trans ?_ (ref442_at _ _).symm)
  have key : ∀ X : FVec Ideal S1x512 .f32, X y = X ((win0_5.blk t).view.emb y) := fun X => by blk_ext [idx t]
  exact key fun y => ∑ q : Fin 8192, bterm (dc m c) (y 1) q

end Cert.ConvWgrad
-- ==== Proof.ConvOutBwd.lean ====
/- The gradient of the convolution's layer norm and its silu: each row of the result is the chain rule of the reference,
   and the gradients of the gain and the shift are the sums over all rows. -/
module

public import proofs.«01_k».proof.Proof.Gen.Kernel13Ideal.Frame
public import proofs.«01_k».proof.Proof.Gen.Reference13Ideal.Read
public import Idealize.ShloMosaic.Lib.Pipeline.ValueKit
public import Idealize.ShloMosaic.Lib.Claim
public import Idealize.ShloMosaic.Lib.Pipeline.ReadBack
public import proofs.«01_k».proof.Proof.Reals
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.ConvOutBwd

open Cert.Kernel13Ideal Cert.Kernel13Ideal.Gen Cert.Reals Cert.Norm

variable (m : (ℓ : Loc nD τ sig) → Buf (Elt Ideal) ℓ)

/-- The gradient of silu as the kernel forms it, from the exponential, is the one formed from the logistic function. -/
theorem exp_sq (y : EReal) : Ideal.div 1 ((1 + Ideal.exp (-y)) * (1 + Ideal.exp (-y))) * Ideal.exp (-y) = sg y * (1 - sg y) := by
  induction y with
  | bot =>
    have h1 : (1 : EReal) + ⊤ = ⊤ := rfl
    rw [sg_bot, EReal.neg_bot, exp_top, h1, EReal.top_mul_top]
    simp [Ideal.div]
  | top =>
    have h1 : (1 : EReal) - 1 = 0 := by rw [← EReal.coe_one, ← EReal.coe_sub, sub_self, EReal.coe_zero]
    rw [sg_top, EReal.neg_top, exp_bot, h1, mul_zero, mul_zero]
  | coe r =>
    have h : (0 : ℝ) < 1 + Real.exp (-r) := by positivity
    have e : (1 : EReal) + Ideal.exp (-(r : EReal)) = ((1 + Real.exp (-r) : ℝ) : EReal) := by
      rw [← EReal.coe_neg, exp_coe, EReal.coe_add, EReal.coe_one]
    rw [sg_coe, e, ← EReal.coe_neg, exp_coe, ← EReal.coe_one, ← EReal.coe_mul, div_coe _ _ (by positivity), ← EReal.coe_mul,
      ← EReal.coe_sub, ← EReal.coe_mul]
    refine congrArg _ ?_
    field_simp
    ring

/-- The normalised row times the gain plus the shift. -/
def lin (f g b : Fin 512 → EReal) (k : Fin 512) : EReal := xhat c512 f k * g k + b k

/-- The incoming gradient passed through silu. -/
def dy (f g b v : Fin 512 → EReal) (k : Fin 512) : EReal :=
  v k * sg (lin f g b k) + lin f g b k * v k * (sg (lin f g b k) * (1 - sg (lin f g b k)))

theorem dy_eq (y v : EReal) :
    v * sg y + -(-(y * v * Ideal.div 1 ((1 + Ideal.exp (-y)) * (1 + Ideal.exp (-y)))) * Ideal.exp (-y))
      = v * sg y + y * v * (sg y * (1 - sg y)) := by
  rw [EReal.neg_mul, neg_neg, mul_assoc (y * v), exp_sq]

theorem IsReal.add {x y : EReal} (hx : IsReal x) (hy : IsReal y) : IsReal (x + y) := by
  obtain ⟨a, rfl⟩ := hx; obtain ⟨b, rfl⟩ := hy
  exact ⟨a + b, (EReal.coe_add a b).symm⟩

/-- The gradient of silu is finite, whatever its argument, when the incoming gradient is. -/
theorem dy_real (y v : EReal) (hv : IsReal v) : IsReal (v * sg y + y * v * (sg y * (1 - sg y))) := by
  obtain ⟨a, rfl⟩ := hv
  induction y with
  | bot => rw [sg_bot, zero_mul, mul_zero, mul_zero, add_zero]; exact ⟨0, rfl⟩
  | top =>
    have h1 : (1 : EReal) - 1 = 0 := by rw [← EReal.coe_one, ← EReal.coe_sub, sub_self, EReal.coe_zero]
    rw [sg_top, h1, mul_zero, mul_zero, mul_one, add_zero]; exact ⟨a, rfl⟩
  | coe r =>
    rw [sg_coe, ← EReal.coe_one, ← EReal.coe_sub]
    exact IsReal.add (IsReal.mul ⟨_, rfl⟩ ⟨_, rfl⟩) (IsReal.mul (IsReal.mul ⟨_, rfl⟩ ⟨_, rfl⟩) (IsReal.mul ⟨_, rfl⟩ ⟨_, rfl⟩))

/-- The gradient of the row as the kernel adds it up. -/
def gradS {d : ℕ} (D : EReal) (z h : Fin d → EReal) (k : Fin d) : EReal :=
  let q := Ideal.div ((∑ j, ctr D z j * h j) * (mhalf * Ideal.div (rstd D z) (var D z + eps))) D
  let x := fun j => h j * rstd D z + ctr D z j * q + q * ctr D z j
  x k + Ideal.div (∑ j, -x j) D

theorem twice (q c : EReal) : c * q + q * c = q * (two * c) := by
  rw [two_eq, mul_comm c q, mul_left_comm]
  have h : ∀ x : EReal, x + x = ((2 : ℝ) : EReal) * x := fun x => by
    induction x with
    | bot => rw [EReal.coe_mul_bot_of_pos (by norm_num)]; rfl
    | top => rw [EReal.coe_mul_top_of_pos (by norm_num)]; rfl
    | coe r => rw [← EReal.coe_add, ← EReal.coe_mul]; exact congrArg _ (two_mul r).symm
  exact h _

/-- Both parts of the gradient of a row are finite when the incoming gradient is. -/
theorem parts_real {d : ℕ} (hd : 0 < d) (z h : Fin d → EReal) (hh : ∀ k, IsReal (h k)) (k : Fin d) :
    IsReal (h k * rstd ((d : ℝ) : EReal) z) ∧ IsReal (viaVar ((d : ℝ) : EReal) z h k) := by
  have hd' : (0 : ℝ) < d := by exact_mod_cast hd
  obtain ⟨e, he, hE⟩ := eps_pos
  rcases row_cases z with ⟨f, rfl⟩ | hz
  · choose g hg using hh
    obtain rfl : h = fun k => (g k : EReal) := funext hg
    have hv := rvar_nonneg (d : ℝ) f hd'
    have hs : rvar (d : ℝ) f + e ≠ 0 := by linarith
    constructor
    · rw [rstd_coe _ f hd' e he hE, ← EReal.coe_mul]; exact ⟨_, rfl⟩
    · simp only [viaVar, ctr_coe _ f hd'.ne', rstd_coe _ f hd' e he hE, var_coe _ f hd'.ne', hE, two_eq, mhalf_eq,
        ← EReal.coe_mul, ← EReal.coe_add, sum_coe, div_coe _ _ hd'.ne', div_coe _ _ hs]
      exact ⟨_, rfl⟩
  · obtain ⟨h0, h1⟩ := rstd_infinite hd z hz
    have h2 : Ideal.div 0 ((d : ℝ) : EReal) = 0 := by
      rw [Ideal.div, if_neg (by exact_mod_cast hd'.ne'), zero_mul]
    have h3 : Ideal.div 0 (⊤ + eps) = 0 := by
      rw [hE, EReal.top_add_coe, Ideal.div, if_neg (by simp), zero_mul]
    constructor
    · rw [h0, mul_zero]; exact ⟨0, rfl⟩
    · rw [viaVar, h0, h1, h3, mul_zero, mul_zero, h2, zero_mul]; exact ⟨0, rfl⟩

/-- The kernel's gradient of a row is the chain rule's when the incoming gradient is finite. -/
theorem gradS_eq {d : ℕ} (hd : 0 < d) (z h : Fin d → EReal) (hh : ∀ k, IsReal (h k)) (k : Fin d) :
    gradS ((d : ℝ) : EReal) z h k = gradR ((d : ℝ) : EReal) z h k := by
  have e : ∀ a b : EReal, IsReal a → IsReal b → -(a + b) = -a + -b := by
    rintro _ _ ⟨a, rfl⟩ ⟨b, rfl⟩
    rw [← EReal.coe_add, ← EReal.coe_neg, ← EReal.coe_neg, ← EReal.coe_neg, ← EReal.coe_add, neg_add]
  have hx : ∀ a q c : EReal, a + c * q + q * c = a + q * (two * c) := fun a q c => by rw [add_assoc, twice]
  simp only [gradS, gradR, hx]
  rw [← Finset.sum_add_distrib]
  refine congrArg₂ (· + ·) rfl (congrArg (fun s => Ideal.div s _) (Finset.sum_congr rfl fun j _ => ?_))
  exact e _ _ (parts_real hd z h hh j).1 (parts_real hd z h hh j).2

/-- Grid point `t` takes row block `t`, of the incoming gradient its second block of columns. -/
theorem idx : ∀ t : Fin cfg0.N, win0_0.index t = ![t.val, 0] ∧ win0_1.index t = ![t.val, 1] ∧ win0_2.index t = ![0, 0]
    ∧ win0_3.index t = ![0, 0] ∧ win0_4.index t = ![t.val, 0] ∧ win0_5.index t = ![0, 0] ∧ win0_6.index t = ![0, 0]
    ∧ t.val < 32 :=
  (by decide +kernel : ∀ t : Fin grid0.N, _)

/-- The argument arrays of device `c`: the rows, the gain, the shift and the incoming gradient. -/
abbrev z (c : Dev nD) : FVec Ideal S8192x512 .f32 := m ((c : Thread nD τ).loc main_arg0)
abbrev g (c : Dev nD) : FVec Ideal S512 .f32 := m ((c : Thread nD τ).loc main_arg1)
abbrev b (c : Dev nD) : FVec Ideal S512 .f32 := m ((c : Thread nD τ).loc main_arg2)
abbrev ct (c : Dev nD) : FVec Ideal S8192x1024 .f32 := m ((c : Thread nD τ).loc main_arg3)

/-- Row `r` of the second half of the incoming gradient. -/
def half2 (x : FVec Ideal S8192x1024 .f32) (r : Fin 8192) (k : Fin 512) : EReal := x (ix2 r ⟨512 + k.val, by omega⟩)

theorem g_at (c : Dev nD) (y : S1x512.Idx) : (V m c main_v0 : FVec Ideal S1x512 .f32) y = g m c (ix1 (y 1)) := by
  entry_read
  pointwise

theorem b_at (c : Dev nD) (y : S1x512.Idx) : (V m c main_v1 : FVec Ideal S1x512 .f32) y = b m c (ix1 (y 1)) := by
  entry_read
  pointwise

theorem blk0_at (c : Dev nD) (t : Fin cfg0.N) (y : S256x512.Idx) : (iblk m c 0 t : FVec Ideal S256x512 .f32) y
    = z m c (ix2 ⟨t.val * 256 + (y 0).val, by have := (idx t).2.2.2.2.2.2.2; idx_bounds; omega⟩ (y 1)) := by
  blk_simp [iblk]
  blk_ext [idx t]

theorem blk1_at (c : Dev nD) (t : Fin cfg0.N) (y : S256x512.Idx) : (iblk m c 1 t : FVec Ideal S256x512 .f32) y
    = half2 (ct m c) ⟨t.val * 256 + (y 0).val, by have := (idx t).2.2.2.2.2.2.2; idx_bounds; omega⟩ (y 1) := by
  unfold half2
  blk_simp [iblk]
  blk_ext [idx t]

theorem blk2_at (c : Dev nD) (t : Fin cfg0.N) (y : S1x512.Idx) : (iblk m c 2 t : FVec Ideal S1x512 .f32) y = g m c (ix1 (y 1)) := by
  blk_simp [iblk]
  refine (g_at m c _).trans ?_
  blk_ext [idx t]

theorem blk3_at (c : Dev nD) (t : Fin cfg0.N) (y : S1x512.Idx) : (iblk m c 3 t : FVec Ideal S1x512 .f32) y = b m c (ix1 (y 1)) := by
  blk_simp [iblk]
  refine (b_at m c _).trans ?_
  blk_ext [idx t]

/-! ## The values the kernel writes, read at an index -/

section
variable (x v : FVec Ideal S256x512 .f32) (gg bb : FVec Ideal S1x512 .f32)

theorem pay6_at (y : S256x512.Idx) : k0_pay6 (F := Ideal) x y = ctr c512 (fun k => x (ix2 (y 0) k)) (y 1) := by
  pointwise [k0_pay6, ctr, mean]

theorem pay7_at (y : S256x1.Idx) : k0_pay7 (F := Ideal) x y = var c512 (fun k => x (ix2 (y 0) k)) + eps := by
  pointwise [k0_pay7, var, mean, pay6_at]

theorem pay8_at (y : S256x1.Idx) : k0_pay8 (F := Ideal) x y = rstd c512 (fun k => x (ix2 (y 0) k)) := by
  pointwise [k0_pay8, rstd, pay7_at]

theorem pay9_at (y : S256x1.Idx) : k0_pay9 (F := Ideal) x y
    = mhalf * Ideal.div (rstd c512 (fun k => x (ix2 (y 0) k))) (var c512 (fun k => x (ix2 (y 0) k)) + eps) := by
  pointwise [k0_pay9, pay7_at, pay8_at]

theorem pay10_at (y : S256x512.Idx) : k0_pay10 (F := Ideal) x y = xhat c512 (fun k => x (ix2 (y 0) k)) (y 1) := by
  pointwise [k0_pay10, xhat, pay6_at, pay8_at]

theorem pay5_at (y : S1x512.Idx) : k0_pay5 (F := Ideal) gg y = gg y := by
  pointwise [k0_pay5]

theorem pay11_at (y : S256x512.Idx) : k0_pay11 (F := Ideal) x gg bb y
    = lin (fun k => x (ix2 (y 0) k)) (fun k => gg (ix2 0 k)) (fun k => bb (ix2 0 k)) (y 1) := by
  pointwise [k0_pay11, k0_pay5, lin, pay10_at]

/-- The gradient through silu that the kernel forms. -/
abbrev pay : FVec Ideal S256x512 .f32 :=
  k0_pay17 (F := Ideal) (k0_pay12 x gg bb) (k0_pay14 x gg bb) (k0_pay15 x v gg bb) (k0_pay16 x v gg bb)

theorem pay17_at (y : S256x512.Idx) : pay x v gg bb y
    = dy (fun k => x (ix2 (y 0) k)) (fun k => gg (ix2 0 k)) (fun k => bb (ix2 0 k)) (fun k => v (ix2 (y 0) k)) (y 1) := by
  pointwise [pay, k0_pay17, k0_pay12, k0_pay13, k0_pay14, k0_pay15, k0_pay16, pay11_at, dy]
  simp only [zero_sub, mul_one]
  exact dy_eq _ _

theorem pay18_at (y : S1x512.Idx) :
    k0_pay18 (F := Ideal) (k0_pay12 x gg bb) (k0_pay14 x gg bb) (k0_pay15 x v gg bb) (k0_pay16 x v gg bb) y
      = ∑ r : Fin 256, dy (fun k => x (ix2 r k)) (fun k => gg (ix2 0 k)) (fun k => bb (ix2 0 k)) (fun k => v (ix2 r k)) (y 1) := by
  pointwise [k0_pay18]
  exact Finset.sum_congr rfl fun r _ => pay17_at x v gg bb _

theorem pay19_at (y : S1x512.Idx) :
    k0_pay19 (F := Ideal) (k0_pay10 x) (k0_pay12 x gg bb) (k0_pay14 x gg bb) (k0_pay15 x v gg bb) (k0_pay16 x v gg bb) y
      = ∑ r : Fin 256, xhat c512 (fun k => x (ix2 r k)) (y 1)
          * dy (fun k => x (ix2 r k)) (fun k => gg (ix2 0 k)) (fun k => bb (ix2 0 k)) (fun k => v (ix2 r k)) (y 1) := by
  pointwise [k0_pay19, pay10_at]
  exact Finset.sum_congr rfl fun r _ => congrArg (_ * ·) (pay17_at x v gg bb _)

theorem pay20_at (y : S256x512.Idx) :
    k0_pay20 (F := Ideal) (k0_pay5 gg) (k0_pay6 x) (k0_pay8 x) (k0_pay9 x) (k0_pay12 x gg bb) (k0_pay14 x gg bb)
        (k0_pay15 x v gg bb) (k0_pay16 x v gg bb) y
      = gradS c512 (fun k => x (ix2 (y 0) k)) (fun k =>
          dy (fun k => x (ix2 (y 0) k)) (fun k => gg (ix2 0 k)) (fun k => bb (ix2 0 k)) (fun k => v (ix2 (y 0) k)) k * gg (ix2 0 k)) (y 1) := by
  have e := fun y => pay17_at x v gg bb y
  unfold pay at e
  pointwise [k0_pay20, pay5_at, pay6_at, pay8_at, pay9_at, e, gradS]
  simp only [zero_sub, Finset.univ_unique, Finset.sum_singleton]

theorem pay3_at (w : FVec Ideal S1x512 .f32) (y : S1x512.Idx) : k0_pay3 (F := Ideal) gg w y = w y + gg y := by
  pointwise [k0_pay3]

theorem pay4_at (w : FVec Ideal S1x512 .f32) (y : S1x512.Idx) : k0_pay4 (F := Ideal) gg w y = w y + gg y := by
  pointwise [k0_pay4]

theorem pay1_at (y : S1x512.Idx) : k0_pay1 (F := Ideal) y = 0 := by
  pointwise [k0_pay1]

theorem pay2_at (y : S1x512.Idx) : k0_pay2 (F := Ideal) y = 0 := by
  pointwise [k0_pay2]

end

/-! ## The reference's composed terms, read at an index -/

section
open Cert.Reference13Ideal.Read

variable (x0 : FVec Ideal S8192x512 .f32) (x1 x2 : FVec Ideal S512 .f32) (x3 : FVec Ideal S8192x1024 .f32)

theorem ref14_at (y : S8192x512.Idx) : val_main_v14 (F := Ideal) x0 y = ctr c512 (fun k => x0 (ix2 (y 0) k)) (y 1) := by
  pointwise [val_main_v14, val_main_v13, val_main_v3, val_main_v2, val_main_cst_0, val_main_v1, val_main_v0, val_main_cst, ctr, mean]

theorem ref16_at (y : Cert.Reference13Ideal.S8192x1.Idx) :
    val_main_v16 (F := Ideal) x0 y = var c512 (fun k => x0 (ix2 (y 0) k)) + eps := by
  have e : val_main_v5 (F := Ideal) x0 = val_main_v14 x0 := rfl
  pointwise [val_main_v16, val_main_v15, val_main_cst_4, val_main_v12, val_main_v11, val_main_cst_3, val_main_v10, val_main_v9,
    val_main_cst_2, val_main_v6, e, ref14_at, var, mean]

theorem ref17_at (y : Cert.Reference13Ideal.S8192x1.Idx) :
    val_main_v17 (F := Ideal) x0 y = rstd c512 (fun k => x0 (ix2 (y 0) k)) := by
  pointwise [val_main_v17, ref16_at, rstd]

theorem ref22_at (y : S8192x512.Idx) : val_main_v22 (F := Ideal) x0 y = xhat c512 (fun k => x0 (ix2 (y 0) k)) (y 1) := by
  pointwise [val_main_v22, val_main_v21, ref14_at, ref17_at, xhat]

theorem ref28_at (y : S8192x512.Idx) : val_main_v28 (F := Ideal) x0 x1 x2 y
    = lin (fun k => x0 (ix2 (y 0) k)) (fun k => x1 (ix1 k)) (fun k => x2 (ix1 k)) (y 1) := by
  pointwise [val_main_v28, val_main_v27, val_main_v26, val_main_v25, val_main_v24, val_main_v23, ref22_at, lin]

theorem ref30_at (y : S8192x512.Idx) : val_main_v30 (F := Ideal) x3 y = half2 x3 (y 0) (y 1) := by
  pointwise [val_main_v30, half2]

theorem ref31_at (y : S8192x512.Idx) : val_main_v31 (F := Ideal) x0 x1 x2 x3 y
    = dy (fun k => x0 (ix2 (y 0) k)) (fun k => x1 (ix1 k)) (fun k => x2 (ix1 k)) (half2 x3 (y 0)) (y 1) := by
  pointwise [val_main_v31, val_main_call1_v2, val_main_call1_v1, val_main_call1_v0, val_main_v29_1, val_main_v29_2, val_main_call0_v7,
    val_main_call0_v6, val_main_call0_cst_1, val_main_call0_v4, val_main_call0_cst_0, val_main_call0_v3, val_main_call0_v2,
    val_main_call0_cst, val_main_call0_v1, val_main_call0_v0, ref28_at, ref30_at, dy, sg]

/-- The incoming gradient through silu times the gain. -/
abbrev hh (r : Fin 8192) (k : Fin 512) : EReal :=
  dy (fun k => x0 (ix2 r k)) (fun k => x1 (ix1 k)) (fun k => x2 (ix1 k)) (half2 x3 r) k * x1 (ix1 k)

theorem ref39_at (y : S8192x512.Idx) : val_main_v39 (F := Ideal) x0 x1 x2 x3 y = hh x0 x1 x2 x3 (y 0) (y 1) := by
  pointwise [val_main_v39, val_main_v38, val_main_v23, ref31_at, hh]

theorem ref45_at (y : S8192x512.Idx) :
    val_main_v45 (F := Ideal) x0 x1 x2 x3 y = hh x0 x1 x2 x3 (y 0) (y 1) * rstd c512 (fun k => x0 (ix2 (y 0) k)) := by
  pointwise [val_main_v45, val_main_v44, ref17_at, ref39_at]

theorem ref54_at (y : S8192x512.Idx) :
    val_main_v54 (F := Ideal) x0 x1 x2 x3 y = viaVar c512 (fun k => x0 (ix2 (y 0) k)) (hh x0 x1 x2 x3 (y 0)) (y 1) := by
  have e : val_main_v5 (F := Ideal) x0 = val_main_v14 x0 := rfl
  pointwise [val_main_v54, val_main_v53, val_main_v52, val_main_cst_13, val_main_v51, val_main_v50, val_main_cst_12, val_main_v46,
    val_main_v43, val_main_v42, val_main_cst_10, val_main_v41, val_main_v20, val_main_v19, val_main_cst_5, val_main_v18,
    val_main_v8, val_main_v7, val_main_cst_1, e, ref14_at, ref16_at, ref17_at, ref39_at, viaVar]
  simp only [Finset.univ_unique, Finset.sum_singleton]

theorem ref64_at (y : S8192x512.Idx) :
    val_main_v64 (F := Ideal) x0 x1 x2 x3 y = gradR c512 (fun k => x0 (ix2 (y 0) k)) (hh x0 x1 x2 x3 (y 0)) (y 1) := by
  pointwise [val_main_v64, val_main_v63, val_main_v62, val_main_cst_16, val_main_v61, val_main_v60, val_main_cst_15, val_main_v59,
    val_main_v58, val_main_v57, val_main_v56, val_main_cst_14, val_main_v55, val_main_v49, val_main_v48, val_main_cst_11,
    val_main_v47, ref45_at, ref54_at, gradR]
  simp only [Finset.univ_unique, Finset.sum_singleton]

theorem ref65_at (y : S1x512.Idx) :
    val_main_v65 (F := Ideal) x0 x1 x2 x3 y = ∑ r : Fin 8192, xhat c512 (fun k => x0 (ix2 r k)) (y 1)
      * dy (fun k => x0 (ix2 r k)) (fun k => x1 (ix1 k)) (fun k => x2 (ix1 k)) (half2 x3 r) (y 1) := by
  pointwise [val_main_v65, val_main_v40, val_main_cst_9, val_main_v37, val_main_v36, val_main_cst_8, val_main_v35, ref22_at, ref31_at]
  simp only [Finset.univ_unique, Finset.sum_singleton]

theorem ref66_at (y : S1x512.Idx) :
    val_main_v66 (F := Ideal) x0 x1 x2 x3 y = ∑ r : Fin 8192,
      dy (fun k => x0 (ix2 r k)) (fun k => x1 (ix1 k)) (fun k => x2 (ix1 k)) (half2 x3 r) (y 1) := by
  pointwise [val_main_v66, val_main_v34, val_main_cst_7, val_main_v33, val_main_v32, val_main_cst_6, ref31_at]
  simp only [Finset.univ_unique, Finset.sum_singleton]

end

/-! ## The result arrays -/

open Cert.Reference13Ideal.Read

/-- The block the kernel stores at point `t`. -/
abbrev stored (c : Dev nD) (t : Fin cfg0.N) : FVec Ideal S256x512 .f32 :=
  k0_pay20 (F := Ideal) (k0_pay5 (iblk m c 2 t)) (k0_pay6 (iblk m c 0 t)) (k0_pay8 (iblk m c 0 t))
    (k0_pay9 (iblk m c 0 t)) (k0_pay12 (iblk m c 0 t) (iblk m c 2 t) (iblk m c 3 t)) (k0_pay14 (iblk m c 0 t) (iblk m c 2 t) (iblk m c 3 t))
    (k0_pay15 (iblk m c 0 t) (iblk m c 1 t) (iblk m c 2 t) (iblk m c 3 t)) (k0_pay16 (iblk m c 0 t) (iblk m c 1 t) (iblk m c 2 t) (iblk m c 3 t))

theorem hh_real (c : Dev nD) (h1 : ∀ i, IsReal (g m c i)) (h2 : ∀ r k, IsReal (half2 (ct m c) r k)) (r : Fin 8192) (k : Fin 512) :
    IsReal (hh (z m c) (g m c) (b m c) (ct m c) r k) :=
  IsReal.mul (dy_real _ _ (h2 _ _)) (h1 _)

theorem pays_at (c : Dev nD) (t : Fin cfg0.N) (y : S256x512.Idx) (h1 : ∀ i, IsReal (g m c i)) (h2 : ∀ r k, IsReal (half2 (ct m c) r k)) :
    stored m c t y = val_main_v64 (F := Ideal) (z m c) (g m c) (b m c) (ct m c)
      (ix2 ⟨t.val * 256 + (y 0).val, by have := (idx t).2.2.2.2.2.2.2; idx_bounds; omega⟩ (y 1)) := by
  refine (pay20_at _ _ _ _ _).trans (Eq.trans ?_ (ref64_at _ _ _ _ _).symm)
  simp only [blk0_at, blk1_at, blk2_at, blk3_at]
  rw [c512_eq]
  exact gradS_eq (by decide) _ (hh (z m c) (g m c) (b m c) (ct m c) _) (hh_real m c h1 h2 _) _

/-- The gradient of the rows. -/
theorem final4 (c : Dev nD) (h1 : ∀ i, IsReal (g m c i)) (h2 : ∀ r k, IsReal (half2 (ct m c) r k)) :
    (dats m 0 c).arrAt 4 cfg0.N = val_main_v64 (F := Ideal) (z m c) (g m c) (b m c) (ct m c) := by
  refine (dats m 0 c).arrAt_eq_of_covers 4 _ (by decide +kernel) fun t hf y => ?_
  blk_simp
  rw [after0_4]
  have e : (outsAt0 m c t.val t.isLt).1 = stored m c t := by
    by_cases h0 : t.val % 32 = 0
    · rw [outsAt0_A m c t h0]; frame_out
    · rw [outsAt0_B m c t h0]; frame_out
  rw [e]
  refine (pays_at m c t _ h1 h2).trans ?_
  blk_ext [idx t]

/-- A row's contribution to the gradient of the gain, and of the shift. -/
abbrev row (c : Dev nD) (k : Fin 512) (r : Fin 8192) : EReal :=
  dy (fun k => z m c (ix2 r k)) (fun k => g m c (ix1 k)) (fun k => b m c (ix1 k)) (half2 (ct m c) r) k

theorem acc5_at (c : Dev nD) (t : Fin cfg0.N) (h : t.val % 32 = 31) (y : S1x512.Idx) :
    ((outsAt0 m c t.val t.isLt).2.1 : FVec Ideal S1x512 .f32) y
      = ∑ r : Fin 8192, xhat c512 (fun k => z m c (ix2 r k)) (y 1) * row m c (y 1) r := by
  rw [Pipeline.eq_sum_fin_of_reset_step_apply_of_flush (fun n h => ((outsAt0 m c n h).2.1 : FVec Ideal S1x512 .f32)) 32 (fun _ => 0)
    (fun t y => ∑ r : Fin 256, (fun r : Fin 8192 => xhat c512 (fun k => z m c (ix2 r k)) (y 1) * row m c (y 1) r)
      ⟨t.val * 256 + r.val, by have := (idx t).2.2.2.2.2.2.2; omega⟩)
    (fun t h y => by
      rw [outsAt0_A m c t h]; frame_out
      refine (pay3_at _ _ _).trans ?_
      rw [pay1_at, pay19_at]
      simp only [blk0_at, blk1_at, blk2_at, blk3_at]
      rfl)
    (fun t h y => by
      rw [outsAt0_B m c t h]; frame_out
      refine (pay3_at _ _ _).trans ?_
      rw [pay19_at]
      simp only [blk0_at, blk1_at, blk2_at, blk3_at]
      rfl)
    t h y, zero_add]
  refine Fin.sum_mul_add_congr fun s k hl => ?_
  have ht := (idx t).2.2.2.2.2.2.2
  refine congrArg (fun r : Fin 8192 => xhat c512 (fun k => z m c (ix2 r k)) (y 1) * row m c (y 1) r) (Fin.ext ?_)
  show (32 * (t.val / 32) + s.val) * 256 + k.val = s.val * 256 + k.val
  omega

theorem acc6_at (c : Dev nD) (t : Fin cfg0.N) (h : t.val % 32 = 31) (y : S1x512.Idx) :
    ((outsAt0 m c t.val t.isLt).2.2 : FVec Ideal S1x512 .f32) y = ∑ r : Fin 8192, row m c (y 1) r := by
  rw [Pipeline.eq_sum_fin_of_reset_step_apply_of_flush (fun n h => ((outsAt0 m c n h).2.2 : FVec Ideal S1x512 .f32)) 32 (fun _ => 0)
    (fun t y => ∑ r : Fin 256, row m c (y 1) ⟨t.val * 256 + r.val, by have := (idx t).2.2.2.2.2.2.2; omega⟩)
    (fun t h y => by
      rw [outsAt0_A m c t h]; frame_out
      refine (pay4_at _ _ _).trans ?_
      rw [pay2_at, pay18_at]
      simp only [blk0_at, blk1_at, blk2_at, blk3_at]
      rfl)
    (fun t h y => by
      rw [outsAt0_B m c t h]; frame_out
      refine (pay4_at _ _ _).trans ?_
      rw [pay18_at]
      simp only [blk0_at, blk1_at, blk2_at, blk3_at]
      rfl)
    t h y, zero_add]
  refine Fin.sum_mul_add_congr fun s k hl => ?_
  have ht := (idx t).2.2.2.2.2.2.2
  refine congrArg (row m c (y 1)) (Fin.ext ?_)
  show (32 * (t.val / 32) + s.val) * 256 + k.val = s.val * 256 + k.val
  omega

/-- The gradient of the gain. -/
theorem final5 (c : Dev nD) : (dats m 0 c).arrAt 5 cfg0.N = val_main_v65 (F := Ideal) (z m c) (g m c) (b m c) (ct m c) := by
  refine (dats m 0 c).arrAt_eq_of_covers 5 _ (by decide +kernel) fun t hf y => ?_
  blk_simp
  rw [after0_5]
  refine (acc5_at m c t ((flush0_5 t).mp hf) y).trans (Eq.trans ?_ (ref65_at _ _ _ _ _).symm)
  have key : ∀ X : FVec Ideal S1x512 .f32, X y = X ((win0_5.blk t).view.emb y) := fun X => by blk_ext [idx t]
  exact key fun y => ∑ r : Fin 8192, xhat c512 (fun k => z m c (ix2 r k)) (y 1) * row m c (y 1) r

/-- The gradient of the shift. -/
theorem final6 (c : Dev nD) : (dats m 0 c).arrAt 6 cfg0.N = val_main_v66 (F := Ideal) (z m c) (g m c) (b m c) (ct m c) := by
  refine (dats m 0 c).arrAt_eq_of_covers 6 _ (by decide +kernel) fun t hf y => ?_
  blk_simp
  rw [after0_6]
  refine (acc6_at m c t ((flush0_6 t).mp hf) y).trans (Eq.trans ?_ (ref66_at _ _ _ _ _).symm)
  have key : ∀ X : FVec Ideal S1x512 .f32, X y = X ((win0_6.blk t).view.emb y) := fun X => by blk_ext [idx t]
  exact key fun y => ∑ r : Fin 8192, row m c (y 1) r

end Cert.ConvOutBwd
-- ==== Proof.GluBwd.lean ====
/- The gradient of the convolution's gate: each stored block is the reference's composed term at its rows. -/
module

public import proofs.«01_k».proof.Proof.Gen.Kernel14Ideal.Frame
public import proofs.«01_k».proof.Proof.Gen.Reference14Ideal.Read
public import Idealize.ShloMosaic.Lib.Pipeline.ValueKit
public import Idealize.ShloMosaic.Lib.Claim
public import Idealize.ShloMosaic.Lib.Pipeline.ReadBack
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.GluBwd

open Cert.Kernel14Ideal Cert.Kernel14Ideal.Gen Cert.Reals

variable (m : (ℓ : Loc nD τ sig) → Buf (Elt Ideal) ℓ)

/-- The two ways of writing the derivative of the logistic function, times any extended real: the kernel differentiates
    the quotient `1 / (1 + exp (-b))`, the reference writes `sg b * (1 - sg b)`. -/
theorem dsig (x b : EReal) :
    0 - (0 - x * Ideal.div 1 ((1 + Ideal.exp (0 - b)) * (1 + Ideal.exp (0 - b)))) * Ideal.exp (0 - b)
      = x * (sg b * (1 - sg b)) := by
  rw [zero_sub, zero_sub, zero_sub, neg_mul, neg_neg, mul_assoc]
  congr 1
  induction b with
  | bot =>
    have h : (1 : EReal) + ⊤ = ⊤ := rfl
    rw [sg_bot, zero_mul, show (-(⊥ : EReal)) = ⊤ from rfl, exp_top, h]
    simp [Ideal.div]
  | top =>
    rw [sg_top, show (-(⊤ : EReal)) = ⊥ from rfl, exp_bot, mul_zero, ← EReal.coe_one, ← EReal.coe_sub, sub_self, EReal.coe_zero, mul_zero]
  | coe r =>
    have h : (0 : ℝ) < 1 + Real.exp (-r) := by positivity
    have e : (1 : EReal) + Ideal.exp (-(r : EReal)) = ((1 + Real.exp (-r) : ℝ) : EReal) := by
      rw [← EReal.coe_neg, exp_coe, EReal.coe_add, EReal.coe_one]
    rw [sg_coe, e, ← EReal.coe_mul, Ideal.div, if_neg (by exact_mod_cast (mul_pos h h).ne'), one_mul, ← EReal.coe_neg, exp_coe]
    rw [← EReal.coe_inv, ← EReal.coe_mul, ← EReal.coe_one, ← EReal.coe_sub, ← EReal.coe_mul]
    congr 1
    field_simp
    ring

/-- Grid point `t` takes row block `t`; the two halves are column blocks 4 and 5 of the projection. -/
theorem idx : ∀ t : Fin cfg0.N, win0_0.index t = ![t.val, 4] ∧ win0_1.index t = ![t.val, 5]
    ∧ win0_2.index t = ![t.val, 0] ∧ win0_3.index t = ![t.val, 0] ∧ t.val < 32 :=
  (by decide +kernel : ∀ t : Fin grid0.N, _)

/-- The argument arrays of device `c`: the projected rows and the incoming gradient. -/
abbrev p (c : Dev nD) : FVec Ideal S8192x3072 .f32 := m ((c : Thread nD τ).loc main_arg0)
abbrev ct (c : Dev nD) : FVec Ideal S8192x512 .f32 := m ((c : Thread nD τ).loc main_arg1)

theorem p_at (c : Dev nD) (y : S8192x3072.Idx) : (V m c main_arg0 : FVec Ideal S8192x3072 .f32) y = p m c y := by
  entry_read
  pointwise

theorem ct_at (c : Dev nD) (y : S8192x512.Idx) : (V m c main_arg1 : FVec Ideal S8192x512 .f32) y = ct m c y := by
  entry_read
  pointwise

theorem blk0_at (c : Dev nD) (t : Fin cfg0.N) (y : S256x512.Idx) : (iblk m c 0 t : FVec Ideal S256x512 .f32) y
    = p m c (ix2 ⟨t.val * 256 + (y 0).val, by have := (idx t).2.2.2.2; idx_bounds; omega⟩ ⟨2048 + (y 1).val, by idx_bounds; omega⟩) := by
  blk_simp [iblk]
  refine (p_at m c _).trans ?_
  blk_ext [idx t]

theorem blk1_at (c : Dev nD) (t : Fin cfg0.N) (y : S256x512.Idx) : (iblk m c 1 t : FVec Ideal S256x512 .f32) y
    = p m c (ix2 ⟨t.val * 256 + (y 0).val, by have := (idx t).2.2.2.2; idx_bounds; omega⟩ ⟨2560 + (y 1).val, by idx_bounds; omega⟩) := by
  blk_simp [iblk]
  refine (p_at m c _).trans ?_
  blk_ext [idx t]

theorem blk2_at (c : Dev nD) (t : Fin cfg0.N) (y : S256x512.Idx) : (iblk m c 2 t : FVec Ideal S256x512 .f32) y
    = ct m c (ix2 ⟨t.val * 256 + (y 0).val, by have := (idx t).2.2.2.2; idx_bounds; omega⟩ (y 1)) := by
  blk_simp [iblk]
  refine (ct_at m c _).trans ?_
  blk_ext [idx t]

/-- One entry of the stored block: in the first half the gradient of the gated columns, in the second that of the gate. -/
theorem pay1_at (a b ct : FVec Ideal S256x512 .f32) (y : S256x1024.Idx) : (k0_pay1 a b ct : FVec Ideal S256x1024 .bf16) y
    = if h : (y 1).val < 512 then ct (ix2 (y 0) ⟨(y 1).val, h⟩) * sg (b (ix2 (y 0) ⟨(y 1).val, h⟩))
      else a (ix2 (y 0) ⟨(y 1).val - 512, by idx_bounds; omega⟩) * ct (ix2 (y 0) ⟨(y 1).val - 512, by idx_bounds; omega⟩)
        * (sg (b (ix2 (y 0) ⟨(y 1).val - 512, by idx_bounds; omega⟩)) * (1 - sg (b (ix2 (y 0) ⟨(y 1).val - 512, by idx_bounds; omega⟩)))) := by
  pointwise [k0_pay1]
  simp only [dsig]
  simp only [zero_sub, sg]

open Cert.Reference14Ideal.Read in
/-- One entry of the reference's gradient. -/
theorem ref_at (x0 : FVec Ideal S8192x3072 .f32) (x1 : FVec Ideal S8192x512 .f32) (y : S8192x1024.Idx) :
    (val_main_v19 (F := Ideal) x0 x1 : FVec Ideal S8192x1024 .bf16) y
    = if h : (y 1).val < 512 then x1 (ix2 (y 0) ⟨(y 1).val, h⟩) * sg (x0 (ix2 (y 0) ⟨2560 + (y 1).val, by omega⟩))
      else x0 (ix2 (y 0) ⟨2048 + ((y 1).val - 512), by idx_bounds; omega⟩) * x1 (ix2 (y 0) ⟨(y 1).val - 512, by idx_bounds; omega⟩)
        * (sg (x0 (ix2 (y 0) ⟨2560 + ((y 1).val - 512), by idx_bounds; omega⟩)) * (1 - sg (x0 (ix2 (y 0) ⟨2560 + ((y 1).val - 512), by idx_bounds; omega⟩)))) := by
  have hy : (y 1).val < 1024 := by idx_bounds; omega
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  by_cases h : (y 1).val < 512
  · rw [dif_pos h, dif_pos h, dif_neg (by omega), zero_add]
    simp only [← Nat.add_assoc, Nat.reduceAdd, sg]
  · rw [dif_neg h, dif_neg h, dif_pos (by omega), add_zero]
    simp only [← Nat.add_assoc, Nat.reduceAdd, sg]

open Cert.Reference14Ideal.Read in
/-- The result array is the reference's. -/
theorem final (c : Dev nD) :
    (dats m 0 c).arrAt 3 cfg0.N = val_main_v19 (F := Ideal) (p m c) (ct m c) := by
  refine (dats m 0 c).arrAt_eq_of_covers 3 _ (by decide +kernel) fun t hf y => ?_
  blk_simp
  rw [after0_3]
  frame_out
  refine (pay1_at _ _ _ _).trans (Eq.trans ?_ (ref_at _ _ _).symm)
  have hc : ((win0_3.blk t).view.emb y 1 : Fin 1024) = y 1 := Fin.ext (by blk_simp [idx t])
  have hr : ((win0_3.blk t).view.emb y 0).val = t.val * 256 + (y 0).val := by blk_simp [idx t]
  by_cases h : (y 1).val < 512
  · refine (dif_pos h).trans (Eq.trans ?_ (dif_pos ((congrArg Fin.val hc).trans_lt h)).symm)
    simp only [blk1_at, blk2_at]
    blk_point [idx t]
  · refine (dif_neg h).trans (Eq.trans ?_ (dif_neg fun h' => h ((congrArg Fin.val hc).symm.trans_lt h')).symm)
    simp only [blk0_at, blk1_at, blk2_at]
    blk_point [idx t]

end Cert.GluBwd
-- ==== Proof.ShiftBwd.lean ====
/- The gradient of the token shift: the gradient of the projections, for finite mixing vectors and a finite incoming gradient, and those of the mixing vectors, summed over all rows. -/
module

public import proofs.«01_k».proof.Proof.Gen.Kernel15Ideal.Frame
public import proofs.«01_k».proof.Proof.Gen.Reference15Ideal.Read
public import Idealize.ShloMosaic.Lib.Pipeline.ValueKit
public import Idealize.ShloMosaic.Lib.Claim
public import Idealize.ShloMosaic.Lib.Pipeline.ReadBack
public import proofs.«01_k».proof.Proof.Reals
public import proofs.«01_k».proof.Proof.Mix
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.ShiftBwd

open Cert.Kernel15Ideal Cert.Kernel15Ideal.Gen Cert.Reals Cert.Mix

variable (m : (ℓ : Loc nD τ sig) → Buf (Elt Ideal) ℓ)

theorem idx : ∀ t : Fin cfg0.N, win0_0.index t = ![t.val / 8, t.val % 8, 0]
    ∧ win0_1.index t = ![t.val / 8, t.val % 8 * 32 - 1, 0]
    ∧ win0_2.index t = ![t.val / 8, min (t.val % 8 * 32 + 32) 255, 0] ∧ win0_3.index t = ![t.val / 8, t.val % 8, 0]
    ∧ win0_4.index t = ![t.val / 8, t.val % 8 * 32 - 1, 0]
    ∧ win0_5.index t = ![t.val / 8, min (t.val % 8 * 32 + 32) 255, 0] ∧ win0_6.index t = ![0, 0]
    ∧ win0_7.index t = ![0, 0] ∧ win0_8.index t = ![t.val / 8, t.val % 8, 0] ∧ win0_9.index t = ![0, 0] ∧ win0_10.index t = ![0, 0] :=
  (by decide +kernel : ∀ t : Fin grid0.N, _)

theorem lt32 (t : Fin cfg0.N) : t.val < 32 := t.isLt

/-- The grid point of sequence `t / 8` and row tile `t % 8`. -/
theorem coord : ∀ t : Fin cfg0.N, ((grid0.coords t) 1).val = t.val % 8 :=
  (by decide +kernel : ∀ t : Fin grid0.N, _)

/-- The argument arrays of device `c`: the projections, the two mixing vectors and the incoming gradient. -/
abbrev p (c : Dev nD) : FVec Ideal S4x2048x3072 .f32 := m ((c : Thread nD τ).loc main_arg0)
abbrev mp (c : Dev nD) : FVec Ideal S2048 .f32 := m ((c : Thread nD τ).loc main_arg1)
abbrev mn (c : Dev nD) : FVec Ideal S2048 .f32 := m ((c : Thread nD τ).loc main_arg2)
abbrev ct (c : Dev nD) : FVec Ideal S4x2048x2048 .f32 := m ((c : Thread nD τ).loc main_arg3)

theorem mp_at (c : Dev nD) (y : S1x2048.Idx) : (V m c main_v0 : FVec Ideal S1x2048 .f32) y = mp m c (ix1 (y 1)) := by
  entry_read
  pointwise

theorem mn_at (c : Dev nD) (y : S1x2048.Idx) : (V m c main_v1 : FVec Ideal S1x2048 .f32) y = mn m c (ix1 (y 1)) := by
  entry_read
  pointwise

theorem blk0_at (c : Dev nD) (t : Fin cfg0.N) (n : Fin 256) (k : Fin 2048) : (iblk m c 0 t : FVec Ideal S1x256x2048 .f32) (ix3 0 n k)
    = ct m c (ix3 ⟨t.val / 8, by have := lt32 t; omega⟩ ⟨t.val % 8 * 256 + n.val, by omega⟩ k) := by
  blk_simp [iblk]
  blk_ext [idx t]

theorem blk1_at (c : Dev nD) (t : Fin cfg0.N) (ht : 0 < t.val % 8) (k : Fin 2048) : (iblk m c 1 t : FVec Ideal S1x8x2048 .f32) (ix3 0 7 k)
    = ct m c (ix3 ⟨t.val / 8, by have := lt32 t; omega⟩ ⟨t.val % 8 * 256 - 1, by omega⟩ k) := by
  blk_simp [iblk]
  blk_ext [idx t]

theorem blk2_at (c : Dev nD) (t : Fin cfg0.N) (ht : t.val % 8 < 7) (k : Fin 2048) : (iblk m c 2 t : FVec Ideal S1x8x2048 .f32) (ix3 0 0 k)
    = ct m c (ix3 ⟨t.val / 8, by have := lt32 t; omega⟩ ⟨t.val % 8 * 256 + 256, by omega⟩ k) := by
  blk_simp [iblk]
  blk_ext [idx t]

theorem blk3_at (c : Dev nD) (t : Fin cfg0.N) (n : Fin 256) (k : Fin 2048) : (X0_3 m c t : FVec Ideal S1x256x2048 .f32) (ix3 0 n k)
    = p m c (ix3 ⟨t.val / 8, by have := lt32 t; omega⟩ ⟨t.val % 8 * 256 + n.val, by omega⟩ ⟨k.val, by omega⟩) := by
  unfold X0_3 Pipeline.Window.fill
  refine (dif_pos (moved0_3 t _)).trans ?_
  blk_simp [iblk]
  blk_ext [idx t]

theorem blk4_at (c : Dev nD) (t : Fin cfg0.N) (ht : 0 < t.val % 8) (k : Fin 2048) : (X0_4 m c t : FVec Ideal S1x8x2048 .f32) (ix3 0 7 k)
    = p m c (ix3 ⟨t.val / 8, by have := lt32 t; omega⟩ ⟨t.val % 8 * 256 - 1, by omega⟩ ⟨k.val, by omega⟩) := by
  unfold X0_4 Pipeline.Window.fill
  refine (dif_pos (moved0_4 t _)).trans ?_
  blk_simp [iblk]
  blk_ext [idx t]

theorem blk5_at (c : Dev nD) (t : Fin cfg0.N) (ht : t.val % 8 < 7) (k : Fin 2048) : (X0_5 m c t : FVec Ideal S1x8x2048 .f32) (ix3 0 0 k)
    = p m c (ix3 ⟨t.val / 8, by have := lt32 t; omega⟩ ⟨t.val % 8 * 256 + 256, by omega⟩ ⟨k.val, by omega⟩) := by
  unfold X0_5 Pipeline.Window.fill
  refine (dif_pos (moved0_5 t _)).trans ?_
  blk_simp [iblk]
  blk_ext [idx t]

theorem blk6_at (c : Dev nD) (t : Fin cfg0.N) (y : S1x2048.Idx) : (iblk m c 6 t : FVec Ideal S1x2048 .f32) y = mp m c (ix1 (y 1)) := by
  blk_simp [iblk]
  refine (mp_at m c _).trans ?_
  blk_ext [idx t]

theorem blk7_at (c : Dev nD) (t : Fin cfg0.N) (y : S1x2048.Idx) : (iblk m c 7 t : FVec Ideal S1x2048 .f32) y = mn m c (ix1 (y 1)) := by
  blk_simp [iblk]
  refine (mn_at m c _).trans ?_
  blk_ext [idx t]

/-! ## The neighbours of a row -/

theorem ct_before (c : Dev nD) (t : Fin cfg0.N) (n : Fin 256) (k : Fin 2048) (h : FVec Ideal S1x1x2048 .f32)
    (hh : h (ix3 0 0 k) = (iblk m c 1 t : FVec Ideal S1x8x2048 .f32) (ix3 0 7 k)) :
    (if n.val = 0 then if 0 < ((grid0.coords t) 1).val then h (ix3 0 0 k) else 0
      else (iblk m c 0 t : FVec Ideal S1x256x2048 .f32) (ix3 0 ⟨(n.val + 256 - 1) % 256, Nat.mod_lt _ (by decide)⟩ k))
      = prv (fun j => ct m c (ix3 ⟨t.val / 8, by have := lt32 t; omega⟩ j k)) ⟨t.val % 8 * 256 + n.val, by omega⟩ := by
  have hi : ((grid0.coords t) 1).val = t.val % 8 := coord t
  have ht : t.val < 32 := lt32 t
  simp only [hi]
  refine before_row (fun j => ct m c (ix3 ⟨t.val / 8, by omega⟩ j k)) ⟨t.val % 8, by omega⟩ n _ _ (fun h => ?_) (fun h => ?_) _ rfl
  · exact hh.trans (blk1_at m c t h k)
  · refine (blk0_at m c t _ _).trans ?_
    refine congrArg (fun j => ct m c (ix3 _ j _)) (Fin.ext ?_)
    show t.val % 8 * 256 + (n.val + 256 - 1) % 256 = t.val % 8 * 256 + (n.val - 1)
    omega

theorem ct_after (c : Dev nD) (t : Fin cfg0.N) (n : Fin 256) (k : Fin 2048) (h : FVec Ideal S1x1x2048 .f32)
    (hh : h (ix3 0 0 k) = (iblk m c 2 t : FVec Ideal S1x8x2048 .f32) (ix3 0 0 k)) :
    (if n.val = 255 then if ((grid0.coords t) 1).val < 7 then h (ix3 0 0 k) else 0
      else (iblk m c 0 t : FVec Ideal S1x256x2048 .f32) (ix3 0 ⟨(n.val + 256 - 255) % 256, Nat.mod_lt _ (by decide)⟩ k))
      = nxt (fun j => ct m c (ix3 ⟨t.val / 8, by have := lt32 t; omega⟩ j k)) ⟨t.val % 8 * 256 + n.val, by omega⟩ := by
  have hi : ((grid0.coords t) 1).val = t.val % 8 := coord t
  have ht : t.val < 32 := lt32 t
  simp only [hi]
  refine after_row (fun j => ct m c (ix3 ⟨t.val / 8, by omega⟩ j k)) ⟨t.val % 8, by omega⟩ n _ _ (fun h => ?_) (fun h => ?_) _ rfl
  · exact hh.trans (blk2_at m c t h k)
  · refine (blk0_at m c t _ _).trans ?_
    refine congrArg (fun j => ct m c (ix3 _ j _)) (Fin.ext ?_)
    show t.val % 8 * 256 + (n.val + 256 - 255) % 256 = t.val % 8 * 256 + (n.val + 1)
    omega

theorem p_before (c : Dev nD) (t : Fin cfg0.N) (n : Fin 256) (k : Fin 2048) (h : FVec Ideal S1x1x2048 .f32)
    (hh : h (ix3 0 0 k) = (X0_4 m c t : FVec Ideal S1x8x2048 .f32) (ix3 0 7 k)) :
    (if n.val = 0 then if 0 < ((grid0.coords t) 1).val then h (ix3 0 0 k) else 0
      else (X0_3 m c t : FVec Ideal S1x256x2048 .f32) (ix3 0 ⟨(n.val + 256 - 1) % 256, Nat.mod_lt _ (by decide)⟩ k))
      = prv (fun j => p m c (ix3 ⟨t.val / 8, by have := lt32 t; omega⟩ j ⟨k.val, by omega⟩)) ⟨t.val % 8 * 256 + n.val, by omega⟩ := by
  have hi : ((grid0.coords t) 1).val = t.val % 8 := coord t
  have ht : t.val < 32 := lt32 t
  simp only [hi]
  refine before_row (fun j => p m c (ix3 ⟨t.val / 8, by omega⟩ j ⟨k.val, by omega⟩)) ⟨t.val % 8, by omega⟩ n _ _ (fun h => ?_) (fun h => ?_) _ rfl
  · exact hh.trans (blk4_at m c t h k)
  · refine (blk3_at m c t _ _).trans ?_
    refine congrArg (fun j => p m c (ix3 _ j _)) (Fin.ext ?_)
    show t.val % 8 * 256 + (n.val + 256 - 1) % 256 = t.val % 8 * 256 + (n.val - 1)
    omega

theorem p_after (c : Dev nD) (t : Fin cfg0.N) (n : Fin 256) (k : Fin 2048) (h : FVec Ideal S1x1x2048 .f32)
    (hh : h (ix3 0 0 k) = (X0_5 m c t : FVec Ideal S1x8x2048 .f32) (ix3 0 0 k)) :
    (if n.val = 255 then if ((grid0.coords t) 1).val < 7 then h (ix3 0 0 k) else 0
      else (X0_3 m c t : FVec Ideal S1x256x2048 .f32) (ix3 0 ⟨(n.val + 256 - 255) % 256, Nat.mod_lt _ (by decide)⟩ k))
      = nxt (fun j => p m c (ix3 ⟨t.val / 8, by have := lt32 t; omega⟩ j ⟨k.val, by omega⟩)) ⟨t.val % 8 * 256 + n.val, by omega⟩ := by
  have hi : ((grid0.coords t) 1).val = t.val % 8 := coord t
  have ht : t.val < 32 := lt32 t
  simp only [hi]
  refine after_row (fun j => p m c (ix3 ⟨t.val / 8, by omega⟩ j ⟨k.val, by omega⟩)) ⟨t.val % 8, by omega⟩ n _ _ (fun h => ?_) (fun h => ?_) _ rfl
  · exact hh.trans (blk5_at m c t h k)
  · refine (blk3_at m c t _ _).trans ?_
    refine congrArg (fun j => p m c (ix3 _ j _)) (Fin.ext ?_)
    show t.val % 8 * 256 + (n.val + 256 - 255) % 256 = t.val % 8 * 256 + (n.val + 1)
    omega

/-! ## The body -/

theorem pay6_at (i : grid0.Coords) (v : FVec Ideal S1x256x2048 .f32) (h0 h1 : FVec Ideal S1x1x2048 .f32) (a b : FVec Ideal S1x2048 .f32)
    (n : Fin 256) (k : Fin 2048) :
    k0_pay6 (F := Ideal) i v h0 h1 a b (ix2 n k)
      = mix (v (ix3 0 n k))
          (if n.val = 0 then if 0 < (i 1).val then h0 (ix3 0 0 k) else 0
          else v (ix3 0 ⟨(n.val + 256 - 1) % 256, Nat.mod_lt _ (by decide)⟩ k))
          (if n.val = 255 then if (i 1).val < 7 then h1 (ix3 0 0 k) else 0
          else v (ix3 0 ⟨(n.val + 256 - 255) % 256, Nat.mod_lt _ (by decide)⟩ k))
          (a (ix2 0 k)) (b (ix2 0 k)) := by
  pointwise [k0_pay6, k0_pay5]
  exact mix_congr rfl (before n ⟨(i 1).val, (i 1).isLt⟩ _ _) (after n ⟨(i 1).val, (i 1).isLt⟩ _ _) rfl rfl

theorem pay7_at (v : FVec Ideal S256x2048 .f32) (y : S1x256x2048.Idx) :
    (k0_pay7 (F := Ideal) v : FVec Ideal S1x256x2048 .bf16) y = v (ix2 (y 1) (y 2)) := by
  pointwise [k0_pay7]

theorem pay9_at (i : grid0.Coords) (v : FVec Ideal S1x256x2048 .f32) (h0 : FVec Ideal S1x1x2048 .f32) (n : Fin 256) (k : Fin 2048) :
    k0_pay9 (F := Ideal) (BitVec.ofNat 32 (i 1).val) v h0 (ix2 n k)
      = (if n.val = 0 then if 0 < (i 1).val then h0 (ix3 0 0 k) else 0
          else v (ix3 0 ⟨(n.val + 256 - 1) % 256, Nat.mod_lt _ (by decide)⟩ k)) - v (ix3 0 n k) := by
  pointwise [k0_pay9, k0_pay8]
  exact congrArg (fun a : EReal => a - v (ix3 0 n k)) (before n ⟨(i 1).val, (i 1).isLt⟩ _ _)

theorem pay10_at (i : grid0.Coords) (v : FVec Ideal S1x256x2048 .f32) (h1 : FVec Ideal S1x1x2048 .f32) (n : Fin 256) (k : Fin 2048) :
    k0_pay10 (F := Ideal) (BitVec.ofNat 32 (i 1).val) v h1 (ix2 n k)
      = (if n.val = 255 then if (i 1).val < 7 then h1 (ix3 0 0 k) else 0
          else v (ix3 0 ⟨(n.val + 256 - 255) % 256, Nat.mod_lt _ (by decide)⟩ k)) - v (ix3 0 n k) := by
  pointwise [k0_pay10, k0_pay8]
  exact congrArg (fun a : EReal => a - v (ix3 0 n k)) (after n ⟨(i 1).val, (i 1).isLt⟩ _ _)

theorem pay1_at (y : S1x2048.Idx) : k0_pay1 (F := Ideal) y = 0 := by
  pointwise [k0_pay1]

theorem pay2_at (y : S1x2048.Idx) : k0_pay2 (F := Ideal) y = 0 := by
  pointwise [k0_pay2]

theorem pay3_at (v : FVec Ideal S1x256x2048 .f32) (d : FVec Ideal S256x2048 .f32) (a : FVec Ideal S1x2048 .f32) (y : S1x2048.Idx) :
    k0_pay3 (F := Ideal) (k0_pay5 v) d a y = a y + ∑ n : Fin 256, v (ix3 0 n (y 1)) * d (ix2 n (y 1)) := by
  pointwise [k0_pay3, k0_pay5]

theorem pay4_at (v : FVec Ideal S1x256x2048 .f32) (d : FVec Ideal S256x2048 .f32) (a : FVec Ideal S1x2048 .f32) (y : S1x2048.Idx) :
    k0_pay4 (F := Ideal) (k0_pay5 v) d a y = a y + ∑ n : Fin 256, v (ix3 0 n (y 1)) * d (ix2 n (y 1)) := by
  pointwise [k0_pay4, k0_pay5]

/-! ## The reference -/

section
open Cert.Reference15Ideal.Read

variable (x0 : FVec Ideal S4x2048x3072 .f32) (x1 x2 : FVec Ideal S2048 .f32) (x3 : FVec Ideal S4x2048x2048 .f32)

theorem ref9_at (s : Fin 4) (j k : Fin 2048) :
    val_main_v9 (F := Ideal) x0 (ix3 s j k)
      = prv (fun j => x0 (ix3 s j ⟨k.val, by omega⟩)) j - x0 (ix3 s j ⟨k.val, by omega⟩) := by
  pointwise [val_main_v9, val_main_v4, val_main_v3, val_main_v2, val_main_cst, val_main_v0]
  refine congrArg (fun a : EReal => a - _) ?_
  unfold prv
  by_cases h : j.val = 0
  · rw [dif_pos h]
    exact dif_pos (by omega)
  · rw [dif_neg h]
    exact dif_neg (by omega)

theorem ref14_at (s : Fin 4) (j k : Fin 2048) :
    val_main_v14 (F := Ideal) x0 (ix3 s j k)
      = nxt (fun j => x0 (ix3 s j ⟨k.val, by omega⟩)) j - x0 (ix3 s j ⟨k.val, by omega⟩) := by
  pointwise [val_main_v14, val_main_v7, val_main_v6, val_main_v2, val_main_cst, val_main_v0]
  refine congrArg (fun a : EReal => a - _) ?_
  unfold nxt
  by_cases h : j.val = 2047
  · rw [dif_pos h]
    exact dif_neg (by omega)
  · rw [dif_neg h]
    refine (dif_pos (by omega)).trans ?_
    exact congrArg (fun j => x0 (ix3 s j _)) (Fin.ext (Nat.add_comm _ _))

theorem ref46_at (y : S1x2048.Idx) :
    val_main_v46 (F := Ideal) x0 x3 y
      = ∑ s : Fin 4, ∑ j : Fin 2048, x3 (ix3 s j (y 1))
          * (prv (fun j => x0 (ix3 s j ⟨(y 1).val, by idx_bounds; omega⟩)) j - x0 (ix3 s j ⟨(y 1).val, by idx_bounds; omega⟩)) := by
  have e : val_main_v32 (F := Ideal) x0 x3 (ix1 (y 1)) = ∑ s : Fin 4, ∑ j : Fin 2048, x3 (ix3 s j (y 1))
      * (prv (fun j => x0 (ix3 s j ⟨(y 1).val, by idx_bounds; omega⟩)) j - x0 (ix3 s j ⟨(y 1).val, by idx_bounds; omega⟩)) := by
    refine Eq.trans (b := Ideal.hostReduceAdd Cert.Reference15Ideal.Gen.reducesTo_S4x2048x2048_S2048_d0_1 (val_main_v31 (F := Ideal) x0 x3) 0 (ix1 (y 1))) ?_ ?_
    · refine (congrArg (fun a : EReal => Ideal.hostReduceAdd Cert.Reference15Ideal.Gen.reducesTo_S4x2048x2048_S2048_d0_1 (val_main_v31 (F := Ideal) x0 x3) a (ix1 (y 1))) ?_)
      pointwise [val_main_cst_4]
    · refine (sum01 _ _ _).trans (Finset.sum_congr rfl fun s _ => Finset.sum_congr rfl fun j _ => ?_)
      pointwise [val_main_v31, val_main_v19, ref9_at]
  refine Eq.trans (b := Ideal.hostReduceAdd Cert.Reference15Ideal.Gen.reducesTo_S1x1x2048_S2048_d0_1 (val_main_v33 (F := Ideal) x0 x3) 0 (ix1 (y 1))) ?_ ?_
  · refine Eq.trans (b := val_main_v34 (F := Ideal) x0 x3 (ix1 (y 1))) ?_ ?_
    · pointwise [val_main_v46]
    · refine (congrArg (fun a : EReal => Ideal.hostReduceAdd Cert.Reference15Ideal.Gen.reducesTo_S1x1x2048_S2048_d0_1 (val_main_v33 (F := Ideal) x0 x3) a (ix1 (y 1))) ?_)
      pointwise [val_main_cst_5]
  · refine (sum01 _ _ _).trans (Eq.trans ?_ e)
    simp only [Finset.univ_unique, Finset.sum_singleton]
    pointwise [val_main_v33]

theorem ref47_at (y : S1x2048.Idx) :
    val_main_v47 (F := Ideal) x0 x3 y
      = ∑ s : Fin 4, ∑ j : Fin 2048, x3 (ix3 s j (y 1))
          * (nxt (fun j => x0 (ix3 s j ⟨(y 1).val, by idx_bounds; omega⟩)) j - x0 (ix3 s j ⟨(y 1).val, by idx_bounds; omega⟩)) := by
  have e : val_main_v24 (F := Ideal) x0 x3 (ix1 (y 1)) = ∑ s : Fin 4, ∑ j : Fin 2048, x3 (ix3 s j (y 1))
      * (nxt (fun j => x0 (ix3 s j ⟨(y 1).val, by idx_bounds; omega⟩)) j - x0 (ix3 s j ⟨(y 1).val, by idx_bounds; omega⟩)) := by
    refine Eq.trans (b := Ideal.hostReduceAdd Cert.Reference15Ideal.Gen.reducesTo_S4x2048x2048_S2048_d0_1 (val_main_v23 (F := Ideal) x0 x3) 0 (ix1 (y 1))) ?_ ?_
    · refine (congrArg (fun a : EReal => Ideal.hostReduceAdd Cert.Reference15Ideal.Gen.reducesTo_S4x2048x2048_S2048_d0_1 (val_main_v23 (F := Ideal) x0 x3) a (ix1 (y 1))) ?_)
      pointwise [val_main_cst_2]
    · refine (sum01 _ _ _).trans (Finset.sum_congr rfl fun s _ => Finset.sum_congr rfl fun j _ => ?_)
      pointwise [val_main_v23, val_main_v20, ref14_at]
  refine Eq.trans (b := Ideal.hostReduceAdd Cert.Reference15Ideal.Gen.reducesTo_S1x1x2048_S2048_d0_1 (val_main_v25 (F := Ideal) x0 x3) 0 (ix1 (y 1))) ?_ ?_
  · refine Eq.trans (b := val_main_v26 (F := Ideal) x0 x3 (ix1 (y 1))) ?_ ?_
    · pointwise [val_main_v47]
    · refine (congrArg (fun a : EReal => Ideal.hostReduceAdd Cert.Reference15Ideal.Gen.reducesTo_S1x1x2048_S2048_d0_1 (val_main_v25 (F := Ideal) x0 x3) a (ix1 (y 1))) ?_)
      pointwise [val_main_cst_3]
  · refine (sum01 _ _ _).trans (Eq.trans ?_ e)
    simp only [Finset.univ_unique, Finset.sum_singleton]
    pointwise [val_main_v25]

theorem ref39_at (s : Fin 4) (j k : Fin 2048) :
    val_main_v39 (F := Ideal) x2 x3 (ix3 s j k) = x2 (ix1 k) * prv (fun j => x3 (ix3 s j k)) j := by
  unfold val_main_v39 prv
  by_cases h : j.val = 0
  · rw [dif_pos h, mul_zero]
    refine (pad_apply_of_not_inside _ _ _ _ _ _ _ _ 1 fun hin => ?_).trans (by pointwise [val_main_cst_6])
    have : 1 ≤ j.val := hin.1
    omega
  · rw [dif_neg h]
    refine (pad_apply_of_inside _ _ _ _ _ _ _ _ (ix3 s ⟨j.val - 1, by omega⟩ k) fun a => ?_).trans ?_
    · fin_cases a
      · show s.val = 0 + s.val * (0 + 1)
        omega
      · show j.val = 1 + (j.val - 1) * (0 + 1)
        omega
      · show k.val = 0 + k.val * (0 + 1)
        omega
    · pointwise [val_main_v37, val_main_v22, val_main_v21, val_main_v20, val_main_v15]

theorem ref43_at (s : Fin 4) (j k : Fin 2048) :
    val_main_v43 (F := Ideal) x1 x3 (ix3 s j k) = x1 (ix1 k) * nxt (fun j => x3 (ix3 s j k)) j := by
  unfold val_main_v43 nxt
  by_cases h : j.val = 2047
  · rw [dif_pos h, mul_zero]
    refine (pad_apply_of_not_inside _ _ _ _ _ _ _ _ 1 fun hin => ?_).trans (by pointwise [val_main_cst_7])
    have : (j.val - 0) / (0 + 1) < 2047 := hin.2.2
    omega
  · rw [dif_neg h]
    refine (pad_apply_of_inside _ _ _ _ _ _ _ _ (ix3 s ⟨j.val, by omega⟩ k) fun a => ?_).trans ?_
    · fin_cases a
      · show s.val = 0 + s.val * (0 + 1)
        omega
      · show j.val = 0 + j.val * (0 + 1)
        omega
      · show k.val = 0 + k.val * (0 + 1)
        omega
    · pointwise [val_main_v42, val_main_v30, val_main_v29, val_main_v19, val_main_v10]
      exact congrArg (fun j => x1 (ix1 k) * x3 (ix3 s j k)) (Fin.ext (Nat.add_comm _ _))

theorem ref45_at (s : Fin 4) (j k : Fin 2048) :
    (val_main_v45 (F := Ideal) x1 x2 x3 : FVec Ideal S4x2048x2048 .bf16) (ix3 s j k)
      = -(x2 (ix1 k) * x3 (ix3 s j k)) + x3 (ix3 s j k) + -(x1 (ix1 k) * x3 (ix3 s j k))
        + x2 (ix1 k) * prv (fun j => x3 (ix3 s j k)) j + x1 (ix1 k) * nxt (fun j => x3 (ix3 s j k)) j := by
  pointwise [val_main_v45, val_main_v44, val_main_v40, ref39_at, ref43_at, val_main_v36, val_main_v35, val_main_v30, val_main_v29, val_main_v10,
    val_main_v28, val_main_v27, val_main_v22, val_main_v21, val_main_v20, val_main_v15, val_main_v19]

end

/-! ## The result arrays -/

open Cert.Reference15Ideal.Read

/-- The gradient of the projections. -/
theorem dp_at (c : Dev nD) (t : Fin cfg0.N) (y : S1x256x2048.Idx) (h0 h1 : FVec Ideal S1x1x2048 .f32)
    (hh0 : ∀ k, h0 (ix3 0 0 k) = (iblk m c 1 t : FVec Ideal S1x8x2048 .f32) (ix3 0 7 k))
    (hh1 : ∀ k, h1 (ix3 0 0 k) = (iblk m c 2 t : FVec Ideal S1x8x2048 .f32) (ix3 0 0 k))
    (r1 : ∀ i, IsReal (mp m c i)) (r2 : ∀ i, IsReal (mn m c i)) (r3 : ∀ i, IsReal (ct m c i)) :
    (k0_pay7 (F := Ideal) (k0_pay6 (grid0.coords t) (iblk m c 0 t) h0 h1 (iblk m c 7 t) (iblk m c 6 t)) : FVec Ideal S1x256x2048 .bf16) y
      = (val_main_v45 (F := Ideal) (mp m c) (mn m c) (ct m c) : FVec Ideal S4x2048x2048 .bf16)
          (ix3 ⟨t.val / 8, by have := lt32 t; omega⟩ ⟨t.val % 8 * 256 + (y 1).val, by idx_bounds; omega⟩ (y 2)) := by
  refine (pay7_at _ _).trans ((pay6_at _ _ _ _ _ _ _ _).trans (Eq.trans ?_ (ref45_at _ _ _ _ _ _).symm))
  refine (mix_congr (blk0_at m c t _ _) (ct_before m c t _ _ _ (hh0 _)) (ct_after m c t _ _ _ (hh1 _)) (blk7_at m c t _) (blk6_at m c t _)).trans ?_
  exact mix_real (r3 _) (prv_real (fun _ => r3 _) _) (nxt_real (fun _ => r3 _) _) (r2 _) (r1 _)

theorem final8 (c : Dev nD) (h1 : ∀ i, IsReal (mp m c i)) (h2 : ∀ i, IsReal (mn m c i)) (h3 : ∀ i, IsReal (ct m c i)) :
    (dats m 0 c).arrAt 8 cfg0.N = val_main_v45 (F := Ideal) (mp m c) (mn m c) (ct m c) := by
  refine (dats m 0 c).arrAt_eq_of_covers 8 _ (by decide +kernel) fun t hf y => ?_
  blk_simp
  rw [after0_8]
  have e : ((outsAt0 m c t.val t.isLt).1 : FVec Ideal S1x256x2048 .bf16) y
      = (val_main_v45 (F := Ideal) (mp m c) (mn m c) (ct m c) : FVec Ideal S4x2048x2048 .bf16)
          (ix3 ⟨t.val / 8, by have := lt32 t; omega⟩ ⟨t.val % 8 * 256 + (y 1).val, by idx_bounds; omega⟩ (y 2)) := by
    by_cases h0 : t.val % 32 = 0
    · rw [outsAt0_A m c t h0]; frame_out
      exact dp_at m c t y _ _ (fun k => (View.ld_unit_apply_of (Val := Elt Ideal) (e := .f32) (S := S1x8x2048) _ _ _ _ _ _ fun a => by fin_cases a <;> simp)) (fun k => (View.ld_unit_apply_of (Val := Elt Ideal) (e := .f32) (S := S1x8x2048) _ _ _ _ _ _ fun a => by fin_cases a <;> simp)) h1 h2 h3
    · rw [outsAt0_B m c t h0]; frame_out
      exact dp_at m c t y _ _ (fun k => (View.ld_unit_apply_of (Val := Elt Ideal) (e := .f32) (S := S1x8x2048) _ _ _ _ _ _ fun a => by fin_cases a <;> simp)) (fun k => (View.ld_unit_apply_of (Val := Elt Ideal) (e := .f32) (S := S1x8x2048) _ _ _ _ _ _ fun a => by fin_cases a <;> simp)) h1 h2 h3
  refine e.trans ?_
  blk_point [idx t]

/-- What one grid point adds to the gradient of the weight of the row before. -/
def add9 (c : Dev nD) (t : Fin cfg0.N) (k : Fin 2048) : EReal :=
  ∑ n : Fin 256, ct m c (ix3 ⟨t.val / 8, by have := lt32 t; omega⟩ ⟨t.val % 8 * 256 + n.val, by omega⟩ k)
    * (prv (fun j => p m c (ix3 ⟨t.val / 8, by have := lt32 t; omega⟩ j ⟨k.val, by omega⟩)) ⟨t.val % 8 * 256 + n.val, by omega⟩
      - p m c (ix3 ⟨t.val / 8, by have := lt32 t; omega⟩ ⟨t.val % 8 * 256 + n.val, by omega⟩ ⟨k.val, by omega⟩))

theorem step9 (c : Dev nD) (t : Fin cfg0.N) (h : FVec Ideal S1x1x2048 .f32) (a : FVec Ideal S1x2048 .f32) (y : S1x2048.Idx)
    (hh : ∀ k, h (ix3 0 0 k) = (X0_4 m c t : FVec Ideal S1x8x2048 .f32) (ix3 0 7 k)) :
    k0_pay3 (F := Ideal) (k0_pay5 (iblk m c 0 t)) (k0_pay9 (BitVec.ofNat 32 ((grid0.coords t) 1).val) (X0_3 m c t) h) a y
      = a y + add9 m c t (y 1) := by
  refine (pay3_at _ _ _ _).trans (congrArg (fun b : EReal => a y + b) ?_)
  refine Finset.sum_congr rfl fun n _ => ?_
  refine congrArg₂ (fun a b : EReal => a * b) (blk0_at m c t n _) ?_
  refine (pay9_at _ _ _ _ _).trans ?_
  exact congrArg₂ (fun a b : EReal => a - b) (p_before m c t n _ _ (hh _)) (blk3_at m c t n _)

theorem acc9_at (c : Dev nD) (t : Fin cfg0.N) (h : t.val % 32 = 31) (y : S1x2048.Idx) :
    ((outsAt0 m c t.val t.isLt).2.1 : FVec Ideal S1x2048 .f32) y
      = ∑ s : Fin 4, ∑ j : Fin 2048, ct m c (ix3 s j (y 1))
          * (prv (fun j => p m c (ix3 s j ⟨(y 1).val, by idx_bounds; omega⟩)) j - p m c (ix3 s j ⟨(y 1).val, by idx_bounds; omega⟩)) := by
  rw [Pipeline.eq_sum_fin_of_reset_step_apply_of_flush (fun n h => ((outsAt0 m c n h).2.1 : FVec Ideal S1x2048 .f32)) 32 (fun _ => 0)
    (fun t y => add9 m c t (y 1))
    (fun t h y => by
      rw [outsAt0_A m c t h]; frame_out
      refine (step9 m c t _ _ _ fun k => (View.ld_unit_apply_of (Val := Elt Ideal) (e := .f32) (S := S1x8x2048) _ _ _ _ _ _ fun a => by fin_cases a <;> simp)).trans ?_
      rw [pay1_at])
    (fun t h y => by
      rw [outsAt0_B m c t h]; frame_out
      exact step9 m c t _ _ _ fun k => (View.ld_unit_apply_of (Val := Elt Ideal) (e := .f32) (S := S1x8x2048) _ _ _ _ _ _ fun a => by fin_cases a <;> simp))
    t h y, zero_add]
  refine Fin.sum_points_lanes_congr 8 fun s n ha hl => ?_
  have ht : t.val < 32 := lt32 t
  have e1 : (32 * (t.val / 32) + s.val) / 8 = s.val / 8 := by omega
  have e2 : (32 * (t.val / 32) + s.val) % 8 * 256 + n.val = s.val % 8 * 256 + n.val := by omega
  simp only [e1, e2]

/-- What one grid point adds to the gradient of the weight of the row after. -/
def add10 (c : Dev nD) (t : Fin cfg0.N) (k : Fin 2048) : EReal :=
  ∑ n : Fin 256, ct m c (ix3 ⟨t.val / 8, by have := lt32 t; omega⟩ ⟨t.val % 8 * 256 + n.val, by omega⟩ k)
    * (nxt (fun j => p m c (ix3 ⟨t.val / 8, by have := lt32 t; omega⟩ j ⟨k.val, by omega⟩)) ⟨t.val % 8 * 256 + n.val, by omega⟩
      - p m c (ix3 ⟨t.val / 8, by have := lt32 t; omega⟩ ⟨t.val % 8 * 256 + n.val, by omega⟩ ⟨k.val, by omega⟩))

theorem step10 (c : Dev nD) (t : Fin cfg0.N) (h : FVec Ideal S1x1x2048 .f32) (a : FVec Ideal S1x2048 .f32) (y : S1x2048.Idx)
    (hh : ∀ k, h (ix3 0 0 k) = (X0_5 m c t : FVec Ideal S1x8x2048 .f32) (ix3 0 0 k)) :
    k0_pay4 (F := Ideal) (k0_pay5 (iblk m c 0 t)) (k0_pay10 (BitVec.ofNat 32 ((grid0.coords t) 1).val) (X0_3 m c t) h) a y
      = a y + add10 m c t (y 1) := by
  refine (pay4_at _ _ _ _).trans (congrArg (fun b : EReal => a y + b) ?_)
  refine Finset.sum_congr rfl fun n _ => ?_
  refine congrArg₂ (fun a b : EReal => a * b) (blk0_at m c t n _) ?_
  refine (pay10_at _ _ _ _ _).trans ?_
  exact congrArg₂ (fun a b : EReal => a - b) (p_after m c t n _ _ (hh _)) (blk3_at m c t n _)

theorem acc10_at (c : Dev nD) (t : Fin cfg0.N) (h : t.val % 32 = 31) (y : S1x2048.Idx) :
    ((outsAt0 m c t.val t.isLt).2.2 : FVec Ideal S1x2048 .f32) y
      = ∑ s : Fin 4, ∑ j : Fin 2048, ct m c (ix3 s j (y 1))
          * (nxt (fun j => p m c (ix3 s j ⟨(y 1).val, by idx_bounds; omega⟩)) j - p m c (ix3 s j ⟨(y 1).val, by idx_bounds; omega⟩)) := by
  rw [Pipeline.eq_sum_fin_of_reset_step_apply_of_flush (fun n h => ((outsAt0 m c n h).2.2 : FVec Ideal S1x2048 .f32)) 32 (fun _ => 0)
    (fun t y => add10 m c t (y 1))
    (fun t h y => by
      rw [outsAt0_A m c t h]; frame_out
      refine (step10 m c t _ _ _ fun k => (View.ld_unit_apply_of (Val := Elt Ideal) (e := .f32) (S := S1x8x2048) _ _ _ _ _ _ fun a => by fin_cases a <;> simp)).trans ?_
      rw [pay2_at])
    (fun t h y => by
      rw [outsAt0_B m c t h]; frame_out
      exact step10 m c t _ _ _ fun k => (View.ld_unit_apply_of (Val := Elt Ideal) (e := .f32) (S := S1x8x2048) _ _ _ _ _ _ fun a => by fin_cases a <;> simp))
    t h y, zero_add]
  refine Fin.sum_points_lanes_congr 8 fun s n ha hl => ?_
  have ht : t.val < 32 := lt32 t
  have e1 : (32 * (t.val / 32) + s.val) / 8 = s.val / 8 := by omega
  have e2 : (32 * (t.val / 32) + s.val) % 8 * 256 + n.val = s.val % 8 * 256 + n.val := by omega
  simp only [e1, e2]

/-- The gradient of the first mixing vector. -/
theorem final9 (c : Dev nD) : (dats m 0 c).arrAt 9 cfg0.N = val_main_v46 (F := Ideal) (p m c) (ct m c) := by
  refine (dats m 0 c).arrAt_eq_of_covers 9 _ (by decide +kernel) fun t hf y => ?_
  blk_simp
  rw [after0_9]
  refine (acc9_at m c t ((flush0_9 t).mp hf) _).trans (Eq.trans ?_ (ref46_at _ _ _).symm)
  blk_point [idx t]

/-- The gradient of the second mixing vector. -/
theorem final10 (c : Dev nD) : (dats m 0 c).arrAt 10 cfg0.N = val_main_v47 (F := Ideal) (p m c) (ct m c) := by
  refine (dats m 0 c).arrAt_eq_of_covers 10 _ (by decide +kernel) fun t hf y => ?_
  blk_simp
  rw [after0_10]
  refine (acc10_at m c t ((flush0_10 t).mp hf) _).trans (Eq.trans ?_ (ref47_at _ _ _).symm)
  blk_point [idx t]

end Cert.ShiftBwd
-- ==== Proof.FfnOutLoss.lean ====
/- The second feed-forward's output projection, the third layer norm, the loss and their gradient: the accumulated
   product, scaled and added to the scaled rows, is normalised; the loss, its gradient at the rows and at the gain and
   the shift are the reference's. -/
module

public import proofs.«01_k».proof.Proof.Gen.Kernel18Ideal.Frame
public import proofs.«01_k».proof.Proof.Gen.Reference18Ideal.Read
public import Idealize.ShloMosaic.Lib.Pipeline.ValueKit
public import Idealize.ShloMosaic.Lib.Claim
public import Idealize.ShloMosaic.Lib.Pipeline.ReadBack
public import proofs.«01_k».proof.Proof.Reals
public import proofs.«01_k».proof.Proof.Norm
@[expose] public section

set_option maxRecDepth 16384

noncomputable section

open Idealize.ShloMosaic Idealize.ShloMosaic.TcCoe Idealize.SL.Sem
open Idealize.ShloMosaic.Pipeline (Dat)

namespace Cert.FfnOutLoss

open Cert.Kernel18Ideal Cert.Kernel18Ideal.Gen Cert.Reals Cert.Norm

variable (m : (ℓ : Loc nD τ sig) → Buf (Elt Ideal) ℓ)

/-- Grid point `t = 2·i + k` takes row block `i` and column blocks `2·k` and `2·k + 1` of the hidden units. -/
theorem idx : ∀ t : Fin cfg0.N, win0_0.index t = ![t.val % 2, t.val / 2, 0] ∧ win0_1.index t = ![t.val % 2, 0]
    ∧ win0_2.index t = ![t.val / 2, 0] ∧ win0_3.index t = ![0, 0] ∧ win0_4.index t = ![0, 0] ∧ win0_5.index t = ![t.val / 2, 0]
    ∧ win0_6.index t = ![t.val / 2, 0] ∧ win0_7.index t = ![t.val / 2, 0] ∧ t.val / 2 < 16
    ∧ win0_8.index t = ![0, 0] ∧ win0_9.index t = ![0, 0] ∧ win0_10.index t = ![0, 0] :=
  (by decide +kernel : ∀ t : Fin grid0.N, _)

theorem row_lt (t : Fin cfg0.N) : t.val / 2 < 16 := (idx t).2.2.2.2.2.2.2.2.1

/-- The argument arrays of device `c`: the residual rows, the hidden units, the weight, the gain, the shift
    and the target. -/
abbrev x (c : Dev nD) : FVec Ideal S8192x1024 .f32 := m ((c : Thread nD τ).loc main_arg0)
abbrev act (c : Dev nD) : FVec Ideal S8192x2816 .f32 := m ((c : Thread nD τ).loc main_arg1)
abbrev w (c : Dev nD) : FVec Ideal S2816x1024 .f32 := m ((c : Thread nD τ).loc main_arg2)
abbrev g (c : Dev nD) : FVec Ideal S1024 .f32 := m ((c : Thread nD τ).loc main_arg3)
abbrev b (c : Dev nD) : FVec Ideal S1024 .f32 := m ((c : Thread nD τ).loc main_arg4)
abbrev tgt (c : Dev nD) : FVec Ideal S8192x1024 .f32 := m ((c : Thread nD τ).loc main_arg5)

theorem act_at (c : Dev nD) (y : S4x8192x704.Idx) : (V m c main_v2 : FVec Ideal S4x8192x704 .bf16) y
    = act m c (ix2 (y 1) ⟨(y 0).val * 704 + (y 2).val, by idx_bounds; omega⟩) := by
  entry_read
  pointwise

theorem w_at (c : Dev nD) (y : S2816x1024.Idx) : (V m c main_v3 : FVec Ideal S2816x1024 .bf16) y = w m c y := by
  entry_read
  pointwise

theorem g_at (c : Dev nD) (y : S1x1024.Idx) : (V m c main_v4 : FVec Ideal S1x1024 .f32) y = g m c (ix1 (y 1)) := by
  entry_read
  pointwise

theorem b_at (c : Dev nD) (y : S1x1024.Idx) : (V m c main_v5 : FVec Ideal S1x1024 .f32) y = b m c (ix1 (y 1)) := by
  entry_read
  pointwise

theorem blk0_at (c : Dev nD) (t : Fin cfg0.N) (y : S2x512x704.Idx) : (iblk m c 0 t : FVec Ideal S2x512x704 .bf16) y
    = act m c (ix2 ⟨t.val / 2 * 512 + (y 1).val, by have := row_lt t; idx_bounds; omega⟩
        ⟨(t.val % 2 * 2 + (y 0).val) * 704 + (y 2).val, by idx_bounds; omega⟩) := by
  blk_simp [iblk]
  refine (act_at m c _).trans ?_
  blk_ext [idx t]

theorem blk1_at (c : Dev nD) (t : Fin cfg0.N) (y : S1408x1024.Idx) : (iblk m c 1 t : FVec Ideal S1408x1024 .bf16) y
    = w m c (ix2 ⟨t.val % 2 * 1408 + (y 0).val, by idx_bounds; omega⟩ (y 1)) := by
  blk_simp [iblk]
  refine (w_at m c _).trans ?_
  blk_ext [idx t]

theorem blk2_at (c : Dev nD) (t : Fin cfg0.N) (y : S512x1024.Idx) : (iblk m c 2 t : FVec Ideal S512x1024 .f32) y
    = x m c (ix2 ⟨t.val / 2 * 512 + (y 0).val, by have := row_lt t; idx_bounds; omega⟩ (y 1)) := by
  blk_simp [iblk]
  blk_ext [idx t]

theorem blk3_at (c : Dev nD) (t : Fin cfg0.N) (y : S1x1024.Idx) : (iblk m c 3 t : FVec Ideal S1x1024 .f32) y
    = g m c (ix1 (y 1)) := by
  blk_simp [iblk]
  refine (g_at m c _).trans ?_
  blk_ext [idx t]

theorem blk4_at (c : Dev nD) (t : Fin cfg0.N) (y : S1x1024.Idx) : (iblk m c 4 t : FVec Ideal S1x1024 .f32) y
    = b m c (ix1 (y 1)) := by
  blk_simp [iblk]
  refine (b_at m c _).trans ?_
  blk_ext [idx t]

theorem blk5_at (c : Dev nD) (t : Fin cfg0.N) (y : S512x1024.Idx) : (iblk m c 5 t : FVec Ideal S512x1024 .f32) y
    = tgt m c (ix2 ⟨t.val / 2 * 512 + (y 0).val, by have := row_lt t; idx_bounds; omega⟩ (y 1)) := by
  blk_simp [iblk]
  blk_ext [idx t]

/-! ## The values the kernel writes, read at an index -/

/-- The printed f32 literal for the fourth root of two, and one half. -/
abbrev alpha : EReal := Ideal.ofBits FTy.f32 1066940400#32

theorem pay1_at (y : S512x1024.Idx) : k0_pay1 (F := Ideal) y = 0 := by
  pointwise [k0_pay1]

theorem pay2_at (acc : FVec Ideal S512x1024 .f32) (a : FVec Ideal S1x512x704 .bf16) (p : FVec Ideal S704x1024 .bf16)
    (a' : FVec Ideal S1x512x704 .bf16) (p' : FVec Ideal S704x1024 .bf16) (y : S512x1024.Idx) :
    k0_pay2 (F := Ideal) acc a p a' p' y = acc y + ((∑ k : Fin 704, a (ix3 0 (y 0) k) * p (ix2 k (y 1)))
      + ∑ k : Fin 704, a' (ix3 0 (y 0) k) * p' (ix2 k (y 1))) := by
  pointwise [k0_pay2]

/-- The printed f32 literals 1/1024 and 1. -/
abbrev tiny : EReal := Ideal.ofBits FTy.f32 981467136#32
abbrev one : EReal := Ideal.ofBits FTy.f32 1065353216#32

theorem tiny_eq : tiny = ((1 / 1024 : ℝ) : EReal) := by simp [tiny, Ideal.ofBits, Ideal.ieee, -EReal.coe_mul]; norm_num
theorem one_eq : one = ((1 : ℝ) : EReal) := by simp [one, Ideal.ofBits, Ideal.ieee, -EReal.coe_mul]; norm_num

/-- Row `r` of a block before its normalisation. -/
def row (u v : FVec Ideal S512x1024 .f32) (r : Fin 512) (k : Fin 1024) : EReal := alpha * u (ix2 r k) + half * v (ix2 r k)

theorem pay5_at (u v : FVec Ideal S512x1024 .f32) (y : S512x1024.Idx) :
    k0_pay5 (F := Ideal) u v y = ctr c1024 (row u v (y 0)) (y 1) := by
  pointwise [k0_pay5, row, ctr, mean]

theorem pay6_at (u v : FVec Ideal S512x1024 .f32) (y : S512x1.Idx) :
    k0_pay6 (F := Ideal) u v y = rstd c1024 (row u v (y 0)) := by
  pointwise [k0_pay6, pay5_at, rstd, var, mean]

theorem pay7_at (u v : FVec Ideal S512x1024 .f32) (y : S512x1024.Idx) :
    k0_pay7 (F := Ideal) u v y = xhat c1024 (row u v (y 0)) (y 1) := by
  pointwise [k0_pay7, pay5_at, pay6_at, xhat]

theorem pay8_at (u v : FVec Ideal S512x1024 .f32) (p q : FVec Ideal S1x1024 .f32) (s : FVec Ideal S512x1024 .f32)
    (y : S512x1024.Idx) : k0_pay8 (F := Ideal) u v p q s y
      = xhat c1024 (row u v (y 0)) (y 1) * p (ix2 0 (y 1)) + q (ix2 0 (y 1)) - s y := by
  pointwise [k0_pay8, pay7_at]

theorem pay9_at (u v : FVec Ideal S512x1024 .f32) (p q : FVec Ideal S1x1024 .f32) (s : FVec Ideal S512x1024 .f32)
    (y : S512x1024.Idx) : k0_pay9 (F := Ideal) u v p q s y = k0_pay8 (F := Ideal) u v p q s y * tiny := by
  pointwise [k0_pay9]

theorem pay10_at (u v : FVec Ideal S512x1024 .f32) (p q : FVec Ideal S1x1024 .f32) (s : FVec Ideal S512x1024 .f32)
    (p' : FVec Ideal S1x1024 .f32) (y : S512x1024.Idx) : k0_pay10 (F := Ideal) u v p q s p' y
      = k0_pay9 (F := Ideal) u v p q s y * p' (ix2 0 (y 1)) := by
  pointwise [k0_pay10]

theorem pay11_at (a : FVec Ideal S512x1 .f32) (n h : FVec Ideal S512x1024 .f32) (y : S512x1024.Idx) :
    k0_pay11 (F := Ideal) a n h y = a (ix2 (y 0) 0) * (h y - mean c1024 (fun k => h (ix2 (y 0) k))
      - n y * mean c1024 (fun k => h (ix2 (y 0) k) * n (ix2 (y 0) k))) := by
  pointwise [k0_pay11, mean]

theorem pay13_at (y : S1x128.Idx) : k0_pay13 (F := Ideal) y = 0 := by
  pointwise [k0_pay13]

theorem pay14_at (y : S1x1024.Idx) : k0_pay14 (F := Ideal) y = 0 := by
  pointwise [k0_pay14]

theorem pay15_at (y : S1x1024.Idx) : k0_pay15 (F := Ideal) y = 0 := by
  pointwise [k0_pay15]

theorem pay3_at (n e : FVec Ideal S512x1024 .f32) (acc : FVec Ideal S1x1024 .f32) (y : S1x1024.Idx) :
    k0_pay3 (F := Ideal) n e acc y = acc y + ∑ r : Fin 512, e (ix2 r (y 1)) * n (ix2 r (y 1)) := by
  pointwise [k0_pay3]

theorem pay4_at (e : FVec Ideal S512x1024 .f32) (acc : FVec Ideal S1x1024 .f32) (y : S1x1024.Idx) :
    k0_pay4 (F := Ideal) e acc y = acc y + ∑ r : Fin 512, e (ix2 r (y 1)) := by
  pointwise [k0_pay4]

theorem pay16_at (e : FVec Ideal S512x1024 .f32) (acc : FVec Ideal S1x128 .f32) (y : S1x128.Idx) :
    k0_pay16 (F := Ideal) e acc y = acc y + half * (∑ r : Fin 512, ∑ k : Fin 1024, e (ix2 r k) * e (ix2 r k)) * tiny := by
  pointwise [k0_pay16]

/-- The row that is normalised: the scaled residual plus half the product. -/
def pre (x : FVec Ideal S8192x1024 .f32) (a : FVec Ideal S8192x2816 .f32) (w : FVec Ideal S2816x1024 .f32) (r : Fin 8192) (k : Fin 1024) : EReal :=
  alpha * x (ix2 r k) + half * ∑ l : Fin 2816, a (ix2 r l) * w (ix2 l k)

/-- The error of the normalised row `z` against the target row `s`. -/
def err (z : Fin 1024 → EReal) (g b : FVec Ideal S1024 .f32) (s : Fin 1024 → EReal) (k : Fin 1024) : EReal :=
  xhat c1024 z k * g (ix1 k) + b (ix1 k) - s k

theorem err_real (z : Fin 1024 → EReal) (g b : FVec Ideal S1024 .f32) (s : Fin 1024 → EReal) (h1 : ∀ i, IsReal (g i))
    (h2 : ∀ i, IsReal (b i)) (h3 : ∀ k, IsReal (s k)) (k : Fin 1024) : IsReal (err z g b s k) := by
  have hx : IsReal (xhat c1024 z k) := by rw [c1024_eq]; exact IsReal.xhat (by decide) _ _
  obtain ⟨p, hp⟩ := hx.mul (h1 (ix1 k))
  obtain ⟨q, hq⟩ := h2 (ix1 k)
  obtain ⟨r, hr⟩ := h3 k
  exact ⟨p + q - r, by rw [err, hp, hq, hr]; push_cast; rfl⟩

/-- What the mean square passes back, as the chain rule prints it, is the error over the width. -/
theorem ct_eq (e : EReal) (he : IsReal e) : e * tiny = Ideal.div (half * one) c1024 * (two * e) := by
  obtain ⟨r, rfl⟩ := he
  rw [tiny_eq, half_eq, one_eq, c1024_eq, two_eq, ← EReal.coe_mul, ← EReal.coe_mul, ← EReal.coe_mul, div_coe _ _ (by norm_num), ← EReal.coe_mul]
  congr 1
  push_cast
  ring

/-- The loss summed block by block is the sum of the rows' mean squares, halved. -/
theorem loss_eq (s : Fin 16 → Fin 512 → EReal) (hs : ∀ i r, IsReal (s i r)) :
    ∑ i, half * (∑ r, s i r) * tiny = half * ∑ i, ∑ r, Ideal.div (s i r) c1024 := by
  choose f hf using hs
  have hf' : s = fun i r => ((f i r : ℝ) : EReal) := funext fun i => funext fun r => hf i r
  subst hf'
  simp only [c1024_eq, div_coe _ _ (show (((1024 : ℕ) : ℝ)) ≠ 0 by norm_num), sum_coe, half_eq, tiny_eq, ← EReal.coe_mul]
  congr 1
  simp only [Finset.mul_sum, Finset.sum_mul]
  refine Finset.sum_congr rfl fun i _ => Finset.sum_congr rfl fun r _ => ?_
  push_cast
  ring

section
open Cert.Reference18Ideal.Read

variable (x0 : FVec Ideal S8192x1024 .f32) (x1 : FVec Ideal S8192x2816 .f32) (x2 : FVec Ideal S2816x1024 .f32)
    (x3 x4 : FVec Ideal S1024 .f32) (x5 : FVec Ideal S8192x1024 .f32)

theorem ref5_at (y : S8192x1024.Idx) : val_main_v5 (F := Ideal) x0 x1 x2 y = pre x0 x1 x2 (y 0) (y 1) := by
  pointwise [val_main_v5, val_main_v4, val_main_v3, val_main_cst_0, val_main_v2, val_main_v1, val_main_v0, val_main_cst, pre]

theorem ref20_at (y : S8192x1024.Idx) :
    val_main_v20 (F := Ideal) x0 x1 x2 y = ctr c1024 (pre x0 x1 x2 (y 0)) (y 1) := by
  pointwise [val_main_v20, val_main_v19, val_main_v9, val_main_v8, val_main_cst_2, val_main_v7, val_main_v6, val_main_cst_1,
    ref5_at, ctr, mean]

theorem ref22_at (y : Cert.Reference18Ideal.S8192x1.Idx) :
    val_main_v22 (F := Ideal) x0 x1 x2 y = var c1024 (pre x0 x1 x2 (y 0)) + eps := by
  have e : val_main_v11 (F := Ideal) x0 x1 x2 = val_main_v20 x0 x1 x2 := rfl
  pointwise [val_main_v22, val_main_v21, val_main_cst_6, val_main_v18, val_main_v17, val_main_cst_5, val_main_v16,
    val_main_v15, val_main_cst_4, val_main_v12, e, ref20_at, var, mean]

theorem ref23_at (y : Cert.Reference18Ideal.S8192x1.Idx) :
    val_main_v23 (F := Ideal) x0 x1 x2 y = rstd c1024 (pre x0 x1 x2 (y 0)) := by
  pointwise [val_main_v23, ref22_at, rstd]

theorem ref28_at (y : S8192x1024.Idx) :
    val_main_v28 (F := Ideal) x0 x1 x2 y = xhat c1024 (pre x0 x1 x2 (y 0)) (y 1) := by
  pointwise [val_main_v28, val_main_v27, ref20_at, ref23_at, xhat]

theorem ref35_at (y : S8192x1024.Idx) :
    val_main_v35 (F := Ideal) x0 x1 x2 x3 x4 x5 y = err (pre x0 x1 x2 (y 0)) x3 x4 (fun k => x5 (ix2 (y 0) k)) (y 1) := by
  pointwise [val_main_v35, val_main_v34, val_main_v33, val_main_v32, val_main_v31, val_main_v30, val_main_v29, ref28_at, err]

/-- What the mean square passes back to the normalised row. -/
def back (e : EReal) : EReal := Ideal.div (half * one) c1024 * (two * e)

theorem ref49_at (y : S8192x1024.Idx) :
    val_main_v49 (F := Ideal) x0 x1 x2 x3 x4 x5 y = back (err (pre x0 x1 x2 (y 0)) x3 x4 (fun k => x5 (ix2 (y 0) k)) (y 1)) := by
  pointwise [val_main_v49, val_main_v48, val_main_v47, val_main_v46, val_main_cst_15, val_main_v45, val_main_v44, val_main_cst_13,
    val_main_cst_14, val_main_v38, val_main_v37, val_main_cst_8, ref35_at, back]

theorem ref57_at (y : S8192x1024.Idx) : val_main_v57 (F := Ideal) x0 x1 x2 x3 x4 x5 y
    = back (err (pre x0 x1 x2 (y 0)) x3 x4 (fun k => x5 (ix2 (y 0) k)) (y 1)) * x3 (ix1 (y 1)) := by
  pointwise [val_main_v57, val_main_v56, val_main_v29, ref49_at]

theorem ref63_at (y : S8192x1024.Idx) : val_main_v63 (F := Ideal) x0 x1 x2 x3 x4 x5 y
    = back (err (pre x0 x1 x2 (y 0)) x3 x4 (fun k => x5 (ix2 (y 0) k)) (y 1)) * x3 (ix1 (y 1)) * rstd c1024 (pre x0 x1 x2 (y 0)) := by
  pointwise [val_main_v63, val_main_v62, ref57_at, ref23_at]

theorem ref72_at (y : S8192x1024.Idx) : val_main_v72 (F := Ideal) x0 x1 x2 x3 x4 x5 y
    = viaVar c1024 (pre x0 x1 x2 (y 0)) (fun k => back (err (pre x0 x1 x2 (y 0)) x3 x4 (fun k => x5 (ix2 (y 0) k)) k) * x3 (ix1 k)) (y 1) := by
  have e : val_main_v11 (F := Ideal) x0 x1 x2 = val_main_v20 x0 x1 x2 := rfl
  pointwise [val_main_v72, val_main_v71, val_main_v70, val_main_cst_23, val_main_v69, val_main_v68, val_main_cst_22, val_main_v64,
    val_main_v61, val_main_v60, val_main_cst_20, val_main_v59, val_main_v26, val_main_v25, val_main_cst_7, val_main_v24,
    val_main_v14, val_main_v13, val_main_cst_3, e, ref20_at, ref22_at, ref23_at, ref57_at, viaVar]
  simp only [Finset.univ_unique, Finset.sum_singleton]

theorem ref82_at (y : S8192x1024.Idx) : val_main_v82 (F := Ideal) x0 x1 x2 x3 x4 x5 y
    = gradR c1024 (pre x0 x1 x2 (y 0)) (fun k => back (err (pre x0 x1 x2 (y 0)) x3 x4 (fun k => x5 (ix2 (y 0) k)) k) * x3 (ix1 k)) (y 1) := by
  pointwise [val_main_v82, val_main_v81, val_main_v80, val_main_cst_26, val_main_v79, val_main_v78, val_main_cst_25, val_main_v77,
    val_main_v76, val_main_v75, val_main_v74, val_main_cst_24, val_main_v73, val_main_v67, val_main_v66, val_main_cst_21,
    val_main_v65, ref63_at, ref72_at, gradR]
  simp only [Finset.univ_unique, Finset.sum_singleton]

theorem ref84_at (y : S1x128.Idx) : val_main_v84 (F := Ideal) x0 x1 x2 x3 x4 x5 y
    = half * ∑ r : Fin 8192, Ideal.div (∑ k, err (pre x0 x1 x2 r) x3 x4 (fun k => x5 (ix2 r k)) k
        * err (pre x0 x1 x2 r) x3 x4 (fun k => x5 (ix2 r k)) k) c1024 := by
  pointwise [val_main_v84, val_main_v43, val_main_cst_12, val_main_v42, val_main_cst_11, val_main_v41, val_main_v40,
    val_main_cst_10, val_main_v39, val_main_cst_9, val_main_v36, ref35_at]

theorem ref85_at (y : S1x1024.Idx) : val_main_v85 (F := Ideal) x0 x1 x2 x3 x4 x5 y
    = ∑ r : Fin 8192, xhat c1024 (pre x0 x1 x2 r) (y 1) * back (err (pre x0 x1 x2 r) x3 x4 (fun k => x5 (ix2 r k)) (y 1)) := by
  pointwise [val_main_v85, val_main_v58, val_main_cst_19, val_main_v55, val_main_v54, val_main_cst_18, val_main_v53, ref28_at, ref49_at]
  simp only [Finset.univ_unique, Finset.sum_singleton]

theorem ref86_at (y : S1x1024.Idx) : val_main_v86 (F := Ideal) x0 x1 x2 x3 x4 x5 y
    = ∑ r : Fin 8192, back (err (pre x0 x1 x2 r) x3 x4 (fun k => x5 (ix2 r k)) (y 1)) := by
  pointwise [val_main_v86, val_main_v52, val_main_cst_17, val_main_v51, val_main_v50, val_main_cst_16, ref49_at]
  simp only [Finset.univ_unique, Finset.sum_singleton]

end

/-! ## The accumulated product -/

theorem step_at (c : Dev nD) (t : Fin cfg0.N) (acc : FVec Ideal S512x1024 .f32) (y : S512x1024.Idx) :
    k0_pay2 (F := Ideal) acc (View.ld (iblk m c 0 t) (Rect.unit ![0, 0, 0] ![1, 512, 704] inb_S2x512x704_S1x512x704_0_0_0))
      (View.ld (iblk m c 1 t) (Rect.unit ![0, 0] ![704, 1024] inb_S1408x1024_S704x1024_0_0))
      (View.ld (iblk m c 0 t) (Rect.unit ![1, 0, 0] ![1, 512, 704] inb_S2x512x704_S1x512x704_1_0_0))
      (View.ld (iblk m c 1 t) (Rect.unit ![704, 0] ![704, 1024] inb_S1408x1024_S704x1024_704_0)) y
      = acc y + ∑ l : Fin 1408, act m c (ix2 ⟨t.val / 2 * 512 + (y 0).val, by have := row_lt t; idx_bounds; omega⟩
            ⟨t.val % 2 * 1408 + l.val, by have := l.isLt; omega⟩)
          * w m c (ix2 ⟨t.val % 2 * 1408 + l.val, by have := l.isLt; omega⟩ (y 1)) := by
  refine (pay2_at _ _ _ _ _ _).trans (congrArg (acc y + ·) ?_)
  have e0 : ∀ k : Fin 704, View.ld (iblk m c 0 t) (Rect.unit ![0, 0, 0] ![1, 512, 704] inb_S2x512x704_S1x512x704_0_0_0) (ix3 0 (y 0) k)
      = (iblk m c 0 t : FVec Ideal S2x512x704 .bf16) (ix3 0 (y 0) k) := fun k => by pointwise
  have e1 : ∀ k : Fin 704, View.ld (iblk m c 0 t) (Rect.unit ![1, 0, 0] ![1, 512, 704] inb_S2x512x704_S1x512x704_1_0_0) (ix3 0 (y 0) k)
      = (iblk m c 0 t : FVec Ideal S2x512x704 .bf16) (ix3 1 (y 0) k) := fun k => by pointwise
  have f0 : ∀ k : Fin 704, View.ld (iblk m c 1 t) (Rect.unit ![0, 0] ![704, 1024] inb_S1408x1024_S704x1024_0_0) (ix2 k (y 1))
      = (iblk m c 1 t : FVec Ideal S1408x1024 .bf16) (ix2 ⟨k.val, by omega⟩ (y 1)) := fun k => by pointwise
  have f1 : ∀ k : Fin 704, View.ld (iblk m c 1 t) (Rect.unit ![704, 0] ![704, 1024] inb_S1408x1024_S704x1024_704_0) (ix2 k (y 1))
      = (iblk m c 1 t : FVec Ideal S1408x1024 .bf16) (ix2 ⟨704 + k.val, by omega⟩ (y 1)) := fun k => by pointwise
  simp only [e0, e1, f0, f1, blk0_at, blk1_at]
  refine Eq.trans (congrArg₂ (· + ·) (Finset.sum_congr rfl fun k _ => ?_) (Finset.sum_congr rfl fun k _ => ?_))
    (Fin.sum_univ_add (a := 704) (b := 704) fun l : Fin 1408 => act m c (ix2 ⟨t.val / 2 * 512 + (y 0).val, by
        have := row_lt t; idx_bounds; omega⟩ ⟨t.val % 2 * 1408 + l.val, by have := l.isLt; omega⟩)
      * w m c (ix2 ⟨t.val % 2 * 1408 + l.val, by have := l.isLt; omega⟩ (y 1))).symm
  · refine congrArg₂ (· * ·) (congrArg (act m c) (congrArg₂ ix2 rfl (Fin.ext ?_))) (congrArg (w m c) (congrArg₂ ix2 (Fin.ext ?_) rfl))
    · show (t.val % 2 * 2 + 0) * 704 + k.val = t.val % 2 * 1408 + k.val
      omega
    · rfl
  · refine congrArg₂ (· * ·) (congrArg (act m c) (congrArg₂ ix2 rfl (Fin.ext ?_))) (congrArg (w m c) (congrArg₂ ix2 (Fin.ext ?_) rfl))
    · show (t.val % 2 * 2 + 1) * 704 + k.val = t.val % 2 * 1408 + (704 + k.val)
      omega
    · rfl

theorem acc_at (c : Dev nD) (t : Fin cfg0.N) (h : t.val % 2 = 1) (y : S512x1024.Idx) :
    ((outsAt0 m c t.val t.isLt).2.2.2.2.2 : FVec Ideal S512x1024 .f32) y
      = ∑ l : Fin 2816, act m c (ix2 ⟨t.val / 2 * 512 + (y 0).val, by have := row_lt t; idx_bounds; omega⟩ l)
          * w m c (ix2 l (y 1)) := by
  rw [Pipeline.eq_sum_fin_of_reset_step_apply_of_flush (fun n h => ((outsAt0 m c n h).2.2.2.2.2 : FVec Ideal S512x1024 .f32)) 2 (fun _ => 0)
    (fun t y => ∑ l : Fin 1408, act m c (ix2 ⟨t.val / 2 * 512 + (y 0).val, by have := row_lt t; idx_bounds; omega⟩
            ⟨t.val % 2 * 1408 + l.val, by have := l.isLt; omega⟩)
          * w m c (ix2 ⟨t.val % 2 * 1408 + l.val, by have := l.isLt; omega⟩ (y 1)))
    (fun t h y => by
      have h1 : ¬ t.val % 2 = 1 := by omega
      rw [outsAt0_A m c t h h1]; frame_out
      refine (step_at m c t _ _).trans ?_
      rw [pay1_at])
    (fun t h y => by
      have h1 : t.val % 2 = 1 := by omega
      by_cases h2 : t.val < 2
      · rw [outsAt0_B m c t h h1 h2]; frame_out
        simp only [read_unread_whole]
        exact step_at m c t _ _
      · rw [outsAt0_C m c t h h1 h2]; frame_out
        simp only [read_unread_whole]
        exact step_at m c t _ _)
    t h y, zero_add]
  refine Fin.sum_mul_add_congr fun s k hl => ?_
  refine congrArg₂ (· * ·) (congrArg (act m c) (congrArg₂ ix2 (Fin.ext ?_) (Fin.ext ?_))) (congrArg (w m c) (congrArg₂ ix2 (Fin.ext ?_) rfl))
  all_goals (dsimp only; omega)

/-! ## One row block's contributions -/

/-- The accumulated product of the block of grid point `t`. -/
abbrev prod (c : Dev nD) (t : Fin cfg0.N) : FVec Ideal S512x1024 .f32 := (outsAt0 m c t.val t.isLt).2.2.2.2.2

/-- Row `r` of row block `i`. -/
abbrev at_ (i : Fin 16) (r : Fin 512) : Fin 8192 := ⟨i.val * 512 + r.val, by have := i.isLt; have := r.isLt; omega⟩

/-- The error of row `r` against its target. -/
abbrev errs (c : Dev nD) (r : Fin 8192) (k : Fin 1024) : EReal :=
  err (pre (x m c) (act m c) (w m c) r) (g m c) (b m c) (fun k => tgt m c (ix2 r k)) k

theorem row_at (c : Dev nD) (t : Fin cfg0.N) (h : t.val % 2 = 1) (r : Fin 512) :
    row (iblk m c 2 t) (prod m c t) r = pre (x m c) (act m c) (w m c) (at_ ⟨t.val / 2, row_lt t⟩ r) := by
  funext k
  refine Eq.trans (congrArg₂ (fun u v => alpha * u + half * v) (blk2_at m c t (ix2 r k)) (acc_at m c t h (ix2 r k))) ?_
  rfl

theorem err_at (c : Dev nD) (t : Fin cfg0.N) (h : t.val % 2 = 1) (y : S512x1024.Idx) :
    k0_pay8 (F := Ideal) (iblk m c 2 t) (prod m c t) (iblk m c 3 t) (iblk m c 4 t) (iblk m c 5 t) y
      = errs m c (at_ ⟨t.val / 2, row_lt t⟩ (y 0)) (y 1) := by
  refine (pay8_at _ _ _ _ _ _).trans ?_
  exact congrArg₂ (· - ·) (congrArg₂ (· + ·) (congrArg₂ (· * ·) (congrFun (congrArg (xhat c1024) (row_at m c t h (y 0))) (y 1))
    (blk3_at m c t _)) (blk4_at m c t _)) (blk5_at m c t y)

/-- What the loss passes back to the normalised rows. -/
abbrev pull (c : Dev nD) (t : Fin cfg0.N) : FVec Ideal S512x1024 .f32 :=
  k0_pay9 (F := Ideal) (iblk m c 2 t) (prod m c t) (iblk m c 3 t) (iblk m c 4 t) (iblk m c 5 t)

theorem pull_at (c : Dev nD) (t : Fin cfg0.N) (h : t.val % 2 = 1) (y : S512x1024.Idx) :
    pull m c t y = errs m c (at_ ⟨t.val / 2, row_lt t⟩ (y 0)) (y 1) * tiny := by
  refine (pay9_at _ _ _ _ _ _).trans ?_
  exact congrArg (· * tiny) (err_at m c t h y)

section
variable (c : Dev nD) (h1 : ∀ i, IsReal (g m c i)) (h2 : ∀ i, IsReal (b m c i)) (h3 : ∀ i, IsReal (tgt m c i))
include h1 h2 h3

theorem errs_real (r : Fin 8192) (k : Fin 1024) : IsReal (errs m c r k) := err_real _ _ _ _ h1 h2 (fun _ => h3 _) k

open Cert.Reference18Ideal.Read

theorem dz_at (t : Fin cfg0.N) (h : t.val % 2 = 1) (y : S512x1024.Idx) :
    k0_pay11 (F := Ideal) (k0_pay6 (F := Ideal) (iblk m c 2 t) (prod m c t)) (k0_pay7 (F := Ideal) (iblk m c 2 t) (prod m c t))
        (k0_pay10 (F := Ideal) (iblk m c 2 t) (prod m c t) (iblk m c 3 t) (iblk m c 4 t) (iblk m c 5 t) (iblk m c 3 t)) y
      = val_main_v82 (F := Ideal) (x m c) (act m c) (w m c) (g m c) (b m c) (tgt m c)
          (ix2 (at_ ⟨t.val / 2, row_lt t⟩ (y 0)) (y 1)) := by
  refine (pay11_at _ _ _ _).trans (Eq.trans ?_ (ref82_at _ _ _ _ _ _ _).symm)
  have hh : ∀ z : S512x1024.Idx, k0_pay10 (F := Ideal) (iblk m c 2 t) (prod m c t) (iblk m c 3 t) (iblk m c 4 t) (iblk m c 5 t) (iblk m c 3 t) z
      = back (errs m c (at_ ⟨t.val / 2, row_lt t⟩ (z 0)) (z 1)) * g m c (ix1 (z 1)) := fun z => by
    refine (pay10_at _ _ _ _ _ _ _).trans ?_
    exact congrArg₂ (· * ·) ((pull_at m c t h z).trans (ct_eq _ (errs_real m c h1 h2 h3 _ _))) (blk3_at m c t _)
  simp only [hh, pay6_at, pay7_at]
  have hH : ∀ k : Fin 1024, IsReal (back (errs m c (at_ ⟨t.val / 2, row_lt t⟩ (y 0)) k) * g m c (ix1 k)) := fun k => by
    refine IsReal.mul ?_ (h1 _)
    rw [back, ← ct_eq _ (errs_real m c h1 h2 h3 _ _), tiny_eq]
    exact (errs_real m c h1 h2 h3 _ _).mul ⟨_, rfl⟩
  refine (congrArg (fun z => gradK c1024 z (fun k => back (errs m c (at_ ⟨t.val / 2, row_lt t⟩ (y 0)) k) * g m c (ix1 k)) (y 1))
    (row_at m c t h (y 0))).trans ?_
  have := grad_eq (d := 1024) (by decide) (pre (x m c) (act m c) (w m c) (at_ ⟨t.val / 2, row_lt t⟩ (y 0))) _ hH (y 1)
  rw [← c1024_eq] at this
  exact this

/-- The gradient at the rows. -/
theorem final6 :
    (dats m 0 c).arrAt 6 cfg0.N = val_main_v82 (F := Ideal) (x m c) (act m c) (w m c) (g m c) (b m c) (tgt m c) := by
  refine (dats m 0 c).arrAt_eq_of_covers 6 _ (by decide +kernel) fun t hf y => ?_
  blk_simp
  rw [after0_6]
  have k1 : t.val % 2 = 1 := (flush0_6 t).mp hf
  have k0 : ¬ t.val % 2 = 0 := by omega
  have e : (outsAt0 m c t.val t.isLt).1 = k0_pay11 (F := Ideal) (k0_pay6 (F := Ideal) (iblk m c 2 t) (prod m c t)) (k0_pay7 (F := Ideal) (iblk m c 2 t) (prod m c t))
        (k0_pay10 (F := Ideal) (iblk m c 2 t) (prod m c t) (iblk m c 3 t) (iblk m c 4 t) (iblk m c 5 t) (iblk m c 3 t)) := by
    by_cases k2 : t.val < 2
    · rw [prod, outsAt0_B m c t k0 k1 k2]; frame_out
    · rw [prod, outsAt0_C m c t k0 k1 k2]; frame_out
  rw [e]
  refine (dz_at m c h1 h2 h3 t k1 _).trans ?_
  blk_ext [idx t]

theorem final7 :
    (dats m 0 c).arrAt 7 cfg0.N = val_main_v83 (F := Ideal) (x m c) (act m c) (w m c) (g m c) (b m c) (tgt m c) := by
  refine (dats m 0 c).arrAt_eq_of_covers 7 _ (by decide +kernel) fun t hf y => ?_
  blk_simp
  rw [after0_7]
  have k1 : t.val % 2 = 1 := (flush0_7 t).mp hf
  have k0 : ¬ t.val % 2 = 0 := by omega
  have e : (outsAt0 m c t.val t.isLt).2.1 = k0_pay12 (F := Ideal) (k0_pay6 (F := Ideal) (iblk m c 2 t) (prod m c t)) (k0_pay7 (F := Ideal) (iblk m c 2 t) (prod m c t))
        (k0_pay10 (F := Ideal) (iblk m c 2 t) (prod m c t) (iblk m c 3 t) (iblk m c 4 t) (iblk m c 5 t) (iblk m c 3 t)) := by
    by_cases k2 : t.val < 2
    · rw [prod, outsAt0_B m c t k0 k1 k2]; frame_out
    · rw [prod, outsAt0_C m c t k0 k1 k2]; frame_out
  rw [e]
  refine Eq.trans (b := k0_pay11 (F := Ideal) (k0_pay6 (F := Ideal) (iblk m c 2 t) (prod m c t)) (k0_pay7 (F := Ideal) (iblk m c 2 t) (prod m c t))
        (k0_pay10 (F := Ideal) (iblk m c 2 t) (prod m c t) (iblk m c 3 t) (iblk m c 4 t) (iblk m c 5 t) (iblk m c 3 t)) _) rfl ?_
  refine (dz_at m c h1 h2 h3 t k1 _).trans ?_
  refine Eq.trans (b := val_main_v82 (F := Ideal) (x m c) (act m c) (w m c) (g m c) (b m c) (tgt m c) _) ?_ rfl
  blk_ext [idx t]

end

/-! ## The sums over the row blocks -/

/-- A quantity that grows by `S i` at the second point of row block `i` ends as the sum of the `S i`. -/
theorem sum_pairs (F : ∀ n, n < cfg0.N → EReal) (S : Fin 16 → EReal) (h0 : F 1 (by decide) = S 0)
    (hs : ∀ i (h : i + 1 < 16) (p : 2 * i + 3 < cfg0.N) (q : 2 * i + 1 < cfg0.N), F (2 * i + 3) p = F (2 * i + 1) q + S ⟨i + 1, h⟩)
    (n : ℕ) (hn : n = 31) (p : n < cfg0.N) : F n p = ∑ i, S i := by
  have key : ∀ n (h : n < 16) (p : 2 * n + 1 < cfg0.N), F (2 * n + 1) p = ∑ i : Fin (n + 1), S ⟨i.val, by omega⟩ := by
    intro n
    induction n with
    | zero => intro h p; rw [Fin.sum_univ_one]; exact h0
    | succ n ih =>
      intro h p
      rw [Fin.sum_univ_castSucc]
      refine (hs n h p (by omega)).trans ?_
      rw [ih (by omega) (by omega)]
      rfl
  subst hn
  exact key 15 (by decide) (by decide)

theorem last (t : Fin cfg0.N) (h : t.val % 32 = 31) : t.val = 31 := by
  have := row_lt t
  omega

theorem keep (c : Dev nD) (t : Fin cfg0.N) (h : t.val % 2 = 0) :
    (outsAt0 m c t.val t.isLt).2.2.1 = (outsAt0 m c (t.val - 1) (Nat.lt_of_le_of_lt (Nat.sub_le _ _) t.isLt)).2.2.1
    ∧ (outsAt0 m c t.val t.isLt).2.2.2.1 = (outsAt0 m c (t.val - 1) (Nat.lt_of_le_of_lt (Nat.sub_le _ _) t.isLt)).2.2.2.1
    ∧ (outsAt0 m c t.val t.isLt).2.2.2.2.1 = (outsAt0 m c (t.val - 1) (Nat.lt_of_le_of_lt (Nat.sub_le _ _) t.isLt)).2.2.2.2.1 := by
  have h1 : ¬ t.val % 2 = 1 := by omega
  refine ⟨?_, ?_, ?_⟩ <;> (rw [outsAt0_A m c t h h1]; rfl)

/-- The first block starts the three sums from zero. -/
theorem first (c : Dev nD) (t : Fin cfg0.N) (h : t.val % 2 = 1) (h2 : t.val < 2) :
    (outsAt0 m c t.val t.isLt).2.2.1 = k0_pay16 (F := Ideal) (k0_pay8 (F := Ideal) (iblk m c 2 t) (prod m c t) (iblk m c 3 t) (iblk m c 4 t) (iblk m c 5 t)) (k0_pay13 (F := Ideal))
    ∧ (outsAt0 m c t.val t.isLt).2.2.2.1 = k0_pay3 (F := Ideal) (k0_pay7 (F := Ideal) (iblk m c 2 t) (prod m c t)) (pull m c t) (k0_pay14 (F := Ideal))
    ∧ (outsAt0 m c t.val t.isLt).2.2.2.2.1 = k0_pay4 (F := Ideal) (pull m c t) (k0_pay15 (F := Ideal)) := by
  have h0 : ¬ t.val % 2 = 0 := by omega
  refine ⟨?_, ?_, ?_⟩ <;> (simp only [pull, prod]; rw [outsAt0_B m c t h0 h h2]; frame_out)

/-- A later block adds to what the grid point before left. -/
theorem add (c : Dev nD) (t : Fin cfg0.N) (h : t.val % 2 = 1) (h2 : ¬ t.val < 2) :
    (outsAt0 m c t.val t.isLt).2.2.1 = k0_pay16 (F := Ideal) (k0_pay8 (F := Ideal) (iblk m c 2 t) (prod m c t) (iblk m c 3 t) (iblk m c 4 t) (iblk m c 5 t)) (outsAt0 m c (t.val - 1) (Nat.lt_of_le_of_lt (Nat.sub_le _ _) t.isLt)).2.2.1
    ∧ (outsAt0 m c t.val t.isLt).2.2.2.1 = k0_pay3 (F := Ideal) (k0_pay7 (F := Ideal) (iblk m c 2 t) (prod m c t)) (pull m c t) (outsAt0 m c (t.val - 1) (Nat.lt_of_le_of_lt (Nat.sub_le _ _) t.isLt)).2.2.2.1
    ∧ (outsAt0 m c t.val t.isLt).2.2.2.2.1 = k0_pay4 (F := Ideal) (pull m c t) (outsAt0 m c (t.val - 1) (Nat.lt_of_le_of_lt (Nat.sub_le _ _) t.isLt)).2.2.2.2.1 := by
  have h0 : ¬ t.val % 2 = 0 := by omega
  refine ⟨?_, ?_, ?_⟩ <;> (simp only [pull, prod]; rw [outsAt0_C m c t h0 h h2]; frame_out)

/-- Every later block adds to what the block before left. -/
theorem later (c : Dev nD) (i : ℕ) (p : 2 * i + 3 < cfg0.N) (q : 2 * i + 1 < cfg0.N) :
    (outsAt0 m c (2 * i + 3) p).2.2.1 = k0_pay16 (F := Ideal) (k0_pay8 (F := Ideal) (iblk m c 2 ⟨2 * i + 3, p⟩) (prod m c ⟨2 * i + 3, p⟩) (iblk m c 3 ⟨2 * i + 3, p⟩) (iblk m c 4 ⟨2 * i + 3, p⟩) (iblk m c 5 ⟨2 * i + 3, p⟩)) (outsAt0 m c (2 * i + 1) q).2.2.1
    ∧ (outsAt0 m c (2 * i + 3) p).2.2.2.1 = k0_pay3 (F := Ideal) (k0_pay7 (F := Ideal) (iblk m c 2 ⟨2 * i + 3, p⟩) (prod m c ⟨2 * i + 3, p⟩)) (pull m c ⟨2 * i + 3, p⟩) (outsAt0 m c (2 * i + 1) q).2.2.2.1
    ∧ (outsAt0 m c (2 * i + 3) p).2.2.2.2.1 = k0_pay4 (F := Ideal) (pull m c ⟨2 * i + 3, p⟩) (outsAt0 m c (2 * i + 1) q).2.2.2.2.1 := by
  have h2 : (2 * i + 2) % 2 = 0 := by omega
  have h3 : (2 * i + 3) % 2 = 1 := by omega
  have k := keep m c ⟨2 * i + 2, by omega⟩ h2
  have e := add m c ⟨2 * i + 3, p⟩ h3 (by show ¬ 2 * i + 3 < 2; omega)
  exact ⟨e.1.trans (congrArg _ k.1), e.2.1.trans (congrArg _ k.2.1), e.2.2.trans (congrArg _ k.2.2)⟩

theorem half_of (i : ℕ) : (2 * i + 3) / 2 = i + 1 := by omega

theorem sum_loss (c : Dev nD) (t : Fin cfg0.N) (ht : t.val % 32 = 31) (y : S1x128.Idx) :
    ((outsAt0 m c t.val t.isLt).2.2.1 : FVec Ideal S1x128 .f32) y
    = ∑ i : Fin 16, half * (∑ r : Fin 512, ∑ k : Fin 1024, errs m c (at_ i r) k * errs m c (at_ i r) k) * tiny := by
  have grow : ∀ (t : Fin cfg0.N) (h : t.val % 2 = 1) (acc : FVec Ideal S1x128 .f32),
      k0_pay16 (F := Ideal) (k0_pay8 (F := Ideal) (iblk m c 2 t) (prod m c t) (iblk m c 3 t) (iblk m c 4 t) (iblk m c 5 t)) acc y
        = acc y + half * (∑ r : Fin 512, ∑ k : Fin 1024, errs m c (at_ ⟨t.val / 2, row_lt t⟩ r) k * errs m c (at_ ⟨t.val / 2, row_lt t⟩ r) k) * tiny := by
    intro t h acc
    refine (pay16_at _ _ _).trans (congrArg (fun z => acc y + half * z * tiny) (Finset.sum_congr rfl fun r _ => Finset.sum_congr rfl fun k _ => ?_))
    exact congrArg₂ (· * ·) (err_at m c t h (ix2 r k)) (err_at m c t h (ix2 r k))
  refine sum_pairs (fun n h => ((outsAt0 m c n h).2.2.1 : FVec Ideal S1x128 .f32) y) _ ?_ (fun i h p q => ?_) t.val (last t ht) t.isLt
  · refine (congrFun (first m c ⟨1, by decide⟩ (by decide) (by decide)).1 y).trans ((grow ⟨1, by decide⟩ (by decide) _).trans ?_)
    rw [pay13_at, zero_add]
    rfl
  · refine (congrFun (later m c i p q).1 y).trans ((grow ⟨2 * i + 3, p⟩ (by show (2 * i + 3) % 2 = 1; omega) _).trans ?_)
    simp only [half_of]

theorem sum_gain (c : Dev nD) (t : Fin cfg0.N) (ht : t.val % 32 = 31) (y : S1x1024.Idx) :
    ((outsAt0 m c t.val t.isLt).2.2.2.1 : FVec Ideal S1x1024 .f32) y
    = ∑ i : Fin 16, ∑ r : Fin 512, errs m c (at_ i r) (y 1) * tiny * xhat c1024 (pre (x m c) (act m c) (w m c) (at_ i r)) (y 1) := by
  have grow : ∀ (t : Fin cfg0.N) (h : t.val % 2 = 1) (acc : FVec Ideal S1x1024 .f32),
      k0_pay3 (F := Ideal) (k0_pay7 (F := Ideal) (iblk m c 2 t) (prod m c t)) (pull m c t) acc y
        = acc y + ∑ r : Fin 512, errs m c (at_ ⟨t.val / 2, row_lt t⟩ r) (y 1) * tiny
            * xhat c1024 (pre (x m c) (act m c) (w m c) (at_ ⟨t.val / 2, row_lt t⟩ r)) (y 1) := by
    intro t h acc
    refine (pay3_at _ _ _ _).trans (congrArg (fun z => acc y + z) (Finset.sum_congr rfl fun r _ => ?_))
    exact congrArg₂ (· * ·) (pull_at m c t h (ix2 r (y 1)))
      ((pay7_at _ _ _).trans (congrFun (congrArg (xhat c1024) (row_at m c t h r)) (y 1)))
  refine sum_pairs (fun n h => ((outsAt0 m c n h).2.2.2.1 : FVec Ideal S1x1024 .f32) y) _ ?_ (fun i h p q => ?_) t.val (last t ht) t.isLt
  · refine (congrFun (first m c ⟨1, by decide⟩ (by decide) (by decide)).2.1 y).trans ((grow ⟨1, by decide⟩ (by decide) _).trans ?_)
    rw [pay14_at, zero_add]
    rfl
  · refine (congrFun (later m c i p q).2.1 y).trans ((grow ⟨2 * i + 3, p⟩ (by show (2 * i + 3) % 2 = 1; omega) _).trans ?_)
    simp only [half_of]

theorem sum_shift (c : Dev nD) (t : Fin cfg0.N) (ht : t.val % 32 = 31) (y : S1x1024.Idx) :
    ((outsAt0 m c t.val t.isLt).2.2.2.2.1 : FVec Ideal S1x1024 .f32) y
    = ∑ i : Fin 16, ∑ r : Fin 512, errs m c (at_ i r) (y 1) * tiny := by
  have grow : ∀ (t : Fin cfg0.N) (h : t.val % 2 = 1) (acc : FVec Ideal S1x1024 .f32), k0_pay4 (F := Ideal) (pull m c t) acc y
        = acc y + ∑ r : Fin 512, errs m c (at_ ⟨t.val / 2, row_lt t⟩ r) (y 1) * tiny := by
    intro t h acc
    refine (pay4_at _ _ _).trans (congrArg (fun z => acc y + z) (Finset.sum_congr rfl fun r _ => ?_))
    exact pull_at m c t h (ix2 r (y 1))
  refine sum_pairs (fun n h => ((outsAt0 m c n h).2.2.2.2.1 : FVec Ideal S1x1024 .f32) y) _ ?_ (fun i h p q => ?_) t.val (last t ht) t.isLt
  · refine (congrFun (first m c ⟨1, by decide⟩ (by decide) (by decide)).2.2 y).trans ((grow ⟨1, by decide⟩ (by decide) _).trans ?_)
    rw [pay15_at, zero_add]
    rfl
  · refine (congrFun (later m c i p q).2.2 y).trans ((grow ⟨2 * i + 3, p⟩ (by show (2 * i + 3) % 2 = 1; omega) _).trans ?_)
    simp only [half_of]

section
variable (c : Dev nD) (h1 : ∀ i, IsReal (g m c i)) (h2 : ∀ i, IsReal (b m c i)) (h3 : ∀ i, IsReal (tgt m c i))
include h1 h2 h3

open Cert.Reference18Ideal.Read

/-- The loss, on every lane of its row. -/
theorem final8 :
    (dats m 0 c).arrAt 8 cfg0.N = val_main_v84 (F := Ideal) (x m c) (act m c) (w m c) (g m c) (b m c) (tgt m c) := by
  refine (dats m 0 c).arrAt_eq_of_covers 8 _ (by decide +kernel) fun t hf y => ?_
  blk_simp
  rw [after0_8]
  refine (sum_loss m c t ((flush0_8 t).mp hf) _).trans (Eq.trans ?_ (ref84_at _ _ _ _ _ _ _).symm)
  refine (loss_eq _ fun i r => IsReal.sum _ _ fun k => (errs_real m c h1 h2 h3 _ _).mul (errs_real m c h1 h2 h3 _ _)).trans ?_
  exact congrArg (half * ·) (Fin.sum_mul_add_congr fun s k hl => rfl)

/-- The gradient of the gain. -/
theorem final9 :
    (dats m 0 c).arrAt 9 cfg0.N = val_main_v85 (F := Ideal) (x m c) (act m c) (w m c) (g m c) (b m c) (tgt m c) := by
  refine (dats m 0 c).arrAt_eq_of_covers 9 _ (by decide +kernel) fun t hf y => ?_
  blk_simp
  rw [after0_9]
  refine (sum_gain m c t ((flush0_9 t).mp hf) _).trans (Eq.trans ?_ (ref85_at _ _ _ _ _ _ _).symm)
  have hc : ((win0_9.blk t).view.emb y 1 : Fin 1024) = y 1 := Fin.ext (by blk_simp [idx t])
  refine Fin.sum_mul_add_congr fun s k hl => ?_
  refine ((congrArg (· * _) (ct_eq _ (errs_real m c h1 h2 h3 _ _))).trans (mul_comm _ _)).trans ?_
  exact congrArg (fun j : Fin 1024 => xhat c1024 (pre (x m c) (act m c) (w m c) (at_ s k)) j * back (errs m c (at_ s k) j)) hc.symm

/-- The gradient of the shift. -/
theorem final10 :
    (dats m 0 c).arrAt 10 cfg0.N = val_main_v86 (F := Ideal) (x m c) (act m c) (w m c) (g m c) (b m c) (tgt m c) := by
  refine (dats m 0 c).arrAt_eq_of_covers 10 _ (by decide +kernel) fun t hf y => ?_
  blk_simp
  rw [after0_10]
  refine (sum_shift m c t ((flush0_10 t).mp hf) _).trans (Eq.trans ?_ (ref86_at _ _ _ _ _ _ _).symm)
  have hc : ((win0_10.blk t).view.emb y 1 : Fin 1024) = y 1 := Fin.ext (by blk_simp [idx t])
  refine Fin.sum_mul_add_congr fun s k hl => ?_
  refine (ct_eq _ (errs_real m c h1 h2 h3 _ _)).trans ?_
  exact congrArg (fun j : Fin 1024 => back (errs m c (at_ s k) j)) hc.symm

end

end Cert.FfnOutLoss
-- ==== Proof.FfnOutLn.lean ====
/- The first feed-forward's output projection and its layer norm: the accumulated product, scaled and added to the
   scaled rows, is the reference's, and so is its normalised form. -/
module

public import proofs.«01_k».proof.Proof.Gen.Kernel19Ideal.Frame
public import proofs.«01_k».proof.Proof.Gen.Reference19Ideal.Read
public import Idealize.ShloMosaic.Lib.Pipeline.ValueKit
public import Idealize.ShloMosaic.Lib.Claim
public import Idealize.ShloMosaic.Lib.Pipeline.ReadBack
public import proofs.«01_k».proof.Proof.Reals
public import proofs.«01_k».proof.Proof.Norm
@[expose] public section

set_option maxRecDepth 16384

noncomputable section

open Idealize.ShloMosaic Idealize.ShloMosaic.TcCoe Idealize.SL.Sem
open Idealize.ShloMosaic.Pipeline (Dat)

namespace Cert.FfnOutLn

open Cert.Kernel19Ideal Cert.Kernel19Ideal.Gen Cert.Reals Cert.Norm

variable (m : (ℓ : Loc nD τ sig) → Buf (Elt Ideal) ℓ)

/-- Grid point `t = 2·i + k` takes row block `i` and column blocks `2·k` and `2·k + 1` of the hidden units. -/
theorem idx : ∀ t : Fin cfg0.N, win0_0.index t = ![t.val % 2, t.val / 2, 0] ∧ win0_1.index t = ![t.val % 2, 0]
    ∧ win0_2.index t = ![t.val / 2, 0] ∧ win0_3.index t = ![0, 0] ∧ win0_4.index t = ![0, 0] ∧ win0_5.index t = ![t.val / 2, 0]
    ∧ win0_6.index t = ![t.val / 2, 0] ∧ win0_7.index t = ![t.val / 2, 0] ∧ t.val / 2 < 16 :=
  (by decide +kernel : ∀ t : Fin grid0.N, _)

/-- The argument arrays of device `c`: the residual rows, the hidden units, the weight, the gain and the shift. -/
abbrev x (c : Dev nD) : FVec Ideal S8192x1024 .f32 := m ((c : Thread nD τ).loc main_arg0)
abbrev act (c : Dev nD) : FVec Ideal S8192x2816 .f32 := m ((c : Thread nD τ).loc main_arg1)
abbrev w (c : Dev nD) : FVec Ideal S2816x1024 .f32 := m ((c : Thread nD τ).loc main_arg2)
abbrev g (c : Dev nD) : FVec Ideal S1024 .f32 := m ((c : Thread nD τ).loc main_arg3)
abbrev b (c : Dev nD) : FVec Ideal S1024 .f32 := m ((c : Thread nD τ).loc main_arg4)

theorem act_at (c : Dev nD) (y : S4x8192x704.Idx) : (V m c main_v2 : FVec Ideal S4x8192x704 .bf16) y
    = act m c (ix2 (y 1) ⟨(y 0).val * 704 + (y 2).val, by idx_bounds; omega⟩) := by
  entry_read
  pointwise

theorem w_at (c : Dev nD) (y : S2816x1024.Idx) : (V m c main_v3 : FVec Ideal S2816x1024 .bf16) y = w m c y := by
  entry_read
  pointwise

theorem g_at (c : Dev nD) (y : S1x1024.Idx) : (V m c main_v4 : FVec Ideal S1x1024 .f32) y = g m c (ix1 (y 1)) := by
  entry_read
  pointwise

theorem b_at (c : Dev nD) (y : S1x1024.Idx) : (V m c main_v5 : FVec Ideal S1x1024 .f32) y = b m c (ix1 (y 1)) := by
  entry_read
  pointwise

theorem blk0_at (c : Dev nD) (t : Fin cfg0.N) (y : S2x512x704.Idx) : (iblk m c 0 t : FVec Ideal S2x512x704 .bf16) y
    = act m c (ix2 ⟨t.val / 2 * 512 + (y 1).val, by have := (idx t).2.2.2.2.2.2.2.2; idx_bounds; omega⟩
        ⟨(t.val % 2 * 2 + (y 0).val) * 704 + (y 2).val, by idx_bounds; omega⟩) := by
  blk_simp [iblk]
  refine (act_at m c _).trans ?_
  blk_ext [idx t]

theorem blk1_at (c : Dev nD) (t : Fin cfg0.N) (y : S1408x1024.Idx) : (iblk m c 1 t : FVec Ideal S1408x1024 .bf16) y
    = w m c (ix2 ⟨t.val % 2 * 1408 + (y 0).val, by idx_bounds; omega⟩ (y 1)) := by
  blk_simp [iblk]
  refine (w_at m c _).trans ?_
  blk_ext [idx t]

theorem blk2_at (c : Dev nD) (t : Fin cfg0.N) (y : S512x1024.Idx) : (iblk m c 2 t : FVec Ideal S512x1024 .f32) y
    = x m c (ix2 ⟨t.val / 2 * 512 + (y 0).val, by have := (idx t).2.2.2.2.2.2.2.2; idx_bounds; omega⟩ (y 1)) := by
  blk_simp [iblk]
  blk_ext [idx t]

theorem blk3_at (c : Dev nD) (t : Fin cfg0.N) (y : S1x1024.Idx) : (iblk m c 3 t : FVec Ideal S1x1024 .f32) y
    = g m c (ix1 (y 1)) := by
  blk_simp [iblk]
  refine (g_at m c _).trans ?_
  blk_ext [idx t]

theorem blk4_at (c : Dev nD) (t : Fin cfg0.N) (y : S1x1024.Idx) : (iblk m c 4 t : FVec Ideal S1x1024 .f32) y
    = b m c (ix1 (y 1)) := by
  blk_simp [iblk]
  refine (b_at m c _).trans ?_
  blk_ext [idx t]

/-! ## The values the kernel writes, read at an index -/

/-- The printed f32 literal for the fourth root of two, and one half. -/
abbrev alpha : EReal := Ideal.ofBits FTy.f32 1066940400#32

theorem pay1_at (y : S512x1024.Idx) : k0_pay1 (F := Ideal) y = 0 := by
  pointwise [k0_pay1]

theorem pay2_at (acc : FVec Ideal S512x1024 .f32) (a : FVec Ideal S1x512x704 .bf16) (p : FVec Ideal S704x1024 .bf16)
    (a' : FVec Ideal S1x512x704 .bf16) (p' : FVec Ideal S704x1024 .bf16) (y : S512x1024.Idx) :
    k0_pay2 (F := Ideal) acc a p a' p' y = acc y + ((∑ k : Fin 704, a (ix3 0 (y 0) k) * p (ix2 k (y 1)))
      + ∑ k : Fin 704, a' (ix3 0 (y 0) k) * p' (ix2 k (y 1))) := by
  pointwise [k0_pay2]

theorem pay3_at (u v : FVec Ideal S512x1024 .f32) (y : S512x1024.Idx) :
    k0_pay3 (F := Ideal) u v y = alpha * u y + half * v y := by
  pointwise [k0_pay3]

theorem pay4_at (u v : FVec Ideal S512x1024 .f32) (p q : FVec Ideal S1x1024 .f32) (y : S512x1024.Idx) :
    k0_pay4 (F := Ideal) u v p q y
      = xhat c1024 (fun k => alpha * u (ix2 (y 0) k) + half * v (ix2 (y 0) k)) (y 1) * p (ix2 0 (y 1)) + q (ix2 0 (y 1)) := by
  pointwise [k0_pay4, pay3_at, xhat, rstd, var, ctr, mean]

/-- The row that is normalised: the scaled residual plus half the product. -/
def pre (x : FVec Ideal S8192x1024 .f32) (a : FVec Ideal S8192x2816 .f32) (w : FVec Ideal S2816x1024 .f32) (r : Fin 8192) (k : Fin 1024) : EReal :=
  alpha * x (ix2 r k) + half * ∑ l : Fin 2816, a (ix2 r l) * w (ix2 l k)

section
open Cert.Reference19Ideal.Read

variable (x0 : FVec Ideal S8192x1024 .f32) (x1 : FVec Ideal S8192x2816 .f32) (x2 : FVec Ideal S2816x1024 .f32)
    (x3 x4 : FVec Ideal S1024 .f32)

theorem ref5_at (y : S8192x1024.Idx) : val_main_v5 (F := Ideal) x0 x1 x2 y = pre x0 x1 x2 (y 0) (y 1) := by
  rw [← val_main_v5_eq]
  pointwise [pre]

theorem ref18_at (y : S8192x1024.Idx) :
    val_main_v18 (F := Ideal) x0 x1 x2 y = ctr c1024 (pre x0 x1 x2 (y 0)) (y 1) := by
  pointwise [val_main_v18, val_main_v17, val_main_v9, val_main_v8, val_main_cst_2, val_main_v7, val_main_v6, val_main_cst_1,
    ref5_at, ctr, mean]

theorem ref21_at (y : Cert.Reference19Ideal.S8192x1.Idx) :
    val_main_v21 (F := Ideal) x0 x1 x2 y = rstd c1024 (pre x0 x1 x2 (y 0)) := by
  have e : val_main_v11 (F := Ideal) x0 x1 x2 = val_main_v18 x0 x1 x2 := rfl
  pointwise [val_main_v21, val_main_v20, val_main_v19, val_main_cst_5, val_main_v16, val_main_v15, val_main_cst_4, val_main_v14,
    val_main_v13, val_main_cst_3, val_main_v12, e, ref18_at, rstd, var, mean]

theorem ref29_at (y : S8192x1024.Idx) : val_main_v29 (F := Ideal) x0 x1 x2 x3 x4 y
    = xhat c1024 (pre x0 x1 x2 (y 0)) (y 1) * x3 (ix1 (y 1)) + x4 (ix1 (y 1)) := by
  pointwise [val_main_v29, val_main_v28, val_main_v27, val_main_v26, val_main_v25, val_main_v24, val_main_v23, val_main_v22,
    ref18_at, ref21_at, xhat]

end

/-! ## The accumulated product -/

theorem step_at (c : Dev nD) (t : Fin cfg0.N) (acc : FVec Ideal S512x1024 .f32) (y : S512x1024.Idx) :
    k0_pay2 (F := Ideal) acc (View.ld (iblk m c 0 t) (Rect.unit ![0, 0, 0] ![1, 512, 704] inb_S2x512x704_S1x512x704_0_0_0))
      (View.ld (iblk m c 1 t) (Rect.unit ![0, 0] ![704, 1024] inb_S1408x1024_S704x1024_0_0))
      (View.ld (iblk m c 0 t) (Rect.unit ![1, 0, 0] ![1, 512, 704] inb_S2x512x704_S1x512x704_1_0_0))
      (View.ld (iblk m c 1 t) (Rect.unit ![704, 0] ![704, 1024] inb_S1408x1024_S704x1024_704_0)) y
      = acc y + ∑ l : Fin 1408, act m c (ix2 ⟨t.val / 2 * 512 + (y 0).val, by have := (idx t).2.2.2.2.2.2.2.2; idx_bounds; omega⟩
            ⟨t.val % 2 * 1408 + l.val, by have := l.isLt; omega⟩)
          * w m c (ix2 ⟨t.val % 2 * 1408 + l.val, by have := l.isLt; omega⟩ (y 1)) := by
  refine (pay2_at _ _ _ _ _ _).trans (congrArg (acc y + ·) ?_)
  have e0 : ∀ k : Fin 704, View.ld (iblk m c 0 t) (Rect.unit ![0, 0, 0] ![1, 512, 704] inb_S2x512x704_S1x512x704_0_0_0) (ix3 0 (y 0) k)
      = (iblk m c 0 t : FVec Ideal S2x512x704 .bf16) (ix3 0 (y 0) k) := fun k => by pointwise
  have e1 : ∀ k : Fin 704, View.ld (iblk m c 0 t) (Rect.unit ![1, 0, 0] ![1, 512, 704] inb_S2x512x704_S1x512x704_1_0_0) (ix3 0 (y 0) k)
      = (iblk m c 0 t : FVec Ideal S2x512x704 .bf16) (ix3 1 (y 0) k) := fun k => by pointwise
  have f0 : ∀ k : Fin 704, View.ld (iblk m c 1 t) (Rect.unit ![0, 0] ![704, 1024] inb_S1408x1024_S704x1024_0_0) (ix2 k (y 1))
      = (iblk m c 1 t : FVec Ideal S1408x1024 .bf16) (ix2 ⟨k.val, by omega⟩ (y 1)) := fun k => by pointwise
  have f1 : ∀ k : Fin 704, View.ld (iblk m c 1 t) (Rect.unit ![704, 0] ![704, 1024] inb_S1408x1024_S704x1024_704_0) (ix2 k (y 1))
      = (iblk m c 1 t : FVec Ideal S1408x1024 .bf16) (ix2 ⟨704 + k.val, by omega⟩ (y 1)) := fun k => by pointwise
  simp only [e0, e1, f0, f1, blk0_at, blk1_at]
  refine Eq.trans (congrArg₂ (· + ·) (Finset.sum_congr rfl fun k _ => ?_) (Finset.sum_congr rfl fun k _ => ?_))
    (Fin.sum_univ_add (a := 704) (b := 704) fun l : Fin 1408 => act m c (ix2 ⟨t.val / 2 * 512 + (y 0).val, by
        have := (idx t).2.2.2.2.2.2.2.2; idx_bounds; omega⟩ ⟨t.val % 2 * 1408 + l.val, by have := l.isLt; omega⟩)
      * w m c (ix2 ⟨t.val % 2 * 1408 + l.val, by have := l.isLt; omega⟩ (y 1))).symm
  · refine congrArg₂ (· * ·) (congrArg (act m c) (congrArg₂ ix2 rfl (Fin.ext ?_))) (congrArg (w m c) (congrArg₂ ix2 (Fin.ext ?_) rfl))
    · show (t.val % 2 * 2 + 0) * 704 + k.val = t.val % 2 * 1408 + k.val
      omega
    · rfl
  · refine congrArg₂ (· * ·) (congrArg (act m c) (congrArg₂ ix2 rfl (Fin.ext ?_))) (congrArg (w m c) (congrArg₂ ix2 (Fin.ext ?_) rfl))
    · show (t.val % 2 * 2 + 1) * 704 + k.val = t.val % 2 * 1408 + (704 + k.val)
      omega
    · rfl

theorem acc_at (c : Dev nD) (t : Fin cfg0.N) (h : t.val % 2 = 1) (y : S512x1024.Idx) :
    ((outsAt0 m c t.val t.isLt).2.2.2 : FVec Ideal S512x1024 .f32) y
      = ∑ l : Fin 2816, act m c (ix2 ⟨t.val / 2 * 512 + (y 0).val, by have := (idx t).2.2.2.2.2.2.2.2; idx_bounds; omega⟩ l)
          * w m c (ix2 l (y 1)) := by
  rw [Pipeline.eq_sum_fin_of_reset_step_apply_of_flush (fun n h => ((outsAt0 m c n h).2.2.2 : FVec Ideal S512x1024 .f32)) 2 (fun _ => 0)
    (fun t y => ∑ l : Fin 1408, act m c (ix2 ⟨t.val / 2 * 512 + (y 0).val, by have := (idx t).2.2.2.2.2.2.2.2; idx_bounds; omega⟩
            ⟨t.val % 2 * 1408 + l.val, by have := l.isLt; omega⟩)
          * w m c (ix2 ⟨t.val % 2 * 1408 + l.val, by have := l.isLt; omega⟩ (y 1)))
    (fun t h y => by
      have h1 : ¬ t.val % 2 = 1 := by omega
      rw [outsAt0_A m c t h h1]; frame_out
      refine (step_at m c t _ _).trans ?_
      rw [pay1_at])
    (fun t h y => by
      have h1 : t.val % 2 = 1 := by omega
      rw [outsAt0_B m c t h h1]; frame_out
      simp only [read_unread_whole]
      exact step_at m c t _ _)
    t h y, zero_add]
  refine Fin.sum_mul_add_congr fun s k hl => ?_
  refine congrArg₂ (· * ·) (congrArg (act m c) (congrArg₂ ix2 (Fin.ext ?_) (Fin.ext ?_))) (congrArg (w m c) (congrArg₂ ix2 (Fin.ext ?_) rfl))
  all_goals (dsimp only; omega)

/-! ## The result arrays -/

open Cert.Reference19Ideal.Read

theorem pre_at (c : Dev nD) (t : Fin cfg0.N) (h : t.val % 2 = 1) (y : S512x1024.Idx) :
    alpha * (iblk m c 2 t : FVec Ideal S512x1024 .f32) y
        + half * ((outsAt0 m c t.val t.isLt).2.2.2 : FVec Ideal S512x1024 .f32) y
      = pre (x m c) (act m c) (w m c)
          ⟨t.val / 2 * 512 + (y 0).val, by have := (idx t).2.2.2.2.2.2.2.2; idx_bounds; omega⟩ (y 1) := by
  rw [blk2_at, acc_at m c t h]; rfl

/-- The row before its normalisation. -/
theorem final7 (c : Dev nD) :
    (dats m 0 c).arrAt 7 cfg0.N = val_main_v5 (F := Ideal) (x m c) (act m c) (w m c) := by
  refine (dats m 0 c).arrAt_eq_of_covers 7 _ (by decide +kernel) fun t hf y => ?_
  blk_simp
  rw [after0_7]
  have h1 : t.val % 2 = 1 := (flush0_7 t).mp hf
  have h0 : ¬ t.val % 2 = 0 := by omega
  have e : (outsAt0 m c t.val t.isLt).2.2.1 = k0_pay3 (F := Ideal) (iblk m c 2 t) (outsAt0 m c t.val t.isLt).2.2.2 := by
    rw [outsAt0_B m c t h0 h1]; frame_out
  rw [e]
  refine (pay3_at _ _ _).trans (Eq.trans ?_ (ref5_at _ _ _ _).symm)
  refine (pre_at m c t h1 y).trans ?_
  refine congrArg₂ (pre (x m c) (act m c) (w m c)) (Fin.ext ?_) (Fin.ext ?_)
  all_goals blk_simp [idx t]

theorem out_at (c : Dev nD) (t : Fin cfg0.N) (h : t.val % 2 = 1) (y : S512x1024.Idx) :
    k0_pay4 (F := Ideal) (iblk m c 2 t) (outsAt0 m c t.val t.isLt).2.2.2 (iblk m c 3 t) (iblk m c 4 t) y
      = val_main_v29 (F := Ideal) (x m c) (act m c) (w m c) (g m c) (b m c)
          (ix2 ⟨t.val / 2 * 512 + (y 0).val, by have := (idx t).2.2.2.2.2.2.2.2; idx_bounds; omega⟩ (y 1)) := by
  refine (pay4_at _ _ _ _ _).trans (Eq.trans ?_ (ref29_at _ _ _ _ _ _).symm)
  rw [funext fun k => pre_at m c t h (ix2 (y 0) k), blk3_at, blk4_at]
  rfl

/-- The normalised row. -/
theorem final5 (c : Dev nD) :
    (dats m 0 c).arrAt 5 cfg0.N = val_main_v29 (F := Ideal) (x m c) (act m c) (w m c) (g m c) (b m c) := by
  refine (dats m 0 c).arrAt_eq_of_covers 5 _ (by decide +kernel) fun t hf y => ?_
  blk_simp
  rw [after0_5]
  have h1 : t.val % 2 = 1 := (flush0_5 t).mp hf
  have h0 : ¬ t.val % 2 = 0 := by omega
  have e : (outsAt0 m c t.val t.isLt).1
      = k0_pay4 (F := Ideal) (iblk m c 2 t) (outsAt0 m c t.val t.isLt).2.2.2 (iblk m c 3 t) (iblk m c 4 t) := by
    rw [outsAt0_B m c t h0 h1]; frame_out
  rw [e]
  refine (out_at m c t h1 _).trans ?_
  blk_ext [idx t]

theorem final6 (c : Dev nD) :
    (dats m 0 c).arrAt 6 cfg0.N = val_main_v30 (F := Ideal) (x m c) (act m c) (w m c) (g m c) (b m c) := by
  refine (dats m 0 c).arrAt_eq_of_covers 6 _ (by decide +kernel) fun t hf y => ?_
  blk_simp
  rw [after0_6]
  have h1 : t.val % 2 = 1 := (flush0_6 t).mp hf
  have h0 : ¬ t.val % 2 = 0 := by omega
  have e : (outsAt0 m c t.val t.isLt).2.1
      = k0_pay5 (F := Ideal) (iblk m c 2 t) (outsAt0 m c t.val t.isLt).2.2.2 (iblk m c 3 t) (iblk m c 4 t) := by
    rw [outsAt0_B m c t h0 h1]; frame_out
  rw [e]
  refine Eq.trans (b := k0_pay4 (F := Ideal) (iblk m c 2 t) (outsAt0 m c t.val t.isLt).2.2.2 (iblk m c 3 t) (iblk m c 4 t) _) rfl ?_
  refine (out_at m c t h1 _).trans ?_
  refine Eq.trans (b := val_main_v29 (F := Ideal) (x m c) (act m c) (w m c) (g m c) (b m c) _) ?_ rfl
  blk_ext [idx t]

end Cert.FfnOutLn
-- ==== Proof.MixOutLn.lean ====
/- The mixer's output projection and its layer norm: the accumulated product, added to the scaled rows, is the
   reference's, and so is its normalised form. -/
module

public import proofs.«01_k».proof.Proof.Gen.Kernel20Ideal.Frame
public import proofs.«01_k».proof.Proof.Gen.Reference20Ideal.Read
public import Idealize.ShloMosaic.Lib.Pipeline.ValueKit
public import Idealize.ShloMosaic.Lib.Claim
public import Idealize.ShloMosaic.Lib.Pipeline.ReadBack
public import proofs.«01_k».proof.Proof.Reals
public import proofs.«01_k».proof.Proof.Norm
@[expose] public section

set_option maxRecDepth 16384

noncomputable section

open Idealize.ShloMosaic Idealize.ShloMosaic.TcCoe Idealize.SL.Sem
open Idealize.ShloMosaic.Pipeline (Dat)

namespace Cert.MixOutLn

open Cert.Kernel20Ideal Cert.Kernel20Ideal.Gen Cert.Reals Cert.Norm

variable (m : (ℓ : Loc nD τ sig) → Buf (Elt Ideal) ℓ)

/-- Grid point `t = 2·i + k` takes row block `i` and column block `k` of the joined branches. -/
theorem idx : ∀ t : Fin cfg0.N, win0_0.index t = ![t.val / 2, t.val % 2] ∧ win0_1.index t = ![t.val % 2, 0]
    ∧ win0_2.index t = ![t.val / 2, 0] ∧ win0_3.index t = ![0, 0] ∧ win0_4.index t = ![0, 0] ∧ win0_5.index t = ![t.val / 2, 0]
    ∧ win0_6.index t = ![t.val / 2, 0] ∧ win0_7.index t = ![t.val / 2, 0] ∧ t.val / 2 < 16 :=
  (by decide +kernel : ∀ t : Fin grid0.N, _)

/-- The argument arrays of device `c`: the residual rows, the two branches, the weight, the gain and the shift. -/
abbrev x (c : Dev nD) : FVec Ideal S8192x1024 .f32 := m ((c : Thread nD τ).loc main_arg0)
abbrev yr (c : Dev nD) : FVec Ideal S8192x512 .f32 := m ((c : Thread nD τ).loc main_arg1)
abbrev yc (c : Dev nD) : FVec Ideal S8192x512 .f32 := m ((c : Thread nD τ).loc main_arg2)
abbrev w (c : Dev nD) : FVec Ideal S1024x1024 .f32 := m ((c : Thread nD τ).loc main_arg3)
abbrev g (c : Dev nD) : FVec Ideal S1024 .f32 := m ((c : Thread nD τ).loc main_arg4)
abbrev b (c : Dev nD) : FVec Ideal S1024 .f32 := m ((c : Thread nD τ).loc main_arg5)

/-- The two branches joined, as the reference joins them. -/
abbrev act (c : Dev nD) : FVec Ideal S8192x1024 .f32 := Cert.Reference20Ideal.Read.val_main_v2 (F := Ideal) (yr m c) (yc m c)

theorem act_at (c : Dev nD) (y : S8192x1024.Idx) : (V m c main_v2 : FVec Ideal S8192x1024 .bf16) y = act m c y := by
  entry_read
  rfl

theorem w_at (c : Dev nD) (y : S1024x1024.Idx) : (V m c main_v3 : FVec Ideal S1024x1024 .bf16) y = w m c y := by
  entry_read
  pointwise

theorem g_at (c : Dev nD) (y : S1x1024.Idx) : (V m c main_v4 : FVec Ideal S1x1024 .f32) y = g m c (ix1 (y 1)) := by
  entry_read
  pointwise

theorem b_at (c : Dev nD) (y : S1x1024.Idx) : (V m c main_v5 : FVec Ideal S1x1024 .f32) y = b m c (ix1 (y 1)) := by
  entry_read
  pointwise

theorem blk0_at (c : Dev nD) (t : Fin cfg0.N) (y : S512x512.Idx) : (iblk m c 0 t : FVec Ideal S512x512 .bf16) y
    = act m c (ix2 ⟨t.val / 2 * 512 + (y 0).val, by have := (idx t).2.2.2.2.2.2.2.2; idx_bounds; omega⟩
        ⟨t.val % 2 * 512 + (y 1).val, by idx_bounds; omega⟩) := by
  blk_simp [iblk]
  refine (act_at m c _).trans ?_
  blk_ext [idx t]

theorem blk1_at (c : Dev nD) (t : Fin cfg0.N) (y : S512x1024.Idx) : (iblk m c 1 t : FVec Ideal S512x1024 .bf16) y
    = w m c (ix2 ⟨t.val % 2 * 512 + (y 0).val, by idx_bounds; omega⟩ (y 1)) := by
  blk_simp [iblk]
  refine (w_at m c _).trans ?_
  blk_ext [idx t]

theorem blk2_at (c : Dev nD) (t : Fin cfg0.N) (y : S512x1024.Idx) : (iblk m c 2 t : FVec Ideal S512x1024 .f32) y
    = x m c (ix2 ⟨t.val / 2 * 512 + (y 0).val, by have := (idx t).2.2.2.2.2.2.2.2; idx_bounds; omega⟩ (y 1)) := by
  blk_simp [iblk]
  blk_ext [idx t]

theorem blk3_at (c : Dev nD) (t : Fin cfg0.N) (y : S1x1024.Idx) : (iblk m c 3 t : FVec Ideal S1x1024 .f32) y
    = g m c (ix1 (y 1)) := by
  blk_simp [iblk]
  refine (g_at m c _).trans ?_
  blk_ext [idx t]

theorem blk4_at (c : Dev nD) (t : Fin cfg0.N) (y : S1x1024.Idx) : (iblk m c 4 t : FVec Ideal S1x1024 .f32) y
    = b m c (ix1 (y 1)) := by
  blk_simp [iblk]
  refine (b_at m c _).trans ?_
  blk_ext [idx t]

/-! ## The values the kernel writes, read at an index -/

/-- The printed f32 literal for the fourth root of two. -/
abbrev alpha : EReal := Ideal.ofBits FTy.f32 1066940400#32

theorem pay1_at (y : S512x1024.Idx) : k0_pay1 (F := Ideal) y = 0 := by
  pointwise [k0_pay1]

theorem pay2_at (acc : FVec Ideal S512x1024 .f32) (a : FVec Ideal S512x512 .bf16) (p : FVec Ideal S512x1024 .bf16)
    (y : S512x1024.Idx) : k0_pay2 (F := Ideal) acc a p y = acc y + ∑ k : Fin 512, a (ix2 (y 0) k) * p (ix2 k (y 1)) := by
  pointwise [k0_pay2]

/-- The printed factor of the product is one. -/
theorem unit_eq : Ideal.ofBits FTy.f32 1065353216#32 = 1 := by simp [Ideal.ofBits, Ideal.ieee, -EReal.coe_mul]; norm_num

theorem pay3_at (u v : FVec Ideal S512x1024 .f32) (y : S512x1024.Idx) :
    k0_pay3 (F := Ideal) u v y = alpha * u y + v y := by
  pointwise [k0_pay3, unit_eq, one_mul]

theorem pay4_at (u v : FVec Ideal S512x1024 .f32) (p q : FVec Ideal S1x1024 .f32) (y : S512x1024.Idx) :
    k0_pay4 (F := Ideal) u v p q y
      = xhat c1024 (fun k => alpha * u (ix2 (y 0) k) + v (ix2 (y 0) k)) (y 1) * p (ix2 0 (y 1)) + q (ix2 0 (y 1)) := by
  pointwise [k0_pay4, pay3_at, xhat, rstd, var, ctr, mean]

/-- The row that is normalised: the scaled residual plus the product. -/
def pre (x : FVec Ideal S8192x1024 .f32) (a : FVec Ideal S8192x1024 .f32) (w : FVec Ideal S1024x1024 .f32) (r : Fin 8192) (k : Fin 1024) : EReal :=
  alpha * x (ix2 r k) + ∑ l : Fin 1024, a (ix2 r l) * w (ix2 l k)

section
open Cert.Reference20Ideal.Read

variable (x0 : FVec Ideal S8192x1024 .f32) (p q : FVec Ideal S8192x512 .f32) (x2 : FVec Ideal S1024x1024 .f32)
    (x3 x4 : FVec Ideal S1024 .f32)

theorem ref4_at (y : S8192x1024.Idx) : val_main_v4 (F := Ideal) x0 p q x2 y = pre x0 (val_main_v2 (F := Ideal) p q) x2 (y 0) (y 1) := by
  have e : val_main_v3 (F := Ideal) p q x2 y = ∑ l : Fin 1024, val_main_v2 (F := Ideal) p q (ix2 (y 0) l) * x2 (ix2 l (y 1)) := by
    refine (val_main_v3_apply p q x2 y).trans (Finset.sum_congr rfl fun l _ => congrArg₂ (· * ·) (congrArg _ ?_) (congrArg _ ?_))
    all_goals (funext i; fin_cases i <;> rfl)
  have f : val_main_v1 (F := Ideal) x0 y = alpha * x0 (ix2 (y 0) (y 1)) := by pointwise [val_main_v1, val_main_v0, val_main_cst]
  exact congrArg₂ (· + ·) f e

theorem ref17_at (y : S8192x1024.Idx) :
    val_main_v17 (F := Ideal) x0 p q x2 y = ctr c1024 (pre x0 (val_main_v2 (F := Ideal) p q) x2 (y 0)) (y 1) := by
  pointwise [val_main_v17, val_main_v16, val_main_v8, val_main_v7, val_main_cst_1, val_main_v6, val_main_v5, val_main_cst_0,
    ref4_at, ctr, mean]

theorem ref20_at (y : Cert.Reference20Ideal.S8192x1.Idx) :
    val_main_v20 (F := Ideal) x0 p q x2 y = rstd c1024 (pre x0 (val_main_v2 (F := Ideal) p q) x2 (y 0)) := by
  have e : val_main_v10 (F := Ideal) x0 p q x2 = val_main_v17 x0 p q x2 := rfl
  pointwise [val_main_v20, val_main_v19, val_main_v18, val_main_cst_4, val_main_v15, val_main_v14, val_main_cst_3, val_main_v13,
    val_main_v12, val_main_cst_2, val_main_v11, e, ref17_at, rstd, var, mean]

theorem ref28_at (y : S8192x1024.Idx) : val_main_v28 (F := Ideal) x0 p q x2 x3 x4 y
    = xhat c1024 (pre x0 (val_main_v2 (F := Ideal) p q) x2 (y 0)) (y 1) * x3 (ix1 (y 1)) + x4 (ix1 (y 1)) := by
  pointwise [val_main_v28, val_main_v27, val_main_v26, val_main_v25, val_main_v24, val_main_v23, val_main_v22, val_main_v21,
    ref17_at, ref20_at, xhat]

end

/-! ## The accumulated product -/

theorem step_at (c : Dev nD) (t : Fin cfg0.N) (acc : FVec Ideal S512x1024 .f32) (y : S512x1024.Idx) :
    k0_pay2 (F := Ideal) acc (iblk m c 0 t) (iblk m c 1 t) y
      = acc y + ∑ l : Fin 512, act m c (ix2 ⟨t.val / 2 * 512 + (y 0).val, by have := (idx t).2.2.2.2.2.2.2.2; idx_bounds; omega⟩
            ⟨t.val % 2 * 512 + l.val, by have := l.isLt; omega⟩)
          * w m c (ix2 ⟨t.val % 2 * 512 + l.val, by have := l.isLt; omega⟩ (y 1)) := by
  refine (pay2_at _ _ _ _).trans (congrArg (acc y + ·) ?_)
  simp only [blk0_at, blk1_at]
  rfl

theorem acc_at (c : Dev nD) (t : Fin cfg0.N) (h : t.val % 2 = 1) (y : S512x1024.Idx) :
    ((outsAt0 m c t.val t.isLt).2.2.2 : FVec Ideal S512x1024 .f32) y
      = ∑ l : Fin 1024, act m c (ix2 ⟨t.val / 2 * 512 + (y 0).val, by have := (idx t).2.2.2.2.2.2.2.2; idx_bounds; omega⟩ l)
          * w m c (ix2 l (y 1)) := by
  rw [Pipeline.eq_sum_fin_of_reset_step_apply_of_flush (fun n h => ((outsAt0 m c n h).2.2.2 : FVec Ideal S512x1024 .f32)) 2 (fun _ => 0)
    (fun t y => ∑ l : Fin 512, act m c (ix2 ⟨t.val / 2 * 512 + (y 0).val, by have := (idx t).2.2.2.2.2.2.2.2; idx_bounds; omega⟩
            ⟨t.val % 2 * 512 + l.val, by have := l.isLt; omega⟩)
          * w m c (ix2 ⟨t.val % 2 * 512 + l.val, by have := l.isLt; omega⟩ (y 1)))
    (fun t h y => by
      have h1 : ¬ t.val % 2 = 1 := by omega
      rw [outsAt0_A m c t h h1]; frame_out
      refine (step_at m c t _ _).trans ?_
      rw [pay1_at])
    (fun t h y => by
      have h1 : t.val % 2 = 1 := by omega
      rw [outsAt0_B m c t h h1]; frame_out
      simp only [read_unread_whole]
      exact step_at m c t _ _)
    t h y, zero_add]
  refine Fin.sum_mul_add_congr fun s k hl => ?_
  refine congrArg₂ (· * ·) (congrArg (act m c) (congrArg₂ ix2 (Fin.ext ?_) (Fin.ext ?_))) (congrArg (w m c) (congrArg₂ ix2 (Fin.ext ?_) rfl))
  all_goals (dsimp only; omega)

/-! ## The result arrays -/

open Cert.Reference20Ideal.Read

theorem pre_at (c : Dev nD) (t : Fin cfg0.N) (h : t.val % 2 = 1) (y : S512x1024.Idx) :
    alpha * (iblk m c 2 t : FVec Ideal S512x1024 .f32) y
        + ((outsAt0 m c t.val t.isLt).2.2.2 : FVec Ideal S512x1024 .f32) y
      = pre (x m c) (act m c) (w m c)
          ⟨t.val / 2 * 512 + (y 0).val, by have := (idx t).2.2.2.2.2.2.2.2; idx_bounds; omega⟩ (y 1) := by
  rw [blk2_at, acc_at m c t h]; rfl

/-- The row before its normalisation. -/
theorem final7 (c : Dev nD) :
    (dats m 0 c).arrAt 7 cfg0.N = val_main_v4 (F := Ideal) (x m c) (yr m c) (yc m c) (w m c) := by
  refine (dats m 0 c).arrAt_eq_of_covers 7 _ (by decide +kernel) fun t hf y => ?_
  blk_simp
  rw [after0_7]
  have h1 : t.val % 2 = 1 := (flush0_7 t).mp hf
  have h0 : ¬ t.val % 2 = 0 := by omega
  have e : (outsAt0 m c t.val t.isLt).2.2.1 = k0_pay3 (F := Ideal) (iblk m c 2 t) (outsAt0 m c t.val t.isLt).2.2.2 := by
    rw [outsAt0_B m c t h0 h1]; frame_out
  rw [e]
  refine (pay3_at _ _ _).trans (Eq.trans ?_ (ref4_at _ _ _ _ _).symm)
  refine (pre_at m c t h1 y).trans ?_
  refine congrArg₂ (pre (x m c) (act m c) (w m c)) (Fin.ext ?_) (Fin.ext ?_)
  all_goals blk_simp [idx t]

theorem out_at (c : Dev nD) (t : Fin cfg0.N) (h : t.val % 2 = 1) (y : S512x1024.Idx) :
    k0_pay4 (F := Ideal) (iblk m c 2 t) (outsAt0 m c t.val t.isLt).2.2.2 (iblk m c 3 t) (iblk m c 4 t) y
      = val_main_v28 (F := Ideal) (x m c) (yr m c) (yc m c) (w m c) (g m c) (b m c)
          (ix2 ⟨t.val / 2 * 512 + (y 0).val, by have := (idx t).2.2.2.2.2.2.2.2; idx_bounds; omega⟩ (y 1)) := by
  refine (pay4_at _ _ _ _ _).trans (Eq.trans ?_ (ref28_at _ _ _ _ _ _ _).symm)
  rw [funext fun k => pre_at m c t h (ix2 (y 0) k), blk3_at, blk4_at]
  rfl

/-- The normalised row. -/
theorem final5 (c : Dev nD) :
    (dats m 0 c).arrAt 5 cfg0.N = val_main_v28 (F := Ideal) (x m c) (yr m c) (yc m c) (w m c) (g m c) (b m c) := by
  refine (dats m 0 c).arrAt_eq_of_covers 5 _ (by decide +kernel) fun t hf y => ?_
  blk_simp
  rw [after0_5]
  have h1 : t.val % 2 = 1 := (flush0_5 t).mp hf
  have h0 : ¬ t.val % 2 = 0 := by omega
  have e : (outsAt0 m c t.val t.isLt).1
      = k0_pay4 (F := Ideal) (iblk m c 2 t) (outsAt0 m c t.val t.isLt).2.2.2 (iblk m c 3 t) (iblk m c 4 t) := by
    rw [outsAt0_B m c t h0 h1]; frame_out
  rw [e]
  refine (out_at m c t h1 _).trans ?_
  blk_ext [idx t]

theorem final6 (c : Dev nD) :
    (dats m 0 c).arrAt 6 cfg0.N = val_main_v29 (F := Ideal) (x m c) (yr m c) (yc m c) (w m c) (g m c) (b m c) := by
  refine (dats m 0 c).arrAt_eq_of_covers 6 _ (by decide +kernel) fun t hf y => ?_
  blk_simp
  rw [after0_6]
  have h1 : t.val % 2 = 1 := (flush0_6 t).mp hf
  have h0 : ¬ t.val % 2 = 0 := by omega
  have e : (outsAt0 m c t.val t.isLt).2.1
      = k0_pay5 (F := Ideal) (iblk m c 2 t) (outsAt0 m c t.val t.isLt).2.2.2 (iblk m c 3 t) (iblk m c 4 t) := by
    rw [outsAt0_B m c t h0 h1]; frame_out
  rw [e]
  refine Eq.trans (b := k0_pay4 (F := Ideal) (iblk m c 2 t) (outsAt0 m c t.val t.isLt).2.2.2 (iblk m c 3 t) (iblk m c 4 t) _) rfl ?_
  refine (out_at m c t h1 _).trans ?_
  refine Eq.trans (b := val_main_v28 (F := Ideal) (x m c) (yr m c) (yc m c) (w m c) (g m c) (b m c) _) ?_ rfl
  blk_ext [idx t]

end Cert.MixOutLn
-- ==== Proof.ConvFwdBody.lean ====
/- The depthwise convolution's body: what one grid point stores is, at every row and column, the sum of
   the thirty-one taps over the padded rows. -/
module

public import proofs.«01_k».proof.Proof.Gen.Kernel21Ideal.Frame
public import Idealize.ShloMosaic.Lib.Pipeline.ValueKit
public import Idealize.ShloMosaic.Lib.Claim
public import Idealize.ShloMosaic.Lib.Pipeline.ReadBack
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.ConvFwd

open Cert.Kernel21Ideal Cert.Kernel21Ideal.Gen Cert.Reals

/-! ## The padded rows -/

/-- Row `n`, column `l` of the scratch: sixteen rows before the block, the block, sixteen rows behind it; zeros where the
    sequence has ended. -/
def pad (i : grid0.Coords) (x0 : FVec Ideal S1x512x512 .f32) (x1 x2 : FVec Ideal S1x16x512 .f32) (n l : ℕ) : EReal :=
  if n < 16 then (if 0 < (i 1).val then x1 (ix3 0 (Fin.ofNat 16 n) (Fin.ofNat 512 l)) else 0)
  else if n < 528 then x0 (ix3 0 (Fin.ofNat 512 (n - 16)) (Fin.ofNat 512 l))
  else (if (i 1).val < 3 then x2 (ix3 0 (Fin.ofNat 16 (n - 528)) (Fin.ofNat 512 l)) else 0)

theorem sel_gt (n : ℕ) (a b : EReal) (h : n < 4) :
    Scalar.select (α := EReal) (Scalar.cmpi CmpIPredicate.sgt (BitVec.ofNat 32 n) 0#32) a b = if 0 < n then a else b := by
  interval_cases n <;> rfl

theorem sel_lt (n : ℕ) (a b : EReal) (h : n < 4) :
    Scalar.select (α := EReal) (Scalar.cmpi CmpIPredicate.slt (BitVec.ofNat 32 n) 3#32) a b = if n < 3 then a else b := by
  interval_cases n <;> rfl

theorem pay2_at (i : grid0.Coords) (x : FVec Ideal S1x16x512 .f32) (y : S16x512.Idx) :
    k0_pay2 (F := Ideal) i x y = if 0 < (i 1).val then x (ix3 0 (y 0) (y 1)) else 0 := by
  have hi : (i 1).val < 4 := (i 1).isLt
  pointwise [k0_pay2]
  exact sel_gt _ _ _ hi

theorem pay3_at (x : FVec Ideal S1x512x512 .f32) (y : S512x512.Idx) :
    k0_pay3 (F := Ideal) x y = x (ix3 0 (y 0) (y 1)) := by
  pointwise [k0_pay3]

theorem pay4_at (i : grid0.Coords) (x : FVec Ideal S1x16x512 .f32) (y : S16x512.Idx) :
    k0_pay4 (F := Ideal) i x y = if (i 1).val < 3 then x (ix3 0 (y 0) (y 1)) else 0 := by
  have hi : (i 1).val < 4 := (i 1).isLt
  pointwise [k0_pay4]
  exact sel_lt _ _ _ hi

/-- The scratch after its three stores. -/
theorem scratch_at (i : grid0.Coords) (x0 : FVec Ideal S1x512x512 .f32) (x1 x2 : FVec Ideal S1x16x512 .f32) (y : S544x512.Idx) :
    View.canon (Val := Elt Ideal) (e := .f32) [⟨Rect.unit (s := S544x512) ![528, 0] S16x512.size inb_S544x512_S16x512_528_0, k0_pay4 (F := Ideal) i x2⟩,
      ⟨Rect.unit (s := S544x512) ![16, 0] S512x512.size inb_S544x512_S512x512_16_0, k0_pay3 (F := Ideal) x0⟩,
      ⟨Rect.unit (s := S544x512) ![0, 0] S16x512.size inb_S544x512_S16x512_0_0, k0_pay2 (F := Ideal) i x1⟩] y = pad i x0 x1 x2 (y 0).val (y 1).val := by
  have hy0 : (y 0).val < 544 := (y 0).isLt
  have hy1 : (y 1).val < 512 := (y 1).isLt
  have e1 : Fin.ofNat 512 (y 1).val = (y 1 : Fin 512) := Fin.ext (Nat.mod_eq_of_lt hy1)
  have n1 : (y 0).val < 528 → y ∉ (Rect.unit (s := S544x512) ![528, 0] S16x512.size inb_S544x512_S16x512_528_0).set := fun hl h =>
    absurd (((Rect.mem_set_unit (s := S544x512)).mp h) 0).1 (Nat.not_le.mpr hl)
  have n2 : (y 0).val < 16 → y ∉ (Rect.unit (s := S544x512) ![16, 0] S512x512.size inb_S544x512_S512x512_16_0).set := fun hl h =>
    absurd (((Rect.mem_set_unit (s := S544x512)).mp h) 0).1 (Nat.not_le.mpr hl)
  unfold pad
  by_cases h1 : (y 0).val < 16
  · refine (View.canon_cons_of_not_mem _ _ ?nm).trans ?_
    case nm => exact n1 (by omega)
    refine (View.canon_cons_of_not_mem _ _ ?nm).trans ?_
    case nm => exact n2 h1
    have e : y = (Rect.unit (s := S544x512) ![0, 0] S16x512.size inb_S544x512_S16x512_0_0).emb
        (ix2 ⟨(y 0).val, h1⟩ (y 1) : S16x512.Idx) := funext fun a => Fin.ext (by
      refine Eq.trans ?_ (Rect.idx_unit_val (s := S544x512) _ _ _ _ a).symm
      fin_cases a
      · exact (Nat.zero_add _).symm
      · exact (Nat.zero_add _).symm)
    rw [if_pos h1]
    refine (congrArg (View.canon _) e).trans ((View.canon_cons_emb _ _ _ _).trans ((pay2_at i x1 _).trans ?_))
    refine congrArg (fun z => if 0 < (i 1).val then x1 z else 0) (congrArg₂ (ix3 0) (Fin.ext (Nat.mod_eq_of_lt h1).symm) e1.symm)
  · rw [if_neg h1]
    by_cases h2 : (y 0).val < 528
    · rw [if_pos h2]
      refine (View.canon_cons_of_not_mem _ _ ?nm).trans ?_
      case nm => exact n1 h2
      have e : y = (Rect.unit (s := S544x512) ![16, 0] S512x512.size inb_S544x512_S512x512_16_0).emb
          (ix2 ⟨(y 0).val - 16, by omega⟩ (y 1) : S512x512.Idx) := funext fun a => Fin.ext (by
        refine Eq.trans ?_ (Rect.idx_unit_val (s := S544x512) _ _ _ _ a).symm
        fin_cases a
        · show (y 0).val = 16 + ((y 0).val - 16)
          omega
        · exact (Nat.zero_add _).symm)
      refine (congrArg (View.canon _) e).trans ((View.canon_cons_emb _ _ _ _).trans ((pay3_at x0 _).trans ?_))
      refine congrArg x0 (congrArg₂ (ix3 0) (Fin.ext (Nat.mod_eq_of_lt (show (y 0).val - 16 < 512 by omega)).symm) e1.symm)
    · rw [if_neg h2]
      have e : y = (Rect.unit (s := S544x512) ![528, 0] S16x512.size inb_S544x512_S16x512_528_0).emb
          (ix2 ⟨(y 0).val - 528, by omega⟩ (y 1) : S16x512.Idx) := funext fun a => Fin.ext (by
        refine Eq.trans ?_ (Rect.idx_unit_val (s := S544x512) _ _ _ _ a).symm
        fin_cases a
        · show (y 0).val = 528 + ((y 0).val - 528)
          omega
        · exact (Nat.zero_add _).symm)
      refine (congrArg (View.canon _) e).trans ((View.canon_cons_emb _ _ _ _).trans ((pay4_at i x2 _).trans ?_))
      refine congrArg (fun z => if (i 1).val < 3 then x2 z else 0) (congrArg₂ (ix3 0) (Fin.ext (Nat.mod_eq_of_lt (show (y 0).val - 528 < 16 by omega)).symm) e1.symm)

/-- One tap: the accumulator plus a block times one row. -/
theorem tap (acc a : FVec Ideal S128x128 .f32) (b : FVec Ideal S1x128 .f32) (h) (p q : Fin 128) :
    addf (F := Ideal) acc (mulf a (broadcastTo S128x128 b h)) (ix2 p q) = acc (ix2 p q) + a (ix2 p q) * b (ix2 0 q) := by
  pointwise

theorem start (b : FVec Ideal S1x128 .f32) (h1 h2 h3) (p q : Fin 128) :
    broadcastTo S128x128 (shapeCast (α := Elt Ideal .f32) S1x128 (shapeCast S1x128 b h1) h2) h3 (ix2 p q) = b (ix2 0 q) := by
  pointwise

theorem stored (v : FVec Ideal S128x128 .f32) (h) (y : S1x128x128.Idx) (p q : Fin 128) (hp : p = y 1) (hq : q = y 2) :
    shapeCast (α := Elt Ideal .f32) S1x128x128 v h y = v (ix2 p q) := by
  subst hp hq
  pointwise

/-- `b` plus the first `n` taps. -/
def taps (f : ℕ → EReal) (b : EReal) : ℕ → EReal
  | 0 => b
  | n + 1 => taps f b n + f n

theorem taps_eq (f : ℕ → EReal) (b : EReal) (n : ℕ) : taps f b n = b + ∑ k ∈ Finset.range n, f k := by
  induction n with
  | zero => simp [taps]
  | succ n ih => rw [taps, ih, Finset.sum_range_succ, add_assoc]

/-- What the body leaves at row `n`, column `l` of the block. -/
def res (i : grid0.Coords) (x0 : FVec Ideal S1x512x512 .f32) (x1 x2 : FVec Ideal S1x16x512 .f32) (x3 : FVec Ideal S32x512 .f32) (x4 : FVec Ideal S1x512 .f32) (n l : ℕ) : EReal :=
  taps (fun k => pad i x0 x1 x2 (n + (1 + k)) l * x3 (ix2 (Fin.ofNat 32 (k)) (Fin.ofNat 512 l))) (x4 (ix2 0 (Fin.ofNat 512 l))) 31

/-- A load of 128 rows and columns of the scratch. -/
theorem load_at (i : grid0.Coords) (a2 : Memref sig .tc .vmem S1x512x512 .f32) (h2 : a2.IsWhole) (a3 : Memref sig .tc .vmem S1x16x512 .f32) (h3 : a3.IsWhole) (a4 : Memref sig .tc .vmem S1x16x512 .f32) (h4 : a4.IsWhole) (a5 : Memref sig .tc .vmem S32x512 .f32) (h5 : a5.IsWhole) (a6 : Memref sig .tc .vmem S1x512 .f32) (h6 : a6.IsWhole) (a7 : Memref sig .tc .vmem S1x512x512 .f32) (h7 : a7.IsWhole) (a8 : Memref sig .tc .vmem S544x512 .f32) (h8 : a8.IsWhole)
    (x0 : FVec Ideal S1x512x512 .f32) (x1 x2 : FVec Ideal S1x16x512 .f32) (off : Fin 2 → ℕ) (inb) (p q : Fin 128) :
    a8.view.readCov (Val := Elt Ideal) [⟨Rect.unit (s := S544x512) ![528, 0] S16x512.size inb_S544x512_S16x512_528_0,
        k0_pay4 (F := Ideal) i (View.readAt (Elt Ideal) a4.view (Rect.unit ![0, 0, 0] S1x16x512.size inb_S1x16x512_S1x16x512_0_0_0).toLoadRect (h4.unread x2))⟩,
      ⟨Rect.unit (s := S544x512) ![16, 0] S512x512.size inb_S544x512_S512x512_16_0,
        k0_pay3 (F := Ideal) (View.readAt (Elt Ideal) a2.view (Rect.unit ![0, 0, 0] S1x512x512.size inb_S1x512x512_S1x512x512_0_0_0).toLoadRect (h2.unread x0))⟩,
      ⟨Rect.unit (s := S544x512) ![0, 0] S16x512.size inb_S544x512_S16x512_0_0,
        k0_pay2 (F := Ideal) i (View.readAt (Elt Ideal) a3.view (Rect.unit ![0, 0, 0] S1x16x512.size inb_S1x16x512_S1x16x512_0_0_0).toLoadRect (h3.unread x1))⟩]
      (Rect.unit (s := S544x512) off S128x128.size inb).toLoadRect (ix2 p q) = pad i x0 x1 x2 (p.val + off 0) (q.val + off 1) := by
  rw [View.readCov_eq_canon', View.readAt_eq_ld, View.readAt_eq_ld, View.readAt_eq_ld, h2.read_unread, h3.read_unread, h4.read_unread,
    View.ld_unit_zero (by decide), View.ld_unit_zero (by decide), View.ld_unit_zero (by decide)]
  refine (scratch_at i x0 x1 x2 _).trans (congrArg₂ (pad i x0 x1 x2) ?_ ?_)
  · exact (Rect.idx_unit_val (s := S544x512) off S128x128.size inb (ix2 p q) 0).trans (Nat.add_comm _ _)
  · exact (Rect.idx_unit_val (s := S544x512) off S128x128.size inb (ix2 p q) 1).trans (Nat.add_comm _ _)

/-- One row of the taps, one block of 128 columns. -/
theorem row_at (a5 : Memref sig .tc .vmem S32x512 .f32) (h5 : a5.IsWhole) (x3 : FVec Ideal S32x512 .f32) (off : Fin 2 → ℕ) (inb) (k : Fin 128) :
    View.readAt (Elt Ideal) a5.view (Rect.unit (s := S32x512) off ![1, 128] inb).toLoadRect (h5.unread x3) (ix2 0 k : S1x128.Idx)
      = x3 (ix2 (Fin.ofNat 32 (off 0)) (Fin.ofNat 512 (k.val + off 1))) := by
  rw [View.readAt_eq_ld, h5.read_unread]
  have h0 : off 0 + 1 ≤ 32 := inb 0
  have h1 : off 1 + 128 ≤ 512 := inb 1
  refine View.ld_unit_apply_of (Val := Elt Ideal) (e := .f32) (S := S32x512) x3 off ![1, 128] inb _ _ fun a => ?_
  fin_cases a
  · exact Nat.mod_eq_of_lt (by omega)
  · exact (Nat.mod_eq_of_lt (by have := k.isLt; omega)).trans (Nat.add_comm _ _)

theorem bias_at (a6 : Memref sig .tc .vmem S1x512 .f32) (h6 : a6.IsWhole) (x4 : FVec Ideal S1x512 .f32) (off : Fin 2 → ℕ) (inb) (k : Fin 128) :
    View.readAt (Elt Ideal) a6.view (Rect.unit (s := S1x512) off ![1, 128] inb).toLoadRect (h6.unread x4) (ix2 0 k : S1x128.Idx)
      = x4 (ix2 0 (Fin.ofNat 512 (k.val + off 1))) := by
  rw [View.readAt_eq_ld, h6.read_unread]
  have h0 : off 0 + 1 ≤ 1 := inb 0
  have h1 : off 1 + 128 ≤ 512 := inb 1
  refine View.ld_unit_apply_of (Val := Elt Ideal) (e := .f32) (S := S1x512) x4 off ![1, 128] inb _ _ fun a => ?_
  fin_cases a
  · show 0 = off 0 + 0
    omega
  · exact (Nat.mod_eq_of_lt (by have := k.isLt; omega)).trans (Nat.add_comm _ _)

theorem emb_at (off : Fin 3 → ℕ) (inb) (y : S1x128x128.Idx) (a : Fin 3) :
    ((Rect.unit (s := S1x512x512) off ![1, 128, 128] inb).emb y a).val = (y a).val + off a := by
  exact (Rect.idx_unit_val (s := S1x512x512) off ![1, 128, 128] inb y a).trans (Nat.add_comm _ _)

set_option maxHeartbeats 4000000 in
theorem out_at (c : Dev nD) (i : grid0.Coords) (a2 : Memref sig .tc .vmem S1x512x512 .f32) (h2 : a2.IsWhole) (a3 : Memref sig .tc .vmem S1x16x512 .f32) (h3 : a3.IsWhole) (a4 : Memref sig .tc .vmem S1x16x512 .f32) (h4 : a4.IsWhole) (a5 : Memref sig .tc .vmem S32x512 .f32) (h5 : a5.IsWhole) (a6 : Memref sig .tc .vmem S1x512 .f32) (h6 : a6.IsWhole) (a7 : Memref sig .tc .vmem S1x512x512 .f32) (h7 : a7.IsWhole) (a8 : Memref sig .tc .vmem S544x512 .f32) (h8 : a8.IsWhole)
    (x0 : FVec Ideal S1x512x512 .f32) (x1 x2 : FVec Ideal S1x16x512 .f32) (x3 : FVec Ideal S32x512 .f32) (x4 : FVec Ideal S1x512 .f32) (y : S1x512x512.Idx) :
    (out0_A_5 (F := Ideal) c i a2 h2 a3 h3 a4 h4 a5 h5 a6 h6 a7 h7 a8 h8 x0 x1 x2 x3 x4 : FVec Ideal S1x512x512 .f32) y = res i x0 x1 x2 x3 x4 (y 1).val (y 2).val := by
  unfold out0_A_5
  rw [View.read_writes_eq_canon _ _ _ (cover0_A_5 (F := Ideal) c i a2 h2 a3 h3 a4 h4 a5 h5 a6 h6 a7 h7 a8 h8 x0 x1 x2 x3 x4)]
  refine View.canon_apply_of_pieces (fun y : S1x512x512.Idx => res i x0 x1 x2 x3 x4 (y 1).val (y 2).val) _ (fun p hp j => ?_) y
    (cover0_A_5 (F := Ideal) c i a2 h2 a3 h3 a4 h4 a5 h5 a6 h6 a7 h7 a8 h8 x0 x1 x2 x3 x4 y)
  unfold kernelRun0_A at hp
  dsimp only at hp
  simp only [List.mem_cons, List.mem_nil_iff, or_false] at hp
  rcases hp with rfl | rfl | rfl | rfl | rfl | rfl | rfl | rfl | rfl | rfl | rfl | rfl | rfl | rfl | rfl | rfl
  all_goals
    obtain ⟨j', rfl⟩ : ∃ j' : S1x128x128.Idx, j' = j := ⟨j, rfl⟩
    dsimp only
    sl_unfold_run_names
    simp only [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111]
    obtain ⟨p, hp⟩ : ∃ p : Fin 128, p = j' 1 := ⟨_, rfl⟩
    obtain ⟨q, hq⟩ : ∃ q : Fin 128, q = j' 2 := ⟨_, rfl⟩
    have hp' : (j' 1).val = p.val := congrArg Fin.val hp.symm
    have hq' : (j' 2).val = q.val := congrArg Fin.val hq.symm
    refine (stored _ _ _ p q hp hq).trans ?_
    refine (tap _ _ _ _ _ _).trans ?_
    simp only [tap, start]
    simp only [Proc.kind]
    simp only [load_at _ a2 h2 a3 h3 a4 h4 a5 h5 a6 h6 a7 h7 a8 h8, row_at, bias_at, emb_at, hp', hq']
    simp only [res, taps, Matrix.cons_val, Nat.add_assoc, Nat.reduceAdd, Nat.reduceSub, Nat.add_zero, Nat.zero_add]
    iterate 31 refine congrArg₂ (fun a b : EReal => a + b) ?_ (congrArg₂ (fun a b : EReal => a * b) ?_ ?_)
    all_goals try with_reducible rfl
    refine (start _ _ _ _ p q).trans ((bias_at a6 h6 x4 _ _ q).trans ?_)
    rfl

end Cert.ConvFwd
-- ==== Proof.ConvFwd.lean ====
/- The depthwise convolution: what the pipelined kernel leaves in its result array is the reference's composed term over
   the same argument arrays. -/
module

public import proofs.«01_k».proof.Proof.Gen.Kernel21Ideal.Frame
public import proofs.«01_k».proof.Proof.Gen.Reference21Ideal.Read
public import Idealize.ShloMosaic.Lib.Pipeline.ValueKit
public import Idealize.ShloMosaic.Lib.Claim
public import Idealize.ShloMosaic.Lib.Pipeline.ReadBack
public import proofs.«01_k».proof.Proof.Reals
public import proofs.«01_k».proof.Proof.ConvFwdBody

@[expose] public section

set_option maxRecDepth 16384

noncomputable section

open Idealize.ShloMosaic Idealize.ShloMosaic.TcCoe Idealize.SL.Sem
open Idealize.ShloMosaic.Pipeline (Dat)

namespace Cert.ConvFwd

open Cert.Kernel21Ideal Cert.Kernel21Ideal.Gen Cert.Reals

variable (m : (ℓ : Loc nD τ sig) → Buf (Elt Ideal) ℓ)

theorem addTo {a b a' b' : EReal} (h1 : a = a') (h2 : b = b') :
    FloatOps.addf (F := Ideal) (show Ideal .f32 from a) (show Ideal .f32 from b) = (show Ideal .f32 from a' + b') := by
  subst h1 h2
  rfl

theorem mulTo {a b a' b' : EReal} (h1 : a = a') (h2 : b = b') :
    FloatOps.mulf (F := Ideal) (show Ideal .f32 from a) (show Ideal .f32 from b) = (show Ideal .f32 from a' * b') := by
  subst h1 h2
  rfl

/-- Row `r` of the rows of batch entry `b` with fifteen rows of zeros before and behind. -/
def rows (u : FVec Ideal S4x2048x512 .f32) (b : Fin 4) (r : ℕ) (l : Fin 512) : EReal :=
  if h : 15 ≤ r ∧ r < 2063 then u (ix3 b ⟨r - 15, by omega⟩ l) else 0

/-- Grid point `t` is row block `t % 4` of batch entry `t / 4`; its neighbours are sixteen rows before and behind it, kept
    inside the array. -/
theorem idx : ∀ t : Fin cfg0.N, win0_0.index t = ![t.val / 4, t.val % 4, 0]
    ∧ win0_1.index t = ![t.val / 4, t.val % 4 * 32 - 1, 0] ∧ win0_2.index t = ![t.val / 4, min (t.val % 4 * 32 + 32) 127, 0]
    ∧ win0_3.index t = ![0, 0] ∧ win0_4.index t = ![0, 0] ∧ win0_5.index t = ![t.val / 4, t.val % 4, 0]
    ∧ ((grid0.coords t) 1).val = t.val % 4 ∧ t.val < 16 :=
  (by decide +kernel : ∀ t : Fin grid0.N, _)

/-- The argument arrays of device `c`: the rows, the taps and the bias. -/
abbrev u (c : Dev nD) : FVec Ideal S4x2048x512 .f32 := m ((c : Thread nD τ).loc main_arg0)
abbrev dw (c : Dev nD) : FVec Ideal S32x512 .f32 := m ((c : Thread nD τ).loc main_arg1)
abbrev db (c : Dev nD) : FVec Ideal S512 .f32 := m ((c : Thread nD τ).loc main_arg2)

theorem u_at (c : Dev nD) (y : S4x2048x512.Idx) : (V m c main_arg0 : FVec Ideal S4x2048x512 .f32) y = u m c y := by
  entry_read
  pointwise

theorem dw_at (c : Dev nD) (y : S32x512.Idx) : (V m c main_arg1 : FVec Ideal S32x512 .f32) y = dw m c y := by
  entry_read
  pointwise

theorem bias_val (c : Dev nD) (y : S1x512.Idx) : (V m c main_v0 : FVec Ideal S1x512 .f32) y = db m c (ix1 (y 1)) := by
  entry_read
  pointwise

theorem blk0_at (c : Dev nD) (t : Fin cfg0.N) (y : S1x512x512.Idx) : (iblk m c 0 t : FVec Ideal S1x512x512 .f32) y
    = u m c (ix3 ⟨t.val / 4, by have := (idx t).2.2.2.2.2.2.2; omega⟩ ⟨t.val % 4 * 512 + (y 1).val, by idx_bounds; omega⟩ (y 2)) := by
  blk_simp [iblk]
  refine (u_at m c _).trans ?_
  blk_ext [idx t]

theorem blk1_at (c : Dev nD) (t : Fin cfg0.N) (y : S1x16x512.Idx) : (iblk m c 1 t : FVec Ideal S1x16x512 .f32) y
    = u m c (ix3 ⟨t.val / 4, by have := (idx t).2.2.2.2.2.2.2; omega⟩ ⟨(t.val % 4 * 32 - 1) * 16 + (y 1).val, by idx_bounds; omega⟩ (y 2)) := by
  blk_simp [iblk]
  refine (u_at m c _).trans ?_
  blk_ext [idx t]

theorem blk2_at (c : Dev nD) (t : Fin cfg0.N) (y : S1x16x512.Idx) : (iblk m c 2 t : FVec Ideal S1x16x512 .f32) y
    = u m c (ix3 ⟨t.val / 4, by have := (idx t).2.2.2.2.2.2.2; omega⟩ ⟨min (t.val % 4 * 32 + 32) 127 * 16 + (y 1).val, by idx_bounds; omega⟩ (y 2)) := by
  blk_simp [iblk]
  refine (u_at m c _).trans ?_
  blk_ext [idx t]

theorem blk3_at (c : Dev nD) (t : Fin cfg0.N) (y : S32x512.Idx) : (iblk m c 3 t : FVec Ideal S32x512 .f32) y = dw m c y := by
  blk_simp [iblk]
  refine (dw_at m c _).trans ?_
  blk_ext [idx t]

theorem blk4_at (c : Dev nD) (t : Fin cfg0.N) (y : S1x512.Idx) : (iblk m c 4 t : FVec Ideal S1x512 .f32) y = db m c (ix1 (y 1)) := by
  blk_simp [iblk]
  refine (bias_val m c _).trans ?_
  blk_ext [idx t]

/-- The scratch's rows are the batch entry's rows, with its zeros before and behind. -/
theorem pad_rows (c : Dev nD) (t : Fin cfg0.N) (n : ℕ) (l : Fin 512) (h1 : 1 ≤ n) (h2 : n < 543) :
    pad (grid0.coords t) (iblk m c 0 t) (iblk m c 1 t) (iblk m c 2 t) n l.val
      = rows (u m c) ⟨t.val / 4, by have := (idx t).2.2.2.2.2.2.2; omega⟩ (t.val % 4 * 512 + (n - 1)) l := by
  have hg := (idx t).2.2.2.2.2.2.1
  have hl : Fin.ofNat 512 l.val = l := Fin.ext (Nat.mod_eq_of_lt l.isLt)
  unfold pad rows
  rw [hg, hl]
  by_cases a : n < 16
  · have ha : Fin.ofNat 16 n = ⟨n, a⟩ := Fin.ext (Nat.mod_eq_of_lt a)
    rw [if_pos a]
    by_cases b : 0 < t.val % 4
    · rw [if_pos b, dif_pos (by omega)]
      refine (blk1_at m c t _).trans (congrArg (fun z => u m c (ix3 _ z l)) (Fin.ext ?_))
      show (t.val % 4 * 32 - 1) * 16 + (Fin.ofNat 16 n).val = t.val % 4 * 512 + (n - 1) - 15
      rw [ha]
      show (t.val % 4 * 32 - 1) * 16 + n = _
      omega
    · rw [if_neg b, dif_neg (by omega)]
  · rw [if_neg a]
    by_cases a2 : n < 528
    · have ha : Fin.ofNat 512 (n - 16) = ⟨n - 16, by omega⟩ := Fin.ext (Nat.mod_eq_of_lt (by omega))
      rw [if_pos a2, dif_pos (by omega)]
      refine (blk0_at m c t _).trans (congrArg (fun z => u m c (ix3 _ z l)) (Fin.ext ?_))
      show t.val % 4 * 512 + (Fin.ofNat 512 (n - 16)).val = t.val % 4 * 512 + (n - 1) - 15
      rw [ha]
      show t.val % 4 * 512 + (n - 16) = _
      omega
    · have ha : Fin.ofNat 16 (n - 528) = ⟨n - 528, by omega⟩ := Fin.ext (Nat.mod_eq_of_lt (by omega))
      rw [if_neg a2]
      by_cases b : t.val % 4 < 3
      · rw [if_pos b, dif_pos (by omega)]
        refine (blk2_at m c t _).trans (congrArg (fun z => u m c (ix3 _ z l)) (Fin.ext ?_))
        show min (t.val % 4 * 32 + 32) 127 * 16 + (Fin.ofNat 16 (n - 528)).val = t.val % 4 * 512 + (n - 1) - 15
        rw [ha]
        show min (t.val % 4 * 32 + 32) 127 * 16 + (n - 528) = _
        omega
      · rw [if_neg b, dif_neg (by omega)]

open Cert.Reference21Ideal.Read

/-- The rows with their zeros before and behind, read at an index. -/
theorem cat_at (x0 : FVec Ideal S4x2048x512 .f32) (y : Cert.Reference21Ideal.S4x2078x512.Idx) : val_main_v2 (F := Ideal) x0 y = rows x0 (y 0) (y 1).val (y 2) := by
  pointwise [val_main_v2, val_main_v1, val_main_cst]
  unfold rows
  have hy : (y 1).val < 2078 := (y 1).isLt
  by_cases h : (y 1).val < 15
  · rw [dif_pos h, dif_neg (by omega)]
  · rw [dif_neg h]
    by_cases h2 : (y 1).val - 15 < 2048
    · rw [dif_pos h2, dif_pos (by omega)]
    · rw [dif_neg h2, dif_neg (by omega)]

theorem tap0 (x0 : FVec Ideal S4x2048x512 .f32) (x1 : FVec Ideal S32x512 .f32) (y : S4x2048x512.Idx) :
    val_main_v8 (F := Ideal) x0 x1 y = rows x0 (y 0) ((y 1).val + 0) (y 2) * x1 (ix2 0 (y 2)) := by
  have h : val_main_v7 (F := Ideal) x1 y = x1 (ix2 0 (y 2)) := by pointwise [val_main_v7, val_main_v6, val_main_v5, val_main_v4]
  have g : val_main_v3 (F := Ideal) x0 y = rows x0 (y 0) ((y 1).val + 0) (y 2) := by
    refine (val_main_v3_apply (F := Ideal) x0 y).trans ((cat_at x0 _).trans ?_)
    refine congrArg (fun r => rows x0 (y 0) r (y 2)) ?_
    show (y 1).val = (y 1).val + 0
    omega
  exact (val_main_v8_apply (F := Ideal) x0 x1 y).trans (mulTo g h)

theorem tap1 (x0 : FVec Ideal S4x2048x512 .f32) (x1 : FVec Ideal S32x512 .f32) (y : S4x2048x512.Idx) :
    val_main_v14 (F := Ideal) x0 x1 y = rows x0 (y 0) ((y 1).val + 1) (y 2) * x1 (ix2 1 (y 2)) := by
  have h : val_main_v13 (F := Ideal) x1 y = x1 (ix2 1 (y 2)) := by pointwise [val_main_v13, val_main_v12, val_main_v11, val_main_v10]
  have g : val_main_v9 (F := Ideal) x0 y = rows x0 (y 0) ((y 1).val + 1) (y 2) := by
    refine (val_main_v9_apply (F := Ideal) x0 y).trans ((cat_at x0 _).trans ?_)
    refine congrArg (fun r => rows x0 (y 0) r (y 2)) ?_
    show 1 + (y 1).val = (y 1).val + 1
    omega
  exact (val_main_v14_apply (F := Ideal) x0 x1 y).trans (mulTo g h)

theorem tap2 (x0 : FVec Ideal S4x2048x512 .f32) (x1 : FVec Ideal S32x512 .f32) (y : S4x2048x512.Idx) :
    val_main_v21 (F := Ideal) x0 x1 y = rows x0 (y 0) ((y 1).val + 2) (y 2) * x1 (ix2 2 (y 2)) := by
  have h : val_main_v20 (F := Ideal) x1 y = x1 (ix2 2 (y 2)) := by pointwise [val_main_v20, val_main_v19, val_main_v18, val_main_v17]
  have g : val_main_v16 (F := Ideal) x0 y = rows x0 (y 0) ((y 1).val + 2) (y 2) := by
    refine (val_main_v16_apply (F := Ideal) x0 y).trans ((cat_at x0 _).trans ?_)
    refine congrArg (fun r => rows x0 (y 0) r (y 2)) ?_
    show 2 + (y 1).val = (y 1).val + 2
    omega
  exact (val_main_v21_apply (F := Ideal) x0 x1 y).trans (mulTo g h)

theorem tap3 (x0 : FVec Ideal S4x2048x512 .f32) (x1 : FVec Ideal S32x512 .f32) (y : S4x2048x512.Idx) :
    val_main_v28 (F := Ideal) x0 x1 y = rows x0 (y 0) ((y 1).val + 3) (y 2) * x1 (ix2 3 (y 2)) := by
  have h : val_main_v27 (F := Ideal) x1 y = x1 (ix2 3 (y 2)) := by pointwise [val_main_v27, val_main_v26, val_main_v25, val_main_v24]
  have g : val_main_v23 (F := Ideal) x0 y = rows x0 (y 0) ((y 1).val + 3) (y 2) := by
    refine (val_main_v23_apply (F := Ideal) x0 y).trans ((cat_at x0 _).trans ?_)
    refine congrArg (fun r => rows x0 (y 0) r (y 2)) ?_
    show 3 + (y 1).val = (y 1).val + 3
    omega
  exact (val_main_v28_apply (F := Ideal) x0 x1 y).trans (mulTo g h)

theorem tap4 (x0 : FVec Ideal S4x2048x512 .f32) (x1 : FVec Ideal S32x512 .f32) (y : S4x2048x512.Idx) :
    val_main_v35 (F := Ideal) x0 x1 y = rows x0 (y 0) ((y 1).val + 4) (y 2) * x1 (ix2 4 (y 2)) := by
  have h : val_main_v34 (F := Ideal) x1 y = x1 (ix2 4 (y 2)) := by pointwise [val_main_v34, val_main_v33, val_main_v32, val_main_v31]
  have g : val_main_v30 (F := Ideal) x0 y = rows x0 (y 0) ((y 1).val + 4) (y 2) := by
    refine (val_main_v30_apply (F := Ideal) x0 y).trans ((cat_at x0 _).trans ?_)
    refine congrArg (fun r => rows x0 (y 0) r (y 2)) ?_
    show 4 + (y 1).val = (y 1).val + 4
    omega
  exact (val_main_v35_apply (F := Ideal) x0 x1 y).trans (mulTo g h)

theorem tap5 (x0 : FVec Ideal S4x2048x512 .f32) (x1 : FVec Ideal S32x512 .f32) (y : S4x2048x512.Idx) :
    val_main_v42 (F := Ideal) x0 x1 y = rows x0 (y 0) ((y 1).val + 5) (y 2) * x1 (ix2 5 (y 2)) := by
  have h : val_main_v41 (F := Ideal) x1 y = x1 (ix2 5 (y 2)) := by pointwise [val_main_v41, val_main_v40, val_main_v39, val_main_v38]
  have g : val_main_v37 (F := Ideal) x0 y = rows x0 (y 0) ((y 1).val + 5) (y 2) := by
    refine (val_main_v37_apply (F := Ideal) x0 y).trans ((cat_at x0 _).trans ?_)
    refine congrArg (fun r => rows x0 (y 0) r (y 2)) ?_
    show 5 + (y 1).val = (y 1).val + 5
    omega
  exact (val_main_v42_apply (F := Ideal) x0 x1 y).trans (mulTo g h)

theorem tap6 (x0 : FVec Ideal S4x2048x512 .f32) (x1 : FVec Ideal S32x512 .f32) (y : S4x2048x512.Idx) :
    val_main_v49 (F := Ideal) x0 x1 y = rows x0 (y 0) ((y 1).val + 6) (y 2) * x1 (ix2 6 (y 2)) := by
  have h : val_main_v48 (F := Ideal) x1 y = x1 (ix2 6 (y 2)) := by pointwise [val_main_v48, val_main_v47, val_main_v46, val_main_v45]
  have g : val_main_v44 (F := Ideal) x0 y = rows x0 (y 0) ((y 1).val + 6) (y 2) := by
    refine (val_main_v44_apply (F := Ideal) x0 y).trans ((cat_at x0 _).trans ?_)
    refine congrArg (fun r => rows x0 (y 0) r (y 2)) ?_
    show 6 + (y 1).val = (y 1).val + 6
    omega
  exact (val_main_v49_apply (F := Ideal) x0 x1 y).trans (mulTo g h)

theorem tap7 (x0 : FVec Ideal S4x2048x512 .f32) (x1 : FVec Ideal S32x512 .f32) (y : S4x2048x512.Idx) :
    val_main_v56 (F := Ideal) x0 x1 y = rows x0 (y 0) ((y 1).val + 7) (y 2) * x1 (ix2 7 (y 2)) := by
  have h : val_main_v55 (F := Ideal) x1 y = x1 (ix2 7 (y 2)) := by pointwise [val_main_v55, val_main_v54, val_main_v53, val_main_v52]
  have g : val_main_v51 (F := Ideal) x0 y = rows x0 (y 0) ((y 1).val + 7) (y 2) := by
    refine (val_main_v51_apply (F := Ideal) x0 y).trans ((cat_at x0 _).trans ?_)
    refine congrArg (fun r => rows x0 (y 0) r (y 2)) ?_
    show 7 + (y 1).val = (y 1).val + 7
    omega
  exact (val_main_v56_apply (F := Ideal) x0 x1 y).trans (mulTo g h)

theorem tap8 (x0 : FVec Ideal S4x2048x512 .f32) (x1 : FVec Ideal S32x512 .f32) (y : S4x2048x512.Idx) :
    val_main_v63 (F := Ideal) x0 x1 y = rows x0 (y 0) ((y 1).val + 8) (y 2) * x1 (ix2 8 (y 2)) := by
  have h : val_main_v62 (F := Ideal) x1 y = x1 (ix2 8 (y 2)) := by pointwise [val_main_v62, val_main_v61, val_main_v60, val_main_v59]
  have g : val_main_v58 (F := Ideal) x0 y = rows x0 (y 0) ((y 1).val + 8) (y 2) := by
    refine (val_main_v58_apply (F := Ideal) x0 y).trans ((cat_at x0 _).trans ?_)
    refine congrArg (fun r => rows x0 (y 0) r (y 2)) ?_
    show 8 + (y 1).val = (y 1).val + 8
    omega
  exact (val_main_v63_apply (F := Ideal) x0 x1 y).trans (mulTo g h)

theorem tap9 (x0 : FVec Ideal S4x2048x512 .f32) (x1 : FVec Ideal S32x512 .f32) (y : S4x2048x512.Idx) :
    val_main_v70 (F := Ideal) x0 x1 y = rows x0 (y 0) ((y 1).val + 9) (y 2) * x1 (ix2 9 (y 2)) := by
  have h : val_main_v69 (F := Ideal) x1 y = x1 (ix2 9 (y 2)) := by pointwise [val_main_v69, val_main_v68, val_main_v67, val_main_v66]
  have g : val_main_v65 (F := Ideal) x0 y = rows x0 (y 0) ((y 1).val + 9) (y 2) := by
    refine (val_main_v65_apply (F := Ideal) x0 y).trans ((cat_at x0 _).trans ?_)
    refine congrArg (fun r => rows x0 (y 0) r (y 2)) ?_
    show 9 + (y 1).val = (y 1).val + 9
    omega
  exact (val_main_v70_apply (F := Ideal) x0 x1 y).trans (mulTo g h)

theorem tap10 (x0 : FVec Ideal S4x2048x512 .f32) (x1 : FVec Ideal S32x512 .f32) (y : S4x2048x512.Idx) :
    val_main_v77 (F := Ideal) x0 x1 y = rows x0 (y 0) ((y 1).val + 10) (y 2) * x1 (ix2 10 (y 2)) := by
  have h : val_main_v76 (F := Ideal) x1 y = x1 (ix2 10 (y 2)) := by pointwise [val_main_v76, val_main_v75, val_main_v74, val_main_v73]
  have g : val_main_v72 (F := Ideal) x0 y = rows x0 (y 0) ((y 1).val + 10) (y 2) := by
    refine (val_main_v72_apply (F := Ideal) x0 y).trans ((cat_at x0 _).trans ?_)
    refine congrArg (fun r => rows x0 (y 0) r (y 2)) ?_
    show 10 + (y 1).val = (y 1).val + 10
    omega
  exact (val_main_v77_apply (F := Ideal) x0 x1 y).trans (mulTo g h)

theorem tap11 (x0 : FVec Ideal S4x2048x512 .f32) (x1 : FVec Ideal S32x512 .f32) (y : S4x2048x512.Idx) :
    val_main_v84 (F := Ideal) x0 x1 y = rows x0 (y 0) ((y 1).val + 11) (y 2) * x1 (ix2 11 (y 2)) := by
  have h : val_main_v83 (F := Ideal) x1 y = x1 (ix2 11 (y 2)) := by pointwise [val_main_v83, val_main_v82, val_main_v81, val_main_v80]
  have g : val_main_v79 (F := Ideal) x0 y = rows x0 (y 0) ((y 1).val + 11) (y 2) := by
    refine (val_main_v79_apply (F := Ideal) x0 y).trans ((cat_at x0 _).trans ?_)
    refine congrArg (fun r => rows x0 (y 0) r (y 2)) ?_
    show 11 + (y 1).val = (y 1).val + 11
    omega
  exact (val_main_v84_apply (F := Ideal) x0 x1 y).trans (mulTo g h)

theorem tap12 (x0 : FVec Ideal S4x2048x512 .f32) (x1 : FVec Ideal S32x512 .f32) (y : S4x2048x512.Idx) :
    val_main_v91 (F := Ideal) x0 x1 y = rows x0 (y 0) ((y 1).val + 12) (y 2) * x1 (ix2 12 (y 2)) := by
  have h : val_main_v90 (F := Ideal) x1 y = x1 (ix2 12 (y 2)) := by pointwise [val_main_v90, val_main_v89, val_main_v88, val_main_v87]
  have g : val_main_v86 (F := Ideal) x0 y = rows x0 (y 0) ((y 1).val + 12) (y 2) := by
    refine (val_main_v86_apply (F := Ideal) x0 y).trans ((cat_at x0 _).trans ?_)
    refine congrArg (fun r => rows x0 (y 0) r (y 2)) ?_
    show 12 + (y 1).val = (y 1).val + 12
    omega
  exact (val_main_v91_apply (F := Ideal) x0 x1 y).trans (mulTo g h)

theorem tap13 (x0 : FVec Ideal S4x2048x512 .f32) (x1 : FVec Ideal S32x512 .f32) (y : S4x2048x512.Idx) :
    val_main_v98 (F := Ideal) x0 x1 y = rows x0 (y 0) ((y 1).val + 13) (y 2) * x1 (ix2 13 (y 2)) := by
  have h : val_main_v97 (F := Ideal) x1 y = x1 (ix2 13 (y 2)) := by pointwise [val_main_v97, val_main_v96, val_main_v95, val_main_v94]
  have g : val_main_v93 (F := Ideal) x0 y = rows x0 (y 0) ((y 1).val + 13) (y 2) := by
    refine (val_main_v93_apply (F := Ideal) x0 y).trans ((cat_at x0 _).trans ?_)
    refine congrArg (fun r => rows x0 (y 0) r (y 2)) ?_
    show 13 + (y 1).val = (y 1).val + 13
    omega
  exact (val_main_v98_apply (F := Ideal) x0 x1 y).trans (mulTo g h)

theorem tap14 (x0 : FVec Ideal S4x2048x512 .f32) (x1 : FVec Ideal S32x512 .f32) (y : S4x2048x512.Idx) :
    val_main_v105 (F := Ideal) x0 x1 y = rows x0 (y 0) ((y 1).val + 14) (y 2) * x1 (ix2 14 (y 2)) := by
  have h : val_main_v104 (F := Ideal) x1 y = x1 (ix2 14 (y 2)) := by pointwise [val_main_v104, val_main_v103, val_main_v102, val_main_v101]
  have g : val_main_v100 (F := Ideal) x0 y = rows x0 (y 0) ((y 1).val + 14) (y 2) := by
    refine (val_main_v100_apply (F := Ideal) x0 y).trans ((cat_at x0 _).trans ?_)
    refine congrArg (fun r => rows x0 (y 0) r (y 2)) ?_
    show 14 + (y 1).val = (y 1).val + 14
    omega
  exact (val_main_v105_apply (F := Ideal) x0 x1 y).trans (mulTo g h)

theorem tap15 (x0 : FVec Ideal S4x2048x512 .f32) (x1 : FVec Ideal S32x512 .f32) (y : S4x2048x512.Idx) :
    val_main_v112 (F := Ideal) x0 x1 y = rows x0 (y 0) ((y 1).val + 15) (y 2) * x1 (ix2 15 (y 2)) := by
  have h : val_main_v111 (F := Ideal) x1 y = x1 (ix2 15 (y 2)) := by pointwise [val_main_v111, val_main_v110, val_main_v109, val_main_v108]
  have g : val_main_v107 (F := Ideal) x0 y = rows x0 (y 0) ((y 1).val + 15) (y 2) := by
    refine (val_main_v107_apply (F := Ideal) x0 y).trans ((cat_at x0 _).trans ?_)
    refine congrArg (fun r => rows x0 (y 0) r (y 2)) ?_
    show 15 + (y 1).val = (y 1).val + 15
    omega
  exact (val_main_v112_apply (F := Ideal) x0 x1 y).trans (mulTo g h)

theorem tap16 (x0 : FVec Ideal S4x2048x512 .f32) (x1 : FVec Ideal S32x512 .f32) (y : S4x2048x512.Idx) :
    val_main_v119 (F := Ideal) x0 x1 y = rows x0 (y 0) ((y 1).val + 16) (y 2) * x1 (ix2 16 (y 2)) := by
  have h : val_main_v118 (F := Ideal) x1 y = x1 (ix2 16 (y 2)) := by pointwise [val_main_v118, val_main_v117, val_main_v116, val_main_v115]
  have g : val_main_v114 (F := Ideal) x0 y = rows x0 (y 0) ((y 1).val + 16) (y 2) := by
    refine (val_main_v114_apply (F := Ideal) x0 y).trans ((cat_at x0 _).trans ?_)
    refine congrArg (fun r => rows x0 (y 0) r (y 2)) ?_
    show 16 + (y 1).val = (y 1).val + 16
    omega
  exact (val_main_v119_apply (F := Ideal) x0 x1 y).trans (mulTo g h)

theorem tap17 (x0 : FVec Ideal S4x2048x512 .f32) (x1 : FVec Ideal S32x512 .f32) (y : S4x2048x512.Idx) :
    val_main_v126 (F := Ideal) x0 x1 y = rows x0 (y 0) ((y 1).val + 17) (y 2) * x1 (ix2 17 (y 2)) := by
  have h : val_main_v125 (F := Ideal) x1 y = x1 (ix2 17 (y 2)) := by pointwise [val_main_v125, val_main_v124, val_main_v123, val_main_v122]
  have g : val_main_v121 (F := Ideal) x0 y = rows x0 (y 0) ((y 1).val + 17) (y 2) := by
    refine (val_main_v121_apply (F := Ideal) x0 y).trans ((cat_at x0 _).trans ?_)
    refine congrArg (fun r => rows x0 (y 0) r (y 2)) ?_
    show 17 + (y 1).val = (y 1).val + 17
    omega
  exact (val_main_v126_apply (F := Ideal) x0 x1 y).trans (mulTo g h)

theorem tap18 (x0 : FVec Ideal S4x2048x512 .f32) (x1 : FVec Ideal S32x512 .f32) (y : S4x2048x512.Idx) :
    val_main_v133 (F := Ideal) x0 x1 y = rows x0 (y 0) ((y 1).val + 18) (y 2) * x1 (ix2 18 (y 2)) := by
  have h : val_main_v132 (F := Ideal) x1 y = x1 (ix2 18 (y 2)) := by pointwise [val_main_v132, val_main_v131, val_main_v130, val_main_v129]
  have g : val_main_v128 (F := Ideal) x0 y = rows x0 (y 0) ((y 1).val + 18) (y 2) := by
    refine (val_main_v128_apply (F := Ideal) x0 y).trans ((cat_at x0 _).trans ?_)
    refine congrArg (fun r => rows x0 (y 0) r (y 2)) ?_
    show 18 + (y 1).val = (y 1).val + 18
    omega
  exact (val_main_v133_apply (F := Ideal) x0 x1 y).trans (mulTo g h)

theorem tap19 (x0 : FVec Ideal S4x2048x512 .f32) (x1 : FVec Ideal S32x512 .f32) (y : S4x2048x512.Idx) :
    val_main_v140 (F := Ideal) x0 x1 y = rows x0 (y 0) ((y 1).val + 19) (y 2) * x1 (ix2 19 (y 2)) := by
  have h : val_main_v139 (F := Ideal) x1 y = x1 (ix2 19 (y 2)) := by pointwise [val_main_v139, val_main_v138, val_main_v137, val_main_v136]
  have g : val_main_v135 (F := Ideal) x0 y = rows x0 (y 0) ((y 1).val + 19) (y 2) := by
    refine (val_main_v135_apply (F := Ideal) x0 y).trans ((cat_at x0 _).trans ?_)
    refine congrArg (fun r => rows x0 (y 0) r (y 2)) ?_
    show 19 + (y 1).val = (y 1).val + 19
    omega
  exact (val_main_v140_apply (F := Ideal) x0 x1 y).trans (mulTo g h)

theorem tap20 (x0 : FVec Ideal S4x2048x512 .f32) (x1 : FVec Ideal S32x512 .f32) (y : S4x2048x512.Idx) :
    val_main_v147 (F := Ideal) x0 x1 y = rows x0 (y 0) ((y 1).val + 20) (y 2) * x1 (ix2 20 (y 2)) := by
  have h : val_main_v146 (F := Ideal) x1 y = x1 (ix2 20 (y 2)) := by pointwise [val_main_v146, val_main_v145, val_main_v144, val_main_v143]
  have g : val_main_v142 (F := Ideal) x0 y = rows x0 (y 0) ((y 1).val + 20) (y 2) := by
    refine (val_main_v142_apply (F := Ideal) x0 y).trans ((cat_at x0 _).trans ?_)
    refine congrArg (fun r => rows x0 (y 0) r (y 2)) ?_
    show 20 + (y 1).val = (y 1).val + 20
    omega
  exact (val_main_v147_apply (F := Ideal) x0 x1 y).trans (mulTo g h)

theorem tap21 (x0 : FVec Ideal S4x2048x512 .f32) (x1 : FVec Ideal S32x512 .f32) (y : S4x2048x512.Idx) :
    val_main_v154 (F := Ideal) x0 x1 y = rows x0 (y 0) ((y 1).val + 21) (y 2) * x1 (ix2 21 (y 2)) := by
  have h : val_main_v153 (F := Ideal) x1 y = x1 (ix2 21 (y 2)) := by pointwise [val_main_v153, val_main_v152, val_main_v151, val_main_v150]
  have g : val_main_v149 (F := Ideal) x0 y = rows x0 (y 0) ((y 1).val + 21) (y 2) := by
    refine (val_main_v149_apply (F := Ideal) x0 y).trans ((cat_at x0 _).trans ?_)
    refine congrArg (fun r => rows x0 (y 0) r (y 2)) ?_
    show 21 + (y 1).val = (y 1).val + 21
    omega
  exact (val_main_v154_apply (F := Ideal) x0 x1 y).trans (mulTo g h)

theorem tap22 (x0 : FVec Ideal S4x2048x512 .f32) (x1 : FVec Ideal S32x512 .f32) (y : S4x2048x512.Idx) :
    val_main_v161 (F := Ideal) x0 x1 y = rows x0 (y 0) ((y 1).val + 22) (y 2) * x1 (ix2 22 (y 2)) := by
  have h : val_main_v160 (F := Ideal) x1 y = x1 (ix2 22 (y 2)) := by pointwise [val_main_v160, val_main_v159, val_main_v158, val_main_v157]
  have g : val_main_v156 (F := Ideal) x0 y = rows x0 (y 0) ((y 1).val + 22) (y 2) := by
    refine (val_main_v156_apply (F := Ideal) x0 y).trans ((cat_at x0 _).trans ?_)
    refine congrArg (fun r => rows x0 (y 0) r (y 2)) ?_
    show 22 + (y 1).val = (y 1).val + 22
    omega
  exact (val_main_v161_apply (F := Ideal) x0 x1 y).trans (mulTo g h)

theorem tap23 (x0 : FVec Ideal S4x2048x512 .f32) (x1 : FVec Ideal S32x512 .f32) (y : S4x2048x512.Idx) :
    val_main_v168 (F := Ideal) x0 x1 y = rows x0 (y 0) ((y 1).val + 23) (y 2) * x1 (ix2 23 (y 2)) := by
  have h : val_main_v167 (F := Ideal) x1 y = x1 (ix2 23 (y 2)) := by pointwise [val_main_v167, val_main_v166, val_main_v165, val_main_v164]
  have g : val_main_v163 (F := Ideal) x0 y = rows x0 (y 0) ((y 1).val + 23) (y 2) := by
    refine (val_main_v163_apply (F := Ideal) x0 y).trans ((cat_at x0 _).trans ?_)
    refine congrArg (fun r => rows x0 (y 0) r (y 2)) ?_
    show 23 + (y 1).val = (y 1).val + 23
    omega
  exact (val_main_v168_apply (F := Ideal) x0 x1 y).trans (mulTo g h)

theorem tap24 (x0 : FVec Ideal S4x2048x512 .f32) (x1 : FVec Ideal S32x512 .f32) (y : S4x2048x512.Idx) :
    val_main_v175 (F := Ideal) x0 x1 y = rows x0 (y 0) ((y 1).val + 24) (y 2) * x1 (ix2 24 (y 2)) := by
  have h : val_main_v174 (F := Ideal) x1 y = x1 (ix2 24 (y 2)) := by pointwise [val_main_v174, val_main_v173, val_main_v172, val_main_v171]
  have g : val_main_v170 (F := Ideal) x0 y = rows x0 (y 0) ((y 1).val + 24) (y 2) := by
    refine (val_main_v170_apply (F := Ideal) x0 y).trans ((cat_at x0 _).trans ?_)
    refine congrArg (fun r => rows x0 (y 0) r (y 2)) ?_
    show 24 + (y 1).val = (y 1).val + 24
    omega
  exact (val_main_v175_apply (F := Ideal) x0 x1 y).trans (mulTo g h)

theorem tap25 (x0 : FVec Ideal S4x2048x512 .f32) (x1 : FVec Ideal S32x512 .f32) (y : S4x2048x512.Idx) :
    val_main_v182 (F := Ideal) x0 x1 y = rows x0 (y 0) ((y 1).val + 25) (y 2) * x1 (ix2 25 (y 2)) := by
  have h : val_main_v181 (F := Ideal) x1 y = x1 (ix2 25 (y 2)) := by pointwise [val_main_v181, val_main_v180, val_main_v179, val_main_v178]
  have g : val_main_v177 (F := Ideal) x0 y = rows x0 (y 0) ((y 1).val + 25) (y 2) := by
    refine (val_main_v177_apply (F := Ideal) x0 y).trans ((cat_at x0 _).trans ?_)
    refine congrArg (fun r => rows x0 (y 0) r (y 2)) ?_
    show 25 + (y 1).val = (y 1).val + 25
    omega
  exact (val_main_v182_apply (F := Ideal) x0 x1 y).trans (mulTo g h)

theorem tap26 (x0 : FVec Ideal S4x2048x512 .f32) (x1 : FVec Ideal S32x512 .f32) (y : S4x2048x512.Idx) :
    val_main_v189 (F := Ideal) x0 x1 y = rows x0 (y 0) ((y 1).val + 26) (y 2) * x1 (ix2 26 (y 2)) := by
  have h : val_main_v188 (F := Ideal) x1 y = x1 (ix2 26 (y 2)) := by pointwise [val_main_v188, val_main_v187, val_main_v186, val_main_v185]
  have g : val_main_v184 (F := Ideal) x0 y = rows x0 (y 0) ((y 1).val + 26) (y 2) := by
    refine (val_main_v184_apply (F := Ideal) x0 y).trans ((cat_at x0 _).trans ?_)
    refine congrArg (fun r => rows x0 (y 0) r (y 2)) ?_
    show 26 + (y 1).val = (y 1).val + 26
    omega
  exact (val_main_v189_apply (F := Ideal) x0 x1 y).trans (mulTo g h)

theorem tap27 (x0 : FVec Ideal S4x2048x512 .f32) (x1 : FVec Ideal S32x512 .f32) (y : S4x2048x512.Idx) :
    val_main_v196 (F := Ideal) x0 x1 y = rows x0 (y 0) ((y 1).val + 27) (y 2) * x1 (ix2 27 (y 2)) := by
  have h : val_main_v195 (F := Ideal) x1 y = x1 (ix2 27 (y 2)) := by pointwise [val_main_v195, val_main_v194, val_main_v193, val_main_v192]
  have g : val_main_v191 (F := Ideal) x0 y = rows x0 (y 0) ((y 1).val + 27) (y 2) := by
    refine (val_main_v191_apply (F := Ideal) x0 y).trans ((cat_at x0 _).trans ?_)
    refine congrArg (fun r => rows x0 (y 0) r (y 2)) ?_
    show 27 + (y 1).val = (y 1).val + 27
    omega
  exact (val_main_v196_apply (F := Ideal) x0 x1 y).trans (mulTo g h)

theorem tap28 (x0 : FVec Ideal S4x2048x512 .f32) (x1 : FVec Ideal S32x512 .f32) (y : S4x2048x512.Idx) :
    val_main_v203 (F := Ideal) x0 x1 y = rows x0 (y 0) ((y 1).val + 28) (y 2) * x1 (ix2 28 (y 2)) := by
  have h : val_main_v202 (F := Ideal) x1 y = x1 (ix2 28 (y 2)) := by pointwise [val_main_v202, val_main_v201, val_main_v200, val_main_v199]
  have g : val_main_v198 (F := Ideal) x0 y = rows x0 (y 0) ((y 1).val + 28) (y 2) := by
    refine (val_main_v198_apply (F := Ideal) x0 y).trans ((cat_at x0 _).trans ?_)
    refine congrArg (fun r => rows x0 (y 0) r (y 2)) ?_
    show 28 + (y 1).val = (y 1).val + 28
    omega
  exact (val_main_v203_apply (F := Ideal) x0 x1 y).trans (mulTo g h)

theorem tap29 (x0 : FVec Ideal S4x2048x512 .f32) (x1 : FVec Ideal S32x512 .f32) (y : S4x2048x512.Idx) :
    val_main_v210 (F := Ideal) x0 x1 y = rows x0 (y 0) ((y 1).val + 29) (y 2) * x1 (ix2 29 (y 2)) := by
  have h : val_main_v209 (F := Ideal) x1 y = x1 (ix2 29 (y 2)) := by pointwise [val_main_v209, val_main_v208, val_main_v207, val_main_v206]
  have g : val_main_v205 (F := Ideal) x0 y = rows x0 (y 0) ((y 1).val + 29) (y 2) := by
    refine (val_main_v205_apply (F := Ideal) x0 y).trans ((cat_at x0 _).trans ?_)
    refine congrArg (fun r => rows x0 (y 0) r (y 2)) ?_
    show 29 + (y 1).val = (y 1).val + 29
    omega
  exact (val_main_v210_apply (F := Ideal) x0 x1 y).trans (mulTo g h)

theorem tap30 (x0 : FVec Ideal S4x2048x512 .f32) (x1 : FVec Ideal S32x512 .f32) (y : S4x2048x512.Idx) :
    val_main_v217 (F := Ideal) x0 x1 y = rows x0 (y 0) ((y 1).val + 30) (y 2) * x1 (ix2 30 (y 2)) := by
  have h : val_main_v216 (F := Ideal) x1 y = x1 (ix2 30 (y 2)) := by pointwise [val_main_v216, val_main_v215, val_main_v214, val_main_v213]
  have g : val_main_v212 (F := Ideal) x0 y = rows x0 (y 0) ((y 1).val + 30) (y 2) := by
    refine (val_main_v212_apply (F := Ideal) x0 y).trans ((cat_at x0 _).trans ?_)
    refine congrArg (fun r => rows x0 (y 0) r (y 2)) ?_
    show 30 + (y 1).val = (y 1).val + 30
    omega
  exact (val_main_v217_apply (F := Ideal) x0 x1 y).trans (mulTo g h)

/-- The shifted products added up, from the first tap to the last. -/
theorem sums (x0 : FVec Ideal S4x2048x512 .f32) (x1 : FVec Ideal S32x512 .f32) (y : S4x2048x512.Idx) :
    val_main_v218 (F := Ideal) x0 x1 y = taps (fun k => rows x0 (y 0) ((y 1).val + k) (y 2) * x1 (ix2 (Fin.ofNat 32 k) (y 2))) 0 31 := by
  have s0 : val_main_v8 (F := Ideal) x0 x1 y =
      taps (fun k => rows x0 (y 0) ((y 1).val + k) (y 2) * x1 (ix2 (Fin.ofNat 32 k) (y 2))) 0 1 := (tap0 x0 x1 y).trans (zero_add _).symm
  have s1 : val_main_v15 (F := Ideal) x0 x1 y =
      taps (fun k => rows x0 (y 0) ((y 1).val + k) (y 2) * x1 (ix2 (Fin.ofNat 32 k) (y 2))) 0 2 :=
    (val_main_v15_apply (F := Ideal) x0 x1 y).trans (addTo s0 (tap1 x0 x1 y))
  have s2 : val_main_v22 (F := Ideal) x0 x1 y =
      taps (fun k => rows x0 (y 0) ((y 1).val + k) (y 2) * x1 (ix2 (Fin.ofNat 32 k) (y 2))) 0 3 :=
    (val_main_v22_apply (F := Ideal) x0 x1 y).trans (addTo s1 (tap2 x0 x1 y))
  have s3 : val_main_v29 (F := Ideal) x0 x1 y =
      taps (fun k => rows x0 (y 0) ((y 1).val + k) (y 2) * x1 (ix2 (Fin.ofNat 32 k) (y 2))) 0 4 :=
    (val_main_v29_apply (F := Ideal) x0 x1 y).trans (addTo s2 (tap3 x0 x1 y))
  have s4 : val_main_v36 (F := Ideal) x0 x1 y =
      taps (fun k => rows x0 (y 0) ((y 1).val + k) (y 2) * x1 (ix2 (Fin.ofNat 32 k) (y 2))) 0 5 :=
    (val_main_v36_apply (F := Ideal) x0 x1 y).trans (addTo s3 (tap4 x0 x1 y))
  have s5 : val_main_v43 (F := Ideal) x0 x1 y =
      taps (fun k => rows x0 (y 0) ((y 1).val + k) (y 2) * x1 (ix2 (Fin.ofNat 32 k) (y 2))) 0 6 :=
    (val_main_v43_apply (F := Ideal) x0 x1 y).trans (addTo s4 (tap5 x0 x1 y))
  have s6 : val_main_v50 (F := Ideal) x0 x1 y =
      taps (fun k => rows x0 (y 0) ((y 1).val + k) (y 2) * x1 (ix2 (Fin.ofNat 32 k) (y 2))) 0 7 :=
    (val_main_v50_apply (F := Ideal) x0 x1 y).trans (addTo s5 (tap6 x0 x1 y))
  have s7 : val_main_v57 (F := Ideal) x0 x1 y =
      taps (fun k => rows x0 (y 0) ((y 1).val + k) (y 2) * x1 (ix2 (Fin.ofNat 32 k) (y 2))) 0 8 :=
    (val_main_v57_apply (F := Ideal) x0 x1 y).trans (addTo s6 (tap7 x0 x1 y))
  have s8 : val_main_v64 (F := Ideal) x0 x1 y =
      taps (fun k => rows x0 (y 0) ((y 1).val + k) (y 2) * x1 (ix2 (Fin.ofNat 32 k) (y 2))) 0 9 :=
    (val_main_v64_apply (F := Ideal) x0 x1 y).trans (addTo s7 (tap8 x0 x1 y))
  have s9 : val_main_v71 (F := Ideal) x0 x1 y =
      taps (fun k => rows x0 (y 0) ((y 1).val + k) (y 2) * x1 (ix2 (Fin.ofNat 32 k) (y 2))) 0 10 :=
    (val_main_v71_apply (F := Ideal) x0 x1 y).trans (addTo s8 (tap9 x0 x1 y))
  have s10 : val_main_v78 (F := Ideal) x0 x1 y =
      taps (fun k => rows x0 (y 0) ((y 1).val + k) (y 2) * x1 (ix2 (Fin.ofNat 32 k) (y 2))) 0 11 :=
    (val_main_v78_apply (F := Ideal) x0 x1 y).trans (addTo s9 (tap10 x0 x1 y))
  have s11 : val_main_v85 (F := Ideal) x0 x1 y =
      taps (fun k => rows x0 (y 0) ((y 1).val + k) (y 2) * x1 (ix2 (Fin.ofNat 32 k) (y 2))) 0 12 :=
    (val_main_v85_apply (F := Ideal) x0 x1 y).trans (addTo s10 (tap11 x0 x1 y))
  have s12 : val_main_v92 (F := Ideal) x0 x1 y =
      taps (fun k => rows x0 (y 0) ((y 1).val + k) (y 2) * x1 (ix2 (Fin.ofNat 32 k) (y 2))) 0 13 :=
    (val_main_v92_apply (F := Ideal) x0 x1 y).trans (addTo s11 (tap12 x0 x1 y))
  have s13 : val_main_v99 (F := Ideal) x0 x1 y =
      taps (fun k => rows x0 (y 0) ((y 1).val + k) (y 2) * x1 (ix2 (Fin.ofNat 32 k) (y 2))) 0 14 :=
    (val_main_v99_apply (F := Ideal) x0 x1 y).trans (addTo s12 (tap13 x0 x1 y))
  have s14 : val_main_v106 (F := Ideal) x0 x1 y =
      taps (fun k => rows x0 (y 0) ((y 1).val + k) (y 2) * x1 (ix2 (Fin.ofNat 32 k) (y 2))) 0 15 :=
    (val_main_v106_apply (F := Ideal) x0 x1 y).trans (addTo s13 (tap14 x0 x1 y))
  have s15 : val_main_v113 (F := Ideal) x0 x1 y =
      taps (fun k => rows x0 (y 0) ((y 1).val + k) (y 2) * x1 (ix2 (Fin.ofNat 32 k) (y 2))) 0 16 :=
    (val_main_v113_apply (F := Ideal) x0 x1 y).trans (addTo s14 (tap15 x0 x1 y))
  have s16 : val_main_v120 (F := Ideal) x0 x1 y =
      taps (fun k => rows x0 (y 0) ((y 1).val + k) (y 2) * x1 (ix2 (Fin.ofNat 32 k) (y 2))) 0 17 :=
    (val_main_v120_apply (F := Ideal) x0 x1 y).trans (addTo s15 (tap16 x0 x1 y))
  have s17 : val_main_v127 (F := Ideal) x0 x1 y =
      taps (fun k => rows x0 (y 0) ((y 1).val + k) (y 2) * x1 (ix2 (Fin.ofNat 32 k) (y 2))) 0 18 :=
    (val_main_v127_apply (F := Ideal) x0 x1 y).trans (addTo s16 (tap17 x0 x1 y))
  have s18 : val_main_v134 (F := Ideal) x0 x1 y =
      taps (fun k => rows x0 (y 0) ((y 1).val + k) (y 2) * x1 (ix2 (Fin.ofNat 32 k) (y 2))) 0 19 :=
    (val_main_v134_apply (F := Ideal) x0 x1 y).trans (addTo s17 (tap18 x0 x1 y))
  have s19 : val_main_v141 (F := Ideal) x0 x1 y =
      taps (fun k => rows x0 (y 0) ((y 1).val + k) (y 2) * x1 (ix2 (Fin.ofNat 32 k) (y 2))) 0 20 :=
    (val_main_v141_apply (F := Ideal) x0 x1 y).trans (addTo s18 (tap19 x0 x1 y))
  have s20 : val_main_v148 (F := Ideal) x0 x1 y =
      taps (fun k => rows x0 (y 0) ((y 1).val + k) (y 2) * x1 (ix2 (Fin.ofNat 32 k) (y 2))) 0 21 :=
    (val_main_v148_apply (F := Ideal) x0 x1 y).trans (addTo s19 (tap20 x0 x1 y))
  have s21 : val_main_v155 (F := Ideal) x0 x1 y =
      taps (fun k => rows x0 (y 0) ((y 1).val + k) (y 2) * x1 (ix2 (Fin.ofNat 32 k) (y 2))) 0 22 :=
    (val_main_v155_apply (F := Ideal) x0 x1 y).trans (addTo s20 (tap21 x0 x1 y))
  have s22 : val_main_v162 (F := Ideal) x0 x1 y =
      taps (fun k => rows x0 (y 0) ((y 1).val + k) (y 2) * x1 (ix2 (Fin.ofNat 32 k) (y 2))) 0 23 :=
    (val_main_v162_apply (F := Ideal) x0 x1 y).trans (addTo s21 (tap22 x0 x1 y))
  have s23 : val_main_v169 (F := Ideal) x0 x1 y =
      taps (fun k => rows x0 (y 0) ((y 1).val + k) (y 2) * x1 (ix2 (Fin.ofNat 32 k) (y 2))) 0 24 :=
    (val_main_v169_apply (F := Ideal) x0 x1 y).trans (addTo s22 (tap23 x0 x1 y))
  have s24 : val_main_v176 (F := Ideal) x0 x1 y =
      taps (fun k => rows x0 (y 0) ((y 1).val + k) (y 2) * x1 (ix2 (Fin.ofNat 32 k) (y 2))) 0 25 :=
    (val_main_v176_apply (F := Ideal) x0 x1 y).trans (addTo s23 (tap24 x0 x1 y))
  have s25 : val_main_v183 (F := Ideal) x0 x1 y =
      taps (fun k => rows x0 (y 0) ((y 1).val + k) (y 2) * x1 (ix2 (Fin.ofNat 32 k) (y 2))) 0 26 :=
    (val_main_v183_apply (F := Ideal) x0 x1 y).trans (addTo s24 (tap25 x0 x1 y))
  have s26 : val_main_v190 (F := Ideal) x0 x1 y =
      taps (fun k => rows x0 (y 0) ((y 1).val + k) (y 2) * x1 (ix2 (Fin.ofNat 32 k) (y 2))) 0 27 :=
    (val_main_v190_apply (F := Ideal) x0 x1 y).trans (addTo s25 (tap26 x0 x1 y))
  have s27 : val_main_v197 (F := Ideal) x0 x1 y =
      taps (fun k => rows x0 (y 0) ((y 1).val + k) (y 2) * x1 (ix2 (Fin.ofNat 32 k) (y 2))) 0 28 :=
    (val_main_v197_apply (F := Ideal) x0 x1 y).trans (addTo s26 (tap27 x0 x1 y))
  have s28 : val_main_v204 (F := Ideal) x0 x1 y =
      taps (fun k => rows x0 (y 0) ((y 1).val + k) (y 2) * x1 (ix2 (Fin.ofNat 32 k) (y 2))) 0 29 :=
    (val_main_v204_apply (F := Ideal) x0 x1 y).trans (addTo s27 (tap28 x0 x1 y))
  have s29 : val_main_v211 (F := Ideal) x0 x1 y =
      taps (fun k => rows x0 (y 0) ((y 1).val + k) (y 2) * x1 (ix2 (Fin.ofNat 32 k) (y 2))) 0 30 :=
    (val_main_v211_apply (F := Ideal) x0 x1 y).trans (addTo s28 (tap29 x0 x1 y))
  have s30 : val_main_v218 (F := Ideal) x0 x1 y =
      taps (fun k => rows x0 (y 0) ((y 1).val + k) (y 2) * x1 (ix2 (Fin.ofNat 32 k) (y 2))) 0 31 :=
    (val_main_v218_apply (F := Ideal) x0 x1 y).trans (addTo s29 (tap30 x0 x1 y))
  exact s30

/-- The reference's convolution: thirty-one shifted products and the bias. -/
theorem ref_at (x0 : FVec Ideal S4x2048x512 .f32) (x1 : FVec Ideal S32x512 .f32) (x2 : FVec Ideal S512 .f32) (y : S4x2048x512.Idx) :
    val_main_v221 (F := Ideal) x0 x1 x2 y
      = x2 (ix1 (y 2)) + ∑ k ∈ Finset.range 31, rows x0 (y 0) ((y 1).val + k) (y 2) * x1 (ix2 (Fin.ofNat 32 k) (y 2)) := by
  have h : val_main_v220 (F := Ideal) x2 y = x2 (ix1 (y 2)) := by pointwise [val_main_v220, val_main_v219]
  have g := (sums x0 x1 y).trans ((taps_eq _ 0 31).trans (zero_add _))
  exact ((val_main_v221_apply (F := Ideal) x0 x1 x2 y).trans (addTo g h)).trans (add_comm (G := EReal) _ _)

/-- Where the block of grid point `t` lies in the result. -/
theorem emb5 (t : Fin cfg0.N) (y : S1x512x512.Idx) : ((win0_5.blk t).view.emb y : S4x2048x512.Idx)
    = ix3 ⟨t.val / 4, by have := (idx t).2.2.2.2.2.2.2; omega⟩ ⟨t.val % 4 * 512 + (y 1).val, by idx_bounds; omega⟩ (y 2) := by
  have h0 : (y 0).val < 1 := (y 0).isLt
  have e0 : ((win0_5.blk t).view.emb y 0 : Fin 4).val = t.val / 4 := by
    blk_simp [idx t]
  have e1 : ((win0_5.blk t).view.emb y 1 : Fin 2048).val = t.val % 4 * 512 + (y 1).val := by
    blk_simp [idx t]
  have e2 : ((win0_5.blk t).view.emb y 2 : Fin 512).val = (y 2).val := by
    blk_simp [idx t]
  funext a
  fin_cases a
  · exact Fin.ext e0
  · exact Fin.ext e1
  · exact Fin.ext e2

open Cert.Reference21Ideal.Read in
/-- The result array is the reference's. -/
theorem final (c : Dev nD) :
    (dats m 0 c).arrAt 5 cfg0.N = val_main_v221 (F := Ideal) (u m c) (dw m c) (db m c) := by
  refine (dats m 0 c).arrAt_eq_of_covers 5 _ (by decide +kernel) fun t hf y => ?_
  refine Eq.trans ?_ (congrArg (val_main_v221 (F := Ideal) (u m c) (dw m c) (db m c) : FVec Ideal S4x2048x512 .f32) (emb5 t y)).symm
  refine Eq.trans ?_ (ref_at (u m c) (dw m c) (db m c) _).symm
  rw [after0_5]
  unfold outsAt0
  refine (out_at c (grid0.coords t) _ _ _ _ _ _ _ _ _ _ _ _ _ _ _ _ _ _ _ y).trans ?_
  unfold res
  rw [taps_eq]
  have hl : Fin.ofNat 512 (y 2).val = (y 2 : Fin 512) := Fin.ext (Nat.mod_eq_of_lt (y 2).isLt)
  refine congrArg₂ (fun a b : EReal => a + b) ((blk4_at m c t _).trans (congrArg (fun l => db m c (ix1 l)) hl)) (Finset.sum_congr rfl fun k hk => ?_)
  have hk' : k < 31 := Finset.mem_range.mp hk
  have hy : (y 1).val < 512 := (y 1).isLt
  refine congrArg₂ (fun a b : EReal => a * b) ((pad_rows m c t ((y 1).val + (1 + k)) (y 2) (by omega) (by omega)).trans ?_) ?_
  · refine congrArg (fun r => rows (u m c) _ r (y 2)) ?_
    show t.val % 4 * 512 + ((y 1).val + (1 + k) - 1) = t.val % 4 * 512 + (y 1).val + k
    omega
  · exact (blk3_at m c t _).trans (congrArg (fun l => dw m c (ix2 (Fin.ofNat 32 k) l)) hl)

end Cert.ConvFwd
-- ==== Proof.Glu.lean ====
/- The convolution's gate: each stored block is the reference's composed term at its rows. -/
module

public import proofs.«01_k».proof.Proof.Gen.Kernel22Ideal.Frame
public import proofs.«01_k».proof.Proof.Gen.Reference22Ideal.Read
public import Idealize.ShloMosaic.Lib.Pipeline.ValueKit
public import Idealize.ShloMosaic.Lib.Claim
public import Idealize.ShloMosaic.Lib.Pipeline.ReadBack
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.Glu

open Cert.Kernel22Ideal Cert.Kernel22Ideal.Gen Cert.Reals

variable (m : (ℓ : Loc nD τ sig) → Buf (Elt Ideal) ℓ)

/-- Grid point `t` takes row block `t`; the two halves are column blocks 4 and 5 of the projection. -/
theorem idx : ∀ t : Fin cfg0.N, win0_0.index t = ![t.val, 4] ∧ win0_1.index t = ![t.val, 5]
    ∧ win0_2.index t = ![t.val, 0] ∧ t.val < 32 :=
  (by decide +kernel : ∀ t : Fin grid0.N, _)

/-- The argument array of device `c`: the projected rows. -/
abbrev p (c : Dev nD) : FVec Ideal S8192x3072 .f32 := m ((c : Thread nD τ).loc main_arg0)

theorem p_at (c : Dev nD) (y : S8192x3072.Idx) : (V m c main_arg0 : FVec Ideal S8192x3072 .f32) y = p m c y := by
  entry_read
  pointwise

theorem blk0_at (c : Dev nD) (t : Fin cfg0.N) (y : S256x512.Idx) : (iblk m c 0 t : FVec Ideal S256x512 .f32) y
    = p m c (ix2 ⟨t.val * 256 + (y 0).val, by have := (idx t).2.2.2; idx_bounds; omega⟩ ⟨2048 + (y 1).val, by idx_bounds; omega⟩) := by
  blk_simp [iblk]
  refine (p_at m c _).trans ?_
  blk_ext [idx t]

theorem blk1_at (c : Dev nD) (t : Fin cfg0.N) (y : S256x512.Idx) : (iblk m c 1 t : FVec Ideal S256x512 .f32) y
    = p m c (ix2 ⟨t.val * 256 + (y 0).val, by have := (idx t).2.2.2; idx_bounds; omega⟩ ⟨2560 + (y 1).val, by idx_bounds; omega⟩) := by
  blk_simp [iblk]
  refine (p_at m c _).trans ?_
  blk_ext [idx t]

theorem pay1_at (a b : FVec Ideal S256x512 .f32) (y : S256x512.Idx) : k0_pay1 a b y = a y * sg (b y) := by
  pointwise [k0_pay1, sg]
  simp only [zero_sub]

open Cert.Reference22Ideal.Read in
theorem ref_at (x0 : FVec Ideal S8192x3072 .f32) (y : S8192x512.Idx) : val_main_v9 (F := Ideal) x0 y
    = x0 (ix2 (y 0) ⟨2048 + (y 1).val, by idx_bounds; omega⟩) * sg (x0 (ix2 (y 0) ⟨2560 + (y 1).val, by idx_bounds; omega⟩)) := by
  pointwise [val_main_v9, val_main_v8, val_main_v7, val_main_v6, val_main_v5, val_main_v4, val_main_v3, val_main_v2,
    val_main_v1, val_main_v0, val_main_cst, val_main_cst_0, sg]
  simp only [← Nat.add_assoc, Nat.reduceAdd]

open Cert.Reference22Ideal.Read in
/-- The result array is the reference's. -/
theorem final (c : Dev nD) :
    (dats m 0 c).arrAt 2 cfg0.N = val_main_v9 (F := Ideal) (p m c) := by
  refine (dats m 0 c).arrAt_eq_of_covers 2 _ (by decide +kernel) fun t hf y => ?_
  blk_simp
  rw [after0_2]
  frame_out
  refine (pay1_at _ _ _).trans (Eq.trans ?_ (ref_at _ _).symm)
  simp only [blk0_at, blk1_at]
  blk_point [idx t]

end Cert.Glu
-- ==== Proof.ConvOut.lean ====
/- The convolution's layer norm and its silu: each stored block is the reference's composed term at its rows. -/
module

public import proofs.«01_k».proof.Proof.Gen.Kernel23Ideal.Frame
public import proofs.«01_k».proof.Proof.Gen.Reference23Ideal.Read
public import Idealize.ShloMosaic.Lib.Pipeline.ValueKit
public import Idealize.ShloMosaic.Lib.Claim
public import Idealize.ShloMosaic.Lib.Pipeline.ReadBack
public import proofs.«01_k».proof.Proof.Reals
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.ConvOut

open Cert.Kernel23Ideal Cert.Kernel23Ideal.Gen Cert.Reals Cert.Norm

variable (m : (ℓ : Loc nD τ sig) → Buf (Elt Ideal) ℓ)

/-- Grid point `t` takes row block `t`; the gain and the shift have one block. -/
theorem idx : ∀ t : Fin cfg0.N, win0_0.index t = ![t.val, 0] ∧ win0_1.index t = ![0, 0]
    ∧ win0_2.index t = ![0, 0] ∧ win0_3.index t = ![t.val, 0] ∧ t.val < 32 :=
  (by decide +kernel : ∀ t : Fin grid0.N, _)

/-- The argument arrays of device `c`: the rows, the gain and the shift. -/
abbrev z (c : Dev nD) : FVec Ideal S8192x512 .f32 := m ((c : Thread nD τ).loc main_arg0)
abbrev g (c : Dev nD) : FVec Ideal S512 .f32 := m ((c : Thread nD τ).loc main_arg1)
abbrev b (c : Dev nD) : FVec Ideal S512 .f32 := m ((c : Thread nD τ).loc main_arg2)

theorem g_at (c : Dev nD) (y : S1x512.Idx) : (V m c main_v0 : FVec Ideal S1x512 .f32) y = g m c (ix1 (y 1)) := by
  entry_read
  pointwise

theorem b_at (c : Dev nD) (y : S1x512.Idx) : (V m c main_v1 : FVec Ideal S1x512 .f32) y = b m c (ix1 (y 1)) := by
  entry_read
  pointwise

theorem blk0_at (c : Dev nD) (t : Fin cfg0.N) (y : S256x512.Idx) : (iblk m c 0 t : FVec Ideal S256x512 .f32) y
    = z m c (ix2 ⟨t.val * 256 + (y 0).val, by have := (idx t).2.2.2.2; idx_bounds; omega⟩ (y 1)) := by
  blk_simp [iblk]
  blk_ext [idx t]

theorem blk1_at (c : Dev nD) (t : Fin cfg0.N) (y : S1x512.Idx) : (iblk m c 1 t : FVec Ideal S1x512 .f32) y = g m c (ix1 (y 1)) := by
  blk_simp [iblk]
  refine (g_at m c _).trans ?_
  blk_ext [idx t]

theorem blk2_at (c : Dev nD) (t : Fin cfg0.N) (y : S1x512.Idx) : (iblk m c 2 t : FVec Ideal S1x512 .f32) y = b m c (ix1 (y 1)) := by
  blk_simp [iblk]
  refine (b_at m c _).trans ?_
  blk_ext [idx t]

/-- The normalised row times the gain plus the shift, through silu. -/
def out (f g b : Fin 512 → EReal) (k : Fin 512) : EReal :=
  (xhat c512 f k * g k + b k) * sg (xhat c512 f k * g k + b k)

theorem pay1_at (v : FVec Ideal S256x512 .f32) (g b : FVec Ideal S1x512 .f32) (y : S256x512.Idx) :
    (k0_pay1 (F := Ideal) v g b : FVec Ideal S256x512 .bf16) y
      = out (fun k => v (ix2 (y 0) k)) (fun k => g (ix2 0 k)) (fun k => b (ix2 0 k)) (y 1) := by
  pointwise [k0_pay1, out, sg, xhat, rstd, var, ctr, mean]
  simp only [zero_sub]

section
open Cert.Reference23Ideal.Read

theorem ref12_at (x0 : FVec Ideal S8192x512 .f32) (y : S8192x512.Idx) :
    val_main_v12 (F := Ideal) x0 y = ctr c512 (fun k => x0 (ix2 (y 0) k)) (y 1) := by
  pointwise [val_main_v12, val_main_v11, val_main_v3, val_main_v2, val_main_cst_0, val_main_v1, val_main_v0, val_main_cst, ctr, mean]

theorem ref15_at (x0 : FVec Ideal S8192x512 .f32) (y : Cert.Reference23Ideal.S8192x1.Idx) :
    val_main_v15 (F := Ideal) x0 y = rstd c512 (fun k => x0 (ix2 (y 0) k)) := by
  have e : val_main_v5 (F := Ideal) x0 = val_main_v12 x0 := rfl
  pointwise [val_main_v15, val_main_v14, val_main_v13, val_main_cst_3, val_main_v10, val_main_v9, val_main_cst_2, val_main_v8, val_main_v7,
    val_main_cst_1, val_main_v6, e, ref12_at, rstd, var, mean]

theorem ref23_at (x0 : FVec Ideal S8192x512 .f32) (x1 x2 : FVec Ideal S512 .f32) (y : S8192x512.Idx) :
    val_main_v23 (F := Ideal) x0 x1 x2 y = xhat c512 (fun k => x0 (ix2 (y 0) k)) (y 1) * x1 (ix1 (y 1)) + x2 (ix1 (y 1)) := by
  pointwise [val_main_v23, val_main_v22, val_main_v21, val_main_v20, val_main_v19, val_main_v18, val_main_v17, val_main_v16,
    ref12_at, ref15_at, xhat]

theorem ref_at (x0 : FVec Ideal S8192x512 .f32) (x1 x2 : FVec Ideal S512 .f32) (y : S8192x512.Idx) :
    (val_main_v25 (F := Ideal) x0 x1 x2 : FVec Ideal S8192x512 .bf16) y
      = out (fun k => x0 (ix2 (y 0) k)) (fun k => x1 (ix1 k)) (fun k => x2 (ix1 k)) (y 1) := by
  pointwise [val_main_v25, val_main_v24, val_main_call0_v5, val_main_call0_v4, val_main_call0_cst_0, val_main_call0_v3, val_main_call0_v2,
    val_main_call0_cst, val_main_call0_v1, val_main_call0_v0, ref23_at, out, sg]

end

open Cert.Reference23Ideal.Read in
/-- The result array is the reference's. -/
theorem final (c : Dev nD) :
    (dats m 0 c).arrAt 3 cfg0.N = val_main_v25 (F := Ideal) (z m c) (g m c) (b m c) := by
  refine (dats m 0 c).arrAt_eq_of_covers 3 _ (by decide +kernel) fun t hf y => ?_
  blk_simp
  rw [after0_3]
  frame_out
  refine (pay1_at _ _ _ _).trans (Eq.trans ?_ (ref_at _ _ _ _).symm)
  simp only [blk0_at, blk1_at, blk2_at]
  blk_point [idx t]

end Cert.ConvOut
-- ==== Proof.Shift.lean ====
/- The centred token shift: each stored block is the reference's composed term at its rows. -/
module

public import proofs.«01_k».proof.Proof.Gen.Kernel24Ideal.Frame
public import proofs.«01_k».proof.Proof.Gen.Reference24Ideal.Read
public import Idealize.ShloMosaic.Lib.Pipeline.ValueKit
public import Idealize.ShloMosaic.Lib.Claim
public import Idealize.ShloMosaic.Lib.Pipeline.ReadBack
public import proofs.«01_k».proof.Proof.Reals
public import proofs.«01_k».proof.Proof.Mix

@[expose] public section

set_option maxRecDepth 16384

noncomputable section

open Idealize.ShloMosaic Idealize.ShloMosaic.TcCoe Idealize.SL.Sem
open Idealize.ShloMosaic.Pipeline (Dat)

namespace Cert.Shift

open Cert.Kernel24Ideal Cert.Kernel24Ideal.Gen Cert.Reals Cert.Mix

variable (m : (ℓ : Loc nD τ sig) → Buf (Elt Ideal) ℓ)

/-- The grid point of sequence `t / 8` and row tile `t % 8`. -/
theorem idx : ∀ t : Fin cfg0.N, win0_0.index t = ![t.val / 8, t.val % 8, 0]
    ∧ win0_1.index t = ![t.val / 8, t.val % 8 * 32 - 1, 0]
    ∧ win0_2.index t = ![t.val / 8, min (t.val % 8 * 32 + 32) 255, 0] ∧ win0_3.index t = ![0, 0]
    ∧ win0_4.index t = ![0, 0] ∧ win0_5.index t = ![t.val / 8, t.val % 8, 0] ∧ t.val < 32 ∧ ((grid0.coords t) 1).val = t.val % 8 :=
  (by decide +kernel : ∀ t : Fin grid0.N, _)

/-- The argument arrays of device `c`: the projections and the two mixing vectors. -/
abbrev p (c : Dev nD) : FVec Ideal S4x2048x3072 .f32 := m ((c : Thread nD τ).loc main_arg0)
abbrev mp (c : Dev nD) : FVec Ideal S2048 .f32 := m ((c : Thread nD τ).loc main_arg1)
abbrev mn (c : Dev nD) : FVec Ideal S2048 .f32 := m ((c : Thread nD τ).loc main_arg2)

theorem mp_at (c : Dev nD) (y : S1x2048.Idx) : (V m c main_v0 : FVec Ideal S1x2048 .f32) y = mp m c (ix1 (y 1)) := by
  entry_read
  pointwise

theorem mn_at (c : Dev nD) (y : S1x2048.Idx) : (V m c main_v1 : FVec Ideal S1x2048 .f32) y = mn m c (ix1 (y 1)) := by
  entry_read
  pointwise

theorem blk0_at (c : Dev nD) (t : Fin cfg0.N) (y : S1x256x2048.Idx) : (X0_0 m c t : FVec Ideal S1x256x2048 .f32) y
    = p m c (ix3 ⟨t.val / 8, by have := (idx t).2.2.2.2.2.2.1; omega⟩ ⟨t.val % 8 * 256 + (y 1).val, by idx_bounds; omega⟩
        ⟨(y 2).val, by idx_bounds; omega⟩) := by
  unfold X0_0 Pipeline.Window.fill
  refine (dif_pos (moved0_0 t y)).trans ?_
  blk_simp [iblk]
  blk_ext [idx t]

theorem blk1_at (c : Dev nD) (t : Fin cfg0.N) (ht : 0 < t.val % 8) (k : Fin 2048) : (X0_1 m c t : FVec Ideal S1x8x2048 .f32) (ix3 0 7 k)
    = p m c (ix3 ⟨t.val / 8, by have := (idx t).2.2.2.2.2.2.1; omega⟩ ⟨t.val % 8 * 256 - 1, by omega⟩
        ⟨k.val, by omega⟩) := by
  unfold X0_1 Pipeline.Window.fill
  refine (dif_pos (moved0_1 t _)).trans ?_
  blk_simp [iblk]
  blk_ext [idx t]

theorem blk2_at (c : Dev nD) (t : Fin cfg0.N) (ht : t.val % 8 < 7) (k : Fin 2048) : (X0_2 m c t : FVec Ideal S1x8x2048 .f32) (ix3 0 0 k)
    = p m c (ix3 ⟨t.val / 8, by have := (idx t).2.2.2.2.2.2.1; omega⟩ ⟨t.val % 8 * 256 + 256, by omega⟩
        ⟨k.val, by omega⟩) := by
  unfold X0_2 Pipeline.Window.fill
  refine (dif_pos (moved0_2 t _)).trans ?_
  blk_simp [iblk]
  blk_ext [idx t]

theorem blk3_at (c : Dev nD) (t : Fin cfg0.N) (y : S1x2048.Idx) : (iblk m c 3 t : FVec Ideal S1x2048 .f32) y = mp m c (ix1 (y 1)) := by
  blk_simp [iblk]
  refine (mp_at m c _).trans ?_
  blk_ext [idx t]

theorem blk4_at (c : Dev nD) (t : Fin cfg0.N) (y : S1x2048.Idx) : (iblk m c 4 t : FVec Ideal S1x2048 .f32) y = mn m c (ix1 (y 1)) := by
  blk_simp [iblk]
  refine (mn_at m c _).trans ?_
  blk_ext [idx t]

theorem pay1_at (v : FVec Ideal S256x2048 .f32) (y : S1x256x2048.Idx) : k0_pay1 (F := Ideal) v y = v (ix2 (y 1) (y 2)) := by
  pointwise [k0_pay1]

theorem pay2_at (i : grid0.Coords) (v : FVec Ideal S1x256x2048 .f32) (h0 h1 : FVec Ideal S1x1x2048 .f32) (a b : FVec Ideal S1x2048 .f32)
    (y : S256x2048.Idx) :
    k0_pay2 (F := Ideal) i v h0 h1 a b y
      = mix (v (ix3 0 (y 0) (y 1)))
          (if (y 0).val = 0 then if 0 < (i 1).val then h0 (ix3 0 0 (y 1)) else 0
            else v (ix3 0 ⟨((y 0).val + 256 - 1) % 256, Nat.mod_lt _ (by decide)⟩ (y 1)))
          (if (y 0).val = 255 then if (i 1).val < 7 then h1 (ix3 0 0 (y 1)) else 0
            else v (ix3 0 ⟨((y 0).val + 256 - 255) % 256, Nat.mod_lt _ (by decide)⟩ (y 1)))
          (a (ix2 0 (y 1))) (b (ix2 0 (y 1))) := by
  pointwise [k0_pay2]
  exact mix_congr rfl (before ⟨(y 0).val, (y 0).isLt⟩ ⟨(i 1).val, (i 1).isLt⟩ _ _) (after ⟨(y 0).val, (y 0).isLt⟩ ⟨(i 1).val, (i 1).isLt⟩ _ _)
    rfl rfl

section
open Cert.Reference24Ideal.Read

theorem ref_at (x0 : FVec Ideal S4x2048x3072 .f32) (x1 x2 : FVec Ideal S2048 .f32) (y : S4x2048x2048.Idx) :
    val_main_v16 (F := Ideal) x0 x1 x2 y
      = mix (x0 (ix3 (y 0) (y 1) ⟨(y 2).val, by idx_bounds; omega⟩))
          (prv (fun j => x0 (ix3 (y 0) j ⟨(y 2).val, by idx_bounds; omega⟩)) (y 1))
          (nxt (fun j => x0 (ix3 (y 0) j ⟨(y 2).val, by idx_bounds; omega⟩)) (y 1))
          (x1 (ix1 (y 2))) (x2 (ix1 (y 2))) := by
  have hy : (y 1).val < 2048 := (y 1).isLt
  pointwise [val_main_v16, val_main_v15, val_main_v14, val_main_v13, val_main_v12, val_main_v11, val_main_v10, val_main_v9, val_main_v8,
    val_main_v7, val_main_v6, val_main_v5, val_main_v4, val_main_v3, val_main_v2, val_main_cst, val_main_v1, val_main_v0]
  refine mix_congr rfl ?_ ?_ rfl rfl
  · unfold prv
    by_cases h : (y 1).val = 0
    · rw [dif_pos h]
      exact dif_pos (by omega)
    · rw [dif_neg h]
      exact dif_neg (by omega)
  · unfold nxt
    by_cases h : (y 1).val = 2047
    · rw [dif_pos h]
      exact dif_neg (by omega)
    · rw [dif_neg h]
      refine (dif_pos (by omega)).trans ?_
      exact congrArg (fun j => x0 (ix3 (y 0) j _)) (Fin.ext (Nat.add_comm _ _))

end

open Cert.Reference24Ideal.Read in
theorem after5_at (c : Dev nD) (t : Fin cfg0.N) (y : S1x256x2048.Idx) : (outsAt0 m c t : FVec Ideal S1x256x2048 .f32) y
    = val_main_v16 (F := Ideal) (p m c) (mp m c) (mn m c)
        (ix3 ⟨t.val / 8, by have := (idx t).2.2.2.2.2.2.1; omega⟩ ⟨t.val % 8 * 256 + (y 1).val, by idx_bounds; omega⟩ (y 2)) := by
  have hi : ((grid0.coords t) 1).val = t.val % 8 := (idx t).2.2.2.2.2.2.2
  have hy : (y 1).val < 256 := (y 1).isLt
  have hk : (y 2).val < 2048 := (y 2).isLt
  have ht : t.val < 32 := (idx t).2.2.2.2.2.2.1
  unfold outsAt0
  frame_out
  refine (pay1_at _ _).trans ((pay2_at _ _ _ _ _ _ _).trans (Eq.trans ?_ (ref_at _ _ _ _).symm))
  refine mix_congr (blk0_at m c t _) ?_ ?_ (blk3_at m c t _) (blk4_at m c t _)
  · simp only [hi]
    refine before_row (fun j => p m c (ix3 ⟨t.val / 8, by omega⟩ j ⟨(y 2).val, by omega⟩)) ⟨t.val % 8, by omega⟩ ⟨(y 1).val, hy⟩ _ _
      (fun h => ?_) (fun h => ?_) _ rfl
    · refine Eq.trans ?_ (blk1_at m c t h (y 2))
      exact View.ld_unit_apply_of (Val := Elt Ideal) (e := .f32) (S := S1x8x2048) _ _ _ _ _ _ fun a => by fin_cases a <;> simp
    · refine (blk0_at m c t _).trans ?_
      refine congrArg (fun j => p m c (ix3 _ j _)) (Fin.ext ?_)
      show t.val % 8 * 256 + ((y 1).val + 256 - 1) % 256 = t.val % 8 * 256 + ((y 1).val - 1)
      have : (y 1).val ≠ 0 := h
      omega
  · simp only [hi]
    refine after_row (fun j => p m c (ix3 ⟨t.val / 8, by omega⟩ j ⟨(y 2).val, by omega⟩)) ⟨t.val % 8, by omega⟩ ⟨(y 1).val, hy⟩ _ _
      (fun h => ?_) (fun h => ?_) _ rfl
    · refine Eq.trans ?_ (blk2_at m c t h (y 2))
      exact View.ld_unit_apply_of (Val := Elt Ideal) (e := .f32) (S := S1x8x2048) _ _ _ _ _ _ fun a => by fin_cases a <;> simp
    · refine (blk0_at m c t _).trans ?_
      refine congrArg (fun j => p m c (ix3 _ j _)) (Fin.ext ?_)
      show t.val % 8 * 256 + ((y 1).val + 256 - 255) % 256 = t.val % 8 * 256 + ((y 1).val + 1)
      have : (y 1).val ≠ 255 := h
      omega

open Cert.Reference24Ideal.Read in
/-- The result array is the reference's. -/
theorem final (c : Dev nD) :
    (dats m 0 c).arrAt 5 cfg0.N = val_main_v16 (F := Ideal) (p m c) (mp m c) (mn m c) := by
  refine (dats m 0 c).arrAt_eq_of_covers 5 _ (by decide +kernel) fun t hf y => ?_
  blk_simp
  rw [after0_5]
  refine (after5_at m c t _).trans ?_
  blk_point [idx t]

end Cert.Shift
-- ==== Proof.HeadNorm.lean ====
/- The recurrence's head norm, its bonus and its gate: each stored block is the reference's composed term at its rows. -/
module

public import proofs.«01_k».proof.Proof.Gen.Kernel17Ideal.Frame
public import proofs.«01_k».proof.Proof.Gen.Reference17Ideal.Read
public import Idealize.ShloMosaic.Lib.Pipeline.ValueKit
public import Idealize.ShloMosaic.Lib.Claim
public import Idealize.ShloMosaic.Lib.Pipeline.ReadBack
public import proofs.«01_k».proof.Proof.Reals
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.HeadNorm

open Cert.Kernel17Ideal Cert.Kernel17Ideal.Gen Cert.Reals

variable (m : (ℓ : Loc nD τ sig) → Buf (Elt Ideal) ℓ)

/-- The printed f32 literals 1/64, 64 and 64e-5. -/
abbrev c : EReal := Ideal.ofBits FTy.f32 1015021568#32
abbrev c64 : EReal := Ideal.ofBits FTy.f32 1115684864#32
abbrev eps : EReal := Ideal.ofBits FTy.f32 975685036#32

theorem c_eq : c = (((1 / 64 : ℝ)) : EReal) := by simp [c, Ideal.ofBits, Ideal.ieee, -EReal.coe_mul]; norm_num
theorem c64_eq : c64 = ((64 : ℝ) : EReal) := by simp [c64, Ideal.ofBits, Ideal.ieee, -EReal.coe_mul]; norm_num

theorem real_c : IsReal c := ⟨_, c_eq⟩

theorem real_add {x y : EReal} (hx : IsReal x) (hy : IsReal y) : IsReal (x + y) := by
  obtain ⟨a, rfl⟩ := hx; obtain ⟨b, rfl⟩ := hy
  exact ⟨a + b, (EReal.coe_add a b).symm⟩

theorem real_sub {x y : EReal} (hx : IsReal x) (hy : IsReal y) : IsReal (x - y) := by
  obtain ⟨a, rfl⟩ := hx; obtain ⟨b, rfl⟩ := hy
  exact ⟨a - b, (EReal.coe_sub a b).symm⟩

theorem sub_self_real {x : EReal} (hx : IsReal x) : x - x = 0 := by
  obtain ⟨a, rfl⟩ := hx
  rw [← EReal.coe_sub, sub_self]; rfl

theorem div64 {x : EReal} (hx : IsReal x) : Ideal.div x c64 = x * c := by
  obtain ⟨a, rfl⟩ := hx
  rw [c64_eq, c_eq, Cert.Norm.div_coe _ _ (by norm_num), ← EReal.coe_mul]
  exact congrArg _ (by ring)

/-- Lane `l` of head `h`. -/
abbrev lane (h : Fin 8) (l : Fin 64) : Fin 512 := ⟨h.val * 64 + l.val, by omega⟩
abbrev head (k : Fin 512) : Fin 8 := ⟨k.val / 64, by omega⟩

theorem head_lane (h : Fin 8) (l : Fin 64) : head (lane h l) = h := Fin.ext (by show (h.val * 64 + l.val) / 64 = h.val; omega)

/-- The sum over a head's lanes. -/
def hs (f : Fin 512 → EReal) (h : Fin 8) : EReal := ∑ l : Fin 64, f (lane h l)

/-- The matrix that adds up a head's lanes: two square blocks, one above the other, each with ones where row and column
    belong to one head. -/
def H (a b : ℕ) : EReal := if a / 64 % 8 = b / 64 then 1 else 0

/-- The sum over a head's lanes as the kernel makes it: a row and the row of its remainders, each against its half of the
    matrix. -/
def split (f : Fin 512 → EReal) (k : Fin 512) : EReal :=
  ∑ x : Fin 512, f x * H x.val k.val + ∑ x : Fin 512, (f x - f x) * H (512 + x.val) k.val

theorem sum_lanes (f : Fin 512 → EReal) : ∑ x : Fin 512, f x = ∑ h : Fin 8, ∑ l : Fin 64, f (lane h l) := by
  rw [← Fintype.sum_prod_type' (f := fun h l => f (lane h l))]
  refine (Fintype.sum_equiv finProdFinEquiv (fun p : Fin 8 × Fin 64 => f (lane p.1 p.2)) f fun p => ?_).symm
  refine congrArg f (Fin.ext ?_)
  show p.1.val * 64 + p.2.val = p.2.val + 64 * p.1.val
  omega

theorem split_eq (f : Fin 512 → EReal) (hf : ∀ x, IsReal (f x)) (k : Fin 512) : split f k = hs f (head k) := by
  unfold split
  have z : ∑ x : Fin 512, (f x - f x) * H (512 + x.val) k.val = 0 :=
    Finset.sum_eq_zero fun x _ => by rw [sub_self_real (hf x), zero_mul]
  rw [z, add_zero, sum_lanes]
  refine (Finset.sum_eq_single (head k) (fun h _ hne => Finset.sum_eq_zero fun l _ => ?_) (fun h => absurd (Finset.mem_univ _) h)).trans ?_
  · have : H (lane h l).val k.val = 0 := if_neg fun e => hne (Fin.ext (by
      have e' : (h.val * 64 + l.val) / 64 % 8 = k.val / 64 := e
      show h.val = k.val / 64
      omega))
    rw [this, mul_zero]
  · refine Finset.sum_congr rfl fun l _ => ?_
    have : H (lane (head k) l).val k.val = 1 := if_pos (by
      show (k.val / 64 * 64 + l.val) / 64 % 8 = k.val / 64
      omega)
    rw [this, mul_one]

theorem real_hs (f : Fin 512 → EReal) (hf : ∀ x, IsReal (f x)) (h : Fin 8) : IsReal (hs f h) := IsReal.sum _ _ fun l => hf _

/-- The centred row, as the kernel and as the reference write it. -/
def kctr (z : Fin 512 → EReal) (k : Fin 512) : EReal := z k - split z k * c
def rctr (z : Fin 512 → EReal) (k : Fin 512) : EReal := z k - Ideal.div (hs z (head k)) c64

theorem rctr_lane (z : Fin 512 → EReal) (h : Fin 8) (l : Fin 64) : rctr z (lane h l) = z (lane h l) - Ideal.div (hs z h) c64 := by
  unfold rctr
  rw [head_lane]

theorem ctr_eq (z : Fin 512 → EReal) (hz : ∀ x, IsReal (z x)) : kctr z = rctr z := by
  funext k
  unfold kctr rctr
  rw [split_eq z hz, div64 (real_hs z hz _)]

theorem real_ctr (z : Fin 512 → EReal) (hz : ∀ x, IsReal (z x)) (k : Fin 512) : IsReal (rctr z k) := by
  rw [← ctr_eq z hz]
  unfold kctr
  rw [split_eq z hz]
  exact real_sub (hz k) ((real_hs z hz _).mul real_c)

/-- The variance plus 64e-5, both ways. -/
def kvar (z : Fin 512 → EReal) (k : Fin 512) : EReal := split (fun j => kctr z j * kctr z j) k * c + eps
def rvar (z : Fin 512 → EReal) (h : Fin 8) : EReal := Ideal.div (hs (fun j => rctr z j * rctr z j) h) c64 + eps

theorem var_eq (z : Fin 512 → EReal) (hz : ∀ x, IsReal (z x)) (k : Fin 512) : kvar z k = rvar z (head k) := by
  have hr : ∀ x, IsReal (rctr z x * rctr z x) := fun x => (real_ctr z hz x).mul (real_ctr z hz x)
  unfold kvar rvar
  rw [ctr_eq z hz, split_eq _ hr, div64 (real_hs _ hr _)]

/-- The bonus of a head, both ways: the two directions' keys added before the sum, or after. -/
def kbon (r p q w : Fin 512 → EReal) (k : Fin 512) : EReal := split (fun j => r j * (p j + q j) * w j) k
def rbon (r p q w : Fin 512 → EReal) (h : Fin 8) : EReal := hs (fun j => r j * p j * w j) h + hs (fun j => r j * q j * w j) h

theorem bon_eq (r p q w : Fin 512 → EReal) (hr : ∀ x, IsReal (r x)) (hp : ∀ x, IsReal (p x)) (hq : ∀ x, IsReal (q x))
    (hw : ∀ x, IsReal (w x)) (k : Fin 512) : kbon r p q w k = rbon r p q w (head k) := by
  unfold kbon rbon
  rw [split_eq _ fun x => ((hr x).mul (real_add (hp x) (hq x))).mul (hw x)]
  unfold hs
  rw [← Finset.sum_add_distrib]
  refine Finset.sum_congr rfl fun l _ => ?_
  obtain ⟨r', e⟩ := hr (lane (head k) l)
  obtain ⟨p', e1⟩ := hp (lane (head k) l)
  obtain ⟨q', e2⟩ := hq (lane (head k) l)
  obtain ⟨w', e3⟩ := hw (lane (head k) l)
  simp only [e, e1, e2, e3]
  norm_cast
  ring

/-- The result's row, as the kernel and as the reference write it. -/
def kout (z r p q w v t g b : Fin 512 → EReal) (k : Fin 512) : EReal :=
  (kctr z k * Ideal.rsqrt (kvar z k) * g k + b k + kbon r p q w k * v k) * t k
def rout (z r p q w v t g b : Fin 512 → EReal) (k : Fin 512) : EReal :=
  (rctr z k * Ideal.rsqrt (rvar z (head k)) * g k + b k + rbon r p q w (head k) * v k) * t k

theorem out_eq (z r p q w v t g b : Fin 512 → EReal) (hz : ∀ x, IsReal (z x)) (hr : ∀ x, IsReal (r x)) (hp : ∀ x, IsReal (p x))
    (hq : ∀ x, IsReal (q x)) (hw : ∀ x, IsReal (w x)) (k : Fin 512) : kout z r p q w v t g b k = rout z r p q w v t g b k := by
  unfold kout rout
  rw [ctr_eq z hz, var_eq z hz, bon_eq r p q w hr hp hq hw]

/-- The two halves of a row of 1024. -/
abbrev lo (z : Fin 1024 → EReal) (k : Fin 512) : EReal := z ⟨k.val, by omega⟩
abbrev hi (z : Fin 1024 → EReal) (k : Fin 512) : EReal := z ⟨512 + k.val, by omega⟩

/-- Grid point `t` takes row block `t`; the vectors and the matrix have one block. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] ∧ t.val < 32 :=
  (by decide +kernel : ∀ t : Fin grid0.N, _)

theorem lt32 (t : Fin cfg0.N) : t.val < 32 := (idx t).2.2.2.2.2.2.2.2.2.2

/-- The argument arrays of device `d`. -/
abbrev y2 (d : Dev nD) : FVec Ideal S8192x1024 .f32 := m ((d : Thread nD τ).loc main_arg0)
abbrev r (d : Dev nD) : FVec Ideal S8192x512 .f32 := m ((d : Thread nD τ).loc main_arg1)
abbrev v (d : Dev nD) : FVec Ideal S8192x512 .f32 := m ((d : Thread nD τ).loc main_arg2)
abbrev kd (d : Dev nD) : FVec Ideal S8192x1024 .f32 := m ((d : Thread nD τ).loc main_arg3)
abbrev g (d : Dev nD) : FVec Ideal S8192x512 .f32 := m ((d : Thread nD τ).loc main_arg4)
abbrev lg (d : Dev nD) : FVec Ideal S512 .f32 := m ((d : Thread nD τ).loc main_arg5)
abbrev lb (d : Dev nD) : FVec Ideal S512 .f32 := m ((d : Thread nD τ).loc main_arg6)
abbrev rk (d : Dev nD) : FVec Ideal S8x64 .f32 := m ((d : Thread nD τ).loc main_arg7)

/-- Heads and lanes as one row. -/
abbrev flat (w : FVec Ideal S8x64 .f32) (k : Fin 512) : EReal := w (ix2 (head k) ⟨k.val % 64, by omega⟩)

theorem lg_at (d : Dev nD) (y : S1x512.Idx) : (V m d main_v11 : FVec Ideal S1x512 .f32) y = lg m d (ix1 (y 1)) := by
  unfold V
  simp only [hostOps0, hostOps0_1, hostOps0_2, List.flatten_cons, List.flatten_nil, List.append_nil, List.cons_append, List.nil_append]
  entry_read
  pointwise

theorem lb_at (d : Dev nD) (y : S1x512.Idx) : (V m d main_v12 : FVec Ideal S1x512 .f32) y = lb m d (ix1 (y 1)) := by
  unfold V
  simp only [hostOps0, hostOps0_1, hostOps0_2, List.flatten_cons, List.flatten_nil, List.append_nil, List.cons_append, List.nil_append]
  entry_read
  pointwise

theorem rk_at (d : Dev nD) (y : S1x512.Idx) : (V m d main_v13 : FVec Ideal S1x512 .f32) y = flat (rk m d) (y 1) := by
  unfold V
  simp only [hostOps0, hostOps0_1, hostOps0_2, List.flatten_cons, List.flatten_nil, List.append_nil, List.cons_append, List.nil_append]
  entry_read
  pointwise

/-- Whether two heads are the same, as the program tests it on words. -/
theorem same_head : ∀ a b : Fin 8, IntOp.cmpi CmpIPredicate.eq (IntOp.addi (BitVec.ofNat 32 a.val) 0#32) (BitVec.ofNat 32 b.val)
    = if a.val = b.val then 1#1 else 0#1 := by decide

theorem bit_one : (FloatOps.uitofp FTy.bf16 1#1 : Ideal .bf16) = (1 : EReal) := by
  show (((1 : ℕ) : ℝ) : EReal) = 1
  norm_num

theorem bit_zero : (FloatOps.uitofp FTy.bf16 0#1 : Ideal .bf16) = (0 : EReal) := by
  show (((0 : ℕ) : ℝ) : EReal) = 0
  norm_num

theorem h_at (d : Dev nD) (y : S1024x512.Idx) : (V m d main_v10 : FVec Ideal S1024x512 .bf16) y = H (y 0).val (y 1).val := by
  unfold V
  simp only [hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  pointwise
  have h0 : (y 0).val < 1024 := (y 0).isLt
  have h1 : (y 1).val < 512 := (y 1).isLt
  refine (congrArg (FloatOps.uitofp (F := Ideal) FTy.bf16) (same_head ⟨(y 0).val % 512 / 64, by omega⟩ ⟨(y 1).val / 64, by omega⟩)).trans ?_
  unfold H
  by_cases e : (y 0).val % 512 / 64 = (y 1).val / 64
  · rw [if_pos e, if_pos (by omega)]
    exact bit_one
  · rw [if_neg e, if_neg (by omega)]
    exact bit_zero

theorem blk0_at (d : Dev nD) (t : Fin cfg0.N) (y : S256x1024.Idx) : (iblk m d 0 t : FVec Ideal S256x1024 .f32) y
    = y2 m d (ix2 ⟨t.val * 256 + (y 0).val, by have := lt32 t; idx_bounds; omega⟩ (y 1)) := by
  blk_simp [iblk]
  blk_ext [idx t]

theorem blk1_at (d : Dev nD) (t : Fin cfg0.N) (y : S256x512.Idx) : (iblk m d 1 t : FVec Ideal S256x512 .f32) y
    = r m d (ix2 ⟨t.val * 256 + (y 0).val, by have := lt32 t; idx_bounds; omega⟩ (y 1)) := by
  blk_simp [iblk]
  blk_ext [idx t]

theorem blk2_at (d : Dev nD) (t : Fin cfg0.N) (y : S256x512.Idx) : (iblk m d 2 t : FVec Ideal S256x512 .f32) y
    = v m d (ix2 ⟨t.val * 256 + (y 0).val, by have := lt32 t; idx_bounds; omega⟩ (y 1)) := by
  blk_simp [iblk]
  blk_ext [idx t]

theorem blk3_at (d : Dev nD) (t : Fin cfg0.N) (y : S256x1024.Idx) : (iblk m d 3 t : FVec Ideal S256x1024 .f32) y
    = kd m d (ix2 ⟨t.val * 256 + (y 0).val, by have := lt32 t; idx_bounds; omega⟩ (y 1)) := by
  blk_simp [iblk]
  blk_ext [idx t]

theorem blk4_at (d : Dev nD) (t : Fin cfg0.N) (y : S256x512.Idx) : (iblk m d 4 t : FVec Ideal S256x512 .f32) y
    = g m d (ix2 ⟨t.val * 256 + (y 0).val, by have := lt32 t; idx_bounds; omega⟩ (y 1)) := by
  blk_simp [iblk]
  blk_ext [idx t]

theorem blk5_at (d : Dev nD) (t : Fin cfg0.N) (y : S1x512.Idx) : (iblk m d 5 t : FVec Ideal S1x512 .f32) y = lg m d (ix1 (y 1)) := by
  blk_simp [iblk]
  refine (lg_at m d _).trans ?_
  blk_ext [idx t]

theorem blk6_at (d : Dev nD) (t : Fin cfg0.N) (y : S1x512.Idx) : (iblk m d 6 t : FVec Ideal S1x512 .f32) y = lb m d (ix1 (y 1)) := by
  blk_simp [iblk]
  refine (lb_at m d _).trans ?_
  blk_ext [idx t]

theorem blk7_at (d : Dev nD) (t : Fin cfg0.N) (y : S1x512.Idx) : (iblk m d 7 t : FVec Ideal S1x512 .f32) y = flat (rk m d) (y 1) := by
  blk_simp [iblk]
  refine (rk_at m d _).trans ?_
  dsimp only [flat, head]
  blk_ext [idx t]

theorem blk8_at (d : Dev nD) (t : Fin cfg0.N) (y : S1024x512.Idx) : (iblk m d 8 t : FVec Ideal S1024x512 .bf16) y = H (y 0).val (y 1).val := by
  blk_simp [iblk]
  refine (h_at m d _).trans ?_
  blk_ext [idx t]

/-- The row the norm is over: the two directions added. -/
abbrev both (z : Fin 1024 → EReal) (k : Fin 512) : EReal := lo z k + hi z k

theorem pay6_at (v0 : FVec Ideal S256x1024 .f32) (w : FVec Ideal S1024x512 .bf16) (hw : ∀ i, w i = H (i 0).val (i 1).val) (y : S256x512.Idx) :
    (k0_pay6 (F := Ideal) v0 w : FVec Ideal S256x512 .f32) y = kctr (both fun k => v0 (ix2 (y 0) k)) (y 1) := by
  have e : k0_pay5 (F := Ideal) w = w := by
    funext i
    pointwise [k0_pay5]
  pointwise [k0_pay6, e, hw, kctr, split]

theorem pay7_at (v0 : FVec Ideal S256x1024 .f32) (w : FVec Ideal S1024x512 .bf16) (hw : ∀ i, w i = H (i 0).val (i 1).val) (y : S256x512.Idx) :
    (k0_pay7 (F := Ideal) v0 w : FVec Ideal S256x512 .f32) y = kvar (both fun k => v0 (ix2 (y 0) k)) (y 1) := by
  have e : k0_pay5 (F := Ideal) w = w := by
    funext i
    pointwise [k0_pay5]
  pointwise [k0_pay7, pay6_at v0 w hw, e, hw, kvar, split]

theorem pay1_at (v0 v3 : FVec Ideal S256x1024 .f32) (v1 v2 v4 : FVec Ideal S256x512 .f32) (v5 v7 v9 : FVec Ideal S1x512 .f32)
    (w : FVec Ideal S1024x512 .bf16) (hw : ∀ i, w i = H (i 0).val (i 1).val) (y : S256x512.Idx) :
    (k0_pay1 (F := Ideal) v1 v2 v3 v4 (k0_pay2 v5) (k0_pay3 v7) (k0_pay4 v9) (k0_pay5 w) (k0_pay6 v0 w) (k0_pay7 v0 w) : FVec Ideal S256x512 .bf16) y
      = kout (both fun k => v0 (ix2 (y 0) k)) (fun k => v1 (ix2 (y 0) k)) (lo fun k => v3 (ix2 (y 0) k)) (hi fun k => v3 (ix2 (y 0) k))
        (fun k => v9 (ix2 0 k)) (fun k => v2 (ix2 (y 0) k)) (fun k => v4 (ix2 (y 0) k)) (fun k => v5 (ix2 0 k)) (fun k => v7 (ix2 0 k)) (y 1) := by
  have e : k0_pay5 (F := Ideal) w = w := by
    funext i
    pointwise [k0_pay5]
  pointwise [k0_pay1, k0_pay2, k0_pay3, k0_pay4, pay6_at v0 w hw, pay7_at v0 w hw, e, hw, kout, kbon, split]

section
open Cert.Reference17Ideal.Read
open Cert.Reference17Ideal (S8192x8x64 S8192x8x1 S8192x8 S2x8192x512 S2x8192x8x64)

variable (x0 x3 : FVec Ideal S8192x1024 .f32) (x1 x2 x4 : FVec Ideal S8192x512 .f32) (x5 x6 : FVec Ideal S512 .f32) (x7 : FVec Ideal S8x64 .f32)

theorem ref11_at (y : S8192x8x64.Idx) : val_main_v11 (F := Ideal) x0 y = both (fun k => x0 (ix2 (y 0) k)) (lane (y 1) (y 2)) := by
  pointwise [val_main_v11, val_main_v10, val_main_v9, val_main_v8]

theorem ref15_at (y : S8192x8x1.Idx) : val_main_v15 (F := Ideal) x0 y = Ideal.div (hs (both fun k => x0 (ix2 (y 0) k)) (y 1)) c64 := by
  pointwise [val_main_v15, val_main_v14, val_main_cst_0, val_main_v13, val_main_v12, val_main_cst, ref11_at, hs]

theorem ref24_at (y : S8192x8x64.Idx) : val_main_v24 (F := Ideal) x0 y = rctr (both fun k => x0 (ix2 (y 0) k)) (lane (y 1) (y 2)) := by
  refine Eq.trans ?_ (rctr_lane _ (y 1) (y 2)).symm
  pointwise [val_main_v24, val_main_v23, ref15_at, ref11_at]

theorem ref17_at (y : S8192x8x64.Idx) : val_main_v17 (F := Ideal) x0 y = rctr (both fun k => x0 (ix2 (y 0) k)) (lane (y 1) (y 2)) := by
  refine Eq.trans ?_ (rctr_lane _ (y 1) (y 2)).symm
  pointwise [val_main_v17, val_main_v16, ref15_at, ref11_at]

theorem ref26_at (y : S8192x8x1.Idx) : val_main_v26 (F := Ideal) x0 y = rvar (both fun k => x0 (ix2 (y 0) k)) (y 1) := by
  pointwise [val_main_v26, val_main_v25, val_main_cst_3, val_main_v22, val_main_v21, val_main_cst_2, val_main_v20, val_main_v19, val_main_cst_1,
    val_main_v18, ref17_at, rvar, hs]

/-- A sum over the first and the last axis of four, entry by entry. -/
theorem sum03 {a n p b : ℕ} (h : (⟨4, ![a, n, p, b]⟩ : Shape).ReducesTo [0, 3] ⟨2, ![n, p]⟩) (f : (⟨4, ![a, n, p, b]⟩ : Shape).Idx → EReal)
    (i : Fin n) (j : Fin p) : Ideal.hostReduceAdd h f 0 (ix2 i j) = ∑ s : Fin a, ∑ k : Fin b, f (ix4 s i j k) := by
  unfold Ideal.hostReduceAdd
  rw [zero_add]
  refine (Finset.sum_filter_eq_sum_of_fiber _ (fun k : Fin a × Fin b => ix4 k.1 i j k.2)
    (fun _ _ e => Prod.ext (congrFun e 0) (congrFun e 3)) (fun q => ?_) f).trans ?_
  · constructor
    · intro e
      refine ⟨(q 0, q 3), ?_⟩
      funext w
      apply Fin.ext
      match w with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext w
      apply Fin.ext
      match w with
      | ⟨0, _⟩ => rfl
      | ⟨1, _⟩ => rfl
  · simp only [Fintype.sum_prod_type]

theorem ref42_0 (i : Fin 8192) (h : Fin 8) (l : Fin 64) : val_main_v42 (F := Ideal) x1 x3 x7 (ix4 0 i h l)
    = x1 (ix2 i (lane h l)) * x3 (ix2 i ⟨(lane h l).val, by omega⟩) * x7 (ix2 h l) := by
  pointwise [val_main_v42, val_main_v41, val_main_v40, val_main_v39, val_main_v38, val_main_v37, val_main_v0, val_main_v7, val_main_v6,
    val_main_v4, val_main_v2]

theorem ref42_1 (i : Fin 8192) (h : Fin 8) (l : Fin 64) : val_main_v42 (F := Ideal) x1 x3 x7 (ix4 1 i h l)
    = x1 (ix2 i (lane h l)) * x3 (ix2 i ⟨512 + (lane h l).val, by omega⟩) * x7 (ix2 h l) := by
  pointwise [val_main_v42, val_main_v41, val_main_v40, val_main_v39, val_main_v38, val_main_v37, val_main_v0, val_main_v7, val_main_v6,
    val_main_v5, val_main_v3]

theorem flat_lane (h : Fin 8) (l : Fin 64) : flat x7 (lane h l) = x7 (ix2 h l) :=
  congrArg x7 (by
    funext a
    apply Fin.ext
    match a with
    | ⟨0, _⟩ => show (h.val * 64 + l.val) / 64 = h.val; omega
    | ⟨1, _⟩ => show (h.val * 64 + l.val) % 64 = l.val; omega)

theorem ref43_at (y : S8192x8.Idx) : val_main_v43 (F := Ideal) x1 x3 x7 y
    = rbon (fun k => x1 (ix2 (y 0) k)) (lo fun k => x3 (ix2 (y 0) k)) (hi fun k => x3 (ix2 (y 0) k)) (flat x7) (y 1) := by
  have hy : y = ix2 (y 0) (y 1) := by
    funext a
    match a with
    | ⟨0, _⟩ => rfl
    | ⟨1, _⟩ => rfl
  refine Eq.trans (b := Ideal.hostReduceAdd Cert.Reference17Ideal.Gen.reducesTo_S2x8192x8x64_S8192x8_d0_3 (val_main_v42 (F := Ideal) x1 x3 x7) 0
    (ix2 (y 0) (y 1))) ?_ ?_
  · refine Eq.trans ?_ (congrArg (fun a : EReal => Ideal.hostReduceAdd Cert.Reference17Ideal.Gen.reducesTo_S2x8192x8x64_S8192x8_d0_3
      (val_main_v42 (F := Ideal) x1 x3 x7) a (ix2 (y 0) (y 1))) (by pointwise [val_main_cst_4] : val_main_cst_4 (F := Ideal) ix0 = 0))
    exact congrArg (val_main_v43 (F := Ideal) x1 x3 x7) hy
  · refine (sum03 _ _ _ _).trans ?_
    rw [Fin.sum_univ_two]
    refine congrArg₂ (fun a b : EReal => a + b) (Finset.sum_congr rfl fun l _ => ?_) (Finset.sum_congr rfl fun l _ => ?_)
    · exact (ref42_0 x3 x1 x7 (y 0) (y 1) l).trans (congrArg _ (flat_lane x7 (y 1) l).symm)
    · exact (ref42_1 x3 x1 x7 (y 0) (y 1) l).trans (congrArg _ (flat_lane x7 (y 1) l).symm)

theorem ref_at (y : S8192x512.Idx) : (val_main_v50 (F := Ideal) x0 x1 x2 x3 x4 x5 x6 x7 : FVec Ideal S8192x512 .bf16) y
    = rout (both fun k => x0 (ix2 (y 0) k)) (fun k => x1 (ix2 (y 0) k)) (lo fun k => x3 (ix2 (y 0) k)) (hi fun k => x3 (ix2 (y 0) k)) (flat x7)
      (fun k => x2 (ix2 (y 0) k)) (fun k => x4 (ix2 (y 0) k)) (fun k => x5 (ix1 k)) (fun k => x6 (ix1 k)) (y 1) := by
  pointwise [val_main_v50, val_main_v49, val_main_v48, val_main_v47, val_main_v46, val_main_v45, val_main_v44, ref43_at, val_main_v1, val_main_v36,
    val_main_v35, val_main_v34, val_main_v33, val_main_v32, val_main_v31, val_main_v30, val_main_v29, val_main_v28, val_main_v27, ref26_at, ref24_at,
    rout]
  have e : lane (head (y 1)) ⟨(y 1).val % 64, Nat.mod_lt _ (by decide)⟩ = y 1 := Fin.ext (by
    show (y 1).val / 64 * 64 + (y 1).val % 64 = (y 1).val
    omega)
  exact congrArg (fun k => (rctr (both fun k => x0 (ix2 (y 0) k)) k * Ideal.rsqrt (rvar (both fun k => x0 (ix2 (y 0) k)) (head (y 1)))
    * x5 (ix1 (y 1)) + x6 (ix1 (y 1)) + rbon (fun k => x1 (ix2 (y 0) k)) (lo fun k => x3 (ix2 (y 0) k)) (hi fun k => x3 (ix2 (y 0) k)) (flat x7)
      (head (y 1)) * x2 y) * x4 y) e

end

/-- Row `i` of the result. -/
def row (d : Dev nD) (i : Fin 8192) (k : Fin 512) : EReal :=
  rout (both fun k => y2 m d (ix2 i k)) (fun k => r m d (ix2 i k)) (lo fun k => kd m d (ix2 i k)) (hi fun k => kd m d (ix2 i k)) (flat (rk m d))
    (fun k => v m d (ix2 i k)) (fun k => g m d (ix2 i k)) (fun k => lg m d (ix1 k)) (fun k => lb m d (ix1 k)) k

theorem emb_at (f : FVec Ideal S8192x512 .f32) (t : Fin cfg0.N) (y : S256x512.Idx) :
    f ((win0_9.blk t).view.emb y) = f (ix2 ⟨t.val * 256 + (y 0).val, by have := lt32 t; idx_bounds; omega⟩ (y 1)) := by
  blk_ext [idx t]

open Cert.Reference17Ideal.Read in
/-- The result array is the reference's, wherever the four arrays that enter the sums are real numbers. -/
theorem final (d : Dev nD) (hz : ∀ i, IsReal (y2 m d i)) (hr : ∀ i, IsReal (r m d i)) (hk : ∀ i, IsReal (kd m d i)) (hw : ∀ i, IsReal (rk m d i)) :
    (dats m 0 d).arrAt 9 cfg0.N = val_main_v50 (F := Ideal) (y2 m d) (r m d) (v m d) (kd m d) (g m d) (lg m d) (lb m d) (rk m d) := by
  refine (dats m 0 d).arrAt_eq_of_covers 9 _ (by decide +kernel) fun t hf y => ?_
  blk_simp
  rw [after0_9]
  frame_out
  refine (pay1_at _ _ _ _ _ _ _ _ _ (blk8_at m d t) _).trans (Eq.trans ?_ (ref_at _ _ _ _ _ _ _ _ _).symm)
  simp only [blk0_at, blk1_at, blk2_at, blk3_at, blk4_at, blk5_at, blk6_at, blk7_at]
  refine (out_eq _ _ _ _ _ _ _ _ _ (fun _ => real_add (hz _) (hz _)) (fun _ => hr _) (fun _ => hk _) (fun _ => hk _) (fun _ => hw _) _).trans ?_
  exact (emb_at (fun i => row m d (i 0) (i 1)) t y).symm

end Cert.HeadNorm
-- ==== Proof.HeadNormBwd.lean ====
/- The gradient of the recurrence's head norm, its bonus and its gate: each row of the five arrays is the chain rule of the
   reference, and the gradients of the gain, the shift and the bonus weights are the sums over all rows. -/
module

public import proofs.«01_k».proof.Proof.Gen.Kernel25Ideal.Frame
public import proofs.«01_k».proof.Proof.Gen.Reference25Ideal.Read
public import Idealize.ShloMosaic.Lib.Pipeline.ValueKit
public import Idealize.ShloMosaic.Lib.Claim
public import Idealize.ShloMosaic.Lib.Pipeline.ReadBack
public import proofs.«01_k».proof.Proof.HeadNorm

@[expose] public section

set_option maxRecDepth 16384

noncomputable section

open Idealize.ShloMosaic Idealize.ShloMosaic.TcCoe Idealize.SL.Sem
open Idealize.ShloMosaic.Pipeline (Dat)

namespace Cert.HeadNormBwd

open Cert.Kernel25Ideal Cert.Kernel25Ideal.Gen Cert.Reals
open Cert.HeadNorm (c c64 eps c_eq c64_eq real_c real_add real_sub div64 lane head head_lane hs H split split_eq real_hs
  kctr rctr rctr_lane ctr_eq real_ctr kvar rvar var_eq kbon rbon bon_eq kout rout out_eq lo hi both flat flat_lane same_head bit_one bit_zero)
open Cert.Norm (two mhalf two_eq mhalf_eq eps_pos sum_coe div_coe rsqrt_coe)

variable (m : (ℓ : Loc nD τ sig) → Buf (Elt Ideal) ℓ)

theorem lane_head (k : Fin 512) : lane (head k) ⟨k.val % 64, Nat.mod_lt _ (by decide)⟩ = k := Fin.ext (by
  show k.val / 64 * 64 + k.val % 64 = k.val
  omega)

/-- The reciprocal deviation of a head, and the factor its derivative adds. -/
def rs (z : Fin 512 → EReal) (h : Fin 8) : EReal := Ideal.rsqrt (rvar z h)
def dv (z : Fin 512 → EReal) (h : Fin 8) : EReal := mhalf * Ideal.div (rs z h) (rvar z h)

/-- The variance plus 64e-5 of real numbers is a positive real number. -/
theorem rvar_pos (z : Fin 512 → EReal) (hz : ∀ x, IsReal (z x)) (h : Fin 8) : ∃ a : ℝ, 0 < a ∧ rvar z h = (a : EReal) := by
  have he : eps = (((10995116 * 2 ^ (-34 : ℤ) : ℝ)) : EReal) := by
    simp [eps, Ideal.ofBits, Ideal.ieee, -EReal.coe_mul]
  choose f hf using real_ctr z hz
  refine ⟨(∑ l : Fin 64, f (lane h l) * f (lane h l)) / 64 + 10995116 * 2 ^ (-34 : ℤ), ?_, ?_⟩
  · have : 0 ≤ (∑ l : Fin 64, f (lane h l) * f (lane h l)) / 64 :=
      div_nonneg (Finset.sum_nonneg fun l _ => mul_self_nonneg _) (by norm_num)
    positivity
  · unfold rvar hs
    simp only [hf, ← EReal.coe_mul, sum_coe]
    rw [c64_eq, div_coe _ _ (by norm_num), he, ← EReal.coe_add]

theorem real_rs (z : Fin 512 → EReal) (hz : ∀ x, IsReal (z x)) (h : Fin 8) : IsReal (rs z h) := by
  obtain ⟨a, ha, e⟩ := rvar_pos z hz h
  unfold rs
  rw [e, rsqrt_coe a ha]
  exact ⟨_, rfl⟩

theorem real_dv (z : Fin 512 → EReal) (hz : ∀ x, IsReal (z x)) (h : Fin 8) : IsReal (dv z h) := by
  obtain ⟨a, ha, e⟩ := rvar_pos z hz h
  obtain ⟨b, eb⟩ := real_rs z hz h
  unfold dv
  rw [eb, e, div_coe _ _ ha.ne', mhalf_eq]
  exact IsReal.mul ⟨_, rfl⟩ ⟨_, rfl⟩

/-- The gradient of a row as the kernel adds it up: `C` the centred row, `A` the incoming gradient, `R` and `W` the
    reciprocal deviation and the factor of its derivative on every lane. -/
def kq (C A W : Fin 512 → EReal) (k : Fin 512) : EReal := split (fun j => C j * A j * W j * c) k
def kx (C A R W : Fin 512 → EReal) (k : Fin 512) : EReal := A k * R k + C k * kq C A W k + kq C A W k * C k
def kgrad (C A R W : Fin 512 → EReal) (k : Fin 512) : EReal := kx C A R W k + split (fun j => (0 - kx C A R W j) * c) k

/-- The gradient of a row by the chain rule, head by head. -/
def rv (C A : Fin 512 → EReal) (W : Fin 8 → EReal) (h : Fin 8) : EReal := Ideal.div (hs (fun j => C j * A j) h * W h) c64
def rgrad (C A : Fin 512 → EReal) (R W : Fin 8 → EReal) (h : Fin 8) (k : Fin 512) : EReal :=
  A k * R h + rv C A W h * (two * C k)
    + Ideal.div (hs (fun j => -(A j * R h)) h + hs (fun j => -(rv C A W h * (two * C j))) h) c64

theorem grad_eq (C A : Fin 512 → EReal) (R W : Fin 8 → EReal) (hC : ∀ x, IsReal (C x)) (hA : ∀ x, IsReal (A x)) (hR : ∀ h, IsReal (R h))
    (hW : ∀ h, IsReal (W h)) (k : Fin 512) :
    kgrad C A (fun j => R (head j)) (fun j => W (head j)) k = rgrad C A R W (head k) k := by
  choose C' eC using hC
  choose A' eA using hA
  choose R' eR using hR
  choose W' eW using hW
  obtain rfl : C = fun k => (C' k : EReal) := funext eC
  obtain rfl : A = fun k => (A' k : EReal) := funext eA
  obtain rfl : R = fun k => (R' k : EReal) := funext eR
  obtain rfl : W = fun k => (W' k : EReal) := funext eW
  have q : ∀ j, kq (fun k => (C' k : EReal)) (fun k => (A' k : EReal)) (fun j => (W' (head j) : EReal)) j
      = (((∑ l, C' (lane (head j) l) * A' (lane (head j) l)) * W' (head j) / 64 : ℝ) : EReal) := fun j => by
    unfold kq
    rw [split_eq _ fun x => IsReal.mul (IsReal.mul (IsReal.mul ⟨_, rfl⟩ ⟨_, rfl⟩) ⟨_, rfl⟩) real_c]
    simp only [hs, head_lane, c_eq, ← EReal.coe_mul, sum_coe]
    refine congrArg _ ?_
    rw [Finset.sum_mul, Finset.sum_div]
    exact Finset.sum_congr rfl fun l _ => by ring
  have x : ∀ j, kx (fun k => (C' k : EReal)) (fun k => (A' k : EReal)) (fun j => (R' (head j) : EReal)) (fun j => (W' (head j) : EReal)) j
      = ((A' j * R' (head j) + (∑ l, C' (lane (head j) l) * A' (lane (head j) l)) * W' (head j) / 64 * (2 * C' j) : ℝ) : EReal) := fun j => by
    unfold kx
    rw [q]
    simp only [← EReal.coe_mul, ← EReal.coe_add]
    exact congrArg _ (by ring)
  unfold kgrad rgrad rv
  beta_reduce
  have z0 : IsReal (0 : EReal) := ⟨0, rfl⟩
  rw [split_eq _ fun j => IsReal.mul (real_sub z0 ⟨_, x j⟩) real_c]
  simp only [x, hs, head_lane, c_eq, c64_eq, two_eq, ← EReal.coe_mul, ← EReal.coe_add, ← EReal.coe_zero, ← EReal.coe_sub, ← EReal.coe_neg, sum_coe,
    div_coe _ (64 : ℝ) (by norm_num)]
  refine congrArg _ ?_
  rw [← Finset.sum_add_distrib, Finset.sum_div]
  refine congrArg₂ (· + ·) rfl (Finset.sum_congr rfl fun l _ => by ring)

/-- The gradient of the bonus of a head. -/
def kbd (a v : Fin 512 → EReal) (k : Fin 512) : EReal := split (fun j => a j * v j) k
def rbd (a v : Fin 512 → EReal) (h : Fin 8) : EReal := hs (fun j => a j * v j) h

theorem bd_eq (a v : Fin 512 → EReal) (ha : ∀ x, IsReal (a x)) (hv : ∀ x, IsReal (v x)) (k : Fin 512) : kbd a v k = rbd a v (head k) :=
  split_eq _ (fun x => (ha x).mul (hv x)) k

theorem real_bd (a v : Fin 512 → EReal) (ha : ∀ x, IsReal (a x)) (hv : ∀ x, IsReal (v x)) (h : Fin 8) : IsReal (rbd a v h) :=
  real_hs _ (fun x => (ha x).mul (hv x)) h

theorem mul_add_real {x y z : EReal} (hx : IsReal x) (hy : IsReal y) (hz : IsReal z) : x * (y + z) = x * y + x * z := by
  obtain ⟨a, rfl⟩ := hx; obtain ⟨b, rfl⟩ := hy; obtain ⟨d, rfl⟩ := hz
  norm_cast
  ring

/-- A row of 512 twice over. -/
def wide (f : Fin 512 → EReal) (k : Fin 1024) : EReal := if h : k.val < 512 then f ⟨k.val, h⟩ else f ⟨k.val - 512, by omega⟩

/-- Grid point `t` takes row block `t`, of the incoming gradient its first block of columns; the vectors and the matrix have
    one block. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![0, 0] ∧ win0_16.index t = ![0, 0] ∧ win0_17.index t = ![0, 0] ∧ t.val < 32 :=
  (by decide +kernel : ∀ t : Fin grid0.N, _)

theorem lt32 (t : Fin cfg0.N) : t.val < 32 := (idx t).2.2.2.2.2.2.2.2.2.2.2.2.2.2.2.2.2.2

/-- The argument arrays of device `d`. -/
abbrev y2 (d : Dev nD) : FVec Ideal S8192x1024 .f32 := m ((d : Thread nD τ).loc main_arg0)
abbrev r (d : Dev nD) : FVec Ideal S8192x512 .f32 := m ((d : Thread nD τ).loc main_arg1)
abbrev v (d : Dev nD) : FVec Ideal S8192x512 .f32 := m ((d : Thread nD τ).loc main_arg2)
abbrev kd (d : Dev nD) : FVec Ideal S8192x1024 .f32 := m ((d : Thread nD τ).loc main_arg3)
abbrev g (d : Dev nD) : FVec Ideal S8192x512 .f32 := m ((d : Thread nD τ).loc main_arg4)
abbrev ct (d : Dev nD) : FVec Ideal S8192x1024 .f32 := m ((d : Thread nD τ).loc main_arg5)
abbrev lg (d : Dev nD) : FVec Ideal S512 .f32 := m ((d : Thread nD τ).loc main_arg6)
abbrev lb (d : Dev nD) : FVec Ideal S512 .f32 := m ((d : Thread nD τ).loc main_arg7)
abbrev rk (d : Dev nD) : FVec Ideal S8x64 .f32 := m ((d : Thread nD τ).loc main_arg8)

/-- Row `i` of the first half of the incoming gradient. -/
def half1 (x : FVec Ideal S8192x1024 .f32) (i : Fin 8192) (k : Fin 512) : EReal := x (ix2 i ⟨k.val, by omega⟩)

theorem lg_at (d : Dev nD) (y : S1x512.Idx) : (V m d main_v11 : FVec Ideal S1x512 .f32) y = lg m d (ix1 (y 1)) := by
  unfold V
  simp only [hostOps0, hostOps0_1, hostOps0_2, List.flatten_cons, List.flatten_nil, List.append_nil, List.cons_append, List.nil_append]
  entry_read
  pointwise

theorem lb_at (d : Dev nD) (y : S1x512.Idx) : (V m d main_v12 : FVec Ideal S1x512 .f32) y = lb m d (ix1 (y 1)) := by
  unfold V
  simp only [hostOps0, hostOps0_1, hostOps0_2, List.flatten_cons, List.flatten_nil, List.append_nil, List.cons_append, List.nil_append]
  entry_read
  pointwise

theorem rk_at (d : Dev nD) (y : S1x512.Idx) : (V m d main_v13 : FVec Ideal S1x512 .f32) y = flat (rk m d) (y 1) := by
  unfold V
  simp only [hostOps0, hostOps0_1, hostOps0_2, List.flatten_cons, List.flatten_nil, List.append_nil, List.cons_append, List.nil_append]
  entry_read
  pointwise

theorem h_at (d : Dev nD) (y : S1024x512.Idx) : (V m d main_v10 : FVec Ideal S1024x512 .bf16) y = H (y 0).val (y 1).val := by
  unfold V
  simp only [hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  pointwise
  have h0 : (y 0).val < 1024 := (y 0).isLt
  have h1 : (y 1).val < 512 := (y 1).isLt
  refine (congrArg (FloatOps.uitofp (F := Ideal) FTy.bf16) (same_head ⟨(y 0).val % 512 / 64, by omega⟩ ⟨(y 1).val / 64, by omega⟩)).trans ?_
  unfold H
  by_cases e : (y 0).val % 512 / 64 = (y 1).val / 64
  · rw [if_pos e, if_pos (by omega)]
    exact bit_one
  · rw [if_neg e, if_neg (by omega)]
    exact bit_zero

theorem blk0_at (d : Dev nD) (t : Fin cfg0.N) (y : S256x1024.Idx) : (iblk m d 0 t : FVec Ideal S256x1024 .f32) y
    = y2 m d (ix2 ⟨t.val * 256 + (y 0).val, by have := lt32 t; idx_bounds; omega⟩ (y 1)) := by
  blk_simp [iblk]
  blk_ext [idx t]

theorem blk1_at (d : Dev nD) (t : Fin cfg0.N) (y : S256x512.Idx) : (iblk m d 1 t : FVec Ideal S256x512 .f32) y
    = r m d (ix2 ⟨t.val * 256 + (y 0).val, by have := lt32 t; idx_bounds; omega⟩ (y 1)) := by
  blk_simp [iblk]
  blk_ext [idx t]

theorem blk2_at (d : Dev nD) (t : Fin cfg0.N) (y : S256x512.Idx) : (iblk m d 2 t : FVec Ideal S256x512 .f32) y
    = v m d (ix2 ⟨t.val * 256 + (y 0).val, by have := lt32 t; idx_bounds; omega⟩ (y 1)) := by
  blk_simp [iblk]
  blk_ext [idx t]

theorem blk3_at (d : Dev nD) (t : Fin cfg0.N) (y : S256x1024.Idx) : (iblk m d 3 t : FVec Ideal S256x1024 .f32) y
    = kd m d (ix2 ⟨t.val * 256 + (y 0).val, by have := lt32 t; idx_bounds; omega⟩ (y 1)) := by
  blk_simp [iblk]
  blk_ext [idx t]

theorem blk4_at (d : Dev nD) (t : Fin cfg0.N) (y : S256x512.Idx) : (iblk m d 4 t : FVec Ideal S256x512 .f32) y
    = g m d (ix2 ⟨t.val * 256 + (y 0).val, by have := lt32 t; idx_bounds; omega⟩ (y 1)) := by
  blk_simp [iblk]
  blk_ext [idx t]

theorem blk5_at (d : Dev nD) (t : Fin cfg0.N) (y : S256x512.Idx) : (iblk m d 5 t : FVec Ideal S256x512 .f32) y
    = half1 (ct m d) ⟨t.val * 256 + (y 0).val, by have := lt32 t; idx_bounds; omega⟩ (y 1) := by
  unfold half1
  blk_simp [iblk]
  blk_ext [idx t]

theorem blk6_at (d : Dev nD) (t : Fin cfg0.N) (y : S1x512.Idx) : (iblk m d 6 t : FVec Ideal S1x512 .f32) y = lg m d (ix1 (y 1)) := by
  blk_simp [iblk]
  refine (lg_at m d _).trans ?_
  blk_ext [idx t]

theorem blk7_at (d : Dev nD) (t : Fin cfg0.N) (y : S1x512.Idx) : (iblk m d 7 t : FVec Ideal S1x512 .f32) y = lb m d (ix1 (y 1)) := by
  blk_simp [iblk]
  refine (lb_at m d _).trans ?_
  blk_ext [idx t]

theorem blk8_at (d : Dev nD) (t : Fin cfg0.N) (y : S1x512.Idx) : (iblk m d 8 t : FVec Ideal S1x512 .f32) y = flat (rk m d) (y 1) := by
  blk_simp [iblk]
  refine (rk_at m d _).trans ?_
  dsimp only [flat, head]
  blk_ext [idx t]

theorem blk9_at (d : Dev nD) (t : Fin cfg0.N) (y : S1024x512.Idx) : (iblk m d 9 t : FVec Ideal S1024x512 .bf16) y = H (y 0).val (y 1).val := by
  blk_simp [iblk]
  refine (h_at m d _).trans ?_
  blk_ext [idx t]

/-! ## The values the kernel writes, read at an index -/

section
variable (v0 v3 : FVec Ideal S256x1024 .f32) (v1 v2 v4 v5 : FVec Ideal S256x512 .f32) (v6 v8 v10 : FVec Ideal S1x512 .f32)
  (w : FVec Ideal S1024x512 .bf16) (hw : ∀ i, w i = H (i 0).val (i 1).val)

theorem pay10_eq : k0_pay10 (F := Ideal) w = w := by
  funext i
  pointwise [k0_pay10]

theorem pay7_eq : k0_pay7 (F := Ideal) v6 = v6 := by
  funext i
  pointwise [k0_pay7]

theorem pay8_eq : k0_pay8 (F := Ideal) v8 = v8 := by
  funext i
  pointwise [k0_pay8]

theorem pay9_eq : k0_pay9 (F := Ideal) v10 = v10 := by
  funext i
  pointwise [k0_pay9]

/-- Row `p` of a block. -/
abbrev zr (p : Fin 256) : Fin 512 → EReal := both fun k => v0 (ix2 p k)
abbrev gr (p : Fin 256) : Fin 512 → EReal := fun k => v5 (ix2 p k) * v4 (ix2 p k)

include hw in
theorem pay11_at (y : S256x512.Idx) : k0_pay11 (F := Ideal) v0 w y = kctr (zr v0 (y 0)) (y 1) := by
  pointwise [k0_pay11, pay10_eq, hw, kctr, split]

include hw in
theorem pay13_at (y : S256x512.Idx) : k0_pay13 (F := Ideal) (k0_pay12 v0 w) y = kvar (zr v0 (y 0)) (y 1) := by
  pointwise [k0_pay13, k0_pay12, pay11_at v0 w hw, pay10_eq, hw, kvar, split]

include hw in
theorem pay14_at (y : S256x512.Idx) : k0_pay14 (F := Ideal) (k0_pay12 v0 w) y = Ideal.rsqrt (kvar (zr v0 (y 0)) (y 1)) := by
  pointwise [k0_pay14, pay13_at v0 w hw]

include hw in
theorem pay15_at (y : S256x512.Idx) : k0_pay15 (F := Ideal) (k0_pay12 v0 w) y
    = mhalf * Ideal.div (Ideal.rsqrt (kvar (zr v0 (y 0)) (y 1))) (kvar (zr v0 (y 0)) (y 1)) := by
  pointwise [k0_pay15, pay13_at v0 w hw, pay14_at v0 w hw]

include hw in
theorem pay16_at (y : S256x512.Idx) : k0_pay16 (F := Ideal) (k0_pay11 v0 w) (k0_pay12 v0 w) y
    = kctr (zr v0 (y 0)) (y 1) * Ideal.rsqrt (kvar (zr v0 (y 0)) (y 1)) := by
  pointwise [k0_pay16, pay11_at v0 w hw, pay14_at v0 w hw]

theorem pay18_at (y : S256x512.Idx) : k0_pay18 (F := Ideal) v1 v3 y
    = v1 y * (lo (fun k => v3 (ix2 (y 0) k)) (y 1) + hi (fun k => v3 (ix2 (y 0) k)) (y 1)) := by
  pointwise [k0_pay18, k0_pay17]

include hw in
theorem pay19_at (y : S256x512.Idx) : k0_pay19 (F := Ideal) v1 v3 v10 w y
    = kbon (fun k => v1 (ix2 (y 0) k)) (lo fun k => v3 (ix2 (y 0) k)) (hi fun k => v3 (ix2 (y 0) k)) (fun k => v10 (ix2 0 k)) (y 1) := by
  pointwise [k0_pay19, pay18_at, hw, kbon, split]

include hw in
theorem pay20_at (y : S256x512.Idx) :
    k0_pay20 (F := Ideal) v1 v2 v3 v5 (k0_pay7 v6) (k0_pay8 v8) (k0_pay9 v10) (k0_pay10 w) (k0_pay11 v0 w) (k0_pay12 v0 w) y
      = kout (zr v0 (y 0)) (fun k => v1 (ix2 (y 0) k)) (lo fun k => v3 (ix2 (y 0) k)) (hi fun k => v3 (ix2 (y 0) k))
        (fun k => v10 (ix2 0 k)) (fun k => v2 (ix2 (y 0) k)) (fun k => v5 (ix2 (y 0) k)) (fun k => v6 (ix2 0 k)) (fun k => v8 (ix2 0 k)) (y 1) := by
  rw [pay7_eq, pay8_eq, pay9_eq, pay10_eq]
  pointwise [k0_pay20, pay19_at v3 v1 v10 w hw, pay16_at v0 w hw, kout]

theorem pay21_at (y : S256x512.Idx) : k0_pay21 (F := Ideal) v4 v5 y = v5 y * v4 y := by
  pointwise [k0_pay21]

include hw in
theorem pay22_at (y : S256x512.Idx) : k0_pay22 (F := Ideal) v1 v3 v4 v5 (k0_pay9 v10) (k0_pay10 w) y
    = kbon (fun k => v1 (ix2 (y 0) k)) (lo fun k => v3 (ix2 (y 0) k)) (hi fun k => v3 (ix2 (y 0) k)) (fun k => v10 (ix2 0 k)) (y 1)
      * (v5 y * v4 y) := by
  rw [pay9_eq, pay10_eq]
  pointwise [k0_pay22, pay19_at v3 v1 v10 w hw, pay21_at]

include hw in
theorem pay23_at (y : S256x512.Idx) : k0_pay23 (F := Ideal) v2 v4 v5 w y = kbd (gr v4 v5 (y 0)) (fun k => v2 (ix2 (y 0) k)) (y 1) := by
  pointwise [k0_pay23, pay21_at, hw, kbd, split]

include hw in
theorem pay24_at (y : S1x512.Idx) : k0_pay24 (F := Ideal) v1 v2 v3 v4 v5 (k0_pay10 w) y
    = ∑ p : Fin 256, v1 (ix2 p (y 1)) * (lo (fun k => v3 (ix2 p k)) (y 1) + hi (fun k => v3 (ix2 p k)) (y 1))
      * kbd (gr v4 v5 p) (fun k => v2 (ix2 p k)) (y 1) := by
  rw [pay10_eq]
  pointwise [k0_pay24, pay18_at, pay23_at v2 v4 v5 w hw]

include hw in
theorem pay25_at (y : S256x512.Idx) : k0_pay25 (F := Ideal) v2 v4 v5 v10 w y
    = kbd (gr v4 v5 (y 0)) (fun k => v2 (ix2 (y 0) k)) (y 1) * v10 (ix2 0 (y 1)) := by
  pointwise [k0_pay25, pay23_at v2 v4 v5 w hw]

include hw in
theorem pay26_at (y : S256x512.Idx) : k0_pay26 (F := Ideal) v2 v3 v4 v5 (k0_pay9 v10) (k0_pay10 w) y
    = kbd (gr v4 v5 (y 0)) (fun k => v2 (ix2 (y 0) k)) (y 1) * v10 (ix2 0 (y 1))
      * (lo (fun k => v3 (ix2 (y 0) k)) (y 1) + hi (fun k => v3 (ix2 (y 0) k)) (y 1)) := by
  rw [pay9_eq, pay10_eq]
  pointwise [k0_pay26, k0_pay17, pay25_at v2 v4 v5 v10 w hw]

include hw in
theorem pay27_at (y : S256x1024.Idx) : k0_pay27 (F := Ideal) v1 v2 v4 v5 (k0_pay9 v10) (k0_pay10 w) y
    = wide (fun k => v1 (ix2 (y 0) k) * (kbd (gr v4 v5 (y 0)) (fun k => v2 (ix2 (y 0) k)) k * v10 (ix2 0 k))) (y 1) := by
  rw [pay9_eq, pay10_eq]
  unfold wide
  pointwise [k0_pay27, pay25_at v2 v4 v5 v10 w hw]
  by_cases h : (y 1).val < 512
  · simp only [dif_pos h, zero_add]
  · simp only [dif_neg h, add_zero]

theorem pay28_at (y : S1x512.Idx) : k0_pay28 (F := Ideal) v4 v5 y = ∑ p : Fin 256, gr v4 v5 p (y 1) := by
  pointwise [k0_pay28, pay21_at]

include hw in
theorem pay30_at (y : S1x512.Idx) : k0_pay30 (F := Ideal) (k0_pay29 v4 v5 (k0_pay11 v0 w) (k0_pay12 v0 w)) y
    = ∑ p : Fin 256, kctr (zr v0 p) (y 1) * Ideal.rsqrt (kvar (zr v0 p) (y 1)) * gr v4 v5 p (y 1) := by
  pointwise [k0_pay30, k0_pay29, pay16_at v0 w hw, pay21_at]

include hw in
theorem pay31_at (y : S256x1024.Idx) :
    k0_pay31 (F := Ideal) (k0_pay7 v6) (k0_pay10 w) (k0_pay11 v0 w) (k0_pay14 (k0_pay12 v0 w)) (k0_pay15 (k0_pay12 v0 w)) (k0_pay21 v4 v5) y
      = wide (kgrad (kctr (zr v0 (y 0))) (fun k => gr v4 v5 (y 0) k * v6 (ix2 0 k)) (fun k => Ideal.rsqrt (kvar (zr v0 (y 0)) k))
        (fun k => mhalf * Ideal.div (Ideal.rsqrt (kvar (zr v0 (y 0)) k)) (kvar (zr v0 (y 0)) k))) (y 1) := by
  rw [pay7_eq, pay10_eq]
  unfold wide
  pointwise [k0_pay31, pay11_at v0 w hw, pay14_at v0 w hw, pay15_at v0 w hw, pay21_at, hw]
  by_cases h : (y 1).val < 512
  · simp only [dif_pos h, zero_add]
    simp only [kgrad, kx, kq, split]
  · simp only [dif_neg h, add_zero]
    simp only [kgrad, kx, kq, split]

theorem pay4_at (a b : FVec Ideal S1x512 .f32) (y : S1x512.Idx) : k0_pay4 (F := Ideal) a b y = b y + a y := by
  pointwise [k0_pay4]

theorem pay5_at (a b : FVec Ideal S1x512 .f32) (y : S1x512.Idx) : k0_pay5 (F := Ideal) a b y = b y + a y := by
  pointwise [k0_pay5]

theorem pay6_at (a b : FVec Ideal S1x512 .f32) (y : S1x512.Idx) : k0_pay6 (F := Ideal) a b y = b y + a y := by
  pointwise [k0_pay6]

theorem pay1_at (y : S1x512.Idx) : k0_pay1 (F := Ideal) y = 0 := by
  pointwise [k0_pay1]

theorem pay2_at (y : S1x512.Idx) : k0_pay2 (F := Ideal) y = 0 := by
  pointwise [k0_pay2]

theorem pay3_at (y : S1x512.Idx) : k0_pay3 (F := Ideal) y = 0 := by
  pointwise [k0_pay3]

end

/-! ## The reference's composed terms, read at an index -/

section
open Cert.Reference25Ideal.Read
open Cert.Reference25Ideal (S8192x8x64 S8192x8x1 S8192x8 S2x8192x512 S2x8192x8x64)

variable (x0 x3 x5 : FVec Ideal S8192x1024 .f32) (x1 x2 x4 : FVec Ideal S8192x512 .f32) (x6 x7 : FVec Ideal S512 .f32) (x8 : FVec Ideal S8x64 .f32)

/-- Row `i` of the two directions added, and of the incoming gradient times the gate. -/
abbrev zR (i : Fin 8192) : Fin 512 → EReal := both fun k => x0 (ix2 i k)
abbrev gR (i : Fin 8192) (k : Fin 512) : EReal := half1 x5 i k * x4 (ix2 i k)

theorem ref11_at (y : S8192x8x64.Idx) : val_main_v11 (F := Ideal) x0 y = zR x0 (y 0) (lane (y 1) (y 2)) := by
  pointwise [val_main_v11, val_main_v10, val_main_v9, val_main_v8]

theorem ref15_at (y : S8192x8x1.Idx) : val_main_v15 (F := Ideal) x0 y = Ideal.div (hs (zR x0 (y 0)) (y 1)) c64 := by
  pointwise [val_main_v15, val_main_v14, val_main_cst_0, val_main_v13, val_main_v12, val_main_cst, ref11_at, hs]

theorem ref26_at (y : S8192x8x64.Idx) : val_main_v26 (F := Ideal) x0 y = rctr (zR x0 (y 0)) (lane (y 1) (y 2)) := by
  refine Eq.trans ?_ (rctr_lane _ (y 1) (y 2)).symm
  pointwise [val_main_v26, val_main_v25, ref15_at, ref11_at]

theorem ref17_at (y : S8192x8x64.Idx) : val_main_v17 (F := Ideal) x0 y = rctr (zR x0 (y 0)) (lane (y 1) (y 2)) := by
  refine Eq.trans ?_ (rctr_lane _ (y 1) (y 2)).symm
  pointwise [val_main_v17, val_main_v16, ref15_at, ref11_at]

theorem ref28_at (y : S8192x8x1.Idx) : val_main_v28 (F := Ideal) x0 y = rvar (zR x0 (y 0)) (y 1) := by
  pointwise [val_main_v28, val_main_v27, val_main_cst_4, val_main_v24, val_main_v23, val_main_cst_3, val_main_v22, val_main_v21, val_main_cst_2, val_main_v18, ref17_at, rvar, hs]

theorem ref29_at (y : S8192x8x1.Idx) : val_main_v29 (F := Ideal) x0 y = rs (zR x0 (y 0)) (y 1) := by
  pointwise [val_main_v29, ref28_at, rs]

theorem ref32_at (y : S8192x8x1.Idx) : val_main_v32 (F := Ideal) x0 y = dv (zR x0 (y 0)) (y 1) := by
  pointwise [val_main_v32, val_main_v31, val_main_cst_5, val_main_v30, ref29_at, ref28_at, dv]

theorem ref34_at (y : S8192x8x64.Idx) : val_main_v34 (F := Ideal) x0 y = rctr (zR x0 (y 0)) (lane (y 1) (y 2)) * rs (zR x0 (y 0)) (y 1) := by
  pointwise [val_main_v34, val_main_v33, ref26_at, ref29_at]

theorem ref35_at (y : S8192x512.Idx) : val_main_v35 (F := Ideal) x0 y = rctr (zR x0 (y 0)) (y 1) * rs (zR x0 (y 0)) (head (y 1)) := by
  pointwise [val_main_v35, ref34_at]
  exact congrArg (fun k => rctr (zR x0 (y 0)) k * rs (zR x0 (y 0)) (head (y 1))) (lane_head (y 1))

theorem ref44_0 (i : Fin 8192) (h : Fin 8) (l : Fin 64) : val_main_v44 (F := Ideal) x1 x3 (ix4 0 i h l)
    = x1 (ix2 i (lane h l)) * x3 (ix2 i ⟨(lane h l).val, by omega⟩) := by
  pointwise [val_main_v44, val_main_v43, val_main_v42, val_main_v0, val_main_v7, val_main_v6, val_main_v4, val_main_v2]

theorem ref44_1 (i : Fin 8192) (h : Fin 8) (l : Fin 64) : val_main_v44 (F := Ideal) x1 x3 (ix4 1 i h l)
    = x1 (ix2 i (lane h l)) * x3 (ix2 i ⟨512 + (lane h l).val, by omega⟩) := by
  pointwise [val_main_v44, val_main_v43, val_main_v42, val_main_v0, val_main_v7, val_main_v6, val_main_v5, val_main_v3]

theorem ref47_at (s : Fin 2) (i : Fin 8192) (h : Fin 8) (l : Fin 64) : val_main_v47 (F := Ideal) x1 x3 x8 (ix4 s i h l)
    = val_main_v44 (F := Ideal) x1 x3 (ix4 s i h l) * flat x8 (lane h l) := by
  refine Eq.trans ?_ (congrArg _ (flat_lane x8 h l).symm)
  pointwise [val_main_v47, val_main_v46, val_main_v45]

theorem ref48_at (y : S8192x8.Idx) : val_main_v48 (F := Ideal) x1 x3 x8 y
    = rbon (fun k => x1 (ix2 (y 0) k)) (lo fun k => x3 (ix2 (y 0) k)) (hi fun k => x3 (ix2 (y 0) k)) (flat x8) (y 1) := by
  have hy : y = ix2 (y 0) (y 1) := by
    funext a
    match a with
    | ⟨0, _⟩ => rfl
    | ⟨1, _⟩ => rfl
  refine Eq.trans (b := Ideal.hostReduceAdd Cert.Reference25Ideal.Gen.reducesTo_S2x8192x8x64_S8192x8_d0_3 (val_main_v47 (F := Ideal) x1 x3 x8) 0
    (ix2 (y 0) (y 1))) ?_ ?_
  · refine Eq.trans ?_ (congrArg (fun a : EReal => Ideal.hostReduceAdd Cert.Reference25Ideal.Gen.reducesTo_S2x8192x8x64_S8192x8_d0_3
      (val_main_v47 (F := Ideal) x1 x3 x8) a (ix2 (y 0) (y 1))) (by pointwise [val_main_cst_6] : val_main_cst_6 (F := Ideal) ix0 = 0))
    exact congrArg (val_main_v48 (F := Ideal) x1 x3 x8) hy
  · refine (Cert.HeadNorm.sum03 _ _ _ _).trans ?_
    rw [Fin.sum_univ_two]
    refine congrArg₂ (fun a b : EReal => a + b) (Finset.sum_congr rfl fun l _ => ?_) (Finset.sum_congr rfl fun l _ => ?_)
    · exact (ref47_at _ _ _ 0 (y 0) (y 1) l).trans (congrArg (· * _) (ref44_0 x3 x1 (y 0) (y 1) l))
    · exact (ref47_at _ _ _ 1 (y 0) (y 1) l).trans (congrArg (· * _) (ref44_1 x3 x1 (y 0) (y 1) l))

theorem ref57_at (y : S8192x512.Idx) : val_main_v57 (F := Ideal) x4 x5 y = half1 x5 (y 0) (y 1) * x4 y := by
  pointwise [val_main_v57, val_main_v55, half1]

theorem ref58_at (y : S8192x8x64.Idx) : val_main_v58 (F := Ideal) x4 x5 y = gR x5 x4 (y 0) (lane (y 1) (y 2)) := by
  pointwise [val_main_v58, ref57_at]

/-- The gradient of the gate. -/
theorem ref56_at (y : S8192x512.Idx) : val_main_v56 (F := Ideal) x0 x1 x2 x3 x5 x6 x7 x8 y
    = rout (zR x0 (y 0)) (fun k => x1 (ix2 (y 0) k)) (lo fun k => x3 (ix2 (y 0) k)) (hi fun k => x3 (ix2 (y 0) k)) (flat x8)
      (fun k => x2 (ix2 (y 0) k)) (half1 x5 (y 0)) (fun k => x6 (ix1 k)) (fun k => x7 (ix1 k)) (y 1) := by
  pointwise [val_main_v56, val_main_v55, val_main_v53, val_main_v52, val_main_v51, val_main_v50, val_main_v49, ref48_at, val_main_v1, val_main_v41, val_main_v40, val_main_v39, val_main_v38, val_main_v37, val_main_v36, ref35_at, rout, rs, half1]

/-- The gradient of the values. -/
theorem ref124_at (y : S8192x512.Idx) : val_main_v124 (F := Ideal) x1 x3 x4 x5 x8 y
    = rbon (fun k => x1 (ix2 (y 0) k)) (lo fun k => x3 (ix2 (y 0) k)) (hi fun k => x3 (ix2 (y 0) k)) (flat x8) (head (y 1)) * gR x5 x4 (y 0) (y 1) := by
  pointwise [val_main_v124, val_main_v60, val_main_v59, val_main_v49, ref48_at, ref58_at]
  exact congrArg (fun k => rbon (fun k => x1 (ix2 (y 0) k)) (lo fun k => x3 (ix2 (y 0) k)) (hi fun k => x3 (ix2 (y 0) k)) (flat x8) (head (y 1))
    * gR x5 x4 (y 0) k) (lane_head (y 1))

theorem ref64_at (y : S8192x8.Idx) : val_main_v64 (F := Ideal) x2 x4 x5 y = rbd (gR x5 x4 (y 0)) (fun k => x2 (ix2 (y 0) k)) (y 1) := by
  pointwise [val_main_v64, val_main_cst_8, val_main_v63, val_main_v62, val_main_cst_7, val_main_v61, val_main_v1, ref58_at, rbd, hs]
  simp only [Finset.univ_unique, Finset.sum_singleton]

theorem ref70_at (s : Fin 2) (i : Fin 8192) (h : Fin 8) (l : Fin 64) : val_main_v70 (F := Ideal) x2 x4 x5 x8 (ix4 s i h l)
    = rbd (gR x5 x4 i) (fun k => x2 (ix2 i k)) h * flat x8 (lane h l) := by
  refine Eq.trans ?_ (congrArg _ (flat_lane x8 h l).symm)
  pointwise [val_main_v70, val_main_v69, val_main_v65, val_main_v45, ref64_at]

theorem ref74_0 (i : Fin 8192) (h : Fin 8) (l : Fin 64) : val_main_v74 (F := Ideal) x2 x3 x4 x5 x8 (ix4 0 i h l)
    = rbd (gR x5 x4 i) (fun k => x2 (ix2 i k)) h * flat x8 (lane h l) * x3 (ix2 i ⟨(lane h l).val, by omega⟩) := by
  refine Eq.trans ?_ (congrArg (· * _) (ref70_at x5 x2 x4 x8 0 i h l))
  pointwise [val_main_v74, val_main_v7, val_main_v6, val_main_v4, val_main_v2]

theorem ref74_1 (i : Fin 8192) (h : Fin 8) (l : Fin 64) : val_main_v74 (F := Ideal) x2 x3 x4 x5 x8 (ix4 1 i h l)
    = rbd (gR x5 x4 i) (fun k => x2 (ix2 i k)) h * flat x8 (lane h l) * x3 (ix2 i ⟨512 + (lane h l).val, by omega⟩) := by
  refine Eq.trans ?_ (congrArg (· * _) (ref70_at x5 x2 x4 x8 1 i h l))
  pointwise [val_main_v74, val_main_v7, val_main_v6, val_main_v5, val_main_v3]

/-- A row of the receptance's gradient: the two directions' parts. -/
def rr (a b p q w : Fin 512 → EReal) (k : Fin 512) : EReal := rbd a b (head k) * w k * p k + rbd a b (head k) * w k * q k

theorem ref77_at (y : S8192x8x64.Idx) : val_main_v77 (F := Ideal) x2 x3 x4 x5 x8 y
    = rbd (gR x5 x4 (y 0)) (fun k => x2 (ix2 (y 0) k)) (y 1) * flat x8 (lane (y 1) (y 2)) * x3 (ix2 (y 0) ⟨(lane (y 1) (y 2)).val, by omega⟩)
      + rbd (gR x5 x4 (y 0)) (fun k => x2 (ix2 (y 0) k)) (y 1) * flat x8 (lane (y 1) (y 2)) * x3 (ix2 (y 0) ⟨512 + (lane (y 1) (y 2)).val, by omega⟩) := by
  pointwise [val_main_v77, val_main_cst_12, val_main_v76, val_main_v75, val_main_cst_11]
  simp only [Finset.univ_unique, Finset.sum_singleton, Fin.sum_univ_two]
  exact congrArg₂ (fun a b : EReal => a + b) (ref74_0 x3 x5 x2 x4 x8 (y 0) (y 1) (y 2)) (ref74_1 x3 x5 x2 x4 x8 (y 0) (y 1) (y 2))

/-- The gradient of the receptance. -/
theorem ref125_at (y : S8192x512.Idx) : val_main_v125 (F := Ideal) x2 x3 x4 x5 x8 y
    = rr (gR x5 x4 (y 0)) (fun k => x2 (ix2 (y 0) k)) (lo fun k => x3 (ix2 (y 0) k)) (hi fun k => x3 (ix2 (y 0) k)) (flat x8) (y 1) := by
  pointwise [val_main_v125, ref77_at, rr]
  exact congrArg (fun k : Fin 512 => rbd (gR x5 x4 (y 0)) (fun k => x2 (ix2 (y 0) k)) (head (y 1)) * flat x8 k * x3 (ix2 (y 0) ⟨k.val, by omega⟩)
    + rbd (gR x5 x4 (y 0)) (fun k => x2 (ix2 (y 0) k)) (head (y 1)) * flat x8 k * x3 (ix2 (y 0) ⟨512 + k.val, by omega⟩)) (lane_head (y 1))

/-- A row of the keys' gradient, the same in both directions. -/
abbrev kr (i : Fin 8192) (k : Fin 512) : EReal := x1 (ix2 i k) * (rbd (gR x5 x4 i) (fun k => x2 (ix2 i k)) (head k) * flat x8 k)

theorem ref73_at (s : Fin 2) (i : Fin 8192) (h : Fin 8) (l : Fin 64) : val_main_v73 (F := Ideal) x1 x2 x4 x5 x8 (ix4 s i h l)
    = x1 (ix2 i (lane h l)) * (rbd (gR x5 x4 i) (fun k => x2 (ix2 i k)) h * flat x8 (lane h l)) := by
  refine Eq.trans ?_ (congrArg (_ * ·) (ref70_at x5 x2 x4 x8 s i h l))
  pointwise [val_main_v73, val_main_v72, val_main_v42, val_main_v0]

theorem ref116_at (s : Fin 2) (i : Fin 8192) (k : Fin 512) : val_main_v116 (F := Ideal) x1 x2 x4 x5 x8 (ix3 s i k) = kr x5 x1 x2 x4 x8 i k := by
  pointwise [val_main_v116]
  refine (ref73_at x5 x1 x2 x4 x8 s i (head k) ⟨k.val % 64, Nat.mod_lt _ (by decide)⟩).trans ?_
  exact congrArg (fun j => x1 (ix2 i j) * (rbd (gR x5 x4 i) (fun k => x2 (ix2 i k)) (head k) * flat x8 j)) (lane_head k)

theorem ref118_at (y : S8192x512.Idx) : val_main_v118 (F := Ideal) x1 x2 x4 x5 x8 y = kr x5 x1 x2 x4 x8 (y 0) (y 1) := by
  pointwise [val_main_v118, val_main_v117]
  exact ref116_at x5 x1 x2 x4 x8 0 (y 0) (y 1)

theorem ref120_at (y : S8192x512.Idx) : val_main_v120 (F := Ideal) x1 x2 x4 x5 x8 y = kr x5 x1 x2 x4 x8 (y 0) (y 1) := by
  pointwise [val_main_v120, val_main_v119]
  exact ref116_at x5 x1 x2 x4 x8 1 (y 0) (y 1)

/-- The gradient of the keys. -/
theorem ref123_at (y : S8192x1024.Idx) : val_main_v123 (F := Ideal) x1 x2 x4 x5 x8 y = wide (kr x5 x1 x2 x4 x8 (y 0)) (y 1) := by
  have hy : (y 1).val < 1024 := (y 1).isLt
  unfold wide
  pointwise [val_main_v123, val_main_v122, val_main_v121, val_main_cst_26, val_main_cst_27, ref118_at, ref120_at]
  by_cases h : (y 1).val < 512
  · rw [dif_pos h, dif_pos h, dif_neg (by omega), zero_add]
  · rw [dif_neg h, dif_neg h, dif_pos (by omega), add_zero]

/-- The incoming gradient times the gate and the gain. -/
abbrev aR (i : Fin 8192) (k : Fin 512) : EReal := gR x5 x4 i k * x6 (ix1 k)

theorem ref87_at (y : S8192x8x64.Idx) : val_main_v87 (F := Ideal) x4 x5 x6 y = aR x5 x4 x6 (y 0) (lane (y 1) (y 2)) := by
  pointwise [val_main_v87, val_main_v85, val_main_v84, val_main_v36, ref57_at]

theorem ref92_at (y : S8192x8x64.Idx) : val_main_v92 (F := Ideal) x0 x4 x5 x6 y
    = aR x5 x4 x6 (y 0) (lane (y 1) (y 2)) * rs (zR x0 (y 0)) (y 1) := by
  pointwise [val_main_v92, val_main_v91, ref87_at, ref29_at]

theorem ref99_at (y : S8192x8.Idx) : val_main_v99 (F := Ideal) x0 x4 x5 x6 y
    = rv (rctr (zR x0 (y 0))) (aR x5 x4 x6 (y 0)) (dv (zR x0 (y 0))) (y 1) := by
  pointwise [val_main_v99, val_main_cst_20, val_main_v98, val_main_v97, val_main_cst_19, val_main_v93, val_main_v90, val_main_v89, val_main_cst_17, val_main_v88, ref26_at, ref87_at, ref32_at, rv, hs]
  simp only [Finset.univ_unique, Finset.sum_singleton]

theorem ref101_at (y : S8192x8x64.Idx) : val_main_v101 (F := Ideal) x0 x4 x5 x6 y
    = rv (rctr (zR x0 (y 0))) (aR x5 x4 x6 (y 0)) (dv (zR x0 (y 0))) (y 1) * (two * rctr (zR x0 (y 0)) (lane (y 1) (y 2))) := by
  pointwise [val_main_v101, val_main_v100, val_main_v20, val_main_v19, val_main_cst_1, ref99_at, ref17_at]

theorem ref111_at (y : S8192x8x64.Idx) : val_main_v111 (F := Ideal) x0 x4 x5 x6 y
    = rgrad (rctr (zR x0 (y 0))) (aR x5 x4 x6 (y 0)) (rs (zR x0 (y 0))) (dv (zR x0 (y 0))) (y 1) (lane (y 1) (y 2)) := by
  pointwise [val_main_v111, val_main_v110, val_main_v109, val_main_cst_23, val_main_v108, val_main_v107, val_main_cst_22, val_main_v106, val_main_v105, val_main_v104, val_main_v103, val_main_cst_21, val_main_v102, val_main_v96, val_main_v95, val_main_cst_18, val_main_v94, ref92_at, ref101_at, rgrad, hs]
  simp only [Finset.univ_unique, Finset.sum_singleton]

theorem ref112_at (y : S8192x512.Idx) : val_main_v112 (F := Ideal) x0 x4 x5 x6 y
    = rgrad (rctr (zR x0 (y 0))) (aR x5 x4 x6 (y 0)) (rs (zR x0 (y 0))) (dv (zR x0 (y 0))) (head (y 1)) (y 1) := by
  pointwise [val_main_v112, ref111_at]
  exact congrArg (rgrad (rctr (zR x0 (y 0))) (aR x5 x4 x6 (y 0)) (rs (zR x0 (y 0))) (dv (zR x0 (y 0))) (head (y 1))) (lane_head (y 1))

/-- The gradient of the two directions of the recurrence. -/
theorem ref115_at (y : S8192x1024.Idx) : val_main_v115 (F := Ideal) x0 x4 x5 x6 y
    = wide (fun k => rgrad (rctr (zR x0 (y 0))) (aR x5 x4 x6 (y 0)) (rs (zR x0 (y 0))) (dv (zR x0 (y 0))) (head k) k) (y 1) := by
  have hy : (y 1).val < 1024 := (y 1).isLt
  unfold wide
  pointwise [val_main_v115, val_main_v114, val_main_v113, val_main_cst_24, val_main_cst_25, ref112_at]
  by_cases h : (y 1).val < 512
  · rw [dif_pos h, dif_pos h, dif_neg (by omega), zero_add]
  · rw [dif_neg h, dif_neg h, dif_pos (by omega), add_zero]

/-- The gradient of the gain. -/
theorem ref126_at (y : S1x512.Idx) : val_main_v126 (F := Ideal) x0 x4 x5 y
    = ∑ i : Fin 8192, rctr (zR x0 i) (y 1) * rs (zR x0 i) (head (y 1)) * gR x5 x4 i (y 1) := by
  pointwise [val_main_v126, val_main_v86, val_main_cst_16, val_main_v83, val_main_v82, val_main_cst_15, val_main_v81, ref35_at, ref57_at]
  simp only [Finset.univ_unique, Finset.sum_singleton]

/-- The gradient of the shift. -/
theorem ref127_at (y : S1x512.Idx) : val_main_v127 (F := Ideal) x4 x5 y = ∑ i : Fin 8192, gR x5 x4 i (y 1) := by
  pointwise [val_main_v127, val_main_v80, val_main_cst_14, val_main_v79, val_main_v78, val_main_cst_13, ref57_at]
  simp only [Finset.univ_unique, Finset.sum_singleton]

/-- A sum over the first two axes of four, entry by entry. -/
theorem sum01 {a n p b : ℕ} (h : (⟨4, ![a, n, p, b]⟩ : Shape).ReducesTo [0, 1] ⟨2, ![p, b]⟩) (f : (⟨4, ![a, n, p, b]⟩ : Shape).Idx → EReal)
    (i : Fin p) (j : Fin b) : Ideal.hostReduceAdd h f 0 (ix2 i j) = ∑ s : Fin a, ∑ k : Fin n, f (ix4 s k i j) := by
  unfold Ideal.hostReduceAdd
  rw [zero_add]
  refine (Finset.sum_filter_eq_sum_of_fiber _ (fun k : Fin a × Fin n => ix4 k.1 k.2 i j)
    (fun _ _ e => Prod.ext (congrFun e 0) (congrFun e 1)) (fun q => ?_) f).trans ?_
  · constructor
    · intro e
      refine ⟨(q 0, q 1), ?_⟩
      funext w
      apply Fin.ext
      match w with
      | ⟨0, _⟩ => rfl
      | ⟨1, _⟩ => rfl
      | ⟨2, _⟩ => exact (congrArg Fin.val (congrFun e 0)).symm
      | ⟨3, _⟩ => exact (congrArg Fin.val (congrFun e 1)).symm
    · rintro ⟨k, rfl⟩
      funext w
      apply Fin.ext
      match w with
      | ⟨0, _⟩ => rfl
      | ⟨1, _⟩ => rfl
  · simp only [Fintype.sum_prod_type]

theorem ref66_at (s : Fin 2) (i : Fin 8192) (h : Fin 8) (l : Fin 64) : val_main_v66 (F := Ideal) x1 x2 x3 x4 x5 (ix4 s i h l)
    = val_main_v44 (F := Ideal) x1 x3 (ix4 s i h l) * rbd (gR x5 x4 i) (fun k => x2 (ix2 i k)) h := by
  pointwise [val_main_v66, val_main_v65, ref64_at]

/-- The two directions' parts of the gradient of the bonus weights. -/
abbrev wr (i : Fin 8192) (k : Fin 512) : EReal :=
  x1 (ix2 i k) * x3 (ix2 i ⟨k.val, by omega⟩) * rbd (gR x5 x4 i) (fun k => x2 (ix2 i k)) (head k)
abbrev wr' (i : Fin 8192) (k : Fin 512) : EReal :=
  x1 (ix2 i k) * x3 (ix2 i ⟨512 + k.val, by omega⟩) * rbd (gR x5 x4 i) (fun k => x2 (ix2 i k)) (head k)

theorem ref67_at (h : Fin 8) (l : Fin 64) : val_main_v67 (F := Ideal) x1 x2 x3 x4 x5 (ix2 h l)
    = ∑ i : Fin 8192, wr x3 x5 x1 x2 x4 i (lane h l) + ∑ i : Fin 8192, wr' x3 x5 x1 x2 x4 i (lane h l) := by
  refine Eq.trans (congrArg (fun a : EReal => Ideal.hostReduceAdd Cert.Reference25Ideal.Gen.reducesTo_S2x8192x8x64_S8x64_d0_1
      (val_main_v66 (F := Ideal) x1 x2 x3 x4 x5) a (ix2 h l)) (by pointwise [val_main_cst_9] : val_main_cst_9 (F := Ideal) ix0 = 0)) ?_
  refine (sum01 _ _ _ _).trans ?_
  rw [Fin.sum_univ_two]
  refine congrArg₂ (fun a b : EReal => a + b) (Finset.sum_congr rfl fun i _ => ?_) (Finset.sum_congr rfl fun i _ => ?_)
  · refine (ref66_at _ _ _ _ _ 0 i h l).trans ((congrArg (· * _) (ref44_0 x3 x1 i h l)).trans ?_)
    exact congrArg (fun j => _ * rbd (gR x5 x4 i) (fun k => x2 (ix2 i k)) j) (head_lane h l).symm
  · refine (ref66_at _ _ _ _ _ 1 i h l).trans ((congrArg (· * _) (ref44_1 x3 x1 i h l)).trans ?_)
    exact congrArg (fun j => _ * rbd (gR x5 x4 i) (fun k => x2 (ix2 i k)) j) (head_lane h l).symm

theorem ref71_at (h : Fin 8) (l : Fin 64) : val_main_v71 (F := Ideal) x1 x2 x3 x4 x5 (ix2 h l)
    = ∑ i : Fin 8192, wr x3 x5 x1 x2 x4 i (lane h l) + ∑ i : Fin 8192, wr' x3 x5 x1 x2 x4 i (lane h l) := by
  refine Eq.trans (congrArg (fun a : EReal => Ideal.hostReduceAdd Cert.Reference25Ideal.Gen.reducesTo_S1x1x8x64_S8x64_d0_1
      (val_main_v68 (F := Ideal) x1 x2 x3 x4 x5) a (ix2 h l)) (by pointwise [val_main_cst_10] : val_main_cst_10 (F := Ideal) ix0 = 0)) ?_
  refine (sum01 _ _ _ _).trans ?_
  simp only [Finset.univ_unique, Finset.sum_singleton]
  refine Eq.trans ?_ (ref67_at x3 x5 x1 x2 x4 h l)
  pointwise [val_main_v68]

/-- The gradient of the bonus weights. -/
theorem ref128_at (y : S1x512.Idx) : val_main_v128 (F := Ideal) x1 x2 x3 x4 x5 y
    = ∑ i : Fin 8192, wr x3 x5 x1 x2 x4 i (y 1) + ∑ i : Fin 8192, wr' x3 x5 x1 x2 x4 i (y 1) := by
  pointwise [val_main_v128]
  refine (ref71_at x3 x5 x1 x2 x4 (head (y 1)) ⟨(y 1).val % 64, Nat.mod_lt _ (by decide)⟩).trans ?_
  exact congrArg (fun k => ∑ i : Fin 8192, wr x3 x5 x1 x2 x4 i k + ∑ i : Fin 8192, wr' x3 x5 x1 x2 x4 i k) (lane_head (y 1))

end

end Cert.HeadNormBwd
-- ==== Proof.Adam.lean ====
/- The sum of the eight devices' gradients of a weight and the optimiser's step, for each of the four weight shapes: every
   entry of the four results is the same function of the entries of the arguments. -/
module

public import proofs.«01_k».proof.Proof.Gen.Kernel26Ideal.Frame
public import proofs.«01_k».proof.Proof.Gen.Reference26Ideal.Read
public import proofs.«01_k».proof.Proof.Gen.Kernel27Ideal.Frame
public import proofs.«01_k».proof.Proof.Gen.Reference27Ideal.Read
public import proofs.«01_k».proof.Proof.Gen.Kernel28Ideal.Frame
public import proofs.«01_k».proof.Proof.Gen.Reference28Ideal.Read
public import proofs.«01_k».proof.Proof.Gen.Kernel29Ideal.Frame
public import proofs.«01_k».proof.Proof.Gen.Reference29Ideal.Read
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Adam

/-- The first moment after the step, of the gradient `g` and the moment `m`. -/
def mom (g m : EReal) : EReal := Ideal.ofBits FTy.f32 0x3F666666#32 * m + Ideal.ofBits FTy.f32 0x3DCCCCCD#32 * g

/-- The second moment after the step, of the gradient `g` and the moment `v`. -/
def vel (g v : EReal) : EReal := Ideal.ofBits FTy.f32 0x3F7FBE77#32 * v + Ideal.ofBits FTy.f32 0x3A83126F#32 * (g * g)

/-- The change of the weight, of the gradient `g`, the weight `w` and the moments `m` and `v`. -/
def dlt (g w m v : EReal) : EReal := Ideal.ofBits FTy.f32 0xBA83126F#32
  * (Ideal.div (Ideal.div (mom g m) (Ideal.ofBits FTy.f32 0x3F26BD02#32))
      (Ideal.sqrt (Ideal.div (vel g v) (Ideal.ofBits FTy.f32 0x3C231ACC#32)) + Ideal.ofBits FTy.f32 0x322BCC77#32)
    + Ideal.ofBits FTy.f32 0x3C23D70A#32 * w)

/-- Eight summands, added one after the other. -/
theorem sum8 (f : Fin 8 → EReal) : f 0 + f 1 + f 2 + f 3 + f 4 + f 5 + f 6 + f 7 = ∑ s : Fin 8, f s := (Fin.sum_univ_eight f).symm

end Cert.Adam

/-! ## The gradient of a feed-forward's output weight -/

namespace Cert.AdamFfnOut

open Cert.Kernel26Ideal Cert.Kernel26Ideal.Gen Cert.Adam

variable (m : (ℓ : Loc nD τ sig) → Buf (Elt Ideal) ℓ)

/-- Grid point `t` takes row block `t` of every array. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 4 :=
  (by decide +kernel : ∀ t : Fin grid0.N, _)

/-- The argument arrays of device `c`: the eight gradients, the weight and its two moments. -/
abbrev p (c : Dev nD) : FVec Ideal S8x352x1024 .bf16 := m ((c : Thread nD τ).loc main_arg0)
abbrev w (c : Dev nD) : FVec Ideal S352x1024 .f32 := m ((c : Thread nD τ).loc main_arg1)
abbrev mm (c : Dev nD) : FVec Ideal S352x1024 .f32 := m ((c : Thread nD τ).loc main_arg2)
abbrev vv (c : Dev nD) : FVec Ideal S352x1024 .f32 := m ((c : Thread nD τ).loc main_arg3)

/-- Row `r` of row block `t`. -/
abbrev row (t : Fin cfg0.N) (r : Fin 88) : Fin 352 := ⟨t.val * 88 + r.val, by have := (idx t).2.2.2.2.2.2.2.2; omega⟩

theorem blk0_at (c : Dev nD) (t : Fin cfg0.N) (y : S8x88x1024.Idx) : (iblk m c 0 t : FVec Ideal S8x88x1024 .bf16) y = p m c (ix3 (y 0) (row t (y 1)) (y 2)) := by
  blk_simp [iblk]
  refine (congrFun (show V m c main_arg0 = p m c from funext fun y => by entry_read; pointwise) _).trans ?_
  blk_ext [idx t]

theorem blk_at (c : Dev nD) (t : Fin cfg0.N) (y : S88x1024.Idx) : (iblk m c 1 t : FVec Ideal S88x1024 .f32) y = w m c (ix2 (row t (y 0)) (y 1))
    ∧ (iblk m c 2 t : FVec Ideal S88x1024 .f32) y = mm m c (ix2 (row t (y 0)) (y 1))
    ∧ (iblk m c 3 t : FVec Ideal S88x1024 .f32) y = vv m c (ix2 (row t (y 0)) (y 1)) := by
  refine ⟨?_, ?_, ?_⟩ <;> blk_simp [iblk]
  · exact (congrFun (show V m c main_arg1 = w m c from funext fun y => by entry_read; pointwise) _).trans (by blk_ext [idx t])
  · exact (congrFun (show V m c main_arg2 = mm m c from funext fun y => by entry_read; pointwise) _).trans (by blk_ext [idx t])
  · exact (congrFun (show V m c main_arg3 = vv m c from funext fun y => by entry_read; pointwise) _).trans (by blk_ext [idx t])

/-- The sum of the eight gradients at an entry. -/
def tot (p : FVec Ideal S8x352x1024 .bf16) (y : S352x1024.Idx) : EReal := ∑ s : Fin 8, p (ix3 s (y 0) (y 1))

theorem tot_at (c : Dev nD) (t : Fin cfg0.N) (y : S88x1024.Idx) : k0_pay4 (F := Ideal)
    (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y
      = tot (p m c) (ix2 (row t (y 0)) (y 1)) := by
  have e (s : Fin 8) : (iblk m c 0 t : FVec Ideal S8x88x1024 .bf16) (ix3 s (y 0) (y 1)) = p m c (ix3 s (row t (y 0)) (y 1)) := blk0_at m c t _
  refine Eq.trans ?_ (sum8 fun s => p m c (ix3 s (row t (y 0)) (y 1)))
  simp only [← e]
  pointwise [k0_pay4]

theorem pay1_at (g b : FVec Ideal S88x1024 .f32) (y : S88x1024.Idx) : k0_pay1 g b y = mom (g y) (b y) := by
  pointwise [k0_pay1, mom]

theorem pay2_at (g b : FVec Ideal S88x1024 .f32) (y : S88x1024.Idx) : k0_pay2 g b y = vel (g y) (b y) := by
  pointwise [k0_pay2, vel]

theorem pay3_at (g x a b : FVec Ideal S88x1024 .f32) (y : S88x1024.Idx) : k0_pay3 g x a b y = dlt (g y) (x y) (a y) (b y) := by
  pointwise [k0_pay3, k0_pay1, k0_pay2, dlt, mom, vel]

open Cert.Reference26Ideal.Read

section
variable (x0 : FVec Ideal S8x352x1024 .bf16) (x1 x2 x3 : FVec Ideal S352x1024 .f32) (y : S352x1024.Idx)

theorem ref0_at : val_main_v1 (F := Ideal) x0 y = tot x0 y := by
  refine (val_main_v1_apply x0 y).trans (Eq.trans (congrArg (· + _) (show val_main_cst (F := Ideal) _ = 0 by pointwise [val_main_cst])) ((zero_add _).trans ?_))
  exact Finset.sum_congr rfl fun s _ => (show _ = x0 (idx_main_v1 y s) from rfl).trans (congrArg x0 (funext fun | ⟨0, _⟩ => rfl | ⟨1, _⟩ => rfl | ⟨2, _⟩ => rfl))

theorem ref5_at : val_main_v6 (F := Ideal) x0 x2 y = mom (tot x0 y) (x2 y) := by
  rw [← ref0_at]
  pointwise [val_main_v6, val_main_v5, val_main_v4, val_main_v3, val_main_v2, val_main_cst_0, val_main_cst_1, mom]

theorem ref11_at : val_main_v12 (F := Ideal) x0 x3 y = vel (tot x0 y) (x3 y) := by
  rw [← ref0_at]
  pointwise [val_main_v12, val_main_v11, val_main_v10, val_main_v9, val_main_v8, val_main_v7, val_main_cst_2, val_main_cst_3, vel]

theorem ref24_at : val_main_v25 (F := Ideal) x0 x1 x2 x3 y = dlt (tot x0 y) (x1 y) (x2 y) (x3 y) := by
  unfold dlt
  rw [← ref5_at, ← ref11_at]
  pointwise [val_main_v25, val_main_v24, val_main_v23, val_main_v22, val_main_v21, val_main_v20, val_main_v19, val_main_v18, val_main_v17,
    val_main_v16, val_main_v15, val_main_v14, val_main_v13, val_main_cst_4, val_main_cst_5, val_main_cst_6, val_main_cst_7, val_main_cst_8]
end

theorem final4 (c : Dev nD) : (dats m 0 c).arrAt 4 cfg0.N = val_main_v1 (F := Ideal) (p m c) := by
  refine (dats m 0 c).arrAt_eq_of_covers 4 _ (by decide +kernel) fun t hf y => ?_
  have q (F : S352x1024.Idx → EReal) : F (ix2 (row t (y 0)) (y 1)) = F ((win0_4.blk t).view.emb y) := by blk_point [idx t]
  blk_simp
  rw [after0_4]
  frame_out
  exact (tot_at m c t y).trans ((q fun z => tot (p m c) z).trans (ref0_at _ _).symm)

theorem final5 (c : Dev nD) : (dats m 0 c).arrAt 5 cfg0.N = val_main_v25 (F := Ideal) (p m c) (w m c) (mm m c) (vv m c) := by
  refine (dats m 0 c).arrAt_eq_of_covers 5 _ (by decide +kernel) fun t hf y => ?_
  have q (F : S352x1024.Idx → EReal) : F (ix2 (row t (y 0)) (y 1)) = F ((win0_5.blk t).view.emb y) := by blk_point [idx t]
  blk_simp
  rw [after0_5]
  frame_out
  exact ((pay3_at _ _ _ _ _).trans (congr (congr (congrArg₂ dlt (tot_at m c t y) (blk_at m c t y).1) (blk_at m c t y).2.1) (blk_at m c t y).2.2)).trans ((q fun z => dlt (tot (p m c) z) (w m c z) (mm m c z) (vv m c z)).trans (ref24_at _ _ _ _ _).symm)

theorem final6 (c : Dev nD) : (dats m 0 c).arrAt 6 cfg0.N = val_main_v6 (F := Ideal) (p m c) (mm m c) := by
  refine (dats m 0 c).arrAt_eq_of_covers 6 _ (by decide +kernel) fun t hf y => ?_
  have q (F : S352x1024.Idx → EReal) : F (ix2 (row t (y 0)) (y 1)) = F ((win0_6.blk t).view.emb y) := by blk_point [idx t]
  blk_simp
  rw [after0_6]
  frame_out
  exact ((pay1_at _ _ _).trans (congrArg₂ mom (tot_at m c t y) (blk_at m c t y).2.1)).trans ((q fun z => mom (tot (p m c) z) (mm m c z)).trans (ref5_at _ _ _).symm)

theorem final7 (c : Dev nD) : (dats m 0 c).arrAt 7 cfg0.N = val_main_v12 (F := Ideal) (p m c) (vv m c) := by
  refine (dats m 0 c).arrAt_eq_of_covers 7 _ (by decide +kernel) fun t hf y => ?_
  have q (F : S352x1024.Idx → EReal) : F (ix2 (row t (y 0)) (y 1)) = F ((win0_7.blk t).view.emb y) := by blk_point [idx t]
  blk_simp
  rw [after0_7]
  frame_out
  exact ((pay2_at _ _ _).trans (congrArg₂ vel (tot_at m c t y) (blk_at m c t y).2.2)).trans ((q fun z => vel (tot (p m c) z) (vv m c z)).trans (ref11_at _ _ _).symm)

end Cert.AdamFfnOut

/-! ## The gradient of a feed-forward's input weight -/

namespace Cert.AdamFfnIn

open Cert.Kernel27Ideal Cert.Kernel27Ideal.Gen Cert.Adam

variable (m : (ℓ : Loc nD τ sig) → Buf (Elt Ideal) ℓ)

/-- Grid point `t` takes row block `t` of every array. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 8 :=
  (by decide +kernel : ∀ t : Fin grid0.N, _)

/-- The argument arrays of device `c`: the eight gradients, the weight and its two moments. -/
abbrev p (c : Dev nD) : FVec Ideal S8x1024x704 .bf16 := m ((c : Thread nD τ).loc main_arg0)
abbrev w (c : Dev nD) : FVec Ideal S1024x704 .f32 := m ((c : Thread nD τ).loc main_arg1)
abbrev mm (c : Dev nD) : FVec Ideal S1024x704 .f32 := m ((c : Thread nD τ).loc main_arg2)
abbrev vv (c : Dev nD) : FVec Ideal S1024x704 .f32 := m ((c : Thread nD τ).loc main_arg3)

/-- Row `r` of row block `t`. -/
abbrev row (t : Fin cfg0.N) (r : Fin 128) : Fin 1024 := ⟨t.val * 128 + r.val, by have := (idx t).2.2.2.2.2.2.2.2; omega⟩

theorem blk0_at (c : Dev nD) (t : Fin cfg0.N) (y : S8x128x704.Idx) : (iblk m c 0 t : FVec Ideal S8x128x704 .bf16) y = p m c (ix3 (y 0) (row t (y 1)) (y 2)) := by
  blk_simp [iblk]
  refine (congrFun (show V m c main_arg0 = p m c from funext fun y => by entry_read; pointwise) _).trans ?_
  blk_ext [idx t]

theorem blk_at (c : Dev nD) (t : Fin cfg0.N) (y : S128x704.Idx) : (iblk m c 1 t : FVec Ideal S128x704 .f32) y = w m c (ix2 (row t (y 0)) (y 1))
    ∧ (iblk m c 2 t : FVec Ideal S128x704 .f32) y = mm m c (ix2 (row t (y 0)) (y 1))
    ∧ (iblk m c 3 t : FVec Ideal S128x704 .f32) y = vv m c (ix2 (row t (y 0)) (y 1)) := by
  refine ⟨?_, ?_, ?_⟩ <;> blk_simp [iblk]
  · exact (congrFun (show V m c main_arg1 = w m c from funext fun y => by entry_read; pointwise) _).trans (by blk_ext [idx t])
  · exact (congrFun (show V m c main_arg2 = mm m c from funext fun y => by entry_read; pointwise) _).trans (by blk_ext [idx t])
  · exact (congrFun (show V m c main_arg3 = vv m c from funext fun y => by entry_read; pointwise) _).trans (by blk_ext [idx t])

/-- The sum of the eight gradients at an entry. -/
def tot (p : FVec Ideal S8x1024x704 .bf16) (y : S1024x704.Idx) : EReal := ∑ s : Fin 8, p (ix3 s (y 0) (y 1))

theorem tot_at (c : Dev nD) (t : Fin cfg0.N) (y : S128x704.Idx) : k0_pay4 (F := Ideal)
    (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y
      = tot (p m c) (ix2 (row t (y 0)) (y 1)) := by
  have e (s : Fin 8) : (iblk m c 0 t : FVec Ideal S8x128x704 .bf16) (ix3 s (y 0) (y 1)) = p m c (ix3 s (row t (y 0)) (y 1)) := blk0_at m c t _
  refine Eq.trans ?_ (sum8 fun s => p m c (ix3 s (row t (y 0)) (y 1)))
  simp only [← e]
  pointwise [k0_pay4]

theorem pay1_at (g b : FVec Ideal S128x704 .f32) (y : S128x704.Idx) : k0_pay1 g b y = mom (g y) (b y) := by
  pointwise [k0_pay1, mom]

theorem pay2_at (g b : FVec Ideal S128x704 .f32) (y : S128x704.Idx) : k0_pay2 g b y = vel (g y) (b y) := by
  pointwise [k0_pay2, vel]

theorem pay3_at (g x a b : FVec Ideal S128x704 .f32) (y : S128x704.Idx) : k0_pay3 g x a b y = dlt (g y) (x y) (a y) (b y) := by
  pointwise [k0_pay3, k0_pay1, k0_pay2, dlt, mom, vel]

open Cert.Reference27Ideal.Read

section
variable (x0 : FVec Ideal S8x1024x704 .bf16) (x1 x2 x3 : FVec Ideal S1024x704 .f32) (y : S1024x704.Idx)

theorem ref0_at : val_main_v1 (F := Ideal) x0 y = tot x0 y := by
  refine (val_main_v1_apply x0 y).trans (Eq.trans (congrArg (· + _) (show val_main_cst (F := Ideal) _ = 0 by pointwise [val_main_cst])) ((zero_add _).trans ?_))
  exact Finset.sum_congr rfl fun s _ => (show _ = x0 (idx_main_v1 y s) from rfl).trans (congrArg x0 (funext fun | ⟨0, _⟩ => rfl | ⟨1, _⟩ => rfl | ⟨2, _⟩ => rfl))

theorem ref5_at : val_main_v6 (F := Ideal) x0 x2 y = mom (tot x0 y) (x2 y) := by
  rw [← ref0_at]
  pointwise [val_main_v6, val_main_v5, val_main_v4, val_main_v3, val_main_v2, val_main_cst_0, val_main_cst_1, mom]

theorem ref11_at : val_main_v12 (F := Ideal) x0 x3 y = vel (tot x0 y) (x3 y) := by
  rw [← ref0_at]
  pointwise [val_main_v12, val_main_v11, val_main_v10, val_main_v9, val_main_v8, val_main_v7, val_main_cst_2, val_main_cst_3, vel]

theorem ref24_at : val_main_v25 (F := Ideal) x0 x1 x2 x3 y = dlt (tot x0 y) (x1 y) (x2 y) (x3 y) := by
  unfold dlt
  rw [← ref5_at, ← ref11_at]
  pointwise [val_main_v25, val_main_v24, val_main_v23, val_main_v22, val_main_v21, val_main_v20, val_main_v19, val_main_v18, val_main_v17,
    val_main_v16, val_main_v15, val_main_v14, val_main_v13, val_main_cst_4, val_main_cst_5, val_main_cst_6, val_main_cst_7, val_main_cst_8]
end

theorem final4 (c : Dev nD) : (dats m 0 c).arrAt 4 cfg0.N = val_main_v1 (F := Ideal) (p m c) := by
  refine (dats m 0 c).arrAt_eq_of_covers 4 _ (by decide +kernel) fun t hf y => ?_
  have q (F : S1024x704.Idx → EReal) : F (ix2 (row t (y 0)) (y 1)) = F ((win0_4.blk t).view.emb y) := by blk_point [idx t]
  blk_simp
  rw [after0_4]
  frame_out
  exact (tot_at m c t y).trans ((q fun z => tot (p m c) z).trans (ref0_at _ _).symm)

theorem final5 (c : Dev nD) : (dats m 0 c).arrAt 5 cfg0.N = val_main_v25 (F := Ideal) (p m c) (w m c) (mm m c) (vv m c) := by
  refine (dats m 0 c).arrAt_eq_of_covers 5 _ (by decide +kernel) fun t hf y => ?_
  have q (F : S1024x704.Idx → EReal) : F (ix2 (row t (y 0)) (y 1)) = F ((win0_5.blk t).view.emb y) := by blk_point [idx t]
  blk_simp
  rw [after0_5]
  frame_out
  exact ((pay3_at _ _ _ _ _).trans (congr (congr (congrArg₂ dlt (tot_at m c t y) (blk_at m c t y).1) (blk_at m c t y).2.1) (blk_at m c t y).2.2)).trans ((q fun z => dlt (tot (p m c) z) (w m c z) (mm m c z) (vv m c z)).trans (ref24_at _ _ _ _ _).symm)

theorem final6 (c : Dev nD) : (dats m 0 c).arrAt 6 cfg0.N = val_main_v6 (F := Ideal) (p m c) (mm m c) := by
  refine (dats m 0 c).arrAt_eq_of_covers 6 _ (by decide +kernel) fun t hf y => ?_
  have q (F : S1024x704.Idx → EReal) : F (ix2 (row t (y 0)) (y 1)) = F ((win0_6.blk t).view.emb y) := by blk_point [idx t]
  blk_simp
  rw [after0_6]
  frame_out
  exact ((pay1_at _ _ _).trans (congrArg₂ mom (tot_at m c t y) (blk_at m c t y).2.1)).trans ((q fun z => mom (tot (p m c) z) (mm m c z)).trans (ref5_at _ _ _).symm)

theorem final7 (c : Dev nD) : (dats m 0 c).arrAt 7 cfg0.N = val_main_v12 (F := Ideal) (p m c) (vv m c) := by
  refine (dats m 0 c).arrAt_eq_of_covers 7 _ (by decide +kernel) fun t hf y => ?_
  have q (F : S1024x704.Idx → EReal) : F (ix2 (row t (y 0)) (y 1)) = F ((win0_7.blk t).view.emb y) := by blk_point [idx t]
  blk_simp
  rw [after0_7]
  frame_out
  exact ((pay2_at _ _ _).trans (congrArg₂ vel (tot_at m c t y) (blk_at m c t y).2.2)).trans ((q fun z => vel (tot (p m c) z) (vv m c z)).trans (ref11_at _ _ _).symm)

end Cert.AdamFfnIn

/-! ## The gradient of the combined input projection's weight -/

namespace Cert.AdamIn

open Cert.Kernel28Ideal Cert.Kernel28Ideal.Gen Cert.Adam

variable (m : (ℓ : Loc nD τ sig) → Buf (Elt Ideal) ℓ)

/-- Grid point `t` takes row block `t` of every array. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 8 :=
  (by decide +kernel : ∀ t : Fin grid0.N, _)

/-- The argument arrays of device `c`: the eight gradients, the weight and its two moments. -/
abbrev p (c : Dev nD) : FVec Ideal S8x1024x372 .bf16 := m ((c : Thread nD τ).loc main_arg0)
abbrev w (c : Dev nD) : FVec Ideal S1024x372 .f32 := m ((c : Thread nD τ).loc main_arg1)
abbrev mm (c : Dev nD) : FVec Ideal S1024x372 .f32 := m ((c : Thread nD τ).loc main_arg2)
abbrev vv (c : Dev nD) : FVec Ideal S1024x372 .f32 := m ((c : Thread nD τ).loc main_arg3)

/-- Row `r` of row block `t`. -/
abbrev row (t : Fin cfg0.N) (r : Fin 128) : Fin 1024 := ⟨t.val * 128 + r.val, by have := (idx t).2.2.2.2.2.2.2.2; omega⟩

theorem blk0_at (c : Dev nD) (t : Fin cfg0.N) (y : S8x128x372.Idx) : (iblk m c 0 t : FVec Ideal S8x128x372 .bf16) y = p m c (ix3 (y 0) (row t (y 1)) (y 2)) := by
  blk_simp [iblk]
  refine (congrFun (show V m c main_arg0 = p m c from funext fun y => by entry_read; pointwise) _).trans ?_
  blk_ext [idx t]

theorem blk_at (c : Dev nD) (t : Fin cfg0.N) (y : S128x372.Idx) : (iblk m c 1 t : FVec Ideal S128x372 .f32) y = w m c (ix2 (row t (y 0)) (y 1))
    ∧ (iblk m c 2 t : FVec Ideal S128x372 .f32) y = mm m c (ix2 (row t (y 0)) (y 1))
    ∧ (iblk m c 3 t : FVec Ideal S128x372 .f32) y = vv m c (ix2 (row t (y 0)) (y 1)) := by
  refine ⟨?_, ?_, ?_⟩ <;> blk_simp [iblk]
  · exact (congrFun (show V m c main_arg1 = w m c from funext fun y => by entry_read; pointwise) _).trans (by blk_ext [idx t])
  · exact (congrFun (show V m c main_arg2 = mm m c from funext fun y => by entry_read; pointwise) _).trans (by blk_ext [idx t])
  · exact (congrFun (show V m c main_arg3 = vv m c from funext fun y => by entry_read; pointwise) _).trans (by blk_ext [idx t])

/-- The sum of the eight gradients at an entry. -/
def tot (p : FVec Ideal S8x1024x372 .bf16) (y : S1024x372.Idx) : EReal := ∑ s : Fin 8, p (ix3 s (y 0) (y 1))

theorem tot_at (c : Dev nD) (t : Fin cfg0.N) (y : S128x372.Idx) : k0_pay4 (F := Ideal)
    (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y
      = tot (p m c) (ix2 (row t (y 0)) (y 1)) := by
  have e (s : Fin 8) : (iblk m c 0 t : FVec Ideal S8x128x372 .bf16) (ix3 s (y 0) (y 1)) = p m c (ix3 s (row t (y 0)) (y 1)) := blk0_at m c t _
  refine Eq.trans ?_ (sum8 fun s => p m c (ix3 s (row t (y 0)) (y 1)))
  simp only [← e]
  pointwise [k0_pay4]

theorem pay1_at (g b : FVec Ideal S128x372 .f32) (y : S128x372.Idx) : k0_pay1 g b y = mom (g y) (b y) := by
  pointwise [k0_pay1, mom]

theorem pay2_at (g b : FVec Ideal S128x372 .f32) (y : S128x372.Idx) : k0_pay2 g b y = vel (g y) (b y) := by
  pointwise [k0_pay2, vel]

theorem pay3_at (g x a b : FVec Ideal S128x372 .f32) (y : S128x372.Idx) : k0_pay3 g x a b y = dlt (g y) (x y) (a y) (b y) := by
  pointwise [k0_pay3, k0_pay1, k0_pay2, dlt, mom, vel]

open Cert.Reference28Ideal.Read

section
variable (x0 : FVec Ideal S8x1024x372 .bf16) (x1 x2 x3 : FVec Ideal S1024x372 .f32) (y : S1024x372.Idx)

theorem ref0_at : val_main_v1 (F := Ideal) x0 y = tot x0 y := by
  refine (val_main_v1_apply x0 y).trans (Eq.trans (congrArg (· + _) (show val_main_cst (F := Ideal) _ = 0 by pointwise [val_main_cst])) ((zero_add _).trans ?_))
  exact Finset.sum_congr rfl fun s _ => (show _ = x0 (idx_main_v1 y s) from rfl).trans (congrArg x0 (funext fun | ⟨0, _⟩ => rfl | ⟨1, _⟩ => rfl | ⟨2, _⟩ => rfl))

theorem ref5_at : val_main_v6 (F := Ideal) x0 x2 y = mom (tot x0 y) (x2 y) := by
  rw [← ref0_at]
  pointwise [val_main_v6, val_main_v5, val_main_v4, val_main_v3, val_main_v2, val_main_cst_0, val_main_cst_1, mom]

theorem ref11_at : val_main_v12 (F := Ideal) x0 x3 y = vel (tot x0 y) (x3 y) := by
  rw [← ref0_at]
  pointwise [val_main_v12, val_main_v11, val_main_v10, val_main_v9, val_main_v8, val_main_v7, val_main_cst_2, val_main_cst_3, vel]

theorem ref24_at : val_main_v25 (F := Ideal) x0 x1 x2 x3 y = dlt (tot x0 y) (x1 y) (x2 y) (x3 y) := by
  unfold dlt
  rw [← ref5_at, ← ref11_at]
  pointwise [val_main_v25, val_main_v24, val_main_v23, val_main_v22, val_main_v21, val_main_v20, val_main_v19, val_main_v18, val_main_v17,
    val_main_v16, val_main_v15, val_main_v14, val_main_v13, val_main_cst_4, val_main_cst_5, val_main_cst_6, val_main_cst_7, val_main_cst_8]
end

theorem final4 (c : Dev nD) : (dats m 0 c).arrAt 4 cfg0.N = val_main_v1 (F := Ideal) (p m c) := by
  refine (dats m 0 c).arrAt_eq_of_covers 4 _ (by decide +kernel) fun t hf y => ?_
  have q (F : S1024x372.Idx → EReal) : F (ix2 (row t (y 0)) (y 1)) = F ((win0_4.blk t).view.emb y) := by blk_point [idx t]
  blk_simp
  rw [after0_4]
  frame_out
  exact (tot_at m c t y).trans ((q fun z => tot (p m c) z).trans (ref0_at _ _).symm)

theorem final5 (c : Dev nD) : (dats m 0 c).arrAt 5 cfg0.N = val_main_v25 (F := Ideal) (p m c) (w m c) (mm m c) (vv m c) := by
  refine (dats m 0 c).arrAt_eq_of_covers 5 _ (by decide +kernel) fun t hf y => ?_
  have q (F : S1024x372.Idx → EReal) : F (ix2 (row t (y 0)) (y 1)) = F ((win0_5.blk t).view.emb y) := by blk_point [idx t]
  blk_simp
  rw [after0_5]
  frame_out
  exact ((pay3_at _ _ _ _ _).trans (congr (congr (congrArg₂ dlt (tot_at m c t y) (blk_at m c t y).1) (blk_at m c t y).2.1) (blk_at m c t y).2.2)).trans ((q fun z => dlt (tot (p m c) z) (w m c z) (mm m c z) (vv m c z)).trans (ref24_at _ _ _ _ _).symm)

theorem final6 (c : Dev nD) : (dats m 0 c).arrAt 6 cfg0.N = val_main_v6 (F := Ideal) (p m c) (mm m c) := by
  refine (dats m 0 c).arrAt_eq_of_covers 6 _ (by decide +kernel) fun t hf y => ?_
  have q (F : S1024x372.Idx → EReal) : F (ix2 (row t (y 0)) (y 1)) = F ((win0_6.blk t).view.emb y) := by blk_point [idx t]
  blk_simp
  rw [after0_6]
  frame_out
  exact ((pay1_at _ _ _).trans (congrArg₂ mom (tot_at m c t y) (blk_at m c t y).2.1)).trans ((q fun z => mom (tot (p m c) z) (mm m c z)).trans (ref5_at _ _ _).symm)

theorem final7 (c : Dev nD) : (dats m 0 c).arrAt 7 cfg0.N = val_main_v12 (F := Ideal) (p m c) (vv m c) := by
  refine (dats m 0 c).arrAt_eq_of_covers 7 _ (by decide +kernel) fun t hf y => ?_
  have q (F : S1024x372.Idx → EReal) : F (ix2 (row t (y 0)) (y 1)) = F ((win0_7.blk t).view.emb y) := by blk_point [idx t]
  blk_simp
  rw [after0_7]
  frame_out
  exact ((pay2_at _ _ _).trans (congrArg₂ vel (tot_at m c t y) (blk_at m c t y).2.2)).trans ((q fun z => vel (tot (p m c) z) (vv m c z)).trans (ref11_at _ _ _).symm)

end Cert.AdamIn

/-! ## The gradient of the output projection's weight -/

namespace Cert.AdamOut

open Cert.Kernel29Ideal Cert.Kernel29Ideal.Gen Cert.Adam

variable (m : (ℓ : Loc nD τ sig) → Buf (Elt Ideal) ℓ)

/-- Grid point `t` takes row block `t` of every array. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 1 :=
  (by decide +kernel : ∀ t : Fin grid0.N, _)

/-- The argument arrays of device `c`: the eight gradients, the weight and its two moments. -/
abbrev p (c : Dev nD) : FVec Ideal S8x128x1024 .bf16 := m ((c : Thread nD τ).loc main_arg0)
abbrev w (c : Dev nD) : FVec Ideal S128x1024 .f32 := m ((c : Thread nD τ).loc main_arg1)
abbrev mm (c : Dev nD) : FVec Ideal S128x1024 .f32 := m ((c : Thread nD τ).loc main_arg2)
abbrev vv (c : Dev nD) : FVec Ideal S128x1024 .f32 := m ((c : Thread nD τ).loc main_arg3)

/-- Row `r` of row block `t`. -/
abbrev row (t : Fin cfg0.N) (r : Fin 128) : Fin 128 := ⟨t.val * 128 + r.val, by have := (idx t).2.2.2.2.2.2.2.2; omega⟩

theorem blk0_at (c : Dev nD) (t : Fin cfg0.N) (y : S8x128x1024.Idx) : (iblk m c 0 t : FVec Ideal S8x128x1024 .bf16) y = p m c (ix3 (y 0) (row t (y 1)) (y 2)) := by
  blk_simp [iblk]
  refine (congrFun (show V m c main_arg0 = p m c from funext fun y => by entry_read; pointwise) _).trans ?_
  blk_ext [idx t]

theorem blk_at (c : Dev nD) (t : Fin cfg0.N) (y : S128x1024.Idx) : (iblk m c 1 t : FVec Ideal S128x1024 .f32) y = w m c (ix2 (row t (y 0)) (y 1))
    ∧ (iblk m c 2 t : FVec Ideal S128x1024 .f32) y = mm m c (ix2 (row t (y 0)) (y 1))
    ∧ (iblk m c 3 t : FVec Ideal S128x1024 .f32) y = vv m c (ix2 (row t (y 0)) (y 1)) := by
  refine ⟨?_, ?_, ?_⟩ <;> blk_simp [iblk]
  · exact (congrFun (show V m c main_arg1 = w m c from funext fun y => by entry_read; pointwise) _).trans (by blk_ext [idx t])
  · exact (congrFun (show V m c main_arg2 = mm m c from funext fun y => by entry_read; pointwise) _).trans (by blk_ext [idx t])
  · exact (congrFun (show V m c main_arg3 = vv m c from funext fun y => by entry_read; pointwise) _).trans (by blk_ext [idx t])

/-- The sum of the eight gradients at an entry. -/
def tot (p : FVec Ideal S8x128x1024 .bf16) (y : S128x1024.Idx) : EReal := ∑ s : Fin 8, p (ix3 s (y 0) (y 1))

theorem tot_at (c : Dev nD) (t : Fin cfg0.N) (y : S128x1024.Idx) : k0_pay4 (F := Ideal)
    (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y
      = tot (p m c) (ix2 (row t (y 0)) (y 1)) := by
  have e (s : Fin 8) : (iblk m c 0 t : FVec Ideal S8x128x1024 .bf16) (ix3 s (y 0) (y 1)) = p m c (ix3 s (row t (y 0)) (y 1)) := blk0_at m c t _
  refine Eq.trans ?_ (sum8 fun s => p m c (ix3 s (row t (y 0)) (y 1)))
  simp only [← e]
  pointwise [k0_pay4]

theorem pay1_at (g b : FVec Ideal S128x1024 .f32) (y : S128x1024.Idx) : k0_pay1 g b y = mom (g y) (b y) := by
  pointwise [k0_pay1, mom]

theorem pay2_at (g b : FVec Ideal S128x1024 .f32) (y : S128x1024.Idx) : k0_pay2 g b y = vel (g y) (b y) := by
  pointwise [k0_pay2, vel]

theorem pay3_at (g x a b : FVec Ideal S128x1024 .f32) (y : S128x1024.Idx) : k0_pay3 g x a b y = dlt (g y) (x y) (a y) (b y) := by
  pointwise [k0_pay3, k0_pay1, k0_pay2, dlt, mom, vel]

open Cert.Reference29Ideal.Read

section
variable (x0 : FVec Ideal S8x128x1024 .bf16) (x1 x2 x3 : FVec Ideal S128x1024 .f32) (y : S128x1024.Idx)

theorem ref0_at : val_main_v1 (F := Ideal) x0 y = tot x0 y := by
  refine (val_main_v1_apply x0 y).trans (Eq.trans (congrArg (· + _) (show val_main_cst (F := Ideal) _ = 0 by pointwise [val_main_cst])) ((zero_add _).trans ?_))
  exact Finset.sum_congr rfl fun s _ => (show _ = x0 (idx_main_v1 y s) from rfl).trans (congrArg x0 (funext fun | ⟨0, _⟩ => rfl | ⟨1, _⟩ => rfl | ⟨2, _⟩ => rfl))

theorem ref5_at : val_main_v6 (F := Ideal) x0 x2 y = mom (tot x0 y) (x2 y) := by
  rw [← ref0_at]
  pointwise [val_main_v6, val_main_v5, val_main_v4, val_main_v3, val_main_v2, val_main_cst_0, val_main_cst_1, mom]

theorem ref11_at : val_main_v12 (F := Ideal) x0 x3 y = vel (tot x0 y) (x3 y) := by
  rw [← ref0_at]
  pointwise [val_main_v12, val_main_v11, val_main_v10, val_main_v9, val_main_v8, val_main_v7, val_main_cst_2, val_main_cst_3, vel]

theorem ref24_at : val_main_v25 (F := Ideal) x0 x1 x2 x3 y = dlt (tot x0 y) (x1 y) (x2 y) (x3 y) := by
  unfold dlt
  rw [← ref5_at, ← ref11_at]
  pointwise [val_main_v25, val_main_v24, val_main_v23, val_main_v22, val_main_v21, val_main_v20, val_main_v19, val_main_v18, val_main_v17,
    val_main_v16, val_main_v15, val_main_v14, val_main_v13, val_main_cst_4, val_main_cst_5, val_main_cst_6, val_main_cst_7, val_main_cst_8]
end

theorem final4 (c : Dev nD) : (dats m 0 c).arrAt 4 cfg0.N = val_main_v1 (F := Ideal) (p m c) := by
  refine (dats m 0 c).arrAt_eq_of_covers 4 _ (by decide +kernel) fun t hf y => ?_
  have q (F : S128x1024.Idx → EReal) : F (ix2 (row t (y 0)) (y 1)) = F ((win0_4.blk t).view.emb y) := by blk_point [idx t]
  blk_simp
  rw [after0_4]
  frame_out
  exact (tot_at m c t y).trans ((q fun z => tot (p m c) z).trans (ref0_at _ _).symm)

theorem final5 (c : Dev nD) : (dats m 0 c).arrAt 5 cfg0.N = val_main_v25 (F := Ideal) (p m c) (w m c) (mm m c) (vv m c) := by
  refine (dats m 0 c).arrAt_eq_of_covers 5 _ (by decide +kernel) fun t hf y => ?_
  have q (F : S128x1024.Idx → EReal) : F (ix2 (row t (y 0)) (y 1)) = F ((win0_5.blk t).view.emb y) := by blk_point [idx t]
  blk_simp
  rw [after0_5]
  frame_out
  exact ((pay3_at _ _ _ _ _).trans (congr (congr (congrArg₂ dlt (tot_at m c t y) (blk_at m c t y).1) (blk_at m c t y).2.1) (blk_at m c t y).2.2)).trans ((q fun z => dlt (tot (p m c) z) (w m c z) (mm m c z) (vv m c z)).trans (ref24_at _ _ _ _ _).symm)

theorem final6 (c : Dev nD) : (dats m 0 c).arrAt 6 cfg0.N = val_main_v6 (F := Ideal) (p m c) (mm m c) := by
  refine (dats m 0 c).arrAt_eq_of_covers 6 _ (by decide +kernel) fun t hf y => ?_
  have q (F : S128x1024.Idx → EReal) : F (ix2 (row t (y 0)) (y 1)) = F ((win0_6.blk t).view.emb y) := by blk_point [idx t]
  blk_simp
  rw [after0_6]
  frame_out
  exact ((pay1_at _ _ _).trans (congrArg₂ mom (tot_at m c t y) (blk_at m c t y).2.1)).trans ((q fun z => mom (tot (p m c) z) (mm m c z)).trans (ref5_at _ _ _).symm)

theorem final7 (c : Dev nD) : (dats m 0 c).arrAt 7 cfg0.N = val_main_v12 (F := Ideal) (p m c) (vv m c) := by
  refine (dats m 0 c).arrAt_eq_of_covers 7 _ (by decide +kernel) fun t hf y => ?_
  have q (F : S128x1024.Idx → EReal) : F (ix2 (row t (y 0)) (y 1)) = F ((win0_7.blk t).view.emb y) := by blk_point [idx t]
  blk_simp
  rw [after0_7]
  frame_out
  exact ((pay2_at _ _ _).trans (congrArg₂ vel (tot_at m c t y) (blk_at m c t y).2.2)).trans ((q fun z => vel (tot (p m c) z) (vv m c z)).trans (ref11_at _ _ _).symm)

end Cert.AdamOut
-- ==== Proof.HeadNormBwdEnd.lean ====
/- The gradient of the recurrence's head norm, its bonus and its gate: the eight result arrays. -/
module

public import proofs.«01_k».proof.Proof.HeadNormBwd

@[expose] public section

set_option maxRecDepth 16384

noncomputable section

open Idealize.ShloMosaic Idealize.ShloMosaic.TcCoe Idealize.SL.Sem
open Idealize.ShloMosaic.Pipeline (Dat)

namespace Cert.HeadNormBwd

open Cert.Kernel25Ideal Cert.Kernel25Ideal.Gen Cert.Reals
open Cert.HeadNorm (c c64 eps c_eq c64_eq real_c real_add real_sub div64 lane head head_lane hs H split split_eq real_hs
  kctr rctr rctr_lane ctr_eq real_ctr kvar rvar var_eq kbon rbon bon_eq kout rout out_eq lo hi both flat flat_lane same_head bit_one bit_zero)
open Cert.Norm (two mhalf two_eq mhalf_eq eps_pos sum_coe div_coe rsqrt_coe)

variable (m : (ℓ : Loc nD τ sig) → Buf (Elt Ideal) ℓ)

/-! ## The result arrays -/

theorem kgrad_eq (z A : Fin 512 → EReal) (hz : ∀ x, IsReal (z x)) (hA : ∀ x, IsReal (A x)) :
    kgrad (kctr z) A (fun k => Ideal.rsqrt (kvar z k)) (fun k => mhalf * Ideal.div (Ideal.rsqrt (kvar z k)) (kvar z k))
      = fun k => rgrad (rctr z) A (rs z) (dv z) (head k) k := by
  funext k
  have e : kvar z = fun k => rvar z (head k) := funext (var_eq z hz)
  rw [ctr_eq z hz, e]
  exact grad_eq _ _ _ _ (real_ctr z hz) hA (real_rs z hz) (real_dv z hz) k

theorem kr_eq (a b p q w : Fin 512 → EReal) (ha : ∀ x, IsReal (a x)) (hb : ∀ x, IsReal (b x)) (hp : ∀ x, IsReal (p x)) (hq : ∀ x, IsReal (q x))
    (hw : ∀ x, IsReal (w x)) (k : Fin 512) : kbd a b k * w k * (p k + q k) = rr a b p q w k := by
  unfold rr
  rw [bd_eq a b ha hb, mul_add_real ((real_bd a b ha hb _).mul (hw k)) (hp k) (hq k)]

theorem kw_eq (a b r p q : Fin 512 → EReal) (ha : ∀ x, IsReal (a x)) (hb : ∀ x, IsReal (b x)) (hr : ∀ x, IsReal (r x)) (hp : ∀ x, IsReal (p x))
    (hq : ∀ x, IsReal (q x)) (k : Fin 512) :
    r k * (p k + q k) * kbd a b k = r k * p k * rbd a b (head k) + r k * q k * rbd a b (head k) := by
  rw [bd_eq a b ha hb, mul_add_real (hr k) (hp k) (hq k), mul_comm, mul_add_real (real_bd a b ha hb _) ((hr k).mul (hp k)) ((hr k).mul (hq k)),
    mul_comm _ (r k * p k), mul_comm _ (r k * q k)]

theorem emb10_at (f : FVec Ideal S8192x1024 .f32) (t : Fin cfg0.N) (y : S256x1024.Idx) :
    f ((win0_10.blk t).view.emb y) = f (ix2 ⟨t.val * 256 + (y 0).val, by have := lt32 t; idx_bounds; omega⟩ (y 1)) := by
  blk_ext [idx t]

theorem emb11_at (f : FVec Ideal S8192x512 .f32) (t : Fin cfg0.N) (y : S256x512.Idx) :
    f ((win0_11.blk t).view.emb y) = f (ix2 ⟨t.val * 256 + (y 0).val, by have := lt32 t; idx_bounds; omega⟩ (y 1)) := by
  blk_ext [idx t]

theorem emb12_at (f : FVec Ideal S8192x512 .f32) (t : Fin cfg0.N) (y : S256x512.Idx) :
    f ((win0_12.blk t).view.emb y) = f (ix2 ⟨t.val * 256 + (y 0).val, by have := lt32 t; idx_bounds; omega⟩ (y 1)) := by
  blk_ext [idx t]

theorem emb13_at (f : FVec Ideal S8192x1024 .f32) (t : Fin cfg0.N) (y : S256x1024.Idx) :
    f ((win0_13.blk t).view.emb y) = f (ix2 ⟨t.val * 256 + (y 0).val, by have := lt32 t; idx_bounds; omega⟩ (y 1)) := by
  blk_ext [idx t]

theorem emb14_at (f : FVec Ideal S8192x512 .f32) (t : Fin cfg0.N) (y : S256x512.Idx) :
    f ((win0_14.blk t).view.emb y) = f (ix2 ⟨t.val * 256 + (y 0).val, by have := lt32 t; idx_bounds; omega⟩ (y 1)) := by
  blk_ext [idx t]

open Cert.Reference25Ideal.Read

/-- The row that row `p` of point `t`'s block is. -/
abbrev ri (t : Fin cfg0.N) (p : Fin 256) : Fin 8192 := ⟨t.val * 256 + p.val, by have := lt32 t; omega⟩

theorem eta2 {a b : ℕ} (y : (⟨2, ![a, b]⟩ : Shape).Idx) : y = ix2 (y 0) (y 1) := by
  funext q
  match q with
  | ⟨0, _⟩ => rfl
  | ⟨1, _⟩ => rfl

section rows
variable (d : Dev nD) (t : Fin cfg0.N) (p : Fin 256)

theorem gr_at : gr (iblk m d 4 t) (iblk m d 5 t) p = gR (ct m d) (g m d) (ri t p) := by
  funext k
  exact congrArg₂ (fun a b : EReal => a * b) (blk5_at m d t (ix2 p k)) (blk4_at m d t (ix2 p k))

theorem zr_at : zr (iblk m d 0 t) p = zR (y2 m d) (ri t p) := by
  funext k
  exact congrArg₂ (fun a b : EReal => a + b) (blk0_at m d t (ix2 p ⟨k.val, by omega⟩)) (blk0_at m d t (ix2 p ⟨512 + k.val, by omega⟩))

theorem row1_at : (fun k : Fin 512 => (iblk m d 1 t : FVec Ideal S256x512 .f32) (ix2 p k)) = fun k => r m d (ix2 (ri t p) k) :=
  funext fun k => blk1_at m d t (ix2 p k)

/-- Row `p` of a block. -/
def rowOf (f : FVec Ideal S256x512 .f32) (p : Fin 256) (k : Fin 512) : EReal := f (ix2 p k)

theorem rowOf_at (k : Fin 512) : rowOf (iblk m d 1 t) p k = r m d (ix2 (ri t p) k) := blk1_at m d t (ix2 p k)

theorem row2_at : (fun k : Fin 512 => (iblk m d 2 t : FVec Ideal S256x512 .f32) (ix2 p k)) = fun k => v m d (ix2 (ri t p) k) :=
  funext fun k => blk2_at m d t (ix2 p k)

theorem row3_at : (fun k : Fin 1024 => (iblk m d 3 t : FVec Ideal S256x1024 .f32) (ix2 p k)) = fun k => kd m d (ix2 (ri t p) k) :=
  funext fun k => blk3_at m d t (ix2 p k)

theorem row5_at : (fun k : Fin 512 => (iblk m d 5 t : FVec Ideal S256x512 .f32) (ix2 p k)) = half1 (ct m d) (ri t p) :=
  funext fun k => blk5_at m d t (ix2 p k)

theorem row6_at : (fun k : Fin 512 => (iblk m d 6 t : FVec Ideal S1x512 .f32) (ix2 0 k)) = fun k => lg m d (ix1 k) :=
  funext fun k => blk6_at m d t (ix2 0 k)

theorem row7_at : (fun k : Fin 512 => (iblk m d 7 t : FVec Ideal S1x512 .f32) (ix2 0 k)) = fun k => lb m d (ix1 k) :=
  funext fun k => blk7_at m d t (ix2 0 k)

theorem row8_at : (fun k : Fin 512 => (iblk m d 8 t : FVec Ideal S1x512 .f32) (ix2 0 k)) = flat (rk m d) :=
  funext fun k => blk8_at m d t (ix2 0 k)

end rows

/-- The arrays that enter the sums are real numbers. -/
structure Fin8 (d : Dev nD) : Prop where
  hz : ∀ i, IsReal (y2 m d i)
  hr : ∀ i, IsReal (r m d i)
  hv : ∀ i, IsReal (v m d i)
  hk : ∀ i, IsReal (kd m d i)
  hg : ∀ i, IsReal (g m d i)
  hc : ∀ i k, IsReal (half1 (ct m d) i k)
  hl : ∀ i, IsReal (lg m d i)
  hw : ∀ i, IsReal (rk m d i)

variable {m}

theorem Fin8.zr {d : Dev nD} (h : Fin8 m d) (i : Fin 8192) (k : Fin 512) : IsReal (zR (y2 m d) i k) := real_add (h.hz _) (h.hz _)
theorem Fin8.gr {d : Dev nD} (h : Fin8 m d) (i : Fin 8192) (k : Fin 512) : IsReal (gR (ct m d) (g m d) i k) := (h.hc _ _).mul (h.hg _)

variable (m)

theorem row10 (d : Dev nD) (h : Fin8 m d) (i : Fin 8192) (k : Fin 1024) :
    wide (kgrad (kctr (zR (y2 m d) i)) (aR (ct m d) (g m d) (lg m d) i) (fun k => Ideal.rsqrt (kvar (zR (y2 m d) i) k))
      (fun k => mhalf * Ideal.div (Ideal.rsqrt (kvar (zR (y2 m d) i) k)) (kvar (zR (y2 m d) i) k))) k
      = wide (fun k => rgrad (rctr (zR (y2 m d) i)) (aR (ct m d) (g m d) (lg m d) i) (rs (zR (y2 m d) i)) (dv (zR (y2 m d) i)) (head k) k) k :=
  congrFun (congrArg wide (kgrad_eq (zR (y2 m d) i) (aR (ct m d) (g m d) (lg m d) i) (h.zr i) fun _ => (h.gr i _).mul (h.hl _))) k

theorem st10 (d : Dev nD) (h : Fin8 m d) (t : Fin cfg0.N) (p : Fin 256) (k : Fin 1024) :
    (k0_pay31 (F := Ideal) (k0_pay7 (iblk m d 6 t)) (k0_pay10 (iblk m d 9 t)) (k0_pay11 (iblk m d 0 t) (iblk m d 9 t)) (k0_pay14 (k0_pay12 (iblk m d 0 t) (iblk m d 9 t))) (k0_pay15 (k0_pay12 (iblk m d 0 t) (iblk m d 9 t))) (k0_pay21 (iblk m d 4 t) (iblk m d 5 t)) : FVec Ideal S256x1024 .f32) (ix2 p k)
      = wide (fun k => rgrad (rctr (zR (y2 m d) (ri t p))) (aR (ct m d) (g m d) (lg m d) (ri t p)) (rs (zR (y2 m d) (ri t p))) (dv (zR (y2 m d) (ri t p))) (head k) k) k := by
  refine (pay31_at _ _ _ _ _ (blk9_at m d t) (ix2 p k)).trans (Eq.trans (b := wide (kgrad (kctr (zr (iblk m d 0 t) p)) (fun k => (gr (iblk m d 4 t) (iblk m d 5 t) p) k * (fun k : Fin 512 => (iblk m d 6 t : FVec Ideal S1x512 .f32) (ix2 0 k)) k) (fun k => Ideal.rsqrt (kvar (zr (iblk m d 0 t) p) k)) (fun k => mhalf * Ideal.div (Ideal.rsqrt (kvar (zr (iblk m d 0 t) p) k)) (kvar (zr (iblk m d 0 t) p) k))) k) rfl ?_)
  rw [zr_at, gr_at, row6_at]
  exact row10 m d h (ri t p) k

/-- The gradient of the two directions of the recurrence. -/
theorem final10 (d : Dev nD) (h : Fin8 m d) : (dats m 0 d).arrAt 10 cfg0.N
    = val_main_v115 (F := Ideal) (y2 m d) (g m d) (ct m d) (lg m d) := by
  refine (dats m 0 d).arrAt_eq_of_covers 10 _ (by decide +kernel) fun t hf y => ?_
  blk_simp
  rw [after0_10]
  have e : (outsAt0 m d t.val t.isLt).1
      = k0_pay31 (F := Ideal) (k0_pay7 (iblk m d 6 t)) (k0_pay10 (iblk m d 9 t)) (k0_pay11 (iblk m d 0 t) (iblk m d 9 t)) (k0_pay14 (k0_pay12 (iblk m d 0 t) (iblk m d 9 t))) (k0_pay15 (k0_pay12 (iblk m d 0 t) (iblk m d 9 t))) (k0_pay21 (iblk m d 4 t) (iblk m d 5 t)) := by
    by_cases h0 : t.val % 32 = 0
    · rw [outsAt0_A m d t h0]; frame_out
    · rw [outsAt0_B m d t h0]; frame_out
  rw [e]
  refine (congrArg _ (eta2 y)).trans ((st10 m d h t (y 0) (y 1)).trans ?_)
  exact ((ref115_at _ _ _ _ _).trans (emb10_at (fun i => wide (fun k => rgrad (rctr (zR (y2 m d) (i 0))) (aR (ct m d) (g m d) (lg m d) (i 0)) (rs (zR (y2 m d) (i 0))) (dv (zR (y2 m d) (i 0))) (head k) k) (i 1)) t y)).symm

theorem row11 (d : Dev nD) (h : Fin8 m d) (i : Fin 8192) (k : Fin 512) :
    kbd (gR (ct m d) (g m d) i) (fun k => v m d (ix2 i k)) k * flat (rk m d) k * ((lo fun k => kd m d (ix2 i k)) k + (hi fun k => kd m d (ix2 i k)) k)
      = rr (gR (ct m d) (g m d) i) (fun k => v m d (ix2 i k)) (lo fun k => kd m d (ix2 i k)) (hi fun k => kd m d (ix2 i k)) (flat (rk m d)) k :=
  kr_eq (gR (ct m d) (g m d) i) (fun k => v m d (ix2 i k)) (lo fun k => kd m d (ix2 i k)) (hi fun k => kd m d (ix2 i k)) (flat (rk m d)) (h.gr i) (fun _ => h.hv _) (fun _ => h.hk _) (fun _ => h.hk _) (fun _ => h.hw _) k

theorem st11 (d : Dev nD) (h : Fin8 m d) (t : Fin cfg0.N) (p : Fin 256) (k : Fin 512) :
    (k0_pay26 (F := Ideal) (iblk m d 2 t) (iblk m d 3 t) (iblk m d 4 t) (iblk m d 5 t) (k0_pay9 (iblk m d 8 t)) (k0_pay10 (iblk m d 9 t)) : FVec Ideal S256x512 .f32) (ix2 p k)
      = rr (gR (ct m d) (g m d) (ri t p)) (fun k => v m d (ix2 (ri t p) k)) (lo fun k => kd m d (ix2 (ri t p) k)) (hi fun k => kd m d (ix2 (ri t p) k)) (flat (rk m d)) k := by
  refine (pay26_at _ _ _ _ _ _ (blk9_at m d t) (ix2 p k)).trans (Eq.trans (b := kbd (gr (iblk m d 4 t) (iblk m d 5 t) p) (fun k : Fin 512 => (iblk m d 2 t : FVec Ideal S256x512 .f32) (ix2 p k)) k * (fun k : Fin 512 => (iblk m d 8 t : FVec Ideal S1x512 .f32) (ix2 0 k)) k * ((lo (fun k : Fin 1024 => (iblk m d 3 t : FVec Ideal S256x1024 .f32) (ix2 p k))) k + (hi (fun k : Fin 1024 => (iblk m d 3 t : FVec Ideal S256x1024 .f32) (ix2 p k))) k)) rfl ?_)
  rw [gr_at, row2_at, row3_at, row8_at]
  exact row11 m d h (ri t p) k

/-- The gradient of the receptance. -/
theorem final11 (d : Dev nD) (h : Fin8 m d) : (dats m 0 d).arrAt 11 cfg0.N
    = val_main_v125 (F := Ideal) (v m d) (kd m d) (g m d) (ct m d) (rk m d) := by
  refine (dats m 0 d).arrAt_eq_of_covers 11 _ (by decide +kernel) fun t hf y => ?_
  blk_simp
  rw [after0_11]
  have e : (outsAt0 m d t.val t.isLt).2.1
      = k0_pay26 (F := Ideal) (iblk m d 2 t) (iblk m d 3 t) (iblk m d 4 t) (iblk m d 5 t) (k0_pay9 (iblk m d 8 t)) (k0_pay10 (iblk m d 9 t)) := by
    by_cases h0 : t.val % 32 = 0
    · rw [outsAt0_A m d t h0]; frame_out
    · rw [outsAt0_B m d t h0]; frame_out
  rw [e]
  refine (congrArg _ (eta2 y)).trans ((st11 m d h t (y 0) (y 1)).trans ?_)
  exact ((ref125_at _ _ _ _ _ _).trans (emb11_at (fun i => rr (gR (ct m d) (g m d) (i 0)) (fun k => v m d (ix2 (i 0) k)) (lo fun k => kd m d (ix2 (i 0) k)) (hi fun k => kd m d (ix2 (i 0) k)) (flat (rk m d)) (i 1)) t y)).symm

theorem row12 (d : Dev nD) (h : Fin8 m d) (i : Fin 8192) (k : Fin 512) :
    kbon (fun k => r m d (ix2 i k)) (lo fun k => kd m d (ix2 i k)) (hi fun k => kd m d (ix2 i k)) (flat (rk m d)) k * gR (ct m d) (g m d) i k
      = rbon (fun k => r m d (ix2 i k)) (lo fun k => kd m d (ix2 i k)) (hi fun k => kd m d (ix2 i k)) (flat (rk m d)) (head k) * gR (ct m d) (g m d) i k :=
  congrArg (· * gR (ct m d) (g m d) i k) (bon_eq (fun k => r m d (ix2 i k)) (lo fun k => kd m d (ix2 i k)) (hi fun k => kd m d (ix2 i k)) (flat (rk m d)) (fun _ => h.hr _) (fun _ => h.hk _) (fun _ => h.hk _) (fun _ => h.hw _) k)

theorem st12 (d : Dev nD) (h : Fin8 m d) (t : Fin cfg0.N) (p : Fin 256) (k : Fin 512) :
    (k0_pay22 (F := Ideal) (iblk m d 1 t) (iblk m d 3 t) (iblk m d 4 t) (iblk m d 5 t) (k0_pay9 (iblk m d 8 t)) (k0_pay10 (iblk m d 9 t)) : FVec Ideal S256x512 .f32) (ix2 p k)
      = rbon (fun k => r m d (ix2 (ri t p) k)) (lo fun k => kd m d (ix2 (ri t p) k)) (hi fun k => kd m d (ix2 (ri t p) k)) (flat (rk m d)) (head k) * gR (ct m d) (g m d) (ri t p) k := by
  refine (pay22_at _ _ _ _ _ _ (blk9_at m d t) (ix2 p k)).trans (Eq.trans (b := kbon (fun k : Fin 512 => (iblk m d 1 t : FVec Ideal S256x512 .f32) (ix2 p k)) (lo (fun k : Fin 1024 => (iblk m d 3 t : FVec Ideal S256x1024 .f32) (ix2 p k))) (hi (fun k : Fin 1024 => (iblk m d 3 t : FVec Ideal S256x1024 .f32) (ix2 p k))) (fun k : Fin 512 => (iblk m d 8 t : FVec Ideal S1x512 .f32) (ix2 0 k)) k * (gr (iblk m d 4 t) (iblk m d 5 t) p) k) rfl ?_)
  rw [gr_at, row1_at, row3_at, row8_at]
  exact row12 m d h (ri t p) k

/-- The gradient of the values. -/
theorem final12 (d : Dev nD) (h : Fin8 m d) : (dats m 0 d).arrAt 12 cfg0.N
    = val_main_v124 (F := Ideal) (r m d) (kd m d) (g m d) (ct m d) (rk m d) := by
  refine (dats m 0 d).arrAt_eq_of_covers 12 _ (by decide +kernel) fun t hf y => ?_
  blk_simp
  rw [after0_12]
  have e : (outsAt0 m d t.val t.isLt).2.2.1
      = k0_pay22 (F := Ideal) (iblk m d 1 t) (iblk m d 3 t) (iblk m d 4 t) (iblk m d 5 t) (k0_pay9 (iblk m d 8 t)) (k0_pay10 (iblk m d 9 t)) := by
    by_cases h0 : t.val % 32 = 0
    · rw [outsAt0_A m d t h0]; frame_out
    · rw [outsAt0_B m d t h0]; frame_out
  rw [e]
  refine (congrArg _ (eta2 y)).trans ((st12 m d h t (y 0) (y 1)).trans ?_)
  exact ((ref124_at _ _ _ _ _ _).trans (emb12_at (fun i => rbon (fun k => r m d (ix2 (i 0) k)) (lo fun k => kd m d (ix2 (i 0) k)) (hi fun k => kd m d (ix2 (i 0) k)) (flat (rk m d)) (head (i 1)) * gR (ct m d) (g m d) (i 0) (i 1)) t y)).symm

theorem row13 (d : Dev nD) (h : Fin8 m d) (i : Fin 8192) (k : Fin 1024) :
    wide (fun k => r m d (ix2 i k) * (kbd (gR (ct m d) (g m d) i) (fun k => v m d (ix2 i k)) k * flat (rk m d) k)) k
      = wide (kr (ct m d) (r m d) (v m d) (g m d) (rk m d) i) k :=
  congrFun (congrArg wide (funext fun k => congrArg (fun a : EReal => r m d (ix2 i k) * (a * flat (rk m d) k)) (bd_eq (gR (ct m d) (g m d) i) (fun k => v m d (ix2 i k)) (h.gr i) (fun _ => h.hv _) k))) k

theorem st13 (d : Dev nD) (h : Fin8 m d) (t : Fin cfg0.N) (p : Fin 256) (k : Fin 1024) :
    (k0_pay27 (F := Ideal) (iblk m d 1 t) (iblk m d 2 t) (iblk m d 4 t) (iblk m d 5 t) (k0_pay9 (iblk m d 8 t)) (k0_pay10 (iblk m d 9 t)) : FVec Ideal S256x1024 .f32) (ix2 p k)
      = wide (kr (ct m d) (r m d) (v m d) (g m d) (rk m d) (ri t p)) k := by
  refine (pay27_at _ _ _ _ _ _ (blk9_at m d t) (ix2 p k)).trans (Eq.trans (b := wide (fun k => rowOf (iblk m d 1 t) p k * (kbd (gr (iblk m d 4 t) (iblk m d 5 t) p) (fun k : Fin 512 => (iblk m d 2 t : FVec Ideal S256x512 .f32) (ix2 p k)) k * (fun k : Fin 512 => (iblk m d 8 t : FVec Ideal S1x512 .f32) (ix2 0 k)) k)) k) rfl ?_)
  have e : ∀ k : Fin 512, (iblk m d 8 t : FVec Ideal S1x512 .f32) (ix2 0 k) = flat (rk m d) k := fun k => blk8_at m d t (ix2 0 k)
  simp only [rowOf_at, e]
  rw [gr_at, row2_at]
  exact row13 m d h (ri t p) k

/-- The gradient of the keys. -/
theorem final13 (d : Dev nD) (h : Fin8 m d) : (dats m 0 d).arrAt 13 cfg0.N
    = val_main_v123 (F := Ideal) (r m d) (v m d) (g m d) (ct m d) (rk m d) := by
  refine (dats m 0 d).arrAt_eq_of_covers 13 _ (by decide +kernel) fun t hf y => ?_
  blk_simp
  rw [after0_13]
  have e : (outsAt0 m d t.val t.isLt).2.2.2.1
      = k0_pay27 (F := Ideal) (iblk m d 1 t) (iblk m d 2 t) (iblk m d 4 t) (iblk m d 5 t) (k0_pay9 (iblk m d 8 t)) (k0_pay10 (iblk m d 9 t)) := by
    by_cases h0 : t.val % 32 = 0
    · rw [outsAt0_A m d t h0]; frame_out
    · rw [outsAt0_B m d t h0]; frame_out
  rw [e]
  refine (congrArg _ (eta2 y)).trans ((st13 m d h t (y 0) (y 1)).trans ?_)
  exact ((ref123_at _ _ _ _ _ _).trans (emb13_at (fun i => wide (kr (ct m d) (r m d) (v m d) (g m d) (rk m d) (i 0)) (i 1)) t y)).symm

theorem row14 (d : Dev nD) (h : Fin8 m d) (i : Fin 8192) (k : Fin 512) :
    kout (zR (y2 m d) i) (fun k => r m d (ix2 i k)) (lo fun k => kd m d (ix2 i k)) (hi fun k => kd m d (ix2 i k)) (flat (rk m d)) (fun k => v m d (ix2 i k)) (half1 (ct m d) i) (fun k => lg m d (ix1 k)) (fun k => lb m d (ix1 k)) k
      = rout (zR (y2 m d) i) (fun k => r m d (ix2 i k)) (lo fun k => kd m d (ix2 i k)) (hi fun k => kd m d (ix2 i k)) (flat (rk m d)) (fun k => v m d (ix2 i k)) (half1 (ct m d) i) (fun k => lg m d (ix1 k)) (fun k => lb m d (ix1 k)) k :=
  out_eq (zR (y2 m d) i) (fun k => r m d (ix2 i k)) (lo fun k => kd m d (ix2 i k)) (hi fun k => kd m d (ix2 i k)) (flat (rk m d)) (fun k => v m d (ix2 i k)) (half1 (ct m d) i) (fun k => lg m d (ix1 k)) (fun k => lb m d (ix1 k)) (h.zr i) (fun _ => h.hr _) (fun _ => h.hk _)
    (fun _ => h.hk _) (fun _ => h.hw _) k

theorem st14 (d : Dev nD) (h : Fin8 m d) (t : Fin cfg0.N) (p : Fin 256) (k : Fin 512) :
    (k0_pay20 (F := Ideal) (iblk m d 1 t) (iblk m d 2 t) (iblk m d 3 t) (iblk m d 5 t) (k0_pay7 (iblk m d 6 t)) (k0_pay8 (iblk m d 7 t)) (k0_pay9 (iblk m d 8 t)) (k0_pay10 (iblk m d 9 t)) (k0_pay11 (iblk m d 0 t) (iblk m d 9 t)) (k0_pay12 (iblk m d 0 t) (iblk m d 9 t)) : FVec Ideal S256x512 .f32) (ix2 p k)
      = rout (zR (y2 m d) (ri t p)) (fun k => r m d (ix2 (ri t p) k)) (lo fun k => kd m d (ix2 (ri t p) k)) (hi fun k => kd m d (ix2 (ri t p) k)) (flat (rk m d)) (fun k => v m d (ix2 (ri t p) k)) (half1 (ct m d) (ri t p)) (fun k => lg m d (ix1 k)) (fun k => lb m d (ix1 k)) k := by
  refine (pay20_at _ _ _ _ _ _ _ _ _ (blk9_at m d t) (ix2 p k)).trans (Eq.trans (b := kout (zr (iblk m d 0 t) p) (fun k : Fin 512 => (iblk m d 1 t : FVec Ideal S256x512 .f32) (ix2 p k)) (lo (fun k : Fin 1024 => (iblk m d 3 t : FVec Ideal S256x1024 .f32) (ix2 p k))) (hi (fun k : Fin 1024 => (iblk m d 3 t : FVec Ideal S256x1024 .f32) (ix2 p k))) (fun k : Fin 512 => (iblk m d 8 t : FVec Ideal S1x512 .f32) (ix2 0 k)) (fun k : Fin 512 => (iblk m d 2 t : FVec Ideal S256x512 .f32) (ix2 p k)) (fun k : Fin 512 => (iblk m d 5 t : FVec Ideal S256x512 .f32) (ix2 p k)) (fun k : Fin 512 => (iblk m d 6 t : FVec Ideal S1x512 .f32) (ix2 0 k)) (fun k : Fin 512 => (iblk m d 7 t : FVec Ideal S1x512 .f32) (ix2 0 k)) k) rfl ?_)
  rw [zr_at, row1_at, row2_at, row3_at, row5_at, row6_at, row7_at, row8_at]
  exact row14 m d h (ri t p) k

/-- The gradient of the gate. -/
theorem final14 (d : Dev nD) (h : Fin8 m d) : (dats m 0 d).arrAt 14 cfg0.N
    = val_main_v56 (F := Ideal) (y2 m d) (r m d) (v m d) (kd m d) (ct m d) (lg m d) (lb m d) (rk m d) := by
  refine (dats m 0 d).arrAt_eq_of_covers 14 _ (by decide +kernel) fun t hf y => ?_
  blk_simp
  rw [after0_14]
  have e : (outsAt0 m d t.val t.isLt).2.2.2.2.1
      = k0_pay20 (F := Ideal) (iblk m d 1 t) (iblk m d 2 t) (iblk m d 3 t) (iblk m d 5 t) (k0_pay7 (iblk m d 6 t)) (k0_pay8 (iblk m d 7 t)) (k0_pay9 (iblk m d 8 t)) (k0_pay10 (iblk m d 9 t)) (k0_pay11 (iblk m d 0 t) (iblk m d 9 t)) (k0_pay12 (iblk m d 0 t) (iblk m d 9 t)) := by
    by_cases h0 : t.val % 32 = 0
    · rw [outsAt0_A m d t h0]; frame_out
    · rw [outsAt0_B m d t h0]; frame_out
  rw [e]
  refine (congrArg _ (eta2 y)).trans ((st14 m d h t (y 0) (y 1)).trans ?_)
  exact ((ref56_at _ _ _ _ _ _ _ _ _).trans (emb14_at (fun i => rout (zR (y2 m d) (i 0)) (fun k => r m d (ix2 (i 0) k)) (lo fun k => kd m d (ix2 (i 0) k)) (hi fun k => kd m d (ix2 (i 0) k)) (flat (rk m d)) (fun k => v m d (ix2 (i 0) k)) (half1 (ct m d) (i 0)) (fun k => lg m d (ix1 k)) (fun k => lb m d (ix1 k)) (i 1)) t y)).symm

/-- A row's part of it. -/
def part15 (d : Dev nD) (k : Fin 512) (i : Fin 8192) : EReal :=
  kctr (zR (y2 m d) i) k * Ideal.rsqrt (kvar (zR (y2 m d) i) k) * gR (ct m d) (g m d) i k

theorem st15 (d : Dev nD) (t : Fin cfg0.N) (p : Fin 256) (k : Fin 512) :
    kctr (zr (iblk m d 0 t) p) k * Ideal.rsqrt (kvar (zr (iblk m d 0 t) p) k) * (gr (iblk m d 4 t) (iblk m d 5 t) p) k
      = part15 m d k (ri t p) := by
  unfold part15
  rw [zr_at, gr_at]

theorem acc15_at (d : Dev nD) (t : Fin cfg0.N) (h : t.val % 32 = 31) (y : S1x512.Idx) :
    ((outsAt0 m d t.val t.isLt).2.2.2.2.2.1 : FVec Ideal S1x512 .f32) y = ∑ i : Fin 8192, part15 m d (y 1) i := by
  rw [Pipeline.eq_sum_fin_of_reset_step_apply_of_flush (fun n h => ((outsAt0 m d n h).2.2.2.2.2.1 : FVec Ideal S1x512 .f32)) 32 (fun _ => 0)
    (fun t y => ∑ p : Fin 256, part15 m d (y 1) (ri t p))
    (fun t h y => by
      rw [outsAt0_A m d t h]; frame_out
      refine (pay4_at _ _ _).trans ?_
      rw [pay1_at, pay30_at _ _ _ _ (blk9_at m d t)]
      exact congrArg₂ (fun a b : EReal => a + b) rfl (Finset.sum_congr rfl fun p _ => st15 m d t p (y 1)))
    (fun t h y => by
      rw [outsAt0_B m d t h]; frame_out
      refine (pay4_at _ _ _).trans ?_
      rw [pay30_at _ _ _ _ (blk9_at m d t)]
      exact congrArg₂ (fun a b : EReal => a + b) rfl (Finset.sum_congr rfl fun p _ => st15 m d t p (y 1)))
    t h y, zero_add]
  refine Fin.sum_mul_add_congr fun s k hl => ?_
  have ht := lt32 t
  refine congrArg (part15 m d (y 1)) (Fin.ext ?_)
  show (32 * (t.val / 32) + s.val) * 256 + k.val = s.val * 256 + k.val
  omega

/-- A row's part of it. -/
def part16 (d : Dev nD) (k : Fin 512) (i : Fin 8192) : EReal :=
  gR (ct m d) (g m d) i k

theorem st16 (d : Dev nD) (t : Fin cfg0.N) (p : Fin 256) (k : Fin 512) :
    (gr (iblk m d 4 t) (iblk m d 5 t) p) k
      = part16 m d k (ri t p) := by
  unfold part16
  rw [gr_at]

theorem acc16_at (d : Dev nD) (t : Fin cfg0.N) (h : t.val % 32 = 31) (y : S1x512.Idx) :
    ((outsAt0 m d t.val t.isLt).2.2.2.2.2.2.1 : FVec Ideal S1x512 .f32) y = ∑ i : Fin 8192, part16 m d (y 1) i := by
  rw [Pipeline.eq_sum_fin_of_reset_step_apply_of_flush (fun n h => ((outsAt0 m d n h).2.2.2.2.2.2.1 : FVec Ideal S1x512 .f32)) 32 (fun _ => 0)
    (fun t y => ∑ p : Fin 256, part16 m d (y 1) (ri t p))
    (fun t h y => by
      rw [outsAt0_A m d t h]; frame_out
      refine (pay5_at _ _ _).trans ?_
      rw [pay2_at, pay28_at]
      exact congrArg₂ (fun a b : EReal => a + b) rfl (Finset.sum_congr rfl fun p _ => st16 m d t p (y 1)))
    (fun t h y => by
      rw [outsAt0_B m d t h]; frame_out
      refine (pay5_at _ _ _).trans ?_
      rw [pay28_at]
      exact congrArg₂ (fun a b : EReal => a + b) rfl (Finset.sum_congr rfl fun p _ => st16 m d t p (y 1)))
    t h y, zero_add]
  refine Fin.sum_mul_add_congr fun s k hl => ?_
  have ht := lt32 t
  refine congrArg (part16 m d (y 1)) (Fin.ext ?_)
  show (32 * (t.val / 32) + s.val) * 256 + k.val = s.val * 256 + k.val
  omega

/-- A row's part of it. -/
def part17 (d : Dev nD) (k : Fin 512) (i : Fin 8192) : EReal :=
  r m d (ix2 i k) * (lo (fun k => kd m d (ix2 i k)) k + hi (fun k => kd m d (ix2 i k)) k) * kbd (gR (ct m d) (g m d) i) (fun k => v m d (ix2 i k)) k

theorem st17 (d : Dev nD) (t : Fin cfg0.N) (p : Fin 256) (k : Fin 512) :
    rowOf (iblk m d 1 t) p k * ((lo (fun k : Fin 1024 => (iblk m d 3 t : FVec Ideal S256x1024 .f32) (ix2 p k))) k + (hi (fun k : Fin 1024 => (iblk m d 3 t : FVec Ideal S256x1024 .f32) (ix2 p k))) k) * kbd (gr (iblk m d 4 t) (iblk m d 5 t) p) (fun k : Fin 512 => (iblk m d 2 t : FVec Ideal S256x512 .f32) (ix2 p k)) k
      = part17 m d k (ri t p) := by
  unfold part17
  rw [rowOf_at, gr_at, row2_at, row3_at]

theorem acc17_at (d : Dev nD) (t : Fin cfg0.N) (h : t.val % 32 = 31) (y : S1x512.Idx) :
    ((outsAt0 m d t.val t.isLt).2.2.2.2.2.2.2 : FVec Ideal S1x512 .f32) y = ∑ i : Fin 8192, part17 m d (y 1) i := by
  rw [Pipeline.eq_sum_fin_of_reset_step_apply_of_flush (fun n h => ((outsAt0 m d n h).2.2.2.2.2.2.2 : FVec Ideal S1x512 .f32)) 32 (fun _ => 0)
    (fun t y => ∑ p : Fin 256, part17 m d (y 1) (ri t p))
    (fun t h y => by
      rw [outsAt0_A m d t h]; frame_out
      refine (pay6_at _ _ _).trans ?_
      rw [pay3_at, pay24_at _ _ _ _ _ _ (blk9_at m d t)]
      exact congrArg₂ (fun a b : EReal => a + b) rfl (Finset.sum_congr rfl fun p _ => st17 m d t p (y 1)))
    (fun t h y => by
      rw [outsAt0_B m d t h]; frame_out
      refine (pay6_at _ _ _).trans ?_
      rw [pay24_at _ _ _ _ _ _ (blk9_at m d t)]
      exact congrArg₂ (fun a b : EReal => a + b) rfl (Finset.sum_congr rfl fun p _ => st17 m d t p (y 1)))
    t h y, zero_add]
  refine Fin.sum_mul_add_congr fun s k hl => ?_
  have ht := lt32 t
  refine congrArg (part17 m d (y 1)) (Fin.ext ?_)
  show (32 * (t.val / 32) + s.val) * 256 + k.val = s.val * 256 + k.val
  omega

/-- The gradient of the gain. -/
theorem final15 (d : Dev nD) (h : Fin8 m d) : (dats m 0 d).arrAt 15 cfg0.N
    = val_main_v126 (F := Ideal) (y2 m d) (g m d) (ct m d) := by
  have e : ∀ k : Fin 512, ∑ i : Fin 8192, part15 m d k i
      = ∑ i : Fin 8192, rctr (zR (y2 m d) i) k * rs (zR (y2 m d) i) (head k) * gR (ct m d) (g m d) i k := fun k =>
    Finset.sum_congr rfl fun i _ => by
      unfold part15 rs
      rw [ctr_eq _ (h.zr i), var_eq _ (h.zr i)]
  refine (dats m 0 d).arrAt_eq_of_covers 15 _ (by decide +kernel) fun t hf y => ?_
  blk_simp
  rw [after0_15]
  refine (acc15_at m d t ((flush0_15 t).mp hf) y).trans (Eq.trans ?_ (ref126_at _ _ _ _).symm)
  refine (e _).trans ?_
  have key : ∀ X : FVec Ideal S1x512 .f32, X y = X ((win0_15.blk t).view.emb y) := fun X => by blk_ext [idx t]
  exact key fun y => ∑ i : Fin 8192, rctr (zR (y2 m d) i) (y 1) * rs (zR (y2 m d) i) (head (y 1)) * gR (ct m d) (g m d) i (y 1)

/-- The gradient of the shift. -/
theorem final16 (d : Dev nD) : (dats m 0 d).arrAt 16 cfg0.N
    = val_main_v127 (F := Ideal) (g m d) (ct m d) := by
  have e : ∀ k : Fin 512, ∑ i : Fin 8192, part16 m d k i = ∑ i : Fin 8192, gR (ct m d) (g m d) i k := fun k => rfl
  refine (dats m 0 d).arrAt_eq_of_covers 16 _ (by decide +kernel) fun t hf y => ?_
  blk_simp
  rw [after0_16]
  refine (acc16_at m d t ((flush0_16 t).mp hf) y).trans (Eq.trans ?_ (ref127_at _ _ _).symm)
  refine (e _).trans ?_
  have key : ∀ X : FVec Ideal S1x512 .f32, X y = X ((win0_16.blk t).view.emb y) := fun X => by blk_ext [idx t]
  exact key fun y => ∑ i : Fin 8192, gR (ct m d) (g m d) i (y 1)

/-- The gradient of the bonus weights. -/
theorem final17 (d : Dev nD) (h : Fin8 m d) : (dats m 0 d).arrAt 17 cfg0.N
    = val_main_v128 (F := Ideal) (r m d) (v m d) (kd m d) (g m d) (ct m d) := by
  have e : ∀ k : Fin 512, ∑ i : Fin 8192, part17 m d k i
      = ∑ i : Fin 8192, wr (kd m d) (ct m d) (r m d) (v m d) (g m d) i k + ∑ i : Fin 8192, wr' (kd m d) (ct m d) (r m d) (v m d) (g m d) i k := fun k => by
    rw [← Finset.sum_add_distrib]
    exact Finset.sum_congr rfl fun i _ =>
      kw_eq (gR (ct m d) (g m d) i) (fun k => v m d (ix2 i k)) (fun k => r m d (ix2 i k)) (lo fun k => kd m d (ix2 i k)) (hi fun k => kd m d (ix2 i k))
        (h.gr i) (fun _ => h.hv _) (fun _ => h.hr _) (fun _ => h.hk _) (fun _ => h.hk _) k
  refine (dats m 0 d).arrAt_eq_of_covers 17 _ (by decide +kernel) fun t hf y => ?_
  blk_simp
  rw [after0_17]
  refine (acc17_at m d t ((flush0_17 t).mp hf) y).trans (Eq.trans ?_ (ref128_at _ _ _ _ _ _).symm)
  refine (e _).trans ?_
  have key : ∀ X : FVec Ideal S1x512 .f32, X y = X ((win0_17.blk t).view.emb y) := fun X => by blk_ext [idx t]
  exact key fun y => ∑ i : Fin 8192, wr (kd m d) (ct m d) (r m d) (v m d) (g m d) i (y 1) + ∑ i : Fin 8192, wr' (kd m d) (ct m d) (r m d) (v m d) (g m d) i (y 1)

end Cert.HeadNormBwd
-- ==== Proof.lean ====
module

public import proofs.«01_k».proof.Defs
public import proofs.«01_k».proof.Proof.Gen.Kernel.Frame
public import proofs.«01_k».proof.Proof.Gen.KernelIdeal.Value
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Kernel4.Frame
public import proofs.«01_k».proof.Proof.Gen.Kernel4Ideal.Value
public import proofs.«01_k».proof.Proof.Gen.Kernel5.Frame
public import proofs.«01_k».proof.Proof.Gen.Kernel5Ideal.Value
public import proofs.«01_k».proof.Proof.Gen.Kernel6.Frame
public import proofs.«01_k».proof.Proof.Gen.Kernel6Ideal.Value
public import proofs.«01_k».proof.Proof.Gen.Kernel7.Frame
public import proofs.«01_k».proof.Proof.Gen.Kernel7Ideal.Value
public import proofs.«01_k».proof.Proof.Gen.Kernel8.Frame
public import proofs.«01_k».proof.Proof.Gen.Kernel8Ideal.Value
public import proofs.«01_k».proof.Proof.Gen.Kernel9.Frame
public import proofs.«01_k».proof.Proof.Gen.Kernel9Ideal.Value
public import proofs.«01_k».proof.Proof.Gen.Kernel10.Frame
public import proofs.«01_k».proof.Proof.Gen.Kernel10Ideal.Value
public import proofs.«01_k».proof.Proof.Gen.Kernel12.Frame
public import proofs.«01_k».proof.Proof.Gen.Kernel12Ideal.Value
public import proofs.«01_k».proof.Proof.Gen.Kernel11.Frame
public import proofs.«01_k».proof.Proof.Gen.Kernel11Ideal.Value
public import proofs.«01_k».proof.Proof.Gen.Kernel13.Frame
public import proofs.«01_k».proof.Proof.Gen.Kernel13Ideal.Value
public import proofs.«01_k».proof.Proof.Gen.Kernel14.Frame
public import proofs.«01_k».proof.Proof.Gen.Kernel14Ideal.Value
public import proofs.«01_k».proof.Proof.Gen.Kernel15.Frame
public import proofs.«01_k».proof.Proof.Gen.Kernel15Ideal.Value
public import proofs.«01_k».proof.Proof.Gen.Kernel18.Frame
public import proofs.«01_k».proof.Proof.Gen.Kernel18Ideal.Value
public import proofs.«01_k».proof.Proof.Gen.Kernel19.Frame
public import proofs.«01_k».proof.Proof.Gen.Kernel19Ideal.Value
public import proofs.«01_k».proof.Proof.Gen.Kernel20.Frame
public import proofs.«01_k».proof.Proof.Gen.Kernel20Ideal.Value
public import proofs.«01_k».proof.Proof.Gen.Kernel21.Frame
public import proofs.«01_k».proof.Proof.Gen.Kernel21Ideal.Value
public import proofs.«01_k».proof.Proof.Gen.Kernel22.Frame
public import proofs.«01_k».proof.Proof.Gen.Kernel22Ideal.Value
public import proofs.«01_k».proof.Proof.Gen.Kernel23.Frame
public import proofs.«01_k».proof.Proof.Gen.Kernel23Ideal.Value
public import proofs.«01_k».proof.Proof.Gen.Kernel24.Frame
public import proofs.«01_k».proof.Proof.Gen.Kernel24Ideal.Value
public import proofs.«01_k».proof.Proof.Gen.Kernel17.Frame
public import proofs.«01_k».proof.Proof.Gen.Kernel17Ideal.Value
public import proofs.«01_k».proof.Proof.Gen.Kernel25.Frame
public import proofs.«01_k».proof.Proof.Gen.Kernel25Ideal.Value
public import proofs.«01_k».proof.Proof.Gen.Kernel26.Frame
public import proofs.«01_k».proof.Proof.Gen.Kernel26Ideal.Value
public import proofs.«01_k».proof.Proof.Gen.Kernel27.Frame
public import proofs.«01_k».proof.Proof.Gen.Kernel27Ideal.Value
public import proofs.«01_k».proof.Proof.Gen.Kernel28.Frame
public import proofs.«01_k».proof.Proof.Gen.Kernel28Ideal.Value
public import proofs.«01_k».proof.Proof.Gen.Kernel29.Frame
public import proofs.«01_k».proof.Proof.Gen.Kernel29Ideal.Value
public import proofs.«01_k».proof.Proof.Reals
public import proofs.«01_k».proof.Proof.OutBwd
public import proofs.«01_k».proof.Proof.FfnInWgrad
public import proofs.«01_k».proof.Proof.FfnInDgrad
public import proofs.«01_k».proof.Proof.InWgrad
public import proofs.«01_k».proof.Proof.InDgrad
public import proofs.«01_k».proof.Proof.OutWgrad
public import proofs.«01_k».proof.Proof.OutDgrad
public import proofs.«01_k».proof.Proof.FfnIn
public import proofs.«01_k».proof.Proof.InProj
public import proofs.«01_k».proof.Proof.LnBwd
public import proofs.«01_k».proof.Proof.ConvDgrad
public import proofs.«01_k».proof.Proof.ConvWgrad
public import proofs.«01_k».proof.Proof.ConvOutBwd
public import proofs.«01_k».proof.Proof.GluBwd
public import proofs.«01_k».proof.Proof.ShiftBwd
public import proofs.«01_k».proof.Proof.FfnOutLoss
public import proofs.«01_k».proof.Proof.FfnOutLn
public import proofs.«01_k».proof.Proof.MixOutLn
public import proofs.«01_k».proof.Proof.ConvFwd
public import proofs.«01_k».proof.Proof.Glu
public import proofs.«01_k».proof.Proof.ConvOut
public import proofs.«01_k».proof.Proof.Shift
public import proofs.«01_k».proof.Proof.HeadNorm
public import proofs.«01_k».proof.Proof.HeadNormBwd
public import proofs.«01_k».proof.Proof.Adam
public import proofs.«01_k».proof.Proof.Norm
public import proofs.«01_k».proof.Proof.ConvDgradBody
public import proofs.«01_k».proof.Proof.ConvWgradBody
public import proofs.«01_k».proof.Proof.Mix
public import proofs.«01_k».proof.Proof.ConvFwdBody
public import proofs.«01_k».proof.Proof.HeadNormBwdEnd
public import Idealize.ShloMosaic.Lib.Claim
public import Idealize.ShloMosaic.Adequacy
public import Idealize.ShloMosaic.Init

@[expose] public section

set_option maxRecDepth 16384

noncomputable section

-- Each `frame_ref` says that the reference's arguments end unchanged and that it declares no semaphore.
-- The claims about the kernels and the references also say that every semaphore counter ends at zero; the frames show that too.

namespace Cert.Proof

open Idealize.ShloMosaic Idealize.SL.Sem Kernel

/-! ## The backward pass of the second feed-forward's output -/

theorem frame_ref1 : quiescent_ReferenceIdeal := fun m g _ =>
  (θ_run _ _ _).mono (fun r h => ⟨fun c => (h c).2.2.2, sem_eq_zero_of_no_sems (by decide) r.2⟩)
    (ReferenceIdeal.Value.run m g)

instance finite_facts : Pre_finite.Facts := ⟨by decide, by decide, by decide⟩

/-- The precondition, read entry by entry: the up-projection half, the weight and the incoming gradient are real numbers. -/
theorem real_of_pre (x u : FVec Ideal Pre_finite.S8192x2816 .f32) (b : FVec Ideal Pre_finite.S2816x1024 .f32)
    (d : FVec Ideal Pre_finite.S8192x1024 .f32)
    (h : (Pre_finite.fn (F := Ideal) x u b d).1 = (fun _ => 1#1) ∧ (Pre_finite.fn (F := Ideal) x u b d).2.1 = (fun _ => 1#1)
      ∧ (Pre_finite.fn (F := Ideal) x u b d).2.2 = (fun _ => 1#1)) :
    (∀ i, Reals.IsReal (u i)) ∧ (∀ i, Reals.IsReal (b i)) ∧ ∀ i, Reals.IsReal (d i) := by
  refine ⟨fun i => ?_, fun i => ?_, fun i => ?_⟩
  · have := congrFun h.1 i; unfold Pre_finite.fn at this; pointwise at this; exact Reals.IsReal.of_abs this
  · have := congrFun h.2.1 i; unfold Pre_finite.fn at this; pointwise at this; exact Reals.IsReal.of_abs this
  · have := congrFun h.2.2 i; unfold Pre_finite.fn at this; pointwise at this; exact Reals.IsReal.of_abs this

theorem value1 : algebraic_KernelIdeal_ReferenceIdeal_pre_finite := by
  pair_intro
  · run_from KernelIdeal.Value.run_blocks m g
  · run_from ReferenceIdeal.Value.run m' g'
    · have hc := real_of_pre _ _ _ _ (hpre c)
      exact (ReferenceIdeal.Read.val_main_v15_eq ..).trans (OutBwd.final5 m c hc.1 hc.2.1 hc.2.2).symm
    · exact (ReferenceIdeal.Read.val_main_v18_eq ..).trans (OutBwd.final6 m c).symm
    · exact (ReferenceIdeal.Read.val_main_v19_eq ..).trans (OutBwd.final7 m c).symm

/-! ## The gradient of the second feed-forward's input weight -/

theorem frame_ref2 : quiescent_Reference2Ideal := fun m g _ =>
  (θ_run _ _ _).mono (fun r h => ⟨fun c => (h c).2.2, sem_eq_zero_of_no_sems (by decide) r.2⟩)
    (Reference2Ideal.Value.run m g)

theorem value2 : algebraic_Kernel2Ideal_Reference2Ideal := by
  pair_intro
  · run_from Kernel2Ideal.Value.run_blocks m g
  · run_from Reference2Ideal.Value.run m' g'
    · refine (Reference2Ideal.Read.val_main_v10_eq ..).trans ?_
      rw [(hagree c).2.2.1, (hagree c).2.2.2]
      exact (FfnInWgrad.final3 m c).symm
    · refine (Reference2Ideal.Read.val_main_v13_eq ..).trans ?_
      rw [(hagree c).2.2.1, (hagree c).2.2.2]
      exact (FfnInWgrad.final4 m c).symm

/-! ## The gradient of the second feed-forward's input -/

theorem frame_ref3 : quiescent_Reference3Ideal := fun m g _ =>
  (θ_run _ _ _).mono (fun r h => ⟨fun c => (h c).2, sem_eq_zero_of_no_sems (by decide) r.2⟩)
    (Reference3Ideal.Value.run m g)

theorem value3 : algebraic_Kernel3Ideal_Reference3Ideal := by
  pair_intro
  · run_from Kernel3Ideal.Value.run_blocks m g
  · run_from Reference3Ideal.Value.run m' g'
    refine (Reference3Ideal.Read.val_main_v9_eq ..).trans ?_
    rw [(hagree c).2.2.1, (hagree c).2.2.2.1]
    exact (FfnInDgrad.final m c).symm

/-! ## The gradient of the combined input projection's weight -/

theorem frame_ref4 : quiescent_Reference4Ideal := fun m g _ =>
  (θ_run _ _ _).mono (fun r h => ⟨fun c => (h c).2, sem_eq_zero_of_no_sems (by decide) r.2⟩)
    (Reference4Ideal.Value.run m g)

theorem value4 : algebraic_Kernel4Ideal_Reference4Ideal := by
  pair_intro
  · run_from Kernel4Ideal.Value.run_blocks m g
  · run_from Reference4Ideal.Value.run m' g'
    exact (Reference4Ideal.Read.val_main_v3_eq ..).trans (InWgrad.final m c).symm

/-! ## The gradient of the combined input projection's input -/

theorem frame_ref5 : quiescent_Reference5Ideal := fun m g _ =>
  (θ_run _ _ _).mono (fun r h => ⟨fun c => (h c).2, sem_eq_zero_of_no_sems (by decide) r.2⟩)
    (Reference5Ideal.Value.run m g)

theorem value5 : algebraic_Kernel5Ideal_Reference5Ideal := by
  pair_intro
  · run_from Kernel5Ideal.Value.run_blocks m g
  · run_from Reference5Ideal.Value.run m' g'
    exact (Reference5Ideal.Read.val_main_v6_eq ..).trans (InDgrad.final m c).symm

/-! ## The gradient of the output projection's weight -/

theorem frame_ref6 : quiescent_Reference6Ideal := fun m g _ =>
  (θ_run _ _ _).mono (fun r h => ⟨fun c => (h c).2, sem_eq_zero_of_no_sems (by decide) r.2⟩)
    (Reference6Ideal.Value.run m g)

theorem value6 : algebraic_Kernel6Ideal_Reference6Ideal := by
  pair_intro
  · run_from Kernel6Ideal.Value.run_blocks m g
  · run_from Reference6Ideal.Value.run m' g'
    exact (Reference6Ideal.Read.val_main_v3_eq ..).trans (OutWgrad.final m c).symm

/-! ## The gradient of the output projection's input -/

theorem frame_ref7 : quiescent_Reference7Ideal := fun m g _ =>
  (θ_run _ _ _).mono (fun r h => ⟨fun c => (h c).2, sem_eq_zero_of_no_sems (by decide) r.2⟩)
    (Reference7Ideal.Value.run m g)

theorem value7 : algebraic_Kernel7Ideal_Reference7Ideal := by
  pair_intro
  · run_from Kernel7Ideal.Value.run_blocks m g
  · run_from Reference7Ideal.Value.run m' g'
    exact (Reference7Ideal.Read.val_main_v1_eq ..).trans (OutDgrad.final m c).symm

/-! ## The second feed-forward's input projection and gate -/

theorem frame_ref8 : quiescent_Reference8Ideal := fun m g _ =>
  (θ_run _ _ _).mono (fun r h => ⟨fun c => (h c).2.2.2, sem_eq_zero_of_no_sems (by decide) r.2⟩)
    (Reference8Ideal.Value.run m g)

theorem value8 : algebraic_Kernel8Ideal_Reference8Ideal := by
  pair_intro
  · run_from Kernel8Ideal.Value.run_blocks m g
  · run_from Reference8Ideal.Value.run m' g'
    · exact (Reference8Ideal.Read.val_main_v7_eq ..).trans (FfnIn.final3 m c).symm
    · exact (Reference8Ideal.Read.val_main_v10_eq ..).trans (FfnIn.final4 m c).symm
    · exact (Reference8Ideal.Read.val_main_v13_eq ..).trans (FfnIn.final5 m c).symm

/-! ## The combined input projection -/

theorem frame_ref9 : quiescent_Reference9Ideal := fun m g _ =>
  (θ_run _ _ _).mono (fun r h => ⟨fun c => (h c).2, sem_eq_zero_of_no_sems (by decide) r.2⟩)
    (Reference9Ideal.Value.run m g)

theorem value9 : algebraic_Kernel9Ideal_Reference9Ideal := by
  pair_intro
  · run_from Kernel9Ideal.Value.run_blocks m g
  · run_from Reference9Ideal.Value.run m' g'
    exact (Reference9Ideal.Read.val_main_v0_eq ..).trans (InProj.final m c).symm

/-! ## The gradient of the second layer norm -/

theorem frame_ref10 : quiescent_Reference10Ideal := fun m g _ =>
  (θ_run _ _ _).mono (fun r h => ⟨fun c => (h c).2.2.2.2, sem_eq_zero_of_no_sems (by decide) r.2⟩)
    (Reference10Ideal.Value.run m g)

instance finite_ln_facts : Pre_finite_ln.Facts := ⟨by decide, by decide⟩

/-- The precondition, read entry by entry: the gain and the incoming gradient are real numbers. -/
theorem real_of_ln (z : FVec Ideal Pre_finite_ln.S8192x1024 .f32) (g b : FVec Ideal Pre_finite_ln.S1024 .f32)
    (ct : FVec Ideal Pre_finite_ln.S8192x1024 .f32)
    (h : (Pre_finite_ln.fn (F := Ideal) z g b ct).1 = (fun _ => 1#1)
      ∧ (Pre_finite_ln.fn (F := Ideal) z g b ct).2 = (fun _ => 1#1)) :
    (∀ i, Reals.IsReal (g i)) ∧ (∀ i, Reals.IsReal (ct i)) := by
  refine ⟨fun i => ?_, fun i => ?_⟩
  · have := congrFun h.1 i; unfold Pre_finite_ln.fn at this; pointwise at this; exact Reals.IsReal.of_abs this
  · have := congrFun h.2 i; unfold Pre_finite_ln.fn at this; pointwise at this; exact Reals.IsReal.of_abs this

theorem value10 : algebraic_Kernel10Ideal_Reference10Ideal_pre_finite_ln := by
  pair_intro
  · run_from Kernel10Ideal.Value.run_blocks m g
  · run_from Reference10Ideal.Value.run m' g'
    · have hc := real_of_ln _ _ _ _ (hpre c)
      refine (Reference10Ideal.Read.val_main_v62_eq ..).trans ?_
      try simp only [(hagree c).1, (hagree c).2.1, (hagree c).2.2.1, (hagree c).2.2.2]
      exact (LnBwd.final3 m c hc.1 hc.2).symm
    · have hc := real_of_ln _ _ _ _ (hpre c)
      refine (Reference10Ideal.Read.val_main_v63_eq ..).trans ?_
      try simp only [(hagree c).1, (hagree c).2.1, (hagree c).2.2.1, (hagree c).2.2.2]
      exact (LnBwd.final4 m c hc.1 hc.2).symm
    · refine (Reference10Ideal.Read.val_main_v64_eq ..).trans ?_
      try simp only [(hagree c).1, (hagree c).2.1, (hagree c).2.2.1, (hagree c).2.2.2]
      exact (LnBwd.final5 m c).symm
    · refine (Reference10Ideal.Read.val_main_v65_eq ..).trans ?_
      try simp only [(hagree c).1, (hagree c).2.1, (hagree c).2.2.1, (hagree c).2.2.2]
      exact (LnBwd.final6 m c).symm

/-! ## The gradient of the depthwise convolution's input -/

theorem frame_ref12 : quiescent_Reference12Ideal := fun m g _ =>
  (θ_run _ _ _).mono (fun r h => ⟨fun c => (h c).2, sem_eq_zero_of_no_sems (by decide) r.2⟩)
    (Reference12Ideal.Value.run m g)

theorem value12 : algebraic_Kernel12Ideal_Reference12Ideal := by
  pair_intro
  · run_from Kernel12Ideal.Value.run_blocks m g
  · run_from Reference12Ideal.Value.run m' g'
    refine (Reference12Ideal.Read.val_main_v350_eq (Idealize.ShloMosaic.StableHlo.launchContents m' c)).trans ?_
    try simp only [(hagree c).1, (hagree c).2.1, (hagree c).2.2.1, (hagree c).2.2.2]
    exact (ConvDgrad.final m c).symm

/-! ## The gradients of the depthwise convolution's taps and bias -/

theorem frame_ref11 : quiescent_Reference11Ideal := fun m g _ =>
  (θ_run _ _ _).mono (fun r h => ⟨fun c => (h c).2.2, sem_eq_zero_of_no_sems (by decide) r.2⟩)
    (Reference11Ideal.Value.run m g)

theorem value11 : algebraic_Kernel11Ideal_Reference11Ideal := by
  pair_intro
  · run_from Kernel11Ideal.Value.run_blocks m g
  · run_from Reference11Ideal.Value.run m' g'
    · refine (Reference11Ideal.Read.val_main_v441_eq ..).trans ?_
      try simp only [(hagree c).1, (hagree c).2.1, (hagree c).2.2.1, (hagree c).2.2.2]
      exact (ConvWgrad.final4 m c).symm
    · exact Eq.trans (b := Reference11Ideal.Read.val_main_v442 (F := Ideal) (m (c.tc.loc Kernel11Ideal.main_arg3))) rfl
        (ConvWgrad.final5 m c).symm

/-! ## The gradient of the convolution's layer norm and its silu -/

theorem frame_ref13 : quiescent_Reference13Ideal := fun m g _ =>
  (θ_run _ _ _).mono (fun r h => ⟨fun c => (h c).2.2.2, sem_eq_zero_of_no_sems (by decide) r.2⟩)
    (Reference13Ideal.Value.run m g)

instance finite_conv_facts : Pre_finite_conv.Facts := ⟨by decide, by decide, by decide⟩

/-- The precondition, read entry by entry: the gain and the second half of the incoming gradient are real numbers. -/
theorem real_of_conv (z : FVec Ideal Pre_finite_conv.S8192x512 .f32) (g b : FVec Ideal Pre_finite_conv.S512 .f32)
    (ct : FVec Ideal Pre_finite_conv.S8192x1024 .f32)
    (h : (Pre_finite_conv.fn (F := Ideal) z g b ct).1 = (fun _ => 1#1)
      ∧ (Pre_finite_conv.fn (F := Ideal) z g b ct).2 = (fun _ => 1#1)) :
    (∀ i, Reals.IsReal (g i)) ∧ (∀ r k, Reals.IsReal (ConvOutBwd.half2 ct r k)) := by
  refine ⟨fun i => ?_, fun r k => ?_⟩
  · have := congrFun h.1 i; unfold Pre_finite_conv.fn at this; pointwise at this; exact Reals.IsReal.of_abs this
  · have := congrFun h.2 (ix2 r k); unfold Pre_finite_conv.fn at this; pointwise at this
    exact Reals.IsReal.of_abs this

theorem value13 : algebraic_Kernel13Ideal_Reference13Ideal_pre_finite_conv := by
  pair_intro
  · run_from Kernel13Ideal.Value.run_blocks m g
  · run_from Reference13Ideal.Value.run m' g'
    · have hc := real_of_conv _ _ _ _ (hpre c)
      refine (Reference13Ideal.Read.val_main_v64_eq ..).trans ?_
      try simp only [(hagree c).1, (hagree c).2.1, (hagree c).2.2.1, (hagree c).2.2.2]
      exact (ConvOutBwd.final4 m c hc.1 hc.2).symm
    · refine (Reference13Ideal.Read.val_main_v65_eq ..).trans ?_
      try simp only [(hagree c).1, (hagree c).2.1, (hagree c).2.2.1, (hagree c).2.2.2]
      exact (ConvOutBwd.final5 m c).symm
    · refine (Reference13Ideal.Read.val_main_v66_eq ..).trans ?_
      try simp only [(hagree c).1, (hagree c).2.1, (hagree c).2.2.1, (hagree c).2.2.2]
      exact (ConvOutBwd.final6 m c).symm

/-! ## The gradient of the convolution's gate -/

theorem frame_ref14 : quiescent_Reference14Ideal := fun m g _ =>
  (θ_run _ _ _).mono (fun r h => ⟨fun c => (h c).2, sem_eq_zero_of_no_sems (by decide) r.2⟩)
    (Reference14Ideal.Value.run m g)

theorem value14 : algebraic_Kernel14Ideal_Reference14Ideal := by
  pair_intro
  · run_from Kernel14Ideal.Value.run_blocks m g
  · run_from Reference14Ideal.Value.run m' g'
    refine (Reference14Ideal.Read.val_main_v19_eq ..).trans ?_
    try simp only [(hagree c).1, (hagree c).2]
    exact (GluBwd.final m c).symm

/-! ## The gradient of the token shift -/

theorem frame_ref15 : quiescent_Reference15Ideal := fun m g _ =>
  (θ_run _ _ _).mono (fun r h => ⟨fun c => (h c).2.2.2, sem_eq_zero_of_no_sems (by decide) r.2⟩)
    (Reference15Ideal.Value.run m g)

instance finite_shift_facts : Pre_finite_shift.Facts := ⟨by decide, by decide⟩

/-- The precondition, read entry by entry: the two mixing weights and the incoming gradient are real numbers. -/
theorem real_of_shift (p : FVec Ideal Pre_finite_shift.S4x2048x3072 .f32) (a b : FVec Ideal Pre_finite_shift.S2048 .f32)
    (ct : FVec Ideal Pre_finite_shift.S4x2048x2048 .f32)
    (h : (Pre_finite_shift.fn (F := Ideal) p a b ct).1 = (fun _ => 1#1)
      ∧ (Pre_finite_shift.fn (F := Ideal) p a b ct).2.1 = (fun _ => 1#1)
      ∧ (Pre_finite_shift.fn (F := Ideal) p a b ct).2.2 = (fun _ => 1#1)) :
    (∀ i, Reals.IsReal (a i)) ∧ (∀ i, Reals.IsReal (b i)) ∧ (∀ i, Reals.IsReal (ct i)) := by
  refine ⟨fun i => ?_, fun i => ?_, fun i => ?_⟩
  · have := congrFun h.1 i; unfold Pre_finite_shift.fn at this; pointwise at this; exact Reals.IsReal.of_abs this
  · have := congrFun h.2.1 i; unfold Pre_finite_shift.fn at this; pointwise at this; exact Reals.IsReal.of_abs this
  · have := congrFun h.2.2 i; unfold Pre_finite_shift.fn at this; pointwise at this; exact Reals.IsReal.of_abs this

theorem value15 : algebraic_Kernel15Ideal_Reference15Ideal_pre_finite_shift := by
  pair_intro
  · run_from Kernel15Ideal.Value.run_blocks m g
  · run_from Reference15Ideal.Value.run m' g'
    · have hc := real_of_shift _ _ _ _ (hpre c)
      refine (Reference15Ideal.Read.val_main_v45_eq ..).trans ?_
      try simp only [(hagree c).1, (hagree c).2.1, (hagree c).2.2.1, (hagree c).2.2.2]
      exact (ShiftBwd.final8 m c hc.1 hc.2.1 hc.2.2).symm
    · refine (Reference15Ideal.Read.val_main_v46_eq ..).trans ?_
      try simp only [(hagree c).1, (hagree c).2.1, (hagree c).2.2.1, (hagree c).2.2.2]
      exact (ShiftBwd.final9 m c).symm
    · refine (Reference15Ideal.Read.val_main_v47_eq ..).trans ?_
      try simp only [(hagree c).1, (hagree c).2.1, (hagree c).2.2.1, (hagree c).2.2.2]
      exact (ShiftBwd.final10 m c).symm

/-! ## The second feed-forward's output, the third layer norm and the loss -/

theorem frame_ref18 : quiescent_Reference18Ideal := fun m g _ =>
  (θ_run _ _ _).mono (fun r h => ⟨fun c => (h c).2.2.2.2.2, sem_eq_zero_of_no_sems (by decide) r.2⟩)
    (Reference18Ideal.Value.run m g)

instance finite_loss_facts : Pre_finite_loss.Facts := ⟨by decide, by decide⟩

/-- The precondition, read entry by entry: the gain, the shift and the target are real numbers. -/
theorem real_of_loss (x : FVec Ideal Pre_finite_loss.S8192x1024 .f32) (a : FVec Ideal Pre_finite_loss.S8192x2816 .f32)
    (w : FVec Ideal Pre_finite_loss.S2816x1024 .f32) (g b : FVec Ideal Pre_finite_loss.S1024 .f32)
    (t : FVec Ideal Pre_finite_loss.S8192x1024 .f32)
    (h : (Pre_finite_loss.fn (F := Ideal) x a w g b t).1 = (fun _ => 1#1)
      ∧ (Pre_finite_loss.fn (F := Ideal) x a w g b t).2.1 = (fun _ => 1#1)
      ∧ (Pre_finite_loss.fn (F := Ideal) x a w g b t).2.2 = (fun _ => 1#1)) :
    (∀ i, Reals.IsReal (g i)) ∧ (∀ i, Reals.IsReal (b i)) ∧ (∀ i, Reals.IsReal (t i)) := by
  refine ⟨fun i => ?_, fun i => ?_, fun i => ?_⟩
  · have := congrFun h.1 i; unfold Pre_finite_loss.fn at this; pointwise at this; exact Reals.IsReal.of_abs this
  · have := congrFun h.2.1 i; unfold Pre_finite_loss.fn at this; pointwise at this; exact Reals.IsReal.of_abs this
  · have := congrFun h.2.2 i; unfold Pre_finite_loss.fn at this; pointwise at this; exact Reals.IsReal.of_abs this

theorem value18 : algebraic_Kernel18Ideal_Reference18Ideal_pre_finite_loss := by
  pair_intro
  · run_from Kernel18Ideal.Value.run_blocks m g
  · run_from Reference18Ideal.Value.run m' g'
    · have hc := real_of_loss _ _ _ _ _ _ (hpre c)
      refine (Reference18Ideal.Read.val_main_v82_eq ..).trans ?_
      try simp only [(hagree c).1, (hagree c).2.1, (hagree c).2.2.1, (hagree c).2.2.2.1, (hagree c).2.2.2.2.1, (hagree c).2.2.2.2.2]
      exact (FfnOutLoss.final6 m c hc.1 hc.2.1 hc.2.2).symm
    · have hc := real_of_loss _ _ _ _ _ _ (hpre c)
      refine (Reference18Ideal.Read.val_main_v83_eq ..).trans ?_
      try simp only [(hagree c).1, (hagree c).2.1, (hagree c).2.2.1, (hagree c).2.2.2.1, (hagree c).2.2.2.2.1, (hagree c).2.2.2.2.2]
      exact (FfnOutLoss.final7 m c hc.1 hc.2.1 hc.2.2).symm
    · have hc := real_of_loss _ _ _ _ _ _ (hpre c)
      refine (Reference18Ideal.Read.val_main_v84_eq ..).trans ?_
      try simp only [(hagree c).1, (hagree c).2.1, (hagree c).2.2.1, (hagree c).2.2.2.1, (hagree c).2.2.2.2.1, (hagree c).2.2.2.2.2]
      exact (FfnOutLoss.final8 m c hc.1 hc.2.1 hc.2.2).symm
    · have hc := real_of_loss _ _ _ _ _ _ (hpre c)
      refine (Reference18Ideal.Read.val_main_v85_eq ..).trans ?_
      try simp only [(hagree c).1, (hagree c).2.1, (hagree c).2.2.1, (hagree c).2.2.2.1, (hagree c).2.2.2.2.1, (hagree c).2.2.2.2.2]
      exact (FfnOutLoss.final9 m c hc.1 hc.2.1 hc.2.2).symm
    · have hc := real_of_loss _ _ _ _ _ _ (hpre c)
      refine (Reference18Ideal.Read.val_main_v86_eq ..).trans ?_
      try simp only [(hagree c).1, (hagree c).2.1, (hagree c).2.2.1, (hagree c).2.2.2.1, (hagree c).2.2.2.2.1, (hagree c).2.2.2.2.2]
      exact (FfnOutLoss.final10 m c hc.1 hc.2.1 hc.2.2).symm

/-! ## The first feed-forward's output and the first layer norm -/

theorem frame_ref19 : quiescent_Reference19Ideal := fun m g _ =>
  (θ_run _ _ _).mono (fun r h => ⟨fun c => (h c).2.2.2, sem_eq_zero_of_no_sems (by decide) r.2⟩)
    (Reference19Ideal.Value.run m g)

theorem value19 : algebraic_Kernel19Ideal_Reference19Ideal := by
  pair_intro
  · run_from Kernel19Ideal.Value.run_blocks m g
  · run_from Reference19Ideal.Value.run m' g'
    · exact (Reference19Ideal.Read.val_main_v29_eq ..).trans (FfnOutLn.final5 m c).symm
    · exact (Reference19Ideal.Read.val_main_v30_eq ..).trans (FfnOutLn.final6 m c).symm
    · exact (Reference19Ideal.Read.val_main_v5_eq ..).trans (FfnOutLn.final7 m c).symm

/-! ## The mixer's output and the second layer norm -/

theorem frame_ref20 : quiescent_Reference20Ideal := fun m g _ =>
  (θ_run _ _ _).mono (fun r h => ⟨fun c => (h c).2.2.2, sem_eq_zero_of_no_sems (by decide) r.2⟩)
    (Reference20Ideal.Value.run m g)

theorem value20 : algebraic_Kernel20Ideal_Reference20Ideal := by
  pair_intro
  · run_from Kernel20Ideal.Value.run_blocks m g
  · run_from Reference20Ideal.Value.run m' g'
    · refine (Reference20Ideal.Read.val_main_v28_eq ..).trans ?_
      try simp only [(hagree c).1, (hagree c).2.1, (hagree c).2.2.1, (hagree c).2.2.2.1, (hagree c).2.2.2.2.1, (hagree c).2.2.2.2.2]
      exact (MixOutLn.final5 m c).symm
    · refine (Reference20Ideal.Read.val_main_v29_eq ..).trans ?_
      try simp only [(hagree c).1, (hagree c).2.1, (hagree c).2.2.1, (hagree c).2.2.2.1, (hagree c).2.2.2.2.1, (hagree c).2.2.2.2.2]
      exact (MixOutLn.final6 m c).symm
    · refine (Reference20Ideal.Read.val_main_v4_eq ..).trans ?_
      try simp only [(hagree c).1, (hagree c).2.1, (hagree c).2.2.1, (hagree c).2.2.2.1, (hagree c).2.2.2.2.1, (hagree c).2.2.2.2.2]
      exact (MixOutLn.final7 m c).symm

/-! ## The depthwise convolution -/

theorem frame_ref21 : quiescent_Reference21Ideal := fun m g _ =>
  (θ_run _ _ _).mono (fun r h => ⟨fun c => (h c).2, sem_eq_zero_of_no_sems (by decide) r.2⟩)
    (Reference21Ideal.Value.run m g)

theorem value21 : algebraic_Kernel21Ideal_Reference21Ideal := by
  pair_intro
  · run_from Kernel21Ideal.Value.run_blocks m g
  · run_from Reference21Ideal.Value.run m' g'
    rw [← (hagree c).2.1, ← (hagree c).2.2]
    refine (Reference21Ideal.Read.val_main_v221_eq (Idealize.ShloMosaic.StableHlo.launchContents m' c)).trans ?_
    refine Eq.trans (b := Reference21Ideal.Read.val_main_v221 (F := Ideal) (m' (c.tc.loc Reference21Ideal.main_arg0))
      (m' (c.tc.loc Reference21Ideal.main_arg1)) (m' (c.tc.loc Reference21Ideal.main_arg2))) rfl ?_
    rw [(hagree c).1, (hagree c).2.1, (hagree c).2.2]
    exact (ConvFwd.final m c).symm

/-! ## The convolution's gate -/

theorem frame_ref22 : quiescent_Reference22Ideal := fun m g _ =>
  (θ_run _ _ _).mono (fun r h => ⟨fun c => (h c).2, sem_eq_zero_of_no_sems (by decide) r.2⟩)
    (Reference22Ideal.Value.run m g)

theorem value22 : algebraic_Kernel22Ideal_Reference22Ideal := by
  pair_intro
  · run_from Kernel22Ideal.Value.run_blocks m g
  · run_from Reference22Ideal.Value.run m' g'
    refine (Reference22Ideal.Read.val_main_v9_eq ..).trans ?_
    try simp only [(hagree c)]
    exact (Glu.final m c).symm

/-! ## The convolution's layer norm and its silu -/

theorem frame_ref23 : quiescent_Reference23Ideal := fun m g _ =>
  (θ_run _ _ _).mono (fun r h => ⟨fun c => (h c).2, sem_eq_zero_of_no_sems (by decide) r.2⟩)
    (Reference23Ideal.Value.run m g)

theorem value23 : algebraic_Kernel23Ideal_Reference23Ideal := by
  pair_intro
  · run_from Kernel23Ideal.Value.run_blocks m g
  · run_from Reference23Ideal.Value.run m' g'
    refine (Reference23Ideal.Read.val_main_v25_eq ..).trans ?_
    try simp only [(hagree c).1, (hagree c).2.1, (hagree c).2.2]
    exact (ConvOut.final m c).symm

/-! ## The token shift -/

theorem frame_ref24 : quiescent_Reference24Ideal := fun m g _ =>
  (θ_run _ _ _).mono (fun r h => ⟨fun c => (h c).2, sem_eq_zero_of_no_sems (by decide) r.2⟩)
    (Reference24Ideal.Value.run m g)

theorem value24 : algebraic_Kernel24Ideal_Reference24Ideal := by
  pair_intro
  · run_from Kernel24Ideal.Value.run_blocks m g
  · run_from Reference24Ideal.Value.run m' g'
    refine (Reference24Ideal.Read.val_main_v16_eq ..).trans ?_
    try simp only [(hagree c).1, (hagree c).2.1, (hagree c).2.2]
    exact (Shift.final m c).symm

/-! ## The recurrence's head norm, its bonus and its gate -/

theorem frame_ref17 : quiescent_Reference17Ideal := fun m g _ =>
  (θ_run _ _ _).mono (fun r h => ⟨fun c => (h c).2, sem_eq_zero_of_no_sems (by decide) r.2⟩)
    (Reference17Ideal.Value.run m g)

instance finite_post_facts : Pre_finite_post.Facts := ⟨by decide, by decide, by decide⟩

/-- The precondition, read entry by entry: the two directions of the recurrence, the receptance, the keys and the bonus weights are real numbers. -/
theorem real_of_post (y2 : FVec Ideal Pre_finite_post.S8192x1024 .f32) (r v : FVec Ideal Pre_finite_post.S8192x512 .f32)
    (kd : FVec Ideal Pre_finite_post.S8192x1024 .f32) (g : FVec Ideal Pre_finite_post.S8192x512 .f32)
    (lg lb : FVec Ideal Pre_finite_post.S512 .f32) (rk : FVec Ideal Pre_finite_post.S8x64 .f32)
    (h : (Pre_finite_post.fn (F := Ideal) y2 r v kd g lg lb rk).1 = (fun _ => 1#1)
      ∧ (Pre_finite_post.fn (F := Ideal) y2 r v kd g lg lb rk).2.1 = (fun _ => 1#1)
      ∧ (Pre_finite_post.fn (F := Ideal) y2 r v kd g lg lb rk).2.2.1 = (fun _ => 1#1)
      ∧ (Pre_finite_post.fn (F := Ideal) y2 r v kd g lg lb rk).2.2.2 = (fun _ => 1#1)) :
    (∀ i, Reals.IsReal (y2 i)) ∧ (∀ i, Reals.IsReal (r i)) ∧ (∀ i, Reals.IsReal (kd i)) ∧ (∀ i, Reals.IsReal (rk i)) := by
  refine ⟨fun i => ?_, fun i => ?_, fun i => ?_, fun i => ?_⟩
  · have := congrFun h.1 i; unfold Pre_finite_post.fn at this; pointwise at this; exact Reals.IsReal.of_abs this
  · have := congrFun h.2.1 i; unfold Pre_finite_post.fn at this; pointwise at this; exact Reals.IsReal.of_abs this
  · have := congrFun h.2.2.1 i; unfold Pre_finite_post.fn at this; pointwise at this; exact Reals.IsReal.of_abs this
  · have := congrFun h.2.2.2 i; unfold Pre_finite_post.fn at this; pointwise at this; exact Reals.IsReal.of_abs this

theorem value17 : algebraic_Kernel17Ideal_Reference17Ideal_pre_finite_post := by
  pair_intro
  · run_from Kernel17Ideal.Value.run_blocks m g
  · run_from Reference17Ideal.Value.run m' g'
    have hc := real_of_post _ _ _ _ _ _ _ _ (hpre c)
    refine (Reference17Ideal.Read.val_main_v50_eq ..).trans ?_
    try simp only [(hagree c).1, (hagree c).2.1, (hagree c).2.2.1, (hagree c).2.2.2.1, (hagree c).2.2.2.2.1, (hagree c).2.2.2.2.2.1, (hagree c).2.2.2.2.2.2.1, (hagree c).2.2.2.2.2.2.2]
    exact (HeadNorm.final m c hc.1 hc.2.1 hc.2.2.1 hc.2.2.2).symm

/-! ## The gradient of the recurrence's head norm, its bonus and its gate -/

theorem frame_ref25 : quiescent_Reference25Ideal := fun m g _ =>
  (θ_run _ _ _).mono (fun r h => ⟨fun c => (h c).2.2.2.2.2.2.2.2, sem_eq_zero_of_no_sems (by decide) r.2⟩)
    (Reference25Ideal.Value.run m g)

instance finite_postb_facts : Pre_finite_postb.Facts := ⟨by decide, by decide, by decide, by decide, by decide⟩

/-- The precondition, read entry by entry: every array but the shift, of the incoming gradient its first half, consists of real numbers. -/
theorem real_of_postb (y2 : FVec Ideal Pre_finite_postb.S8192x1024 .f32) (r v : FVec Ideal Pre_finite_postb.S8192x512 .f32)
    (kd : FVec Ideal Pre_finite_postb.S8192x1024 .f32) (g : FVec Ideal Pre_finite_postb.S8192x512 .f32)
    (ct : FVec Ideal Pre_finite_postb.S8192x1024 .f32) (lg lb : FVec Ideal Pre_finite_postb.S512 .f32) (rk : FVec Ideal Pre_finite_postb.S8x64 .f32)
    (h : (Pre_finite_postb.fn (F := Ideal) y2 r v kd g ct lg lb rk).1 = (fun _ => 1#1)
      ∧ (Pre_finite_postb.fn (F := Ideal) y2 r v kd g ct lg lb rk).2.1 = (fun _ => 1#1)
      ∧ (Pre_finite_postb.fn (F := Ideal) y2 r v kd g ct lg lb rk).2.2.1 = (fun _ => 1#1)
      ∧ (Pre_finite_postb.fn (F := Ideal) y2 r v kd g ct lg lb rk).2.2.2.1 = (fun _ => 1#1)
      ∧ (Pre_finite_postb.fn (F := Ideal) y2 r v kd g ct lg lb rk).2.2.2.2.1 = (fun _ => 1#1)
      ∧ (Pre_finite_postb.fn (F := Ideal) y2 r v kd g ct lg lb rk).2.2.2.2.2.1 = (fun _ => 1#1)
      ∧ (Pre_finite_postb.fn (F := Ideal) y2 r v kd g ct lg lb rk).2.2.2.2.2.2.1 = (fun _ => 1#1)
      ∧ (Pre_finite_postb.fn (F := Ideal) y2 r v kd g ct lg lb rk).2.2.2.2.2.2.2 = (fun _ => 1#1)) :
    (∀ i, Reals.IsReal (y2 i)) ∧ (∀ i, Reals.IsReal (r i)) ∧ (∀ i, Reals.IsReal (v i)) ∧ (∀ i, Reals.IsReal (kd i)) ∧ (∀ i, Reals.IsReal (g i)) ∧ (∀ i k, Reals.IsReal (HeadNormBwd.half1 ct i k)) ∧ (∀ i, Reals.IsReal (lg i)) ∧ (∀ i, Reals.IsReal (rk i)) := by
  refine ⟨fun i => ?_, fun i => ?_, fun i => ?_, fun i => ?_, fun i => ?_, fun i k => ?_, fun i => ?_, fun i => ?_⟩
  · have := congrFun h.1 i; unfold Pre_finite_postb.fn Pre_finite_postb.fn_part1 at this; pointwise at this; exact Reals.IsReal.of_abs this
  · have := congrFun h.2.1 i; unfold Pre_finite_postb.fn Pre_finite_postb.fn_part1 at this; pointwise at this; exact Reals.IsReal.of_abs this
  · have := congrFun h.2.2.1 i; unfold Pre_finite_postb.fn Pre_finite_postb.fn_part1 at this; pointwise at this; exact Reals.IsReal.of_abs this
  · have := congrFun h.2.2.2.1 i; unfold Pre_finite_postb.fn Pre_finite_postb.fn_part1 at this; pointwise at this; exact Reals.IsReal.of_abs this
  · have := congrFun h.2.2.2.2.1 i; unfold Pre_finite_postb.fn Pre_finite_postb.fn_part1 at this; pointwise at this; exact Reals.IsReal.of_abs this
  · have := congrFun h.2.2.2.2.2.1 (ix2 i k); unfold Pre_finite_postb.fn Pre_finite_postb.fn_part1 at this; pointwise at this; exact Reals.IsReal.of_abs this
  · have := congrFun h.2.2.2.2.2.2.1 i; unfold Pre_finite_postb.fn Pre_finite_postb.fn_part1 at this; pointwise at this; exact Reals.IsReal.of_abs this
  · have := congrFun h.2.2.2.2.2.2.2 i; unfold Pre_finite_postb.fn Pre_finite_postb.fn_part1 at this; pointwise at this; exact Reals.IsReal.of_abs this

theorem value25 : algebraic_Kernel25Ideal_Reference25Ideal_pre_finite_postb := by
  pair_intro
  · run_from Kernel25Ideal.Value.run_blocks m g
  · run_from Reference25Ideal.Value.run m' g'
    · have hc : HeadNormBwd.Fin8 m c := by
        have q := real_of_postb _ _ _ _ _ _ _ _ _ (hpre c)
        exact ⟨q.1, q.2.1, q.2.2.1, q.2.2.2.1, q.2.2.2.2.1, q.2.2.2.2.2.1, q.2.2.2.2.2.2.1, q.2.2.2.2.2.2.2⟩
      refine (Reference25Ideal.Read.val_main_v115_eq ..).trans ?_
      try simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact (HeadNormBwd.final10 m c hc).symm
    · have hc : HeadNormBwd.Fin8 m c := by
        have q := real_of_postb _ _ _ _ _ _ _ _ _ (hpre c)
        exact ⟨q.1, q.2.1, q.2.2.1, q.2.2.2.1, q.2.2.2.2.1, q.2.2.2.2.2.1, q.2.2.2.2.2.2.1, q.2.2.2.2.2.2.2⟩
      refine (Reference25Ideal.Read.val_main_v125_eq ..).trans ?_
      try simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact (HeadNormBwd.final11 m c hc).symm
    · have hc : HeadNormBwd.Fin8 m c := by
        have q := real_of_postb _ _ _ _ _ _ _ _ _ (hpre c)
        exact ⟨q.1, q.2.1, q.2.2.1, q.2.2.2.1, q.2.2.2.2.1, q.2.2.2.2.2.1, q.2.2.2.2.2.2.1, q.2.2.2.2.2.2.2⟩
      refine (Reference25Ideal.Read.val_main_v124_eq ..).trans ?_
      try simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact (HeadNormBwd.final12 m c hc).symm
    · have hc : HeadNormBwd.Fin8 m c := by
        have q := real_of_postb _ _ _ _ _ _ _ _ _ (hpre c)
        exact ⟨q.1, q.2.1, q.2.2.1, q.2.2.2.1, q.2.2.2.2.1, q.2.2.2.2.2.1, q.2.2.2.2.2.2.1, q.2.2.2.2.2.2.2⟩
      refine (Reference25Ideal.Read.val_main_v123_eq ..).trans ?_
      try simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact (HeadNormBwd.final13 m c hc).symm
    · have hc : HeadNormBwd.Fin8 m c := by
        have q := real_of_postb _ _ _ _ _ _ _ _ _ (hpre c)
        exact ⟨q.1, q.2.1, q.2.2.1, q.2.2.2.1, q.2.2.2.2.1, q.2.2.2.2.2.1, q.2.2.2.2.2.2.1, q.2.2.2.2.2.2.2⟩
      refine (Reference25Ideal.Read.val_main_v56_eq ..).trans ?_
      try simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact (HeadNormBwd.final14 m c hc).symm
    · have hc : HeadNormBwd.Fin8 m c := by
        have q := real_of_postb _ _ _ _ _ _ _ _ _ (hpre c)
        exact ⟨q.1, q.2.1, q.2.2.1, q.2.2.2.1, q.2.2.2.2.1, q.2.2.2.2.2.1, q.2.2.2.2.2.2.1, q.2.2.2.2.2.2.2⟩
      refine (Reference25Ideal.Read.val_main_v126_eq ..).trans ?_
      try simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact (HeadNormBwd.final15 m c hc).symm
    · refine (Reference25Ideal.Read.val_main_v127_eq ..).trans ?_
      try simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact (HeadNormBwd.final16 m c).symm
    · have hc : HeadNormBwd.Fin8 m c := by
        have q := real_of_postb _ _ _ _ _ _ _ _ _ (hpre c)
        exact ⟨q.1, q.2.1, q.2.2.1, q.2.2.2.1, q.2.2.2.2.1, q.2.2.2.2.2.1, q.2.2.2.2.2.2.1, q.2.2.2.2.2.2.2⟩
      refine (Reference25Ideal.Read.val_main_v128_eq ..).trans ?_
      try simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact (HeadNormBwd.final17 m c hc).symm

/-! ## The sum of the devices' gradients of a feed-forward's output weight and the optimiser's step -/

theorem frame_ref26 : quiescent_Reference26Ideal := fun m g _ =>
  (θ_run _ _ _).mono (fun r h => ⟨fun c => (h c).2.2.2.2, sem_eq_zero_of_no_sems (by decide) r.2⟩)
    (Reference26Ideal.Value.run m g)

theorem value26 : algebraic_Kernel26Ideal_Reference26Ideal := by
  pair_intro
  · run_from Kernel26Ideal.Value.run_blocks m g
  · refine (θ_run _ _ _).mono (fun r h c => ?_) (Reference26Ideal.Value.run (F := Ideal) m' g')
    obtain ⟨h0, h1, h2, h3, hr⟩ := h c
    obtain ⟨a0, a1, a2, a3⟩ := hagree c
    rw [a0] at h0 h1 h2 h3
    rw [a1, a2, a3] at h1
    rw [a2] at h2
    rw [a3] at h3
    exact ⟨h0.trans (AdamFfnOut.final4 m c).symm, h1.trans (AdamFfnOut.final5 m c).symm, h2.trans (AdamFfnOut.final6 m c).symm,
      h3.trans (AdamFfnOut.final7 m c).symm, hr⟩

/-! ## The sum of the devices' gradients of a feed-forward's input weight and the optimiser's step -/

theorem frame_ref27 : quiescent_Reference27Ideal := fun m g _ =>
  (θ_run _ _ _).mono (fun r h => ⟨fun c => (h c).2.2.2.2, sem_eq_zero_of_no_sems (by decide) r.2⟩)
    (Reference27Ideal.Value.run m g)

theorem value27 : algebraic_Kernel27Ideal_Reference27Ideal := by
  pair_intro
  · run_from Kernel27Ideal.Value.run_blocks m g
  · refine (θ_run _ _ _).mono (fun r h c => ?_) (Reference27Ideal.Value.run (F := Ideal) m' g')
    obtain ⟨h0, h1, h2, h3, hr⟩ := h c
    obtain ⟨a0, a1, a2, a3⟩ := hagree c
    rw [a0] at h0 h1 h2 h3
    rw [a1, a2, a3] at h1
    rw [a2] at h2
    rw [a3] at h3
    exact ⟨h0.trans (AdamFfnIn.final4 m c).symm, h1.trans (AdamFfnIn.final5 m c).symm, h2.trans (AdamFfnIn.final6 m c).symm,
      h3.trans (AdamFfnIn.final7 m c).symm, hr⟩

/-! ## The sum of the devices' gradients of the combined input projection's weight and the optimiser's step -/

theorem frame_ref28 : quiescent_Reference28Ideal := fun m g _ =>
  (θ_run _ _ _).mono (fun r h => ⟨fun c => (h c).2.2.2.2, sem_eq_zero_of_no_sems (by decide) r.2⟩)
    (Reference28Ideal.Value.run m g)

theorem value28 : algebraic_Kernel28Ideal_Reference28Ideal := by
  pair_intro
  · run_from Kernel28Ideal.Value.run_blocks m g
  · refine (θ_run _ _ _).mono (fun r h c => ?_) (Reference28Ideal.Value.run (F := Ideal) m' g')
    obtain ⟨h0, h1, h2, h3, hr⟩ := h c
    obtain ⟨a0, a1, a2, a3⟩ := hagree c
    rw [a0] at h0 h1 h2 h3
    rw [a1, a2, a3] at h1
    rw [a2] at h2
    rw [a3] at h3
    exact ⟨h0.trans (AdamIn.final4 m c).symm, h1.trans (AdamIn.final5 m c).symm, h2.trans (AdamIn.final6 m c).symm,
      h3.trans (AdamIn.final7 m c).symm, hr⟩

/-! ## The sum of the devices' gradients of the output projection's weight and the optimiser's step -/

theorem frame_ref29 : quiescent_Reference29Ideal := fun m g _ =>
  (θ_run _ _ _).mono (fun r h => ⟨fun c => (h c).2.2.2.2, sem_eq_zero_of_no_sems (by decide) r.2⟩)
    (Reference29Ideal.Value.run m g)

theorem value29 : algebraic_Kernel29Ideal_Reference29Ideal := by
  pair_intro
  · run_from Kernel29Ideal.Value.run_blocks m g
  · refine (θ_run _ _ _).mono (fun r h c => ?_) (Reference29Ideal.Value.run (F := Ideal) m' g')
    obtain ⟨h0, h1, h2, h3, hr⟩ := h c
    obtain ⟨a0, a1, a2, a3⟩ := hagree c
    rw [a0] at h0 h1 h2 h3
    rw [a1, a2, a3] at h1
    rw [a2] at h2
    rw [a3] at h3
    exact ⟨h0.trans (AdamOut.final4 m c).symm, h1.trans (AdamOut.final5 m c).symm, h2.trans (AdamOut.final6 m c).symm,
      h3.trans (AdamOut.final7 m c).symm, hr⟩

/-! ## The claim -/

theorem claim : Claim := ⟨
  Kernel.Gen.facts, KernelIdeal.Gen.facts, ReferenceIdeal.Gen.facts, Kernel2.Gen.facts,
  Kernel2Ideal.Gen.facts, Reference2Ideal.Gen.facts, Kernel3.Gen.facts, Kernel3Ideal.Gen.facts,
  Reference3Ideal.Gen.facts, Kernel4.Gen.facts, Kernel4Ideal.Gen.facts,
  Reference4Ideal.Gen.facts, Kernel5.Gen.facts, Kernel5Ideal.Gen.facts,
  Reference5Ideal.Gen.facts, Kernel6.Gen.facts, Kernel6Ideal.Gen.facts,
  Reference6Ideal.Gen.facts, Kernel7.Gen.facts, Kernel7Ideal.Gen.facts,
  Reference7Ideal.Gen.facts, Kernel8.Gen.facts, Kernel8Ideal.Gen.facts,
  Reference8Ideal.Gen.facts, Kernel9.Gen.facts, Kernel9Ideal.Gen.facts,
  Reference9Ideal.Gen.facts, Kernel10.Gen.facts, Kernel10Ideal.Gen.facts,
  Reference10Ideal.Gen.facts, Kernel12.Gen.facts, Kernel12Ideal.Gen.facts,
  Reference12Ideal.Gen.facts, Kernel11.Gen.facts, Kernel11Ideal.Gen.facts,
  Reference11Ideal.Gen.facts, Kernel13.Gen.facts, Kernel13Ideal.Gen.facts,
  Reference13Ideal.Gen.facts, Kernel14.Gen.facts, Kernel14Ideal.Gen.facts,
  Reference14Ideal.Gen.facts, Kernel15.Gen.facts, Kernel15Ideal.Gen.facts,
  Reference15Ideal.Gen.facts, Kernel18.Gen.facts, Kernel18Ideal.Gen.facts,
  Reference18Ideal.Gen.facts, Kernel19.Gen.facts, Kernel19Ideal.Gen.facts,
  Reference19Ideal.Gen.facts, Kernel20.Gen.facts, Kernel20Ideal.Gen.facts,
  Reference20Ideal.Gen.facts, Kernel21.Gen.facts, Kernel21Ideal.Gen.facts,
  Reference21Ideal.Gen.facts, Kernel22.Gen.facts, Kernel22Ideal.Gen.facts,
  Reference22Ideal.Gen.facts, Kernel23.Gen.facts, Kernel23Ideal.Gen.facts,
  Reference23Ideal.Gen.facts, Kernel24.Gen.facts, Kernel24Ideal.Gen.facts,
  Reference24Ideal.Gen.facts, Kernel17.Gen.facts, Kernel17Ideal.Gen.facts,
  Reference17Ideal.Gen.facts, Kernel25.Gen.facts, Kernel25Ideal.Gen.facts,
  Reference25Ideal.Gen.facts, Kernel26.Gen.facts, Kernel26Ideal.Gen.facts,
  Reference26Ideal.Gen.facts, Kernel27.Gen.facts, Kernel27Ideal.Gen.facts,
  Reference27Ideal.Gen.facts, Kernel28.Gen.facts, Kernel28Ideal.Gen.facts,
  Reference28Ideal.Gen.facts, Kernel29.Gen.facts, Kernel29Ideal.Gen.facts,
  Reference29Ideal.Gen.facts, finite_facts, finite_ln_facts, finite_conv_facts, finite_shift_facts,
  finite_loss_facts, finite_post_facts, finite_postb_facts, fun m ρ _ => Kernel.Gen.frame m ρ,
  fun m ρ _ => KernelIdeal.Gen.frame m ρ, fun m ρ _ => KernelIdeal.Gen.frame m ρ, frame_ref1,
  fun m ρ _ => frame_ref1 m ρ trivial, fun m ρ _ => Kernel2.Gen.frame m ρ,
  fun m ρ _ => Kernel2Ideal.Gen.frame m ρ, frame_ref2, fun m ρ _ => Kernel3.Gen.frame m ρ,
  fun m ρ _ => Kernel3Ideal.Gen.frame m ρ, frame_ref3, fun m ρ _ => Kernel4.Gen.frame m ρ,
  fun m ρ _ => Kernel4Ideal.Gen.frame m ρ, frame_ref4, fun m ρ _ => Kernel5.Gen.frame m ρ,
  fun m ρ _ => Kernel5Ideal.Gen.frame m ρ, frame_ref5, fun m ρ _ => Kernel6.Gen.frame m ρ,
  fun m ρ _ => Kernel6Ideal.Gen.frame m ρ, frame_ref6, fun m ρ _ => Kernel7.Gen.frame m ρ,
  fun m ρ _ => Kernel7Ideal.Gen.frame m ρ, frame_ref7, fun m ρ _ => Kernel8.Gen.frame m ρ,
  fun m ρ _ => Kernel8Ideal.Gen.frame m ρ, frame_ref8, fun m ρ _ => Kernel9.Gen.frame m ρ,
  fun m ρ _ => Kernel9Ideal.Gen.frame m ρ, frame_ref9, fun m ρ _ => Kernel10.Gen.frame m ρ,
  fun m ρ _ => Kernel10Ideal.Gen.frame m ρ, fun m ρ _ => Kernel10Ideal.Gen.frame m ρ, frame_ref10,
  fun m ρ _ => frame_ref10 m ρ trivial, fun m ρ _ => Kernel12.Gen.frame m ρ,
  fun m ρ _ => Kernel12Ideal.Gen.frame m ρ, frame_ref12, fun m ρ _ => Kernel11.Gen.frame m ρ,
  fun m ρ _ => Kernel11Ideal.Gen.frame m ρ, frame_ref11, fun m ρ _ => Kernel13.Gen.frame m ρ,
  fun m ρ _ => Kernel13Ideal.Gen.frame m ρ, fun m ρ _ => Kernel13Ideal.Gen.frame m ρ, frame_ref13,
  fun m ρ _ => frame_ref13 m ρ trivial, fun m ρ _ => Kernel14.Gen.frame m ρ,
  fun m ρ _ => Kernel14Ideal.Gen.frame m ρ, frame_ref14, fun m ρ _ => Kernel15.Gen.frame m ρ,
  fun m ρ _ => Kernel15Ideal.Gen.frame m ρ, fun m ρ _ => Kernel15Ideal.Gen.frame m ρ, frame_ref15,
  fun m ρ _ => frame_ref15 m ρ trivial, fun m ρ _ => Kernel18.Gen.frame m ρ,
  fun m ρ _ => Kernel18Ideal.Gen.frame m ρ, fun m ρ _ => Kernel18Ideal.Gen.frame m ρ, frame_ref18,
  fun m ρ _ => frame_ref18 m ρ trivial, fun m ρ _ => Kernel19.Gen.frame m ρ,
  fun m ρ _ => Kernel19Ideal.Gen.frame m ρ, frame_ref19, fun m ρ _ => Kernel20.Gen.frame m ρ,
  fun m ρ _ => Kernel20Ideal.Gen.frame m ρ, frame_ref20, fun m ρ _ => Kernel21.Gen.frame m ρ,
  fun m ρ _ => Kernel21Ideal.Gen.frame m ρ, frame_ref21, fun m ρ _ => Kernel22.Gen.frame m ρ,
  fun m ρ _ => Kernel22Ideal.Gen.frame m ρ, frame_ref22, fun m ρ _ => Kernel23.Gen.frame m ρ,
  fun m ρ _ => Kernel23Ideal.Gen.frame m ρ, frame_ref23, fun m ρ _ => Kernel24.Gen.frame m ρ,
  fun m ρ _ => Kernel24Ideal.Gen.frame m ρ, frame_ref24, fun m ρ _ => Kernel17.Gen.frame m ρ,
  fun m ρ _ => Kernel17Ideal.Gen.frame m ρ, fun m ρ _ => Kernel17Ideal.Gen.frame m ρ, frame_ref17,
  fun m ρ _ => frame_ref17 m ρ trivial, fun m ρ _ => Kernel25.Gen.frame m ρ,
  fun m ρ _ => Kernel25Ideal.Gen.frame m ρ, fun m ρ _ => Kernel25Ideal.Gen.frame m ρ, frame_ref25,
  fun m ρ _ => frame_ref25 m ρ trivial, fun m ρ _ => Kernel26.Gen.frame m ρ,
  fun m ρ _ => Kernel26Ideal.Gen.frame m ρ, frame_ref26, fun m ρ _ => Kernel27.Gen.frame m ρ,
  fun m ρ _ => Kernel27Ideal.Gen.frame m ρ, frame_ref27, fun m ρ _ => Kernel28.Gen.frame m ρ,
  fun m ρ _ => Kernel28Ideal.Gen.frame m ρ, frame_ref28, fun m ρ _ => Kernel29.Gen.frame m ρ,
  fun m ρ _ => Kernel29Ideal.Gen.frame m ρ, frame_ref29, trivial, value1, trivial, value2, trivial, value3,
  trivial, value4, trivial, value5, trivial, value6, trivial, value7, trivial, value8, trivial, value9, trivial,
  value10, trivial, value12, trivial, value11, trivial, value13, trivial, value14, trivial, value15, trivial,
  value18, trivial, value19, trivial, value20, trivial, value21, trivial, value22, trivial, value23, trivial,
  value24, trivial, value17, trivial, value25, trivial, value26, trivial, value27, trivial, value28, trivial,
  value29⟩

end Cert.Proof

end
